-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34_0) = v0 c
          ∧ r.2.mem ((c.tc : Thread Cert.ReferenceIdeal.nD Cert.ReferenceIdeal.τ).loc Cert.ReferenceIdeal.main_v34_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x10240 : Shape := ⟨3, ![2, 1, 10240]⟩
abbrev S2x1x10x128 : Shape := ⟨4, ![2, 1, 10, 128]⟩
abbrev S2x65536x10x128 : Shape := ⟨4, ![2, 65536, 10, 128]⟩
abbrev S2x10x128 : Shape := ⟨3, ![2, 10, 128]⟩
abbrev S2 : Shape := ⟨1, ![2]⟩
abbrev S2x10x65536x128 : Shape := ⟨4, ![2, 10, 65536, 128]⟩
abbrev S20x65536x128 : Shape := ⟨3, ![20, 65536, 128]⟩
abbrev S10x2x128 : Shape := ⟨3, ![10, 2, 128]⟩
abbrev S2x10240 : Shape := ⟨2, ![2, 10240]⟩
abbrev S160x128 : Shape := ⟨2, ![160, 128]⟩
abbrev S20x8x128 : Shape := ⟨3, ![20, 8, 128]⟩
abbrev S2x128 : Shape := ⟨2, ![2, 128]⟩
abbrev S12x4096x128 : Shape := ⟨3, ![12, 4096, 128]⟩
abbrev S32x8x2048 : Shape := ⟨3, ![32, 8, 2048]⟩
abbrev S12 : Shape := ⟨1, ![12]⟩
abbrev S1 : Shape := ⟨1, ![1]⟩
abbrev S_ : Shape := ⟨0, ![]⟩
abbrev S1x128 : Shape := ⟨2, ![1, 128]⟩
abbrev S8x128 : Shape := ⟨2, ![8, 128]⟩
abbrev S1x8x128 : Shape := ⟨3, ![1, 8, 128]⟩
abbrev S8x2048 : Shape := ⟨2, ![8, 2048]⟩
abbrev S32x128 : Shape := ⟨2, ![32, 128]⟩
abbrev S1x32x128 : Shape := ⟨3, ![1, 32, 128]⟩
abbrev S1x2048x128 : Shape := ⟨3, ![1, 2048, 128]⟩
abbrev S2048x128 : Shape := ⟨2, ![2048, 128]⟩
abbrev S8x256 : Shape := ⟨2, ![8, 256]⟩
abbrev S16x256 : Shape := ⟨2, ![16, 256]⟩
abbrev S1024x128 : Shape := ⟨2, ![1024, 128]⟩
abbrev S1024x256 : Shape := ⟨2, ![1024, 256]⟩
abbrev S16x1024 : Shape := ⟨2, ![16, 1024]⟩
abbrev S8x1024 : Shape := ⟨2, ![8, 1024]⟩
abbrev S1x8x2048 : Shape := ⟨3, ![1, 8, 2048]⟩
abbrev S1x2x128 : Shape := ⟨3, ![1, 2, 128]⟩
abbrev S8 : Shape := ⟨1, ![8]⟩
abbrev S8x1 : Shape := ⟨2, ![8, 1]⟩
abbrev S8x512 : Shape := ⟨2, ![8, 512]⟩
abbrev S32x512 : Shape := ⟨2, ![32, 512]⟩
abbrev S512x128 : Shape := ⟨2, ![512, 128]⟩
abbrev S512x256 : Shape := ⟨2, ![512, 256]⟩
abbrev S32x256 : Shape := ⟨2, ![32, 256]⟩
abbrev S10x8x128 : Shape := ⟨3, ![10, 8, 128]⟩
abbrev S80x128 : Shape := ⟨2, ![80, 128]⟩
abbrev S128 : Shape := ⟨1, ![128]⟩
abbrev S1x1 : Shape := ⟨2, ![1, 1]⟩
abbrev S1x256 : Shape := ⟨2, ![1, 256]⟩

abbrev nBuf : Space → Nat
  | .hbm => 21
  | .vmem => 13
  | .smem => 1
  | _ => 0

abbrev bufTy : (tb : Table) → Fin (tcTables nBuf tb) → BufTy
  | .hbm, ⟨0, _⟩ => ⟨S2x1x10240, .bf16⟩
  | .hbm, ⟨1, _⟩ => ⟨S2x1x10x128, .bf16⟩
  | .hbm, ⟨2, _⟩ => ⟨S2x1x10x128, .bf16⟩
  | .hbm, ⟨3, _⟩ => ⟨S2x65536x10x128, .bf16⟩
  | .hbm, ⟨4, _⟩ => ⟨S2x65536x10x128, .fp8e4m3⟩
  | .hbm, ⟨5, _⟩ => ⟨S2x10x128, .f32⟩
  | .hbm, ⟨6, _⟩ => ⟨S2, .i32⟩
  | .hbm, ⟨7, _⟩ => ⟨S2x10x65536x128, .bf16⟩
  | .hbm, ⟨8, _⟩ => ⟨S20x65536x128, .bf16⟩
  | .hbm, ⟨9, _⟩ => ⟨S2x10x65536x128, .fp8e4m3⟩
  | .hbm, ⟨10, _⟩ => ⟨S20x65536x128, .fp8e4m3⟩
  | .hbm, ⟨11, _⟩ => ⟨S2x10x128, .bf16⟩
  | .hbm, ⟨12, _⟩ => ⟨S10x2x128, .bf16⟩
  | .hbm, ⟨13, _⟩ => ⟨S2x10x128, .bf16⟩
  | .hbm, ⟨14, _⟩ => ⟨S10x2x128, .bf16⟩
  | .hbm, ⟨15, _⟩ => ⟨S10x2x128, .f32⟩
  | .hbm, ⟨16, _⟩ => ⟨S2x10240, .bf16⟩
  | .hbm, ⟨17, _⟩ => ⟨S160x128, .bf16⟩
  | .hbm, ⟨18, _⟩ => ⟨S20x8x128, .f32⟩
  | .hbm, ⟨19, _⟩ => ⟨S160x128, .fp8e4m3⟩
  | .hbm, ⟨20, _⟩ => ⟨S2x128, .f32⟩
  | .local _ .vmem, ⟨0, _⟩ => ⟨S2x10240, .bf16⟩
  | .local _ .vmem, ⟨1, _⟩ => ⟨S10x2x128, .bf16⟩
  | .local _ .vmem, ⟨2, _⟩ => ⟨S10x2x128, .bf16⟩
  | .local _ .vmem, ⟨3, _⟩ => ⟨S10x2x128, .f32⟩
  | .local _ .vmem, ⟨4, _⟩ => ⟨S160x128, .bf16⟩
  | .local _ .vmem, ⟨5, _⟩ => ⟨S20x8x128, .f32⟩
  | .local _ .vmem, ⟨6, _⟩ => ⟨S160x128, .fp8e4m3⟩
  | .local _ .vmem, ⟨7, _⟩ => ⟨S2x128, .f32⟩
  | .local _ .vmem, ⟨8, _⟩ => ⟨S12x4096x128, .bf16⟩
  | .local _ .vmem, ⟨9, _⟩ => ⟨S12x4096x128, .fp8e4m3⟩
  | .local _ .vmem, ⟨10, _⟩ => ⟨S32x8x2048, .f32⟩
  | .local _ .vmem, ⟨11, _⟩ => ⟨S20x8x128, .bf16⟩
  | .local _ .vmem, ⟨12, _⟩ => ⟨S20x8x128, .f32⟩
  | .local _ .smem, ⟨0, _⟩ => ⟨S2, .i32⟩
  | _, _ => ⟨S2x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c12_i32 : BitVec 32 := 12#32
  let v0 : BitVec 32 := Scalar.addi c0_i32_1 c12_i32
  let c1_i32 : BitVec 32 := 1#32
  ⟨c0_i32_1, v0, c1_i32⟩
def k0_off1 (arg19 : BitVec 32) : Fin 1 → Nat :=
  let c0_i32_359 : BitVec 32 := 0#32
  let v730 : BitVec 1 := Scalar.cmpi .sgt arg19 c0_i32_359
  let v731 : BitVec 32 := Scalar.extui v730
  let c0_i32_360 : BitVec 32 := 0#32
  let v732 : BitVec 1 := Scalar.cmpi .slt arg19 c0_i32_360
  let v733 : BitVec 32 := Scalar.extui v732
  let v734 : BitVec 32 := Scalar.subi v731 v733
  let c10_i32_358 : BitVec 32 := 10#32
  let c0_i32_361 : BitVec 32 := 0#32
  let v735 : BitVec 1 := Scalar.cmpi .sgt c10_i32_358 c0_i32_361
  let v736 : BitVec 32 := Scalar.extui v735
  let c0_i32_362 : BitVec 32 := 0#32
  let v737 : BitVec 1 := Scalar.cmpi .slt c10_i32_358 c0_i32_362
  let v738 : BitVec 32 := Scalar.extui v737
  let v739 : BitVec 32 := Scalar.subi v736 v738
  let v740 : BitVec 1 := Scalar.cmpi .ne v734 v739
  let v741 : BitVec 32 := Scalar.remsi arg19 c10_i32_358
  let c0_i32_363 : BitVec 32 := 0#32
  let v742 : BitVec 1 := Scalar.cmpi .ne v741 c0_i32_363
  let v743 : BitVec 1 := Scalar.andi v740 v742
  let v729 : BitVec 32 := Scalar.divsi arg19 c10_i32_358
  let c1_i32_364 : BitVec 32 := 1#32
  let v744 : BitVec 32 := Scalar.subi v729 c1_i32_364
  let v745 : BitVec 32 := Scalar.select v743 v744 v729
  let v746 : Index := Scalar.indexCast v745
  ![v746.toNat]
def k0_cond1 (arg19 : BitVec 32) : BitVec 1 :=
  let c20_i32_344 : BitVec 32 := 20#32
  let v695 : BitVec 1 := Scalar.cmpi .slt arg19 c20_i32_344
  let v696 : BitVec 32 := Scalar.extui v695
  let c0_i32_345 : BitVec 32 := 0#32
  let v697 : BitVec 1 := Scalar.cmpi .ne v696 c0_i32_345
  v697

def k0_mult1 (arg20 : BitVec 32) (v747 : BitVec 32) : BitVec 32 :=
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  v756

def k0_mult2 (arg20 : BitVec 32) : BitVec 32 :=
  let c4096_i32_371 : BitVec 32 := 4096#32
  let v758 : BitVec 32 := Scalar.muli arg20 c4096_i32_371
  v758

def k0_chk3 (arg19 : BitVec 32) (arg20 : BitVec 32) : Prop :=
  (∀ (k0_h1 : k0_cond1 arg19 = 1#1), 4096 ∣ (k0_mult2 arg20).toNat)
theorem k0_mult2_dvd : ∀ (arg19 : BitVec 32) (arg20 : BitVec 32) (k0_hw3 : k0_chk3 arg19 arg20), ∀ (k0_h1 : k0_cond1 arg19 = 1#1), 4096 ∣ (k0_mult2 arg20).toNat := fun arg19 arg20 k0_hw3 k0_h1 => k0_hw3 k0_h1

def k0_off2 (k0_t1 : Fin k0_t1_loop.trips) : Fin 1 → Nat :=
  let c0_i32_1 : BitVec 32 := 0#32
  let c1_i32 : BitVec 32 := 1#32
  let arg18 : BitVec 32 := Scf.iv c0_i32_1 c1_i32 k0_t1
  ![arg18.toNat]
def k0_off3 (k0_t1 : Fin k0_t1_loop.trips) (arg20 : BitVec 32) (v747 : BitVec 32) : (Fin 3 → Nat) × (Fin 3 → Nat) :=
  let c0_i32_1 : BitVec 32 := 0#32
  let c1_i32 : BitVec 32 := 1#32
  let arg18 : BitVec 32 := Scf.iv c0_i32_1 c1_i32 k0_t1
  let c0_i32_372 : BitVec 32 := 0#32
  let c0_i32_373 : BitVec 32 := 0#32
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ⟨![arg18.toNat, 0, 0], ![1, v757.toNat, 128]⟩
def k0_sz1 (arg20 : BitVec 32) (v747 : BitVec 32) : Fin 2 → Nat :=
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ![v757.toNat, 128]
def k0_off4 (arg19 : BitVec 32) (arg20 : BitVec 32) (v747 : BitVec 32) : (Fin 3 → Nat) × (Fin 3 → Nat) :=
  let c4096_i32_371 : BitVec 32 := 4096#32
  let v758 : BitVec 32 := Scalar.muli arg20 c4096_i32_371
  let v759 : BitVec 32 := v758
  let c0_i32_374 : BitVec 32 := 0#32
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ⟨![arg19.toNat, v759.toNat, 0], ![1, v757.toNat, 128]⟩
def k0_sz2 (arg20 : BitVec 32) (v747 : BitVec 32) : Fin 2 → Nat :=
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ![v757.toNat, 128]

def k0_chk2 (k0_t1 : Fin k0_t1_loop.trips) (arg19 : BitVec 32) (arg20 : BitVec 32) (v747 : BitVec 32) : Prop :=
  (∀ (k0_h1 : k0_cond1 arg19 = 1#1), 32 ∣ (k0_mult1 arg20 v747).toNat) ∧
  (∀ (k0_h1 : k0_cond1 arg19 = 1#1), ∀ a, (k0_off3 k0_t1 arg20 v747).2 a = 0 ∨ (k0_off3 k0_t1 arg20 v747).1 a + (k0_off3 k0_t1 arg20 v747).2 a ≤ S12x4096x128.size a) ∧
  (∀ (k0_h1 : k0_cond1 arg19 = 1#1), (⟨3, (k0_off3 k0_t1 arg20 v747).2⟩ : Shape).Squeezes ⟨2, k0_sz1 arg20 v747⟩) ∧
  (∀ (k0_h1 : k0_cond1 arg19 = 1#1), ∀ a, (k0_off4 arg19 arg20 v747).2 a = 0 ∨ (k0_off4 arg19 arg20 v747).1 a + (k0_off4 arg19 arg20 v747).2 a ≤ S20x65536x128.size a) ∧
  (∀ (k0_h1 : k0_cond1 arg19 = 1#1), (⟨3, (k0_off4 arg19 arg20 v747).2⟩ : Shape).Squeezes ⟨2, k0_sz2 arg20 v747⟩) ∧
  (∀ (k0_h1 : k0_cond1 arg19 = 1#1), ∀ (hinb : ∀ a, (k0_off4 arg19 arg20 v747).2 a = 0 ∨ (k0_off4 arg19 arg20 v747).1 a + (k0_off4 arg19 arg20 v747).2 a ≤ S20x65536x128.size a), (Rect.unitDyn (s := S20x65536x128) (k0_off4 arg19 arg20 v747).1 (k0_off4 arg19 arg20 v747).2 hinb).WholeWords (EltTy.packing .bf16)) ∧
  (∀ (k0_h1 : k0_cond1 arg19 = 1#1), ∀ (hinb : ∀ a, (k0_off3 k0_t1 arg20 v747).2 a = 0 ∨ (k0_off3 k0_t1 arg20 v747).1 a + (k0_off3 k0_t1 arg20 v747).2 a ≤ S12x4096x128.size a), (Rect.unitDyn (s := S12x4096x128) (k0_off3 k0_t1 arg20 v747).1 (k0_off3 k0_t1 arg20 v747).2 hinb).WholeWords (EltTy.packing .bf16))
theorem k0_mult1_dvd : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), 32 ∣ (k0_mult1 arg20 v747).toNat := fun k0_t1 arg19 arg20 v747 k0_hw2 k0_h1 => k0_hw2.1 k0_h1
theorem k0_off3_inb : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), ∀ a, (k0_off3 k0_t1 arg20 v747).2 a = 0 ∨ (k0_off3 k0_t1 arg20 v747).1 a + (k0_off3 k0_t1 arg20 v747).2 a ≤ S12x4096x128.size a := fun k0_t1 arg19 arg20 v747 k0_hw2 k0_h1 => k0_hw2.2.1 k0_h1
theorem k0_sz1_squeezes : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), (⟨3, (k0_off3 k0_t1 arg20 v747).2⟩ : Shape).Squeezes ⟨2, k0_sz1 arg20 v747⟩ := fun k0_t1 arg19 arg20 v747 k0_hw2 k0_h1 => k0_hw2.2.2.1 k0_h1
theorem k0_off4_inb : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), ∀ a, (k0_off4 arg19 arg20 v747).2 a = 0 ∨ (k0_off4 arg19 arg20 v747).1 a + (k0_off4 arg19 arg20 v747).2 a ≤ S20x65536x128.size a := fun k0_t1 arg19 arg20 v747 k0_hw2 k0_h1 => k0_hw2.2.2.2.1 k0_h1
theorem k0_sz2_squeezes : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), (⟨3, (k0_off4 arg19 arg20 v747).2⟩ : Shape).Squeezes ⟨2, k0_sz2 arg20 v747⟩ := fun k0_t1 arg19 arg20 v747 k0_hw2 k0_h1 => k0_hw2.2.2.2.2.1 k0_h1
theorem k0_off4_wordsbf16 : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), (Rect.unitDyn (s := S20x65536x128) (k0_off4 arg19 arg20 v747).1 (k0_off4 arg19 arg20 v747).2 (k0_off4_inb k0_t1 arg19 arg20 v747 k0_hw2 k0_h1)).WholeWords (EltTy.packing .bf16) := fun k0_t1 arg19 arg20 v747 k0_hw2 k0_h1 => k0_hw2.2.2.2.2.2.1 k0_h1 (k0_off4_inb k0_t1 arg19 arg20 v747 k0_hw2 k0_h1)
theorem k0_off3_wordsbf16 : ∀ (k0_t1 : Fin k0_t1_loop.trips) (arg19 : BitVec 32) (arg20 : BitVec 32) (v747 : BitVec 32) (k0_hw2 : k0_chk2 k0_t1 arg19 arg20 v747), ∀ (k0_h1 : k0_cond1 arg19 = 1#1), (Rect.unitDyn (s := S12x4096x128) (k0_off3 k0_t1 arg20 v747).1 (k0_off3 k0_t1 arg20 v747).2 (k0_off3_inb k0_t1 arg19 arg20 v747 k0_hw2 k0_h1)).WholeWords (EltTy.packing .bf16) := fun k0_t1 arg19 arg20 v747 k0_hw2 k0_h1 => k0_hw2.2.2.2.2.2.2 k0_h1 (k0_off3_inb k0_t1 arg19 arg20 v747 k0_hw2 k0_h1)

def k0_off5 (arg19 : BitVec 32) : Fin 1 → Nat :=
  let c19_i32 : BitVec 32 := 19#32
  let v699 : BitVec 32 := Scalar.minsi arg19 c19_i32
  let c0_i32_347 : BitVec 32 := 0#32
  let v701 : BitVec 1 := Scalar.cmpi .sgt v699 c0_i32_347
  let v702 : BitVec 32 := Scalar.extui v701
  let c0_i32_348 : BitVec 32 := 0#32
  let v703 : BitVec 1 := Scalar.cmpi .slt v699 c0_i32_348
  let v704 : BitVec 32 := Scalar.extui v703
  let v705 : BitVec 32 := Scalar.subi v702 v704
  let c10_i32 : BitVec 32 := 10#32
  let c0_i32_349 : BitVec 32 := 0#32
  let v706 : BitVec 1 := Scalar.cmpi .sgt c10_i32 c0_i32_349
  let v707 : BitVec 32 := Scalar.extui v706
  let c0_i32_350 : BitVec 32 := 0#32
  let v708 : BitVec 1 := Scalar.cmpi .slt c10_i32 c0_i32_350
  let v709 : BitVec 32 := Scalar.extui v708
  let v710 : BitVec 32 := Scalar.subi v707 v709
  let v711 : BitVec 1 := Scalar.cmpi .ne v705 v710
  let v712 : BitVec 32 := Scalar.remsi v699 c10_i32
  let c0_i32_351 : BitVec 32 := 0#32
  let v713 : BitVec 1 := Scalar.cmpi .ne v712 c0_i32_351
  let v714 : BitVec 1 := Scalar.andi v711 v713
  let v700 : BitVec 32 := Scalar.divsi v699 c10_i32
  let c1_i32_352 : BitVec 32 := 1#32
  let v715 : BitVec 32 := Scalar.subi v700 c1_i32_352
  let v716 : BitVec 32 := Scalar.select v714 v715 v700
  let v717 : Index := Scalar.indexCast v716
  ![v717.toNat]

def k0_chk1 (arg19 : BitVec 32) : Prop :=
  (∀ (k0_h1 : k0_cond1 arg19 = 1#1), ∀ a, (k0_off1 arg19) a + S1.size a ≤ S2.size a) ∧
  (∀ a, (k0_off5 arg19) a + S1.size a ≤ S2.size a)
theorem k0_off1_inb : ∀ (arg19 : BitVec 32) (k0_hw1 : k0_chk1 arg19), ∀ (k0_h1 : k0_cond1 arg19 = 1#1), ∀ a, (k0_off1 arg19) a + S1.size a ≤ S2.size a := fun arg19 k0_hw1 k0_h1 => k0_hw1.1 k0_h1
theorem k0_off5_inb : ∀ (arg19 : BitVec 32) (k0_hw1 : k0_chk1 arg19), ∀ a, (k0_off5 arg19) a + S1.size a ≤ S2.size a := fun arg19 k0_hw1 => k0_hw1.2

@[reducible] def k0_t2_loop : Scf.Loop 32 :=
  let c0_i32_5 : BitVec 32 := 0#32
  let c12_i32_6 : BitVec 32 := 12#32
  let v2 : BitVec 32 := Scalar.addi c0_i32_5 c12_i32_6
  let c1_i32_7 : BitVec 32 := 1#32
  ⟨c0_i32_5, v2, c1_i32_7⟩
def k0_off6 (arg19 : BitVec 32) : Fin 1 → Nat :=
  let c0_i32_359 : BitVec 32 := 0#32
  let v730 : BitVec 1 := Scalar.cmpi .sgt arg19 c0_i32_359
  let v731 : BitVec 32 := Scalar.extui v730
  let c0_i32_360 : BitVec 32 := 0#32
  let v732 : BitVec 1 := Scalar.cmpi .slt arg19 c0_i32_360
  let v733 : BitVec 32 := Scalar.extui v732
  let v734 : BitVec 32 := Scalar.subi v731 v733
  let c10_i32_358 : BitVec 32 := 10#32
  let c0_i32_361 : BitVec 32 := 0#32
  let v735 : BitVec 1 := Scalar.cmpi .sgt c10_i32_358 c0_i32_361
  let v736 : BitVec 32 := Scalar.extui v735
  let c0_i32_362 : BitVec 32 := 0#32
  let v737 : BitVec 1 := Scalar.cmpi .slt c10_i32_358 c0_i32_362
  let v738 : BitVec 32 := Scalar.extui v737
  let v739 : BitVec 32 := Scalar.subi v736 v738
  let v740 : BitVec 1 := Scalar.cmpi .ne v734 v739
  let v741 : BitVec 32 := Scalar.remsi arg19 c10_i32_358
  let c0_i32_363 : BitVec 32 := 0#32
  let v742 : BitVec 1 := Scalar.cmpi .ne v741 c0_i32_363
  let v743 : BitVec 1 := Scalar.andi v740 v742
  let v729 : BitVec 32 := Scalar.divsi arg19 c10_i32_358
  let c1_i32_364 : BitVec 32 := 1#32
  let v744 : BitVec 32 := Scalar.subi v729 c1_i32_364
  let v745 : BitVec 32 := Scalar.select v743 v744 v729
  let v746 : Index := Scalar.indexCast v745
  ![v746.toNat]
def k0_cond2 (arg19 : BitVec 32) : BitVec 1 :=
  let c20_i32_344 : BitVec 32 := 20#32
  let v695 : BitVec 1 := Scalar.cmpi .slt arg19 c20_i32_344
  let v696 : BitVec 32 := Scalar.extui v695
  let c0_i32_345 : BitVec 32 := 0#32
  let v697 : BitVec 1 := Scalar.cmpi .ne v696 c0_i32_345
  v697

def k0_mult3 (arg20 : BitVec 32) (v747 : BitVec 32) : BitVec 32 :=
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  v756

def k0_mult4 (arg20 : BitVec 32) : BitVec 32 :=
  let c4096_i32_371 : BitVec 32 := 4096#32
  let v758 : BitVec 32 := Scalar.muli arg20 c4096_i32_371
  v758

def k0_chk6 (arg19 : BitVec 32) (arg20 : BitVec 32) : Prop :=
  (∀ (k0_h2 : k0_cond2 arg19 = 1#1), 4096 ∣ (k0_mult4 arg20).toNat)
theorem k0_mult4_dvd : ∀ (arg19 : BitVec 32) (arg20 : BitVec 32) (k0_hw6 : k0_chk6 arg19 arg20), ∀ (k0_h2 : k0_cond2 arg19 = 1#1), 4096 ∣ (k0_mult4 arg20).toNat := fun arg19 arg20 k0_hw6 k0_h2 => k0_hw6 k0_h2

def k0_off7 (k0_t2 : Fin k0_t2_loop.trips) : Fin 1 → Nat :=
  let c0_i32_5 : BitVec 32 := 0#32
  let c1_i32_7 : BitVec 32 := 1#32
  let arg18 : BitVec 32 := Scf.iv c0_i32_5 c1_i32_7 k0_t2
  ![arg18.toNat]
def k0_off8 (k0_t2 : Fin k0_t2_loop.trips) (arg20 : BitVec 32) (v747 : BitVec 32) : (Fin 3 → Nat) × (Fin 3 → Nat) :=
  let c0_i32_5 : BitVec 32 := 0#32
  let c1_i32_7 : BitVec 32 := 1#32
  let arg18 : BitVec 32 := Scf.iv c0_i32_5 c1_i32_7 k0_t2
  let c0_i32_372 : BitVec 32 := 0#32
  let c0_i32_373 : BitVec 32 := 0#32
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ⟨![arg18.toNat, 0, 0], ![1, v757.toNat, 128]⟩
def k0_sz3 (arg20 : BitVec 32) (v747 : BitVec 32) : Fin 2 → Nat :=
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ![v757.toNat, 128]
def k0_off9 (arg19 : BitVec 32) (arg20 : BitVec 32) (v747 : BitVec 32) : (Fin 3 → Nat) × (Fin 3 → Nat) :=
  let c4096_i32_371 : BitVec 32 := 4096#32
  let v758 : BitVec 32 := Scalar.muli arg20 c4096_i32_371
  let v759 : BitVec 32 := v758
  let c0_i32_374 : BitVec 32 := 0#32
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ⟨![arg19.toNat, v759.toNat, 0], ![1, v757.toNat, 128]⟩
def k0_sz4 (arg20 : BitVec 32) (v747 : BitVec 32) : Fin 2 → Nat :=
  let c4096_i32_370 : BitVec 32 := 4096#32
  let c32_i32_369 : BitVec 32 := 32#32
  let c65536_i32_366 : BitVec 32 := 65536#32
  let c0_i32_365 : BitVec 32 := 0#32
  let v748 : BitVec 32 := Scalar.maxsi c0_i32_365 v747
  let v749 : BitVec 32 := Scalar.minsi c65536_i32_366 v748
  let c4096_i32_367 : BitVec 32 := 4096#32
  let v750 : BitVec 32 := Scalar.muli arg20 c4096_i32_367
  let v751 : BitVec 32 := Scalar.subi v749 v750
  let c31_i32 : BitVec 32 := 31#32
  let v752 : BitVec 32 := Scalar.addi v751 c31_i32
  let c32_i32 : BitVec 32 := 32#32
  let v753 : BitVec 32 := Scalar.divsi v752 c32_i32
  let c32_i32_368 : BitVec 32 := 32#32
  let v754 : BitVec 32 := Scalar.muli v753 c32_i32_368
  let v755 : BitVec 32 := Scalar.maxsi c32_i32_369 v754
  let v756 : BitVec 32 := Scalar.minsi c4096_i32_370 v755
  let v757 : BitVec 32 := v756
  ![v757.toNat, 128]

def k0_chk5 (k0_t2 : Fin k0_t2_loop.trips) (arg19 : BitVec 32) (arg20 : BitVec 32) (v747 : BitVec 32) : Prop :=
  (∀ (k0_h2 : k0_cond2 arg19 = 1#1), 32 ∣ (k0_mult3 arg20 v747).toNat) ∧
  (∀ (k0_h2 : k0_cond2 arg19 = 1#1), ∀ a, (k0_off8 k0_t2 arg20 v747).2 a = 0 ∨ (k0_off8 k0_t2 arg20 v747).1 a + (k0_off8 k0_t2 arg20 v747).2 a ≤ S12x4096x128.size a) ∧
  (∀ (k0_h2 : k0_cond2 arg19 = 1#1), (⟨3, (k0_off8 k0_t2 arg20 v747).2⟩ : Shape).Squeezes ⟨2, k0_sz3 arg20 v747⟩) ∧
  (∀ (k0_h2 : k0_cond2 arg19 = 1#1), ∀ a, (k0_off9 arg19 arg20 v747).2 a = 0 ∨ (k0_off9 arg19 arg20 v747).1 a + (k0_off9 arg19 arg20 v747).2 a ≤ S20x65536x128.size a) ∧
  (∀ (k0_h2 : k0_cond2 arg19 = 1#1), (⟨3, (k0_off9 arg19 arg20 v747).2⟩ : Shape).Squeezes ⟨2, k0_sz4 arg20 v747⟩) ∧
  (∀ (k0_h2 : k0_cond2 arg19 = 1#1), ∀ (hinb : ∀ a, (k0_off9 arg19 arg20 v747).2 a = 0 ∨ (k0_off9 arg19 arg20 v747).1 a + (k0_off9 arg19 arg20 v747).2 a ≤ S20x65536x128.size a), (Rect.unitDyn (s := S20x65536x128) (k0_off9 arg19 arg20 v747).1 (k0_off9 arg19 arg20 v747).2 hinb).WholeWords (EltTy.packing .fp8e4m3)) ∧
  (∀ (k0_h2 : k0_cond2 arg19 = 1#1), ∀ (hinb : ∀ a, (k0_off8 k0_t2 arg20 v747).2 a = 0 ∨ (k0_off8 k0_t2 arg20 v747).1 a + (k0_off8 k0_t2 arg20 v747).2 a ≤ S12x4096x128.size a), (Rect.unitDyn (s := S12x4096x128) (k0_off8 k0_t2 arg20 v747).1 (k0_off8 k0_t2 arg20 v747).2 hinb).WholeWords (EltTy.packing .fp8e4m3))
theorem k0_mult3_dvd : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), 32 ∣ (k0_mult3 arg20 v747).toNat := fun k0_t2 arg19 arg20 v747 k0_hw5 k0_h2 => k0_hw5.1 k0_h2
theorem k0_off8_inb : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), ∀ a, (k0_off8 k0_t2 arg20 v747).2 a = 0 ∨ (k0_off8 k0_t2 arg20 v747).1 a + (k0_off8 k0_t2 arg20 v747).2 a ≤ S12x4096x128.size a := fun k0_t2 arg19 arg20 v747 k0_hw5 k0_h2 => k0_hw5.2.1 k0_h2
theorem k0_sz3_squeezes : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), (⟨3, (k0_off8 k0_t2 arg20 v747).2⟩ : Shape).Squeezes ⟨2, k0_sz3 arg20 v747⟩ := fun k0_t2 arg19 arg20 v747 k0_hw5 k0_h2 => k0_hw5.2.2.1 k0_h2
theorem k0_off9_inb : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), ∀ a, (k0_off9 arg19 arg20 v747).2 a = 0 ∨ (k0_off9 arg19 arg20 v747).1 a + (k0_off9 arg19 arg20 v747).2 a ≤ S20x65536x128.size a := fun k0_t2 arg19 arg20 v747 k0_hw5 k0_h2 => k0_hw5.2.2.2.1 k0_h2
theorem k0_sz4_squeezes : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), (⟨3, (k0_off9 arg19 arg20 v747).2⟩ : Shape).Squeezes ⟨2, k0_sz4 arg20 v747⟩ := fun k0_t2 arg19 arg20 v747 k0_hw5 k0_h2 => k0_hw5.2.2.2.2.1 k0_h2
theorem k0_off9_wordsfp8e4m3 : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), (Rect.unitDyn (s := S20x65536x128) (k0_off9 arg19 arg20 v747).1 (k0_off9 arg19 arg20 v747).2 (k0_off9_inb k0_t2 arg19 arg20 v747 k0_hw5 k0_h2)).WholeWords (EltTy.packing .fp8e4m3) := fun k0_t2 arg19 arg20 v747 k0_hw5 k0_h2 => k0_hw5.2.2.2.2.2.1 k0_h2 (k0_off9_inb k0_t2 arg19 arg20 v747 k0_hw5 k0_h2)
theorem k0_off8_wordsfp8e4m3 : ∀ (k0_t2 : Fin k0_t2_loop.trips) (arg19 : BitVec 32) (arg20 : BitVec 32) (v747 : BitVec 32) (k0_hw5 : k0_chk5 k0_t2 arg19 arg20 v747), ∀ (k0_h2 : k0_cond2 arg19 = 1#1), (Rect.unitDyn (s := S12x4096x128) (k0_off8 k0_t2 arg20 v747).1 (k0_off8 k0_t2 arg20 v747).2 (k0_off8_inb k0_t2 arg19 arg20 v747 k0_hw5 k0_h2)).WholeWords (EltTy.packing .fp8e4m3) := fun k0_t2 arg19 arg20 v747 k0_hw5 k0_h2 => k0_hw5.2.2.2.2.2.2 k0_h2 (k0_off8_inb k0_t2 arg19 arg20 v747 k0_hw5 k0_h2)

def k0_off10 (arg19 : BitVec 32) : Fin 1 → Nat :=
  let c19_i32 : BitVec 32 := 19#32
  let v699 : BitVec 32 := Scalar.minsi arg19 c19_i32
  let c0_i32_347 : BitVec 32 := 0#32
  let v701 : BitVec 1 := Scalar.cmpi .sgt v699 c0_i32_347
  let v702 : BitVec 32 := Scalar.extui v701
  let c0_i32_348 : BitVec 32 := 0#32
  let v703 : BitVec 1 := Scalar.cmpi .slt v699 c0_i32_348
  let v704 : BitVec 32 := Scalar.extui v703
  let v705 : BitVec 32 := Scalar.subi v702 v704
  let c10_i32 : BitVec 32 := 10#32
  let c0_i32_349 : BitVec 32 := 0#32
  let v706 : BitVec 1 := Scalar.cmpi .sgt c10_i32 c0_i32_349
  let v707 : BitVec 32 := Scalar.extui v706
  let c0_i32_350 : BitVec 32 := 0#32
  let v708 : BitVec 1 := Scalar.cmpi .slt c10_i32 c0_i32_350
  let v709 : BitVec 32 := Scalar.extui v708
  let v710 : BitVec 32 := Scalar.subi v707 v709
  let v711 : BitVec 1 := Scalar.cmpi .ne v705 v710
  let v712 : BitVec 32 := Scalar.remsi v699 c10_i32
  let c0_i32_351 : BitVec 32 := 0#32
  let v713 : BitVec 1 := Scalar.cmpi .ne v712 c0_i32_351
  let v714 : BitVec 1 := Scalar.andi v711 v713
  let v700 : BitVec 32 := Scalar.divsi v699 c10_i32
  let c1_i32_352 : BitVec 32 := 1#32
  let v715 : BitVec 32 := Scalar.subi v700 c1_i32_352
  let v716 : BitVec 32 := Scalar.select v714 v715 v700
  let v717 : Index := Scalar.indexCast v716
  ![v717.toNat]

def k0_chk4 (arg19 : BitVec 32) : Prop :=
  (∀ (k0_h2 : k0_cond2 arg19 = 1#1), ∀ a, (k0_off6 arg19) a + S1.size a ≤ S2.size a) ∧
  (∀ a, (k0_off10 arg19) a + S1.size a ≤ S2.size a)
theorem k0_off6_inb : ∀ (arg19 : BitVec 32) (k0_hw4 : k0_chk4 arg19), ∀ (k0_h2 : k0_cond2 arg19 = 1#1), ∀ a, (k0_off6 arg19) a + S1.size a ≤ S2.size a := fun arg19 k0_hw4 k0_h2 => k0_hw4.1 k0_h2
theorem k0_off10_inb : ∀ (arg19 : BitVec 32) (k0_hw4 : k0_chk4 arg19), ∀ a, (k0_off10 arg19) a + S1.size a ≤ S2.size a := fun arg19 k0_hw4 => k0_hw4.2

@[reducible] def k0_t3_loop : Scf.Loop 32 :=
  let c0_i32_292 : BitVec 32 := 0#32
  let c20_i32 : BitVec 32 := 20#32
  let v585 : BitVec 32 := Scalar.addi c0_i32_292 c20_i32
  let c1_i32_293 : BitVec 32 := 1#32
  ⟨c0_i32_292, v585, c1_i32_293⟩
def k0_off11 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_352 : BitVec 32 := 0#32
  let v715 : BitVec 1 := Scalar.cmpi .sgt arg18 c0_i32_352
  let v716 : BitVec 32 := Scalar.extui v715
  let c0_i32_353 : BitVec 32 := 0#32
  let v717 : BitVec 1 := Scalar.cmpi .slt arg18 c0_i32_353
  let v718 : BitVec 32 := Scalar.extui v717
  let v719 : BitVec 32 := Scalar.subi v716 v718
  let c10_i32_351 : BitVec 32 := 10#32
  let c0_i32_354 : BitVec 32 := 0#32
  let v720 : BitVec 1 := Scalar.cmpi .sgt c10_i32_351 c0_i32_354
  let v721 : BitVec 32 := Scalar.extui v720
  let c0_i32_355 : BitVec 32 := 0#32
  let v722 : BitVec 1 := Scalar.cmpi .slt c10_i32_351 c0_i32_355
  let v723 : BitVec 32 := Scalar.extui v722
  let v724 : BitVec 32 := Scalar.subi v721 v723
  let v725 : BitVec 1 := Scalar.cmpi .ne v719 v724
  let v726 : BitVec 32 := Scalar.remsi arg18 c10_i32_351
  let c0_i32_356 : BitVec 32 := 0#32
  let v727 : BitVec 1 := Scalar.cmpi .ne v726 c0_i32_356
  let v728 : BitVec 1 := Scalar.andi v725 v727
  let v714 : BitVec 32 := Scalar.divsi arg18 c10_i32_351
  let c1_i32_357 : BitVec 32 := 1#32
  let v729 : BitVec 32 := Scalar.subi v714 c1_i32_357
  let v730 : BitVec 32 := Scalar.select v728 v729 v714
  let v731 : Index := Scalar.indexCast v730
  ![v731.toNat]
def k0_off12 (k0_t3 : Fin k0_t3_loop.trips) : Fin 3 → Nat :=
  let c0_i32_292 : BitVec 32 := 0#32
  let c1_i32_293 : BitVec 32 := 1#32
  let arg18 : BitVec 32 := Scf.iv c0_i32_292 c1_i32_293 k0_t3
  let v759 : Index := Scalar.indexCast arg18
  let c0_369 : Index := 0#32
  let c0_370 : Index := 0#32
  ![v759.toNat, 0, 0]
@[reducible] def k0_t4_loop (v753 : BitVec 32) : Scf.Loop 32 :=
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_374 : BitVec 32 := 1#32
  ⟨c0_i32_372, v767, c1_i32_374⟩

def k0_off13 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_400 : BitVec 32 := 0#32
  let v837 : BitVec 1 := Scalar.cmpi .sgt arg18 c0_i32_400
  let v838 : BitVec 32 := Scalar.extui v837
  let c0_i32_401 : BitVec 32 := 0#32
  let v839 : BitVec 1 := Scalar.cmpi .slt arg18 c0_i32_401
  let v840 : BitVec 32 := Scalar.extui v839
  let v841 : BitVec 32 := Scalar.subi v838 v840
  let c10_i32_399 : BitVec 32 := 10#32
  let c0_i32_402 : BitVec 32 := 0#32
  let v842 : BitVec 1 := Scalar.cmpi .sgt c10_i32_399 c0_i32_402
  let v843 : BitVec 32 := Scalar.extui v842
  let c0_i32_403 : BitVec 32 := 0#32
  let v844 : BitVec 1 := Scalar.cmpi .slt c10_i32_399 c0_i32_403
  let v845 : BitVec 32 := Scalar.extui v844
  let v846 : BitVec 32 := Scalar.subi v843 v845
  let v847 : BitVec 1 := Scalar.cmpi .ne v841 v846
  let v848 : BitVec 32 := Scalar.remsi arg18 c10_i32_399
  let c0_i32_404 : BitVec 32 := 0#32
  let v849 : BitVec 1 := Scalar.cmpi .ne v848 c0_i32_404
  let v850 : BitVec 1 := Scalar.andi v847 v849
  let v836 : BitVec 32 := Scalar.divsi arg18 c10_i32_399
  let c1_i32_405 : BitVec 32 := 1#32
  let v851 : BitVec 32 := Scalar.subi v836 c1_i32_405
  let v852 : BitVec 32 := Scalar.select v850 v851 v836
  let v853 : Index := Scalar.indexCast v852
  ![v853.toNat]
def k0_mult5 (v753 : BitVec 32) (k0_t4 : Fin (k0_t4_loop v753).trips) (v854 : BitVec 32) : BitVec 32 :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c1_i32_374 : BitVec 32 := 1#32
  let arg25 : BitVec 32 := Scf.iv c0_i32_372 c1_i32_374 k0_t4
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  v863

def k0_mult6 (v753 : BitVec 32) (k0_t4 : Fin (k0_t4_loop v753).trips) : BitVec 32 :=
  let c0_i32_372 : BitVec 32 := 0#32
  let c1_i32_374 : BitVec 32 := 1#32
  let arg25 : BitVec 32 := Scf.iv c0_i32_372 c1_i32_374 k0_t4
  let c4096_i32_412 : BitVec 32 := 4096#32
  let v865 : BitVec 32 := Scalar.muli arg25 c4096_i32_412
  v865
def k0_off14 (arg27 : BitVec 32) : Fin 1 → Nat :=
  ![arg27.toNat]

def k0_chk9 (arg27 : BitVec 32) : Prop :=
  (∀ a, (k0_off14 arg27) a + S1.size a ≤ S12.size a)
theorem k0_off14_inb : ∀ (arg27 : BitVec 32) (k0_hw9 : k0_chk9 arg27), ∀ a, (k0_off14 arg27) a + S1.size a ≤ S12.size a := fun arg27 k0_hw9 => k0_hw9

def k0_off15 (v753 : BitVec 32) (k0_t4 : Fin (k0_t4_loop v753).trips) (arg27 : BitVec 32) (v854 : BitVec 32) : (Fin 3 → Nat) × (Fin 3 → Nat) :=
  let c0_i32_413 : BitVec 32 := 0#32
  let c0_i32_414 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c1_i32_374 : BitVec 32 := 1#32
  let arg25 : BitVec 32 := Scf.iv c0_i32_372 c1_i32_374 k0_t4
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg27.toNat, 0, 0], ![1, v864.toNat, 128]⟩

def k0_sz5 (v753 : BitVec 32) (k0_t4 : Fin (k0_t4_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c1_i32_374 : BitVec 32 := 1#32
  let arg25 : BitVec 32 := Scf.iv c0_i32_372 c1_i32_374 k0_t4
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]
def k0_off16 (k0_t3 : Fin k0_t3_loop.trips) (v753 : BitVec 32) (k0_t4 : Fin (k0_t4_loop v753).trips) (v854 : BitVec 32) : (Fin 3 → Nat) × (Fin 3 → Nat) :=
  let c0_i32_292 : BitVec 32 := 0#32
  let c1_i32_293 : BitVec 32 := 1#32
  let arg18 : BitVec 32 := Scf.iv c0_i32_292 c1_i32_293 k0_t3
  let c0_i32_372 : BitVec 32 := 0#32
  let c1_i32_374 : BitVec 32 := 1#32
  let arg25 : BitVec 32 := Scf.iv c0_i32_372 c1_i32_374 k0_t4
  let c4096_i32_412 : BitVec 32 := 4096#32
  let v865 : BitVec 32 := Scalar.muli arg25 c4096_i32_412
  let v866 : BitVec 32 := v865
  let c0_i32_415 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg18.toNat, v866.toNat, 0], ![1, v864.toNat, 128]⟩

def k0_sz6 (v753 : BitVec 32) (k0_t4 : Fin (k0_t4_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c1_i32_374 : BitVec 32 := 1#32
  let arg25 : BitVec 32 := Scf.iv c0_i32_372 c1_i32_374 k0_t4
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]

def k0_chk8 (k0_t3 : Fin k0_t3_loop.trips) (v753 : BitVec 32) (k0_t4 : Fin (k0_t4_loop v753).trips) (arg27 : BitVec 32) (v854 : BitVec 32) : Prop :=
  (32 ∣ (k0_mult5 v753 k0_t4 v854).toNat) ∧
  ((⟨3, (k0_off15 v753 k0_t4 arg27 v854).2⟩ : Shape).Squeezes ⟨2, k0_sz5 v753 k0_t4 v854⟩) ∧
  ((⟨3, (k0_off16 k0_t3 v753 k0_t4 v854).2⟩ : Shape).Squeezes ⟨2, k0_sz6 v753 k0_t4 v854⟩)
theorem k0_mult5_dvd : ∀ (k0_t3 : Fin k0_t3_loop.trips) (v753 : BitVec 32) (k0_t4 : Fin (k0_t4_loop v753).trips) (arg27 : BitVec 32) (v854 : BitVec 32) (k0_hw8 : k0_chk8 k0_t3 v753 k0_t4 arg27 v854), 32 ∣ (k0_mult5 v753 k0_t4 v854).toNat := fun k0_t3 v753 k0_t4 arg27 v854 k0_hw8 => k0_hw8.1
theorem k0_sz5_squeezes : ∀ (k0_t3 : Fin k0_t3_loop.trips) (v753 : BitVec 32) (k0_t4 : Fin (k0_t4_loop v753).trips) (arg27 : BitVec 32) (v854 : BitVec 32) (k0_hw8 : k0_chk8 k0_t3 v753 k0_t4 arg27 v854), (⟨3, (k0_off15 v753 k0_t4 arg27 v854).2⟩ : Shape).Squeezes ⟨2, k0_sz5 v753 k0_t4 v854⟩ := fun k0_t3 v753 k0_t4 arg27 v854 k0_hw8 => k0_hw8.2.1
theorem k0_sz6_squeezes : ∀ (k0_t3 : Fin k0_t3_loop.trips) (v753 : BitVec 32) (k0_t4 : Fin (k0_t4_loop v753).trips) (arg27 : BitVec 32) (v854 : BitVec 32) (k0_hw8 : k0_chk8 k0_t3 v753 k0_t4 arg27 v854), (⟨3, (k0_off16 k0_t3 v753 k0_t4 v854).2⟩ : Shape).Squeezes ⟨2, k0_sz6 v753 k0_t4 v854⟩ := fun k0_t3 v753 k0_t4 arg27 v854 k0_hw8 => k0_hw8.2.2

def k0_off17 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_417 : BitVec 32 := 0#32
  let v874 : BitVec 1 := Scalar.cmpi .sgt arg18 c0_i32_417
  let v875 : BitVec 32 := Scalar.extui v874
  let c0_i32_418 : BitVec 32 := 0#32
  let v876 : BitVec 1 := Scalar.cmpi .slt arg18 c0_i32_418
  let v877 : BitVec 32 := Scalar.extui v876
  let v878 : BitVec 32 := Scalar.subi v875 v877
  let c10_i32_416 : BitVec 32 := 10#32
  let c0_i32_419 : BitVec 32 := 0#32
  let v879 : BitVec 1 := Scalar.cmpi .sgt c10_i32_416 c0_i32_419
  let v880 : BitVec 32 := Scalar.extui v879
  let c0_i32_420 : BitVec 32 := 0#32
  let v881 : BitVec 1 := Scalar.cmpi .slt c10_i32_416 c0_i32_420
  let v882 : BitVec 32 := Scalar.extui v881
  let v883 : BitVec 32 := Scalar.subi v880 v882
  let v884 : BitVec 1 := Scalar.cmpi .ne v878 v883
  let v885 : BitVec 32 := Scalar.remsi arg18 c10_i32_416
  let c0_i32_421 : BitVec 32 := 0#32
  let v886 : BitVec 1 := Scalar.cmpi .ne v885 c0_i32_421
  let v887 : BitVec 1 := Scalar.andi v884 v886
  let v873 : BitVec 32 := Scalar.divsi arg18 c10_i32_416
  let c1_i32_422 : BitVec 32 := 1#32
  let v888 : BitVec 32 := Scalar.subi v873 c1_i32_422
  let v889 : BitVec 32 := Scalar.select v887 v888 v873
  let v890 : Index := Scalar.indexCast v889
  ![v890.toNat]
def k0_mult7 (v753 : BitVec 32) (k0_t4 : Fin (k0_t4_loop v753).trips) (v891 : BitVec 32) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  v900

def k0_chk10 (v753 : BitVec 32) (k0_t4 : Fin (k0_t4_loop v753).trips) (v891 : BitVec 32) : Prop :=
  (32 ∣ (k0_mult7 v753 k0_t4 v891).toNat)
theorem k0_mult7_dvd : ∀ (v753 : BitVec 32) (k0_t4 : Fin (k0_t4_loop v753).trips) (v891 : BitVec 32) (k0_hw10 : k0_chk10 v753 k0_t4 v891), 32 ∣ (k0_mult7 v753 k0_t4 v891).toNat := fun v753 k0_t4 v891 k0_hw10 => k0_hw10

def k0_off18 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_432 : BitVec 32 := 0#32
  let v903 : BitVec 1 := Scalar.cmpi .sgt arg18 c0_i32_432
  let v904 : BitVec 32 := Scalar.extui v903
  let c0_i32_433 : BitVec 32 := 0#32
  let v905 : BitVec 1 := Scalar.cmpi .slt arg18 c0_i32_433
  let v906 : BitVec 32 := Scalar.extui v905
  let v907 : BitVec 32 := Scalar.subi v904 v906
  let c10_i32_431 : BitVec 32 := 10#32
  let c0_i32_434 : BitVec 32 := 0#32
  let v908 : BitVec 1 := Scalar.cmpi .sgt c10_i32_431 c0_i32_434
  let v909 : BitVec 32 := Scalar.extui v908
  let c0_i32_435 : BitVec 32 := 0#32
  let v910 : BitVec 1 := Scalar.cmpi .slt c10_i32_431 c0_i32_435
  let v911 : BitVec 32 := Scalar.extui v910
  let v912 : BitVec 32 := Scalar.subi v909 v911
  let v913 : BitVec 1 := Scalar.cmpi .ne v907 v912
  let v914 : BitVec 32 := Scalar.remsi arg18 c10_i32_431
  let c0_i32_436 : BitVec 32 := 0#32
  let v915 : BitVec 1 := Scalar.cmpi .ne v914 c0_i32_436
  let v916 : BitVec 1 := Scalar.andi v913 v915
  let v902 : BitVec 32 := Scalar.divsi arg18 c10_i32_431
  let c1_i32_437 : BitVec 32 := 1#32
  let v917 : BitVec 32 := Scalar.subi v902 c1_i32_437
  let v918 : BitVec 32 := Scalar.select v916 v917 v902
  let v919 : Index := Scalar.indexCast v918
  ![v919.toNat]
def k0_mult8 (v753 : BitVec 32) (k0_t4 : Fin (k0_t4_loop v753).trips) (v891 : BitVec 32) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c32_i32_484 : BitVec 32 := 32#32
  let v1004 : BitVec 32 := Scalar.subi v901 c32_i32_484
  v1004
def k0_cond3 (v753 : BitVec 32) (k0_t4 : Fin (k0_t4_loop v753).trips) (v920 : BitVec 32) : BitVec 1 :=
  let c65536_i32_439 : BitVec 32 := 65536#32
  let c0_i32_438 : BitVec 32 := 0#32
  let v921 : BitVec 32 := Scalar.maxsi c0_i32_438 v920
  let v922 : BitVec 32 := Scalar.minsi c65536_i32_439 v921
  let c0_i32_372 : BitVec 32 := 0#32
  let c1_i32_374 : BitVec 32 := 1#32
  let arg25 : BitVec 32 := Scf.iv c0_i32_372 c1_i32_374 k0_t4
  let c4096_i32_440 : BitVec 32 := 4096#32
  let v923 : BitVec 32 := Scalar.muli arg25 c4096_i32_440
  let v924 : BitVec 32 := Scalar.subi v922 v923
  let c4096_i32_441 : BitVec 32 := 4096#32
  let v925 : BitVec 1 := Scalar.cmpi .slt v924 c4096_i32_441
  let v926 : BitVec 32 := Scalar.extui v925
  let c0_i32_442 : BitVec 32 := 0#32
  let v927 : BitVec 1 := Scalar.cmpi .ne v926 c0_i32_442
  v927

def k0_off19 (v753 : BitVec 32) (k0_t4 : Fin (k0_t4_loop v753).trips) (arg27 : BitVec 32) (v891 : BitVec 32) : Fin 3 → Nat :=
  let v1007 : Index := Scalar.indexCast arg27
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c32_i32_484 : BitVec 32 := 32#32
  let v1004 : BitVec 32 := Scalar.subi v901 c32_i32_484
  let v1005 : BitVec 32 := v1004
  let v1008 : Index := Scalar.indexCast v1005
  let c0_485 : Index := 0#32
  ![v1007.toNat, v1008.toNat, 0]
@[reducible] def k0_t5_loop (v753 : BitVec 32) (k0_t4 : Fin (k0_t4_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let c1_i32_500 : BitVec 32 := 1#32
  ⟨v1043, v1048, c1_i32_500⟩
def k0_mult9 (v753 : BitVec 32) (k0_t4 : Fin (k0_t4_loop v753).trips) (v891 : BitVec 32) (k0_t5 : Fin (k0_t5_loop v753 k0_t4 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c1_i32_500 : BitVec 32 := 1#32
  let arg30 : BitVec 32 := Scf.iv v1043 c1_i32_500 k0_t5
  let c32_i32_502 : BitVec 32 := 32#32
  let v1049 : BitVec 32 := Scalar.muli arg30 c32_i32_502
  v1049
def k0_off20 (v753 : BitVec 32) (k0_t4 : Fin (k0_t4_loop v753).trips) (arg27 : BitVec 32) (v891 : BitVec 32) (k0_t5 : Fin (k0_t5_loop v753 k0_t4 v891).trips) : Fin 3 → Nat :=
  let v1052 : Index := Scalar.indexCast arg27
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c1_i32_500 : BitVec 32 := 1#32
  let arg30 : BitVec 32 := Scf.iv v1043 c1_i32_500 k0_t5
  let c32_i32_502 : BitVec 32 := 32#32
  let v1049 : BitVec 32 := Scalar.muli arg30 c32_i32_502
  let v1050 : BitVec 32 := v1049
  let v1053 : Index := Scalar.indexCast v1050
  let c0_504 : Index := 0#32
  ![v1052.toNat, v1053.toNat, 0]
@[reducible] def k0_t6_loop (v753 : BitVec 32) (k0_t4 : Fin (k0_t4_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let v1045 : BitVec 32 := Scalar.addi v1043 v1044
  let c1_i32_501 : BitVec 32 := 1#32
  ⟨v1048, v1045, c1_i32_501⟩
def k0_mult10 (v753 : BitVec 32) (k0_t4 : Fin (k0_t4_loop v753).trips) (v891 : BitVec 32) (k0_t6 : Fin (k0_t6_loop v753 k0_t4 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let c1_i32_501 : BitVec 32 := 1#32
  let arg30 : BitVec 32 := Scf.iv v1048 c1_i32_501 k0_t6
  let c32_i32_502 : BitVec 32 := 32#32
  let v1049 : BitVec 32 := Scalar.muli arg30 c32_i32_502
  v1049
def k0_off21 (v753 : BitVec 32) (k0_t4 : Fin (k0_t4_loop v753).trips) (arg27 : BitVec 32) (v891 : BitVec 32) (k0_t6 : Fin (k0_t6_loop v753 k0_t4 v891).trips) : Fin 3 → Nat :=
  let v1052 : Index := Scalar.indexCast arg27
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c1_i32_374 : BitVec 32 := 1#32
  let arg25 : BitVec 32 := Scf.iv c0_i32_372 c1_i32_374 k0_t4
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let c1_i32_501 : BitVec 32 := 1#32
  let arg30 : BitVec 32 := Scf.iv v1048 c1_i32_501 k0_t6
  let c32_i32_502 : BitVec 32 := 32#32
  let v1049 : BitVec 32 := Scalar.muli arg30 c32_i32_502
  let v1050 : BitVec 32 := v1049
  let v1053 : Index := Scalar.indexCast v1050
  let c0_504 : Index := 0#32
  ![v1052.toNat, v1053.toNat, 0]

def k0_chk11 (v753 : BitVec 32) (k0_t4 : Fin (k0_t4_loop v753).trips) (arg27 : BitVec 32) (v891 : BitVec 32) (v920 : BitVec 32) : Prop :=
  (∀ (k0_h3 : k0_cond3 v753 k0_t4 v920 = 1#1), 32 ∣ (k0_mult8 v753 k0_t4 v891).toNat) ∧
  (∀ (k0_h3 : k0_cond3 v753 k0_t4 v920 = 1#1), ∀ a, (k0_off19 v753 k0_t4 arg27 v891) a + S1x32x128.size a ≤ S12x4096x128.size a) ∧
  (∀ (k0_h3 : k0_cond3 v753 k0_t4 v920 = 1#1), ∀ (hinb : ∀ a, (k0_off19 v753 k0_t4 arg27 v891) a + S1x32x128.size a ≤ S12x4096x128.size a), (Rect.unit (s := S12x4096x128) (k0_off19 v753 k0_t4 arg27 v891) S1x32x128.size hinb).PackedRows (EltTy.packing .bf16)) ∧
  (∀ (k0_h3 : k0_cond3 v753 k0_t4 v920 = 1#1), (k0_t5_loop v753 k0_t4 v891).OK) ∧
  (∀ k0_t5 : Fin (k0_t5_loop v753 k0_t4 v891).trips, ∀ (k0_h3 : k0_cond3 v753 k0_t4 v920 = 1#1), 32 ∣ (k0_mult9 v753 k0_t4 v891 k0_t5).toNat) ∧
  (∀ k0_t5 : Fin (k0_t5_loop v753 k0_t4 v891).trips, ∀ (k0_h3 : k0_cond3 v753 k0_t4 v920 = 1#1), ∀ a, (k0_off20 v753 k0_t4 arg27 v891 k0_t5) a + S1x32x128.size a ≤ S12x4096x128.size a) ∧
  (∀ k0_t5 : Fin (k0_t5_loop v753 k0_t4 v891).trips, ∀ (k0_h3 : k0_cond3 v753 k0_t4 v920 = 1#1), ∀ (hinb : ∀ a, (k0_off20 v753 k0_t4 arg27 v891 k0_t5) a + S1x32x128.size a ≤ S12x4096x128.size a), (Rect.unit (s := S12x4096x128) (k0_off20 v753 k0_t4 arg27 v891 k0_t5) S1x32x128.size hinb).PackedRows (EltTy.packing .bf16)) ∧
  (∀ (k0_h3 : k0_cond3 v753 k0_t4 v920 = 1#1), (k0_t6_loop v753 k0_t4 v891).OK) ∧
  (∀ k0_t6 : Fin (k0_t6_loop v753 k0_t4 v891).trips, ∀ (k0_h3 : k0_cond3 v753 k0_t4 v920 = 1#1), 32 ∣ (k0_mult10 v753 k0_t4 v891 k0_t6).toNat) ∧
  (∀ k0_t6 : Fin (k0_t6_loop v753 k0_t4 v891).trips, ∀ (k0_h3 : k0_cond3 v753 k0_t4 v920 = 1#1), ∀ a, (k0_off21 v753 k0_t4 arg27 v891 k0_t6) a + S1x32x128.size a ≤ S12x4096x128.size a) ∧
  (∀ k0_t6 : Fin (k0_t6_loop v753 k0_t4 v891).trips, ∀ (k0_h3 : k0_cond3 v753 k0_t4 v920 = 1#1), ∀ (hinb : ∀ a, (k0_off21 v753 k0_t4 arg27 v891 k0_t6) a + S1x32x128.size a ≤ S12x4096x128.size a), (Rect.unit (s := S12x4096x128) (k0_off21 v753 k0_t4 arg27 v891 k0_t6) S1x32x128.size hinb).PackedRows (EltTy.packing .bf16))
theorem k0_mult8_dvd : ∀ (v753 : BitVec 32) (k0_t4 : Fin (k0_t4_loop v753).trips) (arg27 : BitVec 32) (v891 : BitVec 32) (v920 : BitVec 32) (k0_hw11 : k0_chk11 v753 k0_t4 arg27 v891 v920), ∀ (k0_h3 : k0_cond3 v753 k0_t4 v920 = 1#1), 32 ∣ (k0_mult8 v753 k0_t4 v891).toNat := fun v753 k0_t4 arg27 v891 v920 k0_hw11 k0_h3 => k0_hw11.1 k0_h3
theorem k0_off19_inb : ∀ (v753 : BitVec 32) (k0_t4 : Fin (k0_t4_loop v753).trips) (arg27 : BitVec 32) (v891 : BitVec 32) (v920 : BitVec 32) (k0_hw11 : k0_chk11 v753 k0_t4 arg27 v891 v920), ∀ (k0_h3 : k0_cond3 v753 k0_t4 v920 = 1#1), ∀ a, (k0_off19 v753 k0_t4 arg27 v891) a + S1x32x128.size a ≤ S12x4096x128.size a := fun v753 k0_t4 arg27 v891 v920 k0_hw11 k0_h3 => k0_hw11.2.1 k0_h3
theorem k0_off19_packedbf16 : ∀ (v753 : BitVec 32) (k0_t4 : Fin (k0_t4_loop v753).trips) (arg27 : BitVec 32) (v891 : BitVec 32) (v920 : BitVec 32) (k0_hw11 : k0_chk11 v753 k0_t4 arg27 v891 v920), ∀ (k0_h3 : k0_cond3 v753 k0_t4 v920 = 1#1), (Rect.unit (s := S12x4096x128) (k0_off19 v753 k0_t4 arg27 v891) S1x32x128.size (k0_off19_inb v753 k0_t4 arg27 v891 v920 k0_hw11 k0_h3)).PackedRows (EltTy.packing .bf16) := fun v753 k0_t4 arg27 v891 v920 k0_hw11 k0_h3 => k0_hw11.2.2.1 k0_h3 (k0_off19_inb v753 k0_t4 arg27 v891 v920 k0_hw11 k0_h3)
theorem k0_t5_ok : ∀ (v753 : BitVec 32) (k0_t4 : Fin (k0_t4_loop v753).trips) (arg27 : BitVec 32) (v891 : BitVec 32) (v920 : BitVec 32) (k0_hw11 : k0_chk11 v753 k0_t4 arg27 v891 v920), ∀ (k0_h3 : k0_cond3 v753 k0_t4 v920 = 1#1), (k0_t5_loop v753 k0_t4 v891).OK := fun v753 k0_t4 arg27 v891 v920 k0_hw11 k0_h3 => k0_hw11.2.2.2.1 k0_h3
theorem k0_mult9_dvd : ∀ (v753 : BitVec 32) (k0_t4 : Fin (k0_t4_loop v753).trips) (arg27 : BitVec 32) (v891 : BitVec 32) (v920 : BitVec 32) (k0_hw11 : k0_chk11 v753 k0_t4 arg27 v891 v920) (k0_t5 : Fin (k0_t5_loop v753 k0_t4 v891).trips), ∀ (k0_h3 : k0_cond3 v753 k0_t4 v920 = 1#1), 32 ∣ (k0_mult9 v753 k0_t4 v891 k0_t5).toNat := fun v753 k0_t4 arg27 v891 v920 k0_hw11 k0_t5 k0_h3 => k0_hw11.2.2.2.2.1 k0_t5 k0_h3
theorem k0_off20_inb : ∀ (v753 : BitVec 32) (k0_t4 : Fin (k0_t4_loop v753).trips) (arg27 : BitVec 32) (v891 : BitVec 32) (v920 : BitVec 32) (k0_hw11 : k0_chk11 v753 k0_t4 arg27 v891 v920) (k0_t5 : Fin (k0_t5_loop v753 k0_t4 v891).trips), ∀ (k0_h3 : k0_cond3 v753 k0_t4 v920 = 1#1), ∀ a, (k0_off20 v753 k0_t4 arg27 v891 k0_t5) a + S1x32x128.size a ≤ S12x4096x128.size a := fun v753 k0_t4 arg27 v891 v920 k0_hw11 k0_t5 k0_h3 => k0_hw11.2.2.2.2.2.1 k0_t5 k0_h3
theorem k0_off20_packedbf16 : ∀ (v753 : BitVec 32) (k0_t4 : Fin (k0_t4_loop v753).trips) (arg27 : BitVec 32) (v891 : BitVec 32) (v920 : BitVec 32) (k0_hw11 : k0_chk11 v753 k0_t4 arg27 v891 v920) (k0_t5 : Fin (k0_t5_loop v753 k0_t4 v891).trips), ∀ (k0_h3 : k0_cond3 v753 k0_t4 v920 = 1#1), (Rect.unit (s := S12x4096x128) (k0_off20 v753 k0_t4 arg27 v891 k0_t5) S1x32x128.size (k0_off20_inb v753 k0_t4 arg27 v891 v920 k0_hw11 k0_t5 k0_h3)).PackedRows (EltTy.packing .bf16) := fun v753 k0_t4 arg27 v891 v920 k0_hw11 k0_t5 k0_h3 => k0_hw11.2.2.2.2.2.2.1 k0_t5 k0_h3 (k0_off20_inb v753 k0_t4 arg27 v891 v920 k0_hw11 k0_t5 k0_h3)
theorem k0_t6_ok : ∀ (v753 : BitVec 32) (k0_t4 : Fin (k0_t4_loop v753).trips) (arg27 : BitVec 32) (v891 : BitVec 32) (v920 : BitVec 32) (k0_hw11 : k0_chk11 v753 k0_t4 arg27 v891 v920), ∀ (k0_h3 : k0_cond3 v753 k0_t4 v920 = 1#1), (k0_t6_loop v753 k0_t4 v891).OK := fun v753 k0_t4 arg27 v891 v920 k0_hw11 k0_h3 => k0_hw11.2.2.2.2.2.2.2.1 k0_h3
theorem k0_mult10_dvd : ∀ (v753 : BitVec 32) (k0_t4 : Fin (k0_t4_loop v753).trips) (arg27 : BitVec 32) (v891 : BitVec 32) (v920 : BitVec 32) (k0_hw11 : k0_chk11 v753 k0_t4 arg27 v891 v920) (k0_t6 : Fin (k0_t6_loop v753 k0_t4 v891).trips), ∀ (k0_h3 : k0_cond3 v753 k0_t4 v920 = 1#1), 32 ∣ (k0_mult10 v753 k0_t4 v891 k0_t6).toNat := fun v753 k0_t4 arg27 v891 v920 k0_hw11 k0_t6 k0_h3 => k0_hw11.2.2.2.2.2.2.2.2.1 k0_t6 k0_h3
theorem k0_off21_inb : ∀ (v753 : BitVec 32) (k0_t4 : Fin (k0_t4_loop v753).trips) (arg27 : BitVec 32) (v891 : BitVec 32) (v920 : BitVec 32) (k0_hw11 : k0_chk11 v753 k0_t4 arg27 v891 v920) (k0_t6 : Fin (k0_t6_loop v753 k0_t4 v891).trips), ∀ (k0_h3 : k0_cond3 v753 k0_t4 v920 = 1#1), ∀ a, (k0_off21 v753 k0_t4 arg27 v891 k0_t6) a + S1x32x128.size a ≤ S12x4096x128.size a := fun v753 k0_t4 arg27 v891 v920 k0_hw11 k0_t6 k0_h3 => k0_hw11.2.2.2.2.2.2.2.2.2.1 k0_t6 k0_h3
theorem k0_off21_packedbf16 : ∀ (v753 : BitVec 32) (k0_t4 : Fin (k0_t4_loop v753).trips) (arg27 : BitVec 32) (v891 : BitVec 32) (v920 : BitVec 32) (k0_hw11 : k0_chk11 v753 k0_t4 arg27 v891 v920) (k0_t6 : Fin (k0_t6_loop v753 k0_t4 v891).trips), ∀ (k0_h3 : k0_cond3 v753 k0_t4 v920 = 1#1), (Rect.unit (s := S12x4096x128) (k0_off21 v753 k0_t4 arg27 v891 k0_t6) S1x32x128.size (k0_off21_inb v753 k0_t4 arg27 v891 v920 k0_hw11 k0_t6 k0_h3)).PackedRows (EltTy.packing .bf16) := fun v753 k0_t4 arg27 v891 v920 k0_hw11 k0_t6 k0_h3 => k0_hw11.2.2.2.2.2.2.2.2.2.2 k0_t6 k0_h3 (k0_off21_inb v753 k0_t4 arg27 v891 v920 k0_hw11 k0_t6 k0_h3)

def k0_off22 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_444 : BitVec 32 := 0#32
  let v929 : BitVec 1 := Scalar.cmpi .sgt arg18 c0_i32_444
  let v930 : BitVec 32 := Scalar.extui v929
  let c0_i32_445 : BitVec 32 := 0#32
  let v931 : BitVec 1 := Scalar.cmpi .slt arg18 c0_i32_445
  let v932 : BitVec 32 := Scalar.extui v931
  let v933 : BitVec 32 := Scalar.subi v930 v932
  let c10_i32_443 : BitVec 32 := 10#32
  let c0_i32_446 : BitVec 32 := 0#32
  let v934 : BitVec 1 := Scalar.cmpi .sgt c10_i32_443 c0_i32_446
  let v935 : BitVec 32 := Scalar.extui v934
  let c0_i32_447 : BitVec 32 := 0#32
  let v936 : BitVec 1 := Scalar.cmpi .slt c10_i32_443 c0_i32_447
  let v937 : BitVec 32 := Scalar.extui v936
  let v938 : BitVec 32 := Scalar.subi v935 v937
  let v939 : BitVec 1 := Scalar.cmpi .ne v933 v938
  let v940 : BitVec 32 := Scalar.remsi arg18 c10_i32_443
  let c0_i32_448 : BitVec 32 := 0#32
  let v941 : BitVec 1 := Scalar.cmpi .ne v940 c0_i32_448
  let v942 : BitVec 1 := Scalar.andi v939 v941
  let v928 : BitVec 32 := Scalar.divsi arg18 c10_i32_443
  let c1_i32_449 : BitVec 32 := 1#32
  let v943 : BitVec 32 := Scalar.subi v928 c1_i32_449
  let v944 : BitVec 32 := Scalar.select v942 v943 v928
  let v945 : Index := Scalar.indexCast v944
  ![v945.toNat]
def k0_mult11 (v753 : BitVec 32) (k0_t4 : Fin (k0_t4_loop v753).trips) (v946 : BitVec 32) : BitVec 32 :=
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c1_i32_374 : BitVec 32 := 1#32
  let arg25 : BitVec 32 := Scf.iv c0_i32_372 c1_i32_374 k0_t4
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  v955

@[reducible] def k0_t7_loop (v753 : BitVec 32) (k0_t4 : Fin (k0_t4_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c1_i32_374 : BitVec 32 := 1#32
  let arg25 : BitVec 32 := Scf.iv c0_i32_372 c1_i32_374 k0_t4
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_460 : BitVec 32 := 1#32
  ⟨c0_i32_458, v963, c1_i32_460⟩
def k0_mult12 (v753 : BitVec 32) (k0_t4 : Fin (k0_t4_loop v753).trips) (v946 : BitVec 32) (k0_t7 : Fin (k0_t7_loop v753 k0_t4 v946).trips) : BitVec 32 :=
  let c0_i32_458 : BitVec 32 := 0#32
  let c1_i32_460 : BitVec 32 := 1#32
  let arg30 : BitVec 32 := Scf.iv c0_i32_458 c1_i32_460 k0_t7
  let c2048_i32_484 : BitVec 32 := 2048#32
  let v1004 : BitVec 32 := Scalar.muli arg30 c2048_i32_484
  v1004
def k0_off23 (v753 : BitVec 32) (k0_t4 : Fin (k0_t4_loop v753).trips) (arg27 : BitVec 32) (v946 : BitVec 32) (k0_t7 : Fin (k0_t7_loop v753 k0_t4 v946).trips) : Fin 3 → Nat :=
  let v1006 : Index := Scalar.indexCast arg27
  let c0_i32_458 : BitVec 32 := 0#32
  let c1_i32_460 : BitVec 32 := 1#32
  let arg30 : BitVec 32 := Scf.iv c0_i32_458 c1_i32_460 k0_t7
  let c2048_i32_484 : BitVec 32 := 2048#32
  let v1004 : BitVec 32 := Scalar.muli arg30 c2048_i32_484
  let v1005 : BitVec 32 := v1004
  let v1007 : Index := Scalar.indexCast v1005
  let c0_485 : Index := 0#32
  ![v1006.toNat, v1007.toNat, 0]
def k0_off24 (v753 : BitVec 32) (k0_t4 : Fin (k0_t4_loop v753).trips) (v946 : BitVec 32) (k0_t7 : Fin (k0_t7_loop v753 k0_t4 v946).trips) : Fin 3 → Nat :=
  let c0_i32_372 : BitVec 32 := 0#32
  let c1_i32_374 : BitVec 32 := 1#32
  let arg25 : BitVec 32 := Scf.iv c0_i32_372 c1_i32_374 k0_t4
  let c2_i32 : BitVec 32 := 2#32
  let v1032 : BitVec 32 := Scalar.muli arg25 c2_i32
  let c0_i32_458 : BitVec 32 := 0#32
  let c1_i32_460 : BitVec 32 := 1#32
  let arg30 : BitVec 32 := Scf.iv c0_i32_458 c1_i32_460 k0_t7
  let v1033 : BitVec 32 := Scalar.addi v1032 arg30
  let v1034 : Index := Scalar.indexCast v1033
  let c0_493 : Index := 0#32
  let c0_494 : Index := 0#32
  ![v1034.toNat, 0, 0]
@[reducible] def k0_t8_loop (v753 : BitVec 32) (k0_t4 : Fin (k0_t4_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c1_i32_374 : BitVec 32 := 1#32
  let arg25 : BitVec 32 := Scf.iv c0_i32_372 c1_i32_374 k0_t4
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let v960 : BitVec 32 := Scalar.addi c0_i32_458 v959
  let c1_i32_461 : BitVec 32 := 1#32
  ⟨v963, v960, c1_i32_461⟩
def k0_mult13 (v753 : BitVec 32) (k0_t4 : Fin (k0_t4_loop v753).trips) (v946 : BitVec 32) (k0_t8 : Fin (k0_t8_loop v753 k0_t4 v946).trips) : BitVec 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c1_i32_374 : BitVec 32 := 1#32
  let arg25 : BitVec 32 := Scf.iv c0_i32_372 c1_i32_374 k0_t4
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg30 : BitVec 32 := Scf.iv v963 c1_i32_461 k0_t8
  let c2048_i32_484 : BitVec 32 := 2048#32
  let v1004 : BitVec 32 := Scalar.muli arg30 c2048_i32_484
  v1004
def k0_off25 (v753 : BitVec 32) (k0_t4 : Fin (k0_t4_loop v753).trips) (arg27 : BitVec 32) (v946 : BitVec 32) (k0_t8 : Fin (k0_t8_loop v753 k0_t4 v946).trips) : Fin 3 → Nat :=
  let v1006 : Index := Scalar.indexCast arg27
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c1_i32_374 : BitVec 32 := 1#32
  let arg25 : BitVec 32 := Scf.iv c0_i32_372 c1_i32_374 k0_t4
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg30 : BitVec 32 := Scf.iv v963 c1_i32_461 k0_t8
  let c2048_i32_484 : BitVec 32 := 2048#32
  let v1004 : BitVec 32 := Scalar.muli arg30 c2048_i32_484
  let v1005 : BitVec 32 := v1004
  let v1007 : Index := Scalar.indexCast v1005
  let c0_485 : Index := 0#32
  ![v1006.toNat, v1007.toNat, 0]
def k0_off26 (v753 : BitVec 32) (k0_t4 : Fin (k0_t4_loop v753).trips) (v946 : BitVec 32) (k0_t8 : Fin (k0_t8_loop v753 k0_t4 v946).trips) : Fin 3 → Nat :=
  let c0_i32_372 : BitVec 32 := 0#32
  let c1_i32_374 : BitVec 32 := 1#32
  let arg25 : BitVec 32 := Scf.iv c0_i32_372 c1_i32_374 k0_t4
  let c2_i32 : BitVec 32 := 2#32
  let v1032 : BitVec 32 := Scalar.muli arg25 c2_i32
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg30 : BitVec 32 := Scf.iv v963 c1_i32_461 k0_t8
  let v1033 : BitVec 32 := Scalar.addi v1032 arg30
  let v1034 : Index := Scalar.indexCast v1033
  let c0_493 : Index := 0#32
  let c0_494 : Index := 0#32
  ![v1034.toNat, 0, 0]

def k0_chk12 (v753 : BitVec 32) (k0_t4 : Fin (k0_t4_loop v753).trips) (arg27 : BitVec 32) (v946 : BitVec 32) : Prop :=
  (32 ∣ (k0_mult11 v753 k0_t4 v946).toNat) ∧
  ((k0_t7_loop v753 k0_t4 v946).OK) ∧
  (∀ k0_t7 : Fin (k0_t7_loop v753 k0_t4 v946).trips, 2048 ∣ (k0_mult12 v753 k0_t4 v946 k0_t7).toNat) ∧
  (∀ k0_t7 : Fin (k0_t7_loop v753 k0_t4 v946).trips, ∀ a, (k0_off23 v753 k0_t4 arg27 v946 k0_t7) a + S1x2048x128.size a ≤ S12x4096x128.size a) ∧
  (∀ k0_t7 : Fin (k0_t7_loop v753 k0_t4 v946).trips, ∀ a, (k0_off24 v753 k0_t4 v946 k0_t7) a + S1x8x2048.size a ≤ S32x8x2048.size a) ∧
  ((k0_t8_loop v753 k0_t4 v946).OK) ∧
  (∀ k0_t8 : Fin (k0_t8_loop v753 k0_t4 v946).trips, 2048 ∣ (k0_mult13 v753 k0_t4 v946 k0_t8).toNat) ∧
  (∀ k0_t8 : Fin (k0_t8_loop v753 k0_t4 v946).trips, ∀ a, (k0_off25 v753 k0_t4 arg27 v946 k0_t8) a + S1x2048x128.size a ≤ S12x4096x128.size a) ∧
  (∀ k0_t8 : Fin (k0_t8_loop v753 k0_t4 v946).trips, ∀ a, (k0_off26 v753 k0_t4 v946 k0_t8) a + S1x8x2048.size a ≤ S32x8x2048.size a)
theorem k0_mult11_dvd : ∀ (v753 : BitVec 32) (k0_t4 : Fin (k0_t4_loop v753).trips) (arg27 : BitVec 32) (v946 : BitVec 32) (k0_hw12 : k0_chk12 v753 k0_t4 arg27 v946), 32 ∣ (k0_mult11 v753 k0_t4 v946).toNat := fun v753 k0_t4 arg27 v946 k0_hw12 => k0_hw12.1
theorem k0_t7_ok : ∀ (v753 : BitVec 32) (k0_t4 : Fin (k0_t4_loop v753).trips) (arg27 : BitVec 32) (v946 : BitVec 32) (k0_hw12 : k0_chk12 v753 k0_t4 arg27 v946), (k0_t7_loop v753 k0_t4 v946).OK := fun v753 k0_t4 arg27 v946 k0_hw12 => k0_hw12.2.1
theorem k0_mult12_dvd : ∀ (v753 : BitVec 32) (k0_t4 : Fin (k0_t4_loop v753).trips) (arg27 : BitVec 32) (v946 : BitVec 32) (k0_hw12 : k0_chk12 v753 k0_t4 arg27 v946) (k0_t7 : Fin (k0_t7_loop v753 k0_t4 v946).trips), 2048 ∣ (k0_mult12 v753 k0_t4 v946 k0_t7).toNat := fun v753 k0_t4 arg27 v946 k0_hw12 k0_t7 => k0_hw12.2.2.1 k0_t7
theorem k0_off23_inb : ∀ (v753 : BitVec 32) (k0_t4 : Fin (k0_t4_loop v753).trips) (arg27 : BitVec 32) (v946 : BitVec 32) (k0_hw12 : k0_chk12 v753 k0_t4 arg27 v946) (k0_t7 : Fin (k0_t7_loop v753 k0_t4 v946).trips), ∀ a, (k0_off23 v753 k0_t4 arg27 v946 k0_t7) a + S1x2048x128.size a ≤ S12x4096x128.size a := fun v753 k0_t4 arg27 v946 k0_hw12 k0_t7 => k0_hw12.2.2.2.1 k0_t7
theorem k0_off24_inb : ∀ (v753 : BitVec 32) (k0_t4 : Fin (k0_t4_loop v753).trips) (arg27 : BitVec 32) (v946 : BitVec 32) (k0_hw12 : k0_chk12 v753 k0_t4 arg27 v946) (k0_t7 : Fin (k0_t7_loop v753 k0_t4 v946).trips), ∀ a, (k0_off24 v753 k0_t4 v946 k0_t7) a + S1x8x2048.size a ≤ S32x8x2048.size a := fun v753 k0_t4 arg27 v946 k0_hw12 k0_t7 => k0_hw12.2.2.2.2.1 k0_t7
theorem k0_t8_ok : ∀ (v753 : BitVec 32) (k0_t4 : Fin (k0_t4_loop v753).trips) (arg27 : BitVec 32) (v946 : BitVec 32) (k0_hw12 : k0_chk12 v753 k0_t4 arg27 v946), (k0_t8_loop v753 k0_t4 v946).OK := fun v753 k0_t4 arg27 v946 k0_hw12 => k0_hw12.2.2.2.2.2.1
theorem k0_mult13_dvd : ∀ (v753 : BitVec 32) (k0_t4 : Fin (k0_t4_loop v753).trips) (arg27 : BitVec 32) (v946 : BitVec 32) (k0_hw12 : k0_chk12 v753 k0_t4 arg27 v946) (k0_t8 : Fin (k0_t8_loop v753 k0_t4 v946).trips), 2048 ∣ (k0_mult13 v753 k0_t4 v946 k0_t8).toNat := fun v753 k0_t4 arg27 v946 k0_hw12 k0_t8 => k0_hw12.2.2.2.2.2.2.1 k0_t8
theorem k0_off25_inb : ∀ (v753 : BitVec 32) (k0_t4 : Fin (k0_t4_loop v753).trips) (arg27 : BitVec 32) (v946 : BitVec 32) (k0_hw12 : k0_chk12 v753 k0_t4 arg27 v946) (k0_t8 : Fin (k0_t8_loop v753 k0_t4 v946).trips), ∀ a, (k0_off25 v753 k0_t4 arg27 v946 k0_t8) a + S1x2048x128.size a ≤ S12x4096x128.size a := fun v753 k0_t4 arg27 v946 k0_hw12 k0_t8 => k0_hw12.2.2.2.2.2.2.2.1 k0_t8
theorem k0_off26_inb : ∀ (v753 : BitVec 32) (k0_t4 : Fin (k0_t4_loop v753).trips) (arg27 : BitVec 32) (v946 : BitVec 32) (k0_hw12 : k0_chk12 v753 k0_t4 arg27 v946) (k0_t8 : Fin (k0_t8_loop v753 k0_t4 v946).trips), ∀ a, (k0_off26 v753 k0_t4 v946 k0_t8) a + S1x8x2048.size a ≤ S32x8x2048.size a := fun v753 k0_t4 arg27 v946 k0_hw12 k0_t8 => k0_hw12.2.2.2.2.2.2.2.2 k0_t8

def k0_off27 (arg28 : BitVec 32) : Fin 1 → Nat :=
  let c0_i32_485 : BitVec 32 := 0#32
  let v1005 : BitVec 1 := Scalar.cmpi .sgt arg28 c0_i32_485
  let v1006 : BitVec 32 := Scalar.extui v1005
  let c0_i32_486 : BitVec 32 := 0#32
  let v1007 : BitVec 1 := Scalar.cmpi .slt arg28 c0_i32_486
  let v1008 : BitVec 32 := Scalar.extui v1007
  let v1009 : BitVec 32 := Scalar.subi v1006 v1008
  let c10_i32_484 : BitVec 32 := 10#32
  let c0_i32_487 : BitVec 32 := 0#32
  let v1010 : BitVec 1 := Scalar.cmpi .sgt c10_i32_484 c0_i32_487
  let v1011 : BitVec 32 := Scalar.extui v1010
  let c0_i32_488 : BitVec 32 := 0#32
  let v1012 : BitVec 1 := Scalar.cmpi .slt c10_i32_484 c0_i32_488
  let v1013 : BitVec 32 := Scalar.extui v1012
  let v1014 : BitVec 32 := Scalar.subi v1011 v1013
  let v1015 : BitVec 1 := Scalar.cmpi .ne v1009 v1014
  let v1016 : BitVec 32 := Scalar.remsi arg28 c10_i32_484
  let c0_i32_489 : BitVec 32 := 0#32
  let v1017 : BitVec 1 := Scalar.cmpi .ne v1016 c0_i32_489
  let v1018 : BitVec 1 := Scalar.andi v1015 v1017
  let v1004 : BitVec 32 := Scalar.divsi arg28 c10_i32_484
  let c1_i32_490 : BitVec 32 := 1#32
  let v1019 : BitVec 32 := Scalar.subi v1004 c1_i32_490
  let v1020 : BitVec 32 := Scalar.select v1018 v1019 v1004
  let v1021 : Index := Scalar.indexCast v1020
  ![v1021.toNat]
def k0_cond4 (arg28 : BitVec 32) : BitVec 1 :=
  let c20_i32_462 : BitVec 32 := 20#32
  let v966 : BitVec 1 := Scalar.cmpi .slt arg28 c20_i32_462
  let v967 : BitVec 32 := Scalar.extui v966
  let c0_i32_463 : BitVec 32 := 0#32
  let v968 : BitVec 1 := Scalar.cmpi .ne v967 c0_i32_463
  v968

def k0_mult14 (arg29 : BitVec 32) (v1022 : BitVec 32) : BitVec 32 :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  v1031

def k0_mult15 (arg29 : BitVec 32) : BitVec 32 :=
  let c4096_i32_499 : BitVec 32 := 4096#32
  let v1033 : BitVec 32 := Scalar.muli arg29 c4096_i32_499
  v1033

def k0_chk15 (arg28 : BitVec 32) (arg29 : BitVec 32) : Prop :=
  (∀ (k0_h4 : k0_cond4 arg28 = 1#1), 4096 ∣ (k0_mult15 arg29).toNat)
theorem k0_mult15_dvd : ∀ (arg28 : BitVec 32) (arg29 : BitVec 32) (k0_hw15 : k0_chk15 arg28 arg29), ∀ (k0_h4 : k0_cond4 arg28 = 1#1), 4096 ∣ (k0_mult15 arg29).toNat := fun arg28 arg29 k0_hw15 k0_h4 => k0_hw15 k0_h4

def k0_off28 (arg27 : BitVec 32) : Fin 1 → Nat :=
  ![arg27.toNat]
def k0_off29 (arg27 : BitVec 32) (arg29 : BitVec 32) (v1022 : BitVec 32) : (Fin 3 → Nat) × (Fin 3 → Nat) :=
  let c0_i32_500 : BitVec 32 := 0#32
  let c0_i32_501 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg27.toNat, 0, 0], ![1, v1032.toNat, 128]⟩
def k0_sz7 (arg29 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]
def k0_off30 (arg28 : BitVec 32) (arg29 : BitVec 32) (v1022 : BitVec 32) : (Fin 3 → Nat) × (Fin 3 → Nat) :=
  let c4096_i32_499 : BitVec 32 := 4096#32
  let v1033 : BitVec 32 := Scalar.muli arg29 c4096_i32_499
  let v1034 : BitVec 32 := v1033
  let c0_i32_502 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg28.toNat, v1034.toNat, 0], ![1, v1032.toNat, 128]⟩
def k0_sz8 (arg29 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]

def k0_chk14 (arg27 : BitVec 32) (arg28 : BitVec 32) (arg29 : BitVec 32) (v1022 : BitVec 32) : Prop :=
  (∀ (k0_h4 : k0_cond4 arg28 = 1#1), 32 ∣ (k0_mult14 arg29 v1022).toNat) ∧
  (∀ (k0_h4 : k0_cond4 arg28 = 1#1), ∀ a, (k0_off29 arg27 arg29 v1022).2 a = 0 ∨ (k0_off29 arg27 arg29 v1022).1 a + (k0_off29 arg27 arg29 v1022).2 a ≤ S12x4096x128.size a) ∧
  (∀ (k0_h4 : k0_cond4 arg28 = 1#1), (⟨3, (k0_off29 arg27 arg29 v1022).2⟩ : Shape).Squeezes ⟨2, k0_sz7 arg29 v1022⟩) ∧
  (∀ (k0_h4 : k0_cond4 arg28 = 1#1), ∀ a, (k0_off30 arg28 arg29 v1022).2 a = 0 ∨ (k0_off30 arg28 arg29 v1022).1 a + (k0_off30 arg28 arg29 v1022).2 a ≤ S20x65536x128.size a) ∧
  (∀ (k0_h4 : k0_cond4 arg28 = 1#1), (⟨3, (k0_off30 arg28 arg29 v1022).2⟩ : Shape).Squeezes ⟨2, k0_sz8 arg29 v1022⟩) ∧
  (∀ (k0_h4 : k0_cond4 arg28 = 1#1), ∀ (hinb : ∀ a, (k0_off30 arg28 arg29 v1022).2 a = 0 ∨ (k0_off30 arg28 arg29 v1022).1 a + (k0_off30 arg28 arg29 v1022).2 a ≤ S20x65536x128.size a), (Rect.unitDyn (s := S20x65536x128) (k0_off30 arg28 arg29 v1022).1 (k0_off30 arg28 arg29 v1022).2 hinb).WholeWords (EltTy.packing .bf16)) ∧
  (∀ (k0_h4 : k0_cond4 arg28 = 1#1), ∀ (hinb : ∀ a, (k0_off29 arg27 arg29 v1022).2 a = 0 ∨ (k0_off29 arg27 arg29 v1022).1 a + (k0_off29 arg27 arg29 v1022).2 a ≤ S12x4096x128.size a), (Rect.unitDyn (s := S12x4096x128) (k0_off29 arg27 arg29 v1022).1 (k0_off29 arg27 arg29 v1022).2 hinb).WholeWords (EltTy.packing .bf16))
theorem k0_mult14_dvd : ∀ (arg27 : BitVec 32) (arg28 : BitVec 32) (arg29 : BitVec 32) (v1022 : BitVec 32) (k0_hw14 : k0_chk14 arg27 arg28 arg29 v1022), ∀ (k0_h4 : k0_cond4 arg28 = 1#1), 32 ∣ (k0_mult14 arg29 v1022).toNat := fun arg27 arg28 arg29 v1022 k0_hw14 k0_h4 => k0_hw14.1 k0_h4
theorem k0_off29_inb : ∀ (arg27 : BitVec 32) (arg28 : BitVec 32) (arg29 : BitVec 32) (v1022 : BitVec 32) (k0_hw14 : k0_chk14 arg27 arg28 arg29 v1022), ∀ (k0_h4 : k0_cond4 arg28 = 1#1), ∀ a, (k0_off29 arg27 arg29 v1022).2 a = 0 ∨ (k0_off29 arg27 arg29 v1022).1 a + (k0_off29 arg27 arg29 v1022).2 a ≤ S12x4096x128.size a := fun arg27 arg28 arg29 v1022 k0_hw14 k0_h4 => k0_hw14.2.1 k0_h4
theorem k0_sz7_squeezes : ∀ (arg27 : BitVec 32) (arg28 : BitVec 32) (arg29 : BitVec 32) (v1022 : BitVec 32) (k0_hw14 : k0_chk14 arg27 arg28 arg29 v1022), ∀ (k0_h4 : k0_cond4 arg28 = 1#1), (⟨3, (k0_off29 arg27 arg29 v1022).2⟩ : Shape).Squeezes ⟨2, k0_sz7 arg29 v1022⟩ := fun arg27 arg28 arg29 v1022 k0_hw14 k0_h4 => k0_hw14.2.2.1 k0_h4
theorem k0_off30_inb : ∀ (arg27 : BitVec 32) (arg28 : BitVec 32) (arg29 : BitVec 32) (v1022 : BitVec 32) (k0_hw14 : k0_chk14 arg27 arg28 arg29 v1022), ∀ (k0_h4 : k0_cond4 arg28 = 1#1), ∀ a, (k0_off30 arg28 arg29 v1022).2 a = 0 ∨ (k0_off30 arg28 arg29 v1022).1 a + (k0_off30 arg28 arg29 v1022).2 a ≤ S20x65536x128.size a := fun arg27 arg28 arg29 v1022 k0_hw14 k0_h4 => k0_hw14.2.2.2.1 k0_h4
theorem k0_sz8_squeezes : ∀ (arg27 : BitVec 32) (arg28 : BitVec 32) (arg29 : BitVec 32) (v1022 : BitVec 32) (k0_hw14 : k0_chk14 arg27 arg28 arg29 v1022), ∀ (k0_h4 : k0_cond4 arg28 = 1#1), (⟨3, (k0_off30 arg28 arg29 v1022).2⟩ : Shape).Squeezes ⟨2, k0_sz8 arg29 v1022⟩ := fun arg27 arg28 arg29 v1022 k0_hw14 k0_h4 => k0_hw14.2.2.2.2.1 k0_h4
theorem k0_off30_wordsbf16 : ∀ (arg27 : BitVec 32) (arg28 : BitVec 32) (arg29 : BitVec 32) (v1022 : BitVec 32) (k0_hw14 : k0_chk14 arg27 arg28 arg29 v1022), ∀ (k0_h4 : k0_cond4 arg28 = 1#1), (Rect.unitDyn (s := S20x65536x128) (k0_off30 arg28 arg29 v1022).1 (k0_off30 arg28 arg29 v1022).2 (k0_off30_inb arg27 arg28 arg29 v1022 k0_hw14 k0_h4)).WholeWords (EltTy.packing .bf16) := fun arg27 arg28 arg29 v1022 k0_hw14 k0_h4 => k0_hw14.2.2.2.2.2.1 k0_h4 (k0_off30_inb arg27 arg28 arg29 v1022 k0_hw14 k0_h4)
theorem k0_off29_wordsbf16 : ∀ (arg27 : BitVec 32) (arg28 : BitVec 32) (arg29 : BitVec 32) (v1022 : BitVec 32) (k0_hw14 : k0_chk14 arg27 arg28 arg29 v1022), ∀ (k0_h4 : k0_cond4 arg28 = 1#1), (Rect.unitDyn (s := S12x4096x128) (k0_off29 arg27 arg29 v1022).1 (k0_off29 arg27 arg29 v1022).2 (k0_off29_inb arg27 arg28 arg29 v1022 k0_hw14 k0_h4)).WholeWords (EltTy.packing .bf16) := fun arg27 arg28 arg29 v1022 k0_hw14 k0_h4 => k0_hw14.2.2.2.2.2.2 k0_h4 (k0_off29_inb arg27 arg28 arg29 v1022 k0_hw14 k0_h4)

def k0_off31 (arg28 : BitVec 32) : Fin 1 → Nat :=
  let c19_i32 : BitVec 32 := 19#32
  let v970 : BitVec 32 := Scalar.minsi arg28 c19_i32
  let c0_i32_466 : BitVec 32 := 0#32
  let v972 : BitVec 1 := Scalar.cmpi .sgt v970 c0_i32_466
  let v973 : BitVec 32 := Scalar.extui v972
  let c0_i32_467 : BitVec 32 := 0#32
  let v974 : BitVec 1 := Scalar.cmpi .slt v970 c0_i32_467
  let v975 : BitVec 32 := Scalar.extui v974
  let v976 : BitVec 32 := Scalar.subi v973 v975
  let c10_i32_465 : BitVec 32 := 10#32
  let c0_i32_468 : BitVec 32 := 0#32
  let v977 : BitVec 1 := Scalar.cmpi .sgt c10_i32_465 c0_i32_468
  let v978 : BitVec 32 := Scalar.extui v977
  let c0_i32_469 : BitVec 32 := 0#32
  let v979 : BitVec 1 := Scalar.cmpi .slt c10_i32_465 c0_i32_469
  let v980 : BitVec 32 := Scalar.extui v979
  let v981 : BitVec 32 := Scalar.subi v978 v980
  let v982 : BitVec 1 := Scalar.cmpi .ne v976 v981
  let v983 : BitVec 32 := Scalar.remsi v970 c10_i32_465
  let c0_i32_470 : BitVec 32 := 0#32
  let v984 : BitVec 1 := Scalar.cmpi .ne v983 c0_i32_470
  let v985 : BitVec 1 := Scalar.andi v982 v984
  let v971 : BitVec 32 := Scalar.divsi v970 c10_i32_465
  let c1_i32_471 : BitVec 32 := 1#32
  let v986 : BitVec 32 := Scalar.subi v971 c1_i32_471
  let v987 : BitVec 32 := Scalar.select v985 v986 v971
  let v988 : Index := Scalar.indexCast v987
  ![v988.toNat]

def k0_chk13 (arg27 : BitVec 32) (arg28 : BitVec 32) : Prop :=
  (∀ (k0_h4 : k0_cond4 arg28 = 1#1), ∀ a, (k0_off27 arg28) a + S1.size a ≤ S2.size a) ∧
  (∀ (k0_h4 : k0_cond4 arg28 = 1#1), ∀ a, (k0_off28 arg27) a + S1.size a ≤ S12.size a) ∧
  (∀ a, (k0_off31 arg28) a + S1.size a ≤ S2.size a)
theorem k0_off27_inb : ∀ (arg27 : BitVec 32) (arg28 : BitVec 32) (k0_hw13 : k0_chk13 arg27 arg28), ∀ (k0_h4 : k0_cond4 arg28 = 1#1), ∀ a, (k0_off27 arg28) a + S1.size a ≤ S2.size a := fun arg27 arg28 k0_hw13 k0_h4 => k0_hw13.1 k0_h4
theorem k0_off28_inb : ∀ (arg27 : BitVec 32) (arg28 : BitVec 32) (k0_hw13 : k0_chk13 arg27 arg28), ∀ (k0_h4 : k0_cond4 arg28 = 1#1), ∀ a, (k0_off28 arg27) a + S1.size a ≤ S12.size a := fun arg27 arg28 k0_hw13 k0_h4 => k0_hw13.2.1 k0_h4
theorem k0_off31_inb : ∀ (arg27 : BitVec 32) (arg28 : BitVec 32) (k0_hw13 : k0_chk13 arg27 arg28), ∀ a, (k0_off31 arg28) a + S1.size a ≤ S2.size a := fun arg27 arg28 k0_hw13 => k0_hw13.2.2

@[reducible] def k0_t9_loop (v753 : BitVec 32) : Scf.Loop 32 :=
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let v764 : BitVec 32 := Scalar.addi c0_i32_372 v763
  let c1_i32_375 : BitVec 32 := 1#32
  ⟨v767, v764, c1_i32_375⟩
def k0_off32 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_400 : BitVec 32 := 0#32
  let v837 : BitVec 1 := Scalar.cmpi .sgt arg18 c0_i32_400
  let v838 : BitVec 32 := Scalar.extui v837
  let c0_i32_401 : BitVec 32 := 0#32
  let v839 : BitVec 1 := Scalar.cmpi .slt arg18 c0_i32_401
  let v840 : BitVec 32 := Scalar.extui v839
  let v841 : BitVec 32 := Scalar.subi v838 v840
  let c10_i32_399 : BitVec 32 := 10#32
  let c0_i32_402 : BitVec 32 := 0#32
  let v842 : BitVec 1 := Scalar.cmpi .sgt c10_i32_399 c0_i32_402
  let v843 : BitVec 32 := Scalar.extui v842
  let c0_i32_403 : BitVec 32 := 0#32
  let v844 : BitVec 1 := Scalar.cmpi .slt c10_i32_399 c0_i32_403
  let v845 : BitVec 32 := Scalar.extui v844
  let v846 : BitVec 32 := Scalar.subi v843 v845
  let v847 : BitVec 1 := Scalar.cmpi .ne v841 v846
  let v848 : BitVec 32 := Scalar.remsi arg18 c10_i32_399
  let c0_i32_404 : BitVec 32 := 0#32
  let v849 : BitVec 1 := Scalar.cmpi .ne v848 c0_i32_404
  let v850 : BitVec 1 := Scalar.andi v847 v849
  let v836 : BitVec 32 := Scalar.divsi arg18 c10_i32_399
  let c1_i32_405 : BitVec 32 := 1#32
  let v851 : BitVec 32 := Scalar.subi v836 c1_i32_405
  let v852 : BitVec 32 := Scalar.select v850 v851 v836
  let v853 : Index := Scalar.indexCast v852
  ![v853.toNat]
def k0_mult16 (v753 : BitVec 32) (k0_t9 : Fin (k0_t9_loop v753).trips) (v854 : BitVec 32) : BitVec 32 :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  v863

def k0_mult17 (v753 : BitVec 32) (k0_t9 : Fin (k0_t9_loop v753).trips) : BitVec 32 :=
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_412 : BitVec 32 := 4096#32
  let v865 : BitVec 32 := Scalar.muli arg25 c4096_i32_412
  v865
def k0_off33 (arg27 : BitVec 32) : Fin 1 → Nat :=
  ![arg27.toNat]

def k0_chk17 (arg27 : BitVec 32) : Prop :=
  (∀ a, (k0_off33 arg27) a + S1.size a ≤ S12.size a)
theorem k0_off33_inb : ∀ (arg27 : BitVec 32) (k0_hw17 : k0_chk17 arg27), ∀ a, (k0_off33 arg27) a + S1.size a ≤ S12.size a := fun arg27 k0_hw17 => k0_hw17

def k0_off34 (v753 : BitVec 32) (k0_t9 : Fin (k0_t9_loop v753).trips) (arg27 : BitVec 32) (v854 : BitVec 32) : (Fin 3 → Nat) × (Fin 3 → Nat) :=
  let c0_i32_413 : BitVec 32 := 0#32
  let c0_i32_414 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg27.toNat, 0, 0], ![1, v864.toNat, 128]⟩

def k0_sz9 (v753 : BitVec 32) (k0_t9 : Fin (k0_t9_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]
def k0_off35 (k0_t3 : Fin k0_t3_loop.trips) (v753 : BitVec 32) (k0_t9 : Fin (k0_t9_loop v753).trips) (v854 : BitVec 32) : (Fin 3 → Nat) × (Fin 3 → Nat) :=
  let c0_i32_292 : BitVec 32 := 0#32
  let c1_i32_293 : BitVec 32 := 1#32
  let arg18 : BitVec 32 := Scf.iv c0_i32_292 c1_i32_293 k0_t3
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_412 : BitVec 32 := 4096#32
  let v865 : BitVec 32 := Scalar.muli arg25 c4096_i32_412
  let v866 : BitVec 32 := v865
  let c0_i32_415 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg18.toNat, v866.toNat, 0], ![1, v864.toNat, 128]⟩

def k0_sz10 (v753 : BitVec 32) (k0_t9 : Fin (k0_t9_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]

def k0_chk16 (k0_t3 : Fin k0_t3_loop.trips) (v753 : BitVec 32) (k0_t9 : Fin (k0_t9_loop v753).trips) (arg27 : BitVec 32) (v854 : BitVec 32) : Prop :=
  (32 ∣ (k0_mult16 v753 k0_t9 v854).toNat) ∧
  ((⟨3, (k0_off34 v753 k0_t9 arg27 v854).2⟩ : Shape).Squeezes ⟨2, k0_sz9 v753 k0_t9 v854⟩) ∧
  ((⟨3, (k0_off35 k0_t3 v753 k0_t9 v854).2⟩ : Shape).Squeezes ⟨2, k0_sz10 v753 k0_t9 v854⟩)
theorem k0_mult16_dvd : ∀ (k0_t3 : Fin k0_t3_loop.trips) (v753 : BitVec 32) (k0_t9 : Fin (k0_t9_loop v753).trips) (arg27 : BitVec 32) (v854 : BitVec 32) (k0_hw16 : k0_chk16 k0_t3 v753 k0_t9 arg27 v854), 32 ∣ (k0_mult16 v753 k0_t9 v854).toNat := fun k0_t3 v753 k0_t9 arg27 v854 k0_hw16 => k0_hw16.1
theorem k0_sz9_squeezes : ∀ (k0_t3 : Fin k0_t3_loop.trips) (v753 : BitVec 32) (k0_t9 : Fin (k0_t9_loop v753).trips) (arg27 : BitVec 32) (v854 : BitVec 32) (k0_hw16 : k0_chk16 k0_t3 v753 k0_t9 arg27 v854), (⟨3, (k0_off34 v753 k0_t9 arg27 v854).2⟩ : Shape).Squeezes ⟨2, k0_sz9 v753 k0_t9 v854⟩ := fun k0_t3 v753 k0_t9 arg27 v854 k0_hw16 => k0_hw16.2.1
theorem k0_sz10_squeezes : ∀ (k0_t3 : Fin k0_t3_loop.trips) (v753 : BitVec 32) (k0_t9 : Fin (k0_t9_loop v753).trips) (arg27 : BitVec 32) (v854 : BitVec 32) (k0_hw16 : k0_chk16 k0_t3 v753 k0_t9 arg27 v854), (⟨3, (k0_off35 k0_t3 v753 k0_t9 v854).2⟩ : Shape).Squeezes ⟨2, k0_sz10 v753 k0_t9 v854⟩ := fun k0_t3 v753 k0_t9 arg27 v854 k0_hw16 => k0_hw16.2.2

def k0_off36 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_417 : BitVec 32 := 0#32
  let v874 : BitVec 1 := Scalar.cmpi .sgt arg18 c0_i32_417
  let v875 : BitVec 32 := Scalar.extui v874
  let c0_i32_418 : BitVec 32 := 0#32
  let v876 : BitVec 1 := Scalar.cmpi .slt arg18 c0_i32_418
  let v877 : BitVec 32 := Scalar.extui v876
  let v878 : BitVec 32 := Scalar.subi v875 v877
  let c10_i32_416 : BitVec 32 := 10#32
  let c0_i32_419 : BitVec 32 := 0#32
  let v879 : BitVec 1 := Scalar.cmpi .sgt c10_i32_416 c0_i32_419
  let v880 : BitVec 32 := Scalar.extui v879
  let c0_i32_420 : BitVec 32 := 0#32
  let v881 : BitVec 1 := Scalar.cmpi .slt c10_i32_416 c0_i32_420
  let v882 : BitVec 32 := Scalar.extui v881
  let v883 : BitVec 32 := Scalar.subi v880 v882
  let v884 : BitVec 1 := Scalar.cmpi .ne v878 v883
  let v885 : BitVec 32 := Scalar.remsi arg18 c10_i32_416
  let c0_i32_421 : BitVec 32 := 0#32
  let v886 : BitVec 1 := Scalar.cmpi .ne v885 c0_i32_421
  let v887 : BitVec 1 := Scalar.andi v884 v886
  let v873 : BitVec 32 := Scalar.divsi arg18 c10_i32_416
  let c1_i32_422 : BitVec 32 := 1#32
  let v888 : BitVec 32 := Scalar.subi v873 c1_i32_422
  let v889 : BitVec 32 := Scalar.select v887 v888 v873
  let v890 : Index := Scalar.indexCast v889
  ![v890.toNat]
def k0_mult18 (v753 : BitVec 32) (k0_t9 : Fin (k0_t9_loop v753).trips) (v891 : BitVec 32) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  v900

def k0_chk18 (v753 : BitVec 32) (k0_t9 : Fin (k0_t9_loop v753).trips) (v891 : BitVec 32) : Prop :=
  (32 ∣ (k0_mult18 v753 k0_t9 v891).toNat)
theorem k0_mult18_dvd : ∀ (v753 : BitVec 32) (k0_t9 : Fin (k0_t9_loop v753).trips) (v891 : BitVec 32) (k0_hw18 : k0_chk18 v753 k0_t9 v891), 32 ∣ (k0_mult18 v753 k0_t9 v891).toNat := fun v753 k0_t9 v891 k0_hw18 => k0_hw18

def k0_off37 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_432 : BitVec 32 := 0#32
  let v903 : BitVec 1 := Scalar.cmpi .sgt arg18 c0_i32_432
  let v904 : BitVec 32 := Scalar.extui v903
  let c0_i32_433 : BitVec 32 := 0#32
  let v905 : BitVec 1 := Scalar.cmpi .slt arg18 c0_i32_433
  let v906 : BitVec 32 := Scalar.extui v905
  let v907 : BitVec 32 := Scalar.subi v904 v906
  let c10_i32_431 : BitVec 32 := 10#32
  let c0_i32_434 : BitVec 32 := 0#32
  let v908 : BitVec 1 := Scalar.cmpi .sgt c10_i32_431 c0_i32_434
  let v909 : BitVec 32 := Scalar.extui v908
  let c0_i32_435 : BitVec 32 := 0#32
  let v910 : BitVec 1 := Scalar.cmpi .slt c10_i32_431 c0_i32_435
  let v911 : BitVec 32 := Scalar.extui v910
  let v912 : BitVec 32 := Scalar.subi v909 v911
  let v913 : BitVec 1 := Scalar.cmpi .ne v907 v912
  let v914 : BitVec 32 := Scalar.remsi arg18 c10_i32_431
  let c0_i32_436 : BitVec 32 := 0#32
  let v915 : BitVec 1 := Scalar.cmpi .ne v914 c0_i32_436
  let v916 : BitVec 1 := Scalar.andi v913 v915
  let v902 : BitVec 32 := Scalar.divsi arg18 c10_i32_431
  let c1_i32_437 : BitVec 32 := 1#32
  let v917 : BitVec 32 := Scalar.subi v902 c1_i32_437
  let v918 : BitVec 32 := Scalar.select v916 v917 v902
  let v919 : Index := Scalar.indexCast v918
  ![v919.toNat]
def k0_mult19 (v753 : BitVec 32) (k0_t9 : Fin (k0_t9_loop v753).trips) (v891 : BitVec 32) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c32_i32_484 : BitVec 32 := 32#32
  let v1004 : BitVec 32 := Scalar.subi v901 c32_i32_484
  v1004
def k0_cond5 (v753 : BitVec 32) (k0_t9 : Fin (k0_t9_loop v753).trips) (v920 : BitVec 32) : BitVec 1 :=
  let c65536_i32_439 : BitVec 32 := 65536#32
  let c0_i32_438 : BitVec 32 := 0#32
  let v921 : BitVec 32 := Scalar.maxsi c0_i32_438 v920
  let v922 : BitVec 32 := Scalar.minsi c65536_i32_439 v921
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_440 : BitVec 32 := 4096#32
  let v923 : BitVec 32 := Scalar.muli arg25 c4096_i32_440
  let v924 : BitVec 32 := Scalar.subi v922 v923
  let c4096_i32_441 : BitVec 32 := 4096#32
  let v925 : BitVec 1 := Scalar.cmpi .slt v924 c4096_i32_441
  let v926 : BitVec 32 := Scalar.extui v925
  let c0_i32_442 : BitVec 32 := 0#32
  let v927 : BitVec 1 := Scalar.cmpi .ne v926 c0_i32_442
  v927

def k0_off38 (v753 : BitVec 32) (k0_t9 : Fin (k0_t9_loop v753).trips) (arg27 : BitVec 32) (v891 : BitVec 32) : Fin 3 → Nat :=
  let v1007 : Index := Scalar.indexCast arg27
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c32_i32_484 : BitVec 32 := 32#32
  let v1004 : BitVec 32 := Scalar.subi v901 c32_i32_484
  let v1005 : BitVec 32 := v1004
  let v1008 : Index := Scalar.indexCast v1005
  let c0_485 : Index := 0#32
  ![v1007.toNat, v1008.toNat, 0]
@[reducible] def k0_t10_loop (v753 : BitVec 32) (k0_t9 : Fin (k0_t9_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let c1_i32_500 : BitVec 32 := 1#32
  ⟨v1043, v1048, c1_i32_500⟩
def k0_mult20 (v753 : BitVec 32) (k0_t9 : Fin (k0_t9_loop v753).trips) (v891 : BitVec 32) (k0_t10 : Fin (k0_t10_loop v753 k0_t9 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c1_i32_500 : BitVec 32 := 1#32
  let arg30 : BitVec 32 := Scf.iv v1043 c1_i32_500 k0_t10
  let c32_i32_502 : BitVec 32 := 32#32
  let v1049 : BitVec 32 := Scalar.muli arg30 c32_i32_502
  v1049
def k0_off39 (v753 : BitVec 32) (k0_t9 : Fin (k0_t9_loop v753).trips) (arg27 : BitVec 32) (v891 : BitVec 32) (k0_t10 : Fin (k0_t10_loop v753 k0_t9 v891).trips) : Fin 3 → Nat :=
  let v1052 : Index := Scalar.indexCast arg27
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c1_i32_500 : BitVec 32 := 1#32
  let arg30 : BitVec 32 := Scf.iv v1043 c1_i32_500 k0_t10
  let c32_i32_502 : BitVec 32 := 32#32
  let v1049 : BitVec 32 := Scalar.muli arg30 c32_i32_502
  let v1050 : BitVec 32 := v1049
  let v1053 : Index := Scalar.indexCast v1050
  let c0_504 : Index := 0#32
  ![v1052.toNat, v1053.toNat, 0]
@[reducible] def k0_t11_loop (v753 : BitVec 32) (k0_t9 : Fin (k0_t9_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let v1045 : BitVec 32 := Scalar.addi v1043 v1044
  let c1_i32_501 : BitVec 32 := 1#32
  ⟨v1048, v1045, c1_i32_501⟩
def k0_mult21 (v753 : BitVec 32) (k0_t9 : Fin (k0_t9_loop v753).trips) (v891 : BitVec 32) (k0_t11 : Fin (k0_t11_loop v753 k0_t9 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let c1_i32_501 : BitVec 32 := 1#32
  let arg30 : BitVec 32 := Scf.iv v1048 c1_i32_501 k0_t11
  let c32_i32_502 : BitVec 32 := 32#32
  let v1049 : BitVec 32 := Scalar.muli arg30 c32_i32_502
  v1049
def k0_off40 (v753 : BitVec 32) (k0_t9 : Fin (k0_t9_loop v753).trips) (arg27 : BitVec 32) (v891 : BitVec 32) (k0_t11 : Fin (k0_t11_loop v753 k0_t9 v891).trips) : Fin 3 → Nat :=
  let v1052 : Index := Scalar.indexCast arg27
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_492 : BitVec 32 := 0#32
  let v1028 : BitVec 1 := Scalar.cmpi .sgt v901 c0_i32_492
  let v1029 : BitVec 32 := Scalar.extui v1028
  let c0_i32_493 : BitVec 32 := 0#32
  let v1030 : BitVec 1 := Scalar.cmpi .slt v901 c0_i32_493
  let v1031 : BitVec 32 := Scalar.extui v1030
  let v1032 : BitVec 32 := Scalar.subi v1029 v1031
  let c32_i32_491 : BitVec 32 := 32#32
  let c0_i32_494 : BitVec 32 := 0#32
  let v1033 : BitVec 1 := Scalar.cmpi .sgt c32_i32_491 c0_i32_494
  let v1034 : BitVec 32 := Scalar.extui v1033
  let c0_i32_495 : BitVec 32 := 0#32
  let v1035 : BitVec 1 := Scalar.cmpi .slt c32_i32_491 c0_i32_495
  let v1036 : BitVec 32 := Scalar.extui v1035
  let v1037 : BitVec 32 := Scalar.subi v1034 v1036
  let v1038 : BitVec 1 := Scalar.cmpi .ne v1032 v1037
  let v1039 : BitVec 32 := Scalar.remsi v901 c32_i32_491
  let c0_i32_496 : BitVec 32 := 0#32
  let v1040 : BitVec 1 := Scalar.cmpi .ne v1039 c0_i32_496
  let v1041 : BitVec 1 := Scalar.andi v1038 v1040
  let v1027 : BitVec 32 := Scalar.divsi v901 c32_i32_491
  let c1_i32_497 : BitVec 32 := 1#32
  let v1042 : BitVec 32 := Scalar.subi v1027 c1_i32_497
  let v1043 : BitVec 32 := Scalar.select v1041 v1042 v1027
  let c2047_i32_489 : BitVec 32 := 2047#32
  let v1024 : BitVec 32 := Scalar.addi v901 c2047_i32_489
  let c2048_i32_490 : BitVec 32 := 2048#32
  let v1025 : BitVec 32 := Scalar.divsi v1024 c2048_i32_490
  let c64_i32 : BitVec 32 := 64#32
  let v1026 : BitVec 32 := Scalar.muli v1025 c64_i32
  let v1044 : BitVec 32 := Scalar.subi v1026 v1043
  let c1_i32_499 : BitVec 32 := 1#32
  let v1046 : BitVec 32 := Scalar.divsi v1044 c1_i32_499
  let v1047 : BitVec 32 := Scalar.muli v1046 c1_i32_499
  let v1048 : BitVec 32 := Scalar.addi v1043 v1047
  let c1_i32_501 : BitVec 32 := 1#32
  let arg30 : BitVec 32 := Scf.iv v1048 c1_i32_501 k0_t11
  let c32_i32_502 : BitVec 32 := 32#32
  let v1049 : BitVec 32 := Scalar.muli arg30 c32_i32_502
  let v1050 : BitVec 32 := v1049
  let v1053 : Index := Scalar.indexCast v1050
  let c0_504 : Index := 0#32
  ![v1052.toNat, v1053.toNat, 0]

def k0_chk19 (v753 : BitVec 32) (k0_t9 : Fin (k0_t9_loop v753).trips) (arg27 : BitVec 32) (v891 : BitVec 32) (v920 : BitVec 32) : Prop :=
  (∀ (k0_h5 : k0_cond5 v753 k0_t9 v920 = 1#1), 32 ∣ (k0_mult19 v753 k0_t9 v891).toNat) ∧
  (∀ (k0_h5 : k0_cond5 v753 k0_t9 v920 = 1#1), ∀ a, (k0_off38 v753 k0_t9 arg27 v891) a + S1x32x128.size a ≤ S12x4096x128.size a) ∧
  (∀ (k0_h5 : k0_cond5 v753 k0_t9 v920 = 1#1), ∀ (hinb : ∀ a, (k0_off38 v753 k0_t9 arg27 v891) a + S1x32x128.size a ≤ S12x4096x128.size a), (Rect.unit (s := S12x4096x128) (k0_off38 v753 k0_t9 arg27 v891) S1x32x128.size hinb).PackedRows (EltTy.packing .bf16)) ∧
  (∀ (k0_h5 : k0_cond5 v753 k0_t9 v920 = 1#1), (k0_t10_loop v753 k0_t9 v891).OK) ∧
  (∀ k0_t10 : Fin (k0_t10_loop v753 k0_t9 v891).trips, ∀ (k0_h5 : k0_cond5 v753 k0_t9 v920 = 1#1), 32 ∣ (k0_mult20 v753 k0_t9 v891 k0_t10).toNat) ∧
  (∀ k0_t10 : Fin (k0_t10_loop v753 k0_t9 v891).trips, ∀ (k0_h5 : k0_cond5 v753 k0_t9 v920 = 1#1), ∀ a, (k0_off39 v753 k0_t9 arg27 v891 k0_t10) a + S1x32x128.size a ≤ S12x4096x128.size a) ∧
  (∀ k0_t10 : Fin (k0_t10_loop v753 k0_t9 v891).trips, ∀ (k0_h5 : k0_cond5 v753 k0_t9 v920 = 1#1), ∀ (hinb : ∀ a, (k0_off39 v753 k0_t9 arg27 v891 k0_t10) a + S1x32x128.size a ≤ S12x4096x128.size a), (Rect.unit (s := S12x4096x128) (k0_off39 v753 k0_t9 arg27 v891 k0_t10) S1x32x128.size hinb).PackedRows (EltTy.packing .bf16)) ∧
  (∀ (k0_h5 : k0_cond5 v753 k0_t9 v920 = 1#1), (k0_t11_loop v753 k0_t9 v891).OK) ∧
  (∀ k0_t11 : Fin (k0_t11_loop v753 k0_t9 v891).trips, ∀ (k0_h5 : k0_cond5 v753 k0_t9 v920 = 1#1), 32 ∣ (k0_mult21 v753 k0_t9 v891 k0_t11).toNat) ∧
  (∀ k0_t11 : Fin (k0_t11_loop v753 k0_t9 v891).trips, ∀ (k0_h5 : k0_cond5 v753 k0_t9 v920 = 1#1), ∀ a, (k0_off40 v753 k0_t9 arg27 v891 k0_t11) a + S1x32x128.size a ≤ S12x4096x128.size a) ∧
  (∀ k0_t11 : Fin (k0_t11_loop v753 k0_t9 v891).trips, ∀ (k0_h5 : k0_cond5 v753 k0_t9 v920 = 1#1), ∀ (hinb : ∀ a, (k0_off40 v753 k0_t9 arg27 v891 k0_t11) a + S1x32x128.size a ≤ S12x4096x128.size a), (Rect.unit (s := S12x4096x128) (k0_off40 v753 k0_t9 arg27 v891 k0_t11) S1x32x128.size hinb).PackedRows (EltTy.packing .bf16))
theorem k0_mult19_dvd : ∀ (v753 : BitVec 32) (k0_t9 : Fin (k0_t9_loop v753).trips) (arg27 : BitVec 32) (v891 : BitVec 32) (v920 : BitVec 32) (k0_hw19 : k0_chk19 v753 k0_t9 arg27 v891 v920), ∀ (k0_h5 : k0_cond5 v753 k0_t9 v920 = 1#1), 32 ∣ (k0_mult19 v753 k0_t9 v891).toNat := fun v753 k0_t9 arg27 v891 v920 k0_hw19 k0_h5 => k0_hw19.1 k0_h5
theorem k0_off38_inb : ∀ (v753 : BitVec 32) (k0_t9 : Fin (k0_t9_loop v753).trips) (arg27 : BitVec 32) (v891 : BitVec 32) (v920 : BitVec 32) (k0_hw19 : k0_chk19 v753 k0_t9 arg27 v891 v920), ∀ (k0_h5 : k0_cond5 v753 k0_t9 v920 = 1#1), ∀ a, (k0_off38 v753 k0_t9 arg27 v891) a + S1x32x128.size a ≤ S12x4096x128.size a := fun v753 k0_t9 arg27 v891 v920 k0_hw19 k0_h5 => k0_hw19.2.1 k0_h5
theorem k0_off38_packedbf16 : ∀ (v753 : BitVec 32) (k0_t9 : Fin (k0_t9_loop v753).trips) (arg27 : BitVec 32) (v891 : BitVec 32) (v920 : BitVec 32) (k0_hw19 : k0_chk19 v753 k0_t9 arg27 v891 v920), ∀ (k0_h5 : k0_cond5 v753 k0_t9 v920 = 1#1), (Rect.unit (s := S12x4096x128) (k0_off38 v753 k0_t9 arg27 v891) S1x32x128.size (k0_off38_inb v753 k0_t9 arg27 v891 v920 k0_hw19 k0_h5)).PackedRows (EltTy.packing .bf16) := fun v753 k0_t9 arg27 v891 v920 k0_hw19 k0_h5 => k0_hw19.2.2.1 k0_h5 (k0_off38_inb v753 k0_t9 arg27 v891 v920 k0_hw19 k0_h5)
theorem k0_t10_ok : ∀ (v753 : BitVec 32) (k0_t9 : Fin (k0_t9_loop v753).trips) (arg27 : BitVec 32) (v891 : BitVec 32) (v920 : BitVec 32) (k0_hw19 : k0_chk19 v753 k0_t9 arg27 v891 v920), ∀ (k0_h5 : k0_cond5 v753 k0_t9 v920 = 1#1), (k0_t10_loop v753 k0_t9 v891).OK := fun v753 k0_t9 arg27 v891 v920 k0_hw19 k0_h5 => k0_hw19.2.2.2.1 k0_h5
theorem k0_mult20_dvd : ∀ (v753 : BitVec 32) (k0_t9 : Fin (k0_t9_loop v753).trips) (arg27 : BitVec 32) (v891 : BitVec 32) (v920 : BitVec 32) (k0_hw19 : k0_chk19 v753 k0_t9 arg27 v891 v920) (k0_t10 : Fin (k0_t10_loop v753 k0_t9 v891).trips), ∀ (k0_h5 : k0_cond5 v753 k0_t9 v920 = 1#1), 32 ∣ (k0_mult20 v753 k0_t9 v891 k0_t10).toNat := fun v753 k0_t9 arg27 v891 v920 k0_hw19 k0_t10 k0_h5 => k0_hw19.2.2.2.2.1 k0_t10 k0_h5
theorem k0_off39_inb : ∀ (v753 : BitVec 32) (k0_t9 : Fin (k0_t9_loop v753).trips) (arg27 : BitVec 32) (v891 : BitVec 32) (v920 : BitVec 32) (k0_hw19 : k0_chk19 v753 k0_t9 arg27 v891 v920) (k0_t10 : Fin (k0_t10_loop v753 k0_t9 v891).trips), ∀ (k0_h5 : k0_cond5 v753 k0_t9 v920 = 1#1), ∀ a, (k0_off39 v753 k0_t9 arg27 v891 k0_t10) a + S1x32x128.size a ≤ S12x4096x128.size a := fun v753 k0_t9 arg27 v891 v920 k0_hw19 k0_t10 k0_h5 => k0_hw19.2.2.2.2.2.1 k0_t10 k0_h5
theorem k0_off39_packedbf16 : ∀ (v753 : BitVec 32) (k0_t9 : Fin (k0_t9_loop v753).trips) (arg27 : BitVec 32) (v891 : BitVec 32) (v920 : BitVec 32) (k0_hw19 : k0_chk19 v753 k0_t9 arg27 v891 v920) (k0_t10 : Fin (k0_t10_loop v753 k0_t9 v891).trips), ∀ (k0_h5 : k0_cond5 v753 k0_t9 v920 = 1#1), (Rect.unit (s := S12x4096x128) (k0_off39 v753 k0_t9 arg27 v891 k0_t10) S1x32x128.size (k0_off39_inb v753 k0_t9 arg27 v891 v920 k0_hw19 k0_t10 k0_h5)).PackedRows (EltTy.packing .bf16) := fun v753 k0_t9 arg27 v891 v920 k0_hw19 k0_t10 k0_h5 => k0_hw19.2.2.2.2.2.2.1 k0_t10 k0_h5 (k0_off39_inb v753 k0_t9 arg27 v891 v920 k0_hw19 k0_t10 k0_h5)
theorem k0_t11_ok : ∀ (v753 : BitVec 32) (k0_t9 : Fin (k0_t9_loop v753).trips) (arg27 : BitVec 32) (v891 : BitVec 32) (v920 : BitVec 32) (k0_hw19 : k0_chk19 v753 k0_t9 arg27 v891 v920), ∀ (k0_h5 : k0_cond5 v753 k0_t9 v920 = 1#1), (k0_t11_loop v753 k0_t9 v891).OK := fun v753 k0_t9 arg27 v891 v920 k0_hw19 k0_h5 => k0_hw19.2.2.2.2.2.2.2.1 k0_h5
theorem k0_mult21_dvd : ∀ (v753 : BitVec 32) (k0_t9 : Fin (k0_t9_loop v753).trips) (arg27 : BitVec 32) (v891 : BitVec 32) (v920 : BitVec 32) (k0_hw19 : k0_chk19 v753 k0_t9 arg27 v891 v920) (k0_t11 : Fin (k0_t11_loop v753 k0_t9 v891).trips), ∀ (k0_h5 : k0_cond5 v753 k0_t9 v920 = 1#1), 32 ∣ (k0_mult21 v753 k0_t9 v891 k0_t11).toNat := fun v753 k0_t9 arg27 v891 v920 k0_hw19 k0_t11 k0_h5 => k0_hw19.2.2.2.2.2.2.2.2.1 k0_t11 k0_h5
theorem k0_off40_inb : ∀ (v753 : BitVec 32) (k0_t9 : Fin (k0_t9_loop v753).trips) (arg27 : BitVec 32) (v891 : BitVec 32) (v920 : BitVec 32) (k0_hw19 : k0_chk19 v753 k0_t9 arg27 v891 v920) (k0_t11 : Fin (k0_t11_loop v753 k0_t9 v891).trips), ∀ (k0_h5 : k0_cond5 v753 k0_t9 v920 = 1#1), ∀ a, (k0_off40 v753 k0_t9 arg27 v891 k0_t11) a + S1x32x128.size a ≤ S12x4096x128.size a := fun v753 k0_t9 arg27 v891 v920 k0_hw19 k0_t11 k0_h5 => k0_hw19.2.2.2.2.2.2.2.2.2.1 k0_t11 k0_h5
theorem k0_off40_packedbf16 : ∀ (v753 : BitVec 32) (k0_t9 : Fin (k0_t9_loop v753).trips) (arg27 : BitVec 32) (v891 : BitVec 32) (v920 : BitVec 32) (k0_hw19 : k0_chk19 v753 k0_t9 arg27 v891 v920) (k0_t11 : Fin (k0_t11_loop v753 k0_t9 v891).trips), ∀ (k0_h5 : k0_cond5 v753 k0_t9 v920 = 1#1), (Rect.unit (s := S12x4096x128) (k0_off40 v753 k0_t9 arg27 v891 k0_t11) S1x32x128.size (k0_off40_inb v753 k0_t9 arg27 v891 v920 k0_hw19 k0_t11 k0_h5)).PackedRows (EltTy.packing .bf16) := fun v753 k0_t9 arg27 v891 v920 k0_hw19 k0_t11 k0_h5 => k0_hw19.2.2.2.2.2.2.2.2.2.2 k0_t11 k0_h5 (k0_off40_inb v753 k0_t9 arg27 v891 v920 k0_hw19 k0_t11 k0_h5)

def k0_off41 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_444 : BitVec 32 := 0#32
  let v929 : BitVec 1 := Scalar.cmpi .sgt arg18 c0_i32_444
  let v930 : BitVec 32 := Scalar.extui v929
  let c0_i32_445 : BitVec 32 := 0#32
  let v931 : BitVec 1 := Scalar.cmpi .slt arg18 c0_i32_445
  let v932 : BitVec 32 := Scalar.extui v931
  let v933 : BitVec 32 := Scalar.subi v930 v932
  let c10_i32_443 : BitVec 32 := 10#32
  let c0_i32_446 : BitVec 32 := 0#32
  let v934 : BitVec 1 := Scalar.cmpi .sgt c10_i32_443 c0_i32_446
  let v935 : BitVec 32 := Scalar.extui v934
  let c0_i32_447 : BitVec 32 := 0#32
  let v936 : BitVec 1 := Scalar.cmpi .slt c10_i32_443 c0_i32_447
  let v937 : BitVec 32 := Scalar.extui v936
  let v938 : BitVec 32 := Scalar.subi v935 v937
  let v939 : BitVec 1 := Scalar.cmpi .ne v933 v938
  let v940 : BitVec 32 := Scalar.remsi arg18 c10_i32_443
  let c0_i32_448 : BitVec 32 := 0#32
  let v941 : BitVec 1 := Scalar.cmpi .ne v940 c0_i32_448
  let v942 : BitVec 1 := Scalar.andi v939 v941
  let v928 : BitVec 32 := Scalar.divsi arg18 c10_i32_443
  let c1_i32_449 : BitVec 32 := 1#32
  let v943 : BitVec 32 := Scalar.subi v928 c1_i32_449
  let v944 : BitVec 32 := Scalar.select v942 v943 v928
  let v945 : Index := Scalar.indexCast v944
  ![v945.toNat]
def k0_mult22 (v753 : BitVec 32) (k0_t9 : Fin (k0_t9_loop v753).trips) (v946 : BitVec 32) : BitVec 32 :=
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  v955

@[reducible] def k0_t12_loop (v753 : BitVec 32) (k0_t9 : Fin (k0_t9_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_460 : BitVec 32 := 1#32
  ⟨c0_i32_458, v963, c1_i32_460⟩
def k0_mult23 (v753 : BitVec 32) (k0_t9 : Fin (k0_t9_loop v753).trips) (v946 : BitVec 32) (k0_t12 : Fin (k0_t12_loop v753 k0_t9 v946).trips) : BitVec 32 :=
  let c0_i32_458 : BitVec 32 := 0#32
  let c1_i32_460 : BitVec 32 := 1#32
  let arg30 : BitVec 32 := Scf.iv c0_i32_458 c1_i32_460 k0_t12
  let c2048_i32_484 : BitVec 32 := 2048#32
  let v1004 : BitVec 32 := Scalar.muli arg30 c2048_i32_484
  v1004
def k0_off42 (v753 : BitVec 32) (k0_t9 : Fin (k0_t9_loop v753).trips) (arg27 : BitVec 32) (v946 : BitVec 32) (k0_t12 : Fin (k0_t12_loop v753 k0_t9 v946).trips) : Fin 3 → Nat :=
  let v1006 : Index := Scalar.indexCast arg27
  let c0_i32_458 : BitVec 32 := 0#32
  let c1_i32_460 : BitVec 32 := 1#32
  let arg30 : BitVec 32 := Scf.iv c0_i32_458 c1_i32_460 k0_t12
  let c2048_i32_484 : BitVec 32 := 2048#32
  let v1004 : BitVec 32 := Scalar.muli arg30 c2048_i32_484
  let v1005 : BitVec 32 := v1004
  let v1007 : Index := Scalar.indexCast v1005
  let c0_485 : Index := 0#32
  ![v1006.toNat, v1007.toNat, 0]
def k0_off43 (v753 : BitVec 32) (k0_t9 : Fin (k0_t9_loop v753).trips) (v946 : BitVec 32) (k0_t12 : Fin (k0_t12_loop v753 k0_t9 v946).trips) : Fin 3 → Nat :=
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c2_i32 : BitVec 32 := 2#32
  let v1032 : BitVec 32 := Scalar.muli arg25 c2_i32
  let c0_i32_458 : BitVec 32 := 0#32
  let c1_i32_460 : BitVec 32 := 1#32
  let arg30 : BitVec 32 := Scf.iv c0_i32_458 c1_i32_460 k0_t12
  let v1033 : BitVec 32 := Scalar.addi v1032 arg30
  let v1034 : Index := Scalar.indexCast v1033
  let c0_493 : Index := 0#32
  let c0_494 : Index := 0#32
  ![v1034.toNat, 0, 0]
@[reducible] def k0_t13_loop (v753 : BitVec 32) (k0_t9 : Fin (k0_t9_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let v960 : BitVec 32 := Scalar.addi c0_i32_458 v959
  let c1_i32_461 : BitVec 32 := 1#32
  ⟨v963, v960, c1_i32_461⟩
def k0_mult24 (v753 : BitVec 32) (k0_t9 : Fin (k0_t9_loop v753).trips) (v946 : BitVec 32) (k0_t13 : Fin (k0_t13_loop v753 k0_t9 v946).trips) : BitVec 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg30 : BitVec 32 := Scf.iv v963 c1_i32_461 k0_t13
  let c2048_i32_484 : BitVec 32 := 2048#32
  let v1004 : BitVec 32 := Scalar.muli arg30 c2048_i32_484
  v1004
def k0_off44 (v753 : BitVec 32) (k0_t9 : Fin (k0_t9_loop v753).trips) (arg27 : BitVec 32) (v946 : BitVec 32) (k0_t13 : Fin (k0_t13_loop v753 k0_t9 v946).trips) : Fin 3 → Nat :=
  let v1006 : Index := Scalar.indexCast arg27
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg30 : BitVec 32 := Scf.iv v963 c1_i32_461 k0_t13
  let c2048_i32_484 : BitVec 32 := 2048#32
  let v1004 : BitVec 32 := Scalar.muli arg30 c2048_i32_484
  let v1005 : BitVec 32 := v1004
  let v1007 : Index := Scalar.indexCast v1005
  let c0_485 : Index := 0#32
  ![v1006.toNat, v1007.toNat, 0]
def k0_off45 (v753 : BitVec 32) (k0_t9 : Fin (k0_t9_loop v753).trips) (v946 : BitVec 32) (k0_t13 : Fin (k0_t13_loop v753 k0_t9 v946).trips) : Fin 3 → Nat :=
  let c0_i32_372 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v763 : BitVec 32 := Scalar.subi v758 c0_i32_372
  let c1_i32_373 : BitVec 32 := 1#32
  let v765 : BitVec 32 := Scalar.divsi v763 c1_i32_373
  let v766 : BitVec 32 := Scalar.muli v765 c1_i32_373
  let v767 : BitVec 32 := Scalar.addi c0_i32_372 v766
  let c1_i32_375 : BitVec 32 := 1#32
  let arg25 : BitVec 32 := Scf.iv v767 c1_i32_375 k0_t9
  let c2_i32 : BitVec 32 := 2#32
  let v1032 : BitVec 32 := Scalar.muli arg25 c2_i32
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg30 : BitVec 32 := Scf.iv v963 c1_i32_461 k0_t13
  let v1033 : BitVec 32 := Scalar.addi v1032 arg30
  let v1034 : Index := Scalar.indexCast v1033
  let c0_493 : Index := 0#32
  let c0_494 : Index := 0#32
  ![v1034.toNat, 0, 0]

def k0_chk20 (v753 : BitVec 32) (k0_t9 : Fin (k0_t9_loop v753).trips) (arg27 : BitVec 32) (v946 : BitVec 32) : Prop :=
  (32 ∣ (k0_mult22 v753 k0_t9 v946).toNat) ∧
  ((k0_t12_loop v753 k0_t9 v946).OK) ∧
  (∀ k0_t12 : Fin (k0_t12_loop v753 k0_t9 v946).trips, 2048 ∣ (k0_mult23 v753 k0_t9 v946 k0_t12).toNat) ∧
  (∀ k0_t12 : Fin (k0_t12_loop v753 k0_t9 v946).trips, ∀ a, (k0_off42 v753 k0_t9 arg27 v946 k0_t12) a + S1x2048x128.size a ≤ S12x4096x128.size a) ∧
  (∀ k0_t12 : Fin (k0_t12_loop v753 k0_t9 v946).trips, ∀ a, (k0_off43 v753 k0_t9 v946 k0_t12) a + S1x8x2048.size a ≤ S32x8x2048.size a) ∧
  ((k0_t13_loop v753 k0_t9 v946).OK) ∧
  (∀ k0_t13 : Fin (k0_t13_loop v753 k0_t9 v946).trips, 2048 ∣ (k0_mult24 v753 k0_t9 v946 k0_t13).toNat) ∧
  (∀ k0_t13 : Fin (k0_t13_loop v753 k0_t9 v946).trips, ∀ a, (k0_off44 v753 k0_t9 arg27 v946 k0_t13) a + S1x2048x128.size a ≤ S12x4096x128.size a) ∧
  (∀ k0_t13 : Fin (k0_t13_loop v753 k0_t9 v946).trips, ∀ a, (k0_off45 v753 k0_t9 v946 k0_t13) a + S1x8x2048.size a ≤ S32x8x2048.size a)
theorem k0_mult22_dvd : ∀ (v753 : BitVec 32) (k0_t9 : Fin (k0_t9_loop v753).trips) (arg27 : BitVec 32) (v946 : BitVec 32) (k0_hw20 : k0_chk20 v753 k0_t9 arg27 v946), 32 ∣ (k0_mult22 v753 k0_t9 v946).toNat := fun v753 k0_t9 arg27 v946 k0_hw20 => k0_hw20.1
theorem k0_t12_ok : ∀ (v753 : BitVec 32) (k0_t9 : Fin (k0_t9_loop v753).trips) (arg27 : BitVec 32) (v946 : BitVec 32) (k0_hw20 : k0_chk20 v753 k0_t9 arg27 v946), (k0_t12_loop v753 k0_t9 v946).OK := fun v753 k0_t9 arg27 v946 k0_hw20 => k0_hw20.2.1
theorem k0_mult23_dvd : ∀ (v753 : BitVec 32) (k0_t9 : Fin (k0_t9_loop v753).trips) (arg27 : BitVec 32) (v946 : BitVec 32) (k0_hw20 : k0_chk20 v753 k0_t9 arg27 v946) (k0_t12 : Fin (k0_t12_loop v753 k0_t9 v946).trips), 2048 ∣ (k0_mult23 v753 k0_t9 v946 k0_t12).toNat := fun v753 k0_t9 arg27 v946 k0_hw20 k0_t12 => k0_hw20.2.2.1 k0_t12
theorem k0_off42_inb : ∀ (v753 : BitVec 32) (k0_t9 : Fin (k0_t9_loop v753).trips) (arg27 : BitVec 32) (v946 : BitVec 32) (k0_hw20 : k0_chk20 v753 k0_t9 arg27 v946) (k0_t12 : Fin (k0_t12_loop v753 k0_t9 v946).trips), ∀ a, (k0_off42 v753 k0_t9 arg27 v946 k0_t12) a + S1x2048x128.size a ≤ S12x4096x128.size a := fun v753 k0_t9 arg27 v946 k0_hw20 k0_t12 => k0_hw20.2.2.2.1 k0_t12
theorem k0_off43_inb : ∀ (v753 : BitVec 32) (k0_t9 : Fin (k0_t9_loop v753).trips) (arg27 : BitVec 32) (v946 : BitVec 32) (k0_hw20 : k0_chk20 v753 k0_t9 arg27 v946) (k0_t12 : Fin (k0_t12_loop v753 k0_t9 v946).trips), ∀ a, (k0_off43 v753 k0_t9 v946 k0_t12) a + S1x8x2048.size a ≤ S32x8x2048.size a := fun v753 k0_t9 arg27 v946 k0_hw20 k0_t12 => k0_hw20.2.2.2.2.1 k0_t12
theorem k0_t13_ok : ∀ (v753 : BitVec 32) (k0_t9 : Fin (k0_t9_loop v753).trips) (arg27 : BitVec 32) (v946 : BitVec 32) (k0_hw20 : k0_chk20 v753 k0_t9 arg27 v946), (k0_t13_loop v753 k0_t9 v946).OK := fun v753 k0_t9 arg27 v946 k0_hw20 => k0_hw20.2.2.2.2.2.1
theorem k0_mult24_dvd : ∀ (v753 : BitVec 32) (k0_t9 : Fin (k0_t9_loop v753).trips) (arg27 : BitVec 32) (v946 : BitVec 32) (k0_hw20 : k0_chk20 v753 k0_t9 arg27 v946) (k0_t13 : Fin (k0_t13_loop v753 k0_t9 v946).trips), 2048 ∣ (k0_mult24 v753 k0_t9 v946 k0_t13).toNat := fun v753 k0_t9 arg27 v946 k0_hw20 k0_t13 => k0_hw20.2.2.2.2.2.2.1 k0_t13
theorem k0_off44_inb : ∀ (v753 : BitVec 32) (k0_t9 : Fin (k0_t9_loop v753).trips) (arg27 : BitVec 32) (v946 : BitVec 32) (k0_hw20 : k0_chk20 v753 k0_t9 arg27 v946) (k0_t13 : Fin (k0_t13_loop v753 k0_t9 v946).trips), ∀ a, (k0_off44 v753 k0_t9 arg27 v946 k0_t13) a + S1x2048x128.size a ≤ S12x4096x128.size a := fun v753 k0_t9 arg27 v946 k0_hw20 k0_t13 => k0_hw20.2.2.2.2.2.2.2.1 k0_t13
theorem k0_off45_inb : ∀ (v753 : BitVec 32) (k0_t9 : Fin (k0_t9_loop v753).trips) (arg27 : BitVec 32) (v946 : BitVec 32) (k0_hw20 : k0_chk20 v753 k0_t9 arg27 v946) (k0_t13 : Fin (k0_t13_loop v753 k0_t9 v946).trips), ∀ a, (k0_off45 v753 k0_t9 v946 k0_t13) a + S1x8x2048.size a ≤ S32x8x2048.size a := fun v753 k0_t9 arg27 v946 k0_hw20 k0_t13 => k0_hw20.2.2.2.2.2.2.2.2 k0_t13

def k0_off46 (arg28 : BitVec 32) : Fin 1 → Nat :=
  let c0_i32_485 : BitVec 32 := 0#32
  let v1005 : BitVec 1 := Scalar.cmpi .sgt arg28 c0_i32_485
  let v1006 : BitVec 32 := Scalar.extui v1005
  let c0_i32_486 : BitVec 32 := 0#32
  let v1007 : BitVec 1 := Scalar.cmpi .slt arg28 c0_i32_486
  let v1008 : BitVec 32 := Scalar.extui v1007
  let v1009 : BitVec 32 := Scalar.subi v1006 v1008
  let c10_i32_484 : BitVec 32 := 10#32
  let c0_i32_487 : BitVec 32 := 0#32
  let v1010 : BitVec 1 := Scalar.cmpi .sgt c10_i32_484 c0_i32_487
  let v1011 : BitVec 32 := Scalar.extui v1010
  let c0_i32_488 : BitVec 32 := 0#32
  let v1012 : BitVec 1 := Scalar.cmpi .slt c10_i32_484 c0_i32_488
  let v1013 : BitVec 32 := Scalar.extui v1012
  let v1014 : BitVec 32 := Scalar.subi v1011 v1013
  let v1015 : BitVec 1 := Scalar.cmpi .ne v1009 v1014
  let v1016 : BitVec 32 := Scalar.remsi arg28 c10_i32_484
  let c0_i32_489 : BitVec 32 := 0#32
  let v1017 : BitVec 1 := Scalar.cmpi .ne v1016 c0_i32_489
  let v1018 : BitVec 1 := Scalar.andi v1015 v1017
  let v1004 : BitVec 32 := Scalar.divsi arg28 c10_i32_484
  let c1_i32_490 : BitVec 32 := 1#32
  let v1019 : BitVec 32 := Scalar.subi v1004 c1_i32_490
  let v1020 : BitVec 32 := Scalar.select v1018 v1019 v1004
  let v1021 : Index := Scalar.indexCast v1020
  ![v1021.toNat]
def k0_cond6 (arg28 : BitVec 32) : BitVec 1 :=
  let c20_i32_462 : BitVec 32 := 20#32
  let v966 : BitVec 1 := Scalar.cmpi .slt arg28 c20_i32_462
  let v967 : BitVec 32 := Scalar.extui v966
  let c0_i32_463 : BitVec 32 := 0#32
  let v968 : BitVec 1 := Scalar.cmpi .ne v967 c0_i32_463
  v968

def k0_mult25 (arg29 : BitVec 32) (v1022 : BitVec 32) : BitVec 32 :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  v1031

def k0_mult26 (arg29 : BitVec 32) : BitVec 32 :=
  let c4096_i32_499 : BitVec 32 := 4096#32
  let v1033 : BitVec 32 := Scalar.muli arg29 c4096_i32_499
  v1033

def k0_chk23 (arg28 : BitVec 32) (arg29 : BitVec 32) : Prop :=
  (∀ (k0_h6 : k0_cond6 arg28 = 1#1), 4096 ∣ (k0_mult26 arg29).toNat)
theorem k0_mult26_dvd : ∀ (arg28 : BitVec 32) (arg29 : BitVec 32) (k0_hw23 : k0_chk23 arg28 arg29), ∀ (k0_h6 : k0_cond6 arg28 = 1#1), 4096 ∣ (k0_mult26 arg29).toNat := fun arg28 arg29 k0_hw23 k0_h6 => k0_hw23 k0_h6

def k0_off47 (arg27 : BitVec 32) : Fin 1 → Nat :=
  ![arg27.toNat]
def k0_off48 (arg27 : BitVec 32) (arg29 : BitVec 32) (v1022 : BitVec 32) : (Fin 3 → Nat) × (Fin 3 → Nat) :=
  let c0_i32_500 : BitVec 32 := 0#32
  let c0_i32_501 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg27.toNat, 0, 0], ![1, v1032.toNat, 128]⟩
def k0_sz11 (arg29 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]
def k0_off49 (arg28 : BitVec 32) (arg29 : BitVec 32) (v1022 : BitVec 32) : (Fin 3 → Nat) × (Fin 3 → Nat) :=
  let c4096_i32_499 : BitVec 32 := 4096#32
  let v1033 : BitVec 32 := Scalar.muli arg29 c4096_i32_499
  let v1034 : BitVec 32 := v1033
  let c0_i32_502 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg28.toNat, v1034.toNat, 0], ![1, v1032.toNat, 128]⟩
def k0_sz12 (arg29 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg29 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]

def k0_chk22 (arg27 : BitVec 32) (arg28 : BitVec 32) (arg29 : BitVec 32) (v1022 : BitVec 32) : Prop :=
  (∀ (k0_h6 : k0_cond6 arg28 = 1#1), 32 ∣ (k0_mult25 arg29 v1022).toNat) ∧
  (∀ (k0_h6 : k0_cond6 arg28 = 1#1), ∀ a, (k0_off48 arg27 arg29 v1022).2 a = 0 ∨ (k0_off48 arg27 arg29 v1022).1 a + (k0_off48 arg27 arg29 v1022).2 a ≤ S12x4096x128.size a) ∧
  (∀ (k0_h6 : k0_cond6 arg28 = 1#1), (⟨3, (k0_off48 arg27 arg29 v1022).2⟩ : Shape).Squeezes ⟨2, k0_sz11 arg29 v1022⟩) ∧
  (∀ (k0_h6 : k0_cond6 arg28 = 1#1), ∀ a, (k0_off49 arg28 arg29 v1022).2 a = 0 ∨ (k0_off49 arg28 arg29 v1022).1 a + (k0_off49 arg28 arg29 v1022).2 a ≤ S20x65536x128.size a) ∧
  (∀ (k0_h6 : k0_cond6 arg28 = 1#1), (⟨3, (k0_off49 arg28 arg29 v1022).2⟩ : Shape).Squeezes ⟨2, k0_sz12 arg29 v1022⟩) ∧
  (∀ (k0_h6 : k0_cond6 arg28 = 1#1), ∀ (hinb : ∀ a, (k0_off49 arg28 arg29 v1022).2 a = 0 ∨ (k0_off49 arg28 arg29 v1022).1 a + (k0_off49 arg28 arg29 v1022).2 a ≤ S20x65536x128.size a), (Rect.unitDyn (s := S20x65536x128) (k0_off49 arg28 arg29 v1022).1 (k0_off49 arg28 arg29 v1022).2 hinb).WholeWords (EltTy.packing .bf16)) ∧
  (∀ (k0_h6 : k0_cond6 arg28 = 1#1), ∀ (hinb : ∀ a, (k0_off48 arg27 arg29 v1022).2 a = 0 ∨ (k0_off48 arg27 arg29 v1022).1 a + (k0_off48 arg27 arg29 v1022).2 a ≤ S12x4096x128.size a), (Rect.unitDyn (s := S12x4096x128) (k0_off48 arg27 arg29 v1022).1 (k0_off48 arg27 arg29 v1022).2 hinb).WholeWords (EltTy.packing .bf16))
theorem k0_mult25_dvd : ∀ (arg27 : BitVec 32) (arg28 : BitVec 32) (arg29 : BitVec 32) (v1022 : BitVec 32) (k0_hw22 : k0_chk22 arg27 arg28 arg29 v1022), ∀ (k0_h6 : k0_cond6 arg28 = 1#1), 32 ∣ (k0_mult25 arg29 v1022).toNat := fun arg27 arg28 arg29 v1022 k0_hw22 k0_h6 => k0_hw22.1 k0_h6
theorem k0_off48_inb : ∀ (arg27 : BitVec 32) (arg28 : BitVec 32) (arg29 : BitVec 32) (v1022 : BitVec 32) (k0_hw22 : k0_chk22 arg27 arg28 arg29 v1022), ∀ (k0_h6 : k0_cond6 arg28 = 1#1), ∀ a, (k0_off48 arg27 arg29 v1022).2 a = 0 ∨ (k0_off48 arg27 arg29 v1022).1 a + (k0_off48 arg27 arg29 v1022).2 a ≤ S12x4096x128.size a := fun arg27 arg28 arg29 v1022 k0_hw22 k0_h6 => k0_hw22.2.1 k0_h6
theorem k0_sz11_squeezes : ∀ (arg27 : BitVec 32) (arg28 : BitVec 32) (arg29 : BitVec 32) (v1022 : BitVec 32) (k0_hw22 : k0_chk22 arg27 arg28 arg29 v1022), ∀ (k0_h6 : k0_cond6 arg28 = 1#1), (⟨3, (k0_off48 arg27 arg29 v1022).2⟩ : Shape).Squeezes ⟨2, k0_sz11 arg29 v1022⟩ := fun arg27 arg28 arg29 v1022 k0_hw22 k0_h6 => k0_hw22.2.2.1 k0_h6
theorem k0_off49_inb : ∀ (arg27 : BitVec 32) (arg28 : BitVec 32) (arg29 : BitVec 32) (v1022 : BitVec 32) (k0_hw22 : k0_chk22 arg27 arg28 arg29 v1022), ∀ (k0_h6 : k0_cond6 arg28 = 1#1), ∀ a, (k0_off49 arg28 arg29 v1022).2 a = 0 ∨ (k0_off49 arg28 arg29 v1022).1 a + (k0_off49 arg28 arg29 v1022).2 a ≤ S20x65536x128.size a := fun arg27 arg28 arg29 v1022 k0_hw22 k0_h6 => k0_hw22.2.2.2.1 k0_h6
theorem k0_sz12_squeezes : ∀ (arg27 : BitVec 32) (arg28 : BitVec 32) (arg29 : BitVec 32) (v1022 : BitVec 32) (k0_hw22 : k0_chk22 arg27 arg28 arg29 v1022), ∀ (k0_h6 : k0_cond6 arg28 = 1#1), (⟨3, (k0_off49 arg28 arg29 v1022).2⟩ : Shape).Squeezes ⟨2, k0_sz12 arg29 v1022⟩ := fun arg27 arg28 arg29 v1022 k0_hw22 k0_h6 => k0_hw22.2.2.2.2.1 k0_h6
theorem k0_off49_wordsbf16 : ∀ (arg27 : BitVec 32) (arg28 : BitVec 32) (arg29 : BitVec 32) (v1022 : BitVec 32) (k0_hw22 : k0_chk22 arg27 arg28 arg29 v1022), ∀ (k0_h6 : k0_cond6 arg28 = 1#1), (Rect.unitDyn (s := S20x65536x128) (k0_off49 arg28 arg29 v1022).1 (k0_off49 arg28 arg29 v1022).2 (k0_off49_inb arg27 arg28 arg29 v1022 k0_hw22 k0_h6)).WholeWords (EltTy.packing .bf16) := fun arg27 arg28 arg29 v1022 k0_hw22 k0_h6 => k0_hw22.2.2.2.2.2.1 k0_h6 (k0_off49_inb arg27 arg28 arg29 v1022 k0_hw22 k0_h6)
theorem k0_off48_wordsbf16 : ∀ (arg27 : BitVec 32) (arg28 : BitVec 32) (arg29 : BitVec 32) (v1022 : BitVec 32) (k0_hw22 : k0_chk22 arg27 arg28 arg29 v1022), ∀ (k0_h6 : k0_cond6 arg28 = 1#1), (Rect.unitDyn (s := S12x4096x128) (k0_off48 arg27 arg29 v1022).1 (k0_off48 arg27 arg29 v1022).2 (k0_off48_inb arg27 arg28 arg29 v1022 k0_hw22 k0_h6)).WholeWords (EltTy.packing .bf16) := fun arg27 arg28 arg29 v1022 k0_hw22 k0_h6 => k0_hw22.2.2.2.2.2.2 k0_h6 (k0_off48_inb arg27 arg28 arg29 v1022 k0_hw22 k0_h6)

def k0_off50 (arg28 : BitVec 32) : Fin 1 → Nat :=
  let c19_i32 : BitVec 32 := 19#32
  let v970 : BitVec 32 := Scalar.minsi arg28 c19_i32
  let c0_i32_466 : BitVec 32 := 0#32
  let v972 : BitVec 1 := Scalar.cmpi .sgt v970 c0_i32_466
  let v973 : BitVec 32 := Scalar.extui v972
  let c0_i32_467 : BitVec 32 := 0#32
  let v974 : BitVec 1 := Scalar.cmpi .slt v970 c0_i32_467
  let v975 : BitVec 32 := Scalar.extui v974
  let v976 : BitVec 32 := Scalar.subi v973 v975
  let c10_i32_465 : BitVec 32 := 10#32
  let c0_i32_468 : BitVec 32 := 0#32
  let v977 : BitVec 1 := Scalar.cmpi .sgt c10_i32_465 c0_i32_468
  let v978 : BitVec 32 := Scalar.extui v977
  let c0_i32_469 : BitVec 32 := 0#32
  let v979 : BitVec 1 := Scalar.cmpi .slt c10_i32_465 c0_i32_469
  let v980 : BitVec 32 := Scalar.extui v979
  let v981 : BitVec 32 := Scalar.subi v978 v980
  let v982 : BitVec 1 := Scalar.cmpi .ne v976 v981
  let v983 : BitVec 32 := Scalar.remsi v970 c10_i32_465
  let c0_i32_470 : BitVec 32 := 0#32
  let v984 : BitVec 1 := Scalar.cmpi .ne v983 c0_i32_470
  let v985 : BitVec 1 := Scalar.andi v982 v984
  let v971 : BitVec 32 := Scalar.divsi v970 c10_i32_465
  let c1_i32_471 : BitVec 32 := 1#32
  let v986 : BitVec 32 := Scalar.subi v971 c1_i32_471
  let v987 : BitVec 32 := Scalar.select v985 v986 v971
  let v988 : Index := Scalar.indexCast v987
  ![v988.toNat]

def k0_chk21 (arg27 : BitVec 32) (arg28 : BitVec 32) : Prop :=
  (∀ (k0_h6 : k0_cond6 arg28 = 1#1), ∀ a, (k0_off46 arg28) a + S1.size a ≤ S2.size a) ∧
  (∀ (k0_h6 : k0_cond6 arg28 = 1#1), ∀ a, (k0_off47 arg27) a + S1.size a ≤ S12.size a) ∧
  (∀ a, (k0_off50 arg28) a + S1.size a ≤ S2.size a)
theorem k0_off46_inb : ∀ (arg27 : BitVec 32) (arg28 : BitVec 32) (k0_hw21 : k0_chk21 arg27 arg28), ∀ (k0_h6 : k0_cond6 arg28 = 1#1), ∀ a, (k0_off46 arg28) a + S1.size a ≤ S2.size a := fun arg27 arg28 k0_hw21 k0_h6 => k0_hw21.1 k0_h6
theorem k0_off47_inb : ∀ (arg27 : BitVec 32) (arg28 : BitVec 32) (k0_hw21 : k0_chk21 arg27 arg28), ∀ (k0_h6 : k0_cond6 arg28 = 1#1), ∀ a, (k0_off47 arg27) a + S1.size a ≤ S12.size a := fun arg27 arg28 k0_hw21 k0_h6 => k0_hw21.2.1 k0_h6
theorem k0_off50_inb : ∀ (arg27 : BitVec 32) (arg28 : BitVec 32) (k0_hw21 : k0_chk21 arg27 arg28), ∀ a, (k0_off50 arg28) a + S1.size a ≤ S2.size a := fun arg27 arg28 k0_hw21 => k0_hw21.2.2

def k0_off51 (k0_t3 : Fin k0_t3_loop.trips) : Fin 3 → Nat :=
  let c0_i32_292 : BitVec 32 := 0#32
  let c1_i32_293 : BitVec 32 := 1#32
  let arg18 : BitVec 32 := Scf.iv c0_i32_292 c1_i32_293 k0_t3
  let c0_i32_344 : BitVec 32 := 0#32
  let v696 : BitVec 1 := Scalar.cmpi .sgt arg18 c0_i32_344
  let v697 : BitVec 32 := Scalar.extui v696
  let c0_i32_345 : BitVec 32 := 0#32
  let v698 : BitVec 1 := Scalar.cmpi .slt arg18 c0_i32_345
  let v699 : BitVec 32 := Scalar.extui v698
  let v700 : BitVec 32 := Scalar.subi v697 v699
  let c10_i32 : BitVec 32 := 10#32
  let c0_i32_346 : BitVec 32 := 0#32
  let v701 : BitVec 1 := Scalar.cmpi .sgt c10_i32 c0_i32_346
  let v702 : BitVec 32 := Scalar.extui v701
  let c0_i32_347 : BitVec 32 := 0#32
  let v703 : BitVec 1 := Scalar.cmpi .slt c10_i32 c0_i32_347
  let v704 : BitVec 32 := Scalar.extui v703
  let v705 : BitVec 32 := Scalar.subi v702 v704
  let v706 : BitVec 1 := Scalar.cmpi .ne v700 v705
  let v707 : BitVec 32 := Scalar.remsi arg18 c10_i32
  let c0_i32_348 : BitVec 32 := 0#32
  let v708 : BitVec 1 := Scalar.cmpi .ne v707 c0_i32_348
  let v709 : BitVec 1 := Scalar.andi v706 v708
  let v695 : BitVec 32 := Scalar.divsi arg18 c10_i32
  let c1_i32_349 : BitVec 32 := 1#32
  let v710 : BitVec 32 := Scalar.subi v695 c1_i32_349
  let v711 : BitVec 32 := Scalar.select v709 v710 v695
  let c10_i32_350 : BitVec 32 := 10#32
  let v712 : BitVec 32 := Scalar.muli v711 c10_i32_350
  let v713 : BitVec 32 := Scalar.subi arg18 v712
  let v770 : Index := Scalar.indexCast v713
  let c0_376 : Index := 0#32
  let c0_377 : Index := 0#32
  ![v770.toNat, 0, 0]
@[reducible] def k0_t14_loop (v753 : BitVec 32) : Scf.Loop 32 :=
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_391 : BitVec 32 := 1#32
  ⟨c0_i32_389, v810, c1_i32_391⟩
def k0_off52 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_400 : BitVec 32 := 0#32
  let v837 : BitVec 1 := Scalar.cmpi .sgt arg18 c0_i32_400
  let v838 : BitVec 32 := Scalar.extui v837
  let c0_i32_401 : BitVec 32 := 0#32
  let v839 : BitVec 1 := Scalar.cmpi .slt arg18 c0_i32_401
  let v840 : BitVec 32 := Scalar.extui v839
  let v841 : BitVec 32 := Scalar.subi v838 v840
  let c10_i32_399 : BitVec 32 := 10#32
  let c0_i32_402 : BitVec 32 := 0#32
  let v842 : BitVec 1 := Scalar.cmpi .sgt c10_i32_399 c0_i32_402
  let v843 : BitVec 32 := Scalar.extui v842
  let c0_i32_403 : BitVec 32 := 0#32
  let v844 : BitVec 1 := Scalar.cmpi .slt c10_i32_399 c0_i32_403
  let v845 : BitVec 32 := Scalar.extui v844
  let v846 : BitVec 32 := Scalar.subi v843 v845
  let v847 : BitVec 1 := Scalar.cmpi .ne v841 v846
  let v848 : BitVec 32 := Scalar.remsi arg18 c10_i32_399
  let c0_i32_404 : BitVec 32 := 0#32
  let v849 : BitVec 1 := Scalar.cmpi .ne v848 c0_i32_404
  let v850 : BitVec 1 := Scalar.andi v847 v849
  let v836 : BitVec 32 := Scalar.divsi arg18 c10_i32_399
  let c1_i32_405 : BitVec 32 := 1#32
  let v851 : BitVec 32 := Scalar.subi v836 c1_i32_405
  let v852 : BitVec 32 := Scalar.select v850 v851 v836
  let v853 : Index := Scalar.indexCast v852
  ![v853.toNat]
def k0_mult27 (v753 : BitVec 32) (k0_t14 : Fin (k0_t14_loop v753).trips) (v854 : BitVec 32) : BitVec 32 :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c1_i32_391 : BitVec 32 := 1#32
  let arg25 : BitVec 32 := Scf.iv c0_i32_389 c1_i32_391 k0_t14
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  v863

def k0_mult28 (v753 : BitVec 32) (k0_t14 : Fin (k0_t14_loop v753).trips) : BitVec 32 :=
  let c0_i32_389 : BitVec 32 := 0#32
  let c1_i32_391 : BitVec 32 := 1#32
  let arg25 : BitVec 32 := Scf.iv c0_i32_389 c1_i32_391 k0_t14
  let c4096_i32_412 : BitVec 32 := 4096#32
  let v865 : BitVec 32 := Scalar.muli arg25 c4096_i32_412
  v865
def k0_off53 (arg28 : BitVec 32) : Fin 1 → Nat :=
  ![arg28.toNat]

def k0_chk25 (arg28 : BitVec 32) : Prop :=
  (∀ a, (k0_off53 arg28) a + S1.size a ≤ S12.size a)
theorem k0_off53_inb : ∀ (arg28 : BitVec 32) (k0_hw25 : k0_chk25 arg28), ∀ a, (k0_off53 arg28) a + S1.size a ≤ S12.size a := fun arg28 k0_hw25 => k0_hw25

def k0_off54 (v753 : BitVec 32) (k0_t14 : Fin (k0_t14_loop v753).trips) (arg28 : BitVec 32) (v854 : BitVec 32) : (Fin 3 → Nat) × (Fin 3 → Nat) :=
  let c0_i32_413 : BitVec 32 := 0#32
  let c0_i32_414 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c1_i32_391 : BitVec 32 := 1#32
  let arg25 : BitVec 32 := Scf.iv c0_i32_389 c1_i32_391 k0_t14
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg28.toNat, 0, 0], ![1, v864.toNat, 128]⟩

def k0_sz13 (v753 : BitVec 32) (k0_t14 : Fin (k0_t14_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c1_i32_391 : BitVec 32 := 1#32
  let arg25 : BitVec 32 := Scf.iv c0_i32_389 c1_i32_391 k0_t14
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]
def k0_off55 (k0_t3 : Fin k0_t3_loop.trips) (v753 : BitVec 32) (k0_t14 : Fin (k0_t14_loop v753).trips) (v854 : BitVec 32) : (Fin 3 → Nat) × (Fin 3 → Nat) :=
  let c0_i32_292 : BitVec 32 := 0#32
  let c1_i32_293 : BitVec 32 := 1#32
  let arg18 : BitVec 32 := Scf.iv c0_i32_292 c1_i32_293 k0_t3
  let c0_i32_389 : BitVec 32 := 0#32
  let c1_i32_391 : BitVec 32 := 1#32
  let arg25 : BitVec 32 := Scf.iv c0_i32_389 c1_i32_391 k0_t14
  let c4096_i32_412 : BitVec 32 := 4096#32
  let v865 : BitVec 32 := Scalar.muli arg25 c4096_i32_412
  let v866 : BitVec 32 := v865
  let c0_i32_415 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg18.toNat, v866.toNat, 0], ![1, v864.toNat, 128]⟩

def k0_sz14 (v753 : BitVec 32) (k0_t14 : Fin (k0_t14_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c1_i32_391 : BitVec 32 := 1#32
  let arg25 : BitVec 32 := Scf.iv c0_i32_389 c1_i32_391 k0_t14
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]

def k0_chk24 (k0_t3 : Fin k0_t3_loop.trips) (v753 : BitVec 32) (k0_t14 : Fin (k0_t14_loop v753).trips) (arg28 : BitVec 32) (v854 : BitVec 32) : Prop :=
  (32 ∣ (k0_mult27 v753 k0_t14 v854).toNat) ∧
  ((⟨3, (k0_off54 v753 k0_t14 arg28 v854).2⟩ : Shape).Squeezes ⟨2, k0_sz13 v753 k0_t14 v854⟩) ∧
  ((⟨3, (k0_off55 k0_t3 v753 k0_t14 v854).2⟩ : Shape).Squeezes ⟨2, k0_sz14 v753 k0_t14 v854⟩)
theorem k0_mult27_dvd : ∀ (k0_t3 : Fin k0_t3_loop.trips) (v753 : BitVec 32) (k0_t14 : Fin (k0_t14_loop v753).trips) (arg28 : BitVec 32) (v854 : BitVec 32) (k0_hw24 : k0_chk24 k0_t3 v753 k0_t14 arg28 v854), 32 ∣ (k0_mult27 v753 k0_t14 v854).toNat := fun k0_t3 v753 k0_t14 arg28 v854 k0_hw24 => k0_hw24.1
theorem k0_sz13_squeezes : ∀ (k0_t3 : Fin k0_t3_loop.trips) (v753 : BitVec 32) (k0_t14 : Fin (k0_t14_loop v753).trips) (arg28 : BitVec 32) (v854 : BitVec 32) (k0_hw24 : k0_chk24 k0_t3 v753 k0_t14 arg28 v854), (⟨3, (k0_off54 v753 k0_t14 arg28 v854).2⟩ : Shape).Squeezes ⟨2, k0_sz13 v753 k0_t14 v854⟩ := fun k0_t3 v753 k0_t14 arg28 v854 k0_hw24 => k0_hw24.2.1
theorem k0_sz14_squeezes : ∀ (k0_t3 : Fin k0_t3_loop.trips) (v753 : BitVec 32) (k0_t14 : Fin (k0_t14_loop v753).trips) (arg28 : BitVec 32) (v854 : BitVec 32) (k0_hw24 : k0_chk24 k0_t3 v753 k0_t14 arg28 v854), (⟨3, (k0_off55 k0_t3 v753 k0_t14 v854).2⟩ : Shape).Squeezes ⟨2, k0_sz14 v753 k0_t14 v854⟩ := fun k0_t3 v753 k0_t14 arg28 v854 k0_hw24 => k0_hw24.2.2

def k0_off56 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_417 : BitVec 32 := 0#32
  let v874 : BitVec 1 := Scalar.cmpi .sgt arg18 c0_i32_417
  let v875 : BitVec 32 := Scalar.extui v874
  let c0_i32_418 : BitVec 32 := 0#32
  let v876 : BitVec 1 := Scalar.cmpi .slt arg18 c0_i32_418
  let v877 : BitVec 32 := Scalar.extui v876
  let v878 : BitVec 32 := Scalar.subi v875 v877
  let c10_i32_416 : BitVec 32 := 10#32
  let c0_i32_419 : BitVec 32 := 0#32
  let v879 : BitVec 1 := Scalar.cmpi .sgt c10_i32_416 c0_i32_419
  let v880 : BitVec 32 := Scalar.extui v879
  let c0_i32_420 : BitVec 32 := 0#32
  let v881 : BitVec 1 := Scalar.cmpi .slt c10_i32_416 c0_i32_420
  let v882 : BitVec 32 := Scalar.extui v881
  let v883 : BitVec 32 := Scalar.subi v880 v882
  let v884 : BitVec 1 := Scalar.cmpi .ne v878 v883
  let v885 : BitVec 32 := Scalar.remsi arg18 c10_i32_416
  let c0_i32_421 : BitVec 32 := 0#32
  let v886 : BitVec 1 := Scalar.cmpi .ne v885 c0_i32_421
  let v887 : BitVec 1 := Scalar.andi v884 v886
  let v873 : BitVec 32 := Scalar.divsi arg18 c10_i32_416
  let c1_i32_422 : BitVec 32 := 1#32
  let v888 : BitVec 32 := Scalar.subi v873 c1_i32_422
  let v889 : BitVec 32 := Scalar.select v887 v888 v873
  let v890 : Index := Scalar.indexCast v889
  ![v890.toNat]
def k0_mult29 (v753 : BitVec 32) (k0_t14 : Fin (k0_t14_loop v753).trips) (v891 : BitVec 32) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  v900

def k0_chk26 (v753 : BitVec 32) (k0_t14 : Fin (k0_t14_loop v753).trips) (v891 : BitVec 32) : Prop :=
  (32 ∣ (k0_mult29 v753 k0_t14 v891).toNat)
theorem k0_mult29_dvd : ∀ (v753 : BitVec 32) (k0_t14 : Fin (k0_t14_loop v753).trips) (v891 : BitVec 32) (k0_hw26 : k0_chk26 v753 k0_t14 v891), 32 ∣ (k0_mult29 v753 k0_t14 v891).toNat := fun v753 k0_t14 v891 k0_hw26 => k0_hw26

def k0_off57 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_432 : BitVec 32 := 0#32
  let v903 : BitVec 1 := Scalar.cmpi .sgt arg18 c0_i32_432
  let v904 : BitVec 32 := Scalar.extui v903
  let c0_i32_433 : BitVec 32 := 0#32
  let v905 : BitVec 1 := Scalar.cmpi .slt arg18 c0_i32_433
  let v906 : BitVec 32 := Scalar.extui v905
  let v907 : BitVec 32 := Scalar.subi v904 v906
  let c10_i32_431 : BitVec 32 := 10#32
  let c0_i32_434 : BitVec 32 := 0#32
  let v908 : BitVec 1 := Scalar.cmpi .sgt c10_i32_431 c0_i32_434
  let v909 : BitVec 32 := Scalar.extui v908
  let c0_i32_435 : BitVec 32 := 0#32
  let v910 : BitVec 1 := Scalar.cmpi .slt c10_i32_431 c0_i32_435
  let v911 : BitVec 32 := Scalar.extui v910
  let v912 : BitVec 32 := Scalar.subi v909 v911
  let v913 : BitVec 1 := Scalar.cmpi .ne v907 v912
  let v914 : BitVec 32 := Scalar.remsi arg18 c10_i32_431
  let c0_i32_436 : BitVec 32 := 0#32
  let v915 : BitVec 1 := Scalar.cmpi .ne v914 c0_i32_436
  let v916 : BitVec 1 := Scalar.andi v913 v915
  let v902 : BitVec 32 := Scalar.divsi arg18 c10_i32_431
  let c1_i32_437 : BitVec 32 := 1#32
  let v917 : BitVec 32 := Scalar.subi v902 c1_i32_437
  let v918 : BitVec 32 := Scalar.select v916 v917 v902
  let v919 : Index := Scalar.indexCast v918
  ![v919.toNat]
@[reducible] def k0_t15_loop (v753 : BitVec 32) (k0_t14 : Fin (k0_t14_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let c1_i32_495 : BitVec 32 := 1#32
  ⟨v1023, v1028, c1_i32_495⟩
def k0_cond7 (v753 : BitVec 32) (k0_t14 : Fin (k0_t14_loop v753).trips) (v920 : BitVec 32) : BitVec 1 :=
  let c65536_i32_439 : BitVec 32 := 65536#32
  let c0_i32_438 : BitVec 32 := 0#32
  let v921 : BitVec 32 := Scalar.maxsi c0_i32_438 v920
  let v922 : BitVec 32 := Scalar.minsi c65536_i32_439 v921
  let c0_i32_389 : BitVec 32 := 0#32
  let c1_i32_391 : BitVec 32 := 1#32
  let arg25 : BitVec 32 := Scf.iv c0_i32_389 c1_i32_391 k0_t14
  let c4096_i32_440 : BitVec 32 := 4096#32
  let v923 : BitVec 32 := Scalar.muli arg25 c4096_i32_440
  let v924 : BitVec 32 := Scalar.subi v922 v923
  let c4096_i32_441 : BitVec 32 := 4096#32
  let v925 : BitVec 1 := Scalar.cmpi .slt v924 c4096_i32_441
  let v926 : BitVec 32 := Scalar.extui v925
  let c0_i32_442 : BitVec 32 := 0#32
  let v927 : BitVec 1 := Scalar.cmpi .ne v926 c0_i32_442
  v927

def k0_mult30 (v753 : BitVec 32) (k0_t14 : Fin (k0_t14_loop v753).trips) (v891 : BitVec 32) (k0_t15 : Fin (k0_t15_loop v753 k0_t14 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c1_i32_495 : BitVec 32 := 1#32
  let arg31 : BitVec 32 := Scf.iv v1023 c1_i32_495 k0_t15
  let c32_i32_497 : BitVec 32 := 32#32
  let v1029 : BitVec 32 := Scalar.muli arg31 c32_i32_497
  v1029
def k0_off58 (v753 : BitVec 32) (k0_t14 : Fin (k0_t14_loop v753).trips) (arg28 : BitVec 32) (v891 : BitVec 32) (k0_t15 : Fin (k0_t15_loop v753 k0_t14 v891).trips) : Fin 3 → Nat :=
  let v1032 : Index := Scalar.indexCast arg28
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c1_i32_495 : BitVec 32 := 1#32
  let arg31 : BitVec 32 := Scf.iv v1023 c1_i32_495 k0_t15
  let c32_i32_497 : BitVec 32 := 32#32
  let v1029 : BitVec 32 := Scalar.muli arg31 c32_i32_497
  let v1030 : BitVec 32 := v1029
  let v1033 : Index := Scalar.indexCast v1030
  let c0_499 : Index := 0#32
  ![v1032.toNat, v1033.toNat, 0]
@[reducible] def k0_t16_loop (v753 : BitVec 32) (k0_t14 : Fin (k0_t14_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let v1025 : BitVec 32 := Scalar.addi v1023 v1024
  let c1_i32_496 : BitVec 32 := 1#32
  ⟨v1028, v1025, c1_i32_496⟩
def k0_mult31 (v753 : BitVec 32) (k0_t14 : Fin (k0_t14_loop v753).trips) (v891 : BitVec 32) (k0_t16 : Fin (k0_t16_loop v753 k0_t14 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let c1_i32_496 : BitVec 32 := 1#32
  let arg31 : BitVec 32 := Scf.iv v1028 c1_i32_496 k0_t16
  let c32_i32_497 : BitVec 32 := 32#32
  let v1029 : BitVec 32 := Scalar.muli arg31 c32_i32_497
  v1029
def k0_off59 (v753 : BitVec 32) (k0_t14 : Fin (k0_t14_loop v753).trips) (arg28 : BitVec 32) (v891 : BitVec 32) (k0_t16 : Fin (k0_t16_loop v753 k0_t14 v891).trips) : Fin 3 → Nat :=
  let v1032 : Index := Scalar.indexCast arg28
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c1_i32_391 : BitVec 32 := 1#32
  let arg25 : BitVec 32 := Scf.iv c0_i32_389 c1_i32_391 k0_t14
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let c1_i32_496 : BitVec 32 := 1#32
  let arg31 : BitVec 32 := Scf.iv v1028 c1_i32_496 k0_t16
  let c32_i32_497 : BitVec 32 := 32#32
  let v1029 : BitVec 32 := Scalar.muli arg31 c32_i32_497
  let v1030 : BitVec 32 := v1029
  let v1033 : Index := Scalar.indexCast v1030
  let c0_499 : Index := 0#32
  ![v1032.toNat, v1033.toNat, 0]

def k0_chk27 (v753 : BitVec 32) (k0_t14 : Fin (k0_t14_loop v753).trips) (arg28 : BitVec 32) (v891 : BitVec 32) (v920 : BitVec 32) : Prop :=
  (∀ (k0_h7 : k0_cond7 v753 k0_t14 v920 = 1#1), (k0_t15_loop v753 k0_t14 v891).OK) ∧
  (∀ k0_t15 : Fin (k0_t15_loop v753 k0_t14 v891).trips, ∀ (k0_h7 : k0_cond7 v753 k0_t14 v920 = 1#1), 32 ∣ (k0_mult30 v753 k0_t14 v891 k0_t15).toNat) ∧
  (∀ k0_t15 : Fin (k0_t15_loop v753 k0_t14 v891).trips, ∀ (k0_h7 : k0_cond7 v753 k0_t14 v920 = 1#1), ∀ a, (k0_off58 v753 k0_t14 arg28 v891 k0_t15) a + S1x32x128.size a ≤ S12x4096x128.size a) ∧
  (∀ k0_t15 : Fin (k0_t15_loop v753 k0_t14 v891).trips, ∀ (k0_h7 : k0_cond7 v753 k0_t14 v920 = 1#1), ∀ (hinb : ∀ a, (k0_off58 v753 k0_t14 arg28 v891 k0_t15) a + S1x32x128.size a ≤ S12x4096x128.size a), (Rect.unit (s := S12x4096x128) (k0_off58 v753 k0_t14 arg28 v891 k0_t15) S1x32x128.size hinb).PackedRows (EltTy.packing .fp8e4m3)) ∧
  (∀ (k0_h7 : k0_cond7 v753 k0_t14 v920 = 1#1), (k0_t16_loop v753 k0_t14 v891).OK) ∧
  (∀ k0_t16 : Fin (k0_t16_loop v753 k0_t14 v891).trips, ∀ (k0_h7 : k0_cond7 v753 k0_t14 v920 = 1#1), 32 ∣ (k0_mult31 v753 k0_t14 v891 k0_t16).toNat) ∧
  (∀ k0_t16 : Fin (k0_t16_loop v753 k0_t14 v891).trips, ∀ (k0_h7 : k0_cond7 v753 k0_t14 v920 = 1#1), ∀ a, (k0_off59 v753 k0_t14 arg28 v891 k0_t16) a + S1x32x128.size a ≤ S12x4096x128.size a) ∧
  (∀ k0_t16 : Fin (k0_t16_loop v753 k0_t14 v891).trips, ∀ (k0_h7 : k0_cond7 v753 k0_t14 v920 = 1#1), ∀ (hinb : ∀ a, (k0_off59 v753 k0_t14 arg28 v891 k0_t16) a + S1x32x128.size a ≤ S12x4096x128.size a), (Rect.unit (s := S12x4096x128) (k0_off59 v753 k0_t14 arg28 v891 k0_t16) S1x32x128.size hinb).PackedRows (EltTy.packing .fp8e4m3))
theorem k0_t15_ok : ∀ (v753 : BitVec 32) (k0_t14 : Fin (k0_t14_loop v753).trips) (arg28 : BitVec 32) (v891 : BitVec 32) (v920 : BitVec 32) (k0_hw27 : k0_chk27 v753 k0_t14 arg28 v891 v920), ∀ (k0_h7 : k0_cond7 v753 k0_t14 v920 = 1#1), (k0_t15_loop v753 k0_t14 v891).OK := fun v753 k0_t14 arg28 v891 v920 k0_hw27 k0_h7 => k0_hw27.1 k0_h7
theorem k0_mult30_dvd : ∀ (v753 : BitVec 32) (k0_t14 : Fin (k0_t14_loop v753).trips) (arg28 : BitVec 32) (v891 : BitVec 32) (v920 : BitVec 32) (k0_hw27 : k0_chk27 v753 k0_t14 arg28 v891 v920) (k0_t15 : Fin (k0_t15_loop v753 k0_t14 v891).trips), ∀ (k0_h7 : k0_cond7 v753 k0_t14 v920 = 1#1), 32 ∣ (k0_mult30 v753 k0_t14 v891 k0_t15).toNat := fun v753 k0_t14 arg28 v891 v920 k0_hw27 k0_t15 k0_h7 => k0_hw27.2.1 k0_t15 k0_h7
theorem k0_off58_inb : ∀ (v753 : BitVec 32) (k0_t14 : Fin (k0_t14_loop v753).trips) (arg28 : BitVec 32) (v891 : BitVec 32) (v920 : BitVec 32) (k0_hw27 : k0_chk27 v753 k0_t14 arg28 v891 v920) (k0_t15 : Fin (k0_t15_loop v753 k0_t14 v891).trips), ∀ (k0_h7 : k0_cond7 v753 k0_t14 v920 = 1#1), ∀ a, (k0_off58 v753 k0_t14 arg28 v891 k0_t15) a + S1x32x128.size a ≤ S12x4096x128.size a := fun v753 k0_t14 arg28 v891 v920 k0_hw27 k0_t15 k0_h7 => k0_hw27.2.2.1 k0_t15 k0_h7
theorem k0_off58_packedfp8e4m3 : ∀ (v753 : BitVec 32) (k0_t14 : Fin (k0_t14_loop v753).trips) (arg28 : BitVec 32) (v891 : BitVec 32) (v920 : BitVec 32) (k0_hw27 : k0_chk27 v753 k0_t14 arg28 v891 v920) (k0_t15 : Fin (k0_t15_loop v753 k0_t14 v891).trips), ∀ (k0_h7 : k0_cond7 v753 k0_t14 v920 = 1#1), (Rect.unit (s := S12x4096x128) (k0_off58 v753 k0_t14 arg28 v891 k0_t15) S1x32x128.size (k0_off58_inb v753 k0_t14 arg28 v891 v920 k0_hw27 k0_t15 k0_h7)).PackedRows (EltTy.packing .fp8e4m3) := fun v753 k0_t14 arg28 v891 v920 k0_hw27 k0_t15 k0_h7 => k0_hw27.2.2.2.1 k0_t15 k0_h7 (k0_off58_inb v753 k0_t14 arg28 v891 v920 k0_hw27 k0_t15 k0_h7)
theorem k0_t16_ok : ∀ (v753 : BitVec 32) (k0_t14 : Fin (k0_t14_loop v753).trips) (arg28 : BitVec 32) (v891 : BitVec 32) (v920 : BitVec 32) (k0_hw27 : k0_chk27 v753 k0_t14 arg28 v891 v920), ∀ (k0_h7 : k0_cond7 v753 k0_t14 v920 = 1#1), (k0_t16_loop v753 k0_t14 v891).OK := fun v753 k0_t14 arg28 v891 v920 k0_hw27 k0_h7 => k0_hw27.2.2.2.2.1 k0_h7
theorem k0_mult31_dvd : ∀ (v753 : BitVec 32) (k0_t14 : Fin (k0_t14_loop v753).trips) (arg28 : BitVec 32) (v891 : BitVec 32) (v920 : BitVec 32) (k0_hw27 : k0_chk27 v753 k0_t14 arg28 v891 v920) (k0_t16 : Fin (k0_t16_loop v753 k0_t14 v891).trips), ∀ (k0_h7 : k0_cond7 v753 k0_t14 v920 = 1#1), 32 ∣ (k0_mult31 v753 k0_t14 v891 k0_t16).toNat := fun v753 k0_t14 arg28 v891 v920 k0_hw27 k0_t16 k0_h7 => k0_hw27.2.2.2.2.2.1 k0_t16 k0_h7
theorem k0_off59_inb : ∀ (v753 : BitVec 32) (k0_t14 : Fin (k0_t14_loop v753).trips) (arg28 : BitVec 32) (v891 : BitVec 32) (v920 : BitVec 32) (k0_hw27 : k0_chk27 v753 k0_t14 arg28 v891 v920) (k0_t16 : Fin (k0_t16_loop v753 k0_t14 v891).trips), ∀ (k0_h7 : k0_cond7 v753 k0_t14 v920 = 1#1), ∀ a, (k0_off59 v753 k0_t14 arg28 v891 k0_t16) a + S1x32x128.size a ≤ S12x4096x128.size a := fun v753 k0_t14 arg28 v891 v920 k0_hw27 k0_t16 k0_h7 => k0_hw27.2.2.2.2.2.2.1 k0_t16 k0_h7
theorem k0_off59_packedfp8e4m3 : ∀ (v753 : BitVec 32) (k0_t14 : Fin (k0_t14_loop v753).trips) (arg28 : BitVec 32) (v891 : BitVec 32) (v920 : BitVec 32) (k0_hw27 : k0_chk27 v753 k0_t14 arg28 v891 v920) (k0_t16 : Fin (k0_t16_loop v753 k0_t14 v891).trips), ∀ (k0_h7 : k0_cond7 v753 k0_t14 v920 = 1#1), (Rect.unit (s := S12x4096x128) (k0_off59 v753 k0_t14 arg28 v891 k0_t16) S1x32x128.size (k0_off59_inb v753 k0_t14 arg28 v891 v920 k0_hw27 k0_t16 k0_h7)).PackedRows (EltTy.packing .fp8e4m3) := fun v753 k0_t14 arg28 v891 v920 k0_hw27 k0_t16 k0_h7 => k0_hw27.2.2.2.2.2.2.2 k0_t16 k0_h7 (k0_off59_inb v753 k0_t14 arg28 v891 v920 k0_hw27 k0_t16 k0_h7)

def k0_off60 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_444 : BitVec 32 := 0#32
  let v929 : BitVec 1 := Scalar.cmpi .sgt arg18 c0_i32_444
  let v930 : BitVec 32 := Scalar.extui v929
  let c0_i32_445 : BitVec 32 := 0#32
  let v931 : BitVec 1 := Scalar.cmpi .slt arg18 c0_i32_445
  let v932 : BitVec 32 := Scalar.extui v931
  let v933 : BitVec 32 := Scalar.subi v930 v932
  let c10_i32_443 : BitVec 32 := 10#32
  let c0_i32_446 : BitVec 32 := 0#32
  let v934 : BitVec 1 := Scalar.cmpi .sgt c10_i32_443 c0_i32_446
  let v935 : BitVec 32 := Scalar.extui v934
  let c0_i32_447 : BitVec 32 := 0#32
  let v936 : BitVec 1 := Scalar.cmpi .slt c10_i32_443 c0_i32_447
  let v937 : BitVec 32 := Scalar.extui v936
  let v938 : BitVec 32 := Scalar.subi v935 v937
  let v939 : BitVec 1 := Scalar.cmpi .ne v933 v938
  let v940 : BitVec 32 := Scalar.remsi arg18 c10_i32_443
  let c0_i32_448 : BitVec 32 := 0#32
  let v941 : BitVec 1 := Scalar.cmpi .ne v940 c0_i32_448
  let v942 : BitVec 1 := Scalar.andi v939 v941
  let v928 : BitVec 32 := Scalar.divsi arg18 c10_i32_443
  let c1_i32_449 : BitVec 32 := 1#32
  let v943 : BitVec 32 := Scalar.subi v928 c1_i32_449
  let v944 : BitVec 32 := Scalar.select v942 v943 v928
  let v945 : Index := Scalar.indexCast v944
  ![v945.toNat]
def k0_mult32 (v753 : BitVec 32) (k0_t14 : Fin (k0_t14_loop v753).trips) (v946 : BitVec 32) : BitVec 32 :=
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c1_i32_391 : BitVec 32 := 1#32
  let arg25 : BitVec 32 := Scf.iv c0_i32_389 c1_i32_391 k0_t14
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  v955

@[reducible] def k0_t17_loop (v753 : BitVec 32) (k0_t14 : Fin (k0_t14_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c1_i32_391 : BitVec 32 := 1#32
  let arg25 : BitVec 32 := Scf.iv c0_i32_389 c1_i32_391 k0_t14
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_460 : BitVec 32 := 1#32
  ⟨c0_i32_458, v963, c1_i32_460⟩
def k0_off61 (v753 : BitVec 32) (k0_t14 : Fin (k0_t14_loop v753).trips) (v946 : BitVec 32) (k0_t17 : Fin (k0_t17_loop v753 k0_t14 v946).trips) : Fin 3 → Nat :=
  let c0_i32_389 : BitVec 32 := 0#32
  let c1_i32_391 : BitVec 32 := 1#32
  let arg25 : BitVec 32 := Scf.iv c0_i32_389 c1_i32_391 k0_t14
  let c2_i32 : BitVec 32 := 2#32
  let v1004 : BitVec 32 := Scalar.muli arg25 c2_i32
  let c0_i32_458 : BitVec 32 := 0#32
  let c1_i32_460 : BitVec 32 := 1#32
  let arg31 : BitVec 32 := Scf.iv c0_i32_458 c1_i32_460 k0_t17
  let v1005 : BitVec 32 := Scalar.addi v1004 arg31
  let v1006 : Index := Scalar.indexCast v1005
  let c0_484 : Index := 0#32
  let c0_485 : Index := 0#32
  ![v1006.toNat, 0, 0]
def k0_mult33 (v753 : BitVec 32) (k0_t14 : Fin (k0_t14_loop v753).trips) (v946 : BitVec 32) (k0_t17 : Fin (k0_t17_loop v753 k0_t14 v946).trips) : BitVec 32 :=
  let c0_i32_458 : BitVec 32 := 0#32
  let c1_i32_460 : BitVec 32 := 1#32
  let arg31 : BitVec 32 := Scf.iv c0_i32_458 c1_i32_460 k0_t17
  let c2048_i32_488 : BitVec 32 := 2048#32
  let v1048 : BitVec 32 := Scalar.muli arg31 c2048_i32_488
  v1048
def k0_off62 (v753 : BitVec 32) (k0_t14 : Fin (k0_t14_loop v753).trips) (arg28 : BitVec 32) (v946 : BitVec 32) (k0_t17 : Fin (k0_t17_loop v753 k0_t14 v946).trips) : Fin 3 → Nat :=
  let v1050 : Index := Scalar.indexCast arg28
  let c0_i32_458 : BitVec 32 := 0#32
  let c1_i32_460 : BitVec 32 := 1#32
  let arg31 : BitVec 32 := Scf.iv c0_i32_458 c1_i32_460 k0_t17
  let c2048_i32_488 : BitVec 32 := 2048#32
  let v1048 : BitVec 32 := Scalar.muli arg31 c2048_i32_488
  let v1049 : BitVec 32 := v1048
  let v1051 : Index := Scalar.indexCast v1049
  let c0_489 : Index := 0#32
  ![v1050.toNat, v1051.toNat, 0]
@[reducible] def k0_t18_loop (v753 : BitVec 32) (k0_t14 : Fin (k0_t14_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c1_i32_391 : BitVec 32 := 1#32
  let arg25 : BitVec 32 := Scf.iv c0_i32_389 c1_i32_391 k0_t14
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let v960 : BitVec 32 := Scalar.addi c0_i32_458 v959
  let c1_i32_461 : BitVec 32 := 1#32
  ⟨v963, v960, c1_i32_461⟩
def k0_off63 (v753 : BitVec 32) (k0_t14 : Fin (k0_t14_loop v753).trips) (v946 : BitVec 32) (k0_t18 : Fin (k0_t18_loop v753 k0_t14 v946).trips) : Fin 3 → Nat :=
  let c0_i32_389 : BitVec 32 := 0#32
  let c1_i32_391 : BitVec 32 := 1#32
  let arg25 : BitVec 32 := Scf.iv c0_i32_389 c1_i32_391 k0_t14
  let c2_i32 : BitVec 32 := 2#32
  let v1004 : BitVec 32 := Scalar.muli arg25 c2_i32
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg31 : BitVec 32 := Scf.iv v963 c1_i32_461 k0_t18
  let v1005 : BitVec 32 := Scalar.addi v1004 arg31
  let v1006 : Index := Scalar.indexCast v1005
  let c0_484 : Index := 0#32
  let c0_485 : Index := 0#32
  ![v1006.toNat, 0, 0]
def k0_mult34 (v753 : BitVec 32) (k0_t14 : Fin (k0_t14_loop v753).trips) (v946 : BitVec 32) (k0_t18 : Fin (k0_t18_loop v753 k0_t14 v946).trips) : BitVec 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c1_i32_391 : BitVec 32 := 1#32
  let arg25 : BitVec 32 := Scf.iv c0_i32_389 c1_i32_391 k0_t14
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg31 : BitVec 32 := Scf.iv v963 c1_i32_461 k0_t18
  let c2048_i32_488 : BitVec 32 := 2048#32
  let v1048 : BitVec 32 := Scalar.muli arg31 c2048_i32_488
  v1048
def k0_off64 (v753 : BitVec 32) (k0_t14 : Fin (k0_t14_loop v753).trips) (arg28 : BitVec 32) (v946 : BitVec 32) (k0_t18 : Fin (k0_t18_loop v753 k0_t14 v946).trips) : Fin 3 → Nat :=
  let v1050 : Index := Scalar.indexCast arg28
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c1_i32_391 : BitVec 32 := 1#32
  let arg25 : BitVec 32 := Scf.iv c0_i32_389 c1_i32_391 k0_t14
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg31 : BitVec 32 := Scf.iv v963 c1_i32_461 k0_t18
  let c2048_i32_488 : BitVec 32 := 2048#32
  let v1048 : BitVec 32 := Scalar.muli arg31 c2048_i32_488
  let v1049 : BitVec 32 := v1048
  let v1051 : Index := Scalar.indexCast v1049
  let c0_489 : Index := 0#32
  ![v1050.toNat, v1051.toNat, 0]

def k0_chk28 (v753 : BitVec 32) (k0_t14 : Fin (k0_t14_loop v753).trips) (arg28 : BitVec 32) (v946 : BitVec 32) : Prop :=
  (32 ∣ (k0_mult32 v753 k0_t14 v946).toNat) ∧
  ((k0_t17_loop v753 k0_t14 v946).OK) ∧
  (∀ k0_t17 : Fin (k0_t17_loop v753 k0_t14 v946).trips, ∀ a, (k0_off61 v753 k0_t14 v946 k0_t17) a + S1x8x2048.size a ≤ S32x8x2048.size a) ∧
  (∀ k0_t17 : Fin (k0_t17_loop v753 k0_t14 v946).trips, 2048 ∣ (k0_mult33 v753 k0_t14 v946 k0_t17).toNat) ∧
  (∀ k0_t17 : Fin (k0_t17_loop v753 k0_t14 v946).trips, ∀ a, (k0_off62 v753 k0_t14 arg28 v946 k0_t17) a + S1x2048x128.size a ≤ S12x4096x128.size a) ∧
  ((k0_t18_loop v753 k0_t14 v946).OK) ∧
  (∀ k0_t18 : Fin (k0_t18_loop v753 k0_t14 v946).trips, ∀ a, (k0_off63 v753 k0_t14 v946 k0_t18) a + S1x8x2048.size a ≤ S32x8x2048.size a) ∧
  (∀ k0_t18 : Fin (k0_t18_loop v753 k0_t14 v946).trips, 2048 ∣ (k0_mult34 v753 k0_t14 v946 k0_t18).toNat) ∧
  (∀ k0_t18 : Fin (k0_t18_loop v753 k0_t14 v946).trips, ∀ a, (k0_off64 v753 k0_t14 arg28 v946 k0_t18) a + S1x2048x128.size a ≤ S12x4096x128.size a)
theorem k0_mult32_dvd : ∀ (v753 : BitVec 32) (k0_t14 : Fin (k0_t14_loop v753).trips) (arg28 : BitVec 32) (v946 : BitVec 32) (k0_hw28 : k0_chk28 v753 k0_t14 arg28 v946), 32 ∣ (k0_mult32 v753 k0_t14 v946).toNat := fun v753 k0_t14 arg28 v946 k0_hw28 => k0_hw28.1
theorem k0_t17_ok : ∀ (v753 : BitVec 32) (k0_t14 : Fin (k0_t14_loop v753).trips) (arg28 : BitVec 32) (v946 : BitVec 32) (k0_hw28 : k0_chk28 v753 k0_t14 arg28 v946), (k0_t17_loop v753 k0_t14 v946).OK := fun v753 k0_t14 arg28 v946 k0_hw28 => k0_hw28.2.1
theorem k0_off61_inb : ∀ (v753 : BitVec 32) (k0_t14 : Fin (k0_t14_loop v753).trips) (arg28 : BitVec 32) (v946 : BitVec 32) (k0_hw28 : k0_chk28 v753 k0_t14 arg28 v946) (k0_t17 : Fin (k0_t17_loop v753 k0_t14 v946).trips), ∀ a, (k0_off61 v753 k0_t14 v946 k0_t17) a + S1x8x2048.size a ≤ S32x8x2048.size a := fun v753 k0_t14 arg28 v946 k0_hw28 k0_t17 => k0_hw28.2.2.1 k0_t17
theorem k0_mult33_dvd : ∀ (v753 : BitVec 32) (k0_t14 : Fin (k0_t14_loop v753).trips) (arg28 : BitVec 32) (v946 : BitVec 32) (k0_hw28 : k0_chk28 v753 k0_t14 arg28 v946) (k0_t17 : Fin (k0_t17_loop v753 k0_t14 v946).trips), 2048 ∣ (k0_mult33 v753 k0_t14 v946 k0_t17).toNat := fun v753 k0_t14 arg28 v946 k0_hw28 k0_t17 => k0_hw28.2.2.2.1 k0_t17
theorem k0_off62_inb : ∀ (v753 : BitVec 32) (k0_t14 : Fin (k0_t14_loop v753).trips) (arg28 : BitVec 32) (v946 : BitVec 32) (k0_hw28 : k0_chk28 v753 k0_t14 arg28 v946) (k0_t17 : Fin (k0_t17_loop v753 k0_t14 v946).trips), ∀ a, (k0_off62 v753 k0_t14 arg28 v946 k0_t17) a + S1x2048x128.size a ≤ S12x4096x128.size a := fun v753 k0_t14 arg28 v946 k0_hw28 k0_t17 => k0_hw28.2.2.2.2.1 k0_t17
theorem k0_t18_ok : ∀ (v753 : BitVec 32) (k0_t14 : Fin (k0_t14_loop v753).trips) (arg28 : BitVec 32) (v946 : BitVec 32) (k0_hw28 : k0_chk28 v753 k0_t14 arg28 v946), (k0_t18_loop v753 k0_t14 v946).OK := fun v753 k0_t14 arg28 v946 k0_hw28 => k0_hw28.2.2.2.2.2.1
theorem k0_off63_inb : ∀ (v753 : BitVec 32) (k0_t14 : Fin (k0_t14_loop v753).trips) (arg28 : BitVec 32) (v946 : BitVec 32) (k0_hw28 : k0_chk28 v753 k0_t14 arg28 v946) (k0_t18 : Fin (k0_t18_loop v753 k0_t14 v946).trips), ∀ a, (k0_off63 v753 k0_t14 v946 k0_t18) a + S1x8x2048.size a ≤ S32x8x2048.size a := fun v753 k0_t14 arg28 v946 k0_hw28 k0_t18 => k0_hw28.2.2.2.2.2.2.1 k0_t18
theorem k0_mult34_dvd : ∀ (v753 : BitVec 32) (k0_t14 : Fin (k0_t14_loop v753).trips) (arg28 : BitVec 32) (v946 : BitVec 32) (k0_hw28 : k0_chk28 v753 k0_t14 arg28 v946) (k0_t18 : Fin (k0_t18_loop v753 k0_t14 v946).trips), 2048 ∣ (k0_mult34 v753 k0_t14 v946 k0_t18).toNat := fun v753 k0_t14 arg28 v946 k0_hw28 k0_t18 => k0_hw28.2.2.2.2.2.2.2.1 k0_t18
theorem k0_off64_inb : ∀ (v753 : BitVec 32) (k0_t14 : Fin (k0_t14_loop v753).trips) (arg28 : BitVec 32) (v946 : BitVec 32) (k0_hw28 : k0_chk28 v753 k0_t14 arg28 v946) (k0_t18 : Fin (k0_t18_loop v753 k0_t14 v946).trips), ∀ a, (k0_off64 v753 k0_t14 arg28 v946 k0_t18) a + S1x2048x128.size a ≤ S12x4096x128.size a := fun v753 k0_t14 arg28 v946 k0_hw28 k0_t18 => k0_hw28.2.2.2.2.2.2.2.2 k0_t18

def k0_off65 (arg29 : BitVec 32) : Fin 1 → Nat :=
  let c0_i32_485 : BitVec 32 := 0#32
  let v1005 : BitVec 1 := Scalar.cmpi .sgt arg29 c0_i32_485
  let v1006 : BitVec 32 := Scalar.extui v1005
  let c0_i32_486 : BitVec 32 := 0#32
  let v1007 : BitVec 1 := Scalar.cmpi .slt arg29 c0_i32_486
  let v1008 : BitVec 32 := Scalar.extui v1007
  let v1009 : BitVec 32 := Scalar.subi v1006 v1008
  let c10_i32_484 : BitVec 32 := 10#32
  let c0_i32_487 : BitVec 32 := 0#32
  let v1010 : BitVec 1 := Scalar.cmpi .sgt c10_i32_484 c0_i32_487
  let v1011 : BitVec 32 := Scalar.extui v1010
  let c0_i32_488 : BitVec 32 := 0#32
  let v1012 : BitVec 1 := Scalar.cmpi .slt c10_i32_484 c0_i32_488
  let v1013 : BitVec 32 := Scalar.extui v1012
  let v1014 : BitVec 32 := Scalar.subi v1011 v1013
  let v1015 : BitVec 1 := Scalar.cmpi .ne v1009 v1014
  let v1016 : BitVec 32 := Scalar.remsi arg29 c10_i32_484
  let c0_i32_489 : BitVec 32 := 0#32
  let v1017 : BitVec 1 := Scalar.cmpi .ne v1016 c0_i32_489
  let v1018 : BitVec 1 := Scalar.andi v1015 v1017
  let v1004 : BitVec 32 := Scalar.divsi arg29 c10_i32_484
  let c1_i32_490 : BitVec 32 := 1#32
  let v1019 : BitVec 32 := Scalar.subi v1004 c1_i32_490
  let v1020 : BitVec 32 := Scalar.select v1018 v1019 v1004
  let v1021 : Index := Scalar.indexCast v1020
  ![v1021.toNat]
def k0_cond8 (arg29 : BitVec 32) : BitVec 1 :=
  let c20_i32_462 : BitVec 32 := 20#32
  let v966 : BitVec 1 := Scalar.cmpi .slt arg29 c20_i32_462
  let v967 : BitVec 32 := Scalar.extui v966
  let c0_i32_463 : BitVec 32 := 0#32
  let v968 : BitVec 1 := Scalar.cmpi .ne v967 c0_i32_463
  v968

def k0_mult35 (arg30 : BitVec 32) (v1022 : BitVec 32) : BitVec 32 :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  v1031

def k0_mult36 (arg30 : BitVec 32) : BitVec 32 :=
  let c4096_i32_499 : BitVec 32 := 4096#32
  let v1033 : BitVec 32 := Scalar.muli arg30 c4096_i32_499
  v1033

def k0_chk31 (arg29 : BitVec 32) (arg30 : BitVec 32) : Prop :=
  (∀ (k0_h8 : k0_cond8 arg29 = 1#1), 4096 ∣ (k0_mult36 arg30).toNat)
theorem k0_mult36_dvd : ∀ (arg29 : BitVec 32) (arg30 : BitVec 32) (k0_hw31 : k0_chk31 arg29 arg30), ∀ (k0_h8 : k0_cond8 arg29 = 1#1), 4096 ∣ (k0_mult36 arg30).toNat := fun arg29 arg30 k0_hw31 k0_h8 => k0_hw31 k0_h8

def k0_off66 (arg28 : BitVec 32) : Fin 1 → Nat :=
  ![arg28.toNat]
def k0_off67 (arg28 : BitVec 32) (arg30 : BitVec 32) (v1022 : BitVec 32) : (Fin 3 → Nat) × (Fin 3 → Nat) :=
  let c0_i32_500 : BitVec 32 := 0#32
  let c0_i32_501 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg28.toNat, 0, 0], ![1, v1032.toNat, 128]⟩
def k0_sz15 (arg30 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]
def k0_off68 (arg29 : BitVec 32) (arg30 : BitVec 32) (v1022 : BitVec 32) : (Fin 3 → Nat) × (Fin 3 → Nat) :=
  let c4096_i32_499 : BitVec 32 := 4096#32
  let v1033 : BitVec 32 := Scalar.muli arg30 c4096_i32_499
  let v1034 : BitVec 32 := v1033
  let c0_i32_502 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg29.toNat, v1034.toNat, 0], ![1, v1032.toNat, 128]⟩
def k0_sz16 (arg30 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]

def k0_chk30 (arg28 : BitVec 32) (arg29 : BitVec 32) (arg30 : BitVec 32) (v1022 : BitVec 32) : Prop :=
  (∀ (k0_h8 : k0_cond8 arg29 = 1#1), 32 ∣ (k0_mult35 arg30 v1022).toNat) ∧
  (∀ (k0_h8 : k0_cond8 arg29 = 1#1), ∀ a, (k0_off67 arg28 arg30 v1022).2 a = 0 ∨ (k0_off67 arg28 arg30 v1022).1 a + (k0_off67 arg28 arg30 v1022).2 a ≤ S12x4096x128.size a) ∧
  (∀ (k0_h8 : k0_cond8 arg29 = 1#1), (⟨3, (k0_off67 arg28 arg30 v1022).2⟩ : Shape).Squeezes ⟨2, k0_sz15 arg30 v1022⟩) ∧
  (∀ (k0_h8 : k0_cond8 arg29 = 1#1), ∀ a, (k0_off68 arg29 arg30 v1022).2 a = 0 ∨ (k0_off68 arg29 arg30 v1022).1 a + (k0_off68 arg29 arg30 v1022).2 a ≤ S20x65536x128.size a) ∧
  (∀ (k0_h8 : k0_cond8 arg29 = 1#1), (⟨3, (k0_off68 arg29 arg30 v1022).2⟩ : Shape).Squeezes ⟨2, k0_sz16 arg30 v1022⟩) ∧
  (∀ (k0_h8 : k0_cond8 arg29 = 1#1), ∀ (hinb : ∀ a, (k0_off68 arg29 arg30 v1022).2 a = 0 ∨ (k0_off68 arg29 arg30 v1022).1 a + (k0_off68 arg29 arg30 v1022).2 a ≤ S20x65536x128.size a), (Rect.unitDyn (s := S20x65536x128) (k0_off68 arg29 arg30 v1022).1 (k0_off68 arg29 arg30 v1022).2 hinb).WholeWords (EltTy.packing .fp8e4m3)) ∧
  (∀ (k0_h8 : k0_cond8 arg29 = 1#1), ∀ (hinb : ∀ a, (k0_off67 arg28 arg30 v1022).2 a = 0 ∨ (k0_off67 arg28 arg30 v1022).1 a + (k0_off67 arg28 arg30 v1022).2 a ≤ S12x4096x128.size a), (Rect.unitDyn (s := S12x4096x128) (k0_off67 arg28 arg30 v1022).1 (k0_off67 arg28 arg30 v1022).2 hinb).WholeWords (EltTy.packing .fp8e4m3))
theorem k0_mult35_dvd : ∀ (arg28 : BitVec 32) (arg29 : BitVec 32) (arg30 : BitVec 32) (v1022 : BitVec 32) (k0_hw30 : k0_chk30 arg28 arg29 arg30 v1022), ∀ (k0_h8 : k0_cond8 arg29 = 1#1), 32 ∣ (k0_mult35 arg30 v1022).toNat := fun arg28 arg29 arg30 v1022 k0_hw30 k0_h8 => k0_hw30.1 k0_h8
theorem k0_off67_inb : ∀ (arg28 : BitVec 32) (arg29 : BitVec 32) (arg30 : BitVec 32) (v1022 : BitVec 32) (k0_hw30 : k0_chk30 arg28 arg29 arg30 v1022), ∀ (k0_h8 : k0_cond8 arg29 = 1#1), ∀ a, (k0_off67 arg28 arg30 v1022).2 a = 0 ∨ (k0_off67 arg28 arg30 v1022).1 a + (k0_off67 arg28 arg30 v1022).2 a ≤ S12x4096x128.size a := fun arg28 arg29 arg30 v1022 k0_hw30 k0_h8 => k0_hw30.2.1 k0_h8
theorem k0_sz15_squeezes : ∀ (arg28 : BitVec 32) (arg29 : BitVec 32) (arg30 : BitVec 32) (v1022 : BitVec 32) (k0_hw30 : k0_chk30 arg28 arg29 arg30 v1022), ∀ (k0_h8 : k0_cond8 arg29 = 1#1), (⟨3, (k0_off67 arg28 arg30 v1022).2⟩ : Shape).Squeezes ⟨2, k0_sz15 arg30 v1022⟩ := fun arg28 arg29 arg30 v1022 k0_hw30 k0_h8 => k0_hw30.2.2.1 k0_h8
theorem k0_off68_inb : ∀ (arg28 : BitVec 32) (arg29 : BitVec 32) (arg30 : BitVec 32) (v1022 : BitVec 32) (k0_hw30 : k0_chk30 arg28 arg29 arg30 v1022), ∀ (k0_h8 : k0_cond8 arg29 = 1#1), ∀ a, (k0_off68 arg29 arg30 v1022).2 a = 0 ∨ (k0_off68 arg29 arg30 v1022).1 a + (k0_off68 arg29 arg30 v1022).2 a ≤ S20x65536x128.size a := fun arg28 arg29 arg30 v1022 k0_hw30 k0_h8 => k0_hw30.2.2.2.1 k0_h8
theorem k0_sz16_squeezes : ∀ (arg28 : BitVec 32) (arg29 : BitVec 32) (arg30 : BitVec 32) (v1022 : BitVec 32) (k0_hw30 : k0_chk30 arg28 arg29 arg30 v1022), ∀ (k0_h8 : k0_cond8 arg29 = 1#1), (⟨3, (k0_off68 arg29 arg30 v1022).2⟩ : Shape).Squeezes ⟨2, k0_sz16 arg30 v1022⟩ := fun arg28 arg29 arg30 v1022 k0_hw30 k0_h8 => k0_hw30.2.2.2.2.1 k0_h8
theorem k0_off68_wordsfp8e4m3 : ∀ (arg28 : BitVec 32) (arg29 : BitVec 32) (arg30 : BitVec 32) (v1022 : BitVec 32) (k0_hw30 : k0_chk30 arg28 arg29 arg30 v1022), ∀ (k0_h8 : k0_cond8 arg29 = 1#1), (Rect.unitDyn (s := S20x65536x128) (k0_off68 arg29 arg30 v1022).1 (k0_off68 arg29 arg30 v1022).2 (k0_off68_inb arg28 arg29 arg30 v1022 k0_hw30 k0_h8)).WholeWords (EltTy.packing .fp8e4m3) := fun arg28 arg29 arg30 v1022 k0_hw30 k0_h8 => k0_hw30.2.2.2.2.2.1 k0_h8 (k0_off68_inb arg28 arg29 arg30 v1022 k0_hw30 k0_h8)
theorem k0_off67_wordsfp8e4m3 : ∀ (arg28 : BitVec 32) (arg29 : BitVec 32) (arg30 : BitVec 32) (v1022 : BitVec 32) (k0_hw30 : k0_chk30 arg28 arg29 arg30 v1022), ∀ (k0_h8 : k0_cond8 arg29 = 1#1), (Rect.unitDyn (s := S12x4096x128) (k0_off67 arg28 arg30 v1022).1 (k0_off67 arg28 arg30 v1022).2 (k0_off67_inb arg28 arg29 arg30 v1022 k0_hw30 k0_h8)).WholeWords (EltTy.packing .fp8e4m3) := fun arg28 arg29 arg30 v1022 k0_hw30 k0_h8 => k0_hw30.2.2.2.2.2.2 k0_h8 (k0_off67_inb arg28 arg29 arg30 v1022 k0_hw30 k0_h8)

def k0_off69 (arg29 : BitVec 32) : Fin 1 → Nat :=
  let c19_i32 : BitVec 32 := 19#32
  let v970 : BitVec 32 := Scalar.minsi arg29 c19_i32
  let c0_i32_466 : BitVec 32 := 0#32
  let v972 : BitVec 1 := Scalar.cmpi .sgt v970 c0_i32_466
  let v973 : BitVec 32 := Scalar.extui v972
  let c0_i32_467 : BitVec 32 := 0#32
  let v974 : BitVec 1 := Scalar.cmpi .slt v970 c0_i32_467
  let v975 : BitVec 32 := Scalar.extui v974
  let v976 : BitVec 32 := Scalar.subi v973 v975
  let c10_i32_465 : BitVec 32 := 10#32
  let c0_i32_468 : BitVec 32 := 0#32
  let v977 : BitVec 1 := Scalar.cmpi .sgt c10_i32_465 c0_i32_468
  let v978 : BitVec 32 := Scalar.extui v977
  let c0_i32_469 : BitVec 32 := 0#32
  let v979 : BitVec 1 := Scalar.cmpi .slt c10_i32_465 c0_i32_469
  let v980 : BitVec 32 := Scalar.extui v979
  let v981 : BitVec 32 := Scalar.subi v978 v980
  let v982 : BitVec 1 := Scalar.cmpi .ne v976 v981
  let v983 : BitVec 32 := Scalar.remsi v970 c10_i32_465
  let c0_i32_470 : BitVec 32 := 0#32
  let v984 : BitVec 1 := Scalar.cmpi .ne v983 c0_i32_470
  let v985 : BitVec 1 := Scalar.andi v982 v984
  let v971 : BitVec 32 := Scalar.divsi v970 c10_i32_465
  let c1_i32_471 : BitVec 32 := 1#32
  let v986 : BitVec 32 := Scalar.subi v971 c1_i32_471
  let v987 : BitVec 32 := Scalar.select v985 v986 v971
  let v988 : Index := Scalar.indexCast v987
  ![v988.toNat]

def k0_chk29 (arg28 : BitVec 32) (arg29 : BitVec 32) : Prop :=
  (∀ (k0_h8 : k0_cond8 arg29 = 1#1), ∀ a, (k0_off65 arg29) a + S1.size a ≤ S2.size a) ∧
  (∀ (k0_h8 : k0_cond8 arg29 = 1#1), ∀ a, (k0_off66 arg28) a + S1.size a ≤ S12.size a) ∧
  (∀ a, (k0_off69 arg29) a + S1.size a ≤ S2.size a)
theorem k0_off65_inb : ∀ (arg28 : BitVec 32) (arg29 : BitVec 32) (k0_hw29 : k0_chk29 arg28 arg29), ∀ (k0_h8 : k0_cond8 arg29 = 1#1), ∀ a, (k0_off65 arg29) a + S1.size a ≤ S2.size a := fun arg28 arg29 k0_hw29 k0_h8 => k0_hw29.1 k0_h8
theorem k0_off66_inb : ∀ (arg28 : BitVec 32) (arg29 : BitVec 32) (k0_hw29 : k0_chk29 arg28 arg29), ∀ (k0_h8 : k0_cond8 arg29 = 1#1), ∀ a, (k0_off66 arg28) a + S1.size a ≤ S12.size a := fun arg28 arg29 k0_hw29 k0_h8 => k0_hw29.2.1 k0_h8
theorem k0_off69_inb : ∀ (arg28 : BitVec 32) (arg29 : BitVec 32) (k0_hw29 : k0_chk29 arg28 arg29), ∀ a, (k0_off69 arg29) a + S1.size a ≤ S2.size a := fun arg28 arg29 k0_hw29 => k0_hw29.2.2

@[reducible] def k0_t19_loop (v753 : BitVec 32) : Scf.Loop 32 :=
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let v807 : BitVec 32 := Scalar.addi c0_i32_389 v806
  let c1_i32_392 : BitVec 32 := 1#32
  ⟨v810, v807, c1_i32_392⟩
def k0_off70 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_400 : BitVec 32 := 0#32
  let v837 : BitVec 1 := Scalar.cmpi .sgt arg18 c0_i32_400
  let v838 : BitVec 32 := Scalar.extui v837
  let c0_i32_401 : BitVec 32 := 0#32
  let v839 : BitVec 1 := Scalar.cmpi .slt arg18 c0_i32_401
  let v840 : BitVec 32 := Scalar.extui v839
  let v841 : BitVec 32 := Scalar.subi v838 v840
  let c10_i32_399 : BitVec 32 := 10#32
  let c0_i32_402 : BitVec 32 := 0#32
  let v842 : BitVec 1 := Scalar.cmpi .sgt c10_i32_399 c0_i32_402
  let v843 : BitVec 32 := Scalar.extui v842
  let c0_i32_403 : BitVec 32 := 0#32
  let v844 : BitVec 1 := Scalar.cmpi .slt c10_i32_399 c0_i32_403
  let v845 : BitVec 32 := Scalar.extui v844
  let v846 : BitVec 32 := Scalar.subi v843 v845
  let v847 : BitVec 1 := Scalar.cmpi .ne v841 v846
  let v848 : BitVec 32 := Scalar.remsi arg18 c10_i32_399
  let c0_i32_404 : BitVec 32 := 0#32
  let v849 : BitVec 1 := Scalar.cmpi .ne v848 c0_i32_404
  let v850 : BitVec 1 := Scalar.andi v847 v849
  let v836 : BitVec 32 := Scalar.divsi arg18 c10_i32_399
  let c1_i32_405 : BitVec 32 := 1#32
  let v851 : BitVec 32 := Scalar.subi v836 c1_i32_405
  let v852 : BitVec 32 := Scalar.select v850 v851 v836
  let v853 : Index := Scalar.indexCast v852
  ![v853.toNat]
def k0_mult37 (v753 : BitVec 32) (k0_t19 : Fin (k0_t19_loop v753).trips) (v854 : BitVec 32) : BitVec 32 :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  v863

def k0_mult38 (v753 : BitVec 32) (k0_t19 : Fin (k0_t19_loop v753).trips) : BitVec 32 :=
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_412 : BitVec 32 := 4096#32
  let v865 : BitVec 32 := Scalar.muli arg25 c4096_i32_412
  v865

def k0_chk7 (v753 : BitVec 32) : Prop :=
  ((k0_t4_loop v753).OK) ∧
  (∀ k0_t4 : Fin (k0_t4_loop v753).trips, 4096 ∣ (k0_mult6 v753 k0_t4).toNat) ∧
  ((k0_t9_loop v753).OK) ∧
  (∀ k0_t9 : Fin (k0_t9_loop v753).trips, 4096 ∣ (k0_mult17 v753 k0_t9).toNat) ∧
  ((k0_t14_loop v753).OK) ∧
  (∀ k0_t14 : Fin (k0_t14_loop v753).trips, 4096 ∣ (k0_mult28 v753 k0_t14).toNat) ∧
  ((k0_t19_loop v753).OK) ∧
  (∀ k0_t19 : Fin (k0_t19_loop v753).trips, 4096 ∣ (k0_mult38 v753 k0_t19).toNat)
theorem k0_t4_ok : ∀ (v753 : BitVec 32) (k0_hw7 : k0_chk7 v753), (k0_t4_loop v753).OK := fun v753 k0_hw7 => k0_hw7.1
theorem k0_mult6_dvd : ∀ (v753 : BitVec 32) (k0_hw7 : k0_chk7 v753) (k0_t4 : Fin (k0_t4_loop v753).trips), 4096 ∣ (k0_mult6 v753 k0_t4).toNat := fun v753 k0_hw7 k0_t4 => k0_hw7.2.1 k0_t4
theorem k0_t9_ok : ∀ (v753 : BitVec 32) (k0_hw7 : k0_chk7 v753), (k0_t9_loop v753).OK := fun v753 k0_hw7 => k0_hw7.2.2.1
theorem k0_mult17_dvd : ∀ (v753 : BitVec 32) (k0_hw7 : k0_chk7 v753) (k0_t9 : Fin (k0_t9_loop v753).trips), 4096 ∣ (k0_mult17 v753 k0_t9).toNat := fun v753 k0_hw7 k0_t9 => k0_hw7.2.2.2.1 k0_t9
theorem k0_t14_ok : ∀ (v753 : BitVec 32) (k0_hw7 : k0_chk7 v753), (k0_t14_loop v753).OK := fun v753 k0_hw7 => k0_hw7.2.2.2.2.1
theorem k0_mult28_dvd : ∀ (v753 : BitVec 32) (k0_hw7 : k0_chk7 v753) (k0_t14 : Fin (k0_t14_loop v753).trips), 4096 ∣ (k0_mult28 v753 k0_t14).toNat := fun v753 k0_hw7 k0_t14 => k0_hw7.2.2.2.2.2.1 k0_t14
theorem k0_t19_ok : ∀ (v753 : BitVec 32) (k0_hw7 : k0_chk7 v753), (k0_t19_loop v753).OK := fun v753 k0_hw7 => k0_hw7.2.2.2.2.2.2.1
theorem k0_mult38_dvd : ∀ (v753 : BitVec 32) (k0_hw7 : k0_chk7 v753) (k0_t19 : Fin (k0_t19_loop v753).trips), 4096 ∣ (k0_mult38 v753 k0_t19).toNat := fun v753 k0_hw7 k0_t19 => k0_hw7.2.2.2.2.2.2.2 k0_t19

def k0_off71 (arg28 : BitVec 32) : Fin 1 → Nat :=
  ![arg28.toNat]

def k0_chk33 (arg28 : BitVec 32) : Prop :=
  (∀ a, (k0_off71 arg28) a + S1.size a ≤ S12.size a)
theorem k0_off71_inb : ∀ (arg28 : BitVec 32) (k0_hw33 : k0_chk33 arg28), ∀ a, (k0_off71 arg28) a + S1.size a ≤ S12.size a := fun arg28 k0_hw33 => k0_hw33

def k0_off72 (v753 : BitVec 32) (k0_t19 : Fin (k0_t19_loop v753).trips) (arg28 : BitVec 32) (v854 : BitVec 32) : (Fin 3 → Nat) × (Fin 3 → Nat) :=
  let c0_i32_413 : BitVec 32 := 0#32
  let c0_i32_414 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg28.toNat, 0, 0], ![1, v864.toNat, 128]⟩

def k0_sz17 (v753 : BitVec 32) (k0_t19 : Fin (k0_t19_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]
def k0_off73 (k0_t3 : Fin k0_t3_loop.trips) (v753 : BitVec 32) (k0_t19 : Fin (k0_t19_loop v753).trips) (v854 : BitVec 32) : (Fin 3 → Nat) × (Fin 3 → Nat) :=
  let c0_i32_292 : BitVec 32 := 0#32
  let c1_i32_293 : BitVec 32 := 1#32
  let arg18 : BitVec 32 := Scf.iv c0_i32_292 c1_i32_293 k0_t3
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_412 : BitVec 32 := 4096#32
  let v865 : BitVec 32 := Scalar.muli arg25 c4096_i32_412
  let v866 : BitVec 32 := v865
  let c0_i32_415 : BitVec 32 := 0#32
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ⟨![arg18.toNat, v866.toNat, 0], ![1, v864.toNat, 128]⟩

def k0_sz18 (v753 : BitVec 32) (k0_t19 : Fin (k0_t19_loop v753).trips) (v854 : BitVec 32) : Fin 2 → Nat :=
  let c4096_i32_411 : BitVec 32 := 4096#32
  let c32_i32_410 : BitVec 32 := 32#32
  let c65536_i32_407 : BitVec 32 := 65536#32
  let c0_i32_406 : BitVec 32 := 0#32
  let v855 : BitVec 32 := Scalar.maxsi c0_i32_406 v854
  let v856 : BitVec 32 := Scalar.minsi c65536_i32_407 v855
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_408 : BitVec 32 := 4096#32
  let v857 : BitVec 32 := Scalar.muli arg25 c4096_i32_408
  let v858 : BitVec 32 := Scalar.subi v856 v857
  let c31_i32 : BitVec 32 := 31#32
  let v859 : BitVec 32 := Scalar.addi v858 c31_i32
  let c32_i32 : BitVec 32 := 32#32
  let v860 : BitVec 32 := Scalar.divsi v859 c32_i32
  let c32_i32_409 : BitVec 32 := 32#32
  let v861 : BitVec 32 := Scalar.muli v860 c32_i32_409
  let v862 : BitVec 32 := Scalar.maxsi c32_i32_410 v861
  let v863 : BitVec 32 := Scalar.minsi c4096_i32_411 v862
  let v864 : BitVec 32 := v863
  ![v864.toNat, 128]

def k0_chk32 (k0_t3 : Fin k0_t3_loop.trips) (v753 : BitVec 32) (k0_t19 : Fin (k0_t19_loop v753).trips) (arg28 : BitVec 32) (v854 : BitVec 32) : Prop :=
  (32 ∣ (k0_mult37 v753 k0_t19 v854).toNat) ∧
  ((⟨3, (k0_off72 v753 k0_t19 arg28 v854).2⟩ : Shape).Squeezes ⟨2, k0_sz17 v753 k0_t19 v854⟩) ∧
  ((⟨3, (k0_off73 k0_t3 v753 k0_t19 v854).2⟩ : Shape).Squeezes ⟨2, k0_sz18 v753 k0_t19 v854⟩)
theorem k0_mult37_dvd : ∀ (k0_t3 : Fin k0_t3_loop.trips) (v753 : BitVec 32) (k0_t19 : Fin (k0_t19_loop v753).trips) (arg28 : BitVec 32) (v854 : BitVec 32) (k0_hw32 : k0_chk32 k0_t3 v753 k0_t19 arg28 v854), 32 ∣ (k0_mult37 v753 k0_t19 v854).toNat := fun k0_t3 v753 k0_t19 arg28 v854 k0_hw32 => k0_hw32.1
theorem k0_sz17_squeezes : ∀ (k0_t3 : Fin k0_t3_loop.trips) (v753 : BitVec 32) (k0_t19 : Fin (k0_t19_loop v753).trips) (arg28 : BitVec 32) (v854 : BitVec 32) (k0_hw32 : k0_chk32 k0_t3 v753 k0_t19 arg28 v854), (⟨3, (k0_off72 v753 k0_t19 arg28 v854).2⟩ : Shape).Squeezes ⟨2, k0_sz17 v753 k0_t19 v854⟩ := fun k0_t3 v753 k0_t19 arg28 v854 k0_hw32 => k0_hw32.2.1
theorem k0_sz18_squeezes : ∀ (k0_t3 : Fin k0_t3_loop.trips) (v753 : BitVec 32) (k0_t19 : Fin (k0_t19_loop v753).trips) (arg28 : BitVec 32) (v854 : BitVec 32) (k0_hw32 : k0_chk32 k0_t3 v753 k0_t19 arg28 v854), (⟨3, (k0_off73 k0_t3 v753 k0_t19 v854).2⟩ : Shape).Squeezes ⟨2, k0_sz18 v753 k0_t19 v854⟩ := fun k0_t3 v753 k0_t19 arg28 v854 k0_hw32 => k0_hw32.2.2

def k0_off74 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_417 : BitVec 32 := 0#32
  let v874 : BitVec 1 := Scalar.cmpi .sgt arg18 c0_i32_417
  let v875 : BitVec 32 := Scalar.extui v874
  let c0_i32_418 : BitVec 32 := 0#32
  let v876 : BitVec 1 := Scalar.cmpi .slt arg18 c0_i32_418
  let v877 : BitVec 32 := Scalar.extui v876
  let v878 : BitVec 32 := Scalar.subi v875 v877
  let c10_i32_416 : BitVec 32 := 10#32
  let c0_i32_419 : BitVec 32 := 0#32
  let v879 : BitVec 1 := Scalar.cmpi .sgt c10_i32_416 c0_i32_419
  let v880 : BitVec 32 := Scalar.extui v879
  let c0_i32_420 : BitVec 32 := 0#32
  let v881 : BitVec 1 := Scalar.cmpi .slt c10_i32_416 c0_i32_420
  let v882 : BitVec 32 := Scalar.extui v881
  let v883 : BitVec 32 := Scalar.subi v880 v882
  let v884 : BitVec 1 := Scalar.cmpi .ne v878 v883
  let v885 : BitVec 32 := Scalar.remsi arg18 c10_i32_416
  let c0_i32_421 : BitVec 32 := 0#32
  let v886 : BitVec 1 := Scalar.cmpi .ne v885 c0_i32_421
  let v887 : BitVec 1 := Scalar.andi v884 v886
  let v873 : BitVec 32 := Scalar.divsi arg18 c10_i32_416
  let c1_i32_422 : BitVec 32 := 1#32
  let v888 : BitVec 32 := Scalar.subi v873 c1_i32_422
  let v889 : BitVec 32 := Scalar.select v887 v888 v873
  let v890 : Index := Scalar.indexCast v889
  ![v890.toNat]
def k0_mult39 (v753 : BitVec 32) (k0_t19 : Fin (k0_t19_loop v753).trips) (v891 : BitVec 32) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  v900

def k0_chk34 (v753 : BitVec 32) (k0_t19 : Fin (k0_t19_loop v753).trips) (v891 : BitVec 32) : Prop :=
  (32 ∣ (k0_mult39 v753 k0_t19 v891).toNat)
theorem k0_mult39_dvd : ∀ (v753 : BitVec 32) (k0_t19 : Fin (k0_t19_loop v753).trips) (v891 : BitVec 32) (k0_hw34 : k0_chk34 v753 k0_t19 v891), 32 ∣ (k0_mult39 v753 k0_t19 v891).toNat := fun v753 k0_t19 v891 k0_hw34 => k0_hw34

def k0_off75 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_432 : BitVec 32 := 0#32
  let v903 : BitVec 1 := Scalar.cmpi .sgt arg18 c0_i32_432
  let v904 : BitVec 32 := Scalar.extui v903
  let c0_i32_433 : BitVec 32 := 0#32
  let v905 : BitVec 1 := Scalar.cmpi .slt arg18 c0_i32_433
  let v906 : BitVec 32 := Scalar.extui v905
  let v907 : BitVec 32 := Scalar.subi v904 v906
  let c10_i32_431 : BitVec 32 := 10#32
  let c0_i32_434 : BitVec 32 := 0#32
  let v908 : BitVec 1 := Scalar.cmpi .sgt c10_i32_431 c0_i32_434
  let v909 : BitVec 32 := Scalar.extui v908
  let c0_i32_435 : BitVec 32 := 0#32
  let v910 : BitVec 1 := Scalar.cmpi .slt c10_i32_431 c0_i32_435
  let v911 : BitVec 32 := Scalar.extui v910
  let v912 : BitVec 32 := Scalar.subi v909 v911
  let v913 : BitVec 1 := Scalar.cmpi .ne v907 v912
  let v914 : BitVec 32 := Scalar.remsi arg18 c10_i32_431
  let c0_i32_436 : BitVec 32 := 0#32
  let v915 : BitVec 1 := Scalar.cmpi .ne v914 c0_i32_436
  let v916 : BitVec 1 := Scalar.andi v913 v915
  let v902 : BitVec 32 := Scalar.divsi arg18 c10_i32_431
  let c1_i32_437 : BitVec 32 := 1#32
  let v917 : BitVec 32 := Scalar.subi v902 c1_i32_437
  let v918 : BitVec 32 := Scalar.select v916 v917 v902
  let v919 : Index := Scalar.indexCast v918
  ![v919.toNat]
@[reducible] def k0_t20_loop (v753 : BitVec 32) (k0_t19 : Fin (k0_t19_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let c1_i32_495 : BitVec 32 := 1#32
  ⟨v1023, v1028, c1_i32_495⟩
def k0_cond9 (v753 : BitVec 32) (k0_t19 : Fin (k0_t19_loop v753).trips) (v920 : BitVec 32) : BitVec 1 :=
  let c65536_i32_439 : BitVec 32 := 65536#32
  let c0_i32_438 : BitVec 32 := 0#32
  let v921 : BitVec 32 := Scalar.maxsi c0_i32_438 v920
  let v922 : BitVec 32 := Scalar.minsi c65536_i32_439 v921
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_440 : BitVec 32 := 4096#32
  let v923 : BitVec 32 := Scalar.muli arg25 c4096_i32_440
  let v924 : BitVec 32 := Scalar.subi v922 v923
  let c4096_i32_441 : BitVec 32 := 4096#32
  let v925 : BitVec 1 := Scalar.cmpi .slt v924 c4096_i32_441
  let v926 : BitVec 32 := Scalar.extui v925
  let c0_i32_442 : BitVec 32 := 0#32
  let v927 : BitVec 1 := Scalar.cmpi .ne v926 c0_i32_442
  v927

def k0_mult40 (v753 : BitVec 32) (k0_t19 : Fin (k0_t19_loop v753).trips) (v891 : BitVec 32) (k0_t20 : Fin (k0_t20_loop v753 k0_t19 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c1_i32_495 : BitVec 32 := 1#32
  let arg31 : BitVec 32 := Scf.iv v1023 c1_i32_495 k0_t20
  let c32_i32_497 : BitVec 32 := 32#32
  let v1029 : BitVec 32 := Scalar.muli arg31 c32_i32_497
  v1029
def k0_off76 (v753 : BitVec 32) (k0_t19 : Fin (k0_t19_loop v753).trips) (arg28 : BitVec 32) (v891 : BitVec 32) (k0_t20 : Fin (k0_t20_loop v753 k0_t19 v891).trips) : Fin 3 → Nat :=
  let v1032 : Index := Scalar.indexCast arg28
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c1_i32_495 : BitVec 32 := 1#32
  let arg31 : BitVec 32 := Scf.iv v1023 c1_i32_495 k0_t20
  let c32_i32_497 : BitVec 32 := 32#32
  let v1029 : BitVec 32 := Scalar.muli arg31 c32_i32_497
  let v1030 : BitVec 32 := v1029
  let v1033 : Index := Scalar.indexCast v1030
  let c0_499 : Index := 0#32
  ![v1032.toNat, v1033.toNat, 0]
@[reducible] def k0_t21_loop (v753 : BitVec 32) (k0_t19 : Fin (k0_t19_loop v753).trips) (v891 : BitVec 32) : Scf.Loop 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let v1025 : BitVec 32 := Scalar.addi v1023 v1024
  let c1_i32_496 : BitVec 32 := 1#32
  ⟨v1028, v1025, c1_i32_496⟩
def k0_mult41 (v753 : BitVec 32) (k0_t19 : Fin (k0_t19_loop v753).trips) (v891 : BitVec 32) (k0_t21 : Fin (k0_t21_loop v753 k0_t19 v891).trips) : BitVec 32 :=
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let c1_i32_496 : BitVec 32 := 1#32
  let arg31 : BitVec 32 := Scf.iv v1028 c1_i32_496 k0_t21
  let c32_i32_497 : BitVec 32 := 32#32
  let v1029 : BitVec 32 := Scalar.muli arg31 c32_i32_497
  v1029
def k0_off77 (v753 : BitVec 32) (k0_t19 : Fin (k0_t19_loop v753).trips) (arg28 : BitVec 32) (v891 : BitVec 32) (k0_t21 : Fin (k0_t21_loop v753 k0_t19 v891).trips) : Fin 3 → Nat :=
  let v1032 : Index := Scalar.indexCast arg28
  let c4096_i32_430 : BitVec 32 := 4096#32
  let c32_i32_429 : BitVec 32 := 32#32
  let c65536_i32_424 : BitVec 32 := 65536#32
  let c0_i32_423 : BitVec 32 := 0#32
  let v892 : BitVec 32 := Scalar.maxsi c0_i32_423 v891
  let v893 : BitVec 32 := Scalar.minsi c65536_i32_424 v892
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_425 : BitVec 32 := 4096#32
  let v894 : BitVec 32 := Scalar.muli arg25 c4096_i32_425
  let v895 : BitVec 32 := Scalar.subi v893 v894
  let c31_i32_426 : BitVec 32 := 31#32
  let v896 : BitVec 32 := Scalar.addi v895 c31_i32_426
  let c32_i32_427 : BitVec 32 := 32#32
  let v897 : BitVec 32 := Scalar.divsi v896 c32_i32_427
  let c32_i32_428 : BitVec 32 := 32#32
  let v898 : BitVec 32 := Scalar.muli v897 c32_i32_428
  let v899 : BitVec 32 := Scalar.maxsi c32_i32_429 v898
  let v900 : BitVec 32 := Scalar.minsi c4096_i32_430 v899
  let v901 : BitVec 32 := v900
  let c0_i32_487 : BitVec 32 := 0#32
  let v1008 : BitVec 1 := Scalar.cmpi .sgt v901 c0_i32_487
  let v1009 : BitVec 32 := Scalar.extui v1008
  let c0_i32_488 : BitVec 32 := 0#32
  let v1010 : BitVec 1 := Scalar.cmpi .slt v901 c0_i32_488
  let v1011 : BitVec 32 := Scalar.extui v1010
  let v1012 : BitVec 32 := Scalar.subi v1009 v1011
  let c32_i32_486 : BitVec 32 := 32#32
  let c0_i32_489 : BitVec 32 := 0#32
  let v1013 : BitVec 1 := Scalar.cmpi .sgt c32_i32_486 c0_i32_489
  let v1014 : BitVec 32 := Scalar.extui v1013
  let c0_i32_490 : BitVec 32 := 0#32
  let v1015 : BitVec 1 := Scalar.cmpi .slt c32_i32_486 c0_i32_490
  let v1016 : BitVec 32 := Scalar.extui v1015
  let v1017 : BitVec 32 := Scalar.subi v1014 v1016
  let v1018 : BitVec 1 := Scalar.cmpi .ne v1012 v1017
  let v1019 : BitVec 32 := Scalar.remsi v901 c32_i32_486
  let c0_i32_491 : BitVec 32 := 0#32
  let v1020 : BitVec 1 := Scalar.cmpi .ne v1019 c0_i32_491
  let v1021 : BitVec 1 := Scalar.andi v1018 v1020
  let v1007 : BitVec 32 := Scalar.divsi v901 c32_i32_486
  let c1_i32_492 : BitVec 32 := 1#32
  let v1022 : BitVec 32 := Scalar.subi v1007 c1_i32_492
  let v1023 : BitVec 32 := Scalar.select v1021 v1022 v1007
  let c2047_i32_484 : BitVec 32 := 2047#32
  let v1004 : BitVec 32 := Scalar.addi v901 c2047_i32_484
  let c2048_i32_485 : BitVec 32 := 2048#32
  let v1005 : BitVec 32 := Scalar.divsi v1004 c2048_i32_485
  let c64_i32 : BitVec 32 := 64#32
  let v1006 : BitVec 32 := Scalar.muli v1005 c64_i32
  let v1024 : BitVec 32 := Scalar.subi v1006 v1023
  let c1_i32_494 : BitVec 32 := 1#32
  let v1026 : BitVec 32 := Scalar.divsi v1024 c1_i32_494
  let v1027 : BitVec 32 := Scalar.muli v1026 c1_i32_494
  let v1028 : BitVec 32 := Scalar.addi v1023 v1027
  let c1_i32_496 : BitVec 32 := 1#32
  let arg31 : BitVec 32 := Scf.iv v1028 c1_i32_496 k0_t21
  let c32_i32_497 : BitVec 32 := 32#32
  let v1029 : BitVec 32 := Scalar.muli arg31 c32_i32_497
  let v1030 : BitVec 32 := v1029
  let v1033 : Index := Scalar.indexCast v1030
  let c0_499 : Index := 0#32
  ![v1032.toNat, v1033.toNat, 0]

def k0_chk35 (v753 : BitVec 32) (k0_t19 : Fin (k0_t19_loop v753).trips) (arg28 : BitVec 32) (v891 : BitVec 32) (v920 : BitVec 32) : Prop :=
  (∀ (k0_h9 : k0_cond9 v753 k0_t19 v920 = 1#1), (k0_t20_loop v753 k0_t19 v891).OK) ∧
  (∀ k0_t20 : Fin (k0_t20_loop v753 k0_t19 v891).trips, ∀ (k0_h9 : k0_cond9 v753 k0_t19 v920 = 1#1), 32 ∣ (k0_mult40 v753 k0_t19 v891 k0_t20).toNat) ∧
  (∀ k0_t20 : Fin (k0_t20_loop v753 k0_t19 v891).trips, ∀ (k0_h9 : k0_cond9 v753 k0_t19 v920 = 1#1), ∀ a, (k0_off76 v753 k0_t19 arg28 v891 k0_t20) a + S1x32x128.size a ≤ S12x4096x128.size a) ∧
  (∀ k0_t20 : Fin (k0_t20_loop v753 k0_t19 v891).trips, ∀ (k0_h9 : k0_cond9 v753 k0_t19 v920 = 1#1), ∀ (hinb : ∀ a, (k0_off76 v753 k0_t19 arg28 v891 k0_t20) a + S1x32x128.size a ≤ S12x4096x128.size a), (Rect.unit (s := S12x4096x128) (k0_off76 v753 k0_t19 arg28 v891 k0_t20) S1x32x128.size hinb).PackedRows (EltTy.packing .fp8e4m3)) ∧
  (∀ (k0_h9 : k0_cond9 v753 k0_t19 v920 = 1#1), (k0_t21_loop v753 k0_t19 v891).OK) ∧
  (∀ k0_t21 : Fin (k0_t21_loop v753 k0_t19 v891).trips, ∀ (k0_h9 : k0_cond9 v753 k0_t19 v920 = 1#1), 32 ∣ (k0_mult41 v753 k0_t19 v891 k0_t21).toNat) ∧
  (∀ k0_t21 : Fin (k0_t21_loop v753 k0_t19 v891).trips, ∀ (k0_h9 : k0_cond9 v753 k0_t19 v920 = 1#1), ∀ a, (k0_off77 v753 k0_t19 arg28 v891 k0_t21) a + S1x32x128.size a ≤ S12x4096x128.size a) ∧
  (∀ k0_t21 : Fin (k0_t21_loop v753 k0_t19 v891).trips, ∀ (k0_h9 : k0_cond9 v753 k0_t19 v920 = 1#1), ∀ (hinb : ∀ a, (k0_off77 v753 k0_t19 arg28 v891 k0_t21) a + S1x32x128.size a ≤ S12x4096x128.size a), (Rect.unit (s := S12x4096x128) (k0_off77 v753 k0_t19 arg28 v891 k0_t21) S1x32x128.size hinb).PackedRows (EltTy.packing .fp8e4m3))
theorem k0_t20_ok : ∀ (v753 : BitVec 32) (k0_t19 : Fin (k0_t19_loop v753).trips) (arg28 : BitVec 32) (v891 : BitVec 32) (v920 : BitVec 32) (k0_hw35 : k0_chk35 v753 k0_t19 arg28 v891 v920), ∀ (k0_h9 : k0_cond9 v753 k0_t19 v920 = 1#1), (k0_t20_loop v753 k0_t19 v891).OK := fun v753 k0_t19 arg28 v891 v920 k0_hw35 k0_h9 => k0_hw35.1 k0_h9
theorem k0_mult40_dvd : ∀ (v753 : BitVec 32) (k0_t19 : Fin (k0_t19_loop v753).trips) (arg28 : BitVec 32) (v891 : BitVec 32) (v920 : BitVec 32) (k0_hw35 : k0_chk35 v753 k0_t19 arg28 v891 v920) (k0_t20 : Fin (k0_t20_loop v753 k0_t19 v891).trips), ∀ (k0_h9 : k0_cond9 v753 k0_t19 v920 = 1#1), 32 ∣ (k0_mult40 v753 k0_t19 v891 k0_t20).toNat := fun v753 k0_t19 arg28 v891 v920 k0_hw35 k0_t20 k0_h9 => k0_hw35.2.1 k0_t20 k0_h9
theorem k0_off76_inb : ∀ (v753 : BitVec 32) (k0_t19 : Fin (k0_t19_loop v753).trips) (arg28 : BitVec 32) (v891 : BitVec 32) (v920 : BitVec 32) (k0_hw35 : k0_chk35 v753 k0_t19 arg28 v891 v920) (k0_t20 : Fin (k0_t20_loop v753 k0_t19 v891).trips), ∀ (k0_h9 : k0_cond9 v753 k0_t19 v920 = 1#1), ∀ a, (k0_off76 v753 k0_t19 arg28 v891 k0_t20) a + S1x32x128.size a ≤ S12x4096x128.size a := fun v753 k0_t19 arg28 v891 v920 k0_hw35 k0_t20 k0_h9 => k0_hw35.2.2.1 k0_t20 k0_h9
theorem k0_off76_packedfp8e4m3 : ∀ (v753 : BitVec 32) (k0_t19 : Fin (k0_t19_loop v753).trips) (arg28 : BitVec 32) (v891 : BitVec 32) (v920 : BitVec 32) (k0_hw35 : k0_chk35 v753 k0_t19 arg28 v891 v920) (k0_t20 : Fin (k0_t20_loop v753 k0_t19 v891).trips), ∀ (k0_h9 : k0_cond9 v753 k0_t19 v920 = 1#1), (Rect.unit (s := S12x4096x128) (k0_off76 v753 k0_t19 arg28 v891 k0_t20) S1x32x128.size (k0_off76_inb v753 k0_t19 arg28 v891 v920 k0_hw35 k0_t20 k0_h9)).PackedRows (EltTy.packing .fp8e4m3) := fun v753 k0_t19 arg28 v891 v920 k0_hw35 k0_t20 k0_h9 => k0_hw35.2.2.2.1 k0_t20 k0_h9 (k0_off76_inb v753 k0_t19 arg28 v891 v920 k0_hw35 k0_t20 k0_h9)
theorem k0_t21_ok : ∀ (v753 : BitVec 32) (k0_t19 : Fin (k0_t19_loop v753).trips) (arg28 : BitVec 32) (v891 : BitVec 32) (v920 : BitVec 32) (k0_hw35 : k0_chk35 v753 k0_t19 arg28 v891 v920), ∀ (k0_h9 : k0_cond9 v753 k0_t19 v920 = 1#1), (k0_t21_loop v753 k0_t19 v891).OK := fun v753 k0_t19 arg28 v891 v920 k0_hw35 k0_h9 => k0_hw35.2.2.2.2.1 k0_h9
theorem k0_mult41_dvd : ∀ (v753 : BitVec 32) (k0_t19 : Fin (k0_t19_loop v753).trips) (arg28 : BitVec 32) (v891 : BitVec 32) (v920 : BitVec 32) (k0_hw35 : k0_chk35 v753 k0_t19 arg28 v891 v920) (k0_t21 : Fin (k0_t21_loop v753 k0_t19 v891).trips), ∀ (k0_h9 : k0_cond9 v753 k0_t19 v920 = 1#1), 32 ∣ (k0_mult41 v753 k0_t19 v891 k0_t21).toNat := fun v753 k0_t19 arg28 v891 v920 k0_hw35 k0_t21 k0_h9 => k0_hw35.2.2.2.2.2.1 k0_t21 k0_h9
theorem k0_off77_inb : ∀ (v753 : BitVec 32) (k0_t19 : Fin (k0_t19_loop v753).trips) (arg28 : BitVec 32) (v891 : BitVec 32) (v920 : BitVec 32) (k0_hw35 : k0_chk35 v753 k0_t19 arg28 v891 v920) (k0_t21 : Fin (k0_t21_loop v753 k0_t19 v891).trips), ∀ (k0_h9 : k0_cond9 v753 k0_t19 v920 = 1#1), ∀ a, (k0_off77 v753 k0_t19 arg28 v891 k0_t21) a + S1x32x128.size a ≤ S12x4096x128.size a := fun v753 k0_t19 arg28 v891 v920 k0_hw35 k0_t21 k0_h9 => k0_hw35.2.2.2.2.2.2.1 k0_t21 k0_h9
theorem k0_off77_packedfp8e4m3 : ∀ (v753 : BitVec 32) (k0_t19 : Fin (k0_t19_loop v753).trips) (arg28 : BitVec 32) (v891 : BitVec 32) (v920 : BitVec 32) (k0_hw35 : k0_chk35 v753 k0_t19 arg28 v891 v920) (k0_t21 : Fin (k0_t21_loop v753 k0_t19 v891).trips), ∀ (k0_h9 : k0_cond9 v753 k0_t19 v920 = 1#1), (Rect.unit (s := S12x4096x128) (k0_off77 v753 k0_t19 arg28 v891 k0_t21) S1x32x128.size (k0_off77_inb v753 k0_t19 arg28 v891 v920 k0_hw35 k0_t21 k0_h9)).PackedRows (EltTy.packing .fp8e4m3) := fun v753 k0_t19 arg28 v891 v920 k0_hw35 k0_t21 k0_h9 => k0_hw35.2.2.2.2.2.2.2 k0_t21 k0_h9 (k0_off77_inb v753 k0_t19 arg28 v891 v920 k0_hw35 k0_t21 k0_h9)

def k0_off78 (k0_t3 : Fin k0_t3_loop.trips) : Fin 1 → Nat :=
  let c0_i32_292 : BitVec 32 := 0#32
  let c1_i32_293 : BitVec 32 := 1#32
  let arg18 : BitVec 32 := Scf.iv c0_i32_292 c1_i32_293 k0_t3
  let c0_i32_444 : BitVec 32 := 0#32
  let v929 : BitVec 1 := Scalar.cmpi .sgt arg18 c0_i32_444
  let v930 : BitVec 32 := Scalar.extui v929
  let c0_i32_445 : BitVec 32 := 0#32
  let v931 : BitVec 1 := Scalar.cmpi .slt arg18 c0_i32_445
  let v932 : BitVec 32 := Scalar.extui v931
  let v933 : BitVec 32 := Scalar.subi v930 v932
  let c10_i32_443 : BitVec 32 := 10#32
  let c0_i32_446 : BitVec 32 := 0#32
  let v934 : BitVec 1 := Scalar.cmpi .sgt c10_i32_443 c0_i32_446
  let v935 : BitVec 32 := Scalar.extui v934
  let c0_i32_447 : BitVec 32 := 0#32
  let v936 : BitVec 1 := Scalar.cmpi .slt c10_i32_443 c0_i32_447
  let v937 : BitVec 32 := Scalar.extui v936
  let v938 : BitVec 32 := Scalar.subi v935 v937
  let v939 : BitVec 1 := Scalar.cmpi .ne v933 v938
  let v940 : BitVec 32 := Scalar.remsi arg18 c10_i32_443
  let c0_i32_448 : BitVec 32 := 0#32
  let v941 : BitVec 1 := Scalar.cmpi .ne v940 c0_i32_448
  let v942 : BitVec 1 := Scalar.andi v939 v941
  let v928 : BitVec 32 := Scalar.divsi arg18 c10_i32_443
  let c1_i32_449 : BitVec 32 := 1#32
  let v943 : BitVec 32 := Scalar.subi v928 c1_i32_449
  let v944 : BitVec 32 := Scalar.select v942 v943 v928
  let v945 : Index := Scalar.indexCast v944
  ![v945.toNat]
def k0_mult42 (v753 : BitVec 32) (k0_t19 : Fin (k0_t19_loop v753).trips) (v946 : BitVec 32) : BitVec 32 :=
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  v955

@[reducible] def k0_t22_loop (v753 : BitVec 32) (k0_t19 : Fin (k0_t19_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_460 : BitVec 32 := 1#32
  ⟨c0_i32_458, v963, c1_i32_460⟩
def k0_off79 (v753 : BitVec 32) (k0_t19 : Fin (k0_t19_loop v753).trips) (v946 : BitVec 32) (k0_t22 : Fin (k0_t22_loop v753 k0_t19 v946).trips) : Fin 3 → Nat :=
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c2_i32 : BitVec 32 := 2#32
  let v1004 : BitVec 32 := Scalar.muli arg25 c2_i32
  let c0_i32_458 : BitVec 32 := 0#32
  let c1_i32_460 : BitVec 32 := 1#32
  let arg31 : BitVec 32 := Scf.iv c0_i32_458 c1_i32_460 k0_t22
  let v1005 : BitVec 32 := Scalar.addi v1004 arg31
  let v1006 : Index := Scalar.indexCast v1005
  let c0_484 : Index := 0#32
  let c0_485 : Index := 0#32
  ![v1006.toNat, 0, 0]
def k0_mult43 (v753 : BitVec 32) (k0_t19 : Fin (k0_t19_loop v753).trips) (v946 : BitVec 32) (k0_t22 : Fin (k0_t22_loop v753 k0_t19 v946).trips) : BitVec 32 :=
  let c0_i32_458 : BitVec 32 := 0#32
  let c1_i32_460 : BitVec 32 := 1#32
  let arg31 : BitVec 32 := Scf.iv c0_i32_458 c1_i32_460 k0_t22
  let c2048_i32_488 : BitVec 32 := 2048#32
  let v1048 : BitVec 32 := Scalar.muli arg31 c2048_i32_488
  v1048
def k0_off80 (v753 : BitVec 32) (k0_t19 : Fin (k0_t19_loop v753).trips) (arg28 : BitVec 32) (v946 : BitVec 32) (k0_t22 : Fin (k0_t22_loop v753 k0_t19 v946).trips) : Fin 3 → Nat :=
  let v1050 : Index := Scalar.indexCast arg28
  let c0_i32_458 : BitVec 32 := 0#32
  let c1_i32_460 : BitVec 32 := 1#32
  let arg31 : BitVec 32 := Scf.iv c0_i32_458 c1_i32_460 k0_t22
  let c2048_i32_488 : BitVec 32 := 2048#32
  let v1048 : BitVec 32 := Scalar.muli arg31 c2048_i32_488
  let v1049 : BitVec 32 := v1048
  let v1051 : Index := Scalar.indexCast v1049
  let c0_489 : Index := 0#32
  ![v1050.toNat, v1051.toNat, 0]
@[reducible] def k0_t23_loop (v753 : BitVec 32) (k0_t19 : Fin (k0_t19_loop v753).trips) (v946 : BitVec 32) : Scf.Loop 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let v960 : BitVec 32 := Scalar.addi c0_i32_458 v959
  let c1_i32_461 : BitVec 32 := 1#32
  ⟨v963, v960, c1_i32_461⟩
def k0_off81 (v753 : BitVec 32) (k0_t19 : Fin (k0_t19_loop v753).trips) (v946 : BitVec 32) (k0_t23 : Fin (k0_t23_loop v753 k0_t19 v946).trips) : Fin 3 → Nat :=
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c2_i32 : BitVec 32 := 2#32
  let v1004 : BitVec 32 := Scalar.muli arg25 c2_i32
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg31 : BitVec 32 := Scf.iv v963 c1_i32_461 k0_t23
  let v1005 : BitVec 32 := Scalar.addi v1004 arg31
  let v1006 : Index := Scalar.indexCast v1005
  let c0_484 : Index := 0#32
  let c0_485 : Index := 0#32
  ![v1006.toNat, 0, 0]
def k0_mult44 (v753 : BitVec 32) (k0_t19 : Fin (k0_t19_loop v753).trips) (v946 : BitVec 32) (k0_t23 : Fin (k0_t23_loop v753 k0_t19 v946).trips) : BitVec 32 :=
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg31 : BitVec 32 := Scf.iv v963 c1_i32_461 k0_t23
  let c2048_i32_488 : BitVec 32 := 2048#32
  let v1048 : BitVec 32 := Scalar.muli arg31 c2048_i32_488
  v1048
def k0_off82 (v753 : BitVec 32) (k0_t19 : Fin (k0_t19_loop v753).trips) (arg28 : BitVec 32) (v946 : BitVec 32) (k0_t23 : Fin (k0_t23_loop v753 k0_t19 v946).trips) : Fin 3 → Nat :=
  let v1050 : Index := Scalar.indexCast arg28
  let c0_i32_458 : BitVec 32 := 0#32
  let c4096_i32_457 : BitVec 32 := 4096#32
  let c32_i32_456 : BitVec 32 := 32#32
  let c65536_i32_451 : BitVec 32 := 65536#32
  let c0_i32_450 : BitVec 32 := 0#32
  let v947 : BitVec 32 := Scalar.maxsi c0_i32_450 v946
  let v948 : BitVec 32 := Scalar.minsi c65536_i32_451 v947
  let c0_i32_389 : BitVec 32 := 0#32
  let c65536_i32_367 : BitVec 32 := 65536#32
  let c0_i32_366 : BitVec 32 := 0#32
  let v754 : BitVec 32 := Scalar.maxsi c0_i32_366 v753
  let v755 : BitVec 32 := Scalar.minsi c65536_i32_367 v754
  let c4095_i32 : BitVec 32 := 4095#32
  let v756 : BitVec 32 := Scalar.addi v755 c4095_i32
  let c4096_i32 : BitVec 32 := 4096#32
  let v757 : BitVec 32 := Scalar.divsi v756 c4096_i32
  let c1_i32_368 : BitVec 32 := 1#32
  let v758 : BitVec 32 := Scalar.maxsi v757 c1_i32_368
  let v806 : BitVec 32 := Scalar.subi v758 c0_i32_389
  let c1_i32_390 : BitVec 32 := 1#32
  let v808 : BitVec 32 := Scalar.divsi v806 c1_i32_390
  let v809 : BitVec 32 := Scalar.muli v808 c1_i32_390
  let v810 : BitVec 32 := Scalar.addi c0_i32_389 v809
  let c1_i32_392 : BitVec 32 := 1#32
  let arg25 : BitVec 32 := Scf.iv v810 c1_i32_392 k0_t19
  let c4096_i32_452 : BitVec 32 := 4096#32
  let v949 : BitVec 32 := Scalar.muli arg25 c4096_i32_452
  let v950 : BitVec 32 := Scalar.subi v948 v949
  let c31_i32_453 : BitVec 32 := 31#32
  let v951 : BitVec 32 := Scalar.addi v950 c31_i32_453
  let c32_i32_454 : BitVec 32 := 32#32
  let v952 : BitVec 32 := Scalar.divsi v951 c32_i32_454
  let c32_i32_455 : BitVec 32 := 32#32
  let v953 : BitVec 32 := Scalar.muli v952 c32_i32_455
  let v954 : BitVec 32 := Scalar.maxsi c32_i32_456 v953
  let v955 : BitVec 32 := Scalar.minsi c4096_i32_457 v954
  let v956 : BitVec 32 := v955
  let c2047_i32 : BitVec 32 := 2047#32
  let v957 : BitVec 32 := Scalar.addi v956 c2047_i32
  let c2048_i32 : BitVec 32 := 2048#32
  let v958 : BitVec 32 := Scalar.divsi v957 c2048_i32
  let v959 : BitVec 32 := Scalar.subi v958 c0_i32_458
  let c1_i32_459 : BitVec 32 := 1#32
  let v961 : BitVec 32 := Scalar.divsi v959 c1_i32_459
  let v962 : BitVec 32 := Scalar.muli v961 c1_i32_459
  let v963 : BitVec 32 := Scalar.addi c0_i32_458 v962
  let c1_i32_461 : BitVec 32 := 1#32
  let arg31 : BitVec 32 := Scf.iv v963 c1_i32_461 k0_t23
  let c2048_i32_488 : BitVec 32 := 2048#32
  let v1048 : BitVec 32 := Scalar.muli arg31 c2048_i32_488
  let v1049 : BitVec 32 := v1048
  let v1051 : Index := Scalar.indexCast v1049
  let c0_489 : Index := 0#32
  ![v1050.toNat, v1051.toNat, 0]

def k0_chk36 (v753 : BitVec 32) (k0_t19 : Fin (k0_t19_loop v753).trips) (arg28 : BitVec 32) (v946 : BitVec 32) : Prop :=
  (32 ∣ (k0_mult42 v753 k0_t19 v946).toNat) ∧
  ((k0_t22_loop v753 k0_t19 v946).OK) ∧
  (∀ k0_t22 : Fin (k0_t22_loop v753 k0_t19 v946).trips, ∀ a, (k0_off79 v753 k0_t19 v946 k0_t22) a + S1x8x2048.size a ≤ S32x8x2048.size a) ∧
  (∀ k0_t22 : Fin (k0_t22_loop v753 k0_t19 v946).trips, 2048 ∣ (k0_mult43 v753 k0_t19 v946 k0_t22).toNat) ∧
  (∀ k0_t22 : Fin (k0_t22_loop v753 k0_t19 v946).trips, ∀ a, (k0_off80 v753 k0_t19 arg28 v946 k0_t22) a + S1x2048x128.size a ≤ S12x4096x128.size a) ∧
  ((k0_t23_loop v753 k0_t19 v946).OK) ∧
  (∀ k0_t23 : Fin (k0_t23_loop v753 k0_t19 v946).trips, ∀ a, (k0_off81 v753 k0_t19 v946 k0_t23) a + S1x8x2048.size a ≤ S32x8x2048.size a) ∧
  (∀ k0_t23 : Fin (k0_t23_loop v753 k0_t19 v946).trips, 2048 ∣ (k0_mult44 v753 k0_t19 v946 k0_t23).toNat) ∧
  (∀ k0_t23 : Fin (k0_t23_loop v753 k0_t19 v946).trips, ∀ a, (k0_off82 v753 k0_t19 arg28 v946 k0_t23) a + S1x2048x128.size a ≤ S12x4096x128.size a)
theorem k0_mult42_dvd : ∀ (v753 : BitVec 32) (k0_t19 : Fin (k0_t19_loop v753).trips) (arg28 : BitVec 32) (v946 : BitVec 32) (k0_hw36 : k0_chk36 v753 k0_t19 arg28 v946), 32 ∣ (k0_mult42 v753 k0_t19 v946).toNat := fun v753 k0_t19 arg28 v946 k0_hw36 => k0_hw36.1
theorem k0_t22_ok : ∀ (v753 : BitVec 32) (k0_t19 : Fin (k0_t19_loop v753).trips) (arg28 : BitVec 32) (v946 : BitVec 32) (k0_hw36 : k0_chk36 v753 k0_t19 arg28 v946), (k0_t22_loop v753 k0_t19 v946).OK := fun v753 k0_t19 arg28 v946 k0_hw36 => k0_hw36.2.1
theorem k0_off79_inb : ∀ (v753 : BitVec 32) (k0_t19 : Fin (k0_t19_loop v753).trips) (arg28 : BitVec 32) (v946 : BitVec 32) (k0_hw36 : k0_chk36 v753 k0_t19 arg28 v946) (k0_t22 : Fin (k0_t22_loop v753 k0_t19 v946).trips), ∀ a, (k0_off79 v753 k0_t19 v946 k0_t22) a + S1x8x2048.size a ≤ S32x8x2048.size a := fun v753 k0_t19 arg28 v946 k0_hw36 k0_t22 => k0_hw36.2.2.1 k0_t22
theorem k0_mult43_dvd : ∀ (v753 : BitVec 32) (k0_t19 : Fin (k0_t19_loop v753).trips) (arg28 : BitVec 32) (v946 : BitVec 32) (k0_hw36 : k0_chk36 v753 k0_t19 arg28 v946) (k0_t22 : Fin (k0_t22_loop v753 k0_t19 v946).trips), 2048 ∣ (k0_mult43 v753 k0_t19 v946 k0_t22).toNat := fun v753 k0_t19 arg28 v946 k0_hw36 k0_t22 => k0_hw36.2.2.2.1 k0_t22
theorem k0_off80_inb : ∀ (v753 : BitVec 32) (k0_t19 : Fin (k0_t19_loop v753).trips) (arg28 : BitVec 32) (v946 : BitVec 32) (k0_hw36 : k0_chk36 v753 k0_t19 arg28 v946) (k0_t22 : Fin (k0_t22_loop v753 k0_t19 v946).trips), ∀ a, (k0_off80 v753 k0_t19 arg28 v946 k0_t22) a + S1x2048x128.size a ≤ S12x4096x128.size a := fun v753 k0_t19 arg28 v946 k0_hw36 k0_t22 => k0_hw36.2.2.2.2.1 k0_t22
theorem k0_t23_ok : ∀ (v753 : BitVec 32) (k0_t19 : Fin (k0_t19_loop v753).trips) (arg28 : BitVec 32) (v946 : BitVec 32) (k0_hw36 : k0_chk36 v753 k0_t19 arg28 v946), (k0_t23_loop v753 k0_t19 v946).OK := fun v753 k0_t19 arg28 v946 k0_hw36 => k0_hw36.2.2.2.2.2.1
theorem k0_off81_inb : ∀ (v753 : BitVec 32) (k0_t19 : Fin (k0_t19_loop v753).trips) (arg28 : BitVec 32) (v946 : BitVec 32) (k0_hw36 : k0_chk36 v753 k0_t19 arg28 v946) (k0_t23 : Fin (k0_t23_loop v753 k0_t19 v946).trips), ∀ a, (k0_off81 v753 k0_t19 v946 k0_t23) a + S1x8x2048.size a ≤ S32x8x2048.size a := fun v753 k0_t19 arg28 v946 k0_hw36 k0_t23 => k0_hw36.2.2.2.2.2.2.1 k0_t23
theorem k0_mult44_dvd : ∀ (v753 : BitVec 32) (k0_t19 : Fin (k0_t19_loop v753).trips) (arg28 : BitVec 32) (v946 : BitVec 32) (k0_hw36 : k0_chk36 v753 k0_t19 arg28 v946) (k0_t23 : Fin (k0_t23_loop v753 k0_t19 v946).trips), 2048 ∣ (k0_mult44 v753 k0_t19 v946 k0_t23).toNat := fun v753 k0_t19 arg28 v946 k0_hw36 k0_t23 => k0_hw36.2.2.2.2.2.2.2.1 k0_t23
theorem k0_off82_inb : ∀ (v753 : BitVec 32) (k0_t19 : Fin (k0_t19_loop v753).trips) (arg28 : BitVec 32) (v946 : BitVec 32) (k0_hw36 : k0_chk36 v753 k0_t19 arg28 v946) (k0_t23 : Fin (k0_t23_loop v753 k0_t19 v946).trips), ∀ a, (k0_off82 v753 k0_t19 arg28 v946 k0_t23) a + S1x2048x128.size a ≤ S12x4096x128.size a := fun v753 k0_t19 arg28 v946 k0_hw36 k0_t23 => k0_hw36.2.2.2.2.2.2.2.2 k0_t23

def k0_off83 (arg29 : BitVec 32) : Fin 1 → Nat :=
  let c0_i32_485 : BitVec 32 := 0#32
  let v1005 : BitVec 1 := Scalar.cmpi .sgt arg29 c0_i32_485
  let v1006 : BitVec 32 := Scalar.extui v1005
  let c0_i32_486 : BitVec 32 := 0#32
  let v1007 : BitVec 1 := Scalar.cmpi .slt arg29 c0_i32_486
  let v1008 : BitVec 32 := Scalar.extui v1007
  let v1009 : BitVec 32 := Scalar.subi v1006 v1008
  let c10_i32_484 : BitVec 32 := 10#32
  let c0_i32_487 : BitVec 32 := 0#32
  let v1010 : BitVec 1 := Scalar.cmpi .sgt c10_i32_484 c0_i32_487
  let v1011 : BitVec 32 := Scalar.extui v1010
  let c0_i32_488 : BitVec 32 := 0#32
  let v1012 : BitVec 1 := Scalar.cmpi .slt c10_i32_484 c0_i32_488
  let v1013 : BitVec 32 := Scalar.extui v1012
  let v1014 : BitVec 32 := Scalar.subi v1011 v1013
  let v1015 : BitVec 1 := Scalar.cmpi .ne v1009 v1014
  let v1016 : BitVec 32 := Scalar.remsi arg29 c10_i32_484
  let c0_i32_489 : BitVec 32 := 0#32
  let v1017 : BitVec 1 := Scalar.cmpi .ne v1016 c0_i32_489
  let v1018 : BitVec 1 := Scalar.andi v1015 v1017
  let v1004 : BitVec 32 := Scalar.divsi arg29 c10_i32_484
  let c1_i32_490 : BitVec 32 := 1#32
  let v1019 : BitVec 32 := Scalar.subi v1004 c1_i32_490
  let v1020 : BitVec 32 := Scalar.select v1018 v1019 v1004
  let v1021 : Index := Scalar.indexCast v1020
  ![v1021.toNat]
def k0_cond10 (arg29 : BitVec 32) : BitVec 1 :=
  let c20_i32_462 : BitVec 32 := 20#32
  let v966 : BitVec 1 := Scalar.cmpi .slt arg29 c20_i32_462
  let v967 : BitVec 32 := Scalar.extui v966
  let c0_i32_463 : BitVec 32 := 0#32
  let v968 : BitVec 1 := Scalar.cmpi .ne v967 c0_i32_463
  v968

def k0_mult45 (arg30 : BitVec 32) (v1022 : BitVec 32) : BitVec 32 :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  v1031

def k0_mult46 (arg30 : BitVec 32) : BitVec 32 :=
  let c4096_i32_499 : BitVec 32 := 4096#32
  let v1033 : BitVec 32 := Scalar.muli arg30 c4096_i32_499
  v1033

def k0_chk39 (arg29 : BitVec 32) (arg30 : BitVec 32) : Prop :=
  (∀ (k0_h10 : k0_cond10 arg29 = 1#1), 4096 ∣ (k0_mult46 arg30).toNat)
theorem k0_mult46_dvd : ∀ (arg29 : BitVec 32) (arg30 : BitVec 32) (k0_hw39 : k0_chk39 arg29 arg30), ∀ (k0_h10 : k0_cond10 arg29 = 1#1), 4096 ∣ (k0_mult46 arg30).toNat := fun arg29 arg30 k0_hw39 k0_h10 => k0_hw39 k0_h10

def k0_off84 (arg28 : BitVec 32) : Fin 1 → Nat :=
  ![arg28.toNat]
def k0_off85 (arg28 : BitVec 32) (arg30 : BitVec 32) (v1022 : BitVec 32) : (Fin 3 → Nat) × (Fin 3 → Nat) :=
  let c0_i32_500 : BitVec 32 := 0#32
  let c0_i32_501 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg28.toNat, 0, 0], ![1, v1032.toNat, 128]⟩
def k0_sz19 (arg30 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]
def k0_off86 (arg29 : BitVec 32) (arg30 : BitVec 32) (v1022 : BitVec 32) : (Fin 3 → Nat) × (Fin 3 → Nat) :=
  let c4096_i32_499 : BitVec 32 := 4096#32
  let v1033 : BitVec 32 := Scalar.muli arg30 c4096_i32_499
  let v1034 : BitVec 32 := v1033
  let c0_i32_502 : BitVec 32 := 0#32
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ⟨![arg29.toNat, v1034.toNat, 0], ![1, v1032.toNat, 128]⟩
def k0_sz20 (arg30 : BitVec 32) (v1022 : BitVec 32) : Fin 2 → Nat :=
  let c4096_i32_498 : BitVec 32 := 4096#32
  let c32_i32_497 : BitVec 32 := 32#32
  let c65536_i32_492 : BitVec 32 := 65536#32
  let c0_i32_491 : BitVec 32 := 0#32
  let v1023 : BitVec 32 := Scalar.maxsi c0_i32_491 v1022
  let v1024 : BitVec 32 := Scalar.minsi c65536_i32_492 v1023
  let c4096_i32_493 : BitVec 32 := 4096#32
  let v1025 : BitVec 32 := Scalar.muli arg30 c4096_i32_493
  let v1026 : BitVec 32 := Scalar.subi v1024 v1025
  let c31_i32_494 : BitVec 32 := 31#32
  let v1027 : BitVec 32 := Scalar.addi v1026 c31_i32_494
  let c32_i32_495 : BitVec 32 := 32#32
  let v1028 : BitVec 32 := Scalar.divsi v1027 c32_i32_495
  let c32_i32_496 : BitVec 32 := 32#32
  let v1029 : BitVec 32 := Scalar.muli v1028 c32_i32_496
  let v1030 : BitVec 32 := Scalar.maxsi c32_i32_497 v1029
  let v1031 : BitVec 32 := Scalar.minsi c4096_i32_498 v1030
  let v1032 : BitVec 32 := v1031
  ![v1032.toNat, 128]

def k0_chk38 (arg28 : BitVec 32) (arg29 : BitVec 32) (arg30 : BitVec 32) (v1022 : BitVec 32) : Prop :=
  (∀ (k0_h10 : k0_cond10 arg29 = 1#1), 32 ∣ (k0_mult45 arg30 v1022).toNat) ∧
  (∀ (k0_h10 : k0_cond10 arg29 = 1#1), ∀ a, (k0_off85 arg28 arg30 v1022).2 a = 0 ∨ (k0_off85 arg28 arg30 v1022).1 a + (k0_off85 arg28 arg30 v1022).2 a ≤ S12x4096x128.size a) ∧
  (∀ (k0_h10 : k0_cond10 arg29 = 1#1), (⟨3, (k0_off85 arg28 arg30 v1022).2⟩ : Shape).Squeezes ⟨2, k0_sz19 arg30 v1022⟩) ∧
  (∀ (k0_h10 : k0_cond10 arg29 = 1#1), ∀ a, (k0_off86 arg29 arg30 v1022).2 a = 0 ∨ (k0_off86 arg29 arg30 v1022).1 a + (k0_off86 arg29 arg30 v1022).2 a ≤ S20x65536x128.size a) ∧
  (∀ (k0_h10 : k0_cond10 arg29 = 1#1), (⟨3, (k0_off86 arg29 arg30 v1022).2⟩ : Shape).Squeezes ⟨2, k0_sz20 arg30 v1022⟩) ∧
  (∀ (k0_h10 : k0_cond10 arg29 = 1#1), ∀ (hinb : ∀ a, (k0_off86 arg29 arg30 v1022).2 a = 0 ∨ (k0_off86 arg29 arg30 v1022).1 a + (k0_off86 arg29 arg30 v1022).2 a ≤ S20x65536x128.size a), (Rect.unitDyn (s := S20x65536x128) (k0_off86 arg29 arg30 v1022).1 (k0_off86 arg29 arg30 v1022).2 hinb).WholeWords (EltTy.packing .fp8e4m3)) ∧
  (∀ (k0_h10 : k0_cond10 arg29 = 1#1), ∀ (hinb : ∀ a, (k0_off85 arg28 arg30 v1022).2 a = 0 ∨ (k0_off85 arg28 arg30 v1022).1 a + (k0_off85 arg28 arg30 v1022).2 a ≤ S12x4096x128.size a), (Rect.unitDyn (s := S12x4096x128) (k0_off85 arg28 arg30 v1022).1 (k0_off85 arg28 arg30 v1022).2 hinb).WholeWords (EltTy.packing .fp8e4m3))
theorem k0_mult45_dvd : ∀ (arg28 : BitVec 32) (arg29 : BitVec 32) (arg30 : BitVec 32) (v1022 : BitVec 32) (k0_hw38 : k0_chk38 arg28 arg29 arg30 v1022), ∀ (k0_h10 : k0_cond10 arg29 = 1#1), 32 ∣ (k0_mult45 arg30 v1022).toNat := fun arg28 arg29 arg30 v1022 k0_hw38 k0_h10 => k0_hw38.1 k0_h10
theorem k0_off85_inb : ∀ (arg28 : BitVec 32) (arg29 : BitVec 32) (arg30 : BitVec 32) (v1022 : BitVec 32) (k0_hw38 : k0_chk38 arg28 arg29 arg30 v1022), ∀ (k0_h10 : k0_cond10 arg29 = 1#1), ∀ a, (k0_off85 arg28 arg30 v1022).2 a = 0 ∨ (k0_off85 arg28 arg30 v1022).1 a + (k0_off85 arg28 arg30 v1022).2 a ≤ S12x4096x128.size a := fun arg28 arg29 arg30 v1022 k0_hw38 k0_h10 => k0_hw38.2.1 k0_h10
theorem k0_sz19_squeezes : ∀ (arg28 : BitVec 32) (arg29 : BitVec 32) (arg30 : BitVec 32) (v1022 : BitVec 32) (k0_hw38 : k0_chk38 arg28 arg29 arg30 v1022), ∀ (k0_h10 : k0_cond10 arg29 = 1#1), (⟨3, (k0_off85 arg28 arg30 v1022).2⟩ : Shape).Squeezes ⟨2, k0_sz19 arg30 v1022⟩ := fun arg28 arg29 arg30 v1022 k0_hw38 k0_h10 => k0_hw38.2.2.1 k0_h10
theorem k0_off86_inb : ∀ (arg28 : BitVec 32) (arg29 : BitVec 32) (arg30 : BitVec 32) (v1022 : BitVec 32) (k0_hw38 : k0_chk38 arg28 arg29 arg30 v1022), ∀ (k0_h10 : k0_cond10 arg29 = 1#1), ∀ a, (k0_off86 arg29 arg30 v1022).2 a = 0 ∨ (k0_off86 arg29 arg30 v1022).1 a + (k0_off86 arg29 arg30 v1022).2 a ≤ S20x65536x128.size a := fun arg28 arg29 arg30 v1022 k0_hw38 k0_h10 => k0_hw38.2.2.2.1 k0_h10
theorem k0_sz20_squeezes : ∀ (arg28 : BitVec 32) (arg29 : BitVec 32) (arg30 : BitVec 32) (v1022 : BitVec 32) (k0_hw38 : k0_chk38 arg28 arg29 arg30 v1022), ∀ (k0_h10 : k0_cond10 arg29 = 1#1), (⟨3, (k0_off86 arg29 arg30 v1022).2⟩ : Shape).Squeezes ⟨2, k0_sz20 arg30 v1022⟩ := fun arg28 arg29 arg30 v1022 k0_hw38 k0_h10 => k0_hw38.2.2.2.2.1 k0_h10
theorem k0_off86_wordsfp8e4m3 : ∀ (arg28 : BitVec 32) (arg29 : BitVec 32) (arg30 : BitVec 32) (v1022 : BitVec 32) (k0_hw38 : k0_chk38 arg28 arg29 arg30 v1022), ∀ (k0_h10 : k0_cond10 arg29 = 1#1), (Rect.unitDyn (s := S20x65536x128) (k0_off86 arg29 arg30 v1022).1 (k0_off86 arg29 arg30 v1022).2 (k0_off86_inb arg28 arg29 arg30 v1022 k0_hw38 k0_h10)).WholeWords (EltTy.packing .fp8e4m3) := fun arg28 arg29 arg30 v1022 k0_hw38 k0_h10 => k0_hw38.2.2.2.2.2.1 k0_h10 (k0_off86_inb arg28 arg29 arg30 v1022 k0_hw38 k0_h10)
theorem k0_off85_wordsfp8e4m3 : ∀ (arg28 : BitVec 32) (arg29 : BitVec 32) (arg30 : BitVec 32) (v1022 : BitVec 32) (k0_hw38 : k0_chk38 arg28 arg29 arg30 v1022), ∀ (k0_h10 : k0_cond10 arg29 = 1#1), (Rect.unitDyn (s := S12x4096x128) (k0_off85 arg28 arg30 v1022).1 (k0_off85 arg28 arg30 v1022).2 (k0_off85_inb arg28 arg29 arg30 v1022 k0_hw38 k0_h10)).WholeWords (EltTy.packing .fp8e4m3) := fun arg28 arg29 arg30 v1022 k0_hw38 k0_h10 => k0_hw38.2.2.2.2.2.2 k0_h10 (k0_off85_inb arg28 arg29 arg30 v1022 k0_hw38 k0_h10)

def k0_off87 (arg29 : BitVec 32) : Fin 1 → Nat :=
  let c19_i32 : BitVec 32 := 19#32
  let v970 : BitVec 32 := Scalar.minsi arg29 c19_i32
  let c0_i32_466 : BitVec 32 := 0#32
  let v972 : BitVec 1 := Scalar.cmpi .sgt v970 c0_i32_466
  let v973 : BitVec 32 := Scalar.extui v972
  let c0_i32_467 : BitVec 32 := 0#32
  let v974 : BitVec 1 := Scalar.cmpi .slt v970 c0_i32_467
  let v975 : BitVec 32 := Scalar.extui v974
  let v976 : BitVec 32 := Scalar.subi v973 v975
  let c10_i32_465 : BitVec 32 := 10#32
  let c0_i32_468 : BitVec 32 := 0#32
  let v977 : BitVec 1 := Scalar.cmpi .sgt c10_i32_465 c0_i32_468
  let v978 : BitVec 32 := Scalar.extui v977
  let c0_i32_469 : BitVec 32 := 0#32
  let v979 : BitVec 1 := Scalar.cmpi .slt c10_i32_465 c0_i32_469
  let v980 : BitVec 32 := Scalar.extui v979
  let v981 : BitVec 32 := Scalar.subi v978 v980
  let v982 : BitVec 1 := Scalar.cmpi .ne v976 v981
  let v983 : BitVec 32 := Scalar.remsi v970 c10_i32_465
  let c0_i32_470 : BitVec 32 := 0#32
  let v984 : BitVec 1 := Scalar.cmpi .ne v983 c0_i32_470
  let v985 : BitVec 1 := Scalar.andi v982 v984
  let v971 : BitVec 32 := Scalar.divsi v970 c10_i32_465
  let c1_i32_471 : BitVec 32 := 1#32
  let v986 : BitVec 32 := Scalar.subi v971 c1_i32_471
  let v987 : BitVec 32 := Scalar.select v985 v986 v971
  let v988 : Index := Scalar.indexCast v987
  ![v988.toNat]

def k0_chk37 (arg28 : BitVec 32) (arg29 : BitVec 32) : Prop :=
  (∀ (k0_h10 : k0_cond10 arg29 = 1#1), ∀ a, (k0_off83 arg29) a + S1.size a ≤ S2.size a) ∧
  (∀ (k0_h10 : k0_cond10 arg29 = 1#1), ∀ a, (k0_off84 arg28) a + S1.size a ≤ S12.size a) ∧
  (∀ a, (k0_off87 arg29) a + S1.size a ≤ S2.size a)
theorem k0_off83_inb : ∀ (arg28 : BitVec 32) (arg29 : BitVec 32) (k0_hw37 : k0_chk37 arg28 arg29), ∀ (k0_h10 : k0_cond10 arg29 = 1#1), ∀ a, (k0_off83 arg29) a + S1.size a ≤ S2.size a := fun arg28 arg29 k0_hw37 k0_h10 => k0_hw37.1 k0_h10
theorem k0_off84_inb : ∀ (arg28 : BitVec 32) (arg29 : BitVec 32) (k0_hw37 : k0_chk37 arg28 arg29), ∀ (k0_h10 : k0_cond10 arg29 = 1#1), ∀ a, (k0_off84 arg28) a + S1.size a ≤ S12.size a := fun arg28 arg29 k0_hw37 k0_h10 => k0_hw37.2.1 k0_h10
theorem k0_off87_inb : ∀ (arg28 : BitVec 32) (arg29 : BitVec 32) (k0_hw37 : k0_chk37 arg28 arg29), ∀ a, (k0_off87 arg29) a + S1.size a ≤ S2.size a := fun arg28 arg29 k0_hw37 => k0_hw37.2.2

def k0_off88 (k0_t3 : Fin k0_t3_loop.trips) : Fin 3 → Nat :=
  let c0_i32_292 : BitVec 32 := 0#32
  let c1_i32_293 : BitVec 32 := 1#32
  let arg18 : BitVec 32 := Scf.iv c0_i32_292 c1_i32_293 k0_t3
  let v822 : Index := Scalar.indexCast arg18
  let c0_395 : Index := 0#32
  let c0_396 : Index := 0#32
  ![v822.toNat, 0, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x2x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x1x10240 : Shape := ⟨3, ![2, 1, 10240]⟩
abbrev S2x1x10x128 : Shape := ⟨4, ![2, 1, 10, 128]⟩
abbrev S2x65536x10x128 : Shape := ⟨4, ![2, 65536, 10, 128]⟩
abbrev S2x10x128 : Shape := ⟨3, ![2, 10, 128]⟩
abbrev S2 : Shape := ⟨1, ![2]⟩
abbrev S2x10x8x128 : Shape := ⟨4, ![2, 10, 8, 128]⟩
abbrev S2x10x8x65536 : Shape := ⟨4, ![2, 10, 8, 65536]⟩
abbrev S_ : Shape := ⟨0, ![]⟩
abbrev S65536 : Shape := ⟨1, ![65536]⟩
abbrev S1x65536 : Shape := ⟨2, ![1, 65536]⟩
abbrev S2x1 : Shape := ⟨2, ![2, 1]⟩
abbrev S2x65536 : Shape := ⟨2, ![2, 65536]⟩
abbrev S2x1x1x65536 : Shape := ⟨4, ![2, 1, 1, 65536]⟩
abbrev S2x10x8 : Shape := ⟨3, ![2, 10, 8]⟩
abbrev S2x10x8x1 : Shape := ⟨4, ![2, 10, 8, 1]⟩
abbrev S20x8x65536 : Shape := ⟨3, ![20, 8, 65536]⟩
abbrev S20x8x1 : Shape := ⟨3, ![20, 8, 1]⟩
abbrev S2x10x65536x128 : Shape := ⟨4, ![2, 10, 65536, 128]⟩
abbrev S20x65536x128 : Shape := ⟨3, ![20, 65536, 128]⟩
abbrev S20x1x128 : Shape := ⟨3, ![20, 1, 128]⟩
abbrev S160x128 : Shape := ⟨2, ![160, 128]⟩
abbrev S20x8x128 : Shape := ⟨3, ![20, 8, 128]⟩

abbrev nBuf : Space → Nat
  | .hbm => 51
  | .vmem => 8
  | .smem => 0
  | _ => 0

abbrev bufTy : (tb : Table) → Fin (tcTables nBuf tb) → BufTy
  | .hbm, ⟨0, _⟩ => ⟨S2x1x10240, .bf16⟩
  | .hbm, ⟨1, _⟩ => ⟨S2x1x10x128, .bf16⟩
  | .hbm, ⟨2, _⟩ => ⟨S2x1x10x128, .bf16⟩
  | .hbm, ⟨3, _⟩ => ⟨S2x65536x10x128, .bf16⟩
  | .hbm, ⟨4, _⟩ => ⟨S2x65536x10x128, .fp8e4m3⟩
  | .hbm, ⟨5, _⟩ => ⟨S2x10x128, .f32⟩
  | .hbm, ⟨6, _⟩ => ⟨S2, .i32⟩
  | .hbm, ⟨7, _⟩ => ⟨S2x10x8x128, .bf16⟩
  | .hbm, ⟨8, _⟩ => ⟨S2x10x8x65536, .f32⟩
  | .hbm, ⟨9, _⟩ => ⟨S_, .f32⟩
  | .hbm, ⟨10, _⟩ => ⟨S2x10x8x65536, .f32⟩
  | .hbm, ⟨11, _⟩ => ⟨S2x10x8x65536, .f32⟩
  | .hbm, ⟨12, _⟩ => ⟨S65536, .i32⟩
  | .hbm, ⟨13, _⟩ => ⟨S1x65536, .i32⟩
  | .hbm, ⟨14, _⟩ => ⟨S2x1, .i32⟩
  | .hbm, ⟨15, _⟩ => ⟨S2x65536, .i32⟩
  | .hbm, ⟨16, _⟩ => ⟨S2x65536, .i32⟩
  | .hbm, ⟨17, _⟩ => ⟨S2x65536, .i1⟩
  | .hbm, ⟨18, _⟩ => ⟨S2x1x1x65536, .i1⟩
  | .hbm, ⟨19, _⟩ => ⟨S_, .f32⟩
  | .hbm, ⟨20, _⟩ => ⟨S_, .f32⟩
  | .hbm, ⟨21, _⟩ => ⟨S2x10x8x65536, .i1⟩
  | .hbm, ⟨22, _⟩ => ⟨S2x10x8x65536, .f32⟩
  | .hbm, ⟨23, _⟩ => ⟨S2x10x8x65536, .f32⟩
  | .hbm, ⟨24, _⟩ => ⟨S2x10x128, .bf16⟩
  | .hbm, ⟨25, _⟩ => ⟨S2x10x8, .f32⟩
  | .hbm, ⟨26, _⟩ => ⟨S_, .f32⟩
  | .hbm, ⟨27, _⟩ => ⟨S2x10x8, .f32⟩
  | .hbm, ⟨28, _⟩ => ⟨S2x10x8, .f32⟩
  | .hbm, ⟨29, _⟩ => ⟨S_, .f32⟩
  | .hbm, ⟨30, _⟩ => ⟨S2x10x8, .f32⟩
  | .hbm, ⟨31, _⟩ => ⟨S2x10x8, .f32⟩
  | .hbm, ⟨32, _⟩ => ⟨S2x10x8x1, .f32⟩
  | .hbm, ⟨33, _⟩ => ⟨S2x10x8x65536, .f32⟩
  | .hbm, ⟨34, _⟩ => ⟨S2x10x8x65536, .f32⟩
  | .hbm, ⟨35, _⟩ => ⟨S2x10x8x65536, .f32⟩
  | .hbm, ⟨36, _⟩ => ⟨S2x10x8, .f32⟩
  | .hbm, ⟨37, _⟩ => ⟨S2x10x8, .f32⟩
  | .hbm, ⟨38, _⟩ => ⟨S_, .f32⟩
  | .hbm, ⟨39, _⟩ => ⟨S2x10x8, .f32⟩
  | .hbm, ⟨40, _⟩ => ⟨S2x10x8, .f32⟩
  | .hbm, ⟨41, _⟩ => ⟨S20x8x65536, .f32⟩
  | .hbm, ⟨42, _⟩ => ⟨S20x8x1, .f32⟩
  | .hbm, ⟨43, _⟩ => ⟨S20x8x1, .f32⟩
  | .hbm, ⟨44, _⟩ => ⟨S2x10x65536x128, .fp8e4m3⟩
  | .hbm, ⟨45, _⟩ => ⟨S20x65536x128, .fp8e4m3⟩
  | .hbm, ⟨46, _⟩ => ⟨S20x1x128, .f32⟩
  | .hbm, ⟨47, _⟩ => ⟨S2x10x128, .bf16⟩
  | .hbm, ⟨48, _⟩ => ⟨S20x1x128, .bf16⟩
  | .hbm, ⟨49, _⟩ => ⟨S160x128, .bf16⟩
  | .hbm, ⟨50, _⟩ => ⟨S20x8x128, .f32⟩
  | .local _ .vmem, ⟨0, _⟩ => ⟨S20x8x65536, .f32⟩
  | .local _ .vmem, ⟨1, _⟩ => ⟨S20x8x1, .f32⟩
  | .local _ .vmem, ⟨2, _⟩ => ⟨S20x8x1, .f32⟩
  | .local _ .vmem, ⟨3, _⟩ => ⟨S20x65536x128, .fp8e4m3⟩
  | .local _ .vmem, ⟨4, _⟩ => ⟨S20x1x128, .f32⟩
  | .local _ .vmem, ⟨5, _⟩ => ⟨S20x1x128, .bf16⟩
  | .local _ .vmem, ⟨6, _⟩ => ⟨S160x128, .bf16⟩
  | .local _ .vmem, ⟨7, _⟩ => ⟨S20x8x128, .f32⟩
  | _, _ => ⟨S2x1x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S20x8x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x65536x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20x1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.lean ====
/- The kernel's scalar words as natural numbers: the clipped length of a sequence, the rows of a
   chunk, the number of chunks of a head, and the step from one (head, chunk) pair to the next. -/
module

public import Idealize.ShloMosaic.Lib.Affine
public import Idealize.ShloMosaic.PureOps

@[expose] public section

namespace Decode

open Idealize.ShloMosaic Idealize.ShloMosaic.Affine

/-- The length a length word means: clipped to `0 … 65536`. -/
def lenN (v : BitVec 32) : ℕ := min 65536 v.toInt.toNat

/-- Rows copied of chunk `i` of a sequence of length `L`: a multiple of 32 from 32 to 4096. -/
def rowsN (L i : ℕ) : ℕ := min 4096 (max 32 ((L + 31 - 4096 * i) / 32 * 32))

/-- Chunks of a sequence of length `L`: at least one. -/
def ncN (L : ℕ) : ℕ := max 1 ((L + 4095) / 4096)

theorem lenN_le (v : BitVec 32) : lenN v ≤ 65536 := Nat.min_le_left _ _
theorem rowsN_pos (L i : ℕ) : 32 ≤ rowsN L i := by unfold rowsN; omega
theorem rowsN_le (L i : ℕ) : rowsN L i ≤ 4096 := by unfold rowsN; omega
theorem rowsN_dvd (L i : ℕ) : 32 ∣ rowsN L i := by unfold rowsN; omega
theorem ncN_pos (L : ℕ) : 0 < ncN L := by unfold ncN; omega
theorem ncN_le {L : ℕ} (h : L ≤ 65536) : ncN L ≤ 16 := by unfold ncN; omega

/-- A word of a nonnegative value is that value's literal. -/
theorem eq_ofNat {x : BitVec 32} {e : Int} (n : ℕ) (h : IsInt x e) (he : e = n) : x = BitVec.ofNat 32 n := by
  unfold IsInt at h
  subst he
  have : BitVec.ofInt 32 x.toInt = x := BitVec.ofInt_toInt
  rw [h] at this
  rw [← this]
  simp

theorem isInt_ofNat {n : ℕ} (h : n < 2 ^ 31) : IsInt (BitVec.ofNat 32 n) (n : Int) := ofNat n ⟨rfl, h⟩

theorem iv_eq (t : ℕ) (h : t < 2 ^ 31) : Scf.iv 0#32 1#32 t = BitVec.ofNat 32 t := by
  refine eq_ofNat (e := t) t (iv (ea := 0) (eb := 1) (ofNat 0 (by omega)) (ofNat 1 (by omega)) t ⟨by omega, by omega, by omega⟩) rfl

/-- The clipped length's word. -/
abbrev clipW (v : BitVec 32) : BitVec 32 := Scalar.minsi 65536#32 (Scalar.maxsi 0#32 v)

theorem clipW_isInt (v : BitVec 32) : IsInt (clipW v) (lenN v) := by
  refine minsi (ea := 65536) (eb := max 0 v.toInt) (ofNat 65536 (by omega)) (maxsi (ea := 0) (eb := v.toInt) (ofNat 0 (by omega)) (word v) rfl) ?_
  unfold lenN; omega

/-- A chunk's rows as the kernel computes them. -/
abbrev rowsW (i v : BitVec 32) : BitVec 32 :=
  Scalar.minsi 4096#32 (Scalar.maxsi 32#32 (Scalar.muli (Scalar.divsi (Scalar.addi (Scalar.subi (clipW v) (Scalar.muli i 4096#32)) 31#32) 32#32) 32#32))

theorem leftW_isInt (i : ℕ) (v : BitVec 32) (hi : i < 16) :
    IsInt (Scalar.subi (clipW v) (Scalar.muli (BitVec.ofNat 32 i) 4096#32)) ((lenN v : Int) - 4096 * i) := by
  have := lenN_le v
  exact subi (clipW_isInt v) (muli (ea := i) (eb := 4096) (e := i * 4096) (isInt_ofNat (by omega)) (ofNat 4096 (by omega)) ⟨rfl, by omega, by omega⟩) ⟨by omega, by omega, by omega⟩

theorem rowsW_eq (i : ℕ) (v : BitVec 32) (hi : i < ncN (lenN v)) : rowsW (BitVec.ofNat 32 i) v = BitVec.ofNat 32 (rowsN (lenN v) i) := by
  have hL := lenN_le v
  have hc := ncN_le hL
  have hle : 4096 * i ≤ lenN v := by unfold ncN at hi; omega
  refine eq_ofNat _ (minsi (ea := 4096) (ofNat 4096 (by omega)) (maxsi (ea := 32) (ofNat 32 (by omega))
    (muli (eb := 32) (divsi (eb := 32) (addi (eb := 31) (leftW_isInt i v (by omega)) (ofNat 31 (by omega)) ⟨rfl, by omega, by omega⟩)
      (ofNat 32 (by omega)) ⟨rfl, by omega, by omega⟩) (ofNat 32 (by omega)) ⟨rfl, by omega, by omega⟩) rfl) rfl) ?_
  unfold rowsN; omega

/-- The number of chunks as the kernel computes it. -/
abbrev ncW (v : BitVec 32) : BitVec 32 := Scalar.maxsi (Scalar.divsi (Scalar.addi (clipW v) 4095#32) 4096#32) 1#32

theorem ncW_eq (v : BitVec 32) : ncW v = BitVec.ofNat 32 (ncN (lenN v)) := by
  have hL := lenN_le v
  refine eq_ofNat _ (maxsi (eb := 1) (divsi (eb := 4096) (addi (eb := 4095) (clipW_isInt v) (ofNat 4095 (by omega)) ⟨rfl, by omega, by omega⟩)
    (ofNat 4096 (by omega)) ⟨rfl, by omega, by omega⟩) (ofNat 1 (by omega)) rfl) ?_
  unfold ncN; omega

/-- Head `h`'s sequence: `h / 10` rounded down, as the kernel computes it. -/
abbrev seqW (h : BitVec 32) : BitVec 32 :=
  Scalar.select
    (Scalar.andi
      (Scalar.cmpi .ne (Scalar.subi (Scalar.extui (Scalar.cmpi .sgt h 0#32)) (Scalar.extui (Scalar.cmpi .slt h 0#32)))
        (Scalar.subi (Scalar.extui (Scalar.cmpi .sgt 10#32 0#32)) (Scalar.extui (Scalar.cmpi .slt 10#32 0#32))))
      (Scalar.cmpi .ne (Scalar.remsi h 10#32) 0#32))
    (Scalar.subi (Scalar.divsi h 10#32) 1#32) (Scalar.divsi h 10#32)

set_option maxRecDepth 8000 in
theorem seqW_eq : ∀ h : Fin 20, seqW (BitVec.ofNat 32 h) = BitVec.ofNat 32 ((h : ℕ) / 10) := by decide

theorem min_word {h : ℕ} (hh : h < 2 ^ 30) : Scalar.minsi (BitVec.ofNat 32 h) 19#32 = BitVec.ofNat 32 (min h 19) :=
  eq_ofNat _ (minsi (isInt_ofNat (by omega)) (ofNat 19 (e := 19) ⟨rfl, by omega⟩) rfl) (by omega)

theorem seqW_min {h : ℕ} (hh : h < 2 ^ 30) : seqW (Scalar.minsi (BitVec.ofNat 32 h) 19#32) = BitVec.ofNat 32 (min h 19 / 10) := by
  rw [min_word hh]
  exact seqW_eq ⟨min h 19, by omega⟩

/-- Whether there is a head `h` left to fetch for. -/
theorem more_iff {h : ℕ} (hh : h < 2 ^ 30) :
    (Scalar.cmpi .ne (Scalar.extui (Scalar.cmpi .slt (BitVec.ofNat 32 h) 20#32) : BitVec 32) 0#32 = 1#1) ↔ h < 20 := by
  have hi : IsInt (BitVec.ofNat 32 h) (h : Int) := isInt_ofNat (by omega)
  by_cases hc : h < 20
  · exact iff_of_true (ne_holds (extui_holds (slt_holds hi (ofNat 20 (e := 20) ⟨rfl, by omega⟩) (by omega)) rfl) (ofNat 0 (e := 0) ⟨rfl, by omega⟩) (by omega)) hc
  · exact iff_of_false (ne_fails (extui_fails (slt_fails hi (ofNat 20 (e := 20) ⟨rfl, by omega⟩) (by omega)) rfl) (ofNat 0 (e := 0) ⟨rfl, by omega⟩) (by omega)) hc

/-- The pair after `(h, i)`, `L` the length of the sequence of head `min h 19`. -/
def next (L : ℕ) (p : ℕ × ℕ) : ℕ × ℕ := if ncN L ≤ p.2 + 1 then (p.1 + 1, 0) else (p.1, p.2 + 1)

theorem last_iff (i : ℕ) (v : BitVec 32) (hi : i < 2 ^ 30) :
    Scalar.cmpi .sge (Scalar.addi (BitVec.ofNat 32 i) 1#32) (ncW v) = 1#1 ↔ ncN (lenN v) ≤ i + 1 := by
  have hL := lenN_le v
  have hc := ncN_le hL
  have ha : IsInt (Scalar.addi (BitVec.ofNat 32 i) 1#32) (i + 1 : Int) :=
    addi (isInt_ofNat (by omega)) (ofNat 1 (by omega)) ⟨rfl, by omega, by omega⟩
  have hb : IsInt (ncW v) (ncN (lenN v)) := by rw [ncW_eq]; exact isInt_ofNat (by omega)
  by_cases h : ncN (lenN v) ≤ i + 1
  · exact iff_of_true (sge_holds ha hb (by omega)) h
  · exact iff_of_false (sge_fails ha hb (by omega)) h

theorem addi_one (i : ℕ) : Scalar.addi (BitVec.ofNat 32 i) 1#32 = BitVec.ofNat 32 (i + 1) := by
  show BitVec.ofNat 32 i + BitVec.ofNat 32 1 = _
  rw [BitVec.ofNat_add]

/-- The two words of the next pair are the next pair's. -/
theorem next_words (h i : ℕ) (v : BitVec 32) (hi : i < 2 ^ 30) :
    (Scalar.select (Scalar.cmpi .sge (Scalar.addi (BitVec.ofNat 32 i) 1#32) (ncW v)) (Scalar.addi (BitVec.ofNat 32 h) 1#32) (BitVec.ofNat 32 h),
     Scalar.select (Scalar.cmpi .sge (Scalar.addi (BitVec.ofNat 32 i) 1#32) (ncW v)) 0#32 (Scalar.addi (BitVec.ofNat 32 i) 1#32))
      = (BitVec.ofNat 32 (next (lenN v) (h, i)).1, BitVec.ofNat 32 (next (lenN v) (h, i)).2) := by
  have hl : _ = (1 : BitVec 1) ↔ _ := last_iff i v hi
  unfold next Scalar.select
  by_cases hc : ncN (lenN v) ≤ i + 1
  · rw [if_pos hc, if_pos (hl.mpr hc), if_pos (hl.mpr hc), addi_one]
  · rw [if_neg hc, if_neg (fun h => hc (hl.mp h)), if_neg (fun h => hc (hl.mp h)), addi_one]

/-! ## The order in which chunks are fetched -/

variable (len : ℕ → ℕ)

/-- The pair fetched `j`-th: chunks of a head in order, then the next head's. -/
def pos : ℕ → ℕ × ℕ
  | 0 => (0, 0)
  | j + 1 => next (len (min (pos j).1 19)) (pos j)

theorem pos_zero : pos len 0 = (0, 0) := rfl
theorem pos_succ (j : ℕ) : pos len (j + 1) = next (len (min (pos len j).1 19)) (pos len j) := rfl

theorem next_fst (L : ℕ) (p : ℕ × ℕ) : p.1 ≤ (next L p).1 ∧ (next L p).1 ≤ p.1 + 1 := by
  unfold next; split <;> simp

theorem pos_fst_le (j : ℕ) : (pos len j).1 ≤ j := by
  induction j with
  | zero => exact Nat.le_refl _
  | succ j ih => rw [pos_succ]; have := (next_fst (len (min (pos len j).1 19)) (pos len j)).2; omega

theorem pos_mono {i j : ℕ} (h : i ≤ j) : (pos len i).1 ≤ (pos len j).1 := by
  induction h with
  | refl => exact Nat.le_refl _
  | step _ ih => rw [pos_succ]; exact ih.trans (next_fst _ _).1

theorem pos_snd_lt (j : ℕ) : (pos len j).2 < ncN (len (min (pos len j).1 19)) := by
  induction j with
  | zero => exact ncN_pos _
  | succ j ih =>
    rw [pos_succ]; unfold next
    split
    · exact ncN_pos _
    · simp only; omega

theorem pos_chunk {w h i : ℕ} (hh : h < 20) (h0 : pos len w = (h, 0)) (hi : i < ncN (len h)) : pos len (w + i) = (h, i) := by
  induction i with
  | zero => exact h0
  | succ i ih =>
    rw [← Nat.add_assoc, pos_succ, ih (by omega)]
    have : min h 19 = h := by omega
    simp only [this]
    unfold next
    rw [if_neg (by simp only; omega)]

theorem pos_head {w h : ℕ} (hh : h < 20) (h0 : pos len w = (h, 0)) : pos len (w + ncN (len h)) = (h + 1, 0) := by
  have hp := ncN_pos (len h)
  have := pos_chunk len hh h0 (i := ncN (len h) - 1) (by omega)
  rw [show w + ncN (len h) = w + (ncN (len h) - 1) + 1 by omega, pos_succ, this]
  have : min h 19 = h := by omega
  simp only [this]
  unfold next
  rw [if_pos (by simp only; omega)]

/-- The first fetch of head `h`. -/
def start : ℕ → ℕ
  | 0 => 0
  | h + 1 => start h + ncN (len h)

theorem pos_start {h : ℕ} (hh : h ≤ 20) : pos len (start len h) = (h, 0) := by
  induction h with
  | zero => rfl
  | succ h ih => exact pos_head len (by omega) (ih (by omega))

theorem start_le (hl : ∀ h, len h ≤ 65536) (h : ℕ) : start len h ≤ 16 * h := by
  induction h with
  | zero => exact Nat.le_refl _
  | succ h ih => have := ncN_le (hl h); show start len h + ncN (len h) ≤ _; omega

end Decode
-- ==== Proof.Ring.lean ====
/- A ring of twelve slots, each with a semaphore of its own, filled by copies of chunks of an array
   left in HBM: what a free slot is, what a slot with a chunk on its way is, the copy's start and
   its wait. The keys' and the values' rings are both instances. -/
module

public import Idealize.ShloMosaic.Lib.Tactic
public import Idealize.ShloMosaic.Lib.Transfers
public import Idealize.ShloMosaic.Lib.ViewIndex
public import Idealize.ShloMosaic.Lib.Pipeline.FrameBody
public import proofs.«01_k».proof.Proof.Words

@[expose] public section

noncomputable section

namespace Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

/-- The ring's shape: slots, rows, lanes. -/
abbrev SB : Shape := ⟨3, ![12, 4096, 128]⟩
/-- The array's shape: heads, positions, lanes. -/
abbrev SX : Shape := ⟨3, ![20, 65536, 128]⟩

variable {nD : Nat} {τ : Topo} {sig : RefSig} {Val : EltTy → Type}
variable {U : Type} [URA U] [CountersIn U]

local notation "𝕄" => MT nD τ sig Unit Val ℕ U ℕ

variable (c : Thread nD τ) {e : EltTy} (M : Memref sig c.2.kind .vmem SB e) (X : Memref sig c.2.kind .hbm SX e)
variable (sem : ℕ → DmaSem sig) (len : ℕ → ℕ) (fX : Buf Val (X.view.loc c))

/-- The elements of slot `s`. -/
def slotSet (s : ℕ) : Finset (Idx (M.view.loc c)) := M.view.setOn (Finset.univ.filter fun y : SB.Idx => (y 0).val = s)

/-- The elements of chunk `i` of head `h` that a copy reads. -/
def srcSet (h i : ℕ) : Finset (Idx (X.view.loc c)) :=
  X.view.setOn (Finset.univ.filter fun y : SX.Idx => (y 0).val = h ∧ 4096 * i ≤ (y 1).val ∧ (y 1).val < 4096 * i + rowsN (len h) i)

/-- Slot `s` holds the rows of chunk `i` of head `h`, the first `n` of them. -/
def Holds (n s h i : ℕ) (f : Buf Val (M.view.loc c)) : Prop :=
  ∀ (y : SB.Idx) (x : SX.Idx), (y 0).val = s → (y 1).val < n → (x 0).val = h → (x 1).val = 4096 * i + (y 1).val →
    (x 2).val = (y 2).val → M.view.read Val f y = X.view.read Val fX x

/-- Slot `s`'s share of the array in HBM. -/
abbrev slotTok (s : ℕ) : PosShare TreeShare := shareTokN fullShare s

/-- A slot that has landed: its cell at zero, its rows, its share of the array. -/
def Here (s : ℕ) (f : Buf Val (M.view.loc c)) : sProp 𝕄 :=
  iprop(semVal (c, SemLoc.dma (sem s)) 0 ∗ (M.view.loc c ↦[slotSet c M s]{fullShare} f) ∗ (X.view.loc c ↦{slotTok s} fX))

/-- A slot nothing is on its way to. -/
def Free (s : ℕ) : sProp 𝕄 := iprop(∃ f, Here c M X sem fX s f)

/-- The units a chunk's copy pays. -/
def units (h i : ℕ) : ℕ := (M.view.ref).dmaCredit ⟨2, ![rowsN (len h) i, 128]⟩ e

/-- What the copy delivers. -/
def delivered (s h i : ℕ) : sProp 𝕄 :=
  iprop((∃ f, (M.view.loc c ↦[slotSet c M s]{fullShare} f) ∗ ⌜Holds c M X fX (rowsN (len h) i) s h i f⌝) ∗ (X.view.loc c ↦[srcSet c X len h i]{slotTok s} fX))

/-- Chunk `i` of head `h` on its way to slot `s`. -/
def Coming (s h i : ℕ) : sProp 𝕄 :=
  iprop(Flight (countersEmb (U := U)) c (SemLoc.dma (sem s)) () (units c M len h i) (delivered c M X len fX s h i)
    ∗ (X.view.loc c ↦[Finset.univ \ srcSet c X len h i]{slotTok s} fX))

/-- Writing a chunk's rows into a slot makes the slot hold them. -/
theorem holds_write {s h i n m : ℕ} (hn : n = m) {hd : ∀ a, (![1, n, 128] : Fin 3 → ℕ) a = 0 ∨ (![s, 0, 0] : Fin 3 → ℕ) a + (![1, n, 128] : Fin 3 → ℕ) a ≤ SB.size a}
    {hs : ∀ a, (![1, n, 128] : Fin 3 → ℕ) a = 0 ∨ (![h, 4096 * i, 0] : Fin 3 → ℕ) a + (![1, n, 128] : Fin 3 → ℕ) a ≤ SX.size a}
    {hd1 : ∀ a, (Rect.unitDyn (s := SB) ![s, 0, 0] ![1, n, 128] hd).stride a = 1} {hs1 : ∀ a, (Rect.unitDyn (s := SX) ![h, 4096 * i, 0] ![1, n, 128] hs).stride a = 1}
    (f : Buf Val (M.view.loc c))
    (hdq : (⟨3, ![1, n, 128]⟩ : Shape).Squeezes ⟨2, ![n, 128]⟩) (hsq : (⟨3, ![1, n, 128]⟩ : Shape).Squeezes ⟨2, ![n, 128]⟩) :
    Holds c M X fX m s h i
      (((M.slice (Rect.unitDyn (s := SB) ![s, 0, 0] ![1, n, 128] hd) hd1).squeeze (⟨2, ![n, 128]⟩ : Shape) hdq).view.write Val f
        (ReadAs.same.apply (((X.slice (Rect.unitDyn (s := SX) ![h, 4096 * i, 0] ![1, n, 128] hs) hs1).squeeze (⟨2, ![n, 128]⟩ : Shape) hsq).view.read Val fX)) Finset.univ) := by
  subst hn
  intro y x y0 y1 x0 x1 x2
  have hy2 : (y 2).val < 128 := (y 2).isLt
  let y' : (⟨3, ![1, n, 128]⟩ : Shape).Idx := Fin.cons (⟨0, Nat.one_pos⟩ : Fin 1) (Fin.cons (⟨(y 1).val, y1⟩ : Fin n) (Fin.cons (⟨(y 2).val, hy2⟩ : Fin 128) (fun a => a.elim0)))
  have ey : (Rect.unitDyn (s := SB) ![s, 0, 0] ![1, n, 128] hd).emb y' = y := by
    funext a
    refine Fin.ext ?_
    revert a
    refine Fin.forall_fin_succ.mpr ⟨?_, Fin.forall_fin_succ.mpr ⟨?_, Fin.forall_fin_succ.mpr ⟨?_, fun a => a.elim0⟩⟩⟩
    · show s + 1 * 0 = (y 0).val; omega
    · show 0 + 1 * (y 1).val = (y 1).val; omega
    · show 0 + 1 * (y 2).val = (y 2).val; omega
  have ex : (Rect.unitDyn (s := SX) ![h, 4096 * i, 0] ![1, n, 128] hs).emb y' = x := by
    funext a
    refine Fin.ext ?_
    revert a
    refine Fin.forall_fin_succ.mpr ⟨?_, Fin.forall_fin_succ.mpr ⟨?_, Fin.forall_fin_succ.mpr ⟨?_, fun a => a.elim0⟩⟩⟩
    · show h + 1 * 0 = (x 0).val; omega
    · show 4096 * i + 1 * (y 1).val = (x 1).val; omega
    · show 0 + 1 * (y 2).val = (x 2).val; omega
  have hz : Shape.reshapeEquiv hdq.numel_eq ((Shape.reshapeEquiv hdq.numel_eq).symm y') = y' := Equiv.apply_symm_apply _ _
  rw [← ey, ← ex]
  show (M.view.slice (Rect.unitDyn (s := SB) ![s, 0, 0] ![1, n, 128] hd)).read Val _ y' = (X.view.slice (Rect.unitDyn (s := SX) ![h, 4096 * i, 0] ![1, n, 128] hs)).read Val fX y'
  rw [← hz]
  exact View.read_write_reshape (M.view.slice (Rect.unitDyn (s := SB) ![s, 0, 0] ![1, n, 128] hd)) hdq.numel_eq f _ _

variable {Λ : Labels} {defs : Defs nD τ sig Val Λ} (𝒱 : Variants) (bd : Option 𝒱.V)
variable {α : Type} {Q : α → sProp (MT nD τ sig Unit Val ℕ U ℕ)}

/-- The copy of chunk `i` of head `h` into a free slot starts. -/
theorem wp_issue {s h i n : ℕ} (hn : n = rowsN (len h) i) {offd : (Fin 3 → ℕ) × (Fin 3 → ℕ)} {offs : (Fin 3 → ℕ) × (Fin 3 → ℕ)} {sz : Fin 2 → ℕ}
    {hd : ∀ a, offd.2 a = 0 ∨ offd.1 a + offd.2 a ≤ SB.size a} {hs : ∀ a, offs.2 a = 0 ∨ offs.1 a + offs.2 a ≤ SX.size a}
    {hd1 : ∀ a, (Rect.unitDyn (s := SB) offd.1 offd.2 hd).stride a = 1} {hs1 : ∀ a, (Rect.unitDyn (s := SX) offs.1 offs.2 hs).stride a = 1}
    {hdq : (⟨3, offd.2⟩ : Shape).Squeezes ⟨2, sz⟩} {hsq : (⟨3, offs.2⟩ : Shape).Squeezes ⟨2, sz⟩}
    {sm : DmaSem sig}
    {w1 : ((X.slice (Rect.unitDyn (s := SX) offs.1 offs.2 hs) hs1).squeeze (⟨2, sz⟩ : Shape) hsq).view.WordExact}
    {w2 : ((M.slice (Rect.unitDyn (s := SB) offd.1 offd.2 hd) hd1).squeeze (⟨2, sz⟩ : Shape) hdq).view.WordExact}
    {w3 : DmaTarget.Typed (nD := nD) Space.hbm (.dma sm) (.here ((M.slice (Rect.unitDyn (s := SB) offd.1 offd.2 hd) hd1).squeeze (⟨2, sz⟩ : Shape) hdq))}
    {k : PUnit → Prog (TpuEff nD τ sig Val Λ c.2) α}
    (e1 : offd = (![s, 0, 0], ![1, n, 128])) (e2 : offs = (![h, 4096 * i, 0], ![1, n, 128])) (e3 : sz = ![n, 128]) (e4 : sm = sem s) :
    (Free c M X sem fX s : sProp 𝕄)
      ⊢ iprop(((Coming c M X sem len fX s h i : sProp 𝕄) -∗ wp frame (wpE defs 𝒱 c bd) Set.univ (k ⟨⟩) Q)
          -∗ wp frame (wpE defs 𝒱 c bd) Set.univ
            (.op (.enqueueDma ((X.slice (Rect.unitDyn (s := SX) offs.1 offs.2 hs) hs1).squeeze (⟨2, sz⟩ : Shape) hsq)
              (.here ((M.slice (Rect.unitDyn (s := SB) offd.1 offd.2 hd) hd1).squeeze (⟨2, sz⟩ : Shape) hdq)) (.dma sm) w1 w2 w3) k) Q) := by
  subst e1 e2 e3 e4
  have hsrc : (((X.slice (Rect.unitDyn (s := SX) ![h, 4096 * i, 0] ![1, n, 128] hs) hs1).squeeze (⟨2, ![n, 128]⟩ : Shape) hsq).view.set : Finset (Idx (X.view.loc c))) = srcSet c X len h i := by
    show (((X.view.slice (Rect.unitDyn (s := SX) ![h, 4096 * i, 0] ![1, n, 128] hs)).reshape _ _).set : Finset _) = _
    rw [View.set_reshape, View.set_slice]
    unfold srcSet View.setOn
    refine congrArg (Finset.map X.view.emb) ?_
    ext y
    rw [Rect.mem_set_unitDyn, Finset.mem_filter, Fin.forall_fin_succ, Fin.forall_fin_succ, Fin.forall_fin_succ]
    have h2 : (y 2).val < 128 := (y 2).isLt
    constructor
    · rintro ⟨h0, h1, -⟩
      change h ≤ (y 0).val ∧ (y 0).val < h + 1 at h0
      change 4096 * i ≤ (y 1).val ∧ (y 1).val < 4096 * i + n at h1
      exact ⟨Finset.mem_univ _, by omega, by omega, by omega⟩
    · rintro ⟨-, h0, h1, h1'⟩
      refine ⟨?_, ?_, ?_, fun a => a.elim0⟩
      · show h ≤ (y 0).val ∧ (y 0).val < h + 1; omega
      · show 4096 * i ≤ (y 1).val ∧ (y 1).val < 4096 * i + n; omega
      · show 0 ≤ (y 2).val ∧ (y 2).val < 0 + 128; omega
  have hdst : (((M.slice (Rect.unitDyn (s := SB) ![s, 0, 0] ![1, n, 128] hd) hd1).squeeze (⟨2, ![n, 128]⟩ : Shape) hdq).view.set : Finset (Idx (M.view.loc c))) ⊆ slotSet c M s := by
    show (((M.view.slice (Rect.unitDyn (s := SB) ![s, 0, 0] ![1, n, 128] hd)).reshape _ _).set : Finset _) ⊆ _
    rw [View.set_reshape, View.set_slice]
    unfold slotSet View.setOn
    refine Finset.map_subset_map.mpr fun y hy => ?_
    rw [Rect.mem_set_unitDyn] at hy
    rw [Finset.mem_filter]
    have := hy 0
    refine ⟨Finset.mem_univ _, ?_⟩
    change s ≤ (y 0).val ∧ (y 0).val < s + 1 at this
    omega
  unfold Free Here
  iintro ⟨%f, Hv, Hb, HX⟩ Hk
  ihave HX := (pointsTo_split_subset (Finset.subset_univ (srcSet c X len h i))).1 $$ HX
  icases HX with ⟨Hs, HX⟩
  rw [← hsrc]
  iapply (wp_dmaLocal (countersEmb (U := U)) 𝒱 c bd () (units c M len h i) ?_ ?_ hdst) $$ [Hs Hb Hv]
  · subst hn; rfl
  · exact sig.dmaCredit_pos _ _ _ _ _ (by
      show 0 < ∏ a, (![rowsN (len h) i, 128] : Fin 2 → ℕ) a
      rw [Fin.prod_univ_two]
      have := rowsN_pos (len h) i
      show 0 < rowsN (len h) i * 128
      omega)
  · isplitl [Hs]; · iexact Hs
    isplitl [Hb]; · iexact Hb
    iexact Hv
  iintro HF
  iapply Hk
  unfold Coming
  isplitl [HF]
  · iapply (Flight_mono (countersEmb (U := U)) c ?_) $$ HF
    unfold delivered
    rw [hsrc]
    iintro ⟨Hb, Hs⟩
    isplitl [Hb]
    · iexists _
      isplitl [Hb]; · iexact Hb
      ipureintro
      exact holds_write c M X fX hn f hdq hsq
    · iexact Hs
  · rw [hsrc]; iexact HX

/-- The wait for the chunk on its way to a slot. -/
theorem wp_landed {s h i : ℕ} {κ' : Kind} {b : Ref sig κ'} {sz : Shape} {sm : DmaSem sig} {hk : c.2 = .tc ∨ b.HasMemref sz e}
    {k : PUnit → Prog (TpuEff nD τ sig Val Λ c.2) α} {W : Waits sig Unit}
    (e1 : b.dmaCredit sz e = units c M len h i) (e2 : sm = sem s) :
    iprop((Coming c M X sem len fX s h i : sProp 𝕄) ∗ owes c 0 W)
      ⊢ iprop((iprop((∃ f, Here c M X sem fX s f ∗ ⌜Holds c M X fX (rowsN (len h) i) s h i f⌝) ∗ (∃ W', owes c 0 W')) -∗ wp frame (wpE defs 𝒱 c bd) Set.univ (k ⟨⟩) Q)
          -∗ wp frame (wpE defs 𝒱 c bd) Set.univ (.op (.waitDma sm b sz e hk) k) Q) := by
  subst e2
  unfold Coming Here
  iintro ⟨⟨HF, HX⟩, HO⟩ Hk
  iapply (wp_waitLocalSized (countersEmb (U := U)) 𝒱 c bd () e1) $$ [HF HO]
  · isplitl [HF] <;> iassumption
  unfold delivered
  iintro ⟨⟨⟨%f, Hb, %hf⟩, Hs⟩, Hv, HO⟩
  iapply Hk
  isplitl [Hb Hs Hv HX]
  · iexists f
    isplitl
    · isplitl [Hv]; · iexact Hv
      isplitl [Hb]; · iexact Hb
      iapply (pointsTo_split_subset (Finset.subset_univ (srcSet c X len h i))).2
      isplitl [Hs] <;> iassumption
    · ipureintro; exact hf
  · iexists _; iexact HO

/-! ## The whole ring -/

/-- Slot `s` when fetch `j` is its next: on its way if it has been started and there is such a chunk. -/
def Cell (j iss s : ℕ) : sProp 𝕄 :=
  if j < iss ∧ (pos len j).1 < 20 then Coming c M X sem len fX s (pos len j).1 (pos len j).2 else Free c M X sem fX s

/-- The fetch slot `s` waits for after `w` waits. -/
def turn (w s : ℕ) : ℕ := w + (s + 12 - w % 12) % 12

/-- The ring after `w` waits and `iss` starts. -/
def Ring (w iss : ℕ) : sProp 𝕄 := bigSep Finset.univ fun s : Fin 12 => Cell c M X sem len fX (turn w s) iss s

theorem turn_self (w : ℕ) : turn w (w % 12) = w := by unfold turn; omega
theorem turn_lt {w s : ℕ} (hs : s < 12) : w ≤ turn w s ∧ turn w s < w + 12 ∧ turn w s % 12 = s := by unfold turn; omega
theorem turn_succ {w s : ℕ} (hs : s < 12) (h : s ≠ w % 12) : turn (w + 1) s = turn w s := by unfold turn; omega
theorem turn_succ_self (w : ℕ) : turn (w + 1) (w % 12) = w + 12 := by unfold turn; omega

theorem bigSep_one {Φ Ψ : Fin 12 → sProp 𝕄} (i : Fin 12) (h : ∀ j, j ≠ i → Φ j = Ψ j) :
    bigSep Finset.univ Φ ⊢ iprop(Φ i ∗ (Ψ i -∗ bigSep Finset.univ Ψ)) := by
  have h1 : bigSep Finset.univ Φ = iprop(Φ i ∗ bigSep (Finset.univ.erase i) Φ) := bigSep_erase (Finset.mem_univ i)
  have h2 : bigSep Finset.univ Ψ = iprop(Ψ i ∗ bigSep (Finset.univ.erase i) Ψ) := bigSep_erase (Finset.mem_univ i)
  rw [h1, h2, bigSep_congr (fun j hj => h j (Finset.ne_of_mem_erase hj))]
  iintro ⟨H1, H2⟩
  isplitl [H1]; · iexact H1
  iintro H3
  isplitl [H3] <;> iassumption

/-- A start takes the next free slot, -/
theorem ring_issue {w iss : ℕ} (h1 : w ≤ iss) (h2 : iss < w + 12) :
    (Ring c M X sem len fX w iss : sProp 𝕄)
      ⊢ iprop(Free c M X sem fX (iss % 12) ∗ (Cell c M X sem len fX iss (iss + 1) (iss % 12) -∗ Ring c M X sem len fX w (iss + 1))) := by
  have hlt : iss % 12 < 12 := Nat.mod_lt _ (by omega)
  have ht : turn w (iss % 12) = iss := by unfold turn; omega
  have := bigSep_one (U := U) (Φ := fun s : Fin 12 => Cell c M X sem len fX (turn w s) iss s)
    (Ψ := fun s : Fin 12 => Cell c M X sem len fX (turn w s) (iss + 1) s) ⟨iss % 12, hlt⟩ (fun j hj => by
      have hj' : j.val ≠ iss % 12 := fun h => hj (Fin.ext h)
      have hn := turn_lt (w := w) j.isLt
      have : turn w j ≠ iss := fun h => hj' (by omega)
      unfold Cell
      simp only [show (turn w j < iss + 1) = (turn w j < iss) from propext (by omega)])
  unfold Ring
  refine this.trans ?_
  simp only [ht]
  rw [show Cell c M X sem len fX iss iss (iss % 12) = (Free c M X sem fX (iss % 12) : sProp 𝕄) from if_neg (by omega)]

/-- and a wait the slot whose turn it is, which is free afterwards. -/
theorem ring_wait {w iss : ℕ} (h2 : iss ≤ w + 12) :
    (Ring c M X sem len fX w iss : sProp 𝕄)
      ⊢ iprop(Cell c M X sem len fX w iss (w % 12) ∗ (Free c M X sem fX (w % 12) -∗ Ring c M X sem len fX (w + 1) iss)) := by
  have hlt : w % 12 < 12 := Nat.mod_lt _ (by omega)
  have := bigSep_one (U := U) (Φ := fun s : Fin 12 => Cell c M X sem len fX (turn w s) iss s)
    (Ψ := fun s : Fin 12 => Cell c M X sem len fX (turn (w + 1) s) iss s) ⟨w % 12, hlt⟩ (fun j hj => by
      have hj' : j.val ≠ w % 12 := fun h => hj (Fin.ext h)
      simp only [turn_succ j.isLt hj'])
  unfold Ring
  refine this.trans ?_
  simp only [turn_self, turn_succ_self]
  rw [show Cell c M X sem len fX (w + 12) iss (w % 12) = (Free c M X sem fX (w % 12) : sProp 𝕄) from if_neg (by omega)]

/-- Before any start every slot is free, -/
theorem ring_start : (Ring c M X sem len fX 0 0 : sProp 𝕄) = bigSep Finset.univ fun s : Fin 12 => Free c M X sem fX s := by
  unfold Ring
  exact bigSep_congr fun s _ => if_neg (by omega)

/-- and so they are once every head has been through. -/
theorem ring_end {w iss : ℕ} (h : 20 ≤ (pos len w).1) : (Ring c M X sem len fX w iss : sProp 𝕄) = bigSep Finset.univ fun s : Fin 12 => Free c M X sem fX s := by
  unfold Ring
  exact bigSep_congr fun s _ => if_neg (by
    have := pos_mono len (turn_lt (w := w) s.isLt).1
    omega)

end Decode
-- ==== Proof.Sites.lean ====
/- Offsets, extents and side conditions of the copies, as numbers. -/
module

public import proofs.«01_k».proof.Proof.Ring

@[expose] public section

noncomputable section

namespace Decode

open Idealize.ShloMosaic Idealize.ShloMosaic.Affine

/-- The rectangle of slot `s`'s first `n` rows, and that of `n` rows from `4096 i` of head `h`. -/
abbrev slotRect (s n : ℕ) : (Fin 3 → ℕ) × (Fin 3 → ℕ) := (![s, 0, 0], ![1, n, 128])
abbrev rowRect (h i n : ℕ) : (Fin 3 → ℕ) × (Fin 3 → ℕ) := (![h, 4096 * i, 0], ![1, n, 128])

/-- The same as the kernel computes them from words. -/
abbrev slotOff (s i v : BitVec 32) : (Fin 3 → ℕ) × (Fin 3 → ℕ) := (![s.toNat, (0#32).toNat, (0#32).toNat], ![1, (rowsW i v).toNat, 128])
abbrev rowOff (h i v : BitVec 32) : (Fin 3 → ℕ) × (Fin 3 → ℕ) :=
  (![h.toNat, (Scalar.muli i 4096#32).toNat, (0#32).toNat], ![1, (rowsW i v).toNat, 128])

theorem toNat_ofNat {n : ℕ} (h : n < 2 ^ 31) : (BitVec.ofNat 32 n).toNat = n := by simp; omega

theorem rowsW_toNat {i : ℕ} {v : BitVec 32} (hi : i < ncN (lenN v)) : (rowsW (BitVec.ofNat 32 i) v).toNat = rowsN (lenN v) i := by
  have := rowsN_le (lenN v) i
  rw [rowsW_eq i v hi, toNat_ofNat (by omega)]

theorem muli_toNat {i : ℕ} (hi : i < 2 ^ 10) : (Scalar.muli (BitVec.ofNat 32 i) 4096#32).toNat = 4096 * i := by
  have : IsInt (Scalar.muli (BitVec.ofNat 32 i) 4096#32) (i * 4096 : Int) :=
    Affine.muli (isInt_ofNat (by omega)) (Affine.ofNat 4096 (e := 4096) ⟨rfl, by omega⟩) ⟨rfl, by omega, by omega⟩
  rw [eq_ofNat (4096 * i) this (by omega), toNat_ofNat (by omega)]

theorem slotOff_eq {s i : ℕ} {v : BitVec 32} (hs : s < 12) (hi : i < ncN (lenN v)) :
    slotOff (BitVec.ofNat 32 s) (BitVec.ofNat 32 i) v = slotRect s (rowsN (lenN v) i) := by
  unfold slotOff slotRect
  rw [rowsW_toNat hi, toNat_ofNat (by omega)]; rfl

theorem rowOff_eq {h i : ℕ} {v : BitVec 32} (hh : h < 20) (hi : i < ncN (lenN v)) :
    rowOff (BitVec.ofNat 32 h) (BitVec.ofNat 32 i) v = rowRect h i (rowsN (lenN v) i) := by
  have := ncN_le (lenN_le v)
  unfold rowOff rowRect
  rw [rowsW_toNat hi, toNat_ofNat (by omega), muli_toNat (by omega)]; rfl

theorem slotRect_inb {s n : ℕ} (hs : s < 12) (hn : n ≤ 4096) : ∀ a, (slotRect s n).2 a = 0 ∨ (slotRect s n).1 a + (slotRect s n).2 a ≤ SB.size a := by
  refine Fin.forall_fin_succ.mpr ⟨?_, Fin.forall_fin_succ.mpr ⟨?_, Fin.forall_fin_succ.mpr ⟨?_, fun a => a.elim0⟩⟩⟩
  · right; show s + 1 ≤ 12; omega
  · right; show 0 + n ≤ 4096; omega
  · right; show 0 + 128 ≤ 128; omega

theorem rowRect_inb {h i n : ℕ} (hh : h < 20) (hn : 4096 * i + n ≤ 65536) : ∀ a, (rowRect h i n).2 a = 0 ∨ (rowRect h i n).1 a + (rowRect h i n).2 a ≤ SX.size a := by
  refine Fin.forall_fin_succ.mpr ⟨?_, Fin.forall_fin_succ.mpr ⟨?_, Fin.forall_fin_succ.mpr ⟨?_, fun a => a.elim0⟩⟩⟩
  · right; show h + 1 ≤ 20; omega
  · right; show 4096 * i + n ≤ 65536; omega
  · right; show 0 + 128 ≤ 128; omega

theorem squeezes (n : ℕ) : (⟨3, ![1, n, 128]⟩ : Shape).Squeezes ⟨2, ![n, 128]⟩ := by
  unfold Shape.Squeezes
  simp [Shape.dropsOnes]

theorem slotRect_words {o : (Fin 3 → ℕ) × (Fin 3 → ℕ)} {s n p : ℕ} (ho : o = slotRect s n) (hp : p ∣ 32) (hn : 32 ∣ n)
    (hinb : ∀ a, o.2 a = 0 ∨ o.1 a + o.2 a ≤ SB.size a) : (Rect.unitDyn (s := SB) o.1 o.2 hinb).WholeWords p := by
  subst ho
  have h2 : 2 ≤ SB.rank := by decide
  exact .inl (.inr ⟨h2, rfl, .inl ⟨Nat.dvd_zero _, show p ∣ n from hp.trans hn⟩⟩)

theorem rowRect_words {o : (Fin 3 → ℕ) × (Fin 3 → ℕ)} {h i n p : ℕ} (ho : o = rowRect h i n) (hp : p ∣ 32) (hn : 32 ∣ n)
    (hinb : ∀ a, o.2 a = 0 ∨ o.1 a + o.2 a ≤ SX.size a) : (Rect.unitDyn (s := SX) o.1 o.2 hinb).WholeWords p := by
  subst ho
  have h2 : 2 ≤ SX.rank := by decide
  refine .inl (.inr ⟨h2, rfl, .inl ⟨?_, show p ∣ n from hp.trans hn⟩⟩)
  show p ∣ 4096 * i
  exact hp.trans (Dvd.dvd.mul_right (by decide) i)

/-- A copy's whole side condition. -/
theorem copy_ok {m : BitVec 32} {od os : (Fin 3 → ℕ) × (Fin 3 → ℕ)} {zd zs : Fin 2 → ℕ} {C : Prop} {p s h i : ℕ} {v : BitVec 32}
    (hs : C → s < 12) (hh : C → h < 20) (hi : C → i < ncN (lenN v)) (hp : p ∣ 32)
    (em : C → m.toNat = rowsN (lenN v) i) (ed : C → od = slotRect s (rowsN (lenN v) i)) (es : C → os = rowRect h i (rowsN (lenN v) i))
    (ezd : C → zd = ![rowsN (lenN v) i, 128]) (ezs : C → zs = ![rowsN (lenN v) i, 128]) :
    (∀ _ : C, 32 ∣ m.toNat) ∧
    (∀ _ : C, ∀ a, od.2 a = 0 ∨ od.1 a + od.2 a ≤ SB.size a) ∧
    (∀ _ : C, (⟨3, od.2⟩ : Shape).Squeezes ⟨2, zd⟩) ∧
    (∀ _ : C, ∀ a, os.2 a = 0 ∨ os.1 a + os.2 a ≤ SX.size a) ∧
    (∀ _ : C, (⟨3, os.2⟩ : Shape).Squeezes ⟨2, zs⟩) ∧
    (∀ _ : C, ∀ (hinb : ∀ a, os.2 a = 0 ∨ os.1 a + os.2 a ≤ SX.size a), (Rect.unitDyn (s := SX) os.1 os.2 hinb).WholeWords p) ∧
    (∀ _ : C, ∀ (hinb : ∀ a, od.2 a = 0 ∨ od.1 a + od.2 a ≤ SB.size a), (Rect.unitDyn (s := SB) od.1 od.2 hinb).WholeWords p) := by
  have hb := rowsN_le (lenN v) i
  have hL := lenN_le v
  refine ⟨fun k => em k ▸ rowsN_dvd _ _, fun k => ed k ▸ slotRect_inb (hs k) hb, fun k => ?_, fun k => es k ▸ rowRect_inb (hh k) ?_, fun k => ?_,
    fun k => rowRect_words (es k) hp (rowsN_dvd _ _), fun k => slotRect_words (ed k) hp (rowsN_dvd _ _)⟩
  · rw [ed k, ezd k]; exact squeezes _
  · have := hi k; unfold ncN at this; unfold rowsN; omega
  · rw [es k, ezs k]; exact squeezes _

/-- A word of the two lengths may be read. -/
theorem len_inb {o : Fin 1 → ℕ} {b : ℕ} (ho : o = ![b]) (hb : b < 2) : ∀ a, o a + (⟨1, ![1]⟩ : Shape).size a ≤ (⟨1, ![2]⟩ : Shape).size a := by
  subst ho
  refine Fin.forall_fin_succ.mpr ⟨?_, fun a => a.elim0⟩
  show b + 1 ≤ 2; omega

end Decode
-- ==== Proof.IPrime.lean ====
/- The first twelve fetches of each ring. -/
module

public import proofs.«01_k».proof.Proof.Sites
public import proofs.«01_k».proof.Proof.Gen.KernelIdeal.Loops
public import Idealize.ShloMosaic.Lib.LoopRemainder

@[expose] public section

set_option maxRecDepth 16384

noncomputable section

namespace Cert.Proof.KernelIdeal

open Cert.KernelIdeal Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Semaphore `s` of an array of twelve. -/
def semOf (a : DmaSems sig S12) (s : ℕ) : DmaSem sig := a.ix (Fin.cons (⟨s % 12, Nat.mod_lt _ (by omega)⟩ : Fin 12) fun x => x.elim0)

theorem semOf_slice (a : DmaSems sig S12) {o : Fin 1 → ℕ} {s : ℕ} (ho : o = ![s]) (hs : s < 12)
    (h : ∀ x, o x + S1.size x ≤ S12.size x) (hq : S1.Squeezes S_) : ((a.slice (Rect.unit (s := S12) o S1.size h)).squeeze S_ hq).sem = semOf a s := by
  subst ho
  unfold semOf SemArray.sem
  show a.ix _ = _
  congr 1
  funext x
  refine Fin.ext ?_
  obtain rfl : x = 0 := Subsingleton.elim _ _
  show s + 1 * _ = s % 12
  have : ∀ z : Fin 1, s + 1 * z.val = s % 12 := fun z => by omega
  exact this _

/-- The length word of sequence `b`, and head `h`'s length. -/
def lw {c : Dev nD} (arg0 : Memref sig .tc .smem S2 .i32) (f0 : Buf (Elt F) (arg0.view.loc (c : Thread nD τ))) (b : ℕ) : BitVec 32 :=
  arg0.view.read (Elt F) f0 (Fin.cons (⟨b % 2, Nat.mod_lt _ (by omega)⟩ : Fin 2) fun x => x.elim0)
def hl {c : Dev nD} (arg0 : Memref sig .tc .smem S2 .i32) (f0 : Buf (Elt F) (arg0.view.loc (c : Thread nD τ))) (h : ℕ) : ℕ := lenN (lw arg0 f0 (h / 10))

theorem hl_le {c : Dev nD} (arg0 : Memref sig .tc .smem S2 .i32) (f0 : Buf (Elt F) (arg0.view.loc (c : Thread nD τ))) (h : ℕ) : hl arg0 f0 h ≤ 65536 := lenN_le _

theorem lw_read {c : Dev nD} (arg0 : Memref sig .tc .smem S2 .i32) (f0 : Buf (Elt F) (arg0.view.loc (c : Thread nD τ)))
    {o : Fin 1 → ℕ} {b : ℕ} (ho : o = ![b]) (hb : b < 2) (h : ∀ x, o x + S1.size x ≤ S2.size x) (x : (Rect.unit (s := S2) o S1.size h).shape.Idx) :
    (arg0.access (Rect.unit (s := S2) o S1.size h)).read (Elt F) f0 x = lw arg0 f0 b := by
  subst ho
  unfold lw
  show arg0.view.read (Elt F) f0 ((Rect.unit (s := S2) ![b] S1.size h).emb x) = _
  congr 1
  funext a
  refine Fin.ext ?_
  obtain rfl : a = 0 := Subsingleton.elim _ _
  show b + 1 * (x 0).val = b % 2
  have : (x 0).val < 1 := (x 0).isLt
  omega

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (q : PosShare TreeShare) (f0 : Buf (Elt F) (arg0.view.loc (c : Thread nD τ))) (fK : Buf (Elt F) (arg5.view.loc (c : Thread nD τ))) (fV : Buf (Elt F) (arg6.view.loc (c : Thread nD τ)))

abbrev RingK (w iss : ℕ) : sProp 𝕄 := Ring (c : Thread nD τ) arg11 arg5 (semOf arg16) (hl arg0 f0) fK w iss
abbrev RingV (w iss : ℕ) : sProp 𝕄 := Ring (c : Thread nD τ) arg12 arg6 (semOf arg17) (hl arg0 f0) fV w iss

/-- The words of the `j`-th fetch. -/
abbrev posW (j : ℕ) : BitVec 32 × BitVec 32 := (BitVec.ofNat 32 (pos (hl arg0 f0) j).1, BitVec.ofNat 32 (pos (hl arg0 f0) j).2)

theorem hl_min {h : ℕ} : hl arg0 f0 (min h 19) = lenN (lw arg0 f0 (min h 19 / 10)) := rfl

theorem off1_eq {h : ℕ} (hh : h < 20) : k0_off1 (BitVec.ofNat 32 h) = ![h / 10] := by
  show ![(seqW (BitVec.ofNat 32 h)).toNat] = _
  rw [seqW_eq ⟨h, hh⟩, toNat_ofNat (by show h / 10 < _; omega)]
theorem off5_eq {h : ℕ} (hh : h < 2 ^ 30) : k0_off5 (BitVec.ofNat 32 h) = ![min h 19 / 10] := by
  show ![(seqW (Scalar.minsi (BitVec.ofNat 32 h) 19#32)).toNat] = _
  rw [seqW_min hh, toNat_ofNat (by omega)]
theorem cond1_iff {h : ℕ} (hh : h < 2 ^ 30) : k0_cond1 (BitVec.ofNat 32 h) = 1#1 ↔ h < 20 := more_iff hh

theorem off2_eq (t : Fin k0_t1_loop.trips) : k0_off2 t = ![t.val] := by
  have ht : t.val < 12 := t.isLt
  show ![(Scf.iv 0#32 1#32 t.val).toNat] = _
  rw [iv_eq _ (by omega), toNat_ofNat (by omega)]

theorem chk1 {h : ℕ} (hh : h < 2 ^ 30) : k0_chk1 (BitVec.ofNat 32 h) :=
  ⟨fun k => len_inb (off1_eq ((cond1_iff hh).mp k)) (by have := (cond1_iff hh).mp k; omega), len_inb (off5_eq hh) (by omega)⟩
theorem chk3 {h i : ℕ} (hi : i < 2 ^ 10) : k0_chk3 (BitVec.ofNat 32 h) (BitVec.ofNat 32 i) := fun _ => by
  show 4096 ∣ (Scalar.muli (BitVec.ofNat 32 i) 4096#32).toNat
  rw [muli_toNat hi]; exact Nat.dvd_mul_right _ _

theorem off3_eq (t : Fin k0_t1_loop.trips) {i : ℕ} {v : BitVec 32} (hi : i < ncN (lenN v)) :
    k0_off3 t (BitVec.ofNat 32 i) v = slotRect t.val (rowsN (lenN v) i) := by
  have ht : t.val < 12 := t.isLt
  show slotOff (Scf.iv 0#32 1#32 t.val) (BitVec.ofNat 32 i) v = _
  rw [iv_eq _ (by omega), slotOff_eq ht hi]
theorem off4_eq {h i : ℕ} {v : BitVec 32} (hh : h < 20) (hi : i < ncN (lenN v)) :
    k0_off4 (BitVec.ofNat 32 h) (BitVec.ofNat 32 i) v = rowRect h i (rowsN (lenN v) i) := rowOff_eq hh hi
theorem sz1_eq {i : ℕ} {v : BitVec 32} (hi : i < ncN (lenN v)) : k0_sz1 (BitVec.ofNat 32 i) v = ![rowsN (lenN v) i, 128] := by
  show ![(rowsW (BitVec.ofNat 32 i) v).toNat, 128] = _
  rw [rowsW_toNat hi]

theorem chk2 (t : Fin k0_t1_loop.trips) {h i : ℕ} {v : BitVec 32} (hh : h < 20) (hi : i < ncN (lenN v)) :
    k0_chk2 t (BitVec.ofNat 32 h) (BitVec.ofNat 32 i) v :=
  copy_ok (s := t.val) (h := h) (i := i) (v := v) (fun _ => t.isLt) (fun _ => hh) (fun _ => hi) (by decide) (fun _ => rowsW_toNat hi) (fun _ => off3_eq t hi)
    (fun _ => off4_eq hh hi) (fun _ => sz1_eq hi) (fun _ => sz1_eq hi)

theorem pos_bounds {j h i : ℕ} (hp : pos (hl arg0 f0) j = (h, i)) : h ≤ j ∧ i < ncN (hl arg0 f0 (min h 19)) ∧ i < 16 := by
  have h1 := pos_fst_le (hl arg0 f0) j
  have h2 := pos_snd_lt (hl arg0 f0) j
  have h3 := ncN_le (hl_le arg0 f0 (min (pos (hl arg0 f0) j).1 19))
  rw [hp] at h1 h2 h3
  exact ⟨h1, h2, by simp only at *; omega⟩

/-- The words of the next fetch, from those of this one. -/
theorem posW_succ {j h i : ℕ} (hp : pos (hl arg0 f0) j = (h, i)) (v : BitVec 32) (hv : v = lw arg0 f0 (min h 19 / 10)) :
    (Scalar.select (Scalar.cmpi .sge (Scalar.addi (BitVec.ofNat 32 i) 1#32) (ncW v)) (Scalar.addi (BitVec.ofNat 32 h) 1#32) (BitVec.ofNat 32 h),
     Scalar.select (Scalar.cmpi .sge (Scalar.addi (BitVec.ofNat 32 i) 1#32) (ncW v)) 0#32 (Scalar.addi (BitVec.ofNat 32 i) 1#32))
      = posW c arg0 f0 (j + 1) := by
  have hb := (pos_bounds c arg0 f0 hp).2.2
  subst hv
  rw [next_words h i _ (by omega)]
  show _ = (BitVec.ofNat 32 (next (hl arg0 f0 (min (pos (hl arg0 f0) j).1 19)) (pos (hl arg0 f0) j)).1, BitVec.ofNat 32 (next (hl arg0 f0 (min (pos (hl arg0 f0) j).1 19)) (pos (hl arg0 f0) j)).2)
  rw [hp]; rfl

theorem trip_t1 (k : Fin k0_t1_loop.trips) {h i : ℕ} (hp : pos (hl arg0 f0) k.val = (h, i)) :
    iprop((arg0.view.loc (c : Thread nD τ) ↦[arg0.view.set]{q} f0) ∗ RingK c arg0 arg5 arg11 arg16 f0 fK 0 k.val)
      ⊢ wp Idealize.ShloMosaic.frame (wpE (defs₀ (F := F)) Variants.none (c : Thread nD τ) none) Set.univ
        (Gen.k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 k (BitVec.ofNat 32 h, BitVec.ofNat 32 i))
        (fun r => iprop(⌜r = posW c arg0 f0 (k.val + 1)⌝ ∗ (arg0.view.loc (c : Thread nD τ) ↦[arg0.view.set]{q} f0) ∗ RingK c arg0 arg5 arg11 arg16 f0 fK 0 (k.val + 1))) := by
  have hk : k.val < 12 := k.isLt
  obtain ⟨hb, hi, hc⟩ := pos_bounds c arg0 f0 hp
  unfold Gen.k0_t1_body
  iintro ⟨H0, HR⟩
  have h3 := chk3 (h := h) (i := i) (by omega)
  have h1 := chk1 (h := h) (by omega)
  have hr5 := lw_read arg0 f0 (off5_eq (h := h) (by omega)) (by omega) (k0_off5_inb _ h1)
  ihave HR := (ring_issue (c : Thread nD τ) arg11 arg5 (semOf arg16) (hl arg0 f0) fK (Nat.zero_le k.val) (by omega)) $$ HR
  icases HR with ⟨HF, HR⟩
  rw [show k.val % 12 = k.val by omega]
  by_cases hh : h < 20
  · have hcond := (cond1_iff (h := h) (by omega)).mpr hh
    rw [show min h 19 = h by omega] at hi
    have h2 : ∀ v, v = lw arg0 f0 (h / 10) → k0_chk2 k (BitVec.ofNat 32 h) (BitVec.ofNat 32 i) v := by
      rintro v rfl; exact chk2 k hh hi
    have e1 : ∀ v, v = lw arg0 f0 (h / 10) → k0_off3 k (BitVec.ofNat 32 i) v = slotRect k.val (rowsN (hl arg0 f0 h) i) := by
      rintro v rfl; exact off3_eq k hi
    have e2 : ∀ v, v = lw arg0 f0 (h / 10) → k0_off4 (BitVec.ofNat 32 h) (BitVec.ofNat 32 i) v = rowRect h i (rowsN (hl arg0 f0 h) i) := by
      rintro v rfl; exact off4_eq hh hi
    have e3 : ∀ v, v = lw arg0 f0 (h / 10) → k0_sz1 (BitVec.ofNat 32 i) v = ![rowsN (hl arg0 f0 h) i, 128] := by
      rintro v rfl; exact sz1_eq hi
    have hr := lw_read arg0 f0 (off1_eq hh) (by omega) (k0_off1_inb _ h1 hcond)
    sl_exec
    iapply (wp_assume Variants.none (c : Thread nD τ) none Set.univ (h2 _ (hr _)))
    sl_exec
    iapply (wp_issue (c : Thread nD τ) arg11 arg5 (semOf arg16) (hl arg0 f0) fK Variants.none none (s := k.val) (h := h)
      (i := i) (n := rowsN (hl arg0 f0 h) i) rfl ?_ ?_ ?_ (semOf_slice arg16 (off2_eq k) hk _ _)) $$ HF
    · exact e1 _ (hr _)
    · exact e2 _ (hr _)
    · exact e3 _ (hr _)
    iintro HF
    sl_exec
    sl_step
    isplitr
    · ipureintro; exact posW_succ c arg0 f0 hp _ (hr5 _)
    isplitl [H0]; · iexact H0
    iapply HR
    rw [show Cell (c : Thread nD τ) arg11 arg5 (semOf arg16) (hl arg0 f0) fK k.val (k.val + 1) k.val = (Coming (c : Thread nD τ) arg11 arg5 (semOf arg16) (hl arg0 f0) fK k.val h i : sProp 𝕄) from by
      unfold Cell; rw [hp]; exact if_pos ⟨Nat.lt_succ_self _, hh⟩]
    iexact HF
  · have hcond := (cond1_iff (h := h) (by omega)).not.mpr hh
    sl_exec
    sl_step
    isplitr
    · ipureintro; exact posW_succ c arg0 f0 hp _ (hr5 _)
    isplitl [H0]; · iexact H0
    iapply HR
    rw [show Cell (c : Thread nD τ) arg11 arg5 (semOf arg16) (hl arg0 f0) fK k.val (k.val + 1) k.val = (Free (c : Thread nD τ) arg11 arg5 (semOf arg16) fK k.val : sProp 𝕄) from by
      unfold Cell; rw [hp]; exact if_neg fun hx => hh hx.2]
    iexact HF

@[instance_reducible, sl_loop] def loopInv_k0_t1 (init : BitVec 32 × BitVec 32) :
    Gen.LoopInvTy_k0_t1 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 init where
  inv := fun k acc => iprop(⌜acc = posW c arg0 f0 k⌝ ∗ (arg0.view.loc (c : Thread nD τ) ↦[arg0.view.set]{q} f0) ∗ RingK c arg0 arg5 arg11 arg16 f0 fK 0 k)
  step := fun k acc => by
    iintro ⟨%hacc, H0, HR⟩
    subst hacc
    iapply (trip_t1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 q f0 fK k (h := (pos (hl arg0 f0) k.val).1) (i := (pos (hl arg0 f0) k.val).2) rfl) $$ [H0 HR]
    isplitl [H0] <;> iassumption

theorem off6_eq {h : ℕ} (hh : h < 20) : k0_off6 (BitVec.ofNat 32 h) = ![h / 10] := off1_eq hh
theorem off10_eq {h : ℕ} (hh : h < 2 ^ 30) : k0_off10 (BitVec.ofNat 32 h) = ![min h 19 / 10] := off5_eq hh
theorem cond2_iff {h : ℕ} (hh : h < 2 ^ 30) : k0_cond2 (BitVec.ofNat 32 h) = 1#1 ↔ h < 20 := more_iff hh
theorem off7_eq (t : Fin k0_t2_loop.trips) : k0_off7 t = ![t.val] := off2_eq t
theorem chk4 {h : ℕ} (hh : h < 2 ^ 30) : k0_chk4 (BitVec.ofNat 32 h) := chk1 hh
theorem chk6 {h i : ℕ} (hi : i < 2 ^ 10) : k0_chk6 (BitVec.ofNat 32 h) (BitVec.ofNat 32 i) := chk3 (h := h) hi
theorem off8_eq (t : Fin k0_t2_loop.trips) {i : ℕ} {v : BitVec 32} (hi : i < ncN (lenN v)) :
    k0_off8 t (BitVec.ofNat 32 i) v = slotRect t.val (rowsN (lenN v) i) := off3_eq t hi
theorem off9_eq {h i : ℕ} {v : BitVec 32} (hh : h < 20) (hi : i < ncN (lenN v)) :
    k0_off9 (BitVec.ofNat 32 h) (BitVec.ofNat 32 i) v = rowRect h i (rowsN (lenN v) i) := rowOff_eq hh hi
theorem sz3_eq {i : ℕ} {v : BitVec 32} (hi : i < ncN (lenN v)) : k0_sz3 (BitVec.ofNat 32 i) v = ![rowsN (lenN v) i, 128] := sz1_eq hi
theorem chk5 (t : Fin k0_t2_loop.trips) {h i : ℕ} {v : BitVec 32} (hh : h < 20) (hi : i < ncN (lenN v)) :
    k0_chk5 t (BitVec.ofNat 32 h) (BitVec.ofNat 32 i) v :=
  copy_ok (s := t.val) (h := h) (i := i) (v := v) (fun _ => t.isLt) (fun _ => hh) (fun _ => hi) (by decide) (fun _ => rowsW_toNat hi) (fun _ => off8_eq t hi)
    (fun _ => off9_eq hh hi) (fun _ => sz3_eq hi) (fun _ => sz3_eq hi)

theorem trip_t2 (k : Fin k0_t2_loop.trips) {h i : ℕ} (hp : pos (hl arg0 f0) k.val = (h, i)) :
    iprop((arg0.view.loc (c : Thread nD τ) ↦[arg0.view.set]{q} f0) ∗ RingV c arg0 arg6 arg12 arg17 f0 fV 0 k.val)
      ⊢ wp Idealize.ShloMosaic.frame (wpE (defs₀ (F := F)) Variants.none (c : Thread nD τ) none) Set.univ
        (Gen.k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 k (BitVec.ofNat 32 h, BitVec.ofNat 32 i))
        (fun r => iprop(⌜r = posW c arg0 f0 (k.val + 1)⌝ ∗ (arg0.view.loc (c : Thread nD τ) ↦[arg0.view.set]{q} f0) ∗ RingV c arg0 arg6 arg12 arg17 f0 fV 0 (k.val + 1))) := by
  have hk : k.val < 12 := k.isLt
  obtain ⟨hb, hi, hc⟩ := pos_bounds c arg0 f0 hp
  unfold Gen.k0_t2_body
  iintro ⟨H0, HR⟩
  have h3 := chk6 (h := h) (i := i) (by omega)
  have h1 := chk4 (h := h) (by omega)
  have hr5 := lw_read arg0 f0 (off10_eq (h := h) (by omega)) (by omega) (k0_off10_inb _ h1)
  ihave HR := (ring_issue (c : Thread nD τ) arg12 arg6 (semOf arg17) (hl arg0 f0) fV (Nat.zero_le k.val) (by omega)) $$ HR
  icases HR with ⟨HF, HR⟩
  rw [show k.val % 12 = k.val by omega]
  by_cases hh : h < 20
  · have hcond := (cond2_iff (h := h) (by omega)).mpr hh
    rw [show min h 19 = h by omega] at hi
    have h2 : ∀ v, v = lw arg0 f0 (h / 10) → k0_chk5 k (BitVec.ofNat 32 h) (BitVec.ofNat 32 i) v := by
      rintro v rfl; exact chk5 k hh hi
    have e1 : ∀ v, v = lw arg0 f0 (h / 10) → k0_off8 k (BitVec.ofNat 32 i) v = slotRect k.val (rowsN (hl arg0 f0 h) i) := by
      rintro v rfl; exact off8_eq k hi
    have e2 : ∀ v, v = lw arg0 f0 (h / 10) → k0_off9 (BitVec.ofNat 32 h) (BitVec.ofNat 32 i) v = rowRect h i (rowsN (hl arg0 f0 h) i) := by
      rintro v rfl; exact off9_eq hh hi
    have e3 : ∀ v, v = lw arg0 f0 (h / 10) → k0_sz3 (BitVec.ofNat 32 i) v = ![rowsN (hl arg0 f0 h) i, 128] := by
      rintro v rfl; exact sz3_eq hi
    have hr := lw_read arg0 f0 (off6_eq hh) (by omega) (k0_off6_inb _ h1 hcond)
    sl_exec
    iapply (wp_assume Variants.none (c : Thread nD τ) none Set.univ (h2 _ (hr _)))
    sl_exec
    iapply (wp_issue (c : Thread nD τ) arg12 arg6 (semOf arg17) (hl arg0 f0) fV Variants.none none (s := k.val) (h := h)
      (i := i) (n := rowsN (hl arg0 f0 h) i) rfl ?_ ?_ ?_ (semOf_slice arg17 (off7_eq k) hk _ _)) $$ HF
    · exact e1 _ (hr _)
    · exact e2 _ (hr _)
    · exact e3 _ (hr _)
    iintro HF
    sl_exec
    sl_step
    isplitr
    · ipureintro; exact posW_succ c arg0 f0 hp _ (hr5 _)
    isplitl [H0]; · iexact H0
    iapply HR
    rw [show Cell (c : Thread nD τ) arg12 arg6 (semOf arg17) (hl arg0 f0) fV k.val (k.val + 1) k.val = (Coming (c : Thread nD τ) arg12 arg6 (semOf arg17) (hl arg0 f0) fV k.val h i : sProp 𝕄) from by
      unfold Cell; rw [hp]; exact if_pos ⟨Nat.lt_succ_self _, hh⟩]
    iexact HF
  · have hcond := (cond2_iff (h := h) (by omega)).not.mpr hh
    sl_exec
    sl_step
    isplitr
    · ipureintro; exact posW_succ c arg0 f0 hp _ (hr5 _)
    isplitl [H0]; · iexact H0
    iapply HR
    rw [show Cell (c : Thread nD τ) arg12 arg6 (semOf arg17) (hl arg0 f0) fV k.val (k.val + 1) k.val = (Free (c : Thread nD τ) arg12 arg6 (semOf arg17) fV k.val : sProp 𝕄) from by
      unfold Cell; rw [hp]; exact if_neg fun hx => hh hx.2]
    iexact HF

@[instance_reducible, sl_loop] def loopInv_k0_t2 (init : BitVec 32 × BitVec 32) :
    Gen.LoopInvTy_k0_t2 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 init where
  inv := fun k acc => iprop(⌜acc = posW c arg0 f0 k⌝ ∗ (arg0.view.loc (c : Thread nD τ) ↦[arg0.view.set]{q} f0) ∗ RingV c arg0 arg6 arg12 arg17 f0 fV 0 k)
  step := fun k acc => by
    iintro ⟨%hacc, H0, HR⟩
    subst hacc
    iapply (trip_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 q f0 fV k (h := (pos (hl arg0 f0) k.val).1) (i := (pos (hl arg0 f0) k.val).2) rfl) $$ [H0 HR]
    isplitl [H0] <;> iassumption

end

end Cert.Proof.KernelIdeal
-- ==== Proof.Tail.lean ====
/- A chunk's tail: the word arithmetic of the tiles past its rows, the rectangles of a slot that are
   loaded and stored, and what storing into a slot leaves of the rows it holds. -/
module

public import proofs.«01_k».proof.Proof.Sites

@[expose] public section

noncomputable section

namespace Decode

open Idealize.ShloMosaic Idealize.ShloMosaic.Affine Idealize.ShloMosaic.TcCoe Idealize.ShloMosaic.Tactic

/-- The tiles of 32 rows among `r` rows, as the kernel divides. -/
abbrev floor32 (r : BitVec 32) : BitVec 32 :=
  Scalar.select
    (Scalar.andi
      (Scalar.cmpi .ne (Scalar.subi (Scalar.extui (Scalar.cmpi .sgt r 0#32)) (Scalar.extui (Scalar.cmpi .slt r 0#32)))
        (Scalar.subi (Scalar.extui (Scalar.cmpi .sgt 32#32 0#32)) (Scalar.extui (Scalar.cmpi .slt 32#32 0#32))))
      (Scalar.cmpi .ne (Scalar.remsi r 32#32) 0#32))
    (Scalar.subi (Scalar.divsi r 32#32) 1#32) (Scalar.divsi r 32#32)

set_option maxRecDepth 16000 in
theorem floor32_fin : ∀ m : Fin 129, floor32 (BitVec.ofNat 32 (32 * m)) = BitVec.ofNat 32 m := by decide

/-- The blocks of 2048 rows that `r` rows reach into. -/
abbrev blocksW (r : BitVec 32) : BitVec 32 := Scalar.divsi (Scalar.addi r 2047#32) 2048#32
abbrev blocksN (n : ℕ) : ℕ := (n + 2047) / 2048

theorem blocksW_isInt {n : ℕ} (hn : n ≤ 4096) : IsInt (blocksW (BitVec.ofNat 32 n)) (blocksN n : ℕ) :=
  divsi (eb := 2048) (addi (eb := 2047) (isInt_ofNat (by omega)) (Affine.ofNat 2047 (by omega)) ⟨rfl, by omega, by omega⟩) (Affine.ofNat 2048 (by omega)) ⟨by unfold blocksN; omega, by omega, by omega⟩

/-- The loop over a chunk's blocks ends at their number, -/
theorem blocks_ub {n : ℕ} (hn : n ≤ 4096) :
    IsInt (Scalar.addi 0#32 (Scalar.muli (Scalar.divsi (Scalar.subi (blocksW (BitVec.ofNat 32 n)) 0#32) 1#32) 1#32)) (blocksN n : ℕ) := by
  have hb : blocksN n ≤ 2 := by unfold blocksN; omega
  exact addi (ea := 0) (Affine.ofNat 0 (by omega)) (muli (ea := blocksN n) (eb := 1) (divsi_one (eb := 1) (subi (eb := 0) (blocksW_isInt hn) (Affine.ofNat 0 (by omega)) ⟨rfl, by omega, by omega⟩)
    (Affine.ofNat 1 (by omega)) ⟨by omega, rfl⟩) (Affine.ofNat 1 (by omega)) ⟨rfl, by omega, by omega⟩) ⟨by omega, by omega, by omega⟩

/-- and the loop over the tiles past its rows at the last block's end. -/
abbrev tailUb (r : BitVec 32) : BitVec 32 :=
  Scalar.addi (floor32 r) (Scalar.muli (Scalar.divsi (Scalar.subi (Scalar.muli (blocksW r) 64#32) (floor32 r)) 1#32) 1#32)

theorem floor32_isInt {n : ℕ} (hn : n ≤ 4096) (hd : 32 ∣ n) : IsInt (floor32 (BitVec.ofNat 32 n)) (n / 32 : ℕ) := by
  obtain ⟨m, rfl⟩ := hd
  rw [floor32_fin ⟨m, by omega⟩, show 32 * m / 32 = m by omega]
  exact isInt_ofNat (by omega)

theorem tailUb_isInt {n : ℕ} (hn : n ≤ 4096) (hd : 32 ∣ n) : IsInt (tailUb (BitVec.ofNat 32 n)) (64 * blocksN n : ℕ) := by
  have hb : blocksN n ≤ 2 := by unfold blocksN; omega
  have hm : n / 32 ≤ 64 * blocksN n := by unfold blocksN; omega
  exact addi (floor32_isInt hn hd) (muli (ea := 64 * blocksN n - (n / 32 : ℕ)) (eb := 1) (divsi_one (eb := 1) (subi (ea := 64 * blocksN n) (muli (eb := 64) (blocksW_isInt hn) (Affine.ofNat 64 (by omega)) ⟨by omega, by omega, by omega⟩)
    (floor32_isInt hn hd) ⟨rfl, by omega, by omega⟩) (Affine.ofNat 1 (by omega)) ⟨rfl, rfl⟩) (Affine.ofNat 1 (by omega)) ⟨rfl, by omega, by omega⟩) ⟨by omega, by omega, by omega⟩

/-- A loop from `a` to `b` by ones: how often, and that it is a loop. -/
theorem trips_of {l u : BitVec 32} {a b : ℕ} (hl : IsInt l a) (hu : IsInt u b) : Scf.trips l u 1#32 = b - a := by
  unfold IsInt at hl hu
  unfold Scf.trips
  rw [hl, hu, show (1#32 : BitVec 32).toInt = 1 from rfl]
  omega

theorem ok_of {l u : BitVec 32} {a b : ℕ} (hl : IsInt l a) (hu : IsInt u b) (ha : a < 2 ^ 30) (hb : b < 2 ^ 30) : Scf.OK l u 1#32 := by
  refine ⟨by decide, ?_⟩
  rw [trips_of hl hu, show (1#32 : BitVec 32).toInt = 1 from rfl]
  unfold IsInt at hl
  rw [hl]
  show (a : Int) + ((b - a : ℕ) : Int) * 1 < 2 ^ 31
  omega

theorem iv_isInt {l : BitVec 32} {a k : ℕ} (hl : IsInt l a) (h : a + k < 2 ^ 30) : IsInt (Scf.iv l 1#32 k) (a + k : ℕ) :=
  Affine.iv (ea := a) (eb := 1) hl (Affine.ofNat 1 (by omega)) k ⟨by omega, by omega, by omega⟩

theorem toNat_of {x : BitVec 32} {n : ℕ} (h : IsInt x n) (hn : n < 2 ^ 31) : x.toNat = n := by
  rw [eq_ofNat n h rfl, toNat_ofNat hn]

/-- The chunk's rows run out before its end. -/
theorem short_iff {i : ℕ} {v : BitVec 32} (hi : i < 16) :
    Scalar.cmpi .ne (Scalar.extui (Scalar.cmpi .slt (Scalar.subi (clipW v) (Scalar.muli (BitVec.ofNat 32 i) 4096#32)) 4096#32)) 0#32 = 1#1
      ↔ lenN v < 4096 * i + 4096 := by
  have h := leftW_isInt i v hi
  have h4 : IsInt (4096#32) 4096 := Affine.ofNat 4096 (by omega)
  by_cases hc : (lenN v : Int) - 4096 * i < 4096
  · exact iff_of_true (Affine.ne_holds (Affine.extui_holds (Affine.slt_holds h h4 hc) rfl) (Affine.ofNat 0 (e := 0) (by omega)) (by omega)) (by omega)
  · refine iff_of_false (fun hx => ?_) (by omega)
    exact Affine.ne_fails (Affine.extui_fails (Affine.slt_fails h h4 (by omega)) rfl) (Affine.ofNat 0 (e := 0) (by omega)) (by omega) hx

/-- The next slot's word. -/
abbrev slotNext (s : BitVec 32) : BitVec 32 := Scalar.select (Scalar.cmpi .eq (Scalar.addi s 1#32) 12#32) 0#32 (Scalar.addi s 1#32)
theorem slotNext_fin : ∀ s : Fin 12, slotNext (BitVec.ofNat 32 s) = BitVec.ofNat 32 ((s + 1) % 12 : ℕ) := by decide
theorem slotNext_eq (w : ℕ) : slotNext (BitVec.ofNat 32 (w % 12)) = BitVec.ofNat 32 ((w + 1) % 12) := by
  have := slotNext_fin ⟨w % 12, Nat.mod_lt _ (by omega)⟩
  rw [this]
  congr 1
  show (w % 12 + 1) % 12 = _
  omega

/-- `n` rows from row `a` of slot `s`. -/
theorem slot_inb {s a n : ℕ} (hs : s < 12) (ha : a + n ≤ 4096) : ∀ x, (![s, a, 0] : Fin 3 → ℕ) x + (⟨3, ![1, n, 128]⟩ : Shape).size x ≤ SB.size x := by
  refine Fin.forall_fin_succ.mpr ⟨?_, Fin.forall_fin_succ.mpr ⟨?_, Fin.forall_fin_succ.mpr ⟨?_, fun x => x.elim0⟩⟩⟩
  · show s + 1 ≤ 12; omega
  · show a + n ≤ 4096; omega
  · show 0 + 128 ≤ 128; omega

theorem slot_packed {s a n p : ℕ} (hp : p ∣ 32) (ha : 32 ∣ a) (hn : 32 ∣ n) {o : Fin 3 → ℕ} (ho : o = ![s, a, 0])
    (hinb : ∀ x, o x + (⟨3, ![1, n, 128]⟩ : Shape).size x ≤ SB.size x) : (Rect.unit (s := SB) o (⟨3, ![1, n, 128]⟩ : Shape).size hinb).PackedRows p := by
  subst ho
  have h2 : 2 ≤ SB.rank := by decide
  exact Affine.packed_dvd h2 (show p ∣ a from hp.trans ha) (show p ∣ n from hp.trans hn)

section
variable {nD : Nat} {τ : Topo} {sig : RefSig} {Val : EltTy → Type}
variable (c : Thread nD τ) {e : EltTy} (M : Memref sig c.2.kind .vmem SB e) (X : Memref sig c.2.kind .hbm SX e)
variable (fX : Buf Val (X.view.loc c))

theorem slot_sub {s a n : ℕ} {o : Fin 3 → ℕ} (ho : o = ![s, a, 0]) (hinb : ∀ x, o x + (⟨3, ![1, n, 128]⟩ : Shape).size x ≤ SB.size x) :
    M.view.setOn (Rect.unit (s := SB) o (⟨3, ![1, n, 128]⟩ : Shape).size hinb).set ⊆ slotSet c M s := by
  subst ho
  unfold slotSet View.setOn
  refine Finset.map_subset_map.mpr fun y hy => ?_
  have := Rect.mem_set_unit.mp hy 0
  rw [Finset.mem_filter]
  refine ⟨Finset.mem_univ _, ?_⟩
  change s ≤ (y 0).val ∧ (y 0).val < s + 1 at this
  omega

theorem slot_sub_store {s a n : ℕ} {o : Fin 3 → ℕ} (ho : o = ![s, a, 0]) (hinb : ∀ x, o x + (⟨3, ![1, n, 128]⟩ : Shape).size x ≤ SB.size x) :
    (M.access (Rect.unit (s := SB) o (⟨3, ![1, n, 128]⟩ : Shape).size hinb)).setOn Finset.univ ⊆ slotSet c M s := by
  have h := slot_sub c M ho hinb
  unfold View.setOn at h
  rw [← View.set_slice] at h
  exact h

/-- Storing rows from row `a` of a slot keeps what it holds if what is stored agrees with it. -/
theorem holds_store {s h i m a n : ℕ} {o : Fin 3 → ℕ} (ho : o = ![s, a, 0]) (hinb : ∀ x, o x + (⟨3, ![1, n, 128]⟩ : Shape).size x ≤ SB.size x)
    {f : Buf Val (M.view.loc c)} (hf : Holds c M X fX m s h i f) (w : (Rect.unit (s := SB) o (⟨3, ![1, n, 128]⟩ : Shape).size hinb).shape.Idx → Val e)
    (hw : ∀ z, a + (z 1).val < m → w z = (M.access (Rect.unit (s := SB) o (⟨3, ![1, n, 128]⟩ : Shape).size hinb)).read Val f z) :
    Holds c M X fX m s h i ((M.access (Rect.unit (s := SB) o (⟨3, ![1, n, 128]⟩ : Shape).size hinb)).write Val f w Finset.univ) := by
  subst ho
  intro y x y0 y1 x0 x1 x2
  rw [← hf y x y0 y1 x0 x1 x2]
  by_cases hy : y ∈ Finset.univ.map (Rect.unit (s := SB) ![s, a, 0] (⟨3, ![1, n, 128]⟩ : Shape).size hinb).emb
  · obtain ⟨z, -, rfl⟩ := Finset.mem_map.mp hy
    refine (View.read_slice_write_emb (v := M.view) _ f w (Finset.mem_univ z)).trans ?_
    refine hw z ?_
    change a + 1 * (z 1).val < m at y1
    omega
  · exact View.read_slice_write_of_not_mem (v := M.view) _ f w _ hy

end

end Decode
-- ==== Proof.IKSites.lean ====
/- The words, offsets and side conditions of a chunk of keys. -/
module

public import proofs.«01_k».proof.Proof.IPrime
public import proofs.«01_k».proof.Proof.Tail
public import proofs.«01_k».proof.Proof.Gen.KernelIdeal.Loops
public import Idealize.ShloMosaic.Lib.LoopRemainder

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {i h : ℕ} {v753 : BitVec 32}

theorem seq_off {t : Fin k0_t3_loop.trips} : ![(seqW (Scf.iv 0#32 1#32 t.val)).toNat] = ![t.val / 10] := by
  have ht : t.val < 20 := t.isLt
  rw [iv_eq _ (by omega), seqW_eq ⟨t.val, ht⟩, toNat_ofNat (by show t.val / 10 < _; omega)]

theorem off13_eq (t : Fin k0_t3_loop.trips) : k0_off13 t = ![t.val / 10] := seq_off
theorem off17_eq (t : Fin k0_t3_loop.trips) : k0_off17 t = ![t.val / 10] := seq_off
theorem off18_eq (t : Fin k0_t3_loop.trips) : k0_off18 t = ![t.val / 10] := seq_off
theorem off22_eq (t : Fin k0_t3_loop.trips) : k0_off22 t = ![t.val / 10] := seq_off
theorem off14_eq {s : ℕ} (hs : s < 12) : k0_off14 (BitVec.ofNat 32 s) = ![s] := by
  show ![(BitVec.ofNat 32 s).toNat] = _
  rw [toNat_ofNat (by omega)]
theorem off28_eq {s : ℕ} (hs : s < 12) : k0_off28 (BitVec.ofNat 32 s) = ![s] := off14_eq hs
theorem off27_eq {h : ℕ} (hh : h < 20) : k0_off27 (BitVec.ofNat 32 h) = ![h / 10] := off1_eq hh
theorem off31_eq {h : ℕ} (hh : h < 2 ^ 30) : k0_off31 (BitVec.ofNat 32 h) = ![min h 19 / 10] := off5_eq hh
theorem cond4_iff {h : ℕ} (hh : h < 2 ^ 30) : k0_cond4 (BitVec.ofNat 32 h) = 1#1 ↔ h < 20 := more_iff hh

theorem one_inb {o : Fin 1 → ℕ} {s : ℕ} (ho : o = ![s]) (hs : s < 12) : ∀ a, o a + S1.size a ≤ S12.size a := by
  subst ho
  refine Fin.forall_fin_succ.mpr ⟨?_, fun a => a.elim0⟩
  show s + 1 ≤ 12; omega

theorem chk15 {h i : ℕ} (hi : i < 2 ^ 10) : k0_chk15 (BitVec.ofNat 32 h) (BitVec.ofNat 32 i) := chk3 (h := h) hi
theorem chk13 {s h : ℕ} (hs : s < 12) (hh : h < 2 ^ 30) : k0_chk13 (BitVec.ofNat 32 s) (BitVec.ofNat 32 h) :=
  ⟨fun k => len_inb (off27_eq ((cond4_iff hh).mp k)) (by have := (cond4_iff hh).mp k; omega), fun _ => one_inb (off28_eq hs) hs, len_inb (off31_eq hh) (by omega)⟩
theorem chk9 {s : ℕ} (hs : s < 12) : k0_chk9 (BitVec.ofNat 32 s) := one_inb (off14_eq hs) hs

/-- The chunk loop's trips. -/
theorem nc_ub (v : BitVec 32) : IsInt (Scalar.addi 0#32 (Scalar.muli (Scalar.divsi (Scalar.subi (ncW v) 0#32) 1#32) 1#32)) (ncN (lenN v) : ℕ) := by
  have hb := ncN_le (lenN_le v)
  rw [ncW_eq]
  exact addi (ea := 0) (Affine.ofNat 0 (by omega)) (muli (ea := ncN (lenN v)) (eb := 1) (divsi_one (eb := 1) (subi (eb := 0) (isInt_ofNat (by omega)) (Affine.ofNat 0 (by omega)) ⟨rfl, by omega, by omega⟩)
    (Affine.ofNat 1 (by omega)) ⟨by omega, rfl⟩) (Affine.ofNat 1 (by omega)) ⟨rfl, by omega, by omega⟩) ⟨by omega, by omega, by omega⟩
theorem zero_isInt : IsInt 0#32 (0 : ℕ) := Affine.ofNat 0 (by omega)
theorem nc_trips (v : BitVec 32) : (k0_t4_loop v).trips = ncN (lenN v) := (trips_of zero_isInt (nc_ub v)).trans (by omega)
theorem nc_ok (v : BitVec 32) : (k0_t4_loop v).OK := ok_of zero_isInt (nc_ub v) (by omega) (by have := ncN_le (lenN_le v); omega)
theorem mult_iv {t : ℕ} (ht : t < 2 ^ 10) : 4096 ∣ (Scalar.muli (Scf.iv 0#32 1#32 t) 4096#32).toNat := by
  rw [iv_eq _ (by omega), muli_toNat ht]; exact Nat.dvd_mul_right _ _

/-- A remainder loop makes no trip. -/
theorem no_trip {a x : BitVec 32} {p : Fin (Scf.trips (Scalar.addi a (Scalar.muli (Scalar.divsi x 1#32) 1#32)) (Scalar.addi a x) 1#32) → Prop} : ∀ k, p k := fun k => (Scf.rem_no_trip a x k).elim

theorem chk7 (v : BitVec 32) : k0_chk7 v :=
  ⟨nc_ok v, fun t => mult_iv (by have := t.isLt; have := nc_trips v; have := ncN_le (lenN_le v); omega), Scf.rem_ok _ _, no_trip,
    nc_ok v, fun t => mult_iv (by have h : t.val < (k0_t4_loop v).trips := t.isLt; have := nc_trips v; have := ncN_le (lenN_le v); omega), Scf.rem_ok _ _, no_trip⟩

theorem block_toNat {k : ℕ} (hk : k < 2) : (Scalar.muli (Scf.iv 0#32 1#32 k) 2048#32).toNat = 2048 * k :=
  toNat_of (Affine.muli (eb := 2048) (iv_isInt zero_isInt (by omega)) (Affine.ofNat 2048 (by omega)) ⟨by omega, by omega, by omega⟩) (by omega)
theorem scores_inb {b : ℕ} (hb : b < 32) : ∀ a, (![b, 0, 0] : Fin 3 → ℕ) a + S1x8x2048.size a ≤ S32x8x2048.size a := by
  refine Fin.forall_fin_succ.mpr ⟨?_, Fin.forall_fin_succ.mpr ⟨?_, Fin.forall_fin_succ.mpr ⟨?_, fun a => a.elim0⟩⟩⟩
  · show b + 1 ≤ 32; omega
  · show 0 + 8 ≤ 8; omega
  · show 0 + 2048 ≤ 2048; omega

section
variable (t : Fin (k0_t4_loop v753).trips) {v : BitVec 32} (hi : t.val < ncN (lenN v))
include hi

theorem t_lt : t.val < 16 := lt_of_lt_of_le hi (ncN_le (lenN_le v))
theorem rows_word : rowsW (Scf.iv 0#32 1#32 t.val) v = BitVec.ofNat 32 (rowsN (lenN v) t.val) := by
  have := t_lt t hi
  rw [iv_eq _ (by omega), rowsW_eq _ v hi]
theorem rows_toNat : (rowsW (Scf.iv 0#32 1#32 t.val) v).toNat = rowsN (lenN v) t.val := by
  rw [rows_word t hi, toNat_ofNat (by have := rowsN_le (lenN v) t.val; omega)]

theorem sz5_eq : k0_sz5 v753 t v = ![rowsN (lenN v) t.val, 128] := by
  show ![(rowsW (Scf.iv 0#32 1#32 t.val) v).toNat, 128] = _
  rw [rows_toNat t hi]

theorem chk8 (t3 : Fin k0_t3_loop.trips) (s : BitVec 32) : k0_chk8 t3 v753 t s v := by
  refine ⟨?_, squeezes _, squeezes _⟩
  show 32 ∣ (rowsW (Scf.iv 0#32 1#32 t.val) v).toNat
  rw [rows_toNat t hi]; exact rowsN_dvd _ _

theorem chk10 : k0_chk10 v753 t v := by
  show 32 ∣ (rowsW (Scf.iv 0#32 1#32 t.val) v).toNat
  rw [rows_toNat t hi]; exact rowsN_dvd _ _

theorem cond3_iff : k0_cond3 v753 t v = 1#1 ↔ lenN v < 4096 * t.val + 4096 := by
  have := t_lt t hi
  show Scalar.cmpi .ne (Scalar.extui (Scalar.cmpi .slt (Scalar.subi (clipW v) (Scalar.muli (Scf.iv 0#32 1#32 t.val) 4096#32)) 4096#32)) 0#32 = 1#1 ↔ _
  rw [iv_eq _ (by omega)]
  exact short_iff this

theorem edge_toNat : (Scalar.subi (rowsW (Scf.iv 0#32 1#32 t.val) v) 32#32).toNat = rowsN (lenN v) t.val - 32 := by
  have h1 := rowsN_le (lenN v) t.val
  have h2 := rowsN_pos (lenN v) t.val
  rw [rows_word t hi]
  exact toNat_of (Affine.subi (eb := 32) (isInt_ofNat (by omega)) (Affine.ofNat 32 (by omega)) ⟨by omega, by omega, by omega⟩) (by omega)

theorem off19_eq {s : ℕ} (hs : s < 12) : k0_off19 v753 t (BitVec.ofNat 32 s) v = ![s, rowsN (lenN v) t.val - 32, 0] := by
  show ![(BitVec.ofNat 32 s).toNat, (Scalar.subi (rowsW (Scf.iv 0#32 1#32 t.val) v) 32#32).toNat, 0] = _
  rw [toNat_ofNat (by omega), edge_toNat t hi]

theorem t5_lb : IsInt (k0_t5_loop v753 t v).lb (rowsN (lenN v) t.val / 32 : ℕ) := by
  show IsInt (floor32 (rowsW (Scf.iv 0#32 1#32 t.val) v)) _
  rw [rows_word t hi]
  exact floor32_isInt (rowsN_le _ _) (rowsN_dvd _ _)
theorem t5_ub : IsInt (k0_t5_loop v753 t v).ub (64 * blocksN (rowsN (lenN v) t.val) : ℕ) := by
  show IsInt (tailUb (rowsW (Scf.iv 0#32 1#32 t.val) v)) _
  rw [rows_word t hi]
  exact tailUb_isInt (rowsN_le _ _) (rowsN_dvd _ _)
theorem t5_trips : (k0_t5_loop v753 t v).trips = 64 * blocksN (rowsN (lenN v) t.val) - rowsN (lenN v) t.val / 32 := trips_of (t5_lb t hi) (t5_ub t hi)
theorem t5_ok : (k0_t5_loop v753 t v).OK :=
  ok_of (t5_lb t hi) (t5_ub t hi) (by have := rowsN_le (lenN v) t.val; omega) (by have := rowsN_le (lenN v) t.val; unfold blocksN; omega)
theorem t5_le (k : Fin (k0_t5_loop v753 t v).trips) : 32 * (rowsN (lenN v) t.val / 32 + k.val) + 32 ≤ 4096 := by
  have h := lt_of_lt_of_eq k.isLt (t5_trips t hi)
  have := rowsN_le (lenN v) t.val
  unfold blocksN at *
  omega
theorem tile_toNat (k : Fin (k0_t5_loop v753 t v).trips) :
    (Scalar.muli (Scf.iv (floor32 (rowsW (Scf.iv 0#32 1#32 t.val) v)) 1#32 k.val) 32#32).toNat = 32 * (rowsN (lenN v) t.val / 32 + k.val) := by
  have hle := t5_le t hi k
  refine toNat_of (Affine.muli (eb := 32) (iv_isInt (t5_lb t hi) (by omega)) (Affine.ofNat 32 (by omega)) ⟨by omega, by omega, by omega⟩) (by omega)
theorem off20_eq {s : ℕ} (hs : s < 12) (k : Fin (k0_t5_loop v753 t v).trips) :
    k0_off20 v753 t (BitVec.ofNat 32 s) v k = ![s, 32 * (rowsN (lenN v) t.val / 32 + k.val), 0] := by
  show ![(BitVec.ofNat 32 s).toNat, (Scalar.muli (Scf.iv (floor32 (rowsW (Scf.iv 0#32 1#32 t.val) v)) 1#32 k.val) 32#32).toNat, 0] = _
  rw [toNat_ofNat (by omega), tile_toNat t hi]

theorem chk11 {s : ℕ} (hs : s < 12) (v920 : BitVec 32) : k0_chk11 v753 t (BitVec.ofNat 32 s) v v920 := by
  have h1 := rowsN_le (lenN v) t.val
  have h2 := rowsN_pos (lenN v) t.val
  have h3 := rowsN_dvd (lenN v) t.val
  refine ⟨fun _ => ?_, fun _ => (off19_eq t hi hs).symm ▸ slot_inb hs (by omega), fun _ => slot_packed (n := 32) (by decide) (by omega) (by omega) (off19_eq t hi hs), fun _ => t5_ok t hi,
    fun k _ => ?_, fun k _ => (off20_eq t hi hs k).symm ▸ slot_inb hs (t5_le t hi k), fun k _ => slot_packed (n := 32) (by decide) (Nat.dvd_mul_right _ _) (by omega) (off20_eq t hi hs k),
    fun _ => Scf.rem_ok _ _, no_trip, no_trip, no_trip⟩
  · show 32 ∣ (Scalar.subi (rowsW (Scf.iv 0#32 1#32 t.val) v) 32#32).toNat
    rw [edge_toNat t hi]; omega
  · show 32 ∣ (Scalar.muli (Scf.iv (floor32 (rowsW (Scf.iv 0#32 1#32 t.val) v)) 1#32 k.val) 32#32).toNat
    rw [tile_toNat t hi]; exact Nat.dvd_mul_right _ _

theorem t7_ub : IsInt (k0_t7_loop v753 t v).ub (blocksN (rowsN (lenN v) t.val) : ℕ) := by
  show IsInt (Scalar.addi 0#32 (Scalar.muli (Scalar.divsi (Scalar.subi (blocksW (rowsW (Scf.iv 0#32 1#32 t.val) v)) 0#32) 1#32) 1#32)) _
  rw [rows_word t hi]
  exact blocks_ub (rowsN_le _ _)
theorem t7_trips : (k0_t7_loop v753 t v).trips = blocksN (rowsN (lenN v) t.val) := (trips_of zero_isInt (t7_ub t hi)).trans (by omega)
theorem t7_lt (k : Fin (k0_t7_loop v753 t v).trips) : k.val < 2 := by
  have h := lt_of_lt_of_eq k.isLt (t7_trips t hi)
  have := rowsN_le (lenN v) t.val
  unfold blocksN at *
  omega
theorem off23_eq {s : ℕ} (hs : s < 12) (k : Fin (k0_t7_loop v753 t v).trips) : k0_off23 v753 t (BitVec.ofNat 32 s) v k = ![s, 2048 * k.val, 0] := by
  show ![(BitVec.ofNat 32 s).toNat, (Scalar.muli (Scf.iv 0#32 1#32 k.val) 2048#32).toNat, 0] = _
  rw [toNat_ofNat (by omega), block_toNat (t7_lt t hi k)]
theorem off24_eq (k : Fin (k0_t7_loop v753 t v).trips) : k0_off24 v753 t v k = ![2 * t.val + k.val, 0, 0] := by
  have h1 := t_lt t hi
  have h2 := t7_lt t hi k
  show ![(Scalar.addi (Scalar.muli (Scf.iv 0#32 1#32 t.val) 2#32) (Scf.iv 0#32 1#32 k.val)).toNat, 0, 0] = _
  rw [toNat_of (n := 2 * t.val + k.val) (Affine.addi (Affine.muli (eb := 2) (iv_isInt zero_isInt (by omega)) (Affine.ofNat 2 (by omega)) ⟨rfl, by omega, by omega⟩) (iv_isInt zero_isInt (by omega)) ⟨by omega, by omega, by omega⟩) (by omega)]
theorem chk12 {s : ℕ} (hs : s < 12) : k0_chk12 v753 t (BitVec.ofNat 32 s) v := by
  have h1 := rowsN_le (lenN v) t.val
  have h2 := t_lt t hi
  refine ⟨chk10 t hi, ok_of zero_isInt (t7_ub t hi) (by omega) (by unfold blocksN; omega), fun k => ?_, fun k => ?_, fun k => ?_, Scf.rem_ok _ _, no_trip, no_trip, no_trip⟩
  · show 2048 ∣ (Scalar.muli (Scf.iv 0#32 1#32 k.val) 2048#32).toNat
    rw [block_toNat (t7_lt t hi k)]; exact Nat.dvd_mul_right _ _
  · rw [off23_eq t hi hs k]; exact slot_inb hs (by have := t7_lt t hi k; omega)
  · rw [off24_eq t hi k]; exact scores_inb (by have := t7_lt t hi k; omega)

end

theorem off29_eq {s i : ℕ} {v : BitVec 32} (hs : s < 12) (hi : i < ncN (lenN v)) : k0_off29 (BitVec.ofNat 32 s) (BitVec.ofNat 32 i) v = slotRect s (rowsN (lenN v) i) := slotOff_eq hs hi
theorem off30_eq {h i : ℕ} {v : BitVec 32} (hh : h < 20) (hi : i < ncN (lenN v)) : k0_off30 (BitVec.ofNat 32 h) (BitVec.ofNat 32 i) v = rowRect h i (rowsN (lenN v) i) := rowOff_eq hh hi
theorem sz7_eq {i : ℕ} {v : BitVec 32} (hi : i < ncN (lenN v)) : k0_sz7 (BitVec.ofNat 32 i) v = ![rowsN (lenN v) i, 128] := sz1_eq hi
theorem chk14 {s h i : ℕ} {v : BitVec 32} (hs : s < 12) (hh : h < 20) (hi : i < ncN (lenN v)) : k0_chk14 (BitVec.ofNat 32 s) (BitVec.ofNat 32 h) (BitVec.ofNat 32 i) v :=
  copy_ok (s := s) (h := h) (i := i) (v := v) (fun _ => hs) (fun _ => hh) (fun _ => hi) (by decide) (fun _ => rowsW_toNat hi) (fun _ => off29_eq hs hi)
    (fun _ => off30_eq hh hi) (fun _ => sz7_eq hi) (fun _ => sz7_eq hi)

end Cert.Proof.KernelIdeal
-- ==== Proof.IVSites.lean ====
/- The words and side conditions of a chunk of values. -/
module

public import proofs.«01_k».proof.Proof.IKSites
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! The chunk of values computes the same words as the chunk of keys; its
offsets and side conditions are read off those of the keys. -/

variable {v753 : BitVec 32}

theorem off52_eq (t : Fin k0_t3_loop.trips) : k0_off52 t = ![t.val / 10] := seq_off
theorem off56_eq (t : Fin k0_t3_loop.trips) : k0_off56 t = ![t.val / 10] := seq_off
theorem off57_eq (t : Fin k0_t3_loop.trips) : k0_off57 t = ![t.val / 10] := seq_off
theorem off60_eq (t : Fin k0_t3_loop.trips) : k0_off60 t = ![t.val / 10] := seq_off
theorem off53_eq {s : ℕ} (hs : s < 12) : k0_off53 (BitVec.ofNat 32 s) = ![s] := off14_eq hs
theorem off66_eq {s : ℕ} (hs : s < 12) : k0_off66 (BitVec.ofNat 32 s) = ![s] := off14_eq hs
theorem off65_eq {h : ℕ} (hh : h < 20) : k0_off65 (BitVec.ofNat 32 h) = ![h / 10] := off1_eq hh
theorem off69_eq {h : ℕ} (hh : h < 2 ^ 30) : k0_off69 (BitVec.ofNat 32 h) = ![min h 19 / 10] := off5_eq hh
theorem cond8_iff {h : ℕ} (hh : h < 2 ^ 30) : k0_cond8 (BitVec.ofNat 32 h) = 1#1 ↔ h < 20 := more_iff hh

theorem chk31 {h i : ℕ} (hi : i < 2 ^ 10) : k0_chk31 (BitVec.ofNat 32 h) (BitVec.ofNat 32 i) := chk15 (h := h) hi
theorem chk29 {s h : ℕ} (hs : s < 12) (hh : h < 2 ^ 30) : k0_chk29 (BitVec.ofNat 32 s) (BitVec.ofNat 32 h) := chk13 hs hh
theorem chk25 {s : ℕ} (hs : s < 12) : k0_chk25 (BitVec.ofNat 32 s) := chk9 hs
theorem nc_trips' (v : BitVec 32) : (k0_t14_loop v).trips = ncN (lenN v) := nc_trips v
theorem nc_ok' (v : BitVec 32) : (k0_t14_loop v).OK := nc_ok v

section
variable (t : Fin (k0_t14_loop v753).trips) {v : BitVec 32} (hi : t.val < ncN (lenN v))
include hi

theorem sz13_eq : k0_sz13 v753 t v = ![rowsN (lenN v) t.val, 128] := sz5_eq (v753 := v753) t hi
theorem chk24 (t3 : Fin k0_t3_loop.trips) (s : BitVec 32) : k0_chk24 t3 v753 t s v := chk8 (v753 := v753) t hi t3 s
theorem chk26 : k0_chk26 v753 t v := chk10 (v753 := v753) t hi
theorem cond7_iff : k0_cond7 v753 t v = 1#1 ↔ lenN v < 4096 * t.val + 4096 := cond3_iff (v753 := v753) t hi
theorem t15_ok : (k0_t15_loop v753 t v).OK := t5_ok (v753 := v753) t hi
theorem t15_le (k : Fin (k0_t15_loop v753 t v).trips) : 32 * (rowsN (lenN v) t.val / 32 + k.val) + 32 ≤ 4096 := t5_le (v753 := v753) t hi k
theorem off58_eq {s : ℕ} (hs : s < 12) (k : Fin (k0_t15_loop v753 t v).trips) :
    k0_off58 v753 t (BitVec.ofNat 32 s) v k = ![s, 32 * (rowsN (lenN v) t.val / 32 + k.val), 0] := off20_eq (v753 := v753) t hi hs k

theorem chk27 {s : ℕ} (hs : s < 12) (v920 : BitVec 32) : k0_chk27 v753 t (BitVec.ofNat 32 s) v v920 :=
  ⟨fun _ => t15_ok t hi, fun k h => (chk11 (v753 := v753) t hi hs v920).2.2.2.2.1 k h, fun k _ => (off58_eq t hi hs k).symm ▸ slot_inb hs (t15_le t hi k),
    fun k _ => slot_packed (n := 32) (by decide) (Nat.dvd_mul_right _ _) (by omega) (off58_eq t hi hs k), fun _ => Scf.rem_ok _ _, no_trip, no_trip, no_trip⟩

theorem t17_trips : (k0_t17_loop v753 t v).trips = blocksN (rowsN (lenN v) t.val) := t7_trips (v753 := v753) t hi
theorem t17_lt (k : Fin (k0_t17_loop v753 t v).trips) : k.val < 2 := t7_lt (v753 := v753) t hi k
theorem off62_eq {s : ℕ} (hs : s < 12) (k : Fin (k0_t17_loop v753 t v).trips) : k0_off62 v753 t (BitVec.ofNat 32 s) v k = ![s, 2048 * k.val, 0] := off23_eq (v753 := v753) t hi hs k
theorem off61_eq (k : Fin (k0_t17_loop v753 t v).trips) : k0_off61 v753 t v k = ![2 * t.val + k.val, 0, 0] := off24_eq (v753 := v753) t hi k
theorem t17_ok : (k0_t17_loop v753 t v).OK := (chk12 (v753 := v753) t hi (s := 0) (by omega)).2.1

theorem chk28 {s : ℕ} (hs : s < 12) : k0_chk28 v753 t (BitVec.ofNat 32 s) v := by
  have h2 := t_lt (v753 := v753) t hi
  refine ⟨chk10 (v753 := v753) t hi, t17_ok t hi, fun k => ?_, fun k => (chk12 (v753 := v753) t hi hs).2.2.1 k, fun k => ?_, Scf.rem_ok _ _, no_trip, no_trip, no_trip⟩
  · rw [off61_eq t hi k]; exact scores_inb (by have := t17_lt t hi k; omega)
  · rw [off62_eq t hi hs k]; exact slot_inb hs (by have := t17_lt t hi k; omega)

end

theorem off67_eq {s i : ℕ} {v : BitVec 32} (hs : s < 12) (hi : i < ncN (lenN v)) : k0_off67 (BitVec.ofNat 32 s) (BitVec.ofNat 32 i) v = slotRect s (rowsN (lenN v) i) := slotOff_eq hs hi
theorem off68_eq {h i : ℕ} {v : BitVec 32} (hh : h < 20) (hi : i < ncN (lenN v)) : k0_off68 (BitVec.ofNat 32 h) (BitVec.ofNat 32 i) v = rowRect h i (rowsN (lenN v) i) := rowOff_eq hh hi
theorem sz15_eq {i : ℕ} {v : BitVec 32} (hi : i < ncN (lenN v)) : k0_sz15 (BitVec.ofNat 32 i) v = ![rowsN (lenN v) i, 128] := sz1_eq hi
theorem chk30 {s h i : ℕ} {v : BitVec 32} (hs : s < 12) (hh : h < 20) (hi : i < ncN (lenN v)) : k0_chk30 (BitVec.ofNat 32 s) (BitVec.ofNat 32 h) (BitVec.ofNat 32 i) v :=
  copy_ok (s := s) (h := h) (i := i) (v := v) (fun _ => hs) (fun _ => hh) (fun _ => hi) (by decide) (fun _ => rowsW_toNat hi) (fun _ => off67_eq hs hi)
    (fun _ => off68_eq hh hi) (fun _ => sz15_eq hi) (fun _ => sz15_eq hi)

end Cert.Proof.KernelIdeal
-- ==== Proof.IKLoops.lean ====
/- The inner loops of a chunk of keys. -/
module

public import proofs.«01_k».proof.Proof.IKSites
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A slot, which holds the first `m` rows of chunk `i` of head `h` if `P`. -/
def SlotAt {e : EltTy} (P : Prop) (c : Dev nD) (M : Memref sig .tc .vmem SB e) (X : Memref sig .tc .hbm SX e) (fX : Buf (Elt F) (X.view.loc (c : Thread nD τ))) (m s h i : ℕ) : sProp (MT nD τ sig Unit (Elt F) ℕ (Pipeline.UD sig nD τ) ℕ) :=
  iprop(∃ f, (M.view.loc (c : Thread nD τ) ↦[slotSet (c : Thread nD τ) M s]{fullShare} f) ∗ ⌜P → Holds (c : Thread nD τ) M X fX m s h i f⌝)

/-- The scores, whose first `n` blocks are `Sv` if `P`. -/
def ScoresAt (P : Prop) (c : Dev nD) (M : Memref sig .tc .vmem S32x8x2048 .f32) (Sv : ℕ → S8x2048.Idx → F .f32) (n : ℕ) : sProp (MT nD τ sig Unit (Elt F) ℕ (Pipeline.UD sig nD τ) ℕ) :=
  iprop(∃ f, (M.view.loc (c : Thread nD τ) ↦[M.view.set]{fullShare} f)
    ∗ ⌜P → ∀ (z : S32x8x2048.Idx) (y : S8x2048.Idx), (z 0).val < n → (z 1).val = (y 0).val → (z 2).val = (y 1).val → M.view.read (Elt F) f z = Sv (z 0).val y⌝)

/-- A block of scores is stored above the ones there are. -/
theorem scores_store (P : Prop) (c : Dev nD) (M : Memref sig .tc .vmem S32x8x2048 .f32) (Sv : ℕ → S8x2048.Idx → F .f32) {n : ℕ} {o : Fin 3 → ℕ} (ho : o = ![n, 0, 0])
    (hinb : ∀ x, o x + S1x8x2048.size x ≤ S32x8x2048.size x) {f : Buf (Elt F) (M.view.loc (c : Thread nD τ))} (w : (Rect.unit (s := S32x8x2048) o S1x8x2048.size hinb).shape.Idx → F .f32)
    (hf : P → ∀ (z : S32x8x2048.Idx) (y : S8x2048.Idx), (z 0).val < n → (z 1).val = (y 0).val → (z 2).val = (y 1).val → M.view.read (Elt F) f z = Sv (z 0).val y)
    (hw : P → ∀ (z : (Rect.unit (s := S32x8x2048) o S1x8x2048.size hinb).shape.Idx) (y : S8x2048.Idx), (z 1).val = (y 0).val → (z 2).val = (y 1).val → w z = Sv n y) :
    P → ∀ (z : S32x8x2048.Idx) (y : S8x2048.Idx), (z 0).val < n + 1 → (z 1).val = (y 0).val → (z 2).val = (y 1).val →
      M.view.read (Elt F) ((M.access (Rect.unit (s := S32x8x2048) o S1x8x2048.size hinb)).write (Elt F) f w Finset.univ) z = Sv (z 0).val y := by
  subst ho
  intro hP z y z0 z1 z2
  by_cases hz : z ∈ Finset.univ.map (Rect.unit (s := S32x8x2048) ![n, 0, 0] S1x8x2048.size hinb).emb
  · obtain ⟨x, -, rfl⟩ := Finset.mem_map.mp hz
    have hx0 : (x 0).val < 1 := (x 0).isLt
    have e0 : (((Rect.unit (s := S32x8x2048) ![n, 0, 0] S1x8x2048.size hinb).emb x) 0).val = n := by
      show n + 1 * (x 0).val = n
      omega
    rw [e0]
    refine (View.read_slice_write_emb (v := M.view) _ f w (Finset.mem_univ x)).trans (hw hP x y ?_ ?_)
    · change 0 + 1 * (x 1).val = _ at z1; omega
    · change 0 + 1 * (x 2).val = _ at z2; omega
  · refine (View.read_slice_write_of_not_mem (v := M.view) _ f w _ hz).trans (hf hP z y ?_ z1 z2)
    by_contra h
    refine hz ((Rect.map_emb_univ _).symm ▸ Rect.mem_set_unit.mpr (Fin.forall_fin_succ.mpr ⟨?_, Fin.forall_fin_succ.mpr ⟨?_, Fin.forall_fin_succ.mpr ⟨?_, fun x => x.elim0⟩⟩⟩))
    · show n ≤ (z 0).val ∧ (z 0).val < n + 1; omega
    · have : (z 1).val < 8 := (z 1).isLt
      show 0 ≤ (z 1).val ∧ (z 1).val < 0 + 8; omega
    · have : (z 2).val < 2048 := (z 2).isLt
      show 0 ≤ (z 2).val ∧ (z 2).val < 0 + 2048; omega

/-- What a block read from a slot is. -/
theorem block_read {e : EltTy} (c : Dev nD) (M : Memref sig .tc .vmem SB e) (X : Memref sig .tc .hbm SX e) {fX : Buf (Elt F) (X.view.loc (c : Thread nD τ))} {m s h i a n : ℕ} {f : Buf (Elt F) (M.view.loc (c : Thread nD τ))}
    (hf : Holds (c : Thread nD τ) M X fX m s h i f) {o : Fin 3 → ℕ} (ho : o = ![s, a, 0]) (hinb : ∀ x, o x + (⟨3, ![1, n, 128]⟩ : Shape).size x ≤ SB.size x)
    (z : (Rect.unit (s := SB) o (⟨3, ![1, n, 128]⟩ : Shape).size hinb).shape.Idx) (x : SX.Idx) (x0 : (x 0).val = h) (x1 : (x 1).val = 4096 * i + (a + (z 1).val)) (hz : a + (z 1).val < m) (x2 : (x 2).val = (z 2).val) :
    M.view.readAt (Elt F) (Rect.unit (s := SB) o (⟨3, ![1, n, 128]⟩ : Shape).size hinb).toLoadRect f z = X.view.read (Elt F) fX x := by
  subst ho
  have z0 : (z 0).val < 1 := (z 0).isLt
  refine hf ((Rect.unit (s := SB) ![s, a, 0] (⟨3, ![1, n, 128]⟩ : Shape).size hinb).emb z) x ?_ ?_ x0 ?_ ?_
  · show s + 1 * (z 0).val = s; omega
  · show a + 1 * (z 1).val < m; omega
  · show _ = 4096 * i + (a + 1 * (z 1).val); omega
  · show _ = 0 + 1 * (z 2).val; omega

theorem access_sub {sp : Space} {s : Shape} {e : EltTy} (c : Thread nD τ) (M : Memref sig c.2.kind sp s e) (r : Rect s) : (M.access r).setOn Finset.univ ⊆ M.view.set := by
  show (M.view.slice r).setOn Finset.univ ⊆ _
  intro x hx
  obtain ⟨z, -, rfl⟩ := Finset.mem_map.mp hx
  exact Finset.mem_map.mpr ⟨r.emb z, Finset.mem_univ _, rfl⟩

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))
variable (P : Prop)

theorem trip_t5 (t3 : Fin k0_t3_loop.trips) (arg18 : BitVec 32) (v753 : Elt F .i32) (k : Fin (k0_t4_loop v753).trips) {s h m : ℕ} (hs : s < 12) (arg25 : BitVec 32) (v891 : Elt F .i32) (v901 : BitVec 32) (c10 : BitVec 32) (v902 : BitVec 32) (v907 : BitVec 32) (v909 : BitVec 32) (c0 : BitVec 32) (v920 : Elt F .i32)
    (hw11 : k0_chk11 v753 k (BitVec.ofNat 32 s) v891 v920) (h3 : k0_cond3 v753 k v920 = 1#1) (hi : k.val < ncN (lenN v891)) (hm : m ≤ rowsN (lenN v891) k.val) (t : Fin (k0_t5_loop v753 k v891).trips) :
    SlotAt P c arg11 arg5 fK m s h k.val
      ⊢ wp Idealize.ShloMosaic.frame (wpE (defs₀ (F := F)) Variants.none (c : Thread nD τ) none) Set.univ
        (Gen.k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0 v920 hw11 h3 t ())
        (fun _ => SlotAt P c arg11 arg5 fK m s h k.val) := by
  have ho := off20_eq k hi hs t
  have hr := rowsN_dvd (lenN v891) k.val
  unfold Gen.k0_t5_body SlotAt
  iintro ⟨%f, H, %hf⟩
  iapply (wp_load Variants.none (c : Thread nD τ) none Set.univ (S := slotSet (c : Thread nD τ) arg11 s) ?_) $$ H
  · exact slot_sub (n := 32) (c : Thread nD τ) arg11 ho _
  iintro H
  iapply (wp_store Variants.none (c : Thread nD τ) none Set.univ (m := arg11) (r := Rect.unit (s := S12x4096x128) (k0_off20 v753 k (BitVec.ofNat 32 s) v891 t) S1x32x128.size (k0_off20_inb v753 k (BitVec.ofNat 32 s) v891 v920 hw11 t h3)) (S := slotSet (c : Thread nD τ) arg11 s) ?_) $$ H
  · exact slot_sub_store (n := 32) (c : Thread nD τ) arg11 ho _
  iintro H
  simp only [Prog.bind, Prog.pure_eq_ret]
  sl_step
  iexists _
  isplitl [H]; · iexact H
  ipureintro
  intro hP
  refine holds_store (n := 32) (c : Thread nD τ) arg11 arg5 fK ho _ (hf hP) _ fun z hz => ?_
  exfalso
  omega

theorem trip_t7 (v584 : IVec S8x2048 32) (v734 : BitVec 32) (v753 : Elt F .i32) (v761 : FVec F S8x128 .bf16) (k : Fin (k0_t4_loop v753).trips) (arg26 : FVec F S8x128 .f32) {s h : ℕ} (hs : s < 12) (arg28 : BitVec 32) (arg29 : BitVec 32) (hw13 : k0_chk13 (BitVec.ofNat 32 s) arg28) (arg25 : BitVec 32) (v946 : Elt F .i32) (hw12 : k0_chk12 v753 k (BitVec.ofNat 32 s) v946) (v948 : BitVec 32) (v949 : BitVec 32)
    (hi : k.val < ncN (lenN v946)) (t : Fin (k0_t7_loop v753 k v946).trips) (Sv : ℕ → S8x2048.Idx → F .f32) (Mv : ℕ → FVec F S8x128 .f32) (acc : FVec F S8x128 .f32)
    (hK : P → ∀ kb : Vec F S1x2048x128 .bf16, (∀ (z : S1x2048x128.Idx) (x : SX.Idx), (x 0).val = h → (x 1).val = 2048 * (2 * k.val + t.val) + (z 1).val → (x 1).val < lenN v946 → (x 2).val = (z 2).val → kb z = arg5.view.read (Elt F) fK x) →
      Gen.k0_pay5 v584 v734 v753 v761 k arg25 v946 0#32 1#32 t kb = Sv (2 * k.val + t.val)
        ∧ Gen.k0_pay13 (Gen.k0_pay5 v584 v734 v753 v761 k arg25 v946 0#32 1#32 t kb) (Gen.k0_pay7 v584 v734 v753 v761 k arg25 v946 0#32 1#32 t (Mv (2 * k.val + t.val)) kb) = Mv (2 * k.val + t.val + 1)) :
    iprop(⌜P → acc = Mv (2 * k.val + t.val)⌝ ∗ SlotAt P c arg11 arg5 fK (lenN v946 - 4096 * k.val) s h k.val ∗ ScoresAt P c arg13 Sv (2 * k.val + t.val))
      ⊢ wp Idealize.ShloMosaic.frame (wpE (defs₀ (F := F)) Variants.none (c : Thread nD τ) none) Set.univ
        (Gen.k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k arg26 (BitVec.ofNat 32 s) arg28 arg29 hw13 arg25 v946 hw12 v948 v949 t acc)
        (fun r => iprop(⌜P → r = Mv (2 * k.val + (t.val + 1))⌝ ∗ SlotAt P c arg11 arg5 fK (lenN v946 - 4096 * k.val) s h k.val ∗ ScoresAt P c arg13 Sv (2 * k.val + (t.val + 1)))) := by
  have ho := off23_eq k hi hs t
  have ho' := off24_eq k hi t
  have ht := t7_lt k hi t
  unfold Gen.k0_t7_body SlotAt ScoresAt
  iintro ⟨%hacc, ⟨%f, H, %hf⟩, ⟨%fS, HS, %hfS⟩⟩
  sl_unfold [k0_part2]
  iapply (wp_load Variants.none (c : Thread nD τ) none Set.univ (S := slotSet (c : Thread nD τ) arg11 s) ?_) $$ H
  · exact slot_sub (n := 2048) (c : Thread nD τ) arg11 ho _
  iintro H
  iapply (wp_load Variants.none (c : Thread nD τ) none Set.univ (View.setOn_subset_set _ _)) $$ HS
  iintro HS
  iapply (wp_store Variants.none (c : Thread nD τ) none Set.univ (m := arg13) (r := Rect.unit (s := S32x8x2048) (k0_off24 v753 k v946 t) S1x8x2048.size (k0_off24_inb v753 k (BitVec.ofNat 32 s) v946 hw12 t)) (access_sub (c : Thread nD τ) arg13 _)) $$ HS
  iintro HS
  simp only [Prog.bind, Prog.pure_eq_ret]
  have hkb : P → ∀ (z : S1x2048x128.Idx) (x : SX.Idx), (x 0).val = h → (x 1).val = 2048 * (2 * k.val + t.val) + (z 1).val → (x 1).val < lenN v946 → (x 2).val = (z 2).val →
      View.readAt (Elt F) arg11.view (Rect.unit (s := S12x4096x128) (k0_off23 v753 k (BitVec.ofNat 32 s) v946 t) S1x2048x128.size (k0_off23_inb v753 k (BitVec.ofNat 32 s) v946 hw12 t)).toLoadRect f z = arg5.view.read (Elt F) fK x :=
    fun hP z x x0 x1 x1' x2 => block_read (n := 2048) c arg11 arg5 (hf hP) ho _ z x x0 (by omega) (by omega) x2
  sl_step
  isplitr
  · ipureintro
    intro hP
    rw [hacc hP]
    exact (hK hP _ (hkb hP)).2
  isplitl [H]
  · iexists f
    isplitl [H]; · iexact H
    ipureintro; exact hf
  iexists _
  isplitl [HS]; · iexact HS
  ipureintro
  refine scores_store P c arg13 Sv ho' _ _ hfS fun hP z y z1 z2 => ?_
  rw [← (hK hP _ (hkb hP)).1]
  unfold Gen.k0_pay6
  refine shapeCast_apply _ _ z y ?_
  have z0 : (z 0).val < 1 := (z 0).isLt
  refine (Shape.rowMajor_val_two (d := ![8, 2048]) y).trans (.trans ?_ (Shape.rowMajor_val_three (d := ![1, 8, 2048]) z).symm)
  show (y 0).val * 2048 + (y 1).val = ((z 0).val * 8 + (z 1).val) * 2048 + (z 2).val
  rw [z1, z2, show (z 0).val = 0 by omega]
  omega

/-- The edge tile keeps the rows below `m` and stores zeros above them. -/
theorem edge_keep (hP : P → ∀ x : F .bf16, FloatOps.truncf (F := F) .bf16 Gen.bitsLt_bf16_f32 (FloatOps.extf (F := F) .f32 Gen.bitsLt_bf16_f32 x) = x) (hp : P)
    {v901 v924 : BitVec 32} {r l : ℕ} {m : ℤ} (h1 : IsInt v901 (r : ℕ)) (h2 : IsInt v924 m) (hr : 32 ≤ r ∧ r ≤ 4096) (hm : -65536 ≤ m ∧ m ≤ 65536)
    (b : Vec F S1x32x128 .bf16) (z : S1x32x128.Idx) (hz : (r : ℤ) - 32 + (z 1).val < m) :
    Gen.k0_pay4 v901 v924 b z = b z := by
  have z0 : (z 0).val < 1 := (z 0).isLt
  have z1 : (z 1).val < 32 := (z 1).isLt
  have z2 : (z 2).val < 128 := (z 2).isLt
  unfold Gen.k0_pay4
  refine (shapeCast_apply _ _ z (Fin.cons (z 1) (Fin.cons (z 2) fun x => x.elim0) : S32x128.Idx) ?_).trans ?_
  · refine (Shape.rowMajor_val_two (d := ![32, 128]) _).trans (.trans ?_ (Shape.rowMajor_val_three (d := ![1, 32, 128]) z).symm)
    show (z 1).val * 128 + (z 2).val = ((z 0).val * 32 + (z 1).val) * 128 + (z 2).val
    rw [show (z 0).val = 0 by omega]
    omega
  have h3 := Affine.addi (eb := 32) (Affine.subi h2 h1 (e := m - r) ⟨by omega, by omega, by omega⟩) (Affine.ofNat 32 (by omega)) (e := m - r + 32) ⟨by omega, by omega, by omega⟩
  have h4 : IntOp.cmpi .slt (BitVec.ofNat 32 (z 1).val) (Scalar.addi (Scalar.subi v924 v901) 32#32) = 1#1 := by
    have e1 : IsInt (BitVec.ofNat 32 (z 1).val) ((z 1).val : ℕ) := isInt_ofNat (by omega)
    unfold IsInt at e1
    unfold IsInt at h3
    have e2 : (Scalar.addi (Scalar.subi v924 v901) 32#32).toInt = m - r + 32 := h3
    unfold IntOp.cmpi
    simp only [BitVec.slt_iff_toInt_lt, BitVec.slt, e1, e2]
    rw [decide_eq_true (by omega)]
    rfl
  have h5 : (iota .tc S32x128 32 [0] Gen.iota_S32x128_d0_w32 : IVec S32x128 32) (Fin.cons (z 1) (Fin.cons (z 2) fun x => x.elim0)) = BitVec.ofNat 32 (z 1).val := by
    show BitVec.ofNat 32 (0 * 32 + (z 1).val) = _
    rw [Nat.zero_mul, Nat.zero_add]
  show FloatOps.truncf (F := F) .bf16 Gen.bitsLt_bf16_f32 (Scalar.select (IntOp.cmpi .slt ((iota .tc S32x128 32 [0] Gen.iota_S32x128_d0_w32 : IVec S32x128 32) (Fin.cons (z 1) (Fin.cons (z 2) fun x => x.elim0))) (Scalar.addi (Scalar.subi v924 v901) 32#32)) (FloatOps.extf (F := F) .f32 Gen.bitsLt_bf16_f32 (shapeCast S32x128 b Gen.shapeCasts_S1x32x128_S32x128 (Fin.cons (z 1) (Fin.cons (z 2) fun x => x.elim0)))) _) = _
  rw [h5, h4, show ∀ (a b : F .f32), Scalar.select 1#1 a b = a from fun _ _ => rfl, hP hp]
  refine shapeCast_apply _ _ _ z ?_
  refine (Shape.rowMajor_val_three (d := ![1, 32, 128]) z).trans (.trans ?_ (Shape.rowMajor_val_two (d := ![32, 128]) _).symm)
  show ((z 0).val * 32 + (z 1).val) * 128 + (z 2).val = (z 1).val * 128 + (z 2).val
  rw [show (z 0).val = 0 by omega]
  omega

end
end Cert.Proof.KernelIdeal
-- ==== Proof.IKParts.lean ====
/- A chunk of keys: the wait for its copy, its blocks of scores, the next copy. -/
module

public import proofs.«01_k».proof.Proof.IKLoops
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows that have landed are the rows below the length. -/
theorem holds_len {e : EltTy} (c : Thread nD τ) (M : Memref sig c.2.kind .vmem SB e) (X : Memref sig c.2.kind .hbm SX e) {fX : Buf (Elt F) (X.view.loc c)} {L s h i : ℕ} {f : Buf (Elt F) (M.view.loc c)}
    (hf : Holds c M X fX (rowsN L i) s h i f) : Holds c M X fX (L - 4096 * i) s h i f := by
  intro y x y0 y1 x0 x1 x2
  refine hf y x y0 ?_ x0 x1 x2
  have : (y 1).val < 4096 := (y 1).isLt
  unfold rowsN
  omega

theorem cell_coming {e : EltTy} (c : Thread nD τ) (M : Memref sig c.2.kind .vmem SB e) (X : Memref sig c.2.kind .hbm SX e) (sem : ℕ → DmaSem sig) (len : ℕ → ℕ) (fX : Buf (Elt F) (X.view.loc c)) {w iss s h i : ℕ}
    (hpw : pos len w = (h, i)) (hw : w < iss) (hh : h < 20) : (Cell c M X sem len fX w iss s : sProp (MT nD τ sig Unit (Elt F) ℕ (Pipeline.UD sig nD τ) ℕ)) ⊢ Coming c M X sem len fX s h i := by
  unfold Cell
  rw [hpw, if_pos ⟨hw, hh⟩]

/-- What a slot that has landed is besides its rows. -/
def SlotRest {e : EltTy} (c : Dev nD) (X : Memref sig .tc .hbm SX e) (sem : ℕ → DmaSem sig) (fX : Buf (Elt F) (X.view.loc (c : Thread nD τ))) (s : ℕ) : sProp (MT nD τ sig Unit (Elt F) ℕ (Pipeline.UD sig nD τ) ℕ) :=
  iprop(semVal ((c : Thread nD τ), SemLoc.dma (sem s)) 0 ∗ (X.view.loc (c : Thread nD τ) ↦{slotTok s} fX))

theorem here_open {e : EltTy} (P : Prop) (c : Dev nD) (M : Memref sig .tc .vmem SB e) (X : Memref sig .tc .hbm SX e) (sem : ℕ → DmaSem sig) {fX : Buf (Elt F) (X.view.loc (c : Thread nD τ))} {m s h i : ℕ} {f : Buf (Elt F) (M.view.loc (c : Thread nD τ))}
    (hf : P → Holds (c : Thread nD τ) M X fX m s h i f) : (Here (c : Thread nD τ) M X sem fX s f : sProp (MT nD τ sig Unit (Elt F) ℕ (Pipeline.UD sig nD τ) ℕ)) ⊢ iprop(SlotAt P c M X fX m s h i ∗ SlotRest c X sem fX s) := by
  unfold Here SlotAt SlotRest
  iintro ⟨H1, H2, H3⟩
  isplitl [H2]
  · iexists f
    isplitl [H2]; · iexact H2
    ipureintro; exact hf
  · isplitl [H1] <;> iassumption

theorem here_close {e : EltTy} (P : Prop) (c : Dev nD) (M : Memref sig .tc .vmem SB e) (X : Memref sig .tc .hbm SX e) (sem : ℕ → DmaSem sig) {fX : Buf (Elt F) (X.view.loc (c : Thread nD τ))} {m s h i : ℕ} :
    (iprop(SlotAt P c M X fX m s h i ∗ SlotRest c X sem fX s) : sProp (MT nD τ sig Unit (Elt F) ℕ (Pipeline.UD sig nD τ) ℕ)) ⊢ Free (c : Thread nD τ) M X sem fX s := by
  unfold Free Here SlotAt SlotRest
  iintro ⟨⟨%f, H2, %hf⟩, ⟨H1, H3⟩⟩
  iexists f
  isplitl [H1]; · iexact H1
  isplitl [H2] <;> iassumption

theorem scores_cast (P : Prop) (c : Dev nD) (M : Memref sig .tc .vmem S32x8x2048 .f32) (Sv : ℕ → S8x2048.Idx → F .f32) {n n' : ℕ} (h : n = n') :
    (ScoresAt P c M Sv n : sProp (MT nD τ sig Unit (Elt F) ℕ (Pipeline.UD sig nD τ) ℕ)) ⊢ ScoresAt P c M Sv n' := by
  rw [h]

/-- The blocks of the first `i` chunks. -/
def blk (L : ℕ) : ℕ → ℕ
  | 0 => 0
  | i + 1 => 2 * i + blocksN (rowsN L i)
theorem blk_eq {L i : ℕ} (hi : i < ncN L) : blk L i = 2 * i := by
  cases i with
  | zero => rfl
  | succ i =>
    show 2 * i + blocksN (rowsN L i) = _
    unfold blocksN rowsN
    unfold ncN at hi
    omega

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))
variable (P : Prop)

variable (q : PosShare TreeShare) (f0 : Buf (Elt F) (arg0.view.loc (c : Thread nD τ)))
variable (hP : P → ∀ x : F .bf16, FloatOps.truncf (F := F) .bf16 Gen.bitsLt_bf16_f32 (FloatOps.extf (F := F) .f32 Gen.bitsLt_bf16_f32 x) = x)

include hP in
theorem run_part1 (v753 : Elt F .i32) (k : Fin (k0_t4_loop v753).trips) {s h m : ℕ} (hs : s < 12) (v891 : Elt F .i32) (v901 : BitVec 32) (v920 : Elt F .i32) (hw11 : k0_chk11 v753 k (BitVec.ofNat 32 s) v891 v920) (v924 : BitVec 32) (h3 : k0_cond3 v753 k v920 = 1#1)
    (hi : k.val < ncN (lenN v891)) (h1 : IsInt v901 (rowsN (lenN v891) k.val : ℕ)) {d : ℤ} (h2 : IsInt v924 d) (hd : -65536 ≤ d ∧ d ≤ 65536) (hm : (m : ℤ) ≤ d) :
    SlotAt P c arg11 arg5 fK m s h k.val
      ⊢ wp Idealize.ShloMosaic.frame (wpE (defs₀ (F := F)) Variants.none (c : Thread nD τ) none) Set.univ
        (k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 k (BitVec.ofNat 32 s) v891 v901 v920 hw11 v924 h3)
        (fun _ => SlotAt P c arg11 arg5 fK m s h k.val) := by
  have ho := off19_eq (v753 := v753) (v := v891) k hi hs
  have hr := rowsN_le (lenN v891) k.val
  have hr' := rowsN_pos (lenN v891) k.val
  unfold SlotAt
  iintro ⟨%f, H, %hf⟩
  sl_unfold [k0_part1]
  iapply (wp_load Variants.none (c : Thread nD τ) none Set.univ (S := slotSet (c : Thread nD τ) arg11 s) ?_) $$ H
  · exact slot_sub (n := 32) (c : Thread nD τ) arg11 ho _
  iintro H
  iapply (wp_load Variants.none (c : Thread nD τ) none Set.univ (S := slotSet (c : Thread nD τ) arg11 s) ?_) $$ H
  · exact slot_sub (n := 32) (c : Thread nD τ) arg11 ho _
  iintro H
  iapply (wp_store Variants.none (c : Thread nD τ) none Set.univ (m := arg11) (r := Rect.unit (s := S12x4096x128) (k0_off19 v753 k (BitVec.ofNat 32 s) v891) S1x32x128.size (k0_off19_inb v753 k (BitVec.ofNat 32 s) v891 v920 hw11 h3)) (S := slotSet (c : Thread nD τ) arg11 s) ?_) $$ H
  · exact slot_sub_store (n := 32) (c : Thread nD τ) arg11 ho _
  iintro H
  simp only [Prog.bind, Prog.pure_eq_ret]
  sl_step
  iexists _
  isplitl [H]; · iexact H
  ipureintro
  intro hp
  refine holds_store (n := 32) (c : Thread nD τ) arg11 arg5 fK ho _ (hf hp) _ fun z hz => ?_
  exact (edge_keep (l := 0) P hP hp h1 h2 ⟨by omega, by omega⟩ hd _ z (by have := (z 1).isLt; omega)).trans rfl

attribute [local irreducible] SlotAt SlotRest ScoresAt

set_option maxHeartbeats 400000 in
include hP in
theorem run_part6 (t3 : Fin k0_t3_loop.trips) (arg18 : BitVec 32) (v753 : Elt F .i32) (k : Fin (k0_t4_loop v753).trips) {s : ℕ} (hs : s < 12) (v891 : Elt F .i32) (v901 : BitVec 32) (c10 : BitVec 32) (v902 : BitVec 32) (v907 : BitVec 32) (v909 : BitVec 32) (c0 : BitVec 32)
    (arg25 : BitVec 32) (ha : arg25 = Scf.iv 0#32 1#32 k.val) (hv : v891 = lw arg0 f0 (t3.val / 10)) (hr : v901 = rowsW (Scf.iv 0#32 1#32 k.val) v891) (hi : k.val < ncN (hl arg0 f0 t3.val)) :
    iprop((arg0.view.loc (c : Thread nD τ) ↦[arg0.view.set]{q} f0) ∗ SlotAt P c arg11 arg5 fK (hl arg0 f0 t3.val - 4096 * k.val) s t3.val k.val)
      ⊢ wp Idealize.ShloMosaic.frame (wpE (defs₀ (F := F)) Variants.none (c : Thread nD τ) none) Set.univ
        (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0)
        (fun r => iprop(⌜r.1 = lw arg0 f0 (t3.val / 10)⌝ ∗ (arg0.view.loc (c : Thread nD τ) ↦[arg0.view.set]{q} f0) ∗ SlotAt P c arg11 arg5 fK (hl arg0 f0 t3.val - 4096 * k.val) s t3.val k.val)) := by
  subst ha
  have ht3 : t3.val < 20 := t3.isLt
  have hi' : k.val < ncN (lenN v891) := by rw [hv]; exact hi
  have h11 : ∀ v', k0_chk11 v753 k (BitVec.ofNat 32 s) v891 v' := chk11 k hi' hs
  have h12 : ∀ v, v = lw arg0 f0 (t3.val / 10) → k0_chk12 v753 k (BitVec.ofNat 32 s) v := by
    rintro v rfl
    exact chk12 k hi hs
  have hr11 := lw_read (b := t3.val / 10) arg0 f0 (off18_eq t3) (by omega) (Gen.k0_off18_inb t3)
  have hr12 := lw_read (b := t3.val / 10) arg0 f0 (off22_eq t3) (by omega) (Gen.k0_off22_inb t3)
  have h1 : IsInt v901 (rowsN (lenN v891) k.val : ℕ) := by
    rw [hr, rows_word k hi']
    exact isInt_ofNat (by have := rowsN_le (lenN v891) k.val; omega)
  have hL1 : hl arg0 f0 t3.val ≤ 65536 := hl_le arg0 f0 _
  have hL2 : k.val < 16 := t_lt k hi
  have hL3 : 4096 * k.val < hl arg0 f0 t3.val ∨ k.val = 0 := by unfold ncN at hi; omega
  have hL4 : hl arg0 f0 t3.val = lenN v891 := by rw [hv]; rfl
  by_cases hL : hl arg0 f0 t3.val < 4096 * k.val + 4096
  · have hm : hl arg0 f0 t3.val - 4096 * k.val ≤ rowsN (lenN v891) k.val := by rw [← hL4]; unfold rowsN; omega
    have h3 : ∀ v, v = lw arg0 f0 (t3.val / 10) → k0_cond3 v753 k v = 1#1 := by
      rintro v rfl
      exact (cond3_iff k hi).mpr hL
    iintro ⟨H0, HB⟩
    sl_exec
    have h3' : k0_cond3 v753 k (run_part6.sl.r c arg0 f0 t3) = 1#1 := h3 _ (hr11 _)
    have h2 : IsInt (run_part6.sl.v924 c arg0 f0 t3 v753 k) ((hl arg0 f0 t3.val : ℤ) - 4096 * k.val) := by
      show IsInt (Scalar.subi (clipW (run_part6.sl.r c arg0 f0 t3)) (Scalar.muli (Scf.iv 0#32 1#32 k.val) 4096#32)) _
      rw [show run_part6.sl.r c arg0 f0 t3 = lw arg0 f0 (t3.val / 10) from hr11 _, iv_eq _ (by omega)]
      exact leftW_isInt _ _ (by omega)
    have hcut := run_part1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P hP v753 k hs v891 v901 (run_part6.sl.r c arg0 f0 t3) (h11 _) (run_part6.sl.v924 c arg0 f0 t3 v753 k) h3' hi' (h := t3.val)
      (m := hl arg0 f0 t3.val - 4096 * k.val) h1 h2 ⟨by omega, by omega⟩ (by omega)
    set_option sl_exec.maxSteps 2 in sl_exec
    iapply (Scf.wp_for_bind Idealize.ShloMosaic.frame (wpE (defs₀ (F := F)) Variants.none (c : Thread nD τ) none) Set.univ _ _ _ (k0_t5_ok v753 k (BitVec.ofNat 32 s) v891 (run_part6.sl.r c arg0 f0 t3) (h11 _) h3') ()
      (Gen.k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part6.sl.r c arg0 f0 t3) (h11 _) h3')
      (fun _ _ => SlotAt P c arg11 arg5 fK (hl arg0 f0 t3.val - 4096 * k.val) s t3.val k.val)
      (fun t _ => trip_t5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P t3 arg18 v753 k (h := t3.val) hs (Scf.iv 0#32 1#32 k.val) v891 v901 c10 v902 v907 v909 c0 (run_part6.sl.r c arg0 f0 t3) (h11 _) h3' hi' hm t)) $$ Hk0_part1_0
    iintro %_ HB
    iapply (Scf.wp_for_bind Idealize.ShloMosaic.frame (wpE (defs₀ (F := F)) Variants.none (c : Thread nD τ) none) Set.univ _ _ _ (k0_t6_ok v753 k (BitVec.ofNat 32 s) v891 (run_part6.sl.r c arg0 f0 t3) (h11 _) h3') ()
      (Gen.k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part6.sl.r c arg0 f0 t3) (h11 _) h3')
      (fun _ _ => SlotAt P c arg11 arg5 fK (hl arg0 f0 t3.val - 4096 * k.val) s t3.val k.val)
      (fun t _ => (Scf.rem_no_trip _ _ t).elim)) $$ HB
    iintro %_ HB
    sl_exec
    iapply (wp_assume Variants.none (c : Thread nD τ) none Set.univ (h12 _ (hr12 _)))
    sl_exec
    sl_step
    isplitr; · ipureintro; exact hr12 _
    isplitl [H0] <;> iassumption
  · have h3 : ∀ v, v = lw arg0 f0 (t3.val / 10) → ¬ k0_cond3 v753 k v = 1#1 := by
      rintro v rfl
      exact fun hx => hL ((cond3_iff k hi).mp hx)
    iintro ⟨H0, HB⟩
    sl_exec
    have h3' : ¬ k0_cond3 v753 k (run_part6.sl.r_1 c arg0 f0 t3) = 1#1 := h3 _ (hr11 _)
    sl_exec
    iapply (wp_assume Variants.none (c : Thread nD τ) none Set.univ (h12 _ (hr12 _)))
    sl_exec
    sl_step
    isplitr; · ipureintro; exact hr12 _
    isplitl [H0] <;> iassumption

set_option maxHeartbeats 400000 in
theorem run_part7 (v584 : IVec S8x2048 32) (v734 : BitVec 32) (v753 : Elt F .i32) (v761 : FVec F S8x128 .bf16) (k : Fin (k0_t4_loop v753).trips) (m : FVec F S8x128 .f32) {w h i j : ℕ} (hw13 : k0_chk13 (BitVec.ofNat 32 (w % 12)) (BitVec.ofNat 32 h)) (v946 : Elt F .i32) (hw12 : k0_chk12 v753 k (BitVec.ofNat 32 (w % 12)) v946) (v948 : BitVec 32) (v949 : BitVec 32)
    (arg25 : BitVec 32) (ha : arg25 = Scf.iv 0#32 1#32 k.val) (hv : v946 = lw arg0 f0 (j / 10)) (hi : k.val < ncN (hl arg0 f0 j)) (hp : pos (hl arg0 f0) (w + 12) = (h, i)) (hw : w < 2 ^ 20)
    (Sv : ℕ → S8x2048.Idx → F .f32) (Mv : ℕ → FVec F S8x128 .f32)
    (hK : P → ∀ (t : Fin (k0_t7_loop v753 k v946).trips) (kb : Vec F S1x2048x128 .bf16), (∀ (z : S1x2048x128.Idx) (x : SX.Idx), (x 0).val = j → (x 1).val = 2048 * (2 * k.val + t.val) + (z 1).val → (x 1).val < lenN v946 → (x 2).val = (z 2).val → kb z = arg5.view.read (Elt F) fK x) →
      Gen.k0_pay5 v584 v734 v753 v761 k (Scf.iv 0#32 1#32 k.val) v946 0#32 1#32 t kb = Sv (2 * k.val + t.val)
        ∧ Gen.k0_pay13 (Gen.k0_pay5 v584 v734 v753 v761 k (Scf.iv 0#32 1#32 k.val) v946 0#32 1#32 t kb) (Gen.k0_pay7 v584 v734 v753 v761 k (Scf.iv 0#32 1#32 k.val) v946 0#32 1#32 t (Mv (2 * k.val + t.val)) kb) = Mv (2 * k.val + t.val + 1)) :
    iprop(⌜P → m = Mv (2 * k.val)⌝ ∗ (arg0.view.loc (c : Thread nD τ) ↦[arg0.view.set]{q} f0) ∗ SlotAt P c arg11 arg5 fK (hl arg0 f0 j - 4096 * k.val) (w % 12) j k.val ∗ SlotRest c arg5 (semOf arg16) fK (w % 12)
        ∗ (Free (c : Thread nD τ) arg11 arg5 (semOf arg16) fK (w % 12) -∗ RingK c arg0 arg5 arg11 arg16 f0 fK (w + 1) (w + 12)) ∗ ScoresAt P c arg13 Sv (2 * k.val))
      ⊢ wp Idealize.ShloMosaic.frame (wpE (defs₀ (F := F)) Variants.none (c : Thread nD τ) none) Set.univ
        (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k m (BitVec.ofNat 32 (w % 12)) (BitVec.ofNat 32 h) (BitVec.ofNat 32 i) hw13 arg25 v946 hw12 v948 v949)
        (fun r => iprop(⌜(P → r.1 = Mv (blk (hl arg0 f0 j) (k.val + 1))) ∧ r.2.1 = Scalar.addi (BitVec.ofNat 32 i) 1#32⌝ ∗ (arg0.view.loc (c : Thread nD τ) ↦[arg0.view.set]{q} f0) ∗ RingK c arg0 arg5 arg11 arg16 f0 fK (w + 1) (w + 13) ∗ ScoresAt P c arg13 Sv (blk (hl arg0 f0 j) (k.val + 1)))) := by
  subst ha
  have hs : w % 12 < 12 := Nat.mod_lt _ (by omega)
  obtain ⟨hb, hi', hc⟩ := pos_bounds c arg0 f0 hp
  have hL : lenN v946 = hl arg0 f0 j := by rw [hv]; rfl
  have hi2 : k.val < ncN (lenN v946) := by rw [hL]; exact hi
  have hn : 2 * k.val + (k0_t7_loop v753 k v946).trips = blk (hl arg0 f0 j) (k.val + 1) := by
    rw [t7_trips k hi2, hL]; rfl
  by_cases hh : h < 20
  · have hcond : k0_cond4 (BitVec.ofNat 32 h) = 1#1 := (cond4_iff (h := h) (by omega)).mpr hh
    rw [show min h 19 = h by omega] at hi'
    have h2 : ∀ v, v = lw arg0 f0 (h / 10) → k0_chk14 (BitVec.ofNat 32 (w % 12)) (BitVec.ofNat 32 h) (BitVec.ofNat 32 i) v := by
      rintro v rfl; exact chk14 hs hh hi'
    have e1 : ∀ v, v = lw arg0 f0 (h / 10) → k0_off29 (BitVec.ofNat 32 (w % 12)) (BitVec.ofNat 32 i) v = slotRect (w % 12) (rowsN (hl arg0 f0 h) i) := by
      rintro v rfl; exact off29_eq hs hi'
    have e2 : ∀ v, v = lw arg0 f0 (h / 10) → k0_off30 (BitVec.ofNat 32 h) (BitVec.ofNat 32 i) v = rowRect h i (rowsN (hl arg0 f0 h) i) := by
      rintro v rfl; exact off30_eq hh hi'
    have e3 : ∀ v, v = lw arg0 f0 (h / 10) → k0_sz7 (BitVec.ofNat 32 i) v = ![rowsN (hl arg0 f0 h) i, 128] := by
      rintro v rfl; exact sz7_eq hi'
    have hr := lw_read (b := h / 10) arg0 f0 (off27_eq hh) (by omega) (k0_off27_inb _ _ hw13 hcond)
    iintro ⟨%hm, H0, HB, HX, HR, HS⟩
    sl_unfold [k0_part7]
    iapply (Scf.wp_for_bind Idealize.ShloMosaic.frame (wpE (defs₀ (F := F)) Variants.none (c : Thread nD τ) none) Set.univ _ _ _ (k0_t7_ok v753 k (BitVec.ofNat 32 (w % 12)) v946 hw12) m
      (Gen.k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k m (BitVec.ofNat 32 (w % 12)) (BitVec.ofNat 32 h) (BitVec.ofNat 32 i) hw13 (Scf.iv 0#32 1#32 k.val) v946 hw12 v948 v949)
      (fun t acc => iprop(⌜P → acc = Mv (2 * k.val + t)⌝ ∗ SlotAt P c arg11 arg5 fK (lenN v946 - 4096 * k.val) (w % 12) j k.val ∗ ScoresAt P c arg13 Sv (2 * k.val + t)))
      (fun t acc => trip_t7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P v584 v734 v753 v761 k m hs (BitVec.ofNat 32 h) (BitVec.ofNat 32 i) hw13 (Scf.iv 0#32 1#32 k.val) v946 hw12 v948 v949 hi2 t Sv Mv acc (fun hP => hK hP t))) $$ [HB HS]
    · isplitr; · ipureintro; exact hm
      rw [hL]
      isplitl [HB] <;> iassumption
    iintro %acc ⟨%hm', HB, HS⟩
    sl_exec
    ihave HF := (here_close P c arg11 arg5 (semOf arg16) (s := w % 12) (h := j) (i := k.val)) $$ [HB HX]
    · isplitl [HB] <;> iassumption
    ihave HR := HR $$ HF
    ihave HR := (ring_issue (c : Thread nD τ) arg11 arg5 (semOf arg16) (hl arg0 f0) fK (w := w + 1) (iss := w + 12) (by omega) (by omega)) $$ HR
    icases HR with ⟨HF, HR⟩
    ihave HF := (show (Free (c : Thread nD τ) arg11 arg5 (semOf arg16) fK ((w + 12) % 12) : sProp 𝕄) ⊢ Free (c : Thread nD τ) arg11 arg5 (semOf arg16) fK (w % 12) by rw [Nat.add_mod_right]) $$ HF
    iapply (wp_assume Variants.none (c : Thread nD τ) none Set.univ (h2 _ (hr _)))
    sl_exec
    iapply (wp_issue (c : Thread nD τ) arg11 arg5 (semOf arg16) (hl arg0 f0) fK Variants.none none (s := w % 12) (h := h)
      (i := i) (n := rowsN (hl arg0 f0 h) i) rfl ?_ ?_ ?_ (semOf_slice arg16 (off28_eq hs) hs _ _)) $$ HF
    · exact e1 _ (hr _)
    · exact e2 _ (hr _)
    · exact e3 _ (hr _)
    iintro HF
    sl_exec
    sl_step
    isplitr
    · ipureintro; exact ⟨fun hx => (hm' hx).trans (congrArg Mv hn), rfl⟩
    isplitl [H0]; · iexact H0
    isplitl [HR HF]
    · iapply HR
      ihave HF := (show (Coming (c : Thread nD τ) arg11 arg5 (semOf arg16) (hl arg0 f0) fK (w % 12) h i : sProp 𝕄) ⊢ Cell (c : Thread nD τ) arg11 arg5 (semOf arg16) (hl arg0 f0) fK (w + 12) (w + 12 + 1) ((w + 12) % 12) by
        unfold Cell; rw [hp, Nat.add_mod_right, if_pos ⟨Nat.lt_succ_self _, hh⟩]) $$ HF
      iexact HF
    ihave HS := (scores_cast P c arg13 Sv hn) $$ HS
    iexact HS
  · have hcond : ¬ k0_cond4 (BitVec.ofNat 32 h) = 1#1 := (cond4_iff (h := h) (by omega)).not.mpr hh
    iintro ⟨%hm, H0, HB, HX, HR, HS⟩
    sl_unfold [k0_part7]
    iapply (Scf.wp_for_bind Idealize.ShloMosaic.frame (wpE (defs₀ (F := F)) Variants.none (c : Thread nD τ) none) Set.univ _ _ _ (k0_t7_ok v753 k (BitVec.ofNat 32 (w % 12)) v946 hw12) m
      (Gen.k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k m (BitVec.ofNat 32 (w % 12)) (BitVec.ofNat 32 h) (BitVec.ofNat 32 i) hw13 (Scf.iv 0#32 1#32 k.val) v946 hw12 v948 v949)
      (fun t acc => iprop(⌜P → acc = Mv (2 * k.val + t)⌝ ∗ SlotAt P c arg11 arg5 fK (lenN v946 - 4096 * k.val) (w % 12) j k.val ∗ ScoresAt P c arg13 Sv (2 * k.val + t)))
      (fun t acc => trip_t7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P v584 v734 v753 v761 k m hs (BitVec.ofNat 32 h) (BitVec.ofNat 32 i) hw13 (Scf.iv 0#32 1#32 k.val) v946 hw12 v948 v949 hi2 t Sv Mv acc (fun hP => hK hP t))) $$ [HB HS]
    · isplitr; · ipureintro; exact hm
      rw [hL]
      isplitl [HB] <;> iassumption
    iintro %acc ⟨%hm', HB, HS⟩
    sl_exec
    sl_step
    ihave HF := (here_close P c arg11 arg5 (semOf arg16) (s := w % 12) (h := j) (i := k.val)) $$ [HB HX]
    · isplitl [HB] <;> iassumption
    ihave HR := HR $$ HF
    ihave HR := (ring_issue (c : Thread nD τ) arg11 arg5 (semOf arg16) (hl arg0 f0) fK (w := w + 1) (iss := w + 12) (by omega) (by omega)) $$ HR
    icases HR with ⟨HF, HR⟩
    ihave HF := (show (Free (c : Thread nD τ) arg11 arg5 (semOf arg16) fK ((w + 12) % 12) : sProp 𝕄) ⊢ Free (c : Thread nD τ) arg11 arg5 (semOf arg16) fK (w % 12) by rw [Nat.add_mod_right]) $$ HF
    isplitr
    · ipureintro; exact ⟨fun hx => (hm' hx).trans (congrArg Mv hn), rfl⟩
    isplitl [H0]; · iexact H0
    isplitl [HR HF]
    · iapply HR
      ihave HF := (show (Free (c : Thread nD τ) arg11 arg5 (semOf arg16) fK (w % 12) : sProp 𝕄) ⊢ Cell (c : Thread nD τ) arg11 arg5 (semOf arg16) (hl arg0 f0) fK (w + 12) (w + 12 + 1) ((w + 12) % 12) by
        unfold Cell; rw [hp, Nat.add_mod_right, if_neg fun hx => hh hx.2]) $$ HF
      iexact HF
    ihave HS := (scores_cast P c arg13 Sv hn) $$ HS
    iexact HS

end
end Cert.Proof.KernelIdeal
-- ==== Proof.IVParts.lean ====
/- A chunk of values: the wait for its copy, its blocks' weighted sums, the next copy. -/
module

public import proofs.«01_k».proof.Proof.IVSites
public import proofs.«01_k».proof.Proof.IKParts
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a block of values does to the two accumulators: from what they are
after `n` blocks to what they are after `n + 1`, whatever block of scores and
whatever block of value rows agree with the recorded scores and with the HBM
array below the length. -/
def BlockStep (P : Prop) (c : Dev nD) (X : Memref sig .tc .hbm SX .fp8e4m3) (fX : Buf (Elt F) (X.view.loc (c : Thread nD τ))) (v802 : FVec F S8x1 .f32) (Sv : ℕ → S8x2048.Idx → F .f32) (Wv : ℕ → FVec F S8x128 .f32 × FVec F S8x128 .f32) (h L n : ℕ) : Prop :=
  P → ∀ (sb : Vec F S1x8x2048 .f32) (vb : Vec F S1x2048x128 .fp8e4m3),
    (∀ (z : S1x8x2048.Idx) (y : S8x2048.Idx), (z 1).val = (y 0).val → (z 2).val = (y 1).val → sb z = Sv n y) →
    (∀ (z : S1x2048x128.Idx) (x : SX.Idx), (x 0).val = h → (x 1).val = 2048 * n + (z 1).val → (x 1).val < L → (x 2).val = (z 2).val → vb z = X.view.read (Elt F) fX x) →
    (Gen.k0_pay27 v802 (Wv n).1 sb, Gen.k0_pay40 (Wv n).2 (Gen.k0_pay28 v802 sb) (Gen.k0_pay29 vb) (Gen.k0_pay30 v802 sb) (Gen.k0_pay31 v802 sb)) = Wv (n + 1)

/-- A block of scores read back is what was stored. -/
theorem scores_read (c : Dev nD) (M : Memref sig .tc .vmem S32x8x2048 .f32) (Sv : ℕ → S8x2048.Idx → F .f32) {n N : ℕ} {o : Fin 3 → ℕ} (ho : o = ![n, 0, 0]) (hn : n < N)
    (hinb : ∀ x, o x + S1x8x2048.size x ≤ S32x8x2048.size x) {f : Buf (Elt F) (M.view.loc (c : Thread nD τ))}
    (hf : ∀ (z : S32x8x2048.Idx) (y : S8x2048.Idx), (z 0).val < N → (z 1).val = (y 0).val → (z 2).val = (y 1).val → M.view.read (Elt F) f z = Sv (z 0).val y)
    (z : (Rect.unit (s := S32x8x2048) o S1x8x2048.size hinb).shape.Idx) (y : S8x2048.Idx) (z1 : (z 1).val = (y 0).val) (z2 : (z 2).val = (y 1).val) :
    M.view.readAt (Elt F) (Rect.unit (s := S32x8x2048) o S1x8x2048.size hinb).toLoadRect f z = Sv n y := by
  subst ho
  have z0 : (z 0).val < 1 := (z 0).isLt
  have e0 : (((Rect.unit (s := S32x8x2048) ![n, 0, 0] S1x8x2048.size hinb).emb z) 0).val = n := by
    show n + 1 * (z 0).val = n
    omega
  refine (hf ((Rect.unit (s := S32x8x2048) ![n, 0, 0] S1x8x2048.size hinb).emb z) y (by omega) ?_ ?_).trans (by rw [e0])
  · show 0 + 1 * (z 1).val = _; omega
  · show 0 + 1 * (z 2).val = _; omega

theorem blk_lt {L i b : ℕ} (hi : i < ncN L) (hb : b < blocksN (rowsN L i)) : 2 * i + b < blk L (ncN L) := by
  obtain ⟨j, hj⟩ : ∃ j, ncN L = j + 1 := ⟨ncN L - 1, by omega⟩
  rw [hj]
  show _ < 2 * j + blocksN (rowsN L j)
  rcases Nat.lt_or_ge i j with h | h
  · have := rowsN_le L i
    have := rowsN_pos L j
    unfold blocksN at *
    omega
  · obtain rfl : i = j := by omega
    omega

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fV : Buf (Elt F) (arg6.view.loc (c : Thread nD τ)))
variable (P : Prop)

variable (q : PosShare TreeShare) (f0 : Buf (Elt F) (arg0.view.loc (c : Thread nD τ)))

theorem trip_t15 (t3 : Fin k0_t3_loop.trips) (arg18 : BitVec 32) (v753 : Elt F .i32) (k : Fin (k0_t14_loop v753).trips) {s h m : ℕ} (hs : s < 12) (arg25 : BitVec 32) (v891 : Elt F .i32) (v901 : BitVec 32) (c10 : BitVec 32) (v902 : BitVec 32) (v907 : BitVec 32) (v909 : BitVec 32) (c0 : BitVec 32) (v920 : Elt F .i32)
    (hw27 : k0_chk27 v753 k (BitVec.ofNat 32 s) v891 v920) (h7 : k0_cond7 v753 k v920 = 1#1) (hi : k.val < ncN (lenN v891)) (hm : m ≤ rowsN (lenN v891) k.val) (t : Fin (k0_t15_loop v753 k v891).trips) :
    SlotAt P c arg12 arg6 fV m s h k.val
      ⊢ wp Idealize.ShloMosaic.frame (wpE (defs₀ (F := F)) Variants.none (c : Thread nD τ) none) Set.univ
        (Gen.k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0 v920 hw27 h7 t ())
        (fun _ => SlotAt P c arg12 arg6 fV m s h k.val) := by
  have ho := off58_eq k hi hs t
  have hr := rowsN_dvd (lenN v891) k.val
  unfold Gen.k0_t15_body SlotAt
  iintro ⟨%f, H, %hf⟩
  iapply (wp_load Variants.none (c : Thread nD τ) none Set.univ (S := slotSet (c : Thread nD τ) arg12 s) ?_) $$ H
  · exact slot_sub (n := 32) (c : Thread nD τ) arg12 ho _
  iintro H
  iapply (wp_store Variants.none (c : Thread nD τ) none Set.univ (m := arg12) (r := Rect.unit (s := S12x4096x128) (k0_off58 v753 k (BitVec.ofNat 32 s) v891 t) S1x32x128.size (k0_off58_inb v753 k (BitVec.ofNat 32 s) v891 v920 hw27 t h7)) (S := slotSet (c : Thread nD τ) arg12 s) ?_) $$ H
  · exact slot_sub_store (n := 32) (c : Thread nD τ) arg12 ho _
  iintro H
  simp only [Prog.bind, Prog.pure_eq_ret]
  sl_step
  iexists _
  isplitl [H]; · iexact H
  ipureintro
  intro hP
  refine holds_store (n := 32) (c : Thread nD τ) arg12 arg6 fV ho _ (hf hP) _ fun z hz => ?_
  exfalso
  omega

theorem trip_t17 (v753 : Elt F .i32) (v802 : FVec F S8x1 .f32) (k : Fin (k0_t14_loop v753).trips) (arg26 arg27 : FVec F S8x128 .f32) {s h N : ℕ} (hs : s < 12) (arg29 : BitVec 32) (arg30 : BitVec 32) (hw29 : k0_chk29 (BitVec.ofNat 32 s) arg29) (arg25 : BitVec 32) (v946 : Elt F .i32) (hw28 : k0_chk28 v753 k (BitVec.ofNat 32 s) v946) (v948 : BitVec 32) (v949 : BitVec 32)
    (hi : k.val < ncN (lenN v946)) (t : Fin (k0_t17_loop v753 k v946).trips) (hN : 2 * k.val + t.val < N) (Sv : ℕ → S8x2048.Idx → F .f32) (Wv : ℕ → FVec F S8x128 .f32 × FVec F S8x128 .f32) (acc : FVec F S8x128 .f32 × FVec F S8x128 .f32)
    (hV : BlockStep P c arg6 fV v802 Sv Wv h (lenN v946) (2 * k.val + t.val)) :
    iprop(⌜P → acc = Wv (2 * k.val + t.val)⌝ ∗ SlotAt P c arg12 arg6 fV (lenN v946 - 4096 * k.val) s h k.val ∗ ScoresAt P c arg13 Sv N)
      ⊢ wp Idealize.ShloMosaic.frame (wpE (defs₀ (F := F)) Variants.none (c : Thread nD τ) none) Set.univ
        (Gen.k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k arg26 arg27 (BitVec.ofNat 32 s) arg29 arg30 hw29 arg25 v946 hw28 v948 v949 t acc)
        (fun r => iprop(⌜P → r = Wv (2 * k.val + (t.val + 1))⌝ ∗ SlotAt P c arg12 arg6 fV (lenN v946 - 4096 * k.val) s h k.val ∗ ScoresAt P c arg13 Sv N)) := by
  have ho := off62_eq k hi hs t
  have ho' := off61_eq k hi t
  obtain ⟨a1, a2⟩ := acc
  unfold Gen.k0_t17_body SlotAt ScoresAt
  iintro ⟨%hacc, ⟨%f, H, %hf⟩, ⟨%fS, HS, %hfS⟩⟩
  sl_unfold [k0_part15]
  iapply (wp_load Variants.none (c : Thread nD τ) none Set.univ (View.setOn_subset_set _ _)) $$ HS
  iintro HS
  iapply (wp_load Variants.none (c : Thread nD τ) none Set.univ (S := slotSet (c : Thread nD τ) arg12 s) ?_) $$ H
  · exact slot_sub (n := 2048) (c : Thread nD τ) arg12 ho _
  iintro H
  simp only [Prog.bind, Prog.pure_eq_ret]
  have hres := fun hP => hV hP (View.readAt (Elt F) arg13.view (Rect.unit (s := S32x8x2048) (k0_off61 v753 k v946 t) S1x8x2048.size (k0_off61_inb v753 k (BitVec.ofNat 32 s) v946 hw28 t)).toLoadRect fS)
    (View.readAt (Elt F) arg12.view (Rect.unit (s := S12x4096x128) (k0_off62 v753 k (BitVec.ofNat 32 s) v946 t) S1x2048x128.size (k0_off62_inb v753 k (BitVec.ofNat 32 s) v946 hw28 t)).toLoadRect f)
    (fun z y z1 z2 => scores_read c arg13 Sv ho' hN _ (hfS hP) z y z1 z2)
    (fun z x x0 x1 x1' x2 => block_read (n := 2048) c arg12 arg6 (hf hP) ho _ z x x0 (by omega) (by omega) x2)
  sl_step
  isplitr
  · ipureintro
    intro hP
    have hres := hres hP
    rw [← hacc hP] at hres
    exact hres
  isplitl [H]
  · iexists f
    isplitl [H]; · iexact H
    ipureintro; exact hf
  iexists _
  isplitl [HS]; · iexact HS
  ipureintro
  exact hfS

attribute [local irreducible] SlotAt SlotRest ScoresAt BlockStep

set_option maxHeartbeats 400000 in
theorem run_part19 (t3 : Fin k0_t3_loop.trips) (arg18 : BitVec 32) (v753 : Elt F .i32) (k : Fin (k0_t14_loop v753).trips) {s : ℕ} (hs : s < 12) (v891 : Elt F .i32) (v901 : BitVec 32) (c10 : BitVec 32) (v902 : BitVec 32) (v907 : BitVec 32) (v909 : BitVec 32) (c0 : BitVec 32)
    (arg25 : BitVec 32) (ha : arg25 = Scf.iv 0#32 1#32 k.val) (hv : v891 = lw arg0 f0 (t3.val / 10)) (hi : k.val < ncN (hl arg0 f0 t3.val)) :
    iprop((arg0.view.loc (c : Thread nD τ) ↦[arg0.view.set]{q} f0) ∗ SlotAt P c arg12 arg6 fV (hl arg0 f0 t3.val - 4096 * k.val) s t3.val k.val)
      ⊢ wp Idealize.ShloMosaic.frame (wpE (defs₀ (F := F)) Variants.none (c : Thread nD τ) none) Set.univ
        (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0)
        (fun r => iprop(⌜r.1 = lw arg0 f0 (t3.val / 10)⌝ ∗ (arg0.view.loc (c : Thread nD τ) ↦[arg0.view.set]{q} f0) ∗ SlotAt P c arg12 arg6 fV (hl arg0 f0 t3.val - 4096 * k.val) s t3.val k.val)) := by
  subst ha
  have ht3 : t3.val < 20 := t3.isLt
  have hi' : k.val < ncN (lenN v891) := by rw [hv]; exact hi
  have h11 : ∀ v', k0_chk27 v753 k (BitVec.ofNat 32 s) v891 v' := chk27 k hi' hs
  have h12 : ∀ v, v = lw arg0 f0 (t3.val / 10) → k0_chk28 v753 k (BitVec.ofNat 32 s) v := by
    rintro v rfl
    exact chk28 k hi hs
  have hr11 := lw_read (b := t3.val / 10) arg0 f0 (off57_eq t3) (by omega) (Gen.k0_off57_inb t3)
  have hr12 := lw_read (b := t3.val / 10) arg0 f0 (off60_eq t3) (by omega) (Gen.k0_off60_inb t3)
  have hL1 : hl arg0 f0 t3.val ≤ 65536 := hl_le arg0 f0 _
  have hL4 : hl arg0 f0 t3.val = lenN v891 := by rw [hv]; rfl
  by_cases hL : hl arg0 f0 t3.val < 4096 * k.val + 4096
  · have hm : hl arg0 f0 t3.val - 4096 * k.val ≤ rowsN (lenN v891) k.val := by rw [← hL4]; unfold rowsN; omega
    have h3 : ∀ v, v = lw arg0 f0 (t3.val / 10) → k0_cond7 v753 k v = 1#1 := by
      rintro v rfl
      exact (cond7_iff k hi).mpr hL
    iintro ⟨H0, HB⟩
    sl_exec
    have h3' : k0_cond7 v753 k (run_part19.sl.r c arg0 f0 t3) = 1#1 := h3 _ (hr11 _)
    set_option sl_exec.maxSteps 1 in sl_exec
    iapply (Scf.wp_for_bind Idealize.ShloMosaic.frame (wpE (defs₀ (F := F)) Variants.none (c : Thread nD τ) none) Set.univ _ _ _ (k0_t15_ok v753 k (BitVec.ofNat 32 s) v891 (run_part19.sl.r c arg0 f0 t3) (h11 _) h3') ()
      (Gen.k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part19.sl.r c arg0 f0 t3) (h11 _) h3')
      (fun _ _ => SlotAt P c arg12 arg6 fV (hl arg0 f0 t3.val - 4096 * k.val) s t3.val k.val)
      (fun t _ => trip_t15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P t3 arg18 v753 k (h := t3.val) hs (Scf.iv 0#32 1#32 k.val) v891 v901 c10 v902 v907 v909 c0 (run_part19.sl.r c arg0 f0 t3) (h11 _) h3' hi' hm t)) $$ HB
    iintro %_ HB
    iapply (Scf.wp_for_bind Idealize.ShloMosaic.frame (wpE (defs₀ (F := F)) Variants.none (c : Thread nD τ) none) Set.univ _ _ _ (k0_t16_ok v753 k (BitVec.ofNat 32 s) v891 (run_part19.sl.r c arg0 f0 t3) (h11 _) h3') ()
      (Gen.k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part19.sl.r c arg0 f0 t3) (h11 _) h3')
      (fun _ _ => SlotAt P c arg12 arg6 fV (hl arg0 f0 t3.val - 4096 * k.val) s t3.val k.val)
      (fun t _ => (Scf.rem_no_trip _ _ t).elim)) $$ HB
    iintro %_ HB
    sl_exec
    iapply (wp_assume Variants.none (c : Thread nD τ) none Set.univ (h12 _ (hr12 _)))
    sl_exec
    sl_step
    isplitr; · ipureintro; exact hr12 _
    isplitl [H0] <;> iassumption
  · have h3 : ∀ v, v = lw arg0 f0 (t3.val / 10) → ¬ k0_cond7 v753 k v = 1#1 := by
      rintro v rfl
      exact fun hx => hL ((cond7_iff k hi).mp hx)
    iintro ⟨H0, HB⟩
    sl_exec
    have h3' : ¬ k0_cond7 v753 k (run_part19.sl.r_1 c arg0 f0 t3) = 1#1 := h3 _ (hr11 _)
    sl_exec
    iapply (wp_assume Variants.none (c : Thread nD τ) none Set.univ (h12 _ (hr12 _)))
    sl_exec
    sl_step
    isplitr; · ipureintro; exact hr12 _
    isplitl [H0] <;> iassumption

set_option maxHeartbeats 400000 in
theorem run_part20 (v753 : Elt F .i32) (v802 : FVec F S8x1 .f32) (k : Fin (k0_t14_loop v753).trips) (a1 a2 : FVec F S8x128 .f32) {w h i j : ℕ} (hw29 : k0_chk29 (BitVec.ofNat 32 (w % 12)) (BitVec.ofNat 32 h)) (v946 : Elt F .i32) (hw28 : k0_chk28 v753 k (BitVec.ofNat 32 (w % 12)) v946) (v948 : BitVec 32) (v949 : BitVec 32)
    (arg25 : BitVec 32) (ha : arg25 = Scf.iv 0#32 1#32 k.val) (hv : v946 = lw arg0 f0 (j / 10)) (hi : k.val < ncN (hl arg0 f0 j)) (hp : pos (hl arg0 f0) (w + 12) = (h, i)) (hw : w < 2 ^ 20)
    (Sv : ℕ → S8x2048.Idx → F .f32) (Wv : ℕ → FVec F S8x128 .f32 × FVec F S8x128 .f32)
    (hV : ∀ n, BlockStep P c arg6 fV v802 Sv Wv j (hl arg0 f0 j) n) :
    iprop(⌜P → (a1, a2) = Wv (2 * k.val)⌝ ∗ (arg0.view.loc (c : Thread nD τ) ↦[arg0.view.set]{q} f0) ∗ SlotAt P c arg12 arg6 fV (hl arg0 f0 j - 4096 * k.val) (w % 12) j k.val ∗ SlotRest c arg6 (semOf arg17) fV (w % 12)
        ∗ (Free (c : Thread nD τ) arg12 arg6 (semOf arg17) fV (w % 12) -∗ RingV c arg0 arg6 arg12 arg17 f0 fV (w + 1) (w + 12)) ∗ ScoresAt P c arg13 Sv (blk (hl arg0 f0 j) (ncN (hl arg0 f0 j))))
      ⊢ wp Idealize.ShloMosaic.frame (wpE (defs₀ (F := F)) Variants.none (c : Thread nD τ) none) Set.univ
        (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k a1 a2 (BitVec.ofNat 32 (w % 12)) (BitVec.ofNat 32 h) (BitVec.ofNat 32 i) hw29 arg25 v946 hw28 v948 v949)
        (fun r => iprop(⌜(P → (r.1, r.2.1) = Wv (blk (hl arg0 f0 j) (k.val + 1))) ∧ r.2.2.1 = Scalar.addi (BitVec.ofNat 32 i) 1#32⌝ ∗ (arg0.view.loc (c : Thread nD τ) ↦[arg0.view.set]{q} f0) ∗ RingV c arg0 arg6 arg12 arg17 f0 fV (w + 1) (w + 13) ∗ ScoresAt P c arg13 Sv (blk (hl arg0 f0 j) (ncN (hl arg0 f0 j))))) := by
  subst ha
  have hs : w % 12 < 12 := Nat.mod_lt _ (by omega)
  obtain ⟨hb, hi', hc⟩ := pos_bounds c arg0 f0 hp
  have hL : lenN v946 = hl arg0 f0 j := by rw [hv]; rfl
  have hi2 : k.val < ncN (lenN v946) := by rw [hL]; exact hi
  have hn : 2 * k.val + (k0_t17_loop v753 k v946).trips = blk (hl arg0 f0 j) (k.val + 1) := by
    rw [t17_trips k hi2, hL]; rfl
  have hNt : ∀ t : Fin (k0_t17_loop v753 k v946).trips, 2 * k.val + t.val < blk (hl arg0 f0 j) (ncN (hl arg0 f0 j)) := fun t =>
    blk_lt hi (by have h := lt_of_lt_of_eq t.isLt (t17_trips k hi2); rw [hL] at h; exact h)
  rw [← hL] at hV
  by_cases hh : h < 20
  · have hcond : k0_cond8 (BitVec.ofNat 32 h) = 1#1 := (cond8_iff (h := h) (by omega)).mpr hh
    rw [show min h 19 = h by omega] at hi'
    have h2 : ∀ v, v = lw arg0 f0 (h / 10) → k0_chk30 (BitVec.ofNat 32 (w % 12)) (BitVec.ofNat 32 h) (BitVec.ofNat 32 i) v := by
      rintro v rfl; exact chk30 hs hh hi'
    have e1 : ∀ v, v = lw arg0 f0 (h / 10) → k0_off67 (BitVec.ofNat 32 (w % 12)) (BitVec.ofNat 32 i) v = slotRect (w % 12) (rowsN (hl arg0 f0 h) i) := by
      rintro v rfl; exact off67_eq hs hi'
    have e2 : ∀ v, v = lw arg0 f0 (h / 10) → k0_off68 (BitVec.ofNat 32 h) (BitVec.ofNat 32 i) v = rowRect h i (rowsN (hl arg0 f0 h) i) := by
      rintro v rfl; exact off68_eq hh hi'
    have e3 : ∀ v, v = lw arg0 f0 (h / 10) → k0_sz15 (BitVec.ofNat 32 i) v = ![rowsN (hl arg0 f0 h) i, 128] := by
      rintro v rfl; exact sz15_eq hi'
    have hr := lw_read (b := h / 10) arg0 f0 (off65_eq hh) (by omega) (k0_off65_inb _ _ hw29 hcond)
    iintro ⟨%hm, H0, HB, HX, HR, HS⟩
    sl_unfold [k0_part20]
    iapply (Scf.wp_for_bind Idealize.ShloMosaic.frame (wpE (defs₀ (F := F)) Variants.none (c : Thread nD τ) none) Set.univ _ _ _ (k0_t17_ok v753 k (BitVec.ofNat 32 (w % 12)) v946 hw28) (a1, a2)
      (Gen.k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k a1 a2 (BitVec.ofNat 32 (w % 12)) (BitVec.ofNat 32 h) (BitVec.ofNat 32 i) hw29 (Scf.iv 0#32 1#32 k.val) v946 hw28 v948 v949)
      (fun t acc => iprop(⌜P → acc = Wv (2 * k.val + t)⌝ ∗ SlotAt P c arg12 arg6 fV (lenN v946 - 4096 * k.val) (w % 12) j k.val ∗ ScoresAt P c arg13 Sv (blk (hl arg0 f0 j) (ncN (hl arg0 f0 j)))))
      (fun t acc => trip_t17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P v753 v802 k a1 a2 hs (BitVec.ofNat 32 h) (BitVec.ofNat 32 i) hw29 (Scf.iv 0#32 1#32 k.val) v946 hw28 v948 v949 hi2 t (hNt t) Sv Wv acc (hV _))) $$ [HB HS]
    · isplitr; · ipureintro; exact hm
      rw [hL]
      isplitl [HB] <;> iassumption
    iintro %acc ⟨%hm', HB, HS⟩
    obtain ⟨b1, b2⟩ := acc
    sl_exec
    ihave HF := (here_close P c arg12 arg6 (semOf arg17) (s := w % 12) (h := j) (i := k.val)) $$ [HB HX]
    · isplitl [HB] <;> iassumption
    ihave HR := HR $$ HF
    ihave HR := (ring_issue (c : Thread nD τ) arg12 arg6 (semOf arg17) (hl arg0 f0) fV (w := w + 1) (iss := w + 12) (by omega) (by omega)) $$ HR
    icases HR with ⟨HF, HR⟩
    ihave HF := (show (Free (c : Thread nD τ) arg12 arg6 (semOf arg17) fV ((w + 12) % 12) : sProp 𝕄) ⊢ Free (c : Thread nD τ) arg12 arg6 (semOf arg17) fV (w % 12) by rw [Nat.add_mod_right]) $$ HF
    iapply (wp_assume Variants.none (c : Thread nD τ) none Set.univ (h2 _ (hr _)))
    sl_exec
    iapply (wp_issue (c : Thread nD τ) arg12 arg6 (semOf arg17) (hl arg0 f0) fV Variants.none none (s := w % 12) (h := h)
      (i := i) (n := rowsN (hl arg0 f0 h) i) rfl ?_ ?_ ?_ (semOf_slice arg17 (off66_eq hs) hs _ _)) $$ HF
    · exact e1 _ (hr _)
    · exact e2 _ (hr _)
    · exact e3 _ (hr _)
    iintro HF
    sl_exec
    sl_step
    isplitr
    · ipureintro; exact ⟨fun hx => (hm' hx).trans (congrArg Wv hn), rfl⟩
    isplitl [H0]; · iexact H0
    isplitl [HR HF]
    · iapply HR
      ihave HF := (show (Coming (c : Thread nD τ) arg12 arg6 (semOf arg17) (hl arg0 f0) fV (w % 12) h i : sProp 𝕄) ⊢ Cell (c : Thread nD τ) arg12 arg6 (semOf arg17) (hl arg0 f0) fV (w + 12) (w + 12 + 1) ((w + 12) % 12) by
        unfold Cell; rw [hp, Nat.add_mod_right, if_pos ⟨Nat.lt_succ_self _, hh⟩]) $$ HF
      iexact HF
    iexact HS
  · have hcond : ¬ k0_cond8 (BitVec.ofNat 32 h) = 1#1 := (cond8_iff (h := h) (by omega)).not.mpr hh
    iintro ⟨%hm, H0, HB, HX, HR, HS⟩
    sl_unfold [k0_part20]
    iapply (Scf.wp_for_bind Idealize.ShloMosaic.frame (wpE (defs₀ (F := F)) Variants.none (c : Thread nD τ) none) Set.univ _ _ _ (k0_t17_ok v753 k (BitVec.ofNat 32 (w % 12)) v946 hw28) (a1, a2)
      (Gen.k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k a1 a2 (BitVec.ofNat 32 (w % 12)) (BitVec.ofNat 32 h) (BitVec.ofNat 32 i) hw29 (Scf.iv 0#32 1#32 k.val) v946 hw28 v948 v949)
      (fun t acc => iprop(⌜P → acc = Wv (2 * k.val + t)⌝ ∗ SlotAt P c arg12 arg6 fV (lenN v946 - 4096 * k.val) (w % 12) j k.val ∗ ScoresAt P c arg13 Sv (blk (hl arg0 f0 j) (ncN (hl arg0 f0 j)))))
      (fun t acc => trip_t17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P v753 v802 k a1 a2 hs (BitVec.ofNat 32 h) (BitVec.ofNat 32 i) hw29 (Scf.iv 0#32 1#32 k.val) v946 hw28 v948 v949 hi2 t (hNt t) Sv Wv acc (hV _))) $$ [HB HS]
    · isplitr; · ipureintro; exact hm
      rw [hL]
      isplitl [HB] <;> iassumption
    iintro %acc ⟨%hm', HB, HS⟩
    obtain ⟨b1, b2⟩ := acc
    sl_exec
    sl_step
    ihave HF := (here_close P c arg12 arg6 (semOf arg17) (s := w % 12) (h := j) (i := k.val)) $$ [HB HX]
    · isplitl [HB] <;> iassumption
    ihave HR := HR $$ HF
    ihave HR := (ring_issue (c : Thread nD τ) arg12 arg6 (semOf arg17) (hl arg0 f0) fV (w := w + 1) (iss := w + 12) (by omega) (by omega)) $$ HR
    icases HR with ⟨HF, HR⟩
    ihave HF := (show (Free (c : Thread nD τ) arg12 arg6 (semOf arg17) fV ((w + 12) % 12) : sProp 𝕄) ⊢ Free (c : Thread nD τ) arg12 arg6 (semOf arg17) fV (w % 12) by rw [Nat.add_mod_right]) $$ HF
    isplitr
    · ipureintro; exact ⟨fun hx => (hm' hx).trans (congrArg Wv hn), rfl⟩
    isplitl [H0]; · iexact H0
    isplitl [HR HF]
    · iapply HR
      ihave HF := (show (Free (c : Thread nD τ) arg12 arg6 (semOf arg17) fV (w % 12) : sProp 𝕄) ⊢ Cell (c : Thread nD τ) arg12 arg6 (semOf arg17) (hl arg0 f0) fV (w + 12) (w + 12 + 1) ((w + 12) % 12) by
        unfold Cell; rw [hp, Nat.add_mod_right, if_neg fun hx => hh hx.2]) $$ HF
      iexact HF
    iexact HS

end
end Cert.Proof.KernelIdeal
-- ==== Proof.IVChunk.lean ====
/- The loop over a head's chunks of values. -/
module

public import proofs.«01_k».proof.Proof.IVParts
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fV : Buf (Elt F) (arg6.view.loc (c : Thread nD τ)))
variable (P : Prop)

variable (q : PosShare TreeShare) (f0 : Buf (Elt F) (arg0.view.loc (c : Thread nD τ)))

attribute [local irreducible] SlotAt SlotRest ScoresAt Decode.Ring BlockStep

/-- The blocks of scores of a head. -/
abbrev blks (L : ℕ) : ℕ := blk L (ncN L)

set_option maxHeartbeats 400000 in
theorem trip_t14 (t3 : Fin k0_t3_loop.trips) (arg20 : BitVec 32) (arg23 : BitVec 32) (arg24 : BitVec 32) (arg18 : BitVec 32) (v711 : BitVec 32) (v713 : BitVec 32) (v753 : Elt F .i32) (hw7 : k0_chk7 v753) (v758 : BitVec 32) (v761 : FVec F S8x128 .bf16) (v769 : FVec F S8x128 .f32) (v773 : FVec F S2x128 .f32) (c0 : BitVec 32)
    (k : Fin (k0_t14_loop v753).trips) (hv : v753 = lw arg0 f0 (t3.val / 10)) {w h i : ℕ} (hpw : pos (hl arg0 f0) w = (t3.val, k.val)) (hp : pos (hl arg0 f0) (w + 12) = (h, i)) (hw : w < 2 ^ 20) (a1 a2 : FVec F S8x128 .f32)
    (Sv : ℕ → S8x2048.Idx → F .f32) (Wv : ℕ → FVec F S8x128 .f32 × FVec F S8x128 .f32)
    (hV : ∀ n, BlockStep P c arg6 fV (Gen.k0_pay64 v711 v761 v769 v773 c0) Sv Wv t3.val (hl arg0 f0 t3.val) n) :
    iprop(⌜P → (a1, a2) = Wv (2 * k.val)⌝ ∗ (arg0.view.loc (c : Thread nD τ) ↦[arg0.view.set]{q} f0) ∗ RingV c arg0 arg6 arg12 arg17 f0 fV w (w + 12) ∗ (∃ W, owes (c : Thread nD τ) 0 W) ∗ ScoresAt P c arg13 Sv (blks (hl arg0 f0 t3.val)))
      ⊢ wp Idealize.ShloMosaic.frame (wpE (defs₀ (F := F)) Variants.none (c : Thread nD τ) none) Set.univ
        (Gen.k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg20 arg23 arg24 arg18 v711 v713 v753 hw7 v758 v761 v769 v773 c0 k (a1, a2, BitVec.ofNat 32 (w % 12), BitVec.ofNat 32 h, BitVec.ofNat 32 i))
        (fun r => iprop(⌜(P → (r.1, r.2.1) = Wv (blk (hl arg0 f0 t3.val) (k.val + 1))) ∧ r.2.2 = (BitVec.ofNat 32 ((w + 1) % 12), posW c arg0 f0 (w + 13))⌝ ∗ (arg0.view.loc (c : Thread nD τ) ↦[arg0.view.set]{q} f0) ∗ RingV c arg0 arg6 arg12 arg17 f0 fV (w + 1) (w + 13) ∗ (∃ W, owes (c : Thread nD τ) 0 W) ∗ ScoresAt P c arg13 Sv (blks (hl arg0 f0 t3.val)))) := by
  have hs : w % 12 < 12 := Nat.mod_lt _ (by omega)
  have hi : k.val < ncN (hl arg0 f0 t3.val) := by
    have e : ncN (lenN v753) = ncN (hl arg0 f0 t3.val) := by rw [hv]; rfl
    exact lt_of_lt_of_eq k.isLt ((nc_trips' v753).trans e)
  have ht3 : t3.val < 20 := t3.isLt
  obtain ⟨hb, hi', hc⟩ := pos_bounds c arg0 f0 hp
  unfold Gen.k0_t14_body
  iintro ⟨%hm, H0, HR, ⟨%W, HO⟩, HS⟩
  have h15 := chk31 (h := h) (i := i) (by omega)
  have h13 := chk29 (s := w % 12) (h := h) hs (by omega)
  have h9 := chk25 hs
  have h8 : ∀ v, v = lw arg0 f0 (t3.val / 10) → k0_chk24 t3 v753 k (BitVec.ofNat 32 (w % 12)) v := by
    rintro v rfl
    exact chk24 k hi t3 _
  have h10 : ∀ v, v = lw arg0 f0 (t3.val / 10) → k0_chk26 v753 k v := by
    rintro v rfl
    exact chk26 k hi
  have e5 : ∀ v, v = lw arg0 f0 (t3.val / 10) → k0_sz13 v753 k v = ![rowsN (hl arg0 f0 t3.val) k.val, 128] := by
    rintro v rfl
    exact sz13_eq k hi
  have hr8 := lw_read (b := t3.val / 10) arg0 f0 (off52_eq t3) (by omega) (Gen.k0_off52_inb t3)
  have hr10 := lw_read (b := t3.val / 10) arg0 f0 (off56_eq t3) (by omega) (Gen.k0_off56_inb t3)
  sl_exec
  iapply (wp_assume Variants.none (c : Thread nD τ) none Set.univ (h8 _ (hr8 _)))
  sl_exec
  ihave HR := (ring_wait (c : Thread nD τ) arg12 arg6 (semOf arg17) (hl arg0 f0) fV (w := w) (iss := w + 12) (by omega)) $$ HR
  icases HR with ⟨HC, HR⟩
  ihave HC := (cell_coming (c : Thread nD τ) arg12 arg6 (semOf arg17) (hl arg0 f0) fV hpw (show w < w + 12 by omega) ht3) $$ HC
  iapply (wp_landed (c : Thread nD τ) arg12 arg6 (semOf arg17) (hl arg0 f0) fV Variants.none none (s := w % 12) (h := t3.val) (i := k.val) ?_ ?_) $$ [HC HO]
  · exact congrArg (fun z => (arg12.view.ref).dmaCredit (⟨2, z⟩ : Shape) .fp8e4m3) (e5 _ (hr8 _))
  · exact semOf_slice arg17 (off53_eq hs) hs _ _
  · isplitl [HC] <;> iassumption
  iintro ⟨⟨%f, HF, %hf⟩, ⟨%W', HO⟩⟩
  sl_exec
  iapply (wp_assume Variants.none (c : Thread nD τ) none Set.univ (h10 _ (hr10 _)))
  ihave HF := (here_open P c arg12 arg6 (semOf arg17) (fun _ => holds_len (c : Thread nD τ) arg12 arg6 hf)) $$ HF
  icases HF with ⟨HB, HX⟩
  set_option sl_exec.stopBefore "k0_part19" in sl_exec
  have q1 : trip_t14.sl.r_1 c arg0 f0 t3 = lw arg0 f0 (t3.val / 10) := hr10 _
  have hcut := run_part19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 t3 arg18 v753 k hs (trip_t14.sl.r_1 c arg0 f0 t3) (trip_t14.sl.v900 c arg0 f0 t3 v753 k) 10#32 (trip_t14.sl.v902 arg18) (trip_t14.sl.v907 arg18) 1#32 0#32
    (trip_t14.sl.arg25 v753 k) rfl q1 hi
  set_option sl_exec.stopBefore "k0_part20" in sl_exec
  have hv946 : v946 = lw arg0 f0 (t3.val / 10) := hk0_part19_0
  have hcut := run_part20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 v753 (Gen.k0_pay64 v711 v761 v769 v773 c0) k a1 a2 (j := t3.val) h13 v946 k0_hw28 v948 v949 (trip_t14.sl.arg25 v753 k) rfl hv946 hi hp hw Sv Wv hV
  have hr31 := lw_read (b := min h 19 / 10) arg0 f0 (off69_eq (h := h) (by omega)) (by omega) (k0_off69_inb _ _ h13)
  sl_exec
  sl_step
  obtain ⟨q7, q8⟩ := hk0_part20_0
  have q8 : v969 = Scalar.addi (BitVec.ofNat 32 i) 1#32 := q8
  subst q8
  isplitr
  · ipureintro
    exact ⟨q7, Prod.ext (slotNext_eq w) (posW_succ c arg0 f0 hp _ (hr31 _))⟩
  isplitl [Hk0_part20_1]; · iexact Hk0_part20_1
  isplitl [Hk0_part20_2]; · iexact Hk0_part20_2
  isplitl [HO]
  · iexists _; iexact HO
  iexact Hk0_part20_3

/-- Between the trips of a head's chunk loop over the values, the head's first chunk being copy `w`. -/
abbrev InvT14 (t3 w : ℕ) (Sv : ℕ → S8x2048.Idx → F .f32) (Wv : ℕ → FVec F S8x128 .f32 × FVec F S8x128 .f32) (k : ℕ) (r : FVec F S8x128 .f32 × FVec F S8x128 .f32 × BitVec 32 × BitVec 32 × BitVec 32) : sProp 𝕄 :=
  iprop(⌜(P → (r.1, r.2.1) = Wv (blk (hl arg0 f0 t3) k)) ∧ r.2.2 = (BitVec.ofNat 32 ((w + k) % 12), posW c arg0 f0 (w + k + 12))⌝ ∗ (arg0.view.loc (c : Thread nD τ) ↦[arg0.view.set]{q} f0) ∗ RingV c arg0 arg6 arg12 arg17 f0 fV (w + k) (w + k + 12)
    ∗ (∃ W, owes (c : Thread nD τ) 0 W) ∗ ScoresAt P c arg13 Sv (blks (hl arg0 f0 t3)))

theorem step_t14 (t3 : Fin k0_t3_loop.trips) (arg20 : BitVec 32) (arg23 : BitVec 32) (arg24 : BitVec 32) (arg18 : BitVec 32) (v711 : BitVec 32) (v713 : BitVec 32) (v753 : Elt F .i32) (hw7 : k0_chk7 v753) (v758 : BitVec 32) (v761 : FVec F S8x128 .bf16) (v769 : FVec F S8x128 .f32) (v773 : FVec F S2x128 .f32) (c0 : BitVec 32)
    (hv : v753 = lw arg0 f0 (t3.val / 10)) {w : ℕ} (hpw : pos (hl arg0 f0) w = (t3.val, 0)) (hw : w < 2 ^ 10)
    (Sv : ℕ → S8x2048.Idx → F .f32) (Wv : ℕ → FVec F S8x128 .f32 × FVec F S8x128 .f32)
    (hV : ∀ n, BlockStep P c arg6 fV (Gen.k0_pay64 v711 v761 v769 v773 c0) Sv Wv t3.val (hl arg0 f0 t3.val) n) (k : Fin (k0_t14_loop v753).trips)
    (acc : FVec F S8x128 .f32 × FVec F S8x128 .f32 × BitVec 32 × BitVec 32 × BitVec 32) :
    InvT14 c arg0 arg6 arg12 arg13 arg17 fV P q f0 t3.val w Sv Wv k.val acc
      ⊢ wp Idealize.ShloMosaic.frame (wpE (defs₀ (F := F)) Variants.none (c : Thread nD τ) none) Set.univ
        (Gen.k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg20 arg23 arg24 arg18 v711 v713 v753 hw7 v758 v761 v769 v773 c0 k acc)
        (InvT14 c arg0 arg6 arg12 arg13 arg17 fV P q f0 t3.val w Sv Wv (k.val + 1)) := by
  have ht3 : t3.val < 20 := t3.isLt
  have hi : k.val < ncN (hl arg0 f0 t3.val) := by
    have e : ncN (lenN v753) = ncN (hl arg0 f0 t3.val) := by rw [hv]; rfl
    exact lt_of_lt_of_eq k.isLt ((nc_trips' v753).trans e)
  have hk16 : k.val < 16 := lt_of_lt_of_le hi (ncN_le (hl_le arg0 f0 _))
  have hpk := pos_chunk (hl arg0 f0) ht3 hpw hi
  have hp12 : pos (hl arg0 f0) (w + k.val + 12) = ((pos (hl arg0 f0) (w + k.val + 12)).1, (pos (hl arg0 f0) (w + k.val + 12)).2) := rfl
  obtain ⟨a1, a2, a⟩ := acc
  unfold InvT14
  rw [show w + (k.val + 1) + 12 = w + k.val + 13 by omega, ← Nat.add_assoc w k.val 1]
  iintro ⟨%hacc, H0, HR, HO, HS⟩
  obtain ⟨h1, h2⟩ := hacc
  have h2 : a = (BitVec.ofNat 32 ((w + k.val) % 12), posW c arg0 f0 (w + k.val + 12)) := h2
  subst h2
  iapply (trip_t14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 t3 arg20 arg23 arg24 arg18 v711 v713 v753 hw7 v758 v761 v769 v773 c0 k hv hpk (w := w + k.val) (h := (pos (hl arg0 f0) (w + k.val + 12)).1) (i := (pos (hl arg0 f0) (w + k.val + 12)).2) hp12 (by omega) a1 a2 Sv Wv hV)
  isplitr
  · ipureintro
    exact fun hx => (h1 hx).trans (congrArg Wv (blk_eq hi))
  isplitl [H0]; · iexact H0
  isplitl [HR]; · iexact HR
  isplitl [HO]; · iexact HO
  iexact HS

end
end Cert.Proof.KernelIdeal
-- ==== Proof.IKChunk.lean ====
/- The loop over a head's chunks of keys. -/
module

public import proofs.«01_k».proof.Proof.IKParts
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))
variable (P : Prop)

variable (q : PosShare TreeShare) (f0 : Buf (Elt F) (arg0.view.loc (c : Thread nD τ)))
variable (hP : P → ∀ x : F .bf16, FloatOps.truncf (F := F) .bf16 Gen.bitsLt_bf16_f32 (FloatOps.extf (F := F) .f32 Gen.bitsLt_bf16_f32 x) = x)

attribute [local irreducible] SlotAt SlotRest ScoresAt Decode.Ring

set_option maxHeartbeats 400000 in
include hP in
theorem trip_t4 (v584 : IVec S8x2048 32) (t3 : Fin k0_t3_loop.trips) (arg19 : BitVec 32) (arg21 : BitVec 32) (arg22 : BitVec 32) (arg18 : BitVec 32) (v713 : BitVec 32) (v734 : BitVec 32) (c10 : BitVec 32) (v735 : BitVec 32) (v753 : Elt F .i32) (hw7 : k0_chk7 v753) (v760 : Vec F S1x8x128 .bf16)
    (k : Fin (k0_t4_loop v753).trips) (hv : v753 = lw arg0 f0 (t3.val / 10)) {w h i : ℕ} (hpw : pos (hl arg0 f0) w = (t3.val, k.val)) (hp : pos (hl arg0 f0) (w + 12) = (h, i)) (hw : w < 2 ^ 20) (m : FVec F S8x128 .f32)
    (Sv : ℕ → S8x2048.Idx → F .f32) (Mv : ℕ → FVec F S8x128 .f32)
    (hK : P → ∀ (v : Elt F .i32) (t : Fin (k0_t7_loop v753 k v).trips) (kb : Vec F S1x2048x128 .bf16), (∀ (z : S1x2048x128.Idx) (x : SX.Idx), (x 0).val = t3.val → (x 1).val = 2048 * (2 * k.val + t.val) + (z 1).val → (x 1).val < hl arg0 f0 t3.val → (x 2).val = (z 2).val → kb z = arg5.view.read (Elt F) fK x) →
      Gen.k0_pay5 v584 v734 v753 (Gen.k0_pay58 v760) k (Scf.iv 0#32 1#32 k.val) v 0#32 1#32 t kb = Sv (2 * k.val + t.val)
        ∧ Gen.k0_pay13 (Gen.k0_pay5 v584 v734 v753 (Gen.k0_pay58 v760) k (Scf.iv 0#32 1#32 k.val) v 0#32 1#32 t kb) (Gen.k0_pay7 v584 v734 v753 (Gen.k0_pay58 v760) k (Scf.iv 0#32 1#32 k.val) v 0#32 1#32 t (Mv (2 * k.val + t.val)) kb) = Mv (2 * k.val + t.val + 1)) :
    iprop(⌜P → m = Mv (2 * k.val)⌝ ∗ (arg0.view.loc (c : Thread nD τ) ↦[arg0.view.set]{q} f0) ∗ RingK c arg0 arg5 arg11 arg16 f0 fK w (w + 12) ∗ (∃ W, owes (c : Thread nD τ) 0 W) ∗ ScoresAt P c arg13 Sv (2 * k.val))
      ⊢ wp Idealize.ShloMosaic.frame (wpE (defs₀ (F := F)) Variants.none (c : Thread nD τ) none) Set.univ
        (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 arg19 arg21 arg22 arg18 v713 v734 c10 v735 v753 hw7 v760 k (m, BitVec.ofNat 32 (w % 12), BitVec.ofNat 32 h, BitVec.ofNat 32 i))
        (fun r => iprop(⌜(P → r.1 = Mv (blk (hl arg0 f0 t3.val) (k.val + 1))) ∧ r.2 = (BitVec.ofNat 32 ((w + 1) % 12), posW c arg0 f0 (w + 13))⌝ ∗ (arg0.view.loc (c : Thread nD τ) ↦[arg0.view.set]{q} f0) ∗ RingK c arg0 arg5 arg11 arg16 f0 fK (w + 1) (w + 13) ∗ (∃ W, owes (c : Thread nD τ) 0 W) ∗ ScoresAt P c arg13 Sv (blk (hl arg0 f0 t3.val) (k.val + 1)))) := by
  have hs : w % 12 < 12 := Nat.mod_lt _ (by omega)
  have hi : k.val < ncN (hl arg0 f0 t3.val) := by
    have e : ncN (lenN v753) = ncN (hl arg0 f0 t3.val) := by rw [hv]; rfl
    exact lt_of_lt_of_eq k.isLt ((nc_trips v753).trans e)
  have ht3 : t3.val < 20 := t3.isLt
  obtain ⟨hb, hi', hc⟩ := pos_bounds c arg0 f0 hp
  unfold Gen.k0_t4_body
  iintro ⟨%hm, H0, HR, ⟨%W, HO⟩, HS⟩
  have h15 := chk15 (h := h) (i := i) (by omega)
  have h13 := chk13 (s := w % 12) (h := h) hs (by omega)
  have h9 := chk9 hs
  have h8 : ∀ v, v = lw arg0 f0 (t3.val / 10) → k0_chk8 t3 v753 k (BitVec.ofNat 32 (w % 12)) v := by
    rintro v rfl
    exact chk8 k hi t3 (w % 12)
  have h10 : ∀ v, v = lw arg0 f0 (t3.val / 10) → k0_chk10 v753 k v := by
    rintro v rfl
    exact chk10 k hi
  have e5 : ∀ v, v = lw arg0 f0 (t3.val / 10) → k0_sz5 v753 k v = ![rowsN (hl arg0 f0 t3.val) k.val, 128] := by
    rintro v rfl
    exact sz5_eq k hi
  have hr8 := lw_read (b := t3.val / 10) arg0 f0 (off13_eq t3) (by omega) (Gen.k0_off13_inb t3)
  have hr10 := lw_read (b := t3.val / 10) arg0 f0 (off17_eq t3) (by omega) (Gen.k0_off17_inb t3)
  sl_exec
  iapply (wp_assume Variants.none (c : Thread nD τ) none Set.univ (h8 _ (hr8 _)))
  sl_exec
  ihave HR := (ring_wait (c : Thread nD τ) arg11 arg5 (semOf arg16) (hl arg0 f0) fK (w := w) (iss := w + 12) (by omega)) $$ HR
  icases HR with ⟨HC, HR⟩
  ihave HC := (cell_coming (c : Thread nD τ) arg11 arg5 (semOf arg16) (hl arg0 f0) fK hpw (show w < w + 12 by omega) ht3) $$ HC
  iapply (wp_landed (c : Thread nD τ) arg11 arg5 (semOf arg16) (hl arg0 f0) fK Variants.none none (s := w % 12) (h := t3.val) (i := k.val) ?_ ?_) $$ [HC HO]
  · exact congrArg (fun z => (arg11.view.ref).dmaCredit (⟨2, z⟩ : Shape) .bf16) (e5 _ (hr8 _))
  · exact semOf_slice arg16 (off14_eq hs) hs _ _
  · isplitl [HC] <;> iassumption
  iintro ⟨⟨%f, HF, %hf⟩, ⟨%W', HO⟩⟩
  sl_exec
  iapply (wp_assume Variants.none (c : Thread nD τ) none Set.univ (h10 _ (hr10 _)))
  ihave HF := (here_open P c arg11 arg5 (semOf arg16) (fun _ => holds_len (c : Thread nD τ) arg11 arg5 hf)) $$ HF
  icases HF with ⟨HB, HX⟩
  set_option sl_exec.stopBefore "k0_part6" in sl_exec
  have q1 : trip_t4.sl.r_1 c arg0 f0 t3 = lw arg0 f0 (t3.val / 10) := hr10 _
  have hcut := run_part6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP t3 arg18 v753 k hs (trip_t4.sl.r_1 c arg0 f0 t3) (trip_t4.sl.v900 c arg0 f0 t3 v753 k) 10#32 (trip_t4.sl.v902 arg18) (trip_t4.sl.v907 arg18) 1#32 0#32
    (trip_t4.sl.arg25 v753 k) rfl q1 rfl hi
  set_option sl_exec.stopBefore "k0_part7" in sl_exec
  have hv946 : v946 = lw arg0 f0 (t3.val / 10) := hk0_part6_0
  have hl946 : lenN v946 = hl arg0 f0 t3.val := by rw [hv946]; rfl
  have hcut := run_part7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 v584 v734 v753 (Gen.k0_pay58 v760) k m (j := t3.val) h13 v946 k0_hw12 v948 v949 (trip_t4.sl.arg25 v753 k) rfl hv946 hi hp hw Sv Mv
    (fun hp' t kb hkb => hK hp' v946 t kb fun z x x0 x1 x1' x2 => hkb z x x0 x1 (lt_of_lt_of_eq x1' hl946.symm) x2)
  have hr31 := lw_read (b := min h 19 / 10) arg0 f0 (off31_eq (h := h) (by omega)) (by omega) (k0_off31_inb _ _ h13)
  sl_exec
  sl_step
  obtain ⟨q7, q8⟩ := hk0_part7_0
  have q8 : v969 = Scalar.addi (BitVec.ofNat 32 i) 1#32 := q8
  subst q8
  isplitr
  · ipureintro
    exact ⟨q7, Prod.ext (slotNext_eq w) (posW_succ c arg0 f0 hp _ (hr31 _))⟩
  isplitl [Hk0_part7_1]; · iexact Hk0_part7_1
  isplitl [Hk0_part7_2]; · iexact Hk0_part7_2
  isplitl [HO]
  · iexists _; iexact HO
  iexact Hk0_part7_3

/-- Between the trips of a head's chunk loop over the keys, the head's first chunk being copy `w`. -/
abbrev InvT4 (t3 w : ℕ) (Sv : ℕ → S8x2048.Idx → F .f32) (Mv : ℕ → FVec F S8x128 .f32) (k : ℕ) (r : FVec F S8x128 .f32 × BitVec 32 × BitVec 32 × BitVec 32) : sProp 𝕄 :=
  iprop(⌜(P → r.1 = Mv (blk (hl arg0 f0 t3) k)) ∧ r.2 = (BitVec.ofNat 32 ((w + k) % 12), posW c arg0 f0 (w + k + 12))⌝ ∗ (arg0.view.loc (c : Thread nD τ) ↦[arg0.view.set]{q} f0) ∗ RingK c arg0 arg5 arg11 arg16 f0 fK (w + k) (w + k + 12)
    ∗ (∃ W, owes (c : Thread nD τ) 0 W) ∗ ScoresAt P c arg13 Sv (blk (hl arg0 f0 t3) k))

include hP in
theorem step_t4 (v584 : IVec S8x2048 32) (t3 : Fin k0_t3_loop.trips) (arg19 : BitVec 32) (arg21 : BitVec 32) (arg22 : BitVec 32) (arg18 : BitVec 32) (v713 : BitVec 32) (v734 : BitVec 32) (c10 : BitVec 32) (v735 : BitVec 32) (v753 : Elt F .i32) (hw7 : k0_chk7 v753) (v760 : Vec F S1x8x128 .bf16)
    (hv : v753 = lw arg0 f0 (t3.val / 10)) {w : ℕ} (hpw : pos (hl arg0 f0) w = (t3.val, 0)) (hw : w < 2 ^ 10)
    (Sv : ℕ → S8x2048.Idx → F .f32) (Mv : ℕ → FVec F S8x128 .f32) (k : Fin (k0_t4_loop v753).trips)
    (hK : P → ∀ (v : Elt F .i32) (t : Fin (k0_t7_loop v753 k v).trips) (kb : Vec F S1x2048x128 .bf16), (∀ (z : S1x2048x128.Idx) (x : SX.Idx), (x 0).val = t3.val → (x 1).val = 2048 * (2 * k.val + t.val) + (z 1).val → (x 1).val < hl arg0 f0 t3.val → (x 2).val = (z 2).val → kb z = arg5.view.read (Elt F) fK x) →
      Gen.k0_pay5 v584 v734 v753 (Gen.k0_pay58 v760) k (Scf.iv 0#32 1#32 k.val) v 0#32 1#32 t kb = Sv (2 * k.val + t.val)
        ∧ Gen.k0_pay13 (Gen.k0_pay5 v584 v734 v753 (Gen.k0_pay58 v760) k (Scf.iv 0#32 1#32 k.val) v 0#32 1#32 t kb) (Gen.k0_pay7 v584 v734 v753 (Gen.k0_pay58 v760) k (Scf.iv 0#32 1#32 k.val) v 0#32 1#32 t (Mv (2 * k.val + t.val)) kb) = Mv (2 * k.val + t.val + 1))
    (acc : FVec F S8x128 .f32 × BitVec 32 × BitVec 32 × BitVec 32) :
    InvT4 c arg0 arg5 arg11 arg13 arg16 fK P q f0 t3.val w Sv Mv k.val acc
      ⊢ wp Idealize.ShloMosaic.frame (wpE (defs₀ (F := F)) Variants.none (c : Thread nD τ) none) Set.univ
        (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 arg19 arg21 arg22 arg18 v713 v734 c10 v735 v753 hw7 v760 k acc)
        (InvT4 c arg0 arg5 arg11 arg13 arg16 fK P q f0 t3.val w Sv Mv (k.val + 1)) := by
  have ht3 : t3.val < 20 := t3.isLt
  have hi : k.val < ncN (hl arg0 f0 t3.val) := by
    have e : ncN (lenN v753) = ncN (hl arg0 f0 t3.val) := by rw [hv]; rfl
    exact lt_of_lt_of_eq k.isLt ((nc_trips v753).trans e)
  have hk16 : k.val < 16 := lt_of_lt_of_le hi (ncN_le (hl_le arg0 f0 _))
  have hpk := pos_chunk (hl arg0 f0) ht3 hpw hi
  have hp12 : pos (hl arg0 f0) (w + k.val + 12) = ((pos (hl arg0 f0) (w + k.val + 12)).1, (pos (hl arg0 f0) (w + k.val + 12)).2) := rfl
  obtain ⟨m, a⟩ := acc
  unfold InvT4
  rw [show w + (k.val + 1) + 12 = w + k.val + 13 by omega, ← Nat.add_assoc w k.val 1]
  iintro ⟨%hacc, H0, HR, HO, HS⟩
  obtain ⟨h1, h2⟩ := hacc
  have h2 : a = (BitVec.ofNat 32 ((w + k.val) % 12), posW c arg0 f0 (w + k.val + 12)) := h2
  subst h2
  ihave HS := (scores_cast P c arg13 Sv (blk_eq hi)) $$ HS
  iapply (trip_t4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP v584 t3 arg19 arg21 arg22 arg18 v713 v734 c10 v735 v753 hw7 v760 k hv hpk (w := w + k.val) (h := (pos (hl arg0 f0) (w + k.val + 12)).1) (i := (pos (hl arg0 f0) (w + k.val + 12)).2) hp12 (by omega) m Sv Mv hK)
  isplitr
  · ipureintro
    exact fun hx => (h1 hx).trans (congrArg Mv (blk_eq hi))
  isplitl [H0]; · iexact H0
  isplitl [HR]; · iexact HR
  isplitl [HO]; · iexact HO
  iexact HS

end
end Cert.Proof.KernelIdeal
-- ==== Proof.IHead.lean ====
/- What one head's loops leave, and the state between the heads. -/
module

public import proofs.«01_k».proof.Proof.IVChunk
public import proofs.«01_k».proof.Proof.IKChunk
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows of heads below `n` of a (20, 8, 128) buffer are the recorded ones. -/
def RowsAt {e : EltTy} (P : Prop) (c : Dev nD) (M : Memref sig .tc .vmem S20x8x128 e) (Rv : ℕ → S1x8x128.Idx → Elt F e) (n : ℕ) : sProp (MT nD τ sig Unit (Elt F) ℕ (Pipeline.UD sig nD τ) ℕ) :=
  iprop(∃ f, (M.view.loc (c : Thread nD τ) ↦[M.view.set]{fullShare} f)
    ∗ ⌜P → ∀ (z : S20x8x128.Idx) (y : S1x8x128.Idx), (z 0).val < n → (z 1).val = (y 1).val → (z 2).val = (y 2).val → M.view.read (Elt F) f z = Rv (z 0).val y⌝)

/-- The row of head `n` is stored above the ones there are. -/
theorem rows_store {e : EltTy} (P : Prop) (c : Dev nD) (M : Memref sig .tc .vmem S20x8x128 e) (Rv : ℕ → S1x8x128.Idx → Elt F e) {n : ℕ} {o : Fin 3 → ℕ} (ho : o = ![n, 0, 0])
    (hinb : ∀ x, o x + S1x8x128.size x ≤ S20x8x128.size x) {f : Buf (Elt F) (M.view.loc (c : Thread nD τ))} (w : (Rect.unit (s := S20x8x128) o S1x8x128.size hinb).shape.Idx → Elt F e)
    (hf : P → ∀ (z : S20x8x128.Idx) (y : S1x8x128.Idx), (z 0).val < n → (z 1).val = (y 1).val → (z 2).val = (y 2).val → M.view.read (Elt F) f z = Rv (z 0).val y)
    (hw : P → w = Rv n) :
    P → ∀ (z : S20x8x128.Idx) (y : S1x8x128.Idx), (z 0).val < n + 1 → (z 1).val = (y 1).val → (z 2).val = (y 2).val →
      M.view.read (Elt F) ((M.access (Rect.unit (s := S20x8x128) o S1x8x128.size hinb)).write (Elt F) f w Finset.univ) z = Rv (z 0).val y := by
  subst ho
  intro hP z y z0 z1 z2
  by_cases hz : z ∈ Finset.univ.map (Rect.unit (s := S20x8x128) ![n, 0, 0] S1x8x128.size hinb).emb
  · obtain ⟨x, -, rfl⟩ := Finset.mem_map.mp hz
    have hx0 : (x 0).val < 1 := (x 0).isLt
    have hy0 : (y 0).val < 1 := (y 0).isLt
    have e0 : (((Rect.unit (s := S20x8x128) ![n, 0, 0] S1x8x128.size hinb).emb x) 0).val = n := by
      show n + 1 * (x 0).val = n
      omega
    rw [e0]
    refine (View.read_slice_write_emb (v := M.view) _ f w (Finset.mem_univ x)).trans ((congrFun (hw hP) x).trans (congrArg (Rv n) ?_))
    funext a
    refine Fin.ext ?_
    have q0 : (x 0).val = (y 0).val := by omega
    have q1 : (x 1).val = (y 1).val := by change 0 + 1 * (x 1).val = _ at z1; omega
    have q2 : (x 2).val = (y 2).val := by change 0 + 1 * (x 2).val = _ at z2; omega
    exact (Fin.forall_fin_succ.mpr ⟨q0, Fin.forall_fin_succ.mpr ⟨q1, Fin.forall_fin_succ.mpr ⟨q2, fun x => x.elim0⟩⟩⟩ : ∀ a : Fin 3, (x a).val = (y a).val) a
  · refine (View.read_slice_write_of_not_mem (v := M.view) _ f w _ hz).trans (hf hP z y ?_ z1 z2)
    by_contra h
    refine hz ((Rect.map_emb_univ _).symm ▸ Rect.mem_set_unit.mpr (Fin.forall_fin_succ.mpr ⟨?_, Fin.forall_fin_succ.mpr ⟨?_, Fin.forall_fin_succ.mpr ⟨?_, fun x => x.elim0⟩⟩⟩))
    · show n ≤ (z 0).val ∧ (z 0).val < n + 1; omega
    · have : (z 1).val < 8 := (z 1).isLt
      show 0 ≤ (z 1).val ∧ (z 1).val < 0 + 8; omega
    · have : (z 2).val < 128 := (z 2).isLt
      show 0 ≤ (z 2).val ∧ (z 2).val < 0 + 128; omega

theorem BlockStep.of {P : Prop} {c : Dev nD} {X : Memref sig .tc .hbm SX .fp8e4m3} {fX : Buf (Elt F) (X.view.loc (c : Thread nD τ))} {a b : FVec F S8x1 .f32} {Sv : ℕ → S8x2048.Idx → F .f32} {Wv : ℕ → FVec F S8x128 .f32 × FVec F S8x128 .f32} {h L n : ℕ}
    (e : P → a = b) (H : P → BlockStep P c X fX b Sv Wv h L n) : BlockStep P c X fX a Sv Wv h L n := by
  intro hP
  rw [e hP]
  exact H hP hP

/-- What a block of keys does: its scores, and the running maximum after it. -/
def KeyStep (P : Prop) (c : Dev nD) (X : Memref sig .tc .hbm SX .bf16) (fX : Buf (Elt F) (X.view.loc (c : Thread nD τ))) (v584 : IVec S8x2048 32) (v734 v753 : BitVec 32) (v760 : Vec F S1x8x128 .bf16) (Sv : ℕ → S8x2048.Idx → F .f32) (Mv : ℕ → FVec F S8x128 .f32) (h L : ℕ) : Prop :=
  ∀ (k : Fin (k0_t4_loop v753).trips), P → ∀ (v : Elt F .i32) (t : Fin (k0_t7_loop v753 k v).trips) (kb : Vec F S1x2048x128 .bf16),
    (∀ (z : S1x2048x128.Idx) (x : SX.Idx), (x 0).val = h → (x 1).val = 2048 * (2 * k.val + t.val) + (z 1).val → (x 1).val < L → (x 2).val = (z 2).val → kb z = X.view.read (Elt F) fX x) →
    Gen.k0_pay5 v584 v734 v753 (Gen.k0_pay58 v760) k (Scf.iv 0#32 1#32 k.val) v 0#32 1#32 t kb = Sv (2 * k.val + t.val)
      ∧ Gen.k0_pay13 (Gen.k0_pay5 v584 v734 v753 (Gen.k0_pay58 v760) k (Scf.iv 0#32 1#32 k.val) v 0#32 1#32 t kb) (Gen.k0_pay7 v584 v734 v753 (Gen.k0_pay58 v760) k (Scf.iv 0#32 1#32 k.val) v 0#32 1#32 t (Mv (2 * k.val + t.val)) kb) = Mv (2 * k.val + t.val + 1)

/-- One head's numbers: its scores and running maxima block by block, its two
accumulators block by block, and the two rows stored for it. `b` is the
sequence's word, `L` the length, `lwv` the length's word. -/
structure HeadSpec (P : Prop) (c : Dev nD) (X : Memref sig .tc .hbm SX .bf16) (fX : Buf (Elt F) (X.view.loc (c : Thread nD τ))) (Y : Memref sig .tc .hbm SX .fp8e4m3) (fY : Buf (Elt F) (Y.view.loc (c : Thread nD τ)))
    (v584 : IVec S8x2048 32) (b lwv : BitVec 32) (Q : Vec F S1x8x128 .bf16) (kn vn : Vec F S1x2x128 .bf16) (vs : Vec F S1x2x128 .f32) (h : ℕ)
    (Sv : ℕ → S8x2048.Idx → F .f32) (Mv : ℕ → FVec F S8x128 .f32) (Wv : ℕ → FVec F S8x128 .f32 × FVec F S8x128 .f32) (Cv Ov : Vec F S1x8x128 .f32) : Prop where
  m0 : P → Gen.k0_pay59 (F := F) = Mv 0
  key : KeyStep P c X fX v584 (clipW lwv) lwv Q Sv Mv h (lenN lwv)
  w0 : P → (Gen.k0_pay66 (F := F), Gen.k0_pay66 (F := F)) = Wv 0
  val : P → ∀ n, BlockStep P c Y fY (Gen.k0_pay64 b (Gen.k0_pay58 Q) (Mv (blks (lenN lwv))) (Gen.k0_pay60 kn) 0#32) Sv Wv h (lenN lwv) n
  cache : P → Gen.k0_pay142 (Gen.k0_pay62 b vs) (Gen.k0_pay67 b (Gen.k0_pay58 Q) (Mv (blks (lenN lwv))) (Gen.k0_pay60 kn) 0#32 (Wv (blks (lenN lwv))).1) (Gen.k0_pay68 (Wv (blks (lenN lwv))).2) = Cv
  out : P → Gen.k0_pay143 (Gen.k0_pay61 b vn) (Gen.k0_pay62 b vs) (Gen.k0_pay65 b (Gen.k0_pay58 Q) (Mv (blks (lenN lwv))) (Gen.k0_pay60 kn) 0#32) (Gen.k0_pay67 b (Gen.k0_pay58 Q) (Mv (blks (lenN lwv))) (Gen.k0_pay60 kn) 0#32 (Wv (blks (lenN lwv))).1) (Gen.k0_pay68 (Wv (blks (lenN lwv))).2) = Ov

theorem scores_zero (P : Prop) (c : Dev nD) (M : Memref sig .tc .vmem S32x8x2048 .f32) (Sv Sv' : ℕ → S8x2048.Idx → F .f32) {n : ℕ} :
    (ScoresAt P c M Sv n : sProp (MT nD τ sig Unit (Elt F) ℕ (Pipeline.UD sig nD τ) ℕ)) ⊢ ScoresAt P c M Sv' 0 := by
  unfold ScoresAt
  iintro ⟨%f, H, %_⟩
  iexists f
  isplitl [H]; · iexact H
  ipureintro
  exact fun _ z y h => absurd h (Nat.not_lt_zero _)

theorem inv_cast {M : Type} [URA M] (I : ℕ → sProp M) {n n' : ℕ} (h : n = n') : I n ⊢ I n' := by
  rw [h]

theorem off88_eq (t : Fin k0_t3_loop.trips) : k0_off88 t = ![t.val, 0, 0] := by
  have ht : t.val < 20 := t.isLt
  show ![(Scf.iv 0#32 1#32 t.val).toNat, 0, 0] = _
  rw [iv_eq _ (by omega), toNat_ofNat (by omega)]
theorem off11_eq (t : Fin k0_t3_loop.trips) : k0_off11 t = ![t.val / 10] := seq_off

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f2 : Buf (Elt F) (arg2.view.loc (c : Thread nD τ))) (f3 : Buf (Elt F) (arg3.view.loc (c : Thread nD τ))) (f4 : Buf (Elt F) (arg4.view.loc (c : Thread nD τ))) (f14 : Buf (Elt F) (arg14.view.loc (c : Thread nD τ)))

attribute [local irreducible] ScoresAt Decode.Ring BlockStep KeyStep RowsAt

/-- Between the heads. -/
abbrev InvT3 (Cv Ov : ℕ → S1x8x128.Idx → F .f32) (t : ℕ) (r : BitVec 32 × BitVec 32 × BitVec 32 × BitVec 32 × BitVec 32 × BitVec 32) : sProp 𝕄 :=
  iprop(⌜r = (BitVec.ofNat 32 (start (hl arg0 f0) t % 12), BitVec.ofNat 32 (start (hl arg0 f0) t % 12), (posW c arg0 f0 (start (hl arg0 f0) t + 12)).1, (posW c arg0 f0 (start (hl arg0 f0) t + 12)).2, (posW c arg0 f0 (start (hl arg0 f0) t + 12)).1, (posW c arg0 f0 (start (hl arg0 f0) t + 12)).2)⌝
    ∗ (arg0.view.loc (c : Thread nD τ) ↦[arg0.view.set]{q} f0) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg14.view.loc (c : Thread nD τ) ↦[arg14.view.set]{fullShare} f14) ∗ RingK c arg0 arg5 arg11 arg16 f0 fK (start (hl arg0 f0) t) (start (hl arg0 f0) t + 12) ∗ RingV c arg0 arg6 arg12 arg17 f0 fV (start (hl arg0 f0) t) (start (hl arg0 f0) t + 12)
    ∗ (∃ W, owes (c : Thread nD τ) 0 W) ∗ (∃ Sv, ScoresAt P c arg13 Sv 0) ∗ RowsAt P c arg8 Cv t ∗ RowsAt P c arg15 Ov t)

/-- The rows of a head in the staged operands and in the scratch of queries. -/
abbrev rowQ (t : Fin k0_t3_loop.trips) : Vec F S1x8x128 .bf16 := View.readAt (Elt F) arg14.view (Rect.unit (s := S20x8x128) (k0_off12 t) S1x8x128.size (Gen.k0_off12_inb t)).toLoadRect f14
abbrev rowKn (t : Fin k0_t3_loop.trips) : Vec F S1x2x128 .bf16 := View.readAt (Elt F) arg2.view (Rect.unit (s := S10x2x128) (k0_off51 t) S1x2x128.size (Gen.k0_off51_inb t)).toLoadRect f2
abbrev rowVn (t : Fin k0_t3_loop.trips) : Vec F S1x2x128 .bf16 := View.readAt (Elt F) arg3.view (Rect.unit (s := S10x2x128) (k0_off51 t) S1x2x128.size (Gen.k0_off51_inb t)).toLoadRect f3
abbrev rowVs (t : Fin k0_t3_loop.trips) : Vec F S1x2x128 .f32 := View.readAt (Elt F) arg4.view (Rect.unit (s := S10x2x128) (k0_off51 t) S1x2x128.size (Gen.k0_off51_inb t)).toLoadRect f4

set_option maxHeartbeats 400000 in
include hP in
theorem run_part28 (v584 : IVec S8x2048 32) (t3 : Fin k0_t3_loop.trips) (arg18 : BitVec 32) (v713 : BitVec 32) (v734 : BitVec 32) (c10 : BitVec 32) (v735 : BitVec 32)
    {w : ℕ} (hpw : pos (hl arg0 f0) w = (t3.val, 0)) (hw : w < 2 ^ 10) (hv : v734 = clipW (lw arg0 f0 (t3.val / 10))) (Sv : ℕ → S8x2048.Idx → F .f32) (Mv : ℕ → FVec F S8x128 .f32)
    (hm0 : P → Gen.k0_pay59 (F := F) = Mv 0) (hK : KeyStep P c arg5 fK v584 (clipW (lw arg0 f0 (t3.val / 10))) (lw arg0 f0 (t3.val / 10)) (rowQ c arg14 f14 t3) Sv Mv t3.val (hl arg0 f0 t3.val)) :
    iprop((arg0.view.loc (c : Thread nD τ) ↦[arg0.view.set]{q} f0) ∗ (arg2.view.loc (c : Thread nD τ) ↦[arg2.view.set]{q} f2) ∗ (arg14.view.loc (c : Thread nD τ) ↦[arg14.view.set]{fullShare} f14) ∗ RingK c arg0 arg5 arg11 arg16 f0 fK w (w + 12) ∗ (∃ W, owes (c : Thread nD τ) 0 W) ∗ ScoresAt P c arg13 Sv 0)
      ⊢ wp Idealize.ShloMosaic.frame (wpE (defs₀ (F := F)) Variants.none (c : Thread nD τ) none) Set.univ
        (k0_part28 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 (BitVec.ofNat 32 (w % 12)) (posW c arg0 f0 (w + 12)).1 (posW c arg0 f0 (w + 12)).2 arg18 v713 v734 c10 v735)
        (fun r => iprop(⌜r.1 = lw arg0 f0 (t3.val / 10) ∧ r.2.2.2.1 = Gen.k0_pay58 (rowQ c arg14 f14 t3) ∧ (P → r.2.2.2.2.1 = Mv (blks (hl arg0 f0 t3.val)))
            ∧ (r.2.2.2.2.2.1, r.2.2.2.2.2.2.1, r.2.2.2.2.2.2.2.1) = (BitVec.ofNat 32 ((w + ncN (hl arg0 f0 t3.val)) % 12), posW c arg0 f0 (w + ncN (hl arg0 f0 t3.val) + 12))
            ∧ r.2.2.2.2.2.2.2.2.1 = Gen.k0_pay60 (rowKn c arg2 f2 t3) ∧ r.2.2.2.2.2.2.2.2.2 = 0#32⌝
          ∗ (arg0.view.loc (c : Thread nD τ) ↦[arg0.view.set]{q} f0) ∗ (arg2.view.loc (c : Thread nD τ) ↦[arg2.view.set]{q} f2) ∗ (arg14.view.loc (c : Thread nD τ) ↦[arg14.view.set]{fullShare} f14) ∗ RingK c arg0 arg5 arg11 arg16 f0 fK (w + ncN (hl arg0 f0 t3.val)) (w + ncN (hl arg0 f0 t3.val) + 12) ∗ (∃ W, owes (c : Thread nD τ) 0 W) ∗ ScoresAt P c arg13 Sv (blks (hl arg0 f0 t3.val)))) := by
  subst hv
  have ht3 : t3.val < 20 := t3.isLt
  have h7 : ∀ v, k0_chk7 v := chk7
  have hr := lw_read (b := t3.val / 10) arg0 f0 (off11_eq t3) (by omega) (Gen.k0_off11_inb t3)
  have hN : ∀ v, v = lw arg0 f0 (t3.val / 10) → (k0_t4_loop v).trips = ncN (hl arg0 f0 t3.val) := by
    rintro v rfl
    exact nc_trips _
  have hK' : ∀ v, v = lw arg0 f0 (t3.val / 10) → KeyStep P c arg5 fK v584 (clipW (lw arg0 f0 (t3.val / 10))) v (rowQ c arg14 f14 t3) Sv Mv t3.val (hl arg0 f0 t3.val) := by
    rintro v rfl
    exact hK
  iintro ⟨H0, H2, H14, HR, HO, HS⟩
  sl_exec
  have hv : run_part28.sl.r c arg0 f0 t3 = lw arg0 f0 (t3.val / 10) := hr _
  have hn := hN _ hv
  have hK := hK' _ hv
  unfold KeyStep at hK
  have hstep := fun k acc => step_t4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP v584 t3 (BitVec.ofNat 32 (w % 12)) (posW c arg0 f0 (w + 12)).1 (posW c arg0 f0 (w + 12)).2 arg18 v713 (clipW (lw arg0 f0 (t3.val / 10))) c10 v735 (run_part28.sl.r c arg0 f0 t3) (h7 _) (rowQ c arg14 f14 t3) hv hpw hw Sv Mv k
      (hK k) acc
  have hloop := fun {β : Type} {kk : _ → Prog (TpuEff nD τ sig (Elt F) Λ₀ .tc) β} {Q : β → sProp 𝕄} => Scf.wp_for_bind Idealize.ShloMosaic.frame (wpE (defs₀ (F := F)) Variants.none (c : Thread nD τ) none) Set.univ _ _ _ (k0_t4_ok (run_part28.sl.r c arg0 f0 t3) (h7 _)) (Gen.k0_pay59 (F := F), BitVec.ofNat 32 (w % 12), (posW c arg0 f0 (w + 12)).1, (posW c arg0 f0 (w + 12)).2)
    (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 (BitVec.ofNat 32 (w % 12)) (posW c arg0 f0 (w + 12)).1 (posW c arg0 f0 (w + 12)).2 arg18 v713 (clipW (lw arg0 f0 (t3.val / 10))) c10 v735 (run_part28.sl.r c arg0 f0 t3) (h7 _) (rowQ c arg14 f14 t3))
    (InvT4 c arg0 arg5 arg11 arg13 arg16 fK P q f0 t3.val w Sv Mv)
    hstep (β := β) (kk := kk) (Q := Q)
  have hmark := 0
  iapply hloop $$ [H0 HR HO HS]
  · isplitr
    · ipureintro
      refine ⟨hm0, ?_⟩
      rw [Nat.add_zero]
      exact rfl
    isplitl [H0]; · iexact H0
    isplitl [HR]; · iexact HR
    isplitl [HO]; · iexact HO
    iexact HS
  iintro %acc HI
  ihave HI := (inv_cast (fun k => InvT4 c arg0 arg5 arg11 arg13 arg16 fK P q f0 t3.val w Sv Mv k acc) hn) $$ HI
  icases HI with ⟨%hacc, H0, HR, HO, HS⟩
  obtain ⟨m, a1, a2, a3⟩ := acc
  obtain ⟨hm, ha⟩ := hacc
  sl_exec
  sl_step
  isplitr
  · ipureintro
    exact ⟨hv, rfl, hm, ha, rfl, rfl⟩
  isplitl [H0]; · iexact H0
  isplitl [H2]; · iexact H2
  isplitl [H14]; · iexact H14
  isplitl [HR]; · iexact HR
  isplitl [HO]; · iexact HO
  iexact HS

end
end Cert.Proof.KernelIdeal
-- ==== Proof.IHeadV.lean ====
/- One head's loop over its values. -/
module

public import proofs.«01_k».proof.Proof.IHead
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (f2 : Buf (Elt F) (arg2.view.loc (c : Thread nD τ))) (f3 : Buf (Elt F) (arg3.view.loc (c : Thread nD τ))) (f4 : Buf (Elt F) (arg4.view.loc (c : Thread nD τ))) (f14 : Buf (Elt F) (arg14.view.loc (c : Thread nD τ)))

attribute [local irreducible] ScoresAt Decode.Ring BlockStep KeyStep RowsAt

set_option maxHeartbeats 400000 in
theorem run_part29 (t3 : Fin k0_t3_loop.trips) (arg18 : BitVec 32) (v711 : BitVec 32) (v713 : BitVec 32) (v753 : Elt F .i32) (hw7 : k0_chk7 v753) (v758 : BitVec 32) (v761 : FVec F S8x128 .bf16) (v769 : FVec F S8x128 .f32) (v773 : FVec F S2x128 .f32) (c0 : BitVec 32)
    {w : ℕ} (hpw : pos (hl arg0 f0) w = (t3.val, 0)) (hw : w < 2 ^ 10) (hv : v753 = lw arg0 f0 (t3.val / 10)) (Sv : ℕ → S8x2048.Idx → F .f32) (Wv : ℕ → FVec F S8x128 .f32 × FVec F S8x128 .f32)
    (hw0 : P → (Gen.k0_pay66 (F := F), Gen.k0_pay66 (F := F)) = Wv 0) (hV : ∀ n, BlockStep P c arg6 fV (Gen.k0_pay64 v711 v761 v769 v773 c0) Sv Wv t3.val (hl arg0 f0 t3.val) n) :
    iprop((arg0.view.loc (c : Thread nD τ) ↦[arg0.view.set]{q} f0) ∗ (arg3.view.loc (c : Thread nD τ) ↦[arg3.view.set]{q} f3) ∗ (arg4.view.loc (c : Thread nD τ) ↦[arg4.view.set]{q} f4) ∗ RingV c arg0 arg6 arg12 arg17 f0 fV w (w + 12) ∗ (∃ W, owes (c : Thread nD τ) 0 W) ∗ ScoresAt P c arg13 Sv (blks (hl arg0 f0 t3.val)))
      ⊢ wp Idealize.ShloMosaic.frame (wpE (defs₀ (F := F)) Variants.none (c : Thread nD τ) none) Set.univ
        (k0_part29 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 (BitVec.ofNat 32 (w % 12)) (posW c arg0 f0 (w + 12)).1 (posW c arg0 f0 (w + 12)).2 arg18 v711 v713 v753 hw7 v758 v761 v769 v773 c0)
        (fun r => iprop(⌜r.1 = Gen.k0_pay61 v711 (rowVn c arg3 f3 t3) ∧ r.2.1 = Gen.k0_pay62 v711 (rowVs c arg4 f4 t3) ∧ r.2.2.1 = Gen.k0_pay65 v711 v761 v769 v773 c0
            ∧ (r.2.2.2.1, r.2.2.2.2.1, r.2.2.2.2.2.1) = (BitVec.ofNat 32 ((w + ncN (hl arg0 f0 t3.val)) % 12), posW c arg0 f0 (w + ncN (hl arg0 f0 t3.val) + 12))
            ∧ (P → r.2.2.2.2.2.2.1 = Gen.k0_pay67 v711 v761 v769 v773 c0 (Wv (blks (hl arg0 f0 t3.val))).1) ∧ (P → r.2.2.2.2.2.2.2 = Gen.k0_pay68 (Wv (blks (hl arg0 f0 t3.val))).2)⌝
          ∗ (arg0.view.loc (c : Thread nD τ) ↦[arg0.view.set]{q} f0) ∗ (arg3.view.loc (c : Thread nD τ) ↦[arg3.view.set]{q} f3) ∗ (arg4.view.loc (c : Thread nD τ) ↦[arg4.view.set]{q} f4) ∗ RingV c arg0 arg6 arg12 arg17 f0 fV (w + ncN (hl arg0 f0 t3.val)) (w + ncN (hl arg0 f0 t3.val) + 12) ∗ (∃ W, owes (c : Thread nD τ) 0 W) ∗ ScoresAt P c arg13 Sv (blks (hl arg0 f0 t3.val)))) := by
  have ht3 : t3.val < 20 := t3.isLt
  have hn : (k0_t14_loop v753).trips = ncN (hl arg0 f0 t3.val) := by
    have e : ncN (lenN v753) = ncN (hl arg0 f0 t3.val) := by rw [hv]; rfl
    exact (nc_trips' v753).trans e
  have hstep := step_t14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 t3 (BitVec.ofNat 32 (w % 12)) (posW c arg0 f0 (w + 12)).1 (posW c arg0 f0 (w + 12)).2 arg18 v711 v713 v753 hw7 v758 v761 v769 v773 c0 hv hpw hw Sv Wv hV
  have hloop := fun {β : Type} {kk : _ → Prog (TpuEff nD τ sig (Elt F) Λ₀ .tc) β} {Q : β → sProp 𝕄} => Scf.wp_for_bind Idealize.ShloMosaic.frame (wpE (defs₀ (F := F)) Variants.none (c : Thread nD τ) none) Set.univ _ _ _ (k0_t14_ok v753 hw7) (Gen.k0_pay66 (F := F), Gen.k0_pay66 (F := F), BitVec.ofNat 32 (w % 12), (posW c arg0 f0 (w + 12)).1, (posW c arg0 f0 (w + 12)).2)
    (Gen.k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 (BitVec.ofNat 32 (w % 12)) (posW c arg0 f0 (w + 12)).1 (posW c arg0 f0 (w + 12)).2 arg18 v711 v713 v753 hw7 v758 v761 v769 v773 c0)
    (InvT14 c arg0 arg6 arg12 arg13 arg17 fV P q f0 t3.val w Sv Wv)
    hstep (β := β) (kk := kk) (Q := Q)
  iintro ⟨H0, H3, H4, HR, HO, HS⟩
  sl_exec
  iapply hloop $$ [H0 HR HO HS]
  · isplitr
    · ipureintro
      refine ⟨hw0, ?_⟩
      rw [Nat.add_zero]
      exact rfl
    isplitl [H0]; · iexact H0
    isplitl [HR]; · iexact HR
    isplitl [HO]; · iexact HO
    iexact HS
  iintro %acc HI
  ihave HI := (inv_cast (fun k => InvT14 c arg0 arg6 arg12 arg13 arg17 fV P q f0 t3.val w Sv Wv k acc) hn) $$ HI
  icases HI with ⟨%hacc, H0, HR, HO, HS⟩
  obtain ⟨l, a, a1, a2, a3⟩ := acc
  obtain ⟨hm, ha⟩ := hacc
  sl_exec
  sl_step
  isplitr
  · ipureintro
    exact ⟨rfl, rfl, rfl, ha, fun hp => congrArg (fun x => Gen.k0_pay67 v711 v761 v769 v773 c0 x.1) (hm hp), fun hp => congrArg (fun x => Gen.k0_pay68 x.2) (hm hp)⟩
  isplitl [H0]; · iexact H0
  isplitl [H3]; · iexact H3
  isplitl [H4]; · iexact H4
  isplitl [HR]; · iexact HR
  isplitl [HO]; · iexact HO
  iexact HS

end
end Cert.Proof.KernelIdeal
-- ==== Proof.IHeadT.lean ====
/- One trip of the loop over the heads. -/
module

public import proofs.«01_k».proof.Proof.IHeadV
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxRecDepth 8000 in
theorem seqW_div : ∀ h : Fin 20, Scalar.divsi (BitVec.ofNat 32 h) 10#32 = BitVec.ofNat 32 ((h : ℕ) / 10) := by decide

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f2 : Buf (Elt F) (arg2.view.loc (c : Thread nD τ))) (f3 : Buf (Elt F) (arg3.view.loc (c : Thread nD τ))) (f4 : Buf (Elt F) (arg4.view.loc (c : Thread nD τ))) (f14 : Buf (Elt F) (arg14.view.loc (c : Thread nD τ)))

attribute [local irreducible] ScoresAt Decode.Ring BlockStep KeyStep

set_option maxHeartbeats 400000 in
include hP in
theorem trip_t3 (v1_0 v1_1 v3_0 v3_1 : BitVec 32) (v557 v560 : FVec F S1x128 .f32) (v561 : Vec F S1x128 .bf16) (v584 : IVec S8x2048 32) (t3 : Fin k0_t3_loop.trips)
    (Sv : ℕ → S8x2048.Idx → F .f32) (Mv : ℕ → FVec F S8x128 .f32) (Wv : ℕ → FVec F S8x128 .f32 × FVec F S8x128 .f32) (Cv Ov : ℕ → S1x8x128.Idx → F .f32)
    (hH : HeadSpec P c arg5 fK arg6 fV v584 (seqW (Scf.iv 0#32 1#32 t3.val)) (lw arg0 f0 (t3.val / 10)) (rowQ c arg14 f14 t3) (rowKn c arg2 f2 t3) (rowVn c arg3 f3 t3) (rowVs c arg4 f4 t3) t3.val Sv Mv Wv (Cv t3.val) (Ov t3.val))
    (acc : BitVec 32 × BitVec 32 × BitVec 32 × BitVec 32 × BitVec 32 × BitVec 32) :
    InvT3 c arg0 arg2 arg3 arg4 arg5 arg6 arg8 arg11 arg12 arg13 arg14 arg15 arg16 arg17 fK fV P q f0 f2 f3 f4 f14 Cv Ov t3.val acc
      ⊢ wp Idealize.ShloMosaic.frame (wpE (defs₀ (F := F)) Variants.none (c : Thread nD τ) none) Set.univ
        (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v1_0 v1_1 v3_0 v3_1 v557 v560 v561 v584 t3 acc)
        (InvT3 c arg0 arg2 arg3 arg4 arg5 arg6 arg8 arg11 arg12 arg13 arg14 arg15 arg16 arg17 fK fV P q f0 f2 f3 f4 f14 Cv Ov (t3.val + 1)) := by
  have ht3 : t3.val < 20 := t3.isLt
  have hpw := pos_start (hl arg0 f0) (h := t3.val) (by omega)
  have hw : start (hl arg0 f0) t3.val < 2 ^ 10 := by
    have := start_le (hl arg0 f0) (hl_le arg0 f0) t3.val
    omega
  have ho := off88_eq t3
  unfold InvT3 Gen.k0_t3_body RowsAt
  iintro ⟨%hacc, H0, H2, H3, H4, H14, HRK, HRV, ⟨%W, HO⟩, ⟨%S0, HS⟩, ⟨%fC, HC, %hfC⟩, ⟨%fD, HD, %hfD⟩⟩
  subst hacc
  ihave HS := (scores_zero P c arg13 S0 Sv) $$ HS
  set_option sl_exec.stopBefore "k0_part28" in sl_exec
  have e734 : trip_t3.sl.v734 c arg0 f0 t3 = clipW (lw arg0 f0 (t3.val / 10)) := congrArg clipW (lw_read (b := t3.val / 10) arg0 f0 (off11_eq t3) (by omega) (Gen.k0_off11_inb t3) _)
  have e711 : trip_t3.sl.v711 t3 = seqW (Scf.iv 0#32 1#32 t3.val) := by
    show Scalar.divsi (Scf.iv 0#32 1#32 t3.val) 10#32 = _
    rw [iv_eq _ (by omega), seqW_eq ⟨t3.val, ht3⟩]
    exact seqW_div ⟨t3.val, ht3⟩
  have hcut := run_part28 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP f2 f14 v584 t3 (trip_t3.sl.arg18 t3) (trip_t3.sl.v713 t3) (trip_t3.sl.v734 c arg0 f0 t3) 10#32 (trip_t3.sl.v695 t3) hpw hw e734 Sv Mv hH.m0 hH.key
  set_option sl_exec.stopBefore "k0_part29" in sl_exec
  obtain ⟨q1, q2, q3, q4, q5, q6⟩ := hk0_part28_0
  have q1 : v753 = lw arg0 f0 (t3.val / 10) := q1
  have q2 : v761 = Gen.k0_pay58 (rowQ c arg14 f14 t3) := q2
  have q3 : P → v769_0 = Mv (blks (hl arg0 f0 t3.val)) := q3
  have q5 : v773 = Gen.k0_pay60 (rowKn c arg2 f2 t3) := q5
  have q6 : c0_i32_378 = 0#32 := q6
  subst q2 q5 q6
  have hcut := run_part29 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 f3 f4 t3 (trip_t3.sl.arg18 t3) (trip_t3.sl.v711 t3) (trip_t3.sl.v713 t3) v753 k0_hw7 v758 (Gen.k0_pay58 (rowQ c arg14 f14 t3)) v769_0 (Gen.k0_pay60 (rowKn c arg2 f2 t3)) 0#32 hpw hw q1 Sv Wv hH.w0
    (fun n => BlockStep.of (fun hp => by rw [e711]; exact congrArg (fun m => Gen.k0_pay64 (seqW (Scf.iv 0#32 1#32 t3.val)) (Gen.k0_pay58 (rowQ c arg14 f14 t3)) m (Gen.k0_pay60 (rowKn c arg2 f2 t3)) 0#32) (q3 hp)) (fun hp => hH.val hp n))
  sl_exec
  have q7 : P → v769_0 = Mv (blks (hl arg0 f0 t3.val)) := q3
  obtain ⟨p1, p2, p3, p4, p5, p6⟩ := hk0_part29_0
  have p1 : v785 = Gen.k0_pay61 (seqW (Scf.iv 0#32 1#32 t3.val)) (rowVn c arg3 f3 t3) := e711 ▸ p1
  have p2 : v792 = Gen.k0_pay62 (seqW (Scf.iv 0#32 1#32 t3.val)) (rowVs c arg4 f4 t3) := e711 ▸ p2
  have p3 : v804 = Gen.k0_pay65 (seqW (Scf.iv 0#32 1#32 t3.val)) (Gen.k0_pay58 (rowQ c arg14 f14 t3)) v769_0 (Gen.k0_pay60 (rowKn c arg2 f2 t3)) 0#32 := e711 ▸ p3
  have p5 : P → v815 = Gen.k0_pay67 (seqW (Scf.iv 0#32 1#32 t3.val)) (Gen.k0_pay58 (rowQ c arg14 f14 t3)) v769_0 (Gen.k0_pay60 (rowKn c arg2 f2 t3)) 0#32 (Wv (blks (hl arg0 f0 t3.val))).1 := e711 ▸ p5
  have p6 : P → v817 = Gen.k0_pay68 (Wv (blks (hl arg0 f0 t3.val))).2 := p6
  have q4 : (v769_1, v769_2, v769_3) = (BitVec.ofNat 32 (start (hl arg0 f0) (t3.val + 1) % 12), posW c arg0 f0 (start (hl arg0 f0) (t3.val + 1) + 12)) := q4
  have p4 : (v812_2, v812_3, v812_4) = (BitVec.ofNat 32 (start (hl arg0 f0) (t3.val + 1) % 12), posW c arg0 f0 (start (hl arg0 f0) (t3.val + 1) + 12)) := p4
  sl_step
  isplitr
  · ipureintro
    have a1 := congrArg Prod.fst q4
    have a2 := congrArg (fun z => z.2.1) q4
    have a3 := congrArg (fun z => z.2.2) q4
    have b1 := congrArg Prod.fst p4
    have b2 := congrArg (fun z => z.2.1) p4
    have b3 := congrArg (fun z => z.2.2) p4
    dsimp only at a1 a2 a3 b1 b2 b3
    rw [a1, a2, a3, b1, b2, b3]
  isplitl [Hk0_part29_1]; · iexact Hk0_part29_1
  isplitl [Hk0_part28_2]; · iexact Hk0_part28_2
  isplitl [Hk0_part29_2]; · iexact Hk0_part29_2
  isplitl [Hk0_part29_3]; · iexact Hk0_part29_3
  isplitl [Hk0_part28_3]; · iexact Hk0_part28_3
  isplitl [Hk0_part28_4]; · iexact Hk0_part28_4
  isplitl [Hk0_part29_4]; · iexact Hk0_part29_4
  isplitl [Hk0_part29_5]; · iexists _; iexact Hk0_part29_5
  isplitl [Hk0_part29_6]
  · iexists Sv
    ihave HZ := (scores_zero P c arg13 Sv Sv) $$ Hk0_part29_6
    iexact HZ
  isplitl [HC]
  · iexists _
    isplitl [HC]; · iexact HC
    ipureintro
    exact rows_store P c arg8 Cv ho (Gen.k0_off88_inb t3) _ hfC (fun hp => by rw [p2, p5 hp, p6 hp, q7 hp]; exact hH.cache hp)
  · iexists _
    isplitl [HD]; · iexact HD
    ipureintro
    exact rows_store P c arg15 Ov ho (Gen.k0_off88_inb t3) _ hfD (fun hp => by rw [p1, p2, p3, p5 hp, p6 hp, q7 hp]; exact hH.out hp)

end
end Cert.Proof.KernelIdeal
-- ==== Proof.IHeads.lean ====
/- The loop over the twenty heads. -/
module

public import proofs.«01_k».proof.Proof.IHeadT
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What holds for the queries `Q'` holds for the queries `Q`, when those are the same. -/
theorem HeadSpec.of {P : Prop} {c : Dev nD} {X : Memref sig .tc .hbm SX .bf16} {fX : Buf (Elt F) (X.view.loc (c : Thread nD τ))} {Y : Memref sig .tc .hbm SX .fp8e4m3} {fY : Buf (Elt F) (Y.view.loc (c : Thread nD τ))}
    {v584 : IVec S8x2048 32} {b lwv : BitVec 32} {Q Q' : Vec F S1x8x128 .bf16} {kn vn : Vec F S1x2x128 .bf16} {vs : Vec F S1x2x128 .f32} {h : ℕ}
    {Sv : ℕ → S8x2048.Idx → F .f32} {Mv : ℕ → FVec F S8x128 .f32} {Wv : ℕ → FVec F S8x128 .f32 × FVec F S8x128 .f32} {Cv Ov : Vec F S1x8x128 .f32}
    (e : P → Q = Q') (H : HeadSpec P c X fX Y fY v584 b lwv Q' kn vn vs h Sv Mv Wv Cv Ov) : HeadSpec P c X fX Y fY v584 b lwv Q kn vn vs h Sv Mv Wv Cv Ov := by
  by_cases hP : P
  · rw [e hP]; exact H
  · exact ⟨fun hp => absurd hp hP, fun _ hp => absurd hp hP, fun hp => absurd hp hP, fun hp => absurd hp hP, fun hp => absurd hp hP, fun hp => absurd hp hP⟩

theorem rows_none {e : EltTy} (P : Prop) (c : Dev nD) (M : Memref sig .tc .vmem S20x8x128 e) (Rv : ℕ → S1x8x128.Idx → Elt F e) (f : Buf (Elt F) (M.view.loc (c : Thread nD τ))) :
    ((M.view.loc (c : Thread nD τ) ↦[M.view.set]{fullShare} f) : sProp (MT nD τ sig Unit (Elt F) ℕ (Pipeline.UD sig nD τ) ℕ)) ⊢ RowsAt P c M Rv 0 := by
  unfold RowsAt
  iintro H
  iexists f
  isplitl [H]; · iexact H
  ipureintro
  exact fun _ z y h => absurd h (Nat.not_lt_zero _)

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))

attribute [local irreducible] ScoresAt Decode.Ring BlockStep KeyStep

/-- The eight queries of a head's words in row `a` of the argument. -/
abbrev xs (f1 : Buf (Elt F) (arg1.view.loc (c : Thread nD τ))) (o : Fin 2 → ℕ) (h : ∀ a, o a + S1x128.size a ≤ S2x10240.size a) : Vec F S1x128 .bf16 :=
  View.readAt (Elt F) arg1.view (Rect.unit (s := S2x10240) o S1x128.size h).toLoadRect f1

set_option maxHeartbeats 400000 in
include hP in
theorem run_part46 (v1_0 v1_1 v3_0 v3_1 : BitVec 32) (v557 v560 : FVec F S1x128 .f32) (v561 : Vec F S1x128 .bf16) (g : Buf (Elt F) (arg14.view.loc (c : Thread nD τ)))
    (h1 : (v1_0, v1_1) = posW c arg0 f0 12) (h3 : (v3_0, v3_1) = posW c arg0 f0 12)
    (Sv : ℕ → ℕ → S8x2048.Idx → F .f32) (Mv : ℕ → ℕ → FVec F S8x128 .f32) (Wv : ℕ → ℕ → FVec F S8x128 .f32 × FVec F S8x128 .f32) (Qv : ℕ → Vec F S1x8x128 .bf16) (Cv Ov : ℕ → S1x8x128.Idx → F .f32)
    (hQ : P → ∀ t3 : Fin k0_t3_loop.trips, rowQ c arg14 (arg14.view.writes (Elt F) g [⟨Rect.unit (s := S20x8x128) ![19, 0, 0] S1x8x128.size Gen.inb_S20x8x128_S1x8x128_19_0_0, Gen.k0_pay140 v557 v560 v561 (xs c arg1 f1 ![1, 9600] Gen.inb_S2x10240_S1x128_1_9600) (xs c arg1 f1 ![1, 9728] Gen.inb_S2x10240_S1x128_1_9728) (xs c arg1 f1 ![1, 9856] Gen.inb_S2x10240_S1x128_1_9856) (xs c arg1 f1 ![1, 9984] Gen.inb_S2x10240_S1x128_1_9984) (xs c arg1 f1 ![1, 10112] Gen.inb_S2x10240_S1x128_1_10112)⟩]) t3 = Qv t3.val)
    (hH : ∀ t3 : Fin k0_t3_loop.trips, HeadSpec P c arg5 fK arg6 fV (iota .tc S8x2048 32 [1] Gen.iota_S8x2048_d1_w32) (seqW (Scf.iv 0#32 1#32 t3.val)) (lw arg0 f0 (t3.val / 10)) (Qv t3.val) (rowKn c arg2 f2 t3) (rowVn c arg3 f3 t3) (rowVs c arg4 f4 t3) t3.val (Sv t3.val) (Mv t3.val) (Wv t3.val) (Cv t3.val) (Ov t3.val)) :
    iprop((arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg14.view.loc (c : Thread nD τ) ↦[arg14.view.set]{fullShare} g) ∗ RingK c arg0 arg5 arg11 arg16 f0 fK 0 12 ∗ RingV c arg0 arg6 arg12 arg17 f0 fV 0 12
        ∗ (∃ W, owes (c : Thread nD τ) 0 W) ∗ (∃ Sv, ScoresAt P c arg13 Sv 0) ∗ RowsAt P c arg8 Cv 0 ∗ RowsAt P c arg15 Ov 0)
      ⊢ wp Idealize.ShloMosaic.frame (wpE (defs₀ (F := F)) Variants.none (c : Thread nD τ) none) Set.univ
        (k0_part46 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v1_0 v1_1 v3_0 v3_1 v557 v560 v561)
        (fun r => iprop(∃ f15 : Buf (Elt F) (arg15.view.loc (c : Thread nD τ)), ⌜r.1 = Gen.k0_pay144 (View.readAt (Elt F) arg15.view (Rect.unit (s := S20x8x128) ![0, 0, 0] S10x8x128.size Gen.inb_S20x8x128_S10x8x128_0_0_0).toLoadRect f15)
            ∧ (P → ∀ (z : S20x8x128.Idx) (y : S1x8x128.Idx), (z 0).val < 20 → (z 1).val = (y 1).val → (z 2).val = (y 2).val → arg15.view.read (Elt F) f15 z = Ov (z 0).val y)⌝
          ∗ (arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (∃ f14, (arg14.view.loc (c : Thread nD τ) ↦[arg14.view.set]{fullShare} f14)) ∗ RingK c arg0 arg5 arg11 arg16 f0 fK (start (hl arg0 f0) 20) (start (hl arg0 f0) 20 + 12) ∗ RingV c arg0 arg6 arg12 arg17 f0 fV (start (hl arg0 f0) 20) (start (hl arg0 f0) 20 + 12)
          ∗ (∃ W, owes (c : Thread nD τ) 0 W) ∗ (∃ Sv, ScoresAt P c arg13 Sv 0) ∗ RowsAt P c arg8 Cv 20 ∗ (arg15.view.loc (c : Thread nD τ) ↦[arg15.view.set]{fullShare} f15))) := by
  have e1 : v1_0 = (posW c arg0 f0 12).1 := congrArg Prod.fst h1
  have e2 : v1_1 = (posW c arg0 f0 12).2 := congrArg Prod.snd h1
  have e3 : v3_0 = (posW c arg0 f0 12).1 := congrArg Prod.fst h3
  have e4 : v3_1 = (posW c arg0 f0 12).2 := congrArg Prod.snd h3
  clear h1 h3
  subst e1 e2 e3 e4
  have hs0 : start (hl arg0 f0) 0 = 0 := rfl
  have hn : k0_t3_loop.trips = 20 := rfl
  generalize hf14 : arg14.view.writes (Elt F) g [⟨Rect.unit (s := S20x8x128) ![19, 0, 0] S1x8x128.size Gen.inb_S20x8x128_S1x8x128_19_0_0, Gen.k0_pay140 v557 v560 v561 (xs c arg1 f1 ![1, 9600] Gen.inb_S2x10240_S1x128_1_9600) (xs c arg1 f1 ![1, 9728] Gen.inb_S2x10240_S1x128_1_9728) (xs c arg1 f1 ![1, 9856] Gen.inb_S2x10240_S1x128_1_9856) (xs c arg1 f1 ![1, 9984] Gen.inb_S2x10240_S1x128_1_9984) (xs c arg1 f1 ![1, 10112] Gen.inb_S2x10240_S1x128_1_10112)⟩] = f14 at hQ
  have hstep : ∀ (k : Fin k0_t3_loop.trips) acc, _ := fun k acc => trip_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK fV P q f0 hP f2 f3 f4 f14 (posW c arg0 f0 12).1 (posW c arg0 f0 12).2 (posW c arg0 f0 12).1 (posW c arg0 f0 12).2 v557 v560 v561 (iota .tc S8x2048 32 [1] Gen.iota_S8x2048_d1_w32) k (Sv k.val) (Mv k.val) (Wv k.val) Cv Ov (HeadSpec.of (fun hp => hQ hp k) (hH k)) acc
  have hloop := fun {β : Type} {kk : _ → Prog (TpuEff nD τ sig (Elt F) Λ₀ .tc) β} {Q : β → sProp 𝕄} => Scf.wp_for_bind Idealize.ShloMosaic.frame (wpE (defs₀ (F := F)) Variants.none (c : Thread nD τ) none) Set.univ _ _ _ Gen.k0_t3_ok (0#32, 0#32, (posW c arg0 f0 12).1, (posW c arg0 f0 12).2, (posW c arg0 f0 12).1, (posW c arg0 f0 12).2)
    (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 (posW c arg0 f0 12).1 (posW c arg0 f0 12).2 (posW c arg0 f0 12).1 (posW c arg0 f0 12).2 v557 v560 v561 (iota .tc S8x2048 32 [1] Gen.iota_S8x2048_d1_w32))
    (InvT3 c arg0 arg2 arg3 arg4 arg5 arg6 arg8 arg11 arg12 arg13 arg14 arg15 arg16 arg17 fK fV P q f0 f2 f3 f4 f14 Cv Ov) hstep (β := β) (kk := kk) (Q := Q)
  iintro ⟨H0, H1, H2, H3, H4, H14, HRK, HRV, HO, HS, HC, HD⟩
  sl_exec
  rw [hf14]
  iapply hloop $$ [H0 H2 H3 H4 H14 HRK HRV HO HS HC HD]
  · isplitr
    · ipureintro
      rw [hs0, Nat.zero_add]
    isplitl [H0]; · iexact H0
    isplitl [H2]; · iexact H2
    isplitl [H3]; · iexact H3
    isplitl [H4]; · iexact H4
    isplitl [H14]; · iexact H14
    isplitl [HRK]; · iexact HRK
    isplitl [HRV]; · iexact HRV
    isplitl [HO]; · iexact HO
    isplitl [HS]; · iexact HS
    isplitl [HC]; · iexact HC
    iexact HD
  iintro %acc HI
  ihave HI := (inv_cast (fun k => InvT3 c arg0 arg2 arg3 arg4 arg5 arg6 arg8 arg11 arg12 arg13 arg14 arg15 arg16 arg17 fK fV P q f0 f2 f3 f4 f14 Cv Ov k acc) hn) $$ HI
  icases HI with ⟨-, H0, H2, H3, H4, H14, HRK, HRV, HO, HS, HC, HD⟩
  unfold RowsAt
  icases HD with ⟨%f15, HD, %hf15⟩
  obtain ⟨a1, a2, a3, a4, a5, a6⟩ := acc
  sl_exec
  sl_step
  iexists f15
  isplitr; · ipureintro; exact ⟨rfl, hf15⟩
  isplitl [H0]; · iexact H0
  isplitl [H1]; · iexact H1
  isplitl [H2]; · iexact H2
  isplitl [H3]; · iexact H3
  isplitl [H4]; · iexact H4
  isplitl [H14]; · iexists _; iexact H14
  isplitl [HRK]; · iexact HRK
  isplitl [HRV]; · iexact HRV
  isplitl [HO]; · iexact HO
  isplitl [HS]; · iexact HS
  isplitl [HC]; · iexact HC
  iexact HD

end
end Cert.Proof.KernelIdeal
-- ==== Proof.IQRows.lean ====
/- The queries' rows as the body stacks them: eight rows of 128 for each head. -/
module

public import proofs.«01_k».proof.Proof.IHead
public import Idealize.ShloMosaic.Lib.Pointwise

@[expose] public section

set_option maxRecDepth 16384

noncomputable section

namespace Cert.Proof.KernelIdeal

open Cert.KernelIdeal Decode
open Idealize.ShloMosaic Idealize.ShloMosaic.TcCoe

variable {F : FTy → Type} [FloatOps F]

/-- Eight rows stacked. -/
def stack8 (x0 x1 x2 x3 x4 x5 x6 x7 : Vec F S1x128 .bf16) : FVec F S1x8x128 .bf16 :=
  shapeCast S1x8x128 (truncf .bf16 (concatenate S8x128 0
    [⟨S1x128, extf .f32 (shapeCast S1x128 x0 Gen.shapeCasts_S1x128_S1x128) Gen.bitsLt_bf16_f32⟩, ⟨S1x128, extf .f32 (shapeCast S1x128 x1 Gen.shapeCasts_S1x128_S1x128) Gen.bitsLt_bf16_f32⟩,
      ⟨S1x128, extf .f32 (shapeCast S1x128 x2 Gen.shapeCasts_S1x128_S1x128) Gen.bitsLt_bf16_f32⟩, ⟨S1x128, extf .f32 (shapeCast S1x128 x3 Gen.shapeCasts_S1x128_S1x128) Gen.bitsLt_bf16_f32⟩,
      ⟨S1x128, extf .f32 (shapeCast S1x128 x4 Gen.shapeCasts_S1x128_S1x128) Gen.bitsLt_bf16_f32⟩, ⟨S1x128, extf .f32 (shapeCast S1x128 x5 Gen.shapeCasts_S1x128_S1x128) Gen.bitsLt_bf16_f32⟩,
      ⟨S1x128, extf .f32 (shapeCast S1x128 x6 Gen.shapeCasts_S1x128_S1x128) Gen.bitsLt_bf16_f32⟩, ⟨S1x128, extf .f32 (shapeCast S1x128 x7 Gen.shapeCasts_S1x128_S1x128) Gen.bitsLt_bf16_f32⟩]
    Gen.concatenates_S1x128_S1x128_S1x128_S1x128_S1x128_S1x128_S1x128_S1x128_S8x128_d0) Gen.bitsLt_bf16_f32) Gen.shapeCasts_S8x128_S1x8x128

theorem stack8_at (h : ∀ x : F .bf16, FloatOps.truncf (F := F) .bf16 Gen.bitsLt_bf16_f32 (FloatOps.extf (F := F) .f32 Gen.bitsLt_bf16_f32 x) = x)
    (x0 x1 x2 x3 x4 x5 x6 x7 : Vec F S1x128 .bf16) (j : Fin 8) (d : Fin 128) : stack8 x0 x1 x2 x3 x4 x5 x6 x7 (ix3 0 j d) = (![x0, x1, x2, x3, x4, x5, x6, x7] j) (ix2 0 d) := by
  unfold stack8
  fin_cases j <;>
  · pointwise
    exact h _

section
variable (P : Prop) (hP : P → ∀ x : F .bf16, FloatOps.truncf (F := F) .bf16 Gen.bitsLt_bf16_f32 (FloatOps.extf (F := F) .f32 Gen.bitsLt_bf16_f32 x) = x)
variable (c : Dev nD) (arg1 : Memref sig .tc .vmem S2x10240 .bf16) (f1 : Buf (Elt F) (arg1.view.loc (c : Thread nD τ)))
variable (arg14 : Memref sig .tc .vmem S20x8x128 .bf16) (Qv : ℕ → Vec F S1x8x128 .bf16)

/-- Head `h`'s queries are its eight runs of 128 numbers in its sequence's row. -/
def QueryRows : Prop :=
  P → ∀ (h : ℕ) (z : S1x8x128.Idx) (x : S2x10240.Idx), h < 20 → (x 0).val = h / 10 → (x 1).val = 128 * (8 * (h % 10) + (z 1).val) + (z 2).val → Qv h z = arg1.view.read (Elt F) f1 x

/-- The run of 128 numbers at `o`. -/
abbrev run (o : Fin 2 → ℕ) (h : ∀ a, o a + S1x128.size a ≤ S2x10240.size a) : Vec F S1x128 .bf16 := View.readAt (Elt F) arg1.view (Rect.unit (s := S2x10240) o S1x128.size h).toLoadRect f1

theorem run_at (o : Fin 2 → ℕ) (h : ∀ a, o a + S1x128.size a ≤ S2x10240.size a) (d : Fin 128) (x : S2x10240.Idx) (x0 : (x 0).val = o 0) (x1 : (x 1).val = o 1 + d.val) :
    run c arg1 f1 o h (ix2 0 d) = arg1.view.read (Elt F) f1 x := by
  refine congrArg (arg1.view.read (Elt F) f1) (funext fun a => Fin.ext ?_)
  refine (Fin.forall_fin_succ.mpr ⟨?_, Fin.forall_fin_succ.mpr ⟨?_, fun x => x.elim0⟩⟩ : ∀ a : Fin 2, ((Rect.unit (s := S2x10240) o S1x128.size h).emb (ix2 0 d) a).val = (x a).val) a
  · show o 0 + 1 * 0 = (x 0).val; omega
  · show o 1 + 1 * d.val = (x 1).val; omega

include hP in
theorem stack_row (hQ : QueryRows P c arg1 f1 Qv) {n : ℕ} {o0 o1 o2 o3 o4 o5 o6 o7 : Fin 2 → ℕ} {h0 h1 h2 h3 h4 h5 h6 h7} (hn : n < 20)
    (e : ∀ i : Fin 8, (![o0, o1, o2, o3, o4, o5, o6, o7] i) 0 = n / 10 ∧ (![o0, o1, o2, o3, o4, o5, o6, o7] i) 1 = 128 * (8 * (n % 10) + i.val)) :
    P → stack8 (run c arg1 f1 o0 h0) (run c arg1 f1 o1 h1) (run c arg1 f1 o2 h2) (run c arg1 f1 o3 h3) (run c arg1 f1 o4 h4) (run c arg1 f1 o5 h5) (run c arg1 f1 o6 h6) (run c arg1 f1 o7 h7) = Qv n := by
  intro hp
  funext z
  obtain ⟨a, j, d, rfl⟩ : ∃ (a : Fin 1) (j : Fin 8) (d : Fin 128), z = ix3 a j d := ⟨_, _, _, eq_ix3 z⟩
  obtain rfl : a = 0 := Subsingleton.elim _ _
  rw [stack8_at (hP hp)]
  have hx := hQ hp n (ix3 0 j d) (ix2 ⟨n / 10, by omega⟩ ⟨128 * (8 * (n % 10) + j.val) + d.val, by omega⟩) hn rfl rfl
  rw [hx]
  have ej := e j
  fin_cases j <;> exact run_at c arg1 f1 _ _ _ _ ej.1.symm (congrArg (· + d.val) ej.2.symm)

/-- The row of head `n` written above the ones there are. -/
theorem row_write {n : ℕ} (hinb : ∀ x, (![n, 0, 0] : Fin 3 → ℕ) x + S1x8x128.size x ≤ S20x8x128.size x) (f : Buf (Elt F) (arg14.view.loc (c : Thread nD τ)))
    (L : List (View.Piece (Elt F) S20x8x128 .bf16)) (w : (Rect.unit (s := S20x8x128) ![n, 0, 0] S1x8x128.size hinb).shape.Idx → Elt F .bf16) (hw : P → w = Qv n)
    (hf : P → ∀ (z : S20x8x128.Idx) (y : S1x8x128.Idx), (z 0).val < n → (z 1).val = (y 1).val → (z 2).val = (y 2).val → arg14.view.read (Elt F) (arg14.view.writes (Elt F) f L) z = Qv (z 0).val y) :
    P → ∀ (z : S20x8x128.Idx) (y : S1x8x128.Idx), (z 0).val < n + 1 → (z 1).val = (y 1).val → (z 2).val = (y 2).val →
      arg14.view.read (Elt F) (arg14.view.writes (Elt F) f (⟨Rect.unit (s := S20x8x128) ![n, 0, 0] S1x8x128.size hinb, w⟩ :: L)) z = Qv (z 0).val y :=
  rows_store P c arg14 Qv rfl hinb w hf hw

/-- A head's row read back. -/
theorem row_read (f : Buf (Elt F) (arg14.view.loc (c : Thread nD τ)))
    (hf : P → ∀ (z : S20x8x128.Idx) (y : S1x8x128.Idx), (z 0).val < 20 → (z 1).val = (y 1).val → (z 2).val = (y 2).val → arg14.view.read (Elt F) f z = Qv (z 0).val y) :
    P → ∀ t3 : Fin k0_t3_loop.trips, rowQ c arg14 f t3 = Qv t3.val := by
  intro hp t3
  have ht : t3.val < 20 := t3.isLt
  funext y
  have hy : (y 0).val < 1 := (y 0).isLt
  have e : ∀ a, k0_off12 t3 a = (![t3.val, 0, 0] : Fin 3 → ℕ) a := fun a => congrFun (off88_eq t3) a
  have z0 : (((Rect.unit (s := S20x8x128) (k0_off12 t3) S1x8x128.size (Gen.k0_off12_inb t3)).emb y) 0).val = t3.val := by
    show k0_off12 t3 0 + 1 * (y 0).val = t3.val
    rw [e 0]; show t3.val + 1 * (y 0).val = t3.val; omega
  have h := hf hp ((Rect.unit (s := S20x8x128) (k0_off12 t3) S1x8x128.size (Gen.k0_off12_inb t3)).emb y) y (by omega)
    (by show k0_off12 t3 1 + 1 * (y 1).val = _; rw [e 1]; show 0 + 1 * (y 1).val = _; omega)
    (by show k0_off12 t3 2 + 1 * (y 2).val = _; rw [e 2]; show 0 + 1 * (y 2).val = _; omega)
  rw [z0] at h
  exact h

end

end Cert.Proof.KernelIdeal
-- ==== Proof.IBody.lean ====
/- The kernel's body: the first fetches, the loop over the heads, and the results written. -/
module

public import proofs.«01_k».proof.Proof.IHeads
public import proofs.«01_k».proof.Proof.IQRows
public import proofs.«01_k».proof.Proof.Gen.KernelIdeal.Loops
public import Idealize.ShloMosaic.Lib.LoopRemainder
public import Idealize.ShloMosaic.Lib.Pipeline.Value

@[expose] public section

set_option maxRecDepth 16384

noncomputable section

namespace Cert.Proof.KernelIdeal

open Cert.KernelIdeal Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))

/-- What the result's buffer holds once the accumulated rows are written to it. -/
def outWrites (c : Dev nD) (arg7 : Memref sig .tc .vmem S160x128 .bf16) (arg15 : Memref sig .tc .vmem S20x8x128 .f32)
    (f7 : Buf (Elt F) (arg7.view.loc (c : Thread nD τ))) (f15 : Buf (Elt F) (arg15.view.loc (c : Thread nD τ))) : Buf (Elt F) (arg7.view.loc (c : Thread nD τ)) :=
  arg7.view.writes (Elt F) f7
    [⟨Rect.unit (s := S160x128) ![80, 0] S80x128.size Gen.inb_S160x128_S80x128_80_0, Gen.k0_pay2 (Gen.k0_pay152 (arg15.view.readAt (Elt F) (Rect.unit (s := S20x8x128) ![10, 0, 0] S10x8x128.size Gen.inb_S20x8x128_S10x8x128_10_0_0).toLoadRect f15))⟩,
      ⟨Rect.unit (s := S160x128) ![0, 0] S80x128.size Gen.inb_S160x128_S80x128_0_0, Gen.k0_pay150 (Gen.k0_pay144 (arg15.view.readAt (Elt F) (Rect.unit (s := S20x8x128) ![0, 0, 0] S10x8x128.size Gen.inb_S20x8x128_S10x8x128_0_0_0).toLoadRect f15))⟩]

/-- A fact of a buffer's contents, the contents otherwise forgotten. -/
theorem known (Φ : Buf (Elt F) (arg14.view.loc (c : Thread nD τ)) → Prop) (g : Buf (Elt F) (arg14.view.loc (c : Thread nD τ))) (h : Φ g) :
    (arg14.view.loc (c : Thread nD τ) ↦[arg14.view.set]{fullShare} g : sProp 𝕄) ⊢ iprop(∃ g, ⌜Φ g⌝ ∗ (arg14.view.loc (c : Thread nD τ) ↦[arg14.view.set]{fullShare} g)) := by
  iintro H; iexists g
  isplitr; · ipureintro; exact h
  iexact H

attribute [local irreducible] ScoresAt Decode.Ring BlockStep KeyStep RowsAt

set_option maxHeartbeats 400000 in
include hP in
theorem run_body (Sv : ℕ → ℕ → S8x2048.Idx → F .f32) (Mv : ℕ → ℕ → FVec F S8x128 .f32) (Wv : ℕ → ℕ → FVec F S8x128 .f32 × FVec F S8x128 .f32) (Qv : ℕ → Vec F S1x8x128 .bf16) (Cv Ov : ℕ → S1x8x128.Idx → F .f32)
    (hQ : QueryRows P c arg1 f1 Qv)
    (hH : ∀ t3 : Fin k0_t3_loop.trips, HeadSpec P c arg5 fK arg6 fV (iota .tc S8x2048 32 [1] Gen.iota_S8x2048_d1_w32) (seqW (Scf.iv 0#32 1#32 t3.val)) (lw arg0 f0 (t3.val / 10)) (Qv t3.val) (rowKn c arg2 f2 t3) (rowVn c arg3 f3 t3) (rowVs c arg4 f4 t3) t3.val (Sv t3.val) (Mv t3.val) (Wv t3.val) (Cv t3.val) (Ov t3.val))
    (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (f14 : Buf (Elt F) (arg14.view.loc (c : Thread nD τ))) (f15 : Buf (Elt F) (arg15.view.loc (c : Thread nD τ))) :
    iprop((arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4)
        ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (∃ Sv, ScoresAt P c arg13 Sv 0) ∗ (arg14.view.loc (c : Thread nD τ) ↦[arg14.view.set]{fullShare} f14) ∗ (arg15.view.loc (c : Thread nD τ) ↦[arg15.view.set]{fullShare} f15)
        ∗ RingK c arg0 arg5 arg11 arg16 f0 fK 0 0 ∗ RingV c arg0 arg6 arg12 arg17 f0 fV 0 0 ∗ (∃ W, owes (c : Thread nD τ) 0 W))
      ⊢ wp Idealize.ShloMosaic.frame (wpE (defs₀ (F := F)) Variants.none (c : Thread nD τ) none) Set.univ
        (Gen.cc0_gqa_decode_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17)
        (fun _ => iprop(∃ (w : ℕ) (f15 : Buf (Elt F) (arg15.view.loc (c : Thread nD τ))),
          ⌜20 ≤ (pos (hl arg0 f0) w).1 ∧ (P → ∀ (z : S20x8x128.Idx) (y : S1x8x128.Idx), (z 0).val < 20 → (z 1).val = (y 1).val → (z 2).val = (y 2).val → arg15.view.read (Elt F) f15 z = Ov (z 0).val y)⌝
          ∗ (arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4)
          ∗ (arg7.view.loc (c : Thread nD τ) ↦[arg7.view.set]{fullShare} outWrites c arg7 arg15 f7 f15)
          ∗ RowsAt P c arg8 Cv 20 ∗ (∃ f, arg9.view.loc (c : Thread nD τ) ↦[arg9.view.set]{fullShare} f) ∗ (∃ f, arg10.view.loc (c : Thread nD τ) ↦[arg10.view.set]{fullShare} f)
          ∗ (∃ Sv, ScoresAt P c arg13 Sv 0) ∗ (∃ f, arg14.view.loc (c : Thread nD τ) ↦[arg14.view.set]{fullShare} f) ∗ (arg15.view.loc (c : Thread nD τ) ↦[arg15.view.set]{fullShare} f15)
          ∗ RingK c arg0 arg5 arg11 arg16 f0 fK w (w + 12) ∗ RingV c arg0 arg6 arg12 arg17 f0 fV w (w + 12) ∗ (∃ W, owes (c : Thread nD τ) 0 W))) := by
  unfold Gen.cc0_gqa_decode_skel
  iintro ⟨H0, H1, H2, H3, H4, H7, H8, H9, H10, HS, H14, H15, HRK, HRV, ⟨%W, HO⟩⟩
  icases HS with ⟨%Sv0, HS⟩
  set_option sl_exec.stopBefore "k0_part46" in sl_exec
  have hn : Scf.trips k0_t1_loop.lb k0_t1_loop.ub k0_t1_loop.st = 12 := rfl
  have hn' : Scf.trips k0_t2_loop.lb k0_t2_loop.ub k0_t2_loop.st = 12 := rfl
  ihave H14 := (known c arg14 (fun g => P → ∀ t3 : Fin k0_t3_loop.trips, rowQ c arg14 (arg14.view.writes (Elt F) g [⟨Rect.unit (s := S20x8x128) ![19, 0, 0] S1x8x128.size Gen.inb_S20x8x128_S1x8x128_19_0_0, Gen.k0_pay140 (run_body.sl.r_53 c arg1 f1) (run_body.sl.r_54 c arg1 f1) (run_body.sl.r_55 c arg1 f1) (xs c arg1 f1 ![1, 9600] Gen.inb_S2x10240_S1x128_1_9600) (xs c arg1 f1 ![1, 9728] Gen.inb_S2x10240_S1x128_1_9728) (xs c arg1 f1 ![1, 9856] Gen.inb_S2x10240_S1x128_1_9856) (xs c arg1 f1 ![1, 9984] Gen.inb_S2x10240_S1x128_1_9984) (xs c arg1 f1 ![1, 10112] Gen.inb_S2x10240_S1x128_1_10112)⟩]) t3 = Qv t3.val) _ (by
      refine row_read P c arg14 Qv _ (row_write P c arg14 Qv (n := 19) _ _ [] _ (stack_row P hP c arg1 f1 Qv hQ (by decide) (by decide)) ?_)
      rw [View.writes_nil]
      iterate 19 refine row_write P c arg14 Qv _ _ _ _ (stack_row P hP c arg1 f1 Qv hQ (by decide) (by decide)) ?_
      exact fun _ z _ h => absurd h (Nat.not_lt_zero _))) $$ H14
  icases H14 with ⟨%g, %hg, H14⟩
  have hcut := run_part46 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK fV P q f0 hP f1 f2 f3 f4
    (BitVec.ofNat 32 (pos (hl arg0 f0) (Scf.trips k0_t1_loop.lb k0_t1_loop.ub k0_t1_loop.st)).1)
    (BitVec.ofNat 32 (pos (hl arg0 f0) (Scf.trips k0_t1_loop.lb k0_t1_loop.ub k0_t1_loop.st)).2)
    (BitVec.ofNat 32 (pos (hl arg0 f0) (Scf.trips k0_t2_loop.lb k0_t2_loop.ub k0_t2_loop.st)).1)
    (BitVec.ofNat 32 (pos (hl arg0 f0) (Scf.trips k0_t2_loop.lb k0_t2_loop.ub k0_t2_loop.st)).2)
    (run_body.sl.r_53 c arg1 f1) (run_body.sl.r_54 c arg1 f1) (run_body.sl.r_55 c arg1 f1) g rfl rfl Sv Mv Wv Qv Cv Ov hg hH
  ihave H8 := (rows_none P c arg8 Cv f8) $$ H8
  ihave H15 := (rows_none P c arg15 Ov f15) $$ H15
  ihave HRK := (inv_cast (fun n => RingK c arg0 arg5 arg11 arg16 f0 fK 0 n) hn) $$ HRK
  ihave HRV := (inv_cast (fun n => RingV c arg0 arg6 arg12 arg17 f0 fV 0 n) hn') $$ HRV
  sl_exec
  obtain ⟨e588, hO⟩ := hk0_part46_0
  have e588 : v588 = _ := e588
  subst e588
  sl_step
  iexists _, f15k0_part46_0
  isplitr
  · ipureintro
    exact ⟨by rw [pos_start (hl arg0 f0) (Nat.le_refl 20)], hO⟩
  isplitl [Hk0_part46_1]; · iexact Hk0_part46_1
  isplitl [Hk0_part46_2]; · iexact Hk0_part46_2
  isplitl [Hk0_part46_3]; · iexact Hk0_part46_3
  isplitl [Hk0_part46_4]; · iexact Hk0_part46_4
  isplitl [Hk0_part46_5]; · iexact Hk0_part46_5
  isplitl [H7]; · iexact H7
  isplitl [Hk0_part46_11]; · iexact Hk0_part46_11
  isplitl [H9]; · iexists _; iexact H9
  isplitl [H10]; · iexists _; iexact H10
  isplitl [Hk0_part46_10]; · iexists _; iexact Hk0_part46_10
  isplitl [Hk0_part46_6]; · iexists _; iexact Hk0_part46_6
  isplitl [Hk0_part46_12]; · iexact Hk0_part46_12
  isplitl [Hk0_part46_7]; · iexact Hk0_part46_7
  isplitl [Hk0_part46_8]; · iexact Hk0_part46_8
  iexists _; iexact Hk0_part46_9

end
end Cert.Proof.KernelIdeal
-- ==== Proof.Slots.lean ====
/- A ring's slots taken out of its buffer and its array, and put back. -/
module

public import proofs.«01_k».proof.Proof.Ring
public import Idealize.ShloMosaic.Lib.Ring

@[expose] public section

noncomputable section

namespace Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : Nat} {τ : Topo} {sig : RefSig} {Val : EltTy → Type}
variable {U : Type} [URA U] [CountersIn U]

local notation "𝕄" => MT nD τ sig Unit Val ℕ U ℕ

variable (c : Thread nD τ) {e : EltTy} (M : Memref sig c.2.kind .vmem SB e) (X : Memref sig c.2.kind .hbm SX e)
variable (sem : ℕ → DmaSem sig) (fX : Buf Val (X.view.loc c))

theorem each_in {M : Type} [URA M] (A B : Fin 12 → sProp M) : iprop(bigSep Finset.univ A ∗ bigSep Finset.univ B) ⊢ bigSep Finset.univ fun s => iprop(A s ∗ B s) :=
  Entails.of_eq (bigSep_sep Finset.univ A B).symm
theorem each_out {M : Type} [URA M] (A B : Fin 12 → sProp M) : (bigSep Finset.univ fun s => iprop(A s ∗ B s)) ⊢ iprop(bigSep Finset.univ A ∗ bigSep Finset.univ B) :=
  Entails.of_eq (bigSep_sep Finset.univ A B)
theorem each_mono {M : Type} [URA M] (A B : Fin 12 → sProp M) (h : ∀ s, A s ⊢ B s) : bigSep Finset.univ A ⊢ bigSep Finset.univ B :=
  bigSep_mono fun s _ => h s

theorem slots_disjoint (s s' : Fin 12) (h : s ≠ s') : Disjoint (slotSet c M s) (slotSet c M s') := by
  refine Finset.disjoint_left.mpr fun z hz hz' => h ?_
  obtain ⟨y, hy, rfl⟩ := Finset.mem_map.mp hz
  obtain ⟨y', hy', e'⟩ := Finset.mem_map.mp hz'
  have := M.view.emb.injective e'
  subst this
  exact Fin.ext ((Finset.mem_filter.mp hy).2.symm.trans (Finset.mem_filter.mp hy').2)

theorem slots_cover (hM : M.view.set = Finset.univ) : (Finset.univ.biUnion fun s : Fin 12 => slotSet c M s) = Finset.univ := by
  refine Finset.eq_univ_of_forall fun z => Finset.mem_biUnion.mpr ?_
  have hz : z ∈ M.view.set := hM ▸ Finset.mem_univ z
  obtain ⟨y, -, rfl⟩ := Finset.mem_map.mp hz
  exact ⟨y 0, Finset.mem_univ _, Finset.mem_map.mpr ⟨y, Finset.mem_filter.mpr ⟨Finset.mem_univ _, rfl⟩, rfl⟩⟩

/-- The twelve cells at zero, the buffer whole and the array whole make twelve free slots, a share of the array left over. -/
theorem ring_split (hM : M.view.set = Finset.univ) (f : Buf Val (M.view.loc c)) :
    iprop(bigSep Finset.univ (fun s : Fin 12 => (semVal (c, SemLoc.dma (sem s)) 0 : sProp 𝕄)) ∗ (M.view.loc c ↦{fullShare} f) ∗ (X.view.loc c ↦{fullShare} fX))
      ⊢ iprop((X.view.loc c ↦{shareDrop fullShare 12} fX) ∗ bigSep Finset.univ fun s : Fin 12 => Free c M X sem fX s) := by
  iintro ⟨HS, HM, HX⟩
  ihave HX' := (Transfers.pointsTo_toks_range fullShare 12).1 $$ HX
  icases HX' with ⟨HD, HT⟩
  isplitl [HD]; · iexact HD
  ihave HT := (Entails.of_eq (Ring.bigSep_fin_eq_range 12 (fun s : Fin 12 => (X.view.loc c ↦{slotTok s} fX : sProp 𝕄)) (fun s => (X.view.loc c ↦{slotTok s} fX)) (fun _ _ => rfl)).symm) $$ HT
  ihave HM := (Entails.of_eq (Ring.pointsTo_blocks (fun s : Fin 12 => slotSet c M s) (slots_disjoint c M) (slots_cover c M hM) f)) $$ HM
  ihave H := (each_in (fun s : Fin 12 => (M.view.loc c ↦[slotSet c M s]{fullShare} f : sProp 𝕄)) (fun s : Fin 12 => (X.view.loc c ↦{slotTok s} fX : sProp 𝕄))) $$ [HM HT]
  · isplitl [HM] <;> iassumption
  ihave H := (each_in (fun s : Fin 12 => (semVal (c, SemLoc.dma (sem s)) 0 : sProp 𝕄)) (fun s : Fin 12 => iprop((M.view.loc c ↦[slotSet c M s]{fullShare} f : sProp 𝕄) ∗ (X.view.loc c ↦{slotTok s} fX : sProp 𝕄)))) $$ [HS H]
  · isplitl [HS] <;> iassumption
  iapply (each_mono (fun s : Fin 12 => iprop((semVal (c, SemLoc.dma (sem s)) 0 : sProp 𝕄) ∗ (M.view.loc c ↦[slotSet c M s]{fullShare} f : sProp 𝕄) ∗ (X.view.loc c ↦{slotTok s} fX : sProp 𝕄))) (fun s : Fin 12 => Free c M X sem fX s) fun s => by
    unfold Free Here
    iintro H; iexists f; iexact H) $$ H

/-- and twelve free slots with that share make them again. -/
theorem ring_join (hM : M.view.set = Finset.univ) (f₀ : Buf Val (M.view.loc c)) :
    iprop((X.view.loc c ↦{shareDrop fullShare 12} fX) ∗ bigSep Finset.univ fun s : Fin 12 => (Free c M X sem fX s : sProp 𝕄))
      ⊢ iprop(bigSep Finset.univ (fun s : Fin 12 => (semVal (c, SemLoc.dma (sem s)) 0 : sProp 𝕄)) ∗ (∃ f, M.view.loc c ↦{fullShare} f) ∗ (X.view.loc c ↦{fullShare} fX)) := by
  iintro ⟨HD, HF⟩
  ihave H := (each_mono (fun s : Fin 12 => Free c M X sem fX s) (fun s : Fin 12 => iprop((semVal (c, SemLoc.dma (sem s)) 0 : sProp 𝕄) ∗ (∃ f, M.view.loc c ↦[slotSet c M s]{fullShare} f) ∗ (X.view.loc c ↦{slotTok s} fX))) fun s => by
    unfold Free Here
    iintro ⟨%f, HS, HM, HX⟩
    isplitl [HS]; · iexact HS
    isplitl [HM]; · iexists f; iexact HM
    iexact HX) $$ HF
  ihave H := (each_out (fun s : Fin 12 => (semVal (c, SemLoc.dma (sem s)) 0 : sProp 𝕄)) (fun s : Fin 12 => iprop((∃ f, M.view.loc c ↦[slotSet c M s]{fullShare} f) ∗ (X.view.loc c ↦{slotTok s} fX : sProp 𝕄)))) $$ H
  icases H with ⟨HS, H⟩
  ihave H := (each_out (fun s : Fin 12 => iprop(∃ f, (M.view.loc c ↦[slotSet c M s]{fullShare} f : sProp 𝕄))) (fun s : Fin 12 => (X.view.loc c ↦{slotTok s} fX : sProp 𝕄))) $$ H
  icases H with ⟨HM, HT⟩
  isplitl [HS]; · iexact HS
  isplitl [HM]
  · iapply (Ring.pointsTo_blocks_join_exists (fun s : Fin 12 => slotSet c M s) (slots_disjoint c M) (slots_cover c M hM) f₀) $$ HM
  ihave HT := (Entails.of_eq (Ring.bigSep_fin_eq_range 12 (fun s : Fin 12 => (X.view.loc c ↦{slotTok s} fX : sProp 𝕄)) (fun s => (X.view.loc c ↦{slotTok s} fX)) (fun _ _ => rfl))) $$ HT
  iapply (Transfers.pointsTo_toks_range fullShare 12).2
  isplitl [HD] <;> iassumption

end Decode
-- ==== Proof.ILaunch.lean ====
/- The launch: the body on the staged operands, the scratch and the arrays in HBM. -/
module

public import proofs.«01_k».proof.Proof.IBody
public import proofs.«01_k».proof.Proof.Slots
public import proofs.«01_k».proof.Proof.Gen.KernelIdeal.Frame

@[expose] public section

set_option maxRecDepth 16384

noncomputable section

namespace Cert.Proof.KernelIdeal

open Cert.KernelIdeal Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands -/

abbrev st0 (t : Fin cfg0.N) : Memref sig .tc .smem S2 .i32 := win0_0.stage (cfg0.slots t 0)
abbrev st1 (t : Fin cfg0.N) : Memref sig .tc .vmem S2x10240 .bf16 := win0_1.stage (cfg0.slots t 1)
abbrev st2 (t : Fin cfg0.N) : Memref sig .tc .vmem S10x2x128 .bf16 := win0_2.stage (cfg0.slots t 2)
abbrev st3 (t : Fin cfg0.N) : Memref sig .tc .vmem S10x2x128 .bf16 := win0_3.stage (cfg0.slots t 3)
abbrev st4 (t : Fin cfg0.N) : Memref sig .tc .vmem S10x2x128 .f32 := win0_4.stage (cfg0.slots t 4)
abbrev st5 (t : Fin cfg0.N) : Memref sig .tc .vmem S160x128 .bf16 := win0_5.stage (cfg0.slots t 5)
abbrev st6 (t : Fin cfg0.N) : Memref sig .tc .vmem S20x8x128 .f32 := win0_6.stage (cfg0.slots t 6)
abbrev st7 (t : Fin cfg0.N) : Memref sig .tc .vmem S160x128 .fp8e4m3 := win0_7.stage (cfg0.slots t 7)
abbrev st8 (t : Fin cfg0.N) : Memref sig .tc .vmem S2x128 .f32 := win0_8.stage (cfg0.slots t 8)
abbrev mK : Memref sig .tc .hbm SX .bf16 := Memref.whole main_v1
abbrev mV : Memref sig .tc .hbm SX .fp8e4m3 := Memref.whole main_v3
abbrev kbuf : Memref sig .tc .vmem SB .bf16 := Memref.whole cc0_scratch0
abbrev vbuf : Memref sig .tc .vmem SB .fp8e4m3 := Memref.whole cc0_scratch1
abbrev sbuf : Memref sig .tc .vmem S32x8x2048 .f32 := Memref.whole cc0_scratch2
abbrev qbuf : Memref sig .tc .vmem S20x8x128 .bf16 := Memref.whole cc0_scratch3
abbrev obuf : Memref sig .tc .vmem S20x8x128 .f32 := Memref.whole cc0_scratch4

/-- The body's own cells: the keys' twelve and the values' twelve. -/
def osem0 : Fin 12 ⊕ Fin 12 → SemLoc sig
  | .inl s => SemLoc.dma (semOf cc0_scratch5 s)
  | .inr s => SemLoc.dma (semOf cc0_scratch6 s)
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep Finset.univ (fun s : Fin 12 => (semVal ((c : Thread nD τ), SemLoc.dma (semOf cc0_scratch5 s)) 0 : sProp 𝕄))
          ∗ bigSep Finset.univ (fun s : Fin 12 => (semVal ((c : Thread nD τ), SemLoc.dma (semOf cc0_scratch6 s)) 0 : sProp 𝕄))) := by
  unfold Pipeline.ownSems0
  rw [bigSep_univ_sum]; rfl

/-- The arrays the body copies from itself. -/
def H0 : Finset (Ref sig .tc) := {main_v1, main_v3}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop((mK.view.loc (c : Thread nD τ) ↦{fullShare} Gen.V m c main_v1) ∗ (mV.view.loc (c : Thread nD τ) ↦{fullShare} Gen.V m c main_v3)) := by
  rw [BI.bigSep_eq_bigSepL_of_eq [main_v1, main_v3] (by decide) (by decide)]; rfl

theorem whole_set {sp : Space} {s : Shape} {e : EltTy} {M : Memref sig .tc sp s e} (h : M.view.set = Finset.univ) (c : Dev nD) (f : Buf (Elt F) (M.view.loc (c : Thread nD τ))) :
    (M.view.loc (c : Thread nD τ) ↦{fullShare} f : sProp 𝕄) = (M.view.loc (c : Thread nD τ) ↦[M.view.set]{fullShare} f) := by
  rw [h]
theorem set_kbuf : kbuf.view.set = Finset.univ := View.set_whole _
theorem set_vbuf : vbuf.view.set = Finset.univ := View.set_whole _
theorem set_sbuf : sbuf.view.set = Finset.univ := View.set_whole _
theorem set_qbuf : qbuf.view.set = Finset.univ := View.set_whole _
theorem set_obuf : obuf.view.set = Finset.univ := View.set_whole _

theorem hmain : Pipeline.HMain (Ix := Unit) (Name := ℕ) (U := Pipeline.UD sig nD τ) (Lvl := ℕ) cfgs 0 defs₀ Variants.none m (main (F := F)) (Gen.V m) := by
  set_option maxHeartbeats 800000 in
  exact Pipeline.hmain_prefix cfgs 0 defs₀ Variants.none m main Gen.hostOps0 Gen.hostOps0_sub Gen.hostOps0_fresh Gen.main_chain

theorem scores_none (P : Prop) (c : Dev nD) (f : Buf (Elt F) (sbuf.view.loc (c : Thread nD τ))) :
    (sbuf.view.loc (c : Thread nD τ) ↦{fullShare} f : sProp 𝕄) ⊢ iprop(∃ Sv, ScoresAt P c sbuf Sv 0) := by
  rw [whole_set set_sbuf]
  unfold ScoresAt
  iintro H; iexists (fun _ _ => FloatOps.ofBits .f32 0#32), f
  isplitl [H]; · iexact H
  ipureintro; exact fun _ z y h => absurd h (Nat.not_lt_zero _)
theorem scores_some (P : Prop) (c : Dev nD) (M : Memref sig .tc .vmem S32x8x2048 .f32) (hM : M.view.set = Finset.univ) :
    iprop(∃ Sv, ScoresAt P c M Sv 0 : sProp 𝕄) ⊢ iprop(∃ f, M.view.loc (c : Thread nD τ) ↦{fullShare} f) := by
  unfold ScoresAt
  iintro ⟨%Sv, %f, H, %_⟩; iexists f
  iapply (Entails.of_eq (whole_set hM c f).symm) $$ H
theorem rows_some {e : EltTy} (P : Prop) (c : Dev nD) (M : Memref sig .tc .vmem S20x8x128 e) (Rv : ℕ → S1x8x128.Idx → Elt F e) (n : ℕ) :
    (RowsAt P c M Rv n : sProp 𝕄) ⊢ iprop(∃ f, (M.view.loc (c : Thread nD τ) ↦[M.view.set]{fullShare} f)
      ∗ ⌜P → ∀ (z : S20x8x128.Idx) (y : S1x8x128.Idx), (z 0).val < n → (z 1).val = (y 1).val → (z 2).val = (y 2).val → M.view.read (Elt F) f z = Rv (z 0).val y⌝) := by
  unfold RowsAt
  iintro H; iexact H

attribute [local irreducible] Decode.Ring RowsAt ScoresAt

section
variable (P : Prop) (hP : P → ∀ x : F .bf16, FloatOps.truncf (F := F) .bf16 Gen.bitsLt_bf16_f32 (FloatOps.extf (F := F) .f32 Gen.bitsLt_bf16_f32 x) = x)
variable (c : Dev nD) (t : Fin cfg0.N)
variable (Sv : ℕ → ℕ → S8x2048.Idx → F .f32) (Mv : ℕ → ℕ → FVec F S8x128 .f32) (Wv : ℕ → ℕ → FVec F S8x128 .f32 × FVec F S8x128 .f32) (Qv : ℕ → Vec F S1x8x128 .bf16) (Cv Ov : ℕ → S1x8x128.Idx → F .f32)
variable (hQ : ∀ f1 : Buf (Elt F) ((st1 t).view.loc (c : Thread nD τ)), (st1 t).view.read (Elt F) f1 = Gen.iblk m c 1 t → QueryRows P c (st1 t) f1 Qv)
variable (hH : ∀ (f0 : Buf (Elt F) ((st0 t).view.loc (c : Thread nD τ))) (f2 : Buf (Elt F) ((st2 t).view.loc (c : Thread nD τ))) (f3 : Buf (Elt F) ((st3 t).view.loc (c : Thread nD τ))) (f4 : Buf (Elt F) ((st4 t).view.loc (c : Thread nD τ))),
      (st0 t).view.read (Elt F) f0 = Gen.iblk m c 0 t → (st2 t).view.read (Elt F) f2 = Gen.iblk m c 2 t → (st3 t).view.read (Elt F) f3 = Gen.iblk m c 3 t → (st4 t).view.read (Elt F) f4 = Gen.iblk m c 4 t →
      ∀ t3 : Fin k0_t3_loop.trips, HeadSpec P c mK (Gen.V m c main_v1) mV (Gen.V m c main_v3) (iota .tc S8x2048 32 [1] Gen.iota_S8x2048_d1_w32) (seqW (Scf.iv 0#32 1#32 t3.val)) (lw (st0 t) f0 (t3.val / 10)) (Qv t3.val)
        (View.readAt (Elt F) (st2 t).view (Rect.unit (s := S10x2x128) (k0_off51 t3) S1x2x128.size (Gen.k0_off51_inb t3)).toLoadRect f2)
        (View.readAt (Elt F) (st3 t).view (Rect.unit (s := S10x2x128) (k0_off51 t3) S1x2x128.size (Gen.k0_off51_inb t3)).toLoadRect f3)
        (View.readAt (Elt F) (st4 t).view (Rect.unit (s := S10x2x128) (k0_off51 t3) S1x2x128.size (Gen.k0_off51_inb t3)).toLoadRect f4)
        t3.val (Sv t3.val) (Mv t3.val) (Wv t3.val) (Cv t3.val) (Ov t3.val))

include hP hQ hH in
theorem body_run :
    iprop(Pipeline.ΦD osem0 spec0 H0 (Gen.V m) c ∗ (∃ W, owes (c : Thread nD τ) 0 W)
        ∗ owns (c : Thread nD τ) (st0 t) fullShare (Gen.iblk m c 0 t) ∗ owns (c : Thread nD τ) (st1 t) fullShare (Gen.iblk m c 1 t) ∗ owns (c : Thread nD τ) (st2 t) fullShare (Gen.iblk m c 2 t)
        ∗ owns (c : Thread nD τ) (st3 t) fullShare (Gen.iblk m c 3 t) ∗ owns (c : Thread nD τ) (st4 t) fullShare (Gen.iblk m c 4 t)
        ∗ (∃ X, owns (c : Thread nD τ) (st5 t) fullShare X) ∗ (∃ X, owns (c : Thread nD τ) (st6 t) fullShare X) ∗ (∃ X, owns (c : Thread nD τ) (st7 t) fullShare X) ∗ (∃ X, owns (c : Thread nD τ) (st8 t) fullShare X))
      ⊢ wp Idealize.ShloMosaic.frame (wpE (defs₀ (F := F)) Variants.none (c : Thread nD τ) none) Set.univ (Gen.bodyAt0 t) (fun _ =>
        iprop(Pipeline.ΦD osem0 spec0 H0 (Gen.V m) c ∗ (∃ W, owes (c : Thread nD τ) 0 W)
        ∗ owns (c : Thread nD τ) (st0 t) fullShare (Gen.iblk m c 0 t) ∗ owns (c : Thread nD τ) (st1 t) fullShare (Gen.iblk m c 1 t) ∗ owns (c : Thread nD τ) (st2 t) fullShare (Gen.iblk m c 2 t)
        ∗ owns (c : Thread nD τ) (st3 t) fullShare (Gen.iblk m c 3 t) ∗ owns (c : Thread nD τ) (st4 t) fullShare (Gen.iblk m c 4 t)
        ∗ (∃ X, ⌜P → ∃ (f7 : Buf (Elt F) ((st5 t).view.loc (c : Thread nD τ))) (f15 : Buf (Elt F) (obuf.view.loc (c : Thread nD τ))),
            (∀ (z : S20x8x128.Idx) (y : S1x8x128.Idx), (z 0).val < 20 → (z 1).val = (y 1).val → (z 2).val = (y 2).val → obuf.view.read (Elt F) f15 z = Ov (z 0).val y)
              ∧ X = (st5 t).view.read (Elt F) (outWrites c (st5 t) obuf f7 f15)⌝ ∗ owns (c : Thread nD τ) (st5 t) fullShare X)
        ∗ (∃ X, ⌜P → ∀ (z : S20x8x128.Idx) (y : S1x8x128.Idx), (z 0).val < 20 → (z 1).val = (y 1).val → (z 2).val = (y 2).val → X z = Cv (z 0).val y⌝ ∗ owns (c : Thread nD τ) (st6 t) fullShare X)
        ∗ (∃ X, owns (c : Thread nD τ) (st7 t) fullShare X) ∗ (∃ X, owns (c : Thread nD τ) (st8 t) fullShare X))) := by
  unfold Gen.bodyAt0
  rw [Gen.cc0_gqa_decode_eq_skeleton]
  rw [Pipeline.ΦD_eq, Gen.scopedRest0_eq, ownSems00_eq, hbmPts0_eq]
  unfold owns
  iintro ⟨⟨⟨⟨%fk, HK⟩, ⟨%fv, HV⟩, ⟨%fs, HS⟩, ⟨%fq, HQ⟩, ⟨%fo, HO⟩⟩, Hg, ⟨HcK, HcV⟩, ⟨HXK, HXV⟩⟩, HW, ⟨%f0, %e0, H0⟩, ⟨%f1, %e1, H1⟩, ⟨%f2, %e2, H2⟩, ⟨%f3, %e3, H3⟩, ⟨%f4, %e4, H4⟩,
    ⟨%d5, %f5, -, H5⟩, ⟨%d6, %f6, -, H6⟩, ⟨%d7, %f7, -, H7⟩, ⟨%d8, %f8, -, H8⟩⟩
  ihave HRK := (ring_split (c : Thread nD τ) kbuf mK (semOf cc0_scratch5) (Gen.V m c main_v1) set_kbuf fk) $$ [HcK HK HXK]
  · isplitl [HcK]; · iexact HcK
    isplitl [HK]; · iexact HK
    iexact HXK
  icases HRK with ⟨HDK, HRK⟩
  ihave HRV := (ring_split (c : Thread nD τ) vbuf mV (semOf cc0_scratch6) (Gen.V m c main_v3) set_vbuf fv) $$ [HcV HV HXV]
  · isplitl [HcV]; · iexact HcV
    isplitl [HV]; · iexact HV
    iexact HXV
  icases HRV with ⟨HDV, HRV⟩
  ihave HRK := (Entails.of_eq (ring_start (c : Thread nD τ) kbuf mK (semOf cc0_scratch5) (hl (st0 t) f0) (Gen.V m c main_v1)).symm) $$ HRK
  ihave HRV := (Entails.of_eq (ring_start (c : Thread nD τ) vbuf mV (semOf cc0_scratch6) (hl (st0 t) f0) (Gen.V m c main_v3)).symm) $$ HRV
  ihave HS := (scores_none P c fs) $$ HS
  ihave HQ := (Entails.of_eq (whole_set set_qbuf c fq)) $$ HQ
  ihave HO := (Entails.of_eq (whole_set set_obuf c fo)) $$ HO
  have hrun := run_body c (st0 t) (Gen.hstage0_0 0) (st1 t) (Gen.hstage0_1 0) (st2 t) (Gen.hstage0_2 0) (st3 t) (Gen.hstage0_3 0) (st4 t) (Gen.hstage0_4 0) mK (Memref.isWhole_whole _) mV (Memref.isWhole_whole _)
    (st5 t) (Gen.hstage0_5 0) (st6 t) (Gen.hstage0_6 0) (st7 t) (Gen.hstage0_7 0) (st8 t) (Gen.hstage0_8 0) kbuf (Memref.isWhole_whole _) vbuf (Memref.isWhole_whole _) sbuf (Memref.isWhole_whole _) qbuf (Memref.isWhole_whole _) obuf (Memref.isWhole_whole _)
    cc0_scratch5 cc0_scratch6 (Gen.V m c main_v1) (Gen.V m c main_v3) P fullShare f0 hP f1 f2 f3 f4 Sv Mv Wv Qv Cv Ov (hQ f1 e1) (hH f0 f2 f3 f4 e0 e2 e3 e4) f5 f6 f7 f8 fq fo
  iapply (wp_wand_r Idealize.ShloMosaic.frame (wpE (defs₀ (F := F)) Variants.none (c : Thread nD τ) none) Set.univ)
  isplitl [HW H0 H1 H2 H3 H4 H5 H6 H7 H8 HS HQ HO HRK HRV]
  · iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HQ]; · iexact HQ
    isplitl [HO]; · iexact HO
    isplitl [HRK]; · iexact HRK
    isplitl [HRV]; · iexact HRV
    iexact HW
  iintro %_ ⟨%w, %f15, ⟨%hw, %hO⟩, H0, H1, H2, H3, H4, H7, H8, ⟨%g9, H9⟩, ⟨%g10, H10⟩, HS, ⟨%fq', HQ⟩, HO, HRK, HRV, HW⟩
  ihave HRK := (Entails.of_eq (ring_end (c : Thread nD τ) kbuf mK (semOf cc0_scratch5) (hl (st0 t) f0) (Gen.V m c main_v1) hw)) $$ HRK
  ihave HRV := (Entails.of_eq (ring_end (c : Thread nD τ) vbuf mV (semOf cc0_scratch6) (hl (st0 t) f0) (Gen.V m c main_v3) hw)) $$ HRV
  ihave HRK := (ring_join (c : Thread nD τ) kbuf mK (semOf cc0_scratch5) (Gen.V m c main_v1) set_kbuf fk) $$ [HDK HRK]
  · isplitl [HDK] <;> iassumption
  icases HRK with ⟨HcK, HK, HXK⟩
  ihave HRV := (ring_join (c : Thread nD τ) vbuf mV (semOf cc0_scratch6) (Gen.V m c main_v3) set_vbuf fv) $$ [HDV HRV]
  · isplitl [HDV] <;> iassumption
  icases HRV with ⟨HcV, HV, HXV⟩
  ihave HS := (scores_some P c sbuf set_sbuf) $$ HS
  ihave HQ := (Entails.of_eq (whole_set set_qbuf c fq').symm) $$ HQ
  ihave HO := (Entails.of_eq (whole_set set_obuf c f15).symm) $$ HO
  ihave H8 := (rows_some P c (st6 t) Cv 20) $$ H8
  icases H8 with ⟨%f8', H8, %hC⟩
  isplitl [HcK HK HXK HcV HV HXV HS HQ HO Hg]
  · isplitl [HK HV HS HQ HO]
    · isplitl [HK]; · iexact HK
      isplitl [HV]; · iexact HV
      isplitl [HS]; · iexact HS
      isplitl [HQ]; · iexists _; iexact HQ
      iexists _; iexact HO
    isplitl [Hg]; · iexact Hg
    isplitl [HcK HcV]
    · isplitl [HcK]; · iexact HcK
      iexact HcV
    isplitl [HXK]; · iexact HXK
    iexact HXV
  isplitl [HW]; · iexact HW
  isplitl [H0]; · iexists f0; isplitr; (ipureintro; exact e0); iexact H0
  isplitl [H1]; · iexists f1; isplitr; (ipureintro; exact e1); iexact H1
  isplitl [H2]; · iexists f2; isplitr; (ipureintro; exact e2); iexact H2
  isplitl [H3]; · iexists f3; isplitr; (ipureintro; exact e3); iexact H3
  isplitl [H4]; · iexists f4; isplitr; (ipureintro; exact e4); iexact H4
  isplitl [H7]
  · iexists _; isplitr; · (ipureintro; exact fun hp => ⟨f5, f15, hO hp, rfl⟩)
    iexists _; isplitr; · (ipureintro; rfl)
    iexact H7
  isplitl [H8]
  · iexists _; isplitr; · (ipureintro; exact hC)
    iexists _; isplitr; · (ipureintro; rfl)
    iexact H8
  isplitl [H9]
  · iexists (st7 t).view.read (Elt F) g9, g9; isplitr; (ipureintro; rfl); iexact H9
  iexists (st8 t).view.read (Elt F) g10, g10; isplitr; · (ipureintro; rfl)
  iexact H10

end

end Cert.Proof.KernelIdeal
-- ==== Proof.IRun.lean ====
/- The run of the whole program, the results the body leaves named or forgotten, and the frame. -/
module

public import proofs.«01_k».proof.Proof.ILaunch
public import proofs.«01_k».proof.Proof.Gen.KernelIdeal.Frame

@[expose] public section

set_option maxRecDepth 16384

noncomputable section

namespace Cert.Proof.KernelIdeal

open Cert.KernelIdeal Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (o5 : Dev nD → Vec F S160x128 .bf16) (o6 : Dev nD → Vec F S20x8x128 .f32)

/-- The proof data: the arrays as the region finds them, the inputs' buffers left in place, the first two results' at what they are said to hold. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => o5 c
    | ⟨6, _⟩ => o6 c
    | ⟨7, _⟩ => (st7 t).view.read (Elt F) (st7 t).view.junk
    | ⟨8, _⟩ => (st8 t).view.read (Elt F) (st8 t).view.junk
  Φ _ := Pipeline.ΦD osem0 spec0 H0 (Gen.V m) c
  q _ := fullShare
  owed _ := 0

theorem A_eq (c : Dev nD) (w : Fin cfg0.W) : (dats m o5 o6 0 c).A w = Gen.V m c (Pipeline.arrRef spec0 w) := by dsimp only [dats]
theorem after0 (c : Dev nD) (t : Fin cfg0.N) : (dats m o5 o6 0 c).after 0 t = Gen.iblk m c 0 t := by dsimp only [dats]
theorem after1 (c : Dev nD) (t : Fin cfg0.N) : (dats m o5 o6 0 c).after 1 t = Gen.iblk m c 1 t := by dsimp only [dats]
theorem after2 (c : Dev nD) (t : Fin cfg0.N) : (dats m o5 o6 0 c).after 2 t = Gen.iblk m c 2 t := by dsimp only [dats]
theorem after3 (c : Dev nD) (t : Fin cfg0.N) : (dats m o5 o6 0 c).after 3 t = Gen.iblk m c 3 t := by dsimp only [dats]
theorem after4 (c : Dev nD) (t : Fin cfg0.N) : (dats m o5 o6 0 c).after 4 t = Gen.iblk m c 4 t := by dsimp only [dats]
theorem after5 (c : Dev nD) (t : Fin cfg0.N) : (dats m o5 o6 0 c).after 5 t = o5 c := by dsimp only [dats]
theorem after6 (c : Dev nD) (t : Fin cfg0.N) : (dats m o5 o6 0 c).after 6 t = o6 c := by dsimp only [dats]
theorem before0 (c : Dev nD) (t : Fin cfg0.N) (d) : (dats m o5 o6 0 c).before 0 t d = Gen.iblk m c 0 t :=
  ((dats m o5 o6 0 c).before_in_eq_fetched 0 rfl (fun _ => rfl) (fun _ _ _ => rfl) (fun t => by rw [after0]; unfold Dat.blockOf Gen.iblk; rw [A_eq]; try rfl) t d).trans
    (by unfold Dat.fetched Dat.blockOf Gen.iblk; rw [A_eq]; try rfl)
theorem before1 (c : Dev nD) (t : Fin cfg0.N) (d) : (dats m o5 o6 0 c).before 1 t d = Gen.iblk m c 1 t :=
  ((dats m o5 o6 0 c).before_in_eq_fetched 1 rfl (fun _ => rfl) (fun _ _ _ => rfl) (fun t => by rw [after1]; unfold Dat.blockOf Gen.iblk; rw [A_eq]; try rfl) t d).trans
    (by unfold Dat.fetched Dat.blockOf Gen.iblk; rw [A_eq]; try rfl)
theorem before2 (c : Dev nD) (t : Fin cfg0.N) (d) : (dats m o5 o6 0 c).before 2 t d = Gen.iblk m c 2 t :=
  ((dats m o5 o6 0 c).before_in_eq_fetched 2 rfl (fun _ => rfl) (fun _ _ _ => rfl) (fun t => by rw [after2]; unfold Dat.blockOf Gen.iblk; rw [A_eq]; try rfl) t d).trans
    (by unfold Dat.fetched Dat.blockOf Gen.iblk; rw [A_eq]; try rfl)
theorem before3 (c : Dev nD) (t : Fin cfg0.N) (d) : (dats m o5 o6 0 c).before 3 t d = Gen.iblk m c 3 t :=
  ((dats m o5 o6 0 c).before_in_eq_fetched 3 rfl (fun _ => rfl) (fun _ _ _ => rfl) (fun t => by rw [after3]; unfold Dat.blockOf Gen.iblk; rw [A_eq]; try rfl) t d).trans
    (by unfold Dat.fetched Dat.blockOf Gen.iblk; rw [A_eq]; try rfl)
theorem before4 (c : Dev nD) (t : Fin cfg0.N) (d) : (dats m o5 o6 0 c).before 4 t d = Gen.iblk m c 4 t :=
  ((dats m o5 o6 0 c).before_in_eq_fetched 4 rfl (fun _ => rfl) (fun _ _ _ => rfl) (fun t => by rw [after4]; unfold Dat.blockOf Gen.iblk; rw [A_eq]; try rfl) t d).trans
    (by unfold Dat.fetched Dat.blockOf Gen.iblk; rw [A_eq]; try rfl)

theorem defs₀_row (t : Fin cfg0.N) : defs₀ (F := F) .tc cfg0.body (cfg0.bodyArgs t (cfg0.slots t)) = Gen.bodyAt0 t := by
  unfold defs₀; rw [Defs.onTc_tc]

/-- The four results' windows, which a frame forgets. -/
def fgtAll (w : Fin cfg0.W) : Bool := match w with
  | ⟨5, _⟩ => true | ⟨6, _⟩ => true | ⟨7, _⟩ => true | ⟨8, _⟩ => true | _ => false

/-- What a head leaves is nothing to be stated: nothing of a head's values is recorded. -/
theorem noSpec {c : Dev nD} {X : Memref sig .tc .hbm SX .bf16} {fX : Buf (Elt F) (X.view.loc (c : Thread nD τ))} {Y : Memref sig .tc .hbm SX .fp8e4m3} {fY : Buf (Elt F) (Y.view.loc (c : Thread nD τ))}
    {v584 : IVec S8x2048 32} {b lwv : BitVec 32} {Q : Vec F S1x8x128 .bf16} {kn vn : Vec F S1x2x128 .bf16} {vs : Vec F S1x2x128 .f32} {h : ℕ}
    {Sv : ℕ → S8x2048.Idx → F .f32} {Mv : ℕ → FVec F S8x128 .f32} {Wv : ℕ → FVec F S8x128 .f32 × FVec F S8x128 .f32} {Cv Ov : Vec F S1x8x128 .f32} :
    HeadSpec False c X fX Y fY v584 b lwv Q kn vn vs h Sv Mv Wv Cv Ov where
  m0 := False.elim
  key := fun _ hp => hp.elim
  w0 := False.elim
  val := False.elim
  cache := False.elim
  out := False.elim

theorem sound_frame (c : Dev nD) (t : Fin cfg0.N) :
    iprop((dats m o5 o6 0 c).Φ t.castSucc ∗ (dats m o5 o6 0 c).owesAt () t.castSucc
      ∗ (∃ d, owns (c : Thread nD τ) (st0 t) fullShare ((dats m o5 o6 0 c).before 0 t d)) ∗ (∃ d, owns (c : Thread nD τ) (st1 t) fullShare ((dats m o5 o6 0 c).before 1 t d))
      ∗ (∃ d, owns (c : Thread nD τ) (st2 t) fullShare ((dats m o5 o6 0 c).before 2 t d)) ∗ (∃ d, owns (c : Thread nD τ) (st3 t) fullShare ((dats m o5 o6 0 c).before 3 t d))
      ∗ (∃ d, owns (c : Thread nD τ) (st4 t) fullShare ((dats m o5 o6 0 c).before 4 t d))
      ∗ (∃ X, owns (c : Thread nD τ) (st5 t) fullShare X) ∗ (∃ X, owns (c : Thread nD τ) (st6 t) fullShare X) ∗ (∃ X, owns (c : Thread nD τ) (st7 t) fullShare X) ∗ (∃ X, owns (c : Thread nD τ) (st8 t) fullShare X))
      ⊢ wp Idealize.ShloMosaic.frame (wpE (defs₀ (F := F)) Variants.none (c : Thread nD τ) none) Set.univ (Gen.bodyAt0 t) (fun _ =>
        iprop((dats m o5 o6 0 c).Φ t.succ ∗ (dats m o5 o6 0 c).owesAt () t.succ
          ∗ owns (c : Thread nD τ) (st0 t) fullShare ((dats m o5 o6 0 c).after 0 t) ∗ owns (c : Thread nD τ) (st1 t) fullShare ((dats m o5 o6 0 c).after 1 t) ∗ owns (c : Thread nD τ) (st2 t) fullShare ((dats m o5 o6 0 c).after 2 t)
          ∗ owns (c : Thread nD τ) (st3 t) fullShare ((dats m o5 o6 0 c).after 3 t) ∗ owns (c : Thread nD τ) (st4 t) fullShare ((dats m o5 o6 0 c).after 4 t)
          ∗ (∃ X, owns (c : Thread nD τ) (st5 t) fullShare X) ∗ (∃ X, owns (c : Thread nD τ) (st6 t) fullShare X) ∗ (∃ X, owns (c : Thread nD τ) (st7 t) fullShare X) ∗ (∃ X, owns (c : Thread nD τ) (st8 t) fullShare X))) := by
  have hrun := body_run m False False.elim c t (fun _ _ _ => FloatOps.ofBits .f32 0#32) (fun _ _ _ => FloatOps.ofBits .f32 0#32) (fun _ _ => (fun _ => FloatOps.ofBits .f32 0#32, fun _ => FloatOps.ofBits .f32 0#32)) (fun _ _ => FloatOps.ofBits .bf16 0#16) (fun _ _ => FloatOps.ofBits .f32 0#32) (fun _ _ => FloatOps.ofBits .f32 0#32) (fun _ _ => False.elim)
    (fun _ _ _ _ _ _ _ _ _ => noSpec)
  rw [show (dats m o5 o6 0 c).Φ t.succ = Pipeline.ΦD osem0 spec0 H0 (Gen.V m) c from rfl, show (dats m o5 o6 0 c).Φ t.castSucc = Pipeline.ΦD osem0 spec0 H0 (Gen.V m) c from rfl, after0, after1, after2, after3, after4]
  unfold Dat.owesAt Pipeline.owesWithin
  rw [show (dats m o5 o6 0 c).owed t.castSucc = 0 from rfl, show (dats m o5 o6 0 c).owed t.succ = 0 from rfl]
  simp only [before0, before1, before2, before3, before4]
  iintro ⟨HΦ, ⟨%W, -, HW⟩, ⟨%d0, H0⟩, ⟨%d1, H1⟩, ⟨%d2, H2⟩, ⟨%d3, H3⟩, ⟨%d4, H4⟩, H5, H6, H7, H8⟩
  iapply (wp_wand_r Idealize.ShloMosaic.frame (wpE (defs₀ (F := F)) Variants.none (c : Thread nD τ) none) Set.univ)
  isplitl
  · iapply hrun
    isplitl [HΦ]; · iexact HΦ
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨HΦ, ⟨%W', HW⟩, H0, H1, H2, H3, H4, ⟨%X5, -, H5⟩, ⟨%X6, -, H6⟩, H7, H8⟩
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexists X5; iexact H5
  isplitl [H6]; · iexists X6; iexact H6
  isplitl [H7]; · iexact H7
  iexact H8

theorem body_frame (c : Dev nD) : BodyObligationLoose (dats m o5 o6 0 c) (defs₀ (F := F)) Variants.none () Set.univ fgtAll := fun t => by
  rw [Gen.bigSep_W0, Gen.bigSep_W0, defs₀_row]
  exact triple_restated (sound_frame m o5 o6 c t) rfl .rfl fun _ => .rfl

set_option backward.isDefEq.respectTransparency.types false in
theorem run_frame : θ_run defs (onTc (τ := τ) (main (F := F))) (s₀ m ρ) (fun r => RDat.FramePost cfg0 (fun c => (dats m o5 o6 0 c).toRForget fgtAll) (Gen.V m) r ∧ r.2.sem = fun _ => 0) :=
  Pipeline.θ_run_frame_dma_forget (Q' := _) cfgs (dats m o5 o6) (0 : Fin 1) Gen.launch0 osem0 defs₀ Variants.none fgtAll ownSemFacts0 H0 H0_sub m ρ main
    (hbody := fun c => body_frame m o5 o6 c) (hshare := fun c => (dats m o5 o6 0 c).share_full fun _ => rfl)
    (howed := fun _ _ => rfl) (V := Gen.V m) (hmain := hmain m) (hA := A_eq m o5 o6)
    (hin := fun _ => .rfl) (hout := fun _ => .rfl)

theorem frame_of (fgt : Fin cfg0.W → Bool) (h0 : fgt 0 = false) (r) (h : RDat.FramePost cfg0 (fun c => (dats m o5 o6 0 c).toRForget fgt) (Gen.V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (Gen.V_main_arg0 m c),
    ((h c).2 main_arg1 (Pipeline.mem_restRefs_of main_arg1 (by decide) (by decide))).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c),
    (((dats m o5 o6 0 c).toRForget_arrAt_iff h0 _ _).mp ((h c).1 0)).trans (((dats m o5 o6 0 c).arrAt_in 0 rfl _).trans ((A_eq m o5 o6 c 0).trans (Gen.V_main_arg6 m c)))⟩

/-- The program runs, its arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨frame_of m _ _ fgtAll rfl r h.1, h.2⟩)
    (run_frame m ρ (fun _ _ => FloatOps.ofBits .bf16 0#16) (fun _ _ => FloatOps.ofBits .f32 0#32))

end Cert.Proof.KernelIdeal
-- ==== Proof.IHost.lean ====
/- The arrays the kernel's region finds, entry by entry of the arguments. -/
module

public import proofs.«01_k».proof.Proof.Gen.KernelIdeal.Frame
public import Idealize.ShloMosaic.Lib.StableHlo.ReadAt

@[expose] public section

set_option maxRecDepth 16384

noncomputable section

namespace Cert.Proof.KernelIdeal

open Cert.KernelIdeal
open Idealize.ShloMosaic Idealize.ShloMosaic.TcCoe

variable {F : FTy → Type} [FloatOps F] (m : (ℓ : Loc nD τ sig) → Buf (Elt F) ℓ) (c : Dev nD)

theorem keys_at (b : Fin 2) (g : Fin 10) (t : Fin 65536) (d : Fin 128) :
    Gen.V m c main_v1 (ix3 (⟨10 * b.val + g.val, by omega⟩ : Fin 20) t d) = m ((c : Thread nD τ).loc main_arg3) (ix4 b t g d) := by
  unfold Gen.V
  after_reads_at

theorem vals_at (b : Fin 2) (g : Fin 10) (t : Fin 65536) (d : Fin 128) :
    Gen.V m c main_v3 (ix3 (⟨10 * b.val + g.val, by omega⟩ : Fin 20) t d) = m ((c : Thread nD τ).loc main_arg4) (ix4 b t g d) := by
  unfold Gen.V
  after_reads_at

theorem newKeys_at (b : Fin 2) (g : Fin 10) (d : Fin 128) :
    Gen.V m c main_v5 (ix3 g b d) = m ((c : Thread nD τ).loc main_arg1) (ix4 b 0 g d) := by
  unfold Gen.V
  after_reads_at

theorem newVals_at (b : Fin 2) (g : Fin 10) (d : Fin 128) :
    Gen.V m c main_v7 (ix3 g b d) = m ((c : Thread nD τ).loc main_arg2) (ix4 b 0 g d) := by
  unfold Gen.V
  after_reads_at

theorem scales_at (b : Fin 2) (g : Fin 10) (d : Fin 128) :
    Gen.V m c main_v8 (ix3 g b d) = m ((c : Thread nD τ).loc main_arg5) (ix3 b g d) := by
  unfold Gen.V
  after_reads_at

theorem queries_at (b : Fin 2) (i : Fin 10240) :
    Gen.V m c main_v9 (ix2 b i) = m ((c : Thread nD τ).loc main_arg0) (ix3 b 0 i) := by
  unfold Gen.V
  after_reads_at

end Cert.Proof.KernelIdeal
-- ==== Proof.HeadMath.lean ====
/- One head's attention as sums and maxima over positions, and the block by block
forms of the same numbers, over the extended reals. -/
module

public import proofs.«01_k».proof.Proof.Gen.KernelIdeal.Skeleton
public import Idealize.ShloMosaic.Lib.Pointwise
public import Idealize.ShloMosaic.PureOps.Ideal

@[expose] public section

noncomputable section

namespace Decode

open Idealize.ShloMosaic

/-! ## Constants -/

theorem bits_bot : Ideal.ofBits .f32 0xFF800000#32 = ⊥ := by
  unfold Ideal.ofBits Ideal.ieee
  simp

theorem bits_pos : 0 ≤ Ideal.ofBits .f32 0x43E00000#32 := by
  unfold Ideal.ofBits Ideal.ieee
  simp
  positivity

/-! ## Sums and maxima over positions -/

theorem sum_blocks (f : ℕ → EReal) (M : ℕ) : ∀ N : ℕ, ∑ t ∈ Finset.range (M * N), f t = ∑ i ∈ Finset.range N, ∑ r ∈ Finset.range M, f (M * i + r)
  | 0 => by simp
  | N + 1 => by rw [Nat.mul_succ, Finset.sum_range_add, sum_blocks f M N, Finset.sum_range_succ]

/-- A sum over positions, taken lane by lane. -/
theorem sum_lanes (f : ℕ → EReal) (N : ℕ) :
    ∑ l : Fin 128, ∑ i ∈ Finset.range N, ∑ a ∈ Finset.range 16, f (2048 * i + (128 * a + l.val)) = ∑ t ∈ Finset.range (2048 * N), f t := by
  rw [sum_blocks f 2048 N, Finset.sum_comm]
  refine Finset.sum_congr rfl fun i _ => ?_
  rw [Finset.sum_comm, show 2048 = 128 * 16 from rfl, sum_blocks (fun r => f (128 * 16 * i + r)) 128 16]
  refine Finset.sum_congr rfl fun a _ => ?_
  rw [Finset.sum_range]

/-- A maximum over positions, taken lane by lane. -/
theorem sup_lanes (f : ℕ → EReal) (N : ℕ) :
    (Finset.univ.sup fun l : Fin 128 => (Finset.range N).sup fun i => (Finset.range 16).sup fun a => f (2048 * i + (128 * a + l.val))) = (Finset.range (2048 * N)).sup f := by
  refine le_antisymm ?_ ?_
  · refine Finset.sup_le fun l _ => Finset.sup_le fun i hi => Finset.sup_le fun a ha => Finset.le_sup (f := f) ?_
    have := l.isLt; have := Finset.mem_range.mp hi; have := Finset.mem_range.mp ha
    exact Finset.mem_range.mpr (by omega)
  · refine Finset.sup_le fun t ht => ?_
    have ht := Finset.mem_range.mp ht
    have e : f t = f (2048 * (t / 2048) + (128 * (t % 2048 / 128) + (⟨t % 128, Nat.mod_lt _ (by omega)⟩ : Fin 128).val)) := by
      congr 1; simp only; omega
    rw [e]
    refine le_trans ?_ (Finset.le_sup (f := fun l : Fin 128 => (Finset.range N).sup fun i => (Finset.range 16).sup fun a => f (2048 * i + (128 * a + l.val))) (Finset.mem_univ (⟨t % 128, Nat.mod_lt _ (by omega)⟩ : Fin 128)))
    refine le_trans ?_ (Finset.le_sup (f := fun i => (Finset.range 16).sup fun a => f (2048 * i + (128 * a + t % 128))) (Finset.mem_range.mpr (by omega : t / 2048 < N)))
    exact Finset.le_sup (f := fun a => f (2048 * (t / 2048) + (128 * a + t % 128))) (Finset.mem_range.mpr (by omega))

theorem sup_stop {f : ℕ → EReal} {L N : ℕ} (h : L ≤ N) (hf : ∀ t, L ≤ t → f t = ⊥) : (Finset.range N).sup f = (Finset.range L).sup f := by
  refine le_antisymm (Finset.sup_le fun t ht => ?_) (Finset.sup_mono (Finset.range_mono h))
  by_cases hl : t < L
  · exact Finset.le_sup (f := f) (Finset.mem_range.mpr hl)
  · rw [hf t (by omega)]; exact bot_le

theorem sum_stop {f : ℕ → EReal} {L N : ℕ} (h : L ≤ N) (hf : ∀ t, L ≤ t → f t = 0) : ∑ t ∈ Finset.range N, f t = ∑ t ∈ Finset.range L, f t :=
  (Finset.sum_subset (Finset.range_mono h) fun t _ ht => hf t (by rw [Finset.mem_range] at ht; omega)).symm

/-! ## A head -/

section
variable (q : Fin 8 → Fin 128 → EReal) (k v : ℕ → Fin 128 → EReal) (kn vn vs : Fin 128 → EReal) (L : ℕ)

/-- The score of query row `j` at position `t`, `-∞` past the length. -/
def score (j : Fin 8) (t : ℕ) : EReal := if t < L then (∑ d : Fin 128, q j d * k t d) * Ideal.ofBits .f32 0x3DB504F3#32 else ⊥
/-- The score of the new key. -/
def scoreN (j : Fin 8) : EReal := (∑ d : Fin 128, q j d * kn d) * Ideal.ofBits .f32 0x3DB504F3#32
/-- The greatest score. -/
def peak (j : Fin 8) : EReal := max ((Finset.range L).sup (score q k L j)) (scoreN q kn j)
/-- The weight of a position, and of the new one. -/
def prob (j : Fin 8) (t : ℕ) : EReal := Ideal.exp (score q k L j t - peak q k kn L j)
def probN (j : Fin 8) : EReal := Ideal.exp (scoreN q kn j - peak q k kn L j)
/-- The weights' sum. -/
def total (j : Fin 8) : EReal := ∑ t ∈ Finset.range L, prob q k kn L j t + probN q k kn L j
/-- A weight scaled to the codes' range. -/
def code (j : Fin 8) (t : ℕ) : EReal := min (prob q k kn L j t * Ideal.ofBits .f32 0x43E00000#32) (Ideal.ofBits .f32 0x43E00000#32)
/-- The weighted sum of the cached values, as a share of the whole. -/
def cacheOf (j : Fin 8) (d : Fin 128) : EReal :=
  Ideal.div ((∑ t ∈ Finset.range L, code q k kn L j t * v t d) * Ideal.ofBits .f32 0x3B124925#32 * vs d) (total q k kn L j)
/-- The head's attention. -/
def outOf (j : Fin 8) (d : Fin 128) : EReal :=
  cacheOf q k v kn vs L j d + Ideal.div (probN q k kn L j * vn d) (total q k kn L j)

theorem score_past (j : Fin 8) {t : ℕ} (h : L ≤ t) : score q k L j t = ⊥ := if_neg (by omega)
theorem prob_past (j : Fin 8) {t : ℕ} (h : L ≤ t) : prob q k kn L j t = 0 := by
  unfold prob; rw [score_past q k L j h, sub_eq_add_neg, EReal.bot_add]; rfl
theorem code_past (j : Fin 8) {t : ℕ} (h : L ≤ t) : code q k kn L j t = 0 := by
  unfold code; rw [prob_past q k kn L j h, zero_mul, min_eq_left bits_pos]

end

end Decode
-- ==== Proof.Pays.lean ====
/- The kernel's vector steps read at an index over the extended reals. -/
module

public import proofs.«01_k».proof.Proof.HeadMath
public import proofs.«01_k».proof.Proof.Gen.KernelIdeal.Skeleton

@[expose] public section

set_option maxRecDepth 16384

noncomputable section

namespace Cert.Proof.KernelIdeal

open Cert.KernelIdeal Decode
open Idealize.ShloMosaic

theorem pay26_at (v802 : FVec Ideal S8x1 .f32) (s : Vec Ideal S1x8x2048 .f32) (j : Fin 8) (t : Fin 2048) :
    Gen.k0_pay26 v802 s (ix2 j t) = Ideal.exp (s (ix3 0 j t) - v802 (ix2 j 0)) := by
  unfold Gen.k0_pay26
  pointwise

theorem pay28_at (v802 : FVec Ideal S8x1 .f32) (s : Vec Ideal S1x8x2048 .f32) (j : Fin 8) (t : Fin 2048) :
    Gen.k0_pay28 v802 s (ix2 j t) = min (Ideal.exp (s (ix3 0 j t) - v802 (ix2 j 0)) * Ideal.ofBits .f32 0x43E00000#32) (Ideal.ofBits .f32 0x43E00000#32) := by
  rw [← pay26_at]
  rfl

/-- A choice of two by the sequence's word, `b` being 0 or 1. -/
theorem pick {b : ℕ} (hb : b < 2) {α : Type} (f : Fin 2 → α) :
    Scalar.select (Scalar.cmpi CmpIPredicate.eq (BitVec.ofNat 32 b) 0#32) (f 0) (f 1) = f ⟨b, hb⟩ := by
  obtain rfl | rfl : b = 0 ∨ b = 1 := by omega
  · rfl
  · rfl

theorem pay63_at {b : ℕ} (hb : b < 2) (Q : FVec Ideal S8x128 .bf16) (kn : FVec Ideal S2x128 .f32) (j : Fin 8) :
    Gen.k0_pay63 (BitVec.ofNat 32 b) Q kn 0#32 (ix2 j 0) = (∑ d : Fin 128, Q (ix2 j d) * kn (ix2 ⟨b, hb⟩ d)) * Ideal.ofBits .f32 0x3DB504F3#32 := by
  unfold Gen.k0_pay63
  pointwise
  exact congrArg (· * Ideal.ofBits .f32 0x3DB504F3#32) (Finset.sum_congr rfl fun d _ => congrArg (Q (ix2 j d) * ·) (pick hb fun b => kn (ix2 b d)))

theorem sum_2048 (f : ℕ → EReal) : ∑ t ∈ Finset.range 2048, f t = ∑ x : Fin 512, f x.val + (∑ x : Fin 512, f (512 + x.val) + (∑ x : Fin 512, f (1024 + x.val) + ∑ x : Fin 512, f (1536 + x.val))) := by
  rw [show 2048 = 512 + 512 + 512 + 512 from rfl, Finset.sum_range_add, Finset.sum_range_add, Finset.sum_range_add, Finset.sum_range, Finset.sum_range, Finset.sum_range, Finset.sum_range, add_assoc, add_assoc]

theorem sup_range_succ (f : ℕ → EReal) (n : ℕ) : (Finset.range (n + 1)).sup f = max ((Finset.range n).sup f) (f n) := by
  rw [Finset.range_add_one, Finset.sup_insert, max_comm]

theorem pay40_at (a : FVec Ideal S8x128 .f32) (p : FVec Ideal S8x2048 .f32) (v : FVec Ideal S2048x128 .fp8e4m3) (p0 p1 : FVec Ideal S8x512 .f32) (P V : ℕ → EReal) (j : Fin 8) (d : Fin 128)
    (h0 : ∀ x : Fin 512, p0 (ix2 j x) = P x.val) (h1 : ∀ x : Fin 512, p1 (ix2 j x) = P (512 + x.val)) (hp : ∀ t : Fin 2048, p (ix2 j t) = P t.val)
    (hv : ∀ t : Fin 2048, P t.val * v (ix2 t d) = P t.val * V t.val) :
    Gen.k0_pay40 a p v p0 p1 (ix2 j d) = a (ix2 j d) + ∑ t ∈ Finset.range 2048, P t * V t := by
  unfold Gen.k0_pay40
  pointwise
  have e16 : ¬ 16 + j.val < 8 := by omega
  have e16' : ¬ 16 + j.val - 8 < 8 := by omega
  have e16'' : 16 + j.val - 8 - 8 < 8 := by omega
  have e24 : ¬ 24 + j.val < 8 := by omega
  have e24' : ¬ 24 + j.val - 8 < 8 := by omega
  have e24'' : ¬ 24 + j.val - 8 - 8 < 8 := by omega
  simp only [dif_neg e16, dif_neg e16', dif_pos e16'', dif_neg e24, dif_neg e24', dif_neg e24'']
  have j1 : (⟨16 + j.val - 8 - 8, e16''⟩ : Fin 8) = j := Fin.ext (by simp only; omega)
  have j2 : ∀ h, (⟨24 + j.val - 8 - 8 - 8, h⟩ : Fin 8) = j := fun _ => Fin.ext (by simp only; omega)
  simp only [j1, j2, h0, h1, hp]
  rw [sum_2048, ← add_assoc, ← add_assoc, ← add_assoc]
  refine congrArg₂ (· + ·) (congrArg₂ (· + ·) (congrArg₂ (· + ·) (congrArg (a (ix2 j d) + ·) ?_) ?_) ?_) ?_
  · exact Finset.sum_congr rfl fun x _ => hv ⟨x.val, by omega⟩
  · exact Finset.sum_congr rfl fun x _ => hv ⟨512 + x.val, by omega⟩
  · exact Finset.sum_congr rfl fun x _ => hv ⟨1024 + x.val, by omega⟩
  · exact Finset.sum_congr rfl fun x _ => hv ⟨1536 + x.val, by omega⟩

/-- The first six lane groups' maximum. -/
def max6 {F : FTy → Type} [FloatOps F] (s : FVec F S8x2048 .f32) (m : FVec F S8x128 .f32) : FVec F S8x128 .f32 :=
  maximumf (maximumf (maximumf (maximumf (maximumf (maximumf m (extractStridedSlice S8x128 ![0, 0] s Gen.slices_S8x2048_o0_0_S8x128)) (extractStridedSlice S8x128 ![0, 128] s Gen.slices_S8x2048_o0_128_S8x128)) (extractStridedSlice S8x128 ![0, 256] s Gen.slices_S8x2048_o0_256_S8x128)) (extractStridedSlice S8x128 ![0, 384] s Gen.slices_S8x2048_o0_384_S8x128)) (extractStridedSlice S8x128 ![0, 512] s Gen.slices_S8x2048_o0_512_S8x128)) (extractStridedSlice S8x128 ![0, 640] s Gen.slices_S8x2048_o0_640_S8x128)

theorem pay7_eq {F : FTy → Type} [FloatOps F] (v584 : IVec S8x2048 32) (v734 : BitVec 32) (v753 : Elt F .i32) (Q : FVec F S8x128 .bf16) (k : Fin (k0_t4_loop v753).trips) (arg25 : BitVec 32) (v946 : Elt F .i32) (z o : BitVec 32) (t : Fin (k0_t7_loop v753 k v946).trips) (m : FVec F S8x128 .f32) (kb : Vec F S1x2048x128 .bf16) :
    Gen.k0_pay7 v584 v734 v753 Q k arg25 v946 z o t m kb = max6 (Gen.k0_pay5 v584 v734 v753 Q k arg25 v946 z o t kb) m := rfl

theorem max16_at (s : FVec Ideal S8x2048 .f32) (m : FVec Ideal S8x128 .f32) (f : ℕ → EReal) (j : Fin 8) (l : Fin 128) (hf : ∀ t : Fin 2048, s (ix2 j t) = f t.val) :
    Gen.k0_pay13 s (max6 s m) (ix2 j l) = max (m (ix2 j l)) ((Finset.range 16).sup fun a => f (128 * a + l.val)) := by
  unfold Gen.k0_pay13 max6
  pointwise
  simp only [hf, sup_range_succ, Finset.range_zero, Finset.sup_empty, bot_le, sup_of_le_right, max_eq_right, ← max_assoc, Nat.mul_zero, Nat.zero_add, Nat.reduceMul]

theorem sum16_at (s : FVec Ideal S8x1 .f32) (m : FVec Ideal S8x128 .f32) (x : Vec Ideal S1x8x2048 .f32) (f : ℕ → EReal) (j : Fin 8) (l : Fin 128) (hf : ∀ t : Fin 2048, Gen.k0_pay26 s x (ix2 j t) = f t.val) :
    Gen.k0_pay27 s m x (ix2 j l) = m (ix2 j l) + ∑ a ∈ Finset.range 16, f (128 * a + l.val) := by
  unfold Gen.k0_pay27
  pointwise
  simp only [hf, Finset.sum_range_succ, Finset.sum_range_zero, zero_add, ← add_assoc, Nat.mul_zero, Nat.reduceMul]

theorem pay64_at (b : BitVec 32) (Q : FVec Ideal S8x128 .bf16) (m : FVec Ideal S8x128 .f32) (kn : FVec Ideal S2x128 .f32) (z : BitVec 32) (j : Fin 8) :
    Gen.k0_pay64 b Q m kn z (ix2 j 0) = max (Finset.univ.sup fun l : Fin 128 => m (ix2 j l)) (Gen.k0_pay63 b Q kn z (ix2 j 0)) := by
  unfold Gen.k0_pay64
  pointwise
  rw [bits_bot]
  rfl

theorem pay65_at (b : BitVec 32) (Q : FVec Ideal S8x128 .bf16) (m : FVec Ideal S8x128 .f32) (kn : FVec Ideal S2x128 .f32) (z : BitVec 32) (j : Fin 8) :
    Gen.k0_pay65 b Q m kn z (ix2 j 0) = Ideal.exp (Gen.k0_pay63 b Q kn z (ix2 j 0) - Gen.k0_pay64 b Q m kn z (ix2 j 0)) := by
  unfold Gen.k0_pay65
  pointwise

theorem pay67_at (b : BitVec 32) (Q : FVec Ideal S8x128 .bf16) (m : FVec Ideal S8x128 .f32) (kn : FVec Ideal S2x128 .f32) (z : BitVec 32) (w : FVec Ideal S8x128 .f32) (j : Fin 8) :
    Gen.k0_pay67 b Q m kn z w (ix2 j 0) = (∑ l : Fin 128, w (ix2 j l)) + Gen.k0_pay65 b Q m kn z (ix2 j 0) := by
  unfold Gen.k0_pay67
  pointwise

theorem pay142_at (a2 : FVec Ideal S1x128 .f32) (a4 : FVec Ideal S8x1 .f32) (a5 : FVec Ideal S8x128 .f32) (j : Fin 8) (d : Fin 128) :
    Gen.k0_pay142 a2 a4 a5 (ix3 0 j d) = Ideal.div (a5 (ix2 j d) * a2 (ix2 0 d)) (a4 (ix2 j 0)) := by
  unfold Gen.k0_pay142 Gen.k0_pay141
  pointwise

theorem pay143_at (a1 a2 : FVec Ideal S1x128 .f32) (a3 a4 : FVec Ideal S8x1 .f32) (a5 : FVec Ideal S8x128 .f32) (j : Fin 8) (d : Fin 128) :
    Gen.k0_pay143 a1 a2 a3 a4 a5 (ix3 0 j d) = Ideal.div (a5 (ix2 j d) * a2 (ix2 0 d)) (a4 (ix2 j 0)) + Ideal.div (a3 (ix2 j 0) * a1 (ix2 0 d)) (a4 (ix2 j 0)) := by
  unfold Gen.k0_pay143 Gen.k0_pay141
  pointwise

theorem pay62_at {b : ℕ} (hb : b < 2) (vs : Vec Ideal S1x2x128 .f32) (d : Fin 128) : Gen.k0_pay62 (BitVec.ofNat 32 b) vs (ix2 0 d) = vs (ix3 0 ⟨b, hb⟩ d) := by
  unfold Gen.k0_pay62
  pointwise
  exact pick hb fun b => vs (ix3 0 b d)

theorem pay61_at {b : ℕ} (hb : b < 2) (vn : Vec Ideal S1x2x128 .bf16) (d : Fin 128) : Gen.k0_pay61 (BitVec.ofNat 32 b) vn (ix2 0 d) = vn (ix3 0 ⟨b, hb⟩ d) := by
  unfold Gen.k0_pay61
  pointwise
  exact pick hb fun b => vn (ix3 0 b d)

theorem pay60_at (kn : Vec Ideal S1x2x128 .bf16) (b : Fin 2) (d : Fin 128) : Gen.k0_pay60 kn (ix2 b d) = kn (ix3 0 b d) := by
  unfold Gen.k0_pay60
  pointwise

theorem pay68_at (w : FVec Ideal S8x128 .f32) (j : Fin 8) (d : Fin 128) : Gen.k0_pay68 w (ix2 j d) = w (ix2 j d) * Ideal.ofBits .f32 0x3B124925#32 := by
  unfold Gen.k0_pay68
  pointwise

theorem pay58_at (Q : Vec Ideal S1x8x128 .bf16) (j : Fin 8) (d : Fin 128) : Gen.k0_pay58 Q (ix2 j d) = Q (ix3 0 j d) := by
  unfold Gen.k0_pay58
  pointwise

theorem pay59_at (j : Fin 8) (l : Fin 128) : Gen.k0_pay59 (F := Ideal) (ix2 j l) = ⊥ := bits_bot
theorem pay66_at (j : Fin 8) (l : Fin 128) : Gen.k0_pay66 (F := Ideal) (ix2 j l) = 0 := by
  unfold Gen.k0_pay66
  pointwise

theorem pay29_at (v : Vec Ideal S1x2048x128 .fp8e4m3) (t : Fin 2048) (d : Fin 128) : Gen.k0_pay29 v (ix2 t d) = v (ix3 0 t d) := by
  unfold Gen.k0_pay29
  pointwise

theorem pay30_at (v802 : FVec Ideal S8x1 .f32) (s : Vec Ideal S1x8x2048 .f32) (j : Fin 8) (x : Fin 512) : Gen.k0_pay30 v802 s (ix2 j x) = Gen.k0_pay28 v802 s (ix2 j ⟨x.val, by omega⟩) := by
  unfold Gen.k0_pay30
  pointwise
theorem pay31_at (v802 : FVec Ideal S8x1 .f32) (s : Vec Ideal S1x8x2048 .f32) (j : Fin 8) (x : Fin 512) : Gen.k0_pay31 v802 s (ix2 j x) = Gen.k0_pay28 v802 s (ix2 j ⟨512 + x.val, by omega⟩) := by
  unfold Gen.k0_pay31
  pointwise

/-- The product of sixteen rows of 256 with 1024 rows of 256. -/
theorem dot_at (A : FVec Ideal S16x256 .bf16) (B : FVec Ideal S1024x256 .bf16) (r : Fin 16) (s : Fin 1024) :
    matmul dot_S16x256_S1024x256_S16x1024_1_1_0_0_n_n none A B (constant S16x1024 .f32 0x00000000#32) (ix2 r s) = ∑ x : Fin 256, A (ix2 r x) * B (ix2 s x) := by
  pointwise

/-- The query block on the diagonal. -/
def qq {F : FTy → Type} [FloatOps F] (Q : FVec F S8x128 .bf16) : FVec F S16x256 .bf16 :=
  concatenate S16x256 0 [⟨S8x256, concatenate S8x256 1 [⟨S8x128, Q⟩, ⟨S8x128, broadcast S8x128 (Scalar.ofBits .bf16 0x0000#16)⟩] Gen.concatenates_S8x128_S8x128_S8x256_d1⟩, ⟨S8x256, concatenate S8x256 1 [⟨S8x128, broadcast S8x128 (Scalar.ofBits .bf16 0x0000#16)⟩, ⟨S8x128, Q⟩] Gen.concatenates_S8x128_S8x128_S8x256_d1⟩] Gen.concatenates_S8x256_S8x256_S16x256_d0

/-- The two halves of a block of keys side by side. -/
def kk {F : FTy → Type} [FloatOps F] (kb : Vec F S1x2048x128 .bf16) : FVec F S1024x256 .bf16 :=
  concatenate S1024x256 1 [⟨S1024x128, extractStridedSlice S1024x128 ![0, 0] (shapeCast S2048x128 kb Gen.shapeCasts_S1x2048x128_S2048x128) Gen.slices_S2048x128_o0_0_S1024x128⟩, ⟨S1024x128, extractStridedSlice S1024x128 ![1024, 0] (shapeCast S2048x128 kb Gen.shapeCasts_S1x2048x128_S2048x128) Gen.slices_S2048x128_o1024_0_S1024x128⟩] Gen.concatenates_S1024x128_S1024x128_S1024x256_d1

/-- The masked scores from the scaled product. -/
def masked {F : FTy → Type} [FloatOps F] (v584 : IVec S8x2048 32) (w : BitVec 32) (M : FVec F S16x1024 .f32) : FVec F S8x2048 .f32 :=
  select (cmpi .slt v584 (broadcast S8x2048 w)) (concatenate S8x2048 1 [⟨S8x1024, extractStridedSlice S8x1024 ![0, 0] M Gen.slices_S16x1024_o0_0_S8x1024⟩, ⟨S8x1024, extractStridedSlice S8x1024 ![8, 0] M Gen.slices_S16x1024_o8_0_S8x1024⟩] Gen.concatenates_S8x1024_S8x1024_S8x2048_d1) (broadcast S8x2048 (Scalar.ofBits .f32 0xFF800000#32))

theorem masked_at (v584 : IVec S8x2048 32) (w : BitVec 32) (M : FVec Ideal S16x1024 .f32) (j : Fin 8) (s : Fin 2048) (e : EReal)
    (lo : ∀ h : s.val < 1024, M (ix2 ⟨j.val, by omega⟩ ⟨s.val, h⟩) = e) (hi : ∀ h : ¬ s.val < 1024, M (ix2 ⟨8 + j.val, by omega⟩ ⟨s.val - 1024, by omega⟩) = e) :
    masked v584 w M (ix2 j s) = Scalar.select (Scalar.cmpi .slt (v584 (ix2 j s)) w) e ⊥ := by
  rw [← bits_bot]
  unfold masked
  pointwise
  by_cases h : s.val < 1024
  · rw [dif_pos h, ← lo h]; rfl
  · rw [dif_neg h, ← hi h]; rfl

theorem qq_lo (Q : FVec Ideal S8x128 .bf16) (j : Fin 8) (h : j.val < 16) (x : Fin 128) : qq Q (ix2 ⟨j.val, h⟩ ⟨x.val, by omega⟩) = Q (ix2 j x) := by
  unfold qq
  pointwise
theorem qq_lo' (Q : FVec Ideal S8x128 .bf16) (j : Fin 8) (h : j.val < 16) (x : Fin 128) : qq Q (ix2 ⟨j.val, h⟩ ⟨128 + x.val, by omega⟩) = 0 := by
  unfold qq
  pointwise
theorem qq_hi (Q : FVec Ideal S8x128 .bf16) (j : Fin 8) (h : 8 + j.val < 16) (x : Fin 128) : qq Q (ix2 ⟨8 + j.val, h⟩ ⟨x.val, by omega⟩) = 0 := by
  unfold qq
  pointwise
theorem qq_hi' (Q : FVec Ideal S8x128 .bf16) (j : Fin 8) (h : 8 + j.val < 16) (x : Fin 128) : qq Q (ix2 ⟨8 + j.val, h⟩ ⟨128 + x.val, by omega⟩) = Q (ix2 j x) := by
  unfold qq
  pointwise

theorem kk_lo (kb : Vec Ideal S1x2048x128 .bf16) (s : Fin 1024) (x : Fin 128) : kk kb (ix2 s ⟨x.val, by omega⟩) = kb (ix3 0 ⟨s.val, by omega⟩ x) := by
  unfold kk
  pointwise
theorem kk_hi (kb : Vec Ideal S1x2048x128 .bf16) (s : Fin 1024) (x : Fin 128) : kk kb (ix2 s ⟨128 + x.val, by omega⟩) = kb (ix3 0 ⟨1024 + s.val, by omega⟩ x) := by
  unfold kk
  pointwise

theorem sum_256 (f : Fin 256 → EReal) : ∑ x, f x = ∑ x : Fin 128, f ⟨x.val, by omega⟩ + ∑ x : Fin 128, f ⟨128 + x.val, by omega⟩ :=
  Fin.sum_univ_add (a := 128) (b := 128) f

theorem pay5_eq {F : FTy → Type} [FloatOps F] (v584 : IVec S8x2048 32) (v734 : BitVec 32) (v753 : Elt F .i32) (Q : FVec F S8x128 .bf16) (k : Fin (k0_t4_loop v753).trips) (arg25 : BitVec 32) (v946 : Elt F .i32) (z o : BitVec 32) (t : Fin (k0_t7_loop v753 k v946).trips) (kb : Vec F S1x2048x128 .bf16) :
    Gen.k0_pay5 v584 v734 v753 Q k arg25 v946 z o t kb = masked v584 (Scalar.subi v734 (Scalar.addi (Scalar.muli arg25 4096#32) (Scalar.muli (Scf.iv z o t) 2048#32)))
      (mulf (matmul dot_S16x256_S1024x256_S16x1024_1_1_0_0_n_n none (qq Q) (kk kb) (constant S16x1024 .f32 0x00000000#32)) (broadcast S16x1024 (Scalar.ofBits .f32 0x3DB504F3#32))) := rfl

theorem pay5_at (v584 : IVec S8x2048 32) (v734 : BitVec 32) (v753 : Elt Ideal .i32) (Q : FVec Ideal S8x128 .bf16) (k : Fin (k0_t4_loop v753).trips) (arg25 : BitVec 32) (v946 : Elt Ideal .i32) (z o : BitVec 32) (t : Fin (k0_t7_loop v753 k v946).trips) (kb : Vec Ideal S1x2048x128 .bf16) (j : Fin 8) (s : Fin 2048) :
    Gen.k0_pay5 v584 v734 v753 Q k arg25 v946 z o t kb (ix2 j s) = Scalar.select (Scalar.cmpi .slt (v584 (ix2 j s)) (Scalar.subi v734 (Scalar.addi (Scalar.muli arg25 4096#32) (Scalar.muli (Scf.iv z o t) 2048#32))))
      ((∑ x : Fin 128, Q (ix2 j x) * kb (ix3 0 s x)) * Ideal.ofBits .f32 0x3DB504F3#32) ⊥ := by
  rw [pay5_eq]
  refine masked_at _ _ _ j s _ (fun h => ?_) (fun h => ?_)
  · refine congrArg (· * Ideal.ofBits .f32 0x3DB504F3#32) ((dot_at _ _ _ _).trans ?_)
    rw [sum_256]
    simp only [qq_lo, qq_lo', kk_lo, zero_mul, Finset.sum_const_zero, add_zero]
  · refine congrArg (· * Ideal.ofBits .f32 0x3DB504F3#32) ((dot_at _ _ _ _).trans ?_)
    rw [sum_256]
    simp only [qq_hi, qq_hi', kk_hi, zero_mul, Finset.sum_const_zero, zero_add]
    refine Finset.sum_congr rfl fun x _ => congrArg (fun u => Q (ix2 j x) * kb (ix3 0 u x)) (Fin.ext ?_)
    simp only; omega

end Cert.Proof.KernelIdeal
-- ==== Proof.HeadVal.lean ====
/- One head's blocks over the extended reals: the block by block numbers of the
loops add up to the head's attention. -/
module

public import proofs.«01_k».proof.Proof.Pays
public import proofs.«01_k».proof.Proof.IHead

@[expose] public section

set_option maxRecDepth 16384

noncomputable section

namespace Cert.Proof.KernelIdeal

open Cert.KernelIdeal Decode
open Idealize.ShloMosaic Idealize.ShloMosaic.TcCoe
open Idealize.ShloMosaic.Affine (IsInt addi muli subi minsi maxsi)

/-! ## Words -/

/-- A chunk has at most two blocks, whatever the length's word. -/
theorem t7_le (v753 : Elt Ideal .i32) (k : Fin (k0_t4_loop v753).trips) (v : Elt Ideal .i32) : (k0_t7_loop v753 k v).trips ≤ 2 := by
  obtain ⟨n, hn, e⟩ : ∃ n : ℕ, n ≤ 4096 ∧ rowsW (Scf.iv 0#32 1#32 k.val) v = BitVec.ofNat 32 n := by
    obtain ⟨x, hx⟩ : ∃ x, rowsW (Scf.iv 0#32 1#32 k.val) v = Scalar.minsi 4096#32 (Scalar.maxsi 32#32 x) := ⟨_, rfl⟩
    refine ⟨(min 4096 (max 32 x.toInt)).toNat, by omega, hx.trans (eq_ofNat _ (minsi (ea := 4096) (Affine.ofNat 4096 (by omega)) (maxsi (ea := 32) (Affine.ofNat 32 (by omega)) (Affine.word x) rfl) rfl) (by omega))⟩
  have hu : IsInt (k0_t7_loop v753 k v).ub (blocksN n : ℕ) := by
    show IsInt (Scalar.addi 0#32 (Scalar.muli (Scalar.divsi (Scalar.subi (blocksW (rowsW (Scf.iv 0#32 1#32 k.val) v)) 0#32) 1#32) 1#32)) _
    rw [e]
    exact blocks_ub hn
  refine (trips_of zero_isInt hu).trans_le ?_
  unfold blocksN
  omega

/-- The mask of a block of scores. -/
theorem mask_word (v : BitVec 32) {k t s : ℕ} (hk : k < 16) (ht : t < 2) (hs : s < 2048) (a b : EReal) :
    Scalar.select (Scalar.cmpi .slt (BitVec.ofNat 32 s) (Scalar.subi (clipW v) (Scalar.addi (Scalar.muli (Scf.iv 0#32 1#32 k) 4096#32) (Scalar.muli (Scf.iv 0#32 1#32 t) 2048#32)))) a b
      = if 2048 * (2 * k + t) + s < lenN v then a else b := by
  have hL := lenN_le v
  rw [iv_eq k (by omega), iv_eq t (by omega)]
  have hw : IsInt (Scalar.subi (clipW v) (Scalar.addi (Scalar.muli (BitVec.ofNat 32 k) 4096#32) (Scalar.muli (BitVec.ofNat 32 t) 2048#32))) ((lenN v : ℤ) - (k * 4096 + t * 2048)) :=
    subi (clipW_isInt v) (addi (muli (ea := k) (eb := 4096) (e := k * 4096) (isInt_ofNat (by omega)) (Affine.ofNat 4096 (by omega)) ⟨rfl, by omega, by omega⟩)
      (muli (ea := t) (eb := 2048) (e := t * 2048) (isInt_ofNat (by omega)) (Affine.ofNat 2048 (by omega)) ⟨rfl, by omega, by omega⟩) ⟨rfl, by omega, by omega⟩) ⟨rfl, by omega, by omega⟩
  by_cases h : 2048 * (2 * k + t) + s < lenN v
  · rw [if_pos h]
    exact if_pos (Affine.slt_holds (isInt_ofNat (by omega)) hw (by omega))
  · rw [if_neg h]
    exact if_neg (Affine.slt_fails (isInt_ofNat (by omega)) hw (by omega))

theorem iota_at (j : Fin 8) (s : Fin 2048) : iota .tc S8x2048 32 [1] Gen.iota_S8x2048_d1_w32 (ix2 j s) = BitVec.ofNat 32 s.val := by
  pointwise

theorem len_blks (L : ℕ) : L ≤ 2048 * blks L := by
  obtain ⟨n, hn⟩ : ∃ n, ncN L = n + 1 := ⟨ncN L - 1, by have := ncN_pos L; omega⟩
  unfold blks
  rw [hn]
  show L ≤ 2048 * (2 * n + blocksN (rowsN L n))
  unfold blocksN rowsN
  unfold ncN at hn
  omega

/-! ## The blocks -/

section
variable (q : Fin 8 → Fin 128 → EReal) (k v : ℕ → Fin 128 → EReal) (kn vn vs : Fin 128 → EReal) (L : ℕ)

/-- Block `n`'s scores, -/
def Sof (n : ℕ) : S8x2048.Idx → EReal := fun y => score q k L (y 0) (2048 * n + (y 1).val)
/-- the running maxima over the blocks below `n`, lane by lane, -/
def Mof (n : ℕ) : S8x128.Idx → EReal := fun y => (Finset.range n).sup fun i => (Finset.range 16).sup fun a => score q k L (y 0) (2048 * i + (128 * a + (y 1).val))
/-- the running sums of the weights, lane by lane, and of the weighted values. -/
def Wof (n : ℕ) : (S8x128.Idx → EReal) × (S8x128.Idx → EReal) :=
  (fun y => ∑ i ∈ Finset.range n, ∑ a ∈ Finset.range 16, prob q k kn L (y 0) (2048 * i + (128 * a + (y 1).val)),
   fun y => ∑ i ∈ Finset.range n, ∑ t ∈ Finset.range 2048, code q k kn L (y 0) (2048 * i + t) * v (2048 * i + t) (y 1))
/-- The two rows stored for the head. -/
def Cof : S1x8x128.Idx → EReal := fun z => cacheOf q k v kn vs L (z 1) (z 2)
def Oof : S1x8x128.Idx → EReal := fun z => outOf q k v kn vn vs L (z 1) (z 2)

theorem Wof_snd (j : Fin 8) (d : Fin 128) : (Wof q k v kn L (blks L)).2 (ix2 j d) = ∑ t ∈ Finset.range L, code q k kn L j t * v t d := by
  refine (sum_blocks (fun t => code q k kn L j t * v t d) 2048 (blks L)).symm.trans (sum_stop (len_blks L) fun t ht => ?_)
  rw [code_past q k kn L j ht, zero_mul]

theorem Wof_fst (j : Fin 8) : ∑ l : Fin 128, (Wof q k v kn L (blks L)).1 (ix2 j l) = ∑ t ∈ Finset.range L, prob q k kn L j t :=
  (sum_lanes (prob q k kn L j) (blks L)).trans (sum_stop (len_blks L) fun _ ht => prob_past q k kn L j ht)

theorem Mof_all (j : Fin 8) : (Finset.univ.sup fun l : Fin 128 => Mof q k L (blks L) (ix2 j l)) = (Finset.range L).sup (score q k L j) :=
  (sup_lanes (score q k L j) (blks L)).trans (sup_stop (len_blks L) fun _ ht => score_past q k L j ht)

end

section
variable {q : Fin 8 → Fin 128 → EReal} {k v : ℕ → Fin 128 → EReal} {kn vn vs : Fin 128 → EReal}
variable {b : ℕ} (hb : b < 2) (lwv : BitVec 32) {Q : Vec Ideal S1x8x128 .bf16} {kw vw : Vec Ideal S1x2x128 .bf16} {sw : Vec Ideal S1x2x128 .f32}
variable (hq : ∀ j d, Q (ix3 0 j d) = q j d) (hkn : ∀ d, kw (ix3 0 ⟨b, hb⟩ d) = kn d) (hvn : ∀ d, vw (ix3 0 ⟨b, hb⟩ d) = vn d) (hvs : ∀ d, sw (ix3 0 ⟨b, hb⟩ d) = vs d)

include hq hkn in
theorem new_at (j : Fin 8) : Gen.k0_pay63 (BitVec.ofNat 32 b) (Gen.k0_pay58 Q) (Gen.k0_pay60 kw) 0#32 (ix2 j 0) = scoreN q kn j := by
  rw [pay63_at hb]
  simp only [pay58_at, pay60_at, hq, hkn]
  rfl

include hq hkn in
theorem peak_at (j : Fin 8) : Gen.k0_pay64 (BitVec.ofNat 32 b) (Gen.k0_pay58 Q) (Mof q k (lenN lwv) (blks (lenN lwv))) (Gen.k0_pay60 kw) 0#32 (ix2 j 0) = peak q k kn (lenN lwv) j := by
  rw [pay64_at, new_at hb hq hkn, Mof_all]
  rfl

include hq hkn in
theorem probN_at (j : Fin 8) : Gen.k0_pay65 (BitVec.ofNat 32 b) (Gen.k0_pay58 Q) (Mof q k (lenN lwv) (blks (lenN lwv))) (Gen.k0_pay60 kw) 0#32 (ix2 j 0) = probN q k kn (lenN lwv) j := by
  rw [pay65_at, new_at hb hq hkn, peak_at hb lwv hq hkn]
  rfl

include hq hkn in
theorem total_at (j : Fin 8) : Gen.k0_pay67 (BitVec.ofNat 32 b) (Gen.k0_pay58 Q) (Mof q k (lenN lwv) (blks (lenN lwv))) (Gen.k0_pay60 kw) 0#32 (Wof q k v kn (lenN lwv) (blks (lenN lwv))).1 (ix2 j 0) = total q k kn (lenN lwv) j := by
  rw [pay67_at, probN_at hb lwv hq hkn, Wof_fst]
  rfl

include hq hkn hvn hvs in
/-- The loops' numbers are the head's attention. -/
theorem head_spec (c : Dev nD) (X : Memref sig .tc .hbm SX .bf16) (fX : Buf (Elt Ideal) (X.view.loc (c : Thread nD τ))) (Y : Memref sig .tc .hbm SX .fp8e4m3) (fY : Buf (Elt Ideal) (Y.view.loc (c : Thread nD τ)))
    {h : ℕ} (hk : ∀ x : SX.Idx, (x 0).val = h → X.view.read (Elt Ideal) fX x = k (x 1).val (x 2)) (hv : ∀ x : SX.Idx, (x 0).val = h → Y.view.read (Elt Ideal) fY x = v (x 1).val (x 2)) (hh : h < 20) :
    HeadSpec (F := Ideal) True c X fX Y fY (iota .tc S8x2048 32 [1] Gen.iota_S8x2048_d1_w32) (BitVec.ofNat 32 b) lwv Q kw vw sw h
      (Sof q k (lenN lwv)) (Mof q k (lenN lwv)) (Wof q k v kn (lenN lwv)) (Cof q k v kn vs (lenN lwv)) (Oof q k v kn vn vs (lenN lwv)) where
  m0 _ := by
    funext y
    obtain ⟨j, d, rfl⟩ : ∃ (j : Fin 8) (d : Fin 128), y = ix2 j d := ⟨_, _, eq_ix2 y⟩
    rw [pay59_at]
    rfl
  key := by
    intro i _ w t kb hkb
    have ht : t.val < 2 := lt_of_lt_of_le t.isLt (t7_le lwv i w)
    have hi : i.val < 16 := lt_of_lt_of_le (lt_of_lt_of_eq i.isLt (nc_trips lwv)) (ncN_le (lenN_le lwv))
    have hS : Gen.k0_pay5 (iota .tc S8x2048 32 [1] Gen.iota_S8x2048_d1_w32) (clipW lwv) lwv (Gen.k0_pay58 Q) i (Scf.iv 0#32 1#32 i.val) w 0#32 1#32 t kb = Sof q k (lenN lwv) (2 * i.val + t.val) := by
      funext y
      obtain ⟨j, s, rfl⟩ : ∃ (j : Fin 8) (s : Fin 2048), y = ix2 j s := ⟨_, _, eq_ix2 y⟩
      rw [pay5_at, iota_at]
      refine (mask_word lwv (s := s.val) hi ht s.isLt _ _).trans ?_
      show _ = if 2048 * (2 * i.val + t.val) + s.val < lenN lwv then _ else _
      by_cases hl : 2048 * (2 * i.val + t.val) + s.val < lenN lwv
      · rw [if_pos hl, if_pos hl]
        have hL := lenN_le lwv
        refine congrArg (· * Ideal.ofBits .f32 0x3DB504F3#32) (Finset.sum_congr rfl fun d _ => ?_)
        rw [pay58_at, hq, hkb (ix3 0 s d) (ix3 ⟨h, hh⟩ ⟨2048 * (2 * i.val + t.val) + s.val, by omega⟩ d) rfl rfl hl rfl, hk _ rfl]
        rfl
      · rw [if_neg hl, if_neg hl]
    refine ⟨hS, ?_⟩
    rw [pay7_eq, hS]
    funext y
    obtain ⟨j, d, rfl⟩ : ∃ (j : Fin 8) (d : Fin 128), y = ix2 j d := ⟨_, _, eq_ix2 y⟩
    refine (max16_at _ _ (fun r => score q k (lenN lwv) j (2048 * (2 * i.val + t.val) + r)) _ _ fun _ => rfl).trans ?_
    exact (sup_range_succ _ _).symm
  w0 _ := by
    refine Prod.ext ?_ ?_ <;>
    · funext y
      obtain ⟨j, d, rfl⟩ : ∃ (j : Fin 8) (d : Fin 128), y = ix2 j d := ⟨_, _, eq_ix2 y⟩
      exact pay66_at j d
  val _ n := by
    intro _ sb vb hsb hvb
    have hs : ∀ (j : Fin 8) (t : Fin 2048), sb (ix3 0 j t) = score q k (lenN lwv) j (2048 * n + t.val) := fun j t => hsb (ix3 0 j t) (ix2 j t) rfl rfl
    refine Prod.ext ?_ ?_
    · funext y
      obtain ⟨j, d, rfl⟩ : ∃ (j : Fin 8) (d : Fin 128), y = ix2 j d := ⟨_, _, eq_ix2 y⟩
      refine (sum16_at _ _ _ (fun r => prob q k kn (lenN lwv) j (2048 * n + r)) _ _ fun t => ?_).trans (Finset.sum_range_succ _ _).symm
      rw [pay26_at, hs, peak_at hb lwv hq hkn]
      rfl
    · funext y
      obtain ⟨j, d, rfl⟩ : ∃ (j : Fin 8) (d : Fin 128), y = ix2 j d := ⟨_, _, eq_ix2 y⟩
      have hp : ∀ (j : Fin 8) (t : Fin 2048), Gen.k0_pay28 (Gen.k0_pay64 (BitVec.ofNat 32 b) (Gen.k0_pay58 Q) (Mof q k (lenN lwv) (blks (lenN lwv))) (Gen.k0_pay60 kw) 0#32) sb (ix2 j t) = code q k kn (lenN lwv) j (2048 * n + t.val) := fun j t => by
        rw [pay28_at, hs, peak_at hb lwv hq hkn]
        rfl
      refine (pay40_at _ _ _ _ _ (fun t => code q k kn (lenN lwv) j (2048 * n + t)) (fun t => v (2048 * n + t) d) _ _ (fun x => ?_) (fun x => ?_) (fun t => hp _ t) (fun t => ?_)).trans (Finset.sum_range_succ _ _).symm
      · rw [pay30_at, hp]
      · rw [pay31_at, hp]
      · have hL := lenN_le lwv
        by_cases hl : 2048 * n + t.val < lenN lwv
        · rw [pay29_at, hvb (ix3 0 t d) (ix3 ⟨h, hh⟩ ⟨2048 * n + t.val, by omega⟩ d) rfl rfl hl rfl, hv _ rfl]
          rfl
        · simp only [code_past q k kn (lenN lwv) _ (not_lt.mp hl), zero_mul]
  cache _ := by
    funext z
    obtain ⟨a, j, d, rfl⟩ : ∃ (a : Fin 1) (j : Fin 8) (d : Fin 128), z = ix3 a j d := ⟨_, _, _, eq_ix3 z⟩
    obtain rfl : a = 0 := Subsingleton.elim _ _
    rw [pay142_at, pay68_at, Wof_snd, pay62_at hb, hvs, total_at hb lwv hq hkn]
    rfl
  out _ := by
    funext z
    obtain ⟨a, j, d, rfl⟩ : ∃ (a : Fin 1) (j : Fin 8) (d : Fin 128), z = ix3 a j d := ⟨_, _, _, eq_ix3 z⟩
    obtain rfl : a = 0 := Subsingleton.elim _ _
    rw [pay143_at, pay68_at, Wof_snd, pay62_at hb, pay61_at hb, hvs, hvn, total_at hb lwv hq hkn, probN_at hb lwv hq hkn]
    rfl

end

end Cert.Proof.KernelIdeal
-- ==== Proof.Inputs.lean ====
/- What each head reads of the arguments, and the two results as arrays of the heads' attention. -/
module

public import proofs.«01_k».proof.Proof.HeadMath
public import proofs.«01_k».proof.Proof.Words

@[expose] public section

set_option maxRecDepth 16384

noncomputable section

namespace Decode

open Idealize.ShloMosaic

variable (x : (⟨3, ![2, 1, 10240]⟩ : Shape).Idx → EReal) (kn vn : (⟨4, ![2, 1, 10, 128]⟩ : Shape).Idx → EReal)
variable (k v : (⟨4, ![2, 65536, 10, 128]⟩ : Shape).Idx → EReal) (vs : (⟨3, ![2, 10, 128]⟩ : Shape).Idx → EReal)
variable (len : (⟨1, ![2]⟩ : Shape).Idx → BitVec 32) (h : ℕ)

/-- Head `h` is a head of sequence `h / 10`, -/
abbrev seqOf : Fin 2 := ⟨h / 10 % 2, Nat.mod_lt _ (by omega)⟩
/-- its `h % 10`-th. -/
abbrev kvOf : Fin 10 := ⟨h % 10, Nat.mod_lt _ (by omega)⟩
/-- The head's eight queries, -/
def qOf (j : Fin 8) (d : Fin 128) : EReal := x (ix3 (seqOf h) 0 ⟨128 * (8 * (h % 10) + j.val) + d.val, by have := Nat.mod_lt h (show 0 < 10 by omega); omega⟩)
/-- the rows of its keys, or of its values' codes, -/
def rowOf (t : ℕ) (d : Fin 128) : EReal := k (ix4 (seqOf h) ⟨t % 65536, Nat.mod_lt _ (by omega)⟩ (kvOf h) d)
/-- its new key, or its new value, -/
def newOf (d : Fin 128) : EReal := kn (ix4 (seqOf h) 0 (kvOf h) d)
/-- the values' scales, -/
def scaleOf (d : Fin 128) : EReal := vs (ix3 (seqOf h) (kvOf h) d)
/-- and how many rows of the cache it sees. -/
def seen : ℕ := lenN (len (ix1 (seqOf h)))

/-- The second result: the cache's share of the attention. -/
def cacheArr : (⟨3, ![20, 8, 128]⟩ : Shape).Idx → EReal := fun z =>
  cacheOf (qOf x (z 0).val) (rowOf k (z 0).val) (rowOf v (z 0).val) (newOf kn (z 0).val) (scaleOf vs (z 0).val) (seen len (z 0).val) (z 1) (z 2)
/-- The first result: the attention, eight rows to a head. -/
def outArr : (⟨2, ![160, 128]⟩ : Shape).Idx → EReal := fun z =>
  outOf (qOf x ((z 0).val / 8)) (rowOf k ((z 0).val / 8)) (rowOf v ((z 0).val / 8)) (newOf kn ((z 0).val / 8)) (newOf vn ((z 0).val / 8)) (scaleOf vs ((z 0).val / 8)) (seen len ((z 0).val / 8))
    ⟨(z 0).val % 8, Nat.mod_lt _ (by omega)⟩ (z 1)

end Decode
-- ==== Proof.KSpec.lean ====
/- What the kernel's heads read of the arguments, and what they compute of it. -/
module

public import proofs.«01_k».proof.Proof.IRun
public import proofs.«01_k».proof.Proof.IHost
public import proofs.«01_k».proof.Proof.HeadVal
public import proofs.«01_k».proof.Proof.Inputs
public import Idealize.ShloMosaic.Lib.Pipeline.ValueKit

@[expose] public section

set_option maxRecDepth 16384

noncomputable section

namespace Cert.Proof.KernelIdeal

open Cert.KernelIdeal Decode
open Idealize.ShloMosaic Idealize.ShloMosaic.TcCoe

variable (m : (ℓ : Loc nD τ sig) → Buf (Elt Ideal) ℓ) (c : Dev nD)

/-! ## The blocks are the arrays -/

theorem idx0 : ∀ (t : Fin grid0.N) (a : Fin 1), win0_0.index t a = 0 := by decide +kernel
theorem idx1 : ∀ (t : Fin grid0.N) (a : Fin 2), win0_1.index t a = 0 := by decide +kernel
theorem idx2 : ∀ (t : Fin grid0.N) (a : Fin 3), win0_2.index t a = 0 := by decide +kernel
theorem idx3 : ∀ (t : Fin grid0.N) (a : Fin 3), win0_3.index t a = 0 := by decide +kernel
theorem idx4 : ∀ (t : Fin grid0.N) (a : Fin 3), win0_4.index t a = 0 := by decide +kernel

theorem blk0 (t : Fin cfg0.N) (b : Fin 2) : Gen.iblk m c 0 t (ix1 b) = m ((c : Thread nD τ).loc main_arg6) (ix1 b) := by
  refine Eq.trans ?_ (congrFun (Gen.V_main_arg6 m c) (ix1 b))
  blk_simp [Gen.iblk, idx0]
  refine congrArg (Gen.V m c main_arg6) (funext fun a => Fin.ext ?_)
  fin_cases a
  all_goals first | rfl | blk_simp [idx0] ; done | (blk_simp [idx0]; simp [idx0])
theorem blk1 (t : Fin cfg0.N) (b : Fin 2) (i : Fin 10240) : Gen.iblk m c 1 t (ix2 b i) = m ((c : Thread nD τ).loc main_arg0) (ix3 b 0 i) := by
  refine Eq.trans ?_ (queries_at m c b i)
  blk_simp [Gen.iblk, idx1]
  refine congrArg (Gen.V m c main_v9) (funext fun a => Fin.ext ?_)
  fin_cases a
  all_goals first | rfl | blk_simp [idx1] ; done | (blk_simp [idx1]; simp [idx1])
theorem blk2 (t : Fin cfg0.N) (g : Fin 10) (b : Fin 2) (d : Fin 128) : Gen.iblk m c 2 t (ix3 g b d) = m ((c : Thread nD τ).loc main_arg1) (ix4 b 0 g d) := by
  refine Eq.trans ?_ (newKeys_at m c b g d)
  blk_simp [Gen.iblk, idx2]
  refine congrArg (Gen.V m c main_v5) (funext fun a => Fin.ext ?_)
  fin_cases a
  all_goals first | rfl | blk_simp [idx2] ; done | (blk_simp [idx2]; simp [idx2])
theorem blk3 (t : Fin cfg0.N) (g : Fin 10) (b : Fin 2) (d : Fin 128) : Gen.iblk m c 3 t (ix3 g b d) = m ((c : Thread nD τ).loc main_arg2) (ix4 b 0 g d) := by
  refine Eq.trans ?_ (newVals_at m c b g d)
  blk_simp [Gen.iblk, idx3]
  refine congrArg (Gen.V m c main_v7) (funext fun a => Fin.ext ?_)
  fin_cases a
  all_goals first | rfl | blk_simp [idx3] ; done | (blk_simp [idx3]; simp [idx3])
theorem blk4 (t : Fin cfg0.N) (g : Fin 10) (b : Fin 2) (d : Fin 128) : Gen.iblk m c 4 t (ix3 g b d) = m ((c : Thread nD τ).loc main_arg5) (ix3 b g d) := by
  refine Eq.trans ?_ (scales_at m c b g d)
  blk_simp [Gen.iblk, idx4]
  refine congrArg (Gen.V m c main_v8) (funext fun a => Fin.ext ?_)
  fin_cases a
  all_goals first | rfl | blk_simp [idx4] ; done | (blk_simp [idx4]; simp [idx4])

/-! ## A head's reads -/

/-- What head `h` reads of the arguments. -/
abbrev hQy (h : ℕ) : Fin 8 → Fin 128 → EReal := qOf (m ((c : Thread nD τ).loc main_arg0)) h
abbrev hKey (h : ℕ) : ℕ → Fin 128 → EReal := rowOf (m ((c : Thread nD τ).loc main_arg3)) h
abbrev hVal (h : ℕ) : ℕ → Fin 128 → EReal := rowOf (m ((c : Thread nD τ).loc main_arg4)) h
abbrev hNew (h : ℕ) : Fin 128 → EReal := newOf (m ((c : Thread nD τ).loc main_arg1)) h
abbrev hNewV (h : ℕ) : Fin 128 → EReal := newOf (m ((c : Thread nD τ).loc main_arg2)) h
abbrev hScale (h : ℕ) : Fin 128 → EReal := scaleOf (m ((c : Thread nD τ).loc main_arg5)) h
abbrev hLen (h : ℕ) : ℕ := seen (m ((c : Thread nD τ).loc main_arg6)) h
/-- Its queries as the kernel keeps them. -/
def hRows (h : ℕ) : Vec Ideal S1x8x128 .bf16 := fun z => hQy m c h (z 1) (z 2)

theorem off51_eq : ∀ t : Fin k0_t3_loop.trips, k0_off51 t = ![t.val % 10, 0, 0] := by decide +kernel

theorem seq_lt {h : ℕ} (hh : h < 20) : seqOf h = ⟨h / 10, by omega⟩ := Fin.ext (Nat.mod_eq_of_lt (by omega))

theorem pair_read (e : EltTy) (M : Memref sig .tc .vmem S10x2x128 e) (f : Buf (Elt Ideal) (M.view.loc (c : Thread nD τ))) (t : Fin k0_t3_loop.trips) (b : Fin 2) (d : Fin 128) :
    View.readAt (Elt Ideal) M.view (Rect.unit (s := S10x2x128) (k0_off51 t) S1x2x128.size (Gen.k0_off51_inb t)).toLoadRect f (ix3 0 b d) = M.view.read (Elt Ideal) f (ix3 (kvOf t.val) b d) := by
  refine congrArg (M.view.read (Elt Ideal) f) (funext fun a => Fin.ext ?_)
  refine (Fin.forall_fin_succ.mpr ⟨?_, Fin.forall_fin_succ.mpr ⟨?_, Fin.forall_fin_succ.mpr ⟨?_, fun x => x.elim0⟩⟩⟩ : ∀ a : Fin 3, ((Rect.unit (s := S10x2x128) (k0_off51 t) S1x2x128.size (Gen.k0_off51_inb t)).emb (ix3 0 b d) a).val = ((ix3 (kvOf t.val) b d : S10x2x128.Idx) a).val) a
  · show k0_off51 t 0 + 1 * 0 = t.val % 10; rw [off51_eq]; rfl
  · show k0_off51 t 1 + 1 * b.val = b.val; rw [off51_eq]; show 0 + 1 * b.val = b.val; omega
  · show k0_off51 t 2 + 1 * d.val = d.val; rw [off51_eq]; show 0 + 1 * d.val = d.val; omega

theorem len_word (t : Fin cfg0.N) (f0 : Buf (Elt Ideal) ((st0 t).view.loc (c : Thread nD τ))) (e0 : (st0 t).view.read (Elt Ideal) f0 = Gen.iblk m c 0 t) (h : ℕ) :
    lw (st0 t) f0 (h / 10) = m ((c : Thread nD τ).loc main_arg6) (ix1 (seqOf h)) := by
  unfold lw
  rw [e0]
  exact (congrArg (Gen.iblk m c 0 t) (eq_ix1 _)).trans (blk0 m c t (seqOf h))

theorem key_read (x : SX.Idx) {h : ℕ} (hx : (x 0).val = h) : mK.view.read (Elt Ideal) (Gen.V m c main_v1) x = hKey m c h (x 1).val (x 2) := by
  obtain ⟨n, t, d, rfl⟩ : ∃ (n : Fin 20) (t : Fin 65536) (d : Fin 128), x = ix3 n t d := ⟨_, _, _, eq_ix3 x⟩
  obtain rfl : n.val = h := hx
  have e : (⟨10 * (n.val / 10) + n.val % 10, by omega⟩ : Fin 20) = n := Fin.ext (Nat.div_add_mod _ _)
  have k := keys_at m c ⟨n.val / 10, by omega⟩ ⟨n.val % 10, by omega⟩ t d
  simp only [e] at k
  refine k.trans ?_
  show _ = rowOf _ n.val t.val d
  unfold rowOf
  rw [seq_lt n.isLt]
  congr 2
  exact Fin.ext (Nat.mod_eq_of_lt t.isLt).symm
theorem val_read (x : SX.Idx) {h : ℕ} (hx : (x 0).val = h) : mV.view.read (Elt Ideal) (Gen.V m c main_v3) x = hVal m c h (x 1).val (x 2) := by
  obtain ⟨n, t, d, rfl⟩ : ∃ (n : Fin 20) (t : Fin 65536) (d : Fin 128), x = ix3 n t d := ⟨_, _, _, eq_ix3 x⟩
  obtain rfl : n.val = h := hx
  have e : (⟨10 * (n.val / 10) + n.val % 10, by omega⟩ : Fin 20) = n := Fin.ext (Nat.div_add_mod _ _)
  have k := vals_at m c ⟨n.val / 10, by omega⟩ ⟨n.val % 10, by omega⟩ t d
  simp only [e] at k
  refine k.trans ?_
  show _ = rowOf _ n.val t.val d
  unfold rowOf
  rw [seq_lt n.isLt]
  congr 2
  exact Fin.ext (Nat.mod_eq_of_lt t.isLt).symm

/-! ## The heads -/

theorem query_rows (t : Fin cfg0.N) (f1 : Buf (Elt Ideal) ((st1 t).view.loc (c : Thread nD τ))) (e1 : (st1 t).view.read (Elt Ideal) f1 = Gen.iblk m c 1 t) : QueryRows True c (st1 t) f1 (hRows m c) := by
  intro _ h z x hh x0 x1
  obtain ⟨a, j, d, rfl⟩ : ∃ (a : Fin 1) (j : Fin 8) (d : Fin 128), z = ix3 a j d := ⟨_, _, _, eq_ix3 z⟩
  obtain ⟨b, i, rfl⟩ : ∃ (b : Fin 2) (i : Fin 10240), x = ix2 b i := ⟨_, _, eq_ix2 x⟩
  rw [e1, blk1]
  show qOf _ h j d = _
  unfold qOf
  have eb : seqOf h = b := Fin.ext ((Nat.mod_eq_of_lt (by omega)).trans x0.symm)
  rw [eb]
  congr 2
  exact Fin.ext x1.symm

theorem heads (t : Fin cfg0.N) (f0 : Buf (Elt Ideal) ((st0 t).view.loc (c : Thread nD τ))) (f2 : Buf (Elt Ideal) ((st2 t).view.loc (c : Thread nD τ))) (f3 : Buf (Elt Ideal) ((st3 t).view.loc (c : Thread nD τ))) (f4 : Buf (Elt Ideal) ((st4 t).view.loc (c : Thread nD τ)))
    (e0 : (st0 t).view.read (Elt Ideal) f0 = Gen.iblk m c 0 t) (e2 : (st2 t).view.read (Elt Ideal) f2 = Gen.iblk m c 2 t) (e3 : (st3 t).view.read (Elt Ideal) f3 = Gen.iblk m c 3 t) (e4 : (st4 t).view.read (Elt Ideal) f4 = Gen.iblk m c 4 t)
    (t3 : Fin k0_t3_loop.trips) :
    HeadSpec (F := Ideal) True c mK (Gen.V m c main_v1) mV (Gen.V m c main_v3) (iota .tc S8x2048 32 [1] Gen.iota_S8x2048_d1_w32) (seqW (Scf.iv 0#32 1#32 t3.val)) (lw (st0 t) f0 (t3.val / 10)) (hRows m c t3.val)
        (View.readAt (Elt Ideal) (st2 t).view (Rect.unit (s := S10x2x128) (k0_off51 t3) S1x2x128.size (Gen.k0_off51_inb t3)).toLoadRect f2)
        (View.readAt (Elt Ideal) (st3 t).view (Rect.unit (s := S10x2x128) (k0_off51 t3) S1x2x128.size (Gen.k0_off51_inb t3)).toLoadRect f3)
        (View.readAt (Elt Ideal) (st4 t).view (Rect.unit (s := S10x2x128) (k0_off51 t3) S1x2x128.size (Gen.k0_off51_inb t3)).toLoadRect f4)
        t3.val (Sof (hQy m c t3.val) (hKey m c t3.val) (hLen m c t3.val)) (Mof (hQy m c t3.val) (hKey m c t3.val) (hLen m c t3.val)) (Wof (hQy m c t3.val) (hKey m c t3.val) (hVal m c t3.val) (hNew m c t3.val) (hLen m c t3.val))
        (Cof (hQy m c t3.val) (hKey m c t3.val) (hVal m c t3.val) (hNew m c t3.val) (hScale m c t3.val) (hLen m c t3.val)) (Oof (hQy m c t3.val) (hKey m c t3.val) (hVal m c t3.val) (hNew m c t3.val) (hNewV m c t3.val) (hScale m c t3.val) (hLen m c t3.val)) := by
  have hh : t3.val < 20 := t3.isLt
  have eb : seqOf t3.val = ⟨t3.val / 10, by omega⟩ := seq_lt hh
  rw [len_word m c t f0 e0, iv_eq _ (by omega), seqW_eq ⟨t3.val, hh⟩]
  refine head_spec (b := t3.val / 10) (by omega) (m ((c : Thread nD τ).loc main_arg6) (ix1 (seqOf t3.val))) (fun j d => rfl) (fun d => ?_) (fun d => ?_) (fun d => ?_) c mK (Gen.V m c main_v1) mV (Gen.V m c main_v3)
    (fun x hx => key_read m c x hx) (fun x hx => val_read m c x hx) hh
  · rw [pair_read, e2, blk2, ← eb]; rfl
  · rw [pair_read, e3, blk3, ← eb]; rfl
  · rw [pair_read, e4, blk4, ← eb]; rfl

end Cert.Proof.KernelIdeal
-- ==== Proof.KOut.lean ====
/- The first result's buffer, read after the accumulated rows are written to it. -/
module

public import proofs.«01_k».proof.Proof.KSpec

@[expose] public section

set_option maxRecDepth 16384

noncomputable section

namespace Cert.Proof.KernelIdeal

open Cert.KernelIdeal Decode
open Idealize.ShloMosaic Idealize.ShloMosaic.TcCoe

/-- Ten heads' rows as eighty. -/
theorem half0_at (V : Vec Ideal S10x8x128 .f32) (r : Fin 80) (d : Fin 128) : Gen.k0_pay150 (Gen.k0_pay144 V) (ix2 r d) = V (ix3 ⟨r.val / 8, by omega⟩ ⟨r.val % 8, by omega⟩ d) := by
  unfold Gen.k0_pay150 Gen.k0_pay144
  pointwise
theorem half1_at (V : Vec Ideal S10x8x128 .f32) (r : Fin 80) (d : Fin 128) : Gen.k0_pay2 (Gen.k0_pay152 V) (ix2 r d) = V (ix3 ⟨r.val / 8, by omega⟩ ⟨r.val % 8, by omega⟩ d) := by
  unfold Gen.k0_pay2 Gen.k0_pay152
  pointwise

variable (m : (ℓ : Loc nD τ sig) → Buf (Elt Ideal) ℓ) (c : Dev nD)

/-- The two results, of the arguments. -/
abbrev outRes : S160x128.Idx → EReal := outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
abbrev cacheRes : S20x8x128.Idx → EReal := cacheArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
/-- The rows a head stores. -/
def headC (h : ℕ) : S1x8x128.Idx → EReal := Cof (hQy m c h) (hKey m c h) (hVal m c h) (hNew m c h) (hScale m c h) (hLen m c h)
def headO (h : ℕ) : S1x8x128.Idx → EReal := Oof (hQy m c h) (hKey m c h) (hVal m c h) (hNew m c h) (hNewV m c h) (hScale m c h) (hLen m c h)

section
variable (f : Buf (Elt Ideal) (obuf.view.loc (c : Thread nD τ)))
variable (hf : ∀ (z : S20x8x128.Idx) (y : S1x8x128.Idx), (z 0).val < 20 → (z 1).val = (y 1).val → (z 2).val = (y 2).val → obuf.view.read (Elt Ideal) f z = headO m c (z 0).val y)

include hf in
/-- A row of the result, read of the accumulated rows. -/
theorem row_out (z : S20x8x128.Idx) (y : S160x128.Idx) (h0 : (z 0).val = (y 0).val / 8) (h1 : (z 1).val = (y 0).val % 8) (h2 : (z 2).val = (y 1).val) :
    obuf.view.read (Elt Ideal) f z = outRes m c y := by
  obtain ⟨h, j, d, rfl⟩ : ∃ (h : Fin 20) (j : Fin 8) (d : Fin 128), z = ix3 h j d := ⟨_, _, _, eq_ix3 z⟩
  obtain ⟨r, e, rfl⟩ : ∃ (r : Fin 160) (e : Fin 128), y = ix2 r e := ⟨_, _, eq_ix2 y⟩
  obtain rfl : d = e := Fin.ext h2
  have hj : j = ⟨r.val % 8, Nat.mod_lt _ (by omega)⟩ := Fin.ext h1
  have hh : h.val = r.val / 8 := h0
  rw [hf (ix3 h j d) (ix3 0 j d) h.isLt rfl rfl]
  show headO m c h.val (ix3 0 j d) = outArr _ _ _ _ _ _ _ (ix2 r d)
  rw [hh, hj]
  rfl

include hf in
theorem out_read (t : Fin cfg0.N) (f7 : Buf (Elt Ideal) ((st5 t).view.loc (c : Thread nD τ))) : (st5 t).view.read (Elt Ideal) (outWrites c (st5 t) obuf f7 f) = outRes m c := by
  unfold outWrites
  have hcov : ∀ p1 p0 : Vec Ideal S80x128 .bf16, ∀ y : S160x128.Idx, ∃ pc ∈ ([⟨Rect.unit (s := S160x128) ![80, 0] S80x128.size Gen.inb_S160x128_S80x128_80_0, p1⟩, ⟨Rect.unit (s := S160x128) ![0, 0] S80x128.size Gen.inb_S160x128_S80x128_0_0, p0⟩] : List (View.Piece (Elt Ideal) S160x128 .bf16)), y ∈ pc.1.set :=
    fun p1 p0 y => View.cover_of_tiled ([⟨Rect.unit (s := S160x128) ![80, 0] S80x128.size Gen.inb_S160x128_S80x128_80_0, p1⟩, ⟨Rect.unit (s := S160x128) ![0, 0] S80x128.size Gen.inb_S160x128_S80x128_0_0, p0⟩] : List (View.Piece (Elt Ideal) S160x128 .bf16)) S80x128.size (by rfl) y
  rw [View.read_writes_eq_canon _ _ _ (hcov _ _)]
  funext y
  refine View.canon_apply_of_pieces (outRes m c) _ ?_ y (hcov _ _ y)
  intro pc hpc
  rcases List.mem_cons.mp hpc with rfl | hpc
  · intro x
    obtain ⟨r, d, rfl⟩ : ∃ (r : Fin 80) (d : Fin 128), x = ix2 r d := ⟨_, _, eq_ix2 x⟩
    refine (half1_at _ r d).trans ?_
    refine row_out m c f hf _ _ ?_ ?_ ?_
    · show 10 + 1 * (r.val / 8) = (80 + 1 * r.val) / 8; omega
    · show 0 + 1 * (r.val % 8) = (80 + 1 * r.val) % 8; omega
    · show 0 + 1 * d.val = 0 + 1 * d.val; rfl
  rcases List.mem_cons.mp hpc with rfl | hpc
  · intro x
    obtain ⟨r, d, rfl⟩ : ∃ (r : Fin 80) (d : Fin 128), x = ix2 r d := ⟨_, _, eq_ix2 x⟩
    refine (half0_at _ r d).trans ?_
    refine row_out m c f hf _ _ ?_ ?_ ?_
    · show 0 + 1 * (r.val / 8) = (0 + 1 * r.val) / 8; omega
    · show 0 + 1 * (r.val % 8) = (0 + 1 * r.val) % 8; omega
    · show 0 + 1 * d.val = 0 + 1 * d.val; rfl
  exact absurd hpc List.not_mem_nil
end

/-- The second result's buffer is the rows the heads stored. -/
theorem cache_read (X : S20x8x128.Idx → EReal) (hX : ∀ (z : S20x8x128.Idx) (y : S1x8x128.Idx), (z 0).val < 20 → (z 1).val = (y 1).val → (z 2).val = (y 2).val → X z = headC m c (z 0).val y) : X = cacheRes m c := by
  funext z
  obtain ⟨h, j, d, rfl⟩ : ∃ (h : Fin 20) (j : Fin 8) (d : Fin 128), z = ix3 h j d := ⟨_, _, _, eq_ix3 z⟩
  rw [hX (ix3 h j d) (ix3 0 j d) h.isLt rfl rfl]
  rfl

end Cert.Proof.KernelIdeal
-- ==== Proof.KRun.lean ====
/- The kernel's run over the extended reals ends with its first two results at the heads' attention. -/
module

public import proofs.«01_k».proof.Proof.KOut

@[expose] public section

set_option maxRecDepth 16384

noncomputable section

namespace Cert.Proof.KernelIdeal

open Cert.KernelIdeal Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable (m : (ℓ : Loc nD τ sig) → Buf (Elt Ideal) ℓ) (ρ : Dev nD → PrngReg)

/-- The proof data, the first two results at the heads' attention. -/
abbrev vdats := dats m (outRes m) (cacheRes m)

/-- The other two results' windows, of which nothing is said. -/
def fgtTwo (w : Fin cfg0.W) : Bool := match w with
  | ⟨7, _⟩ => true | ⟨8, _⟩ => true | _ => false

theorem sound_value (c : Dev nD) (t : Fin cfg0.N) :
    iprop((vdats m 0 c).Φ t.castSucc ∗ (vdats m 0 c).owesAt () t.castSucc
      ∗ (∃ d, owns (c : Thread nD τ) (st0 t) fullShare ((vdats m 0 c).before 0 t d)) ∗ (∃ d, owns (c : Thread nD τ) (st1 t) fullShare ((vdats m 0 c).before 1 t d))
      ∗ (∃ d, owns (c : Thread nD τ) (st2 t) fullShare ((vdats m 0 c).before 2 t d)) ∗ (∃ d, owns (c : Thread nD τ) (st3 t) fullShare ((vdats m 0 c).before 3 t d))
      ∗ (∃ d, owns (c : Thread nD τ) (st4 t) fullShare ((vdats m 0 c).before 4 t d))
      ∗ (∃ d, owns (c : Thread nD τ) (st5 t) fullShare ((vdats m 0 c).before 5 t d)) ∗ (∃ d, owns (c : Thread nD τ) (st6 t) fullShare ((vdats m 0 c).before 6 t d))
      ∗ (∃ X, owns (c : Thread nD τ) (st7 t) fullShare X) ∗ (∃ X, owns (c : Thread nD τ) (st8 t) fullShare X))
      ⊢ wp Idealize.ShloMosaic.frame (wpE (defs₀ (F := Ideal)) Variants.none (c : Thread nD τ) none) Set.univ (Gen.bodyAt0 t) (fun _ =>
        iprop((vdats m 0 c).Φ t.succ ∗ (vdats m 0 c).owesAt () t.succ
          ∗ owns (c : Thread nD τ) (st0 t) fullShare ((vdats m 0 c).after 0 t) ∗ owns (c : Thread nD τ) (st1 t) fullShare ((vdats m 0 c).after 1 t) ∗ owns (c : Thread nD τ) (st2 t) fullShare ((vdats m 0 c).after 2 t)
          ∗ owns (c : Thread nD τ) (st3 t) fullShare ((vdats m 0 c).after 3 t) ∗ owns (c : Thread nD τ) (st4 t) fullShare ((vdats m 0 c).after 4 t)
          ∗ owns (c : Thread nD τ) (st5 t) fullShare ((vdats m 0 c).after 5 t) ∗ owns (c : Thread nD τ) (st6 t) fullShare ((vdats m 0 c).after 6 t)
          ∗ (∃ X, owns (c : Thread nD τ) (st7 t) fullShare X) ∗ (∃ X, owns (c : Thread nD τ) (st8 t) fullShare X))) := by
  have hrun := body_run m True (fun _ _ => rfl) c t (fun h => Sof (hQy m c h) (hKey m c h) (hLen m c h)) (fun h => Mof (hQy m c h) (hKey m c h) (hLen m c h))
    (fun h => Wof (hQy m c h) (hKey m c h) (hVal m c h) (hNew m c h) (hLen m c h)) (hRows m c) (headC m c) (headO m c) (query_rows m c t) (heads m c t)
  rw [show (vdats m 0 c).Φ t.succ = Pipeline.ΦD osem0 spec0 H0 (Gen.V m) c from rfl, show (vdats m 0 c).Φ t.castSucc = Pipeline.ΦD osem0 spec0 H0 (Gen.V m) c from rfl, after0, after1, after2, after3, after4, after5, after6]
  unfold Dat.owesAt Pipeline.owesWithin
  rw [show (vdats m 0 c).owed t.castSucc = 0 from rfl, show (vdats m 0 c).owed t.succ = 0 from rfl]
  simp only [before0, before1, before2, before3, before4]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, H7, H8⟩
  iapply (wp_wand_r Idealize.ShloMosaic.frame (wpE (defs₀ (F := Ideal)) Variants.none (c : Thread nD τ) none) Set.univ)
  isplitl
  · iapply hrun
    isplitl [HΦ]; · iexact HΦ
    isplitl [HW]; · iexists W; iexact HW
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    iexact H8
  iintro %_ ⟨HΦ, ⟨%W', HW⟩, H0, H1, H2, H3, H4, ⟨%X5, %e5, H5⟩, ⟨%X6, %e6, H6⟩, H7, H8⟩
  obtain ⟨f7, f15, hf, rfl⟩ := e5 trivial
  obtain rfl : X6 = cacheRes m c := cache_read m c X6 (e6 trivial)
  rw [out_read m c f15 hf t f7]
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_value (c : Dev nD) : BodyObligationLoose (vdats m 0 c) (defs₀ (F := Ideal)) Variants.none () Set.univ fgtTwo := fun t => by
  rw [Gen.bigSep_W0, Gen.bigSep_W0, defs₀_row]
  exact triple_restated (sound_value m c t) rfl .rfl fun _ => .rfl

set_option backward.isDefEq.respectTransparency.types false in
theorem run_value : θ_run defs (onTc (τ := τ) (main (F := Ideal))) (s₀ m ρ) (fun r => RDat.FramePost cfg0 (fun c => (vdats m 0 c).toRForget fgtTwo) (Gen.V m) r ∧ r.2.sem = fun _ => 0) :=
  Pipeline.θ_run_frame_dma_forget (Q' := _) cfgs (vdats m) (0 : Fin 1) Gen.launch0 osem0 defs₀ Variants.none fgtTwo ownSemFacts0 H0 H0_sub m ρ main
    (hbody := fun c => body_value m c) (hshare := fun c => (vdats m 0 c).share_full fun _ => rfl)
    (howed := fun _ _ => rfl) (V := Gen.V m) (hmain := hmain m) (hA := A_eq m _ _)
    (hin := fun _ => .rfl) (hout := fun _ => .rfl)

/-! ## The arrays after the run -/

theorem arr_out (c : Dev nD) : (vdats m 0 c).arrAt 5 cfg0.N = outRes m c := by
  refine (vdats m 0 c).arrAt_eq_of_after_last 5 Gen.t0_0 (by decide +kernel) _ fun j => ?_
  blk_simp
  exact congrFun (after5 m (outRes m) (cacheRes m) c Gen.t0_0) j
theorem arr_cache (c : Dev nD) : (vdats m 0 c).arrAt 6 cfg0.N = cacheRes m c := by
  refine (vdats m 0 c).arrAt_eq_of_after_last 6 Gen.t0_0 (by decide +kernel) _ fun j => ?_
  blk_simp
  exact congrFun (after6 m (outRes m) (cacheRes m) c Gen.t0_0) j

/-- The kernel runs: its first two results end as the heads' attention, its arguments as they were. -/
theorem run_results : θ_run defs (onTc (τ := τ) (main (F := Ideal))) ⟨m, fun _ => 0, ρ⟩ (fun r => ∀ c : Dev nD,
      r.2.mem ((c.tc : Thread nD τ).loc main_v10_0) = outRes m c
      ∧ r.2.mem ((c.tc : Thread nD τ).loc main_v10_1) = cacheRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(((vdats m 0 c).toRForget_arrAt_iff (fgt := fgtTwo) (w := 5) rfl _ _).mp ((h.1 c).1 5)).trans (arr_out m c),
    (((vdats m 0 c).toRForget_arrAt_iff (fgt := fgtTwo) (w := 6) rfl _ _).mp ((h.1 c).1 6)).trans (arr_cache m c), frame_of m _ _ fgtTwo rfl r h.1 c⟩)
    (run_value m ρ)

end Cert.Proof.KernelIdeal
-- ==== Proof.Red.lean ====
/- A maximum and a sum over the positions, read at an index. -/
module

public import proofs.«01_k».proof.ReferenceIdeal
public import proofs.«01_k».proof.Proof.Gen.ReferenceIdeal.Launch
public import proofs.«01_k».proof.Proof.Inputs
public import Idealize.ShloMosaic.Lib.Pointwise
public import Idealize.ShloMosaic.Lib.StableHlo.ReadAt

@[expose] public section

set_option maxRecDepth 16384

noncomputable section

namespace Cert.Proof.ReferenceIdeal

open Cert.ReferenceIdeal Decode
open Idealize.ShloMosaic Idealize.ShloMosaic.TcCoe

theorem bits_zero : Ideal.ofBits .f32 0x00000000#32 = 0 := by
  unfold Ideal.ofBits Ideal.ieee
  simp

/-- A maximum over an axis. -/
theorem fold_sup (N : ℕ) (f : ℕ → EReal) : Finset.fold max ⊥ (fun t : Fin N => f t.val) Finset.univ = (Finset.range N).sup f := by
  refine (rfl : _ = (Finset.univ : Finset (Fin N)).sup fun t => f t.val).trans (le_antisymm ?_ ?_)
  · exact Finset.sup_le fun t _ => Finset.le_sup (f := f) (Finset.mem_range.mpr t.isLt)
  · exact Finset.sup_le fun t ht => Finset.le_sup (f := fun t : Fin N => f t.val) (Finset.mem_univ ⟨t, Finset.mem_range.mp ht⟩)

section
variable (x : FVec Ideal S2x10x8x65536 .f32) (v : FVec Ideal S_ .f32) (b : Fin 2) (g : Fin 10) (j : Fin 8) (f : ℕ → EReal) (hf : ∀ t : Fin 65536, x (ix4 b g j t) = f t.val)

include hf in
theorem sum_at (hv : v (Shape.Idx.first Gen.h_S_) = 0) : Host.reduceAdd x v Gen.reducesTo_S2x10x8x65536_S2x10x8_d3 Gen.h_S_ (ix3 b g j) = ∑ t ∈ Finset.range 65536, f t := by
  rw [Finset.sum_range]
  simp only [← hf]
  refine Eq.trans ?_ ((congrArg (· + _) hv).trans (zero_add _))
  pointwise

include hf in
theorem max_at (hv : v (Shape.Idx.first Gen.h_S_) = (⊥ : EReal)) : Host.reduce FloatOps.maximumf x v Gen.reducesTo_S2x10x8x65536_S2x10x8_d3 Gen.h_S_ (ix3 b g j) = (Finset.range 65536).sup f := by
  rw [← fold_sup]
  simp only [← hf]
  rw [← hv]
  pointwise
end

section
variable (s : FVec Ideal S2x10x8x65536 .f32) (n : FVec Ideal S2x10x8 .f32)
/-- The greatest scores, the weights, the new ones' and their sums, from the scores and the new ones. -/
def peakV : FVec Ideal S2x10x8 .f32 := maximumf (Host.reduce FloatOps.maximumf s (constant S_ .f32 0xFF800000#32) Gen.reducesTo_S2x10x8x65536_S2x10x8_d3 Gen.h_S_) n
def probV : FVec Ideal S2x10x8x65536 .f32 :=
  Host.exp (subf s (broadcastInDim S2x10x8x65536 ![0, 1, 2, 3] Gen.bcast_S2x10x8x1_S2x10x8x65536_0_1_2_3 (broadcastInDim S2x10x8x1 ![0, 1, 2] Gen.bcast_S2x10x8_S2x10x8x1_0_1_2 (peakV s n))))
def probNV : FVec Ideal S2x10x8 .f32 := Host.exp (subf n (peakV s n))
def totalV : FVec Ideal S2x10x8 .f32 := addf (Host.reduceAdd (probV s n) (constant S_ .f32 0x00000000#32) Gen.reducesTo_S2x10x8x65536_S2x10x8_d3 Gen.h_S_) (probNV s n)

variable (b : Fin 2) (g : Fin 10) (j : Fin 8) (t : Fin 65536)
theorem max_point (r : FVec Ideal S2x10x8 .f32) (y : S2x10x8.Idx) {u w : EReal} (h : r y = u) (h' : n y = w) : maximumf r n y = max u w := by rw [← h, ← h']; rfl
theorem add_point (r : FVec Ideal S2x10x8 .f32) (y : S2x10x8.Idx) {u w : EReal} (h : r y = u) (h' : n y = w) : addf r n y = u + w := by rw [← h, ← h']; rfl
theorem exp_point (r : FVec Ideal S2x10x8 .f32) (y : S2x10x8.Idx) {u w : EReal} (h : r y = u) (h' : n y = w) : Host.exp (subf n r) y = Ideal.exp (w - u) := by rw [← h, ← h']; rfl
theorem exp_spread (p : FVec Ideal S2x10x8 .f32) {u w : EReal} (h : s (ix4 b g j t) = u) (h' : p (ix3 b g j) = w) :
    Host.exp (subf s (broadcastInDim S2x10x8x65536 ![0, 1, 2, 3] Gen.bcast_S2x10x8x1_S2x10x8x65536_0_1_2_3 (broadcastInDim S2x10x8x1 ![0, 1, 2] Gen.bcast_S2x10x8_S2x10x8x1_0_1_2 p))) (ix4 b g j t) = Ideal.exp (u - w) := by
  rw [← h, ← h']
  pointwise

variable {q : Fin 8 → Fin 128 → EReal} {k : ℕ → Fin 128 → EReal} {kn : Fin 128 → EReal} {L : ℕ} (hL : L ≤ 65536)
variable (hs : ∀ t : Fin 65536, s (ix4 b g j t) = score q k L j t.val) (hn : n (ix3 b g j) = scoreN q kn j)

include hs hn hL in
theorem peakV_at : peakV s n (ix3 b g j) = peak q k kn L j :=
  max_point n _ _ ((max_at s _ b g j _ hs bits_bot).trans (sup_stop hL fun _ ht => score_past q k L j ht)) hn
include hs hn hL in
theorem probV_at : probV s n (ix4 b g j t) = prob q k kn L j t.val := exp_spread s b g j t _ (hs t) (peakV_at s n b g j hL hs hn)
include hs hn hL in
theorem probNV_at : probNV s n (ix3 b g j) = probN q k kn L j := exp_point n _ _ (peakV_at s n b g j hL hs hn) hn
include hs hn hL in
theorem totalV_at : totalV s n (ix3 b g j) = total q k kn L j :=
  add_point _ _ _ ((sum_at (probV s n) _ b g j _ (fun t => probV_at s n b g j t hL hs hn) bits_zero).trans (sum_stop hL fun _ ht => prob_past q k kn L j ht)) (probNV_at s n b g j hL hs hn)
end

end Cert.Proof.ReferenceIdeal
-- ==== Proof.RHost.lean ====
/- The arrays the reference's region finds: each head's weights, their sums and the values, over the extended reals. -/
module

public import proofs.«01_k».proof.Proof.Red
public import proofs.«01_k».proof.Proof.Gen.ReferenceIdeal.Frame
public import proofs.«01_k».proof.Proof.Gen.ReferenceIdeal.Value
public import Idealize.ShloMosaic.Lib.StableHlo.ReadAt

@[expose] public section

set_option maxRecDepth 16384

noncomputable section

namespace Cert.Proof.ReferenceIdeal

open Cert.ReferenceIdeal Decode
open Idealize.ShloMosaic Idealize.ShloMosaic.TcCoe

variable (m : (ℓ : Loc nD τ sig) → Buf (Elt Ideal) ℓ) (c : Dev nD)

theorem codes_at (b : Fin 2) (g : Fin 10) (t : Fin 65536) (d : Fin 128) :
    Gen.V m c main_v30 (ix3 (⟨10 * b.val + g.val, by omega⟩ : Fin 20) t d) = m ((c : Thread nD τ).loc main_arg4) (ix4 b t g d) := by
  unfold Gen.V
  after_reads_at

theorem scales_at (b : Fin 2) (g : Fin 10) (d : Fin 128) :
    Gen.V m c main_v31 (ix3 (⟨10 * b.val + g.val, by omega⟩ : Fin 20) 0 d) = m ((c : Thread nD τ).loc main_arg5) (ix3 b g d) := by
  unfold Gen.V
  after_reads_at

theorem newVals_at (b : Fin 2) (g : Fin 10) (d : Fin 128) :
    Gen.V m c main_v33 (ix3 (⟨10 * b.val + g.val, by omega⟩ : Fin 20) 0 d) = m ((c : Thread nD τ).loc main_arg2) (ix4 b 0 g d) := by
  unfold Gen.V
  after_reads_at

/-! ## The weights -/

section
variable (x : (⟨3, ![2, 1, 10240]⟩ : Shape).Idx → EReal) (kn : (⟨4, ![2, 1, 10, 128]⟩ : Shape).Idx → EReal) (k : (⟨4, ![2, 65536, 10, 128]⟩ : Shape).Idx → EReal)
variable (len : (⟨1, ![2]⟩ : Shape).Idx → BitVec 32) (b : Fin 2) (g : Fin 10)

theorem seq_head : seqOf (10 * b.val + g.val) = b := Fin.ext (by show (10 * b.val + g.val) / 10 % 2 = b.val; omega)
theorem kv_head : kvOf (10 * b.val + g.val) = g := Fin.ext (by show (10 * b.val + g.val) % 10 = g.val; omega)
theorem query_head (j : Fin 8) (d : Fin 128) (p) : x (ix3 b 0 ⟨g.val * 1024 + j.val * 128 + d.val, p⟩) = qOf x (10 * b.val + g.val) j d := by
  unfold qOf
  rw [seq_head]
  congr 2
  refine Fin.ext ?_
  show g.val * 1024 + j.val * 128 + d.val = 128 * (8 * ((10 * b.val + g.val) % 10) + j.val) + d.val
  omega
theorem key_head (t : Fin 65536) (d : Fin 128) : k (ix4 b t g d) = rowOf k (10 * b.val + g.val) t.val d := by
  unfold rowOf
  rw [seq_head, kv_head]
  congr 2
  exact Fin.ext (Nat.mod_eq_of_lt t.isLt).symm
theorem new_head (d : Fin 128) : kn (ix4 b 0 g d) = newOf kn (10 * b.val + g.val) d := by
  unfold newOf
  rw [seq_head, kv_head]
theorem seen_head : lenN (len (ix1 b)) = seen len (10 * b.val + g.val) := by
  unfold seen
  rw [seq_head]
/-- The mask of a score. -/
theorem mask_head (t : Fin 65536) (a e : EReal) :
    Scalar.select (IntOp.cmpi .slt (BitVec.ofNat 32 t.val) (len (ix1 b))) a e = if t.val < seen len (10 * b.val + g.val) then a else e := by
  rw [← seen_head]
  by_cases h : t.val < lenN (len (ix1 b))
  · rw [if_pos h]
    exact if_pos (Affine.slt_holds (isInt_ofNat (by omega)) (Affine.word _) (by unfold lenN at h; omega))
  · rw [if_neg h]
    exact if_neg (Affine.slt_fails (isInt_ofNat (by omega)) (Affine.word _) (by unfold lenN at h; omega))
end

/-! ## The last stretch of host operations, from any contents before it -/

section
variable {b : Fin 2} {g : Fin 10} {j : Fin 8}
/-- An array of the heads read by sequence and head. -/
theorem heads_at (x : FVec Ideal S2x10x8 .f32) : shapeCast S20x8x1 x Gen.shapeCasts_S2x10x8_S20x8x1 (ix3 (⟨10 * b.val + g.val, by omega⟩ : Fin 20) j 0) = x (ix3 b g j) := by
  pointwise
theorem rows_at (x : FVec Ideal S2x10x8x65536 .f32) (t : Fin 65536) :
    shapeCast S20x8x65536 x Gen.shapeCasts_S2x10x8x65536_S20x8x65536 (ix3 (⟨10 * b.val + g.val, by omega⟩ : Fin 20) j t) = x (ix4 b g j t) := by
  pointwise
end

section
variable (W : Valuation τ sig (Elt Ideal)) {q : Fin 8 → Fin 128 → EReal} {k : ℕ → Fin 128 → EReal} {kn : Fin 128 → EReal} {L : ℕ} (hL : L ≤ 65536) {b : Fin 2} {g : Fin 10} {j : Fin 8}
variable (hs : ∀ t : Fin 65536, W main_v11 (ix4 b g j t) = score q k L j t.val) (hq : ∀ d, W main_v0 (ix4 b g j d) = q j d) (hn : ∀ d, W main_arg1 (ix4 b 0 g d) = kn d)

include hq hn in
theorem scoreN_of : StableHlo.after Gen.hostOps0_2 W main_v15 (ix3 b g j) = scoreN q kn j := by
  after_reads_at
  simp only [hq, hn]
  rfl
theorem after_new : StableHlo.after Gen.hostOps0_2 W main_v28 = shapeCast S20x8x1 (probNV (W main_v11) (StableHlo.after Gen.hostOps0_2 W main_v15)) Gen.shapeCasts_S2x10x8_S20x8x1 := by
  after_reads_simp
  rfl
theorem after_total : StableHlo.after Gen.hostOps0_2 W main_v27 = shapeCast S20x8x1 (totalV (W main_v11) (StableHlo.after Gen.hostOps0_2 W main_v15)) Gen.shapeCasts_S2x10x8_S20x8x1 := by
  after_reads_simp
  rfl
theorem after_weights : StableHlo.after Gen.hostOps0_2 W main_v26 = shapeCast S20x8x65536 (probV (W main_v11) (StableHlo.after Gen.hostOps0_2 W main_v15)) Gen.shapeCasts_S2x10x8x65536_S20x8x65536 := by
  after_reads_simp
  rfl

include hL hs hq hn in
theorem new_of : StableHlo.after Gen.hostOps0_2 W main_v28 (ix3 (⟨10 * b.val + g.val, by omega⟩ : Fin 20) j 0) = probN q k kn L j := by
  rw [after_new]
  exact (heads_at _).trans (probNV_at _ _ b g j hL hs (scoreN_of W hq hn))
include hL hs hq hn in
theorem total_of : StableHlo.after Gen.hostOps0_2 W main_v27 (ix3 (⟨10 * b.val + g.val, by omega⟩ : Fin 20) j 0) = total q k kn L j := by
  rw [after_total]
  exact (heads_at _).trans (totalV_at _ _ b g j hL hs (scoreN_of W hq hn))
include hL hs hq hn in
theorem weight_of (t : Fin 65536) : StableHlo.after Gen.hostOps0_2 W main_v26 (ix3 (⟨10 * b.val + g.val, by omega⟩ : Fin 20) j t) = prob q k kn L j t.val := by
  rw [after_weights]
  exact (rows_at _ t).trans (probV_at _ _ b g j t hL hs (scoreN_of W hq hn))
end

/-! ## The stretches before it -/

/-- The contents before the last stretch. -/
def mid (b : DevRef τ sig) : b.ty.Contents (Elt Ideal) := StableHlo.after Gen.hostOps0_1 (StableHlo.after Gen.hostOps0 fun b => m (c, b)) b

theorem after_app (l₁ l₂ : List (HloOp τ sig (Elt Ideal))) (W : Valuation τ sig (Elt Ideal)) : StableHlo.after (l₁ ++ l₂) W = StableHlo.after l₂ (StableHlo.after l₁ W) := by
  induction l₁ generalizing W with
  | nil => rfl
  | cons op l ih => exact ih _
theorem V_mid (b : Ref sig .tc) : Gen.V m c b = StableHlo.after Gen.hostOps0_2 (mid m c) b := by
  unfold Gen.V
  rw [show (List.flatten [Gen.hostOps0 (F := Ideal), Gen.hostOps0_1, Gen.hostOps0_2]) = Gen.hostOps0 ++ (Gen.hostOps0_1 ++ Gen.hostOps0_2) from rfl, after_app, after_app]
  rfl

variable (b : Fin 2) (g : Fin 10) (j : Fin 8)

theorem mid_query (d : Fin 128) : mid m c main_v0 (ix4 b g j d) = qOf (m ((c : Thread nD τ).loc main_arg0)) (10 * b.val + g.val) j d := by
  unfold mid
  after_reads_at
  exact query_head _ b g j d _
theorem mid_new (d : Fin 128) : mid m c main_arg1 (ix4 b 0 g d) = newOf (m ((c : Thread nD τ).loc main_arg1)) (10 * b.val + g.val) d := by
  unfold mid
  after_reads_at
  exact new_head _ b g d
theorem mid_score (t : Fin 65536) : mid m c main_v11 (ix4 b g j t)
    = score (qOf (m ((c : Thread nD τ).loc main_arg0)) (10 * b.val + g.val)) (rowOf (m ((c : Thread nD τ).loc main_arg3)) (10 * b.val + g.val)) (seen (m ((c : Thread nD τ).loc main_arg6)) (10 * b.val + g.val)) j t.val := by
  unfold mid
  after_reads_at
  refine (mask_head _ b g t _ _).trans ?_
  unfold score
  refine ite_congr rfl (fun _ => ?_) fun _ => bits_bot
  exact congrArg (· * Ideal.ofBits .f32 0x3DB504F3#32) (Finset.sum_congr rfl fun d _ => by rw [← query_head _ b g j d, ← key_head _ b g t d])

/-! ## The region's arrays -/

/-- What head `h` reads of the arguments. -/
abbrev qq (h : ℕ) : Fin 8 → Fin 128 → EReal := qOf (m ((c : Thread nD τ).loc main_arg0)) h
abbrev kk (h : ℕ) : ℕ → Fin 128 → EReal := rowOf (m ((c : Thread nD τ).loc main_arg3)) h
abbrev nn (h : ℕ) : Fin 128 → EReal := newOf (m ((c : Thread nD τ).loc main_arg1)) h
abbrev LL (h : ℕ) : ℕ := seen (m ((c : Thread nD τ).loc main_arg6)) h

theorem new_at : Gen.V m c main_v28 (ix3 (⟨10 * b.val + g.val, by omega⟩ : Fin 20) j 0) = probN (qq m c (10 * b.val + g.val)) (kk m c (10 * b.val + g.val)) (nn m c (10 * b.val + g.val)) (LL m c (10 * b.val + g.val)) j := by
  rw [V_mid]
  exact new_of (mid m c) (lenN_le _) (mid_score m c b g j) (mid_query m c b g j) (mid_new m c b g)
theorem total_at : Gen.V m c main_v27 (ix3 (⟨10 * b.val + g.val, by omega⟩ : Fin 20) j 0) = total (qq m c (10 * b.val + g.val)) (kk m c (10 * b.val + g.val)) (nn m c (10 * b.val + g.val)) (LL m c (10 * b.val + g.val)) j := by
  rw [V_mid]
  exact total_of (mid m c) (lenN_le _) (mid_score m c b g j) (mid_query m c b g j) (mid_new m c b g)
theorem weight_at (t : Fin 65536) : Gen.V m c main_v26 (ix3 (⟨10 * b.val + g.val, by omega⟩ : Fin 20) j t) = prob (qq m c (10 * b.val + g.val)) (kk m c (10 * b.val + g.val)) (nn m c (10 * b.val + g.val)) (LL m c (10 * b.val + g.val)) j t.val := by
  rw [V_mid]
  exact weight_of (mid m c) (lenN_le _) (mid_score m c b g j) (mid_query m c b g j) (mid_new m c b g) t

end Cert.Proof.ReferenceIdeal
-- ==== Proof.RPay.lean ====
/- What the reference's weighing stores, read at an index over the extended reals. -/
module

public import proofs.«01_k».proof.Proof.RHost
public import proofs.«01_k».proof.Proof.Gen.ReferenceIdeal.Skeleton
public import Idealize.ShloMosaic.Lib.Pointwise

@[expose] public section

set_option maxRecDepth 16384

noncomputable section

namespace Cert.Proof.ReferenceIdeal

open Cert.ReferenceIdeal Decode
open Idealize.ShloMosaic Idealize.ShloMosaic.TcCoe

section
variable (p : Vec Ideal S20x8x65536 .f32) (x : Vec Ideal S20x65536x128 .fp8e4m3) (s : Vec Ideal S20x1x128 .f32) (l n : Vec Ideal S20x8x1 .f32) (y : Vec Ideal S20x1x128 .bf16)

/-- The weights, quantised. -/
def quant : FVec Ideal S20x8x65536 .fp8e4m3 :=
  truncf .fp8e4m3 (minimumf (mulf (shapeCast (α := Ideal .f32) S20x8x65536 p Gen.shapeCasts_S20x8x65536_S20x8x65536) (broadcast S20x8x65536 (Scalar.ofBits (F := Ideal) .f32 0x43E00000#32))) (broadcast S20x8x65536 (Scalar.ofBits (F := Ideal) .f32 0x43E00000#32))) Gen.bitsLt_fp8e4m3_f32
/-- The codes as the product takes them. -/
def codesV : FVec Ideal S20x65536x128 .fp8e4m3 := shapeCast S20x65536x128 x Gen.shapeCasts_S20x65536x128_S20x65536x128
/-- Their product. -/
def accV : FVec Ideal S20x8x128 .f32 :=
  matmul dot_S20x8x65536_S20x65536x128_S20x8x128_2_1_1_2_0_0 none (quant p) (codesV x) (constant S20x8x128 .f32 0x00000000#32)

theorem quant_at (h : Fin 20) (j : Fin 8) (t : Fin 65536) : quant p (ix3 h j t) = min (p (ix3 h j t) * Ideal.ofBits .f32 0x43E00000#32) (Ideal.ofBits .f32 0x43E00000#32) := by
  unfold quant; pointwise
theorem codesV_at (h : Fin 20) (t : Fin 65536) (d : Fin 128) : codesV x (ix3 h t d) = x (ix3 h t d) := by
  unfold codesV; pointwise

theorem acc_at (h : Fin 20) (j : Fin 8) (d : Fin 128) (f : ℕ → EReal) (hf : ∀ t : Fin 65536, quant p (ix3 h j t) * codesV x (ix3 h t d) = f t.val) :
    accV p x (ix3 h j d) = ∑ t ∈ Finset.range 65536, f t := by
  rw [Finset.sum_range]
  simp only [← hf]
  unfold accV
  generalize quant p = P
  generalize codesV x = X
  pointwise

theorem pay2_eq : Gen.k0_pay2 (F := Ideal) p x s l = divf (mulf (mulf (accV p x) (broadcast S20x8x128 (Scalar.ofBits (F := Ideal) .f32 0x3B124925#32))) (broadcastTo S20x8x128 (shapeCast (α := Ideal .f32) S20x1x128 s Gen.shapeCasts_S20x1x128_S20x1x128) Gen.broadcasts_S20x1x128_S20x8x128))
    (broadcastTo S20x8x128 (shapeCast (α := Ideal .f32) S20x8x1 l Gen.shapeCasts_S20x8x1_S20x8x1) Gen.broadcasts_S20x8x1_S20x8x128) := rfl

theorem share_at (a : FVec Ideal S20x8x128 .f32) (h : Fin 20) (j : Fin 8) (d : Fin 128) : divf (mulf (mulf a (broadcast S20x8x128 (Scalar.ofBits (F := Ideal) .f32 0x3B124925#32))) (broadcastTo S20x8x128 (shapeCast (α := Ideal .f32) S20x1x128 s Gen.shapeCasts_S20x1x128_S20x1x128) Gen.broadcasts_S20x1x128_S20x8x128))
    (broadcastTo S20x8x128 (shapeCast (α := Ideal .f32) S20x8x1 l Gen.shapeCasts_S20x8x1_S20x8x1) Gen.broadcasts_S20x8x1_S20x8x128) (ix3 h j d)
    = Ideal.div (a (ix3 h j d) * Ideal.ofBits .f32 0x3B124925#32 * s (ix3 h 0 d)) (l (ix3 h j 0)) := by
  pointwise

theorem pay3_eq : Gen.k0_pay3 (F := Ideal) p x s l n y = truncf .bf16 (shapeCast (α := Ideal .f32) S160x128 (addf (Gen.k0_pay2 (F := Ideal) p x s l)
    (divf (mulf (broadcastTo S20x8x128 (shapeCast (α := Ideal .f32) S20x8x1 n Gen.shapeCasts_S20x8x1_S20x8x1) Gen.broadcasts_S20x8x1_S20x8x128)
      (broadcastTo S20x8x128 (extf .f32 (shapeCast (α := Ideal .bf16) S20x1x128 y Gen.shapeCasts_S20x1x128_S20x1x128) Gen.bitsLt_bf16_f32) Gen.broadcasts_S20x1x128_S20x8x128))
      (broadcastTo S20x8x128 (shapeCast (α := Ideal .f32) S20x8x1 l Gen.shapeCasts_S20x8x1_S20x8x1) Gen.broadcasts_S20x8x1_S20x8x128))) Gen.shapeCasts_S20x8x128_S160x128) Gen.bitsLt_bf16_f32 := rfl

theorem add_at (a : FVec Ideal S20x8x128 .f32) (r : Fin 160) (d : Fin 128) : truncf .bf16 (shapeCast (α := Ideal .f32) S160x128 (addf a
    (divf (mulf (broadcastTo S20x8x128 (shapeCast (α := Ideal .f32) S20x8x1 n Gen.shapeCasts_S20x8x1_S20x8x1) Gen.broadcasts_S20x8x1_S20x8x128)
      (broadcastTo S20x8x128 (extf .f32 (shapeCast (α := Ideal .bf16) S20x1x128 y Gen.shapeCasts_S20x1x128_S20x1x128) Gen.bitsLt_bf16_f32) Gen.broadcasts_S20x1x128_S20x8x128))
      (broadcastTo S20x8x128 (shapeCast (α := Ideal .f32) S20x8x1 l Gen.shapeCasts_S20x8x1_S20x8x1) Gen.broadcasts_S20x8x1_S20x8x128))) Gen.shapeCasts_S20x8x128_S160x128) Gen.bitsLt_bf16_f32 (ix2 r d)
    = a (ix3 ⟨r.val / 8, by omega⟩ ⟨r.val % 8, by omega⟩ d) + Ideal.div (n (ix3 ⟨r.val / 8, by omega⟩ ⟨r.val % 8, by omega⟩ 0) * y (ix3 ⟨r.val / 8, by omega⟩ 0 d)) (l (ix3 ⟨r.val / 8, by omega⟩ ⟨r.val % 8, by omega⟩ 0)) := by
  pointwise

section
variable {q : Fin 8 → Fin 128 → EReal} {k v : ℕ → Fin 128 → EReal} {kn vn vs : Fin 128 → EReal} {L : ℕ} (hL : L ≤ 65536) {h : Fin 20}
variable (hp : ∀ (j : Fin 8) (t : Fin 65536), p (ix3 h j t) = prob q k kn L j t.val) (hx : ∀ (t : Fin 65536) (d : Fin 128), x (ix3 h t d) = v t.val d) (hs : ∀ d : Fin 128, s (ix3 h 0 d) = vs d)
variable (hl : ∀ j : Fin 8, l (ix3 h j 0) = total q k kn L j) (hn : ∀ j : Fin 8, n (ix3 h j 0) = probN q k kn L j) (hy : ∀ d : Fin 128, y (ix3 h 0 d) = vn d)

include hL hp hx hs hl in
theorem pay2_at (j : Fin 8) (d : Fin 128) : Gen.k0_pay2 (F := Ideal) p x s l (ix3 h j d) = cacheOf q k v kn vs L j d := by
  rw [pay2_eq, share_at, hs, hl, acc_at p x h j d (fun t => code q k kn L j t * v t d) (fun t => by rw [quant_at, codesV_at, hp, hx]; rfl),
    sum_stop hL fun t ht => by rw [code_past q k kn L j ht, zero_mul]]
  rfl

include hL hp hx hs hl hn hy in
theorem pay3_at (r : Fin 160) (hr : h.val = r.val / 8) (d : Fin 128) : Gen.k0_pay3 (F := Ideal) p x s l n y (ix2 r d) = outOf q k v kn vn vs L ⟨r.val % 8, Nat.mod_lt _ (by omega)⟩ d := by
  have e : (⟨r.val / 8, by omega⟩ : Fin 20) = h := Fin.ext hr.symm
  rw [pay3_eq, add_at, e, hn, hy, hl, pay2_at p x s l hL hp hx hs hl]
  rfl
end
end

end Cert.Proof.ReferenceIdeal
-- ==== Proof.RVal.lean ====
/- The reference's run ends with the two results' arrays at the heads' attention. -/
module

public import proofs.«01_k».proof.Proof.RPay
public import Idealize.ShloMosaic.Lib.Pipeline.ValueKit

@[expose] public section

set_option maxRecDepth 16384

noncomputable section

namespace Cert.Proof.ReferenceIdeal

open Cert.ReferenceIdeal Decode
open Idealize.ShloMosaic Idealize.ShloMosaic.TcCoe

variable (m : (ℓ : Loc nD τ sig) → Buf (Elt Ideal) ℓ) (c : Dev nD)

theorem idx0 : ∀ (t : Fin grid0.N) (a : Fin 3), win0_0.index t a = 0 := by decide +kernel
theorem idx1 : ∀ (t : Fin grid0.N) (a : Fin 3), win0_1.index t a = 0 := by decide +kernel
theorem idx2 : ∀ (t : Fin grid0.N) (a : Fin 3), win0_2.index t a = 0 := by decide +kernel
theorem idx3 : ∀ (t : Fin grid0.N) (a : Fin 3), win0_3.index t a = 0 := by decide +kernel
theorem idx4 : ∀ (t : Fin grid0.N) (a : Fin 3), win0_4.index t a = 0 := by decide +kernel
theorem idx5 : ∀ (t : Fin grid0.N) (a : Fin 3), win0_5.index t a = 0 := by decide +kernel
theorem idx6 : ∀ (t : Fin grid0.N) (a : Fin 2), win0_6.index t a = 0 := by decide +kernel
theorem idx7 : ∀ (t : Fin grid0.N) (a : Fin 3), win0_7.index t a = 0 := by decide +kernel
theorem blk0 (t : Fin cfg0.N) (h : Fin 20) (j : Fin 8) (s : Fin 65536) : Gen.iblk m c 0 t (ix3 h j s) = Gen.V m c main_v26 (ix3 h j s) := by
  blk_simp [Gen.iblk, idx0]
  refine congrArg (Gen.V m c main_v26) (funext fun a => Fin.ext ?_)
  fin_cases a
  all_goals first | rfl | blk_simp [idx0] ; done | (blk_simp [idx0]; simp [idx0])
theorem blk1 (t : Fin cfg0.N) (h : Fin 20) (j : Fin 8) : Gen.iblk m c 1 t (ix3 h j 0) = Gen.V m c main_v27 (ix3 h j 0) := by
  blk_simp [Gen.iblk, idx1]
  refine congrArg (Gen.V m c main_v27) (funext fun a => Fin.ext ?_)
  fin_cases a
  all_goals first | rfl | blk_simp [idx1] ; done | (blk_simp [idx1]; simp [idx1])
theorem blk2 (t : Fin cfg0.N) (h : Fin 20) (j : Fin 8) : Gen.iblk m c 2 t (ix3 h j 0) = Gen.V m c main_v28 (ix3 h j 0) := by
  blk_simp [Gen.iblk, idx2]
  refine congrArg (Gen.V m c main_v28) (funext fun a => Fin.ext ?_)
  fin_cases a
  all_goals first | rfl | blk_simp [idx2] ; done | (blk_simp [idx2]; simp [idx2])
theorem blk3 (t : Fin cfg0.N) (h : Fin 20) (s : Fin 65536) (d : Fin 128) : Gen.iblk m c 3 t (ix3 h s d) = Gen.V m c main_v30 (ix3 h s d) := by
  blk_simp [Gen.iblk, idx3]
  refine congrArg (Gen.V m c main_v30) (funext fun a => Fin.ext ?_)
  fin_cases a
  all_goals first | rfl | blk_simp [idx3] ; done | (blk_simp [idx3]; simp [idx3])
theorem blk4 (t : Fin cfg0.N) (h : Fin 20) (d : Fin 128) : Gen.iblk m c 4 t (ix3 h 0 d) = Gen.V m c main_v31 (ix3 h 0 d) := by
  blk_simp [Gen.iblk, idx4]
  refine congrArg (Gen.V m c main_v31) (funext fun a => Fin.ext ?_)
  fin_cases a
  all_goals first | rfl | blk_simp [idx4] ; done | (blk_simp [idx4]; simp [idx4])
theorem blk5 (t : Fin cfg0.N) (h : Fin 20) (d : Fin 128) : Gen.iblk m c 5 t (ix3 h 0 d) = Gen.V m c main_v33 (ix3 h 0 d) := by
  blk_simp [Gen.iblk, idx5]
  refine congrArg (Gen.V m c main_v33) (funext fun a => Fin.ext ?_)
  fin_cases a
  all_goals first | rfl | blk_simp [idx5] ; done | (blk_simp [idx5]; simp [idx5])

theorem zeros3 : (![0, 0, 0] : Fin 3 → ℕ) = fun _ => 0 := by decide
theorem zeros2 : (![0, 0] : Fin 2 → ℕ) = fun _ => 0 := by decide

section
variable (b : Fin 2) (g : Fin 10)

theorem seen_le (h : ℕ) : LL m c h ≤ 65536 := lenN_le _
theorem weights (t : Fin cfg0.N) (j : Fin 8) (s : Fin 65536) : Gen.iblk m c 0 t (ix3 (⟨10 * b.val + g.val, by omega⟩ : Fin 20) j s)
    = prob (qq m c (10 * b.val + g.val)) (kk m c (10 * b.val + g.val)) (nn m c (10 * b.val + g.val)) (LL m c (10 * b.val + g.val)) j s.val :=
  (blk0 m c t _ j s).trans (weight_at m c b g j s)
theorem totals (t : Fin cfg0.N) (j : Fin 8) : Gen.iblk m c 1 t (ix3 (⟨10 * b.val + g.val, by omega⟩ : Fin 20) j 0)
    = total (qq m c (10 * b.val + g.val)) (kk m c (10 * b.val + g.val)) (nn m c (10 * b.val + g.val)) (LL m c (10 * b.val + g.val)) j :=
  (blk1 m c t _ j).trans (total_at m c b g j)
theorem news (t : Fin cfg0.N) (j : Fin 8) : Gen.iblk m c 2 t (ix3 (⟨10 * b.val + g.val, by omega⟩ : Fin 20) j 0)
    = probN (qq m c (10 * b.val + g.val)) (kk m c (10 * b.val + g.val)) (nn m c (10 * b.val + g.val)) (LL m c (10 * b.val + g.val)) j :=
  (blk2 m c t _ j).trans (new_at m c b g j)
/-- The rest of what head `h` reads of the arguments. -/
abbrev vv (h : ℕ) : ℕ → Fin 128 → EReal := rowOf (m ((c : Thread nD τ).loc main_arg4)) h
abbrev ss (h : ℕ) : Fin 128 → EReal := scaleOf (m ((c : Thread nD τ).loc main_arg5)) h
abbrev uu (h : ℕ) : Fin 128 → EReal := newOf (m ((c : Thread nD τ).loc main_arg2)) h
theorem codes (t : Fin cfg0.N) (s : Fin 65536) (d : Fin 128) : Gen.iblk m c 3 t (ix3 (⟨10 * b.val + g.val, by omega⟩ : Fin 20) s d) = vv m c (10 * b.val + g.val) s.val d :=
  (blk3 m c t _ s d).trans ((codes_at m c b g s d).trans (key_head _ b g s d))
theorem scales (t : Fin cfg0.N) (d : Fin 128) : Gen.iblk m c 4 t (ix3 (⟨10 * b.val + g.val, by omega⟩ : Fin 20) 0 d) = ss m c (10 * b.val + g.val) d :=
  (blk4 m c t _ d).trans ((scales_at m c b g d).trans (by unfold ss scaleOf; rw [seq_head, kv_head]))
theorem values (t : Fin cfg0.N) (d : Fin 128) : Gen.iblk m c 5 t (ix3 (⟨10 * b.val + g.val, by omega⟩ : Fin 20) 0 d) = uu m c (10 * b.val + g.val) d :=
  (blk5 m c t _ d).trans ((newVals_at m c b g d).trans (new_head _ b g d))

theorem left7 (t : Fin cfg0.N) : (Gen.dats m 0 c).after 7 t = Gen.k0_pay2 (F := Ideal) (Gen.iblk m c 0 t) (Gen.iblk m c 3 t) (Gen.iblk m c 4 t) (Gen.iblk m c 1 t) := by
  rw [Gen.after0_7]
  unfold Gen.out0_7
  rw [View.canon_unit_zero (S := S20x8x128) zeros3, View.ld_unit_zero (S := S20x8x65536) zeros3, View.ld_unit_zero (S := S20x65536x128) zeros3, View.ld_unit_zero (S := S20x1x128) zeros3, View.ld_unit_zero (S := S20x8x1) zeros3]
theorem left6 (t : Fin cfg0.N) : (Gen.dats m 0 c).after 6 t = Gen.k0_pay3 (F := Ideal) (Gen.iblk m c 0 t) (Gen.iblk m c 3 t) (Gen.iblk m c 4 t) (Gen.iblk m c 1 t) (Gen.iblk m c 2 t) (Gen.iblk m c 5 t) := by
  rw [Gen.after0_6]
  unfold Gen.out0_6
  rw [View.canon_unit_zero (S := S160x128) zeros2, View.ld_unit_zero (S := S20x8x65536) zeros3, View.ld_unit_zero (S := S20x65536x128) zeros3, View.ld_unit_zero (S := S20x1x128) zeros3, View.ld_unit_zero (S := S20x8x1) zeros3, View.ld_unit_zero (S := S20x8x1) zeros3, View.ld_unit_zero (S := S20x1x128) zeros3]

theorem cache_at (t : Fin cfg0.N) (j : Fin 8) (d : Fin 128) : (Gen.dats m 0 c).after 7 t (ix3 (⟨10 * b.val + g.val, by omega⟩ : Fin 20) j d)
    = cacheOf (qq m c (10 * b.val + g.val)) (kk m c (10 * b.val + g.val)) (vv m c (10 * b.val + g.val)) (nn m c (10 * b.val + g.val)) (ss m c (10 * b.val + g.val)) (LL m c (10 * b.val + g.val)) j d := by
  rw [left7]
  exact pay2_at _ _ _ _ (seen_le m c _) (weights m c b g t) (codes m c b g t) (scales m c b g t) (totals m c b g t) j d
theorem out_at (t : Fin cfg0.N) (r : Fin 160) (hr : 10 * b.val + g.val = r.val / 8) (d : Fin 128) : (Gen.dats m 0 c).after 6 t (ix2 r d)
    = outOf (qq m c (10 * b.val + g.val)) (kk m c (10 * b.val + g.val)) (vv m c (10 * b.val + g.val)) (nn m c (10 * b.val + g.val)) (uu m c (10 * b.val + g.val)) (ss m c (10 * b.val + g.val)) (LL m c (10 * b.val + g.val)) ⟨r.val % 8, Nat.mod_lt _ (by omega)⟩ d := by
  rw [left6]
  exact pay3_at _ _ _ _ _ _ (seen_le m c _) (weights m c b g t) (codes m c b g t) (scales m c b g t) (totals m c b g t) (news m c b g t) (values m c b g t) r hr d
end

/-! ## The arrays after the run -/

theorem left_cache (t : Fin cfg0.N) (h : Fin 20) (j : Fin 8) (d : Fin 128) : (Gen.dats m 0 c).after 7 t (ix3 h j d)
    = cacheOf (qq m c h.val) (kk m c h.val) (vv m c h.val) (nn m c h.val) (ss m c h.val) (LL m c h.val) j d := by
  have e := cache_at m c ⟨h.val / 10, by omega⟩ ⟨h.val % 10, by omega⟩ t j d
  have e' : 10 * (h.val / 10) + h.val % 10 = h.val := Nat.div_add_mod _ _
  simpa only [e'] using e
theorem left_out (t : Fin cfg0.N) (r : Fin 160) (d : Fin 128) : (Gen.dats m 0 c).after 6 t (ix2 r d)
    = outOf (qq m c (r.val / 8)) (kk m c (r.val / 8)) (vv m c (r.val / 8)) (nn m c (r.val / 8)) (uu m c (r.val / 8)) (ss m c (r.val / 8)) (LL m c (r.val / 8)) ⟨r.val % 8, Nat.mod_lt _ (by omega)⟩ d := by
  have e' : 10 * (r.val / 8 / 10) + r.val / 8 % 10 = r.val / 8 := Nat.div_add_mod _ _
  have e := out_at m c ⟨r.val / 8 / 10, by omega⟩ ⟨r.val / 8 % 10, by omega⟩ t r e' d
  simpa only [e'] using e

end Cert.Proof.ReferenceIdeal
-- ==== Proof.RArr.lean ====
/- The reference's run ends with its first two results at the heads' attention. -/
module

public import proofs.«01_k».proof.Proof.RVal

@[expose] public section

set_option maxRecDepth 16384

noncomputable section

namespace Cert.Proof.ReferenceIdeal

open Cert.ReferenceIdeal Decode
open Idealize.ShloMosaic Idealize.ShloMosaic.TcCoe Idealize.SL.Sem

variable (m : (ℓ : Loc nD τ sig) → Buf (Elt Ideal) ℓ) (ρ : Dev nD → PrngReg) (c : Dev nD)

/-- The two results, of the arguments. -/
abbrev outRes : S160x128.Idx → EReal := outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
abbrev cacheRes : S20x8x128.Idx → EReal := cacheArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

theorem after_cache (t : Fin cfg0.N) (z : S20x8x128.Idx) : (Gen.dats m 0 c).after 7 t z = cacheRes m c z := by
  obtain ⟨h, j, d, rfl⟩ : ∃ (h : Fin 20) (j : Fin 8) (d : Fin 128), z = ix3 h j d := ⟨_, _, _, eq_ix3 z⟩
  exact left_cache m c t h j d
theorem after_out (t : Fin cfg0.N) (z : S160x128.Idx) : (Gen.dats m 0 c).after 6 t z = outRes m c z := by
  obtain ⟨r, d, rfl⟩ : ∃ (r : Fin 160) (d : Fin 128), z = ix2 r d := ⟨_, _, eq_ix2 z⟩
  exact left_out m c t r d

theorem arr_cache : (Gen.dats m 0 c).arrAt 7 cfg0.N = cacheRes m c := by
  refine (Gen.dats m 0 c).arrAt_eq_of_after_last 7 Gen.t0_0 (by decide +kernel) _ fun j => ?_
  blk_simp
  exact after_cache m c Gen.t0_0 j
theorem arr_out : (Gen.dats m 0 c).arrAt 6 cfg0.N = outRes m c := by
  refine (Gen.dats m 0 c).arrAt_eq_of_after_last 6 Gen.t0_0 (by decide +kernel) _ fun j => ?_
  blk_simp
  exact after_out m c Gen.t0_0 j

/-- The reference runs: its first two results end as the heads' attention, its arguments as they were. -/
theorem run : θ_run defs (onTc (τ := τ) (main (F := Ideal))) ⟨m, fun _ => 0, ρ⟩ (fun r => ∀ c : Dev nD,
      r.2.mem ((c.tc : Thread nD τ).loc main_v34_0) = outRes m c
      ∧ r.2.mem ((c.tc : Thread nD τ).loc main_v34_1) = cacheRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (arr_out m c), (h c).2.1.trans (arr_cache m c), (h c).2.2⟩) (Cert.ReferenceIdeal.Value.run_blocks m ρ)

end Cert.Proof.ReferenceIdeal
-- ==== Proof.Agree.lean ====
/- The kernel's first two results are the reference's, over the extended reals. -/
module

public import proofs.«01_k».proof.Proof.KRun
public import proofs.«01_k».proof.Proof.RArr
public import proofs.«01_k».proof.Defs

@[expose] public section

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
variable (c : Dev Cert.KernelIdeal.nD)
variable (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h in
/-- From the same arguments the two programs' results are the same arrays. -/
theorem same_out : ReferenceIdeal.outRes m' c = KernelIdeal.outRes m c := by
  obtain ⟨h0, h1, h2, h3, h4, h5, h6⟩ := h
  unfold ReferenceIdeal.outRes KernelIdeal.outRes
  rw [h0, h1, h2, h3, h4, h5, h6]
include h in
theorem same_cache : ReferenceIdeal.cacheRes m' c = KernelIdeal.cacheRes m c := by
  obtain ⟨h0, h1, h2, h3, h4, h5, h6⟩ := h
  unfold ReferenceIdeal.cacheRes KernelIdeal.cacheRes
  rw [h0, h1, h3, h4, h5, h6]
end

theorem agree [hKernelIdeal : Cert.KernelIdeal.Facts] [hReferenceIdeal : Cert.ReferenceIdeal.Facts] : Cert.algebraic_KernelIdeal_ReferenceIdeal := by
  intro m g m' g' _ hm
  exact ⟨KernelIdeal.outRes m, KernelIdeal.cacheRes m, KernelIdeal.run_results m g,
    (θ_run _ _ _).mono (fun r h c => ⟨(h c).1.trans (same_out m m' c (hm c)), (h c).2.1.trans (same_cache m m' c (hm c)), (h c).2.2⟩) (ReferenceIdeal.run m' g')⟩

end Cert.Proof
-- ==== Proof.Prime.lean ====
/- The first twelve fetches of each ring. -/
module

public import proofs.«01_k».proof.Proof.Sites
public import proofs.«01_k».proof.Proof.Gen.Kernel.Loops
public import Idealize.ShloMosaic.Lib.LoopRemainder

@[expose] public section

set_option maxRecDepth 16384

noncomputable section

namespace Cert.Proof.Kernel

open Cert.Kernel Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Semaphore `s` of an array of twelve. -/
def semOf (a : DmaSems sig S12) (s : ℕ) : DmaSem sig := a.ix (Fin.cons (⟨s % 12, Nat.mod_lt _ (by omega)⟩ : Fin 12) fun x => x.elim0)

theorem semOf_slice (a : DmaSems sig S12) {o : Fin 1 → ℕ} {s : ℕ} (ho : o = ![s]) (hs : s < 12)
    (h : ∀ x, o x + S1.size x ≤ S12.size x) (hq : S1.Squeezes S_) : ((a.slice (Rect.unit (s := S12) o S1.size h)).squeeze S_ hq).sem = semOf a s := by
  subst ho
  unfold semOf SemArray.sem
  show a.ix _ = _
  congr 1
  funext x
  refine Fin.ext ?_
  obtain rfl : x = 0 := Subsingleton.elim _ _
  show s + 1 * _ = s % 12
  have : ∀ z : Fin 1, s + 1 * z.val = s % 12 := fun z => by omega
  exact this _

/-- The length word of sequence `b`, and head `h`'s length. -/
def lw {c : Dev nD} (arg0 : Memref sig .tc .smem S2 .i32) (f0 : Buf (Elt F) (arg0.view.loc (c : Thread nD τ))) (b : ℕ) : BitVec 32 :=
  arg0.view.read (Elt F) f0 (Fin.cons (⟨b % 2, Nat.mod_lt _ (by omega)⟩ : Fin 2) fun x => x.elim0)
def hl {c : Dev nD} (arg0 : Memref sig .tc .smem S2 .i32) (f0 : Buf (Elt F) (arg0.view.loc (c : Thread nD τ))) (h : ℕ) : ℕ := lenN (lw arg0 f0 (h / 10))

theorem hl_le {c : Dev nD} (arg0 : Memref sig .tc .smem S2 .i32) (f0 : Buf (Elt F) (arg0.view.loc (c : Thread nD τ))) (h : ℕ) : hl arg0 f0 h ≤ 65536 := lenN_le _

theorem lw_read {c : Dev nD} (arg0 : Memref sig .tc .smem S2 .i32) (f0 : Buf (Elt F) (arg0.view.loc (c : Thread nD τ)))
    {o : Fin 1 → ℕ} {b : ℕ} (ho : o = ![b]) (hb : b < 2) (h : ∀ x, o x + S1.size x ≤ S2.size x) (x : (Rect.unit (s := S2) o S1.size h).shape.Idx) :
    (arg0.access (Rect.unit (s := S2) o S1.size h)).read (Elt F) f0 x = lw arg0 f0 b := by
  subst ho
  unfold lw
  show arg0.view.read (Elt F) f0 ((Rect.unit (s := S2) ![b] S1.size h).emb x) = _
  congr 1
  funext a
  refine Fin.ext ?_
  obtain rfl : a = 0 := Subsingleton.elim _ _
  show b + 1 * (x 0).val = b % 2
  have : (x 0).val < 1 := (x 0).isLt
  omega

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (q : PosShare TreeShare) (f0 : Buf (Elt F) (arg0.view.loc (c : Thread nD τ))) (fK : Buf (Elt F) (arg5.view.loc (c : Thread nD τ))) (fV : Buf (Elt F) (arg6.view.loc (c : Thread nD τ)))

abbrev RingK (w iss : ℕ) : sProp 𝕄 := Ring (c : Thread nD τ) arg11 arg5 (semOf arg16) (hl arg0 f0) fK w iss
abbrev RingV (w iss : ℕ) : sProp 𝕄 := Ring (c : Thread nD τ) arg12 arg6 (semOf arg17) (hl arg0 f0) fV w iss

/-- The words of the `j`-th fetch. -/
abbrev posW (j : ℕ) : BitVec 32 × BitVec 32 := (BitVec.ofNat 32 (pos (hl arg0 f0) j).1, BitVec.ofNat 32 (pos (hl arg0 f0) j).2)

theorem hl_min {h : ℕ} : hl arg0 f0 (min h 19) = lenN (lw arg0 f0 (min h 19 / 10)) := rfl

theorem off1_eq {h : ℕ} (hh : h < 20) : k0_off1 (BitVec.ofNat 32 h) = ![h / 10] := by
  show ![(seqW (BitVec.ofNat 32 h)).toNat] = _
  rw [seqW_eq ⟨h, hh⟩, toNat_ofNat (by show h / 10 < _; omega)]
theorem off5_eq {h : ℕ} (hh : h < 2 ^ 30) : k0_off5 (BitVec.ofNat 32 h) = ![min h 19 / 10] := by
  show ![(seqW (Scalar.minsi (BitVec.ofNat 32 h) 19#32)).toNat] = _
  rw [seqW_min hh, toNat_ofNat (by omega)]
theorem cond1_iff {h : ℕ} (hh : h < 2 ^ 30) : k0_cond1 (BitVec.ofNat 32 h) = 1#1 ↔ h < 20 := more_iff hh

theorem off2_eq (t : Fin k0_t1_loop.trips) : k0_off2 t = ![t.val] := by
  have ht : t.val < 12 := t.isLt
  show ![(Scf.iv 0#32 1#32 t.val).toNat] = _
  rw [iv_eq _ (by omega), toNat_ofNat (by omega)]

theorem chk1 {h : ℕ} (hh : h < 2 ^ 30) : k0_chk1 (BitVec.ofNat 32 h) :=
  ⟨fun k => len_inb (off1_eq ((cond1_iff hh).mp k)) (by have := (cond1_iff hh).mp k; omega), len_inb (off5_eq hh) (by omega)⟩
theorem chk3 {h i : ℕ} (hi : i < 2 ^ 10) : k0_chk3 (BitVec.ofNat 32 h) (BitVec.ofNat 32 i) := fun _ => by
  show 4096 ∣ (Scalar.muli (BitVec.ofNat 32 i) 4096#32).toNat
  rw [muli_toNat hi]; exact Nat.dvd_mul_right _ _

theorem off3_eq (t : Fin k0_t1_loop.trips) {i : ℕ} {v : BitVec 32} (hi : i < ncN (lenN v)) :
    k0_off3 t (BitVec.ofNat 32 i) v = slotRect t.val (rowsN (lenN v) i) := by
  have ht : t.val < 12 := t.isLt
  show slotOff (Scf.iv 0#32 1#32 t.val) (BitVec.ofNat 32 i) v = _
  rw [iv_eq _ (by omega), slotOff_eq ht hi]
theorem off4_eq {h i : ℕ} {v : BitVec 32} (hh : h < 20) (hi : i < ncN (lenN v)) :
    k0_off4 (BitVec.ofNat 32 h) (BitVec.ofNat 32 i) v = rowRect h i (rowsN (lenN v) i) := rowOff_eq hh hi
theorem sz1_eq {i : ℕ} {v : BitVec 32} (hi : i < ncN (lenN v)) : k0_sz1 (BitVec.ofNat 32 i) v = ![rowsN (lenN v) i, 128] := by
  show ![(rowsW (BitVec.ofNat 32 i) v).toNat, 128] = _
  rw [rowsW_toNat hi]

theorem chk2 (t : Fin k0_t1_loop.trips) {h i : ℕ} {v : BitVec 32} (hh : h < 20) (hi : i < ncN (lenN v)) :
    k0_chk2 t (BitVec.ofNat 32 h) (BitVec.ofNat 32 i) v :=
  copy_ok (s := t.val) (h := h) (i := i) (v := v) (fun _ => t.isLt) (fun _ => hh) (fun _ => hi) (by decide) (fun _ => rowsW_toNat hi) (fun _ => off3_eq t hi)
    (fun _ => off4_eq hh hi) (fun _ => sz1_eq hi) (fun _ => sz1_eq hi)

theorem pos_bounds {j h i : ℕ} (hp : pos (hl arg0 f0) j = (h, i)) : h ≤ j ∧ i < ncN (hl arg0 f0 (min h 19)) ∧ i < 16 := by
  have h1 := pos_fst_le (hl arg0 f0) j
  have h2 := pos_snd_lt (hl arg0 f0) j
  have h3 := ncN_le (hl_le arg0 f0 (min (pos (hl arg0 f0) j).1 19))
  rw [hp] at h1 h2 h3
  exact ⟨h1, h2, by simp only at *; omega⟩

/-- The words of the next fetch, from those of this one. -/
theorem posW_succ {j h i : ℕ} (hp : pos (hl arg0 f0) j = (h, i)) (v : BitVec 32) (hv : v = lw arg0 f0 (min h 19 / 10)) :
    (Scalar.select (Scalar.cmpi .sge (Scalar.addi (BitVec.ofNat 32 i) 1#32) (ncW v)) (Scalar.addi (BitVec.ofNat 32 h) 1#32) (BitVec.ofNat 32 h),
     Scalar.select (Scalar.cmpi .sge (Scalar.addi (BitVec.ofNat 32 i) 1#32) (ncW v)) 0#32 (Scalar.addi (BitVec.ofNat 32 i) 1#32))
      = posW c arg0 f0 (j + 1) := by
  have hb := (pos_bounds c arg0 f0 hp).2.2
  subst hv
  rw [next_words h i _ (by omega)]
  show _ = (BitVec.ofNat 32 (next (hl arg0 f0 (min (pos (hl arg0 f0) j).1 19)) (pos (hl arg0 f0) j)).1, BitVec.ofNat 32 (next (hl arg0 f0 (min (pos (hl arg0 f0) j).1 19)) (pos (hl arg0 f0) j)).2)
  rw [hp]; rfl

theorem trip_t1 (k : Fin k0_t1_loop.trips) {h i : ℕ} (hp : pos (hl arg0 f0) k.val = (h, i)) :
    iprop((arg0.view.loc (c : Thread nD τ) ↦[arg0.view.set]{q} f0) ∗ RingK c arg0 arg5 arg11 arg16 f0 fK 0 k.val)
      ⊢ wp Idealize.ShloMosaic.frame (wpE (defs₀ (F := F)) Variants.none (c : Thread nD τ) none) Set.univ
        (Gen.k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 k (BitVec.ofNat 32 h, BitVec.ofNat 32 i))
        (fun r => iprop(⌜r = posW c arg0 f0 (k.val + 1)⌝ ∗ (arg0.view.loc (c : Thread nD τ) ↦[arg0.view.set]{q} f0) ∗ RingK c arg0 arg5 arg11 arg16 f0 fK 0 (k.val + 1))) := by
  have hk : k.val < 12 := k.isLt
  obtain ⟨hb, hi, hc⟩ := pos_bounds c arg0 f0 hp
  unfold Gen.k0_t1_body
  iintro ⟨H0, HR⟩
  have h3 := chk3 (h := h) (i := i) (by omega)
  have h1 := chk1 (h := h) (by omega)
  have hr5 := lw_read arg0 f0 (off5_eq (h := h) (by omega)) (by omega) (k0_off5_inb _ h1)
  ihave HR := (ring_issue (c : Thread nD τ) arg11 arg5 (semOf arg16) (hl arg0 f0) fK (Nat.zero_le k.val) (by omega)) $$ HR
  icases HR with ⟨HF, HR⟩
  rw [show k.val % 12 = k.val by omega]
  by_cases hh : h < 20
  · have hcond := (cond1_iff (h := h) (by omega)).mpr hh
    rw [show min h 19 = h by omega] at hi
    have h2 : ∀ v, v = lw arg0 f0 (h / 10) → k0_chk2 k (BitVec.ofNat 32 h) (BitVec.ofNat 32 i) v := by
      rintro v rfl; exact chk2 k hh hi
    have e1 : ∀ v, v = lw arg0 f0 (h / 10) → k0_off3 k (BitVec.ofNat 32 i) v = slotRect k.val (rowsN (hl arg0 f0 h) i) := by
      rintro v rfl; exact off3_eq k hi
    have e2 : ∀ v, v = lw arg0 f0 (h / 10) → k0_off4 (BitVec.ofNat 32 h) (BitVec.ofNat 32 i) v = rowRect h i (rowsN (hl arg0 f0 h) i) := by
      rintro v rfl; exact off4_eq hh hi
    have e3 : ∀ v, v = lw arg0 f0 (h / 10) → k0_sz1 (BitVec.ofNat 32 i) v = ![rowsN (hl arg0 f0 h) i, 128] := by
      rintro v rfl; exact sz1_eq hi
    have hr := lw_read arg0 f0 (off1_eq hh) (by omega) (k0_off1_inb _ h1 hcond)
    sl_exec
    iapply (wp_assume Variants.none (c : Thread nD τ) none Set.univ (h2 _ (hr _)))
    sl_exec
    iapply (wp_issue (c : Thread nD τ) arg11 arg5 (semOf arg16) (hl arg0 f0) fK Variants.none none (s := k.val) (h := h)
      (i := i) (n := rowsN (hl arg0 f0 h) i) rfl ?_ ?_ ?_ (semOf_slice arg16 (off2_eq k) hk _ _)) $$ HF
    · exact e1 _ (hr _)
    · exact e2 _ (hr _)
    · exact e3 _ (hr _)
    iintro HF
    sl_exec
    sl_step
    isplitr
    · ipureintro; exact posW_succ c arg0 f0 hp _ (hr5 _)
    isplitl [H0]; · iexact H0
    iapply HR
    rw [show Cell (c : Thread nD τ) arg11 arg5 (semOf arg16) (hl arg0 f0) fK k.val (k.val + 1) k.val = (Coming (c : Thread nD τ) arg11 arg5 (semOf arg16) (hl arg0 f0) fK k.val h i : sProp 𝕄) from by
      unfold Cell; rw [hp]; exact if_pos ⟨Nat.lt_succ_self _, hh⟩]
    iexact HF
  · have hcond := (cond1_iff (h := h) (by omega)).not.mpr hh
    sl_exec
    sl_step
    isplitr
    · ipureintro; exact posW_succ c arg0 f0 hp _ (hr5 _)
    isplitl [H0]; · iexact H0
    iapply HR
    rw [show Cell (c : Thread nD τ) arg11 arg5 (semOf arg16) (hl arg0 f0) fK k.val (k.val + 1) k.val = (Free (c : Thread nD τ) arg11 arg5 (semOf arg16) fK k.val : sProp 𝕄) from by
      unfold Cell; rw [hp]; exact if_neg fun hx => hh hx.2]
    iexact HF

@[instance_reducible, sl_loop] def loopInv_k0_t1 (init : BitVec 32 × BitVec 32) :
    Gen.LoopInvTy_k0_t1 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 init where
  inv := fun k acc => iprop(⌜acc = posW c arg0 f0 k⌝ ∗ (arg0.view.loc (c : Thread nD τ) ↦[arg0.view.set]{q} f0) ∗ RingK c arg0 arg5 arg11 arg16 f0 fK 0 k)
  step := fun k acc => by
    iintro ⟨%hacc, H0, HR⟩
    subst hacc
    iapply (trip_t1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 q f0 fK k (h := (pos (hl arg0 f0) k.val).1) (i := (pos (hl arg0 f0) k.val).2) rfl) $$ [H0 HR]
    isplitl [H0] <;> iassumption

theorem off6_eq {h : ℕ} (hh : h < 20) : k0_off6 (BitVec.ofNat 32 h) = ![h / 10] := off1_eq hh
theorem off10_eq {h : ℕ} (hh : h < 2 ^ 30) : k0_off10 (BitVec.ofNat 32 h) = ![min h 19 / 10] := off5_eq hh
theorem cond2_iff {h : ℕ} (hh : h < 2 ^ 30) : k0_cond2 (BitVec.ofNat 32 h) = 1#1 ↔ h < 20 := more_iff hh
theorem off7_eq (t : Fin k0_t2_loop.trips) : k0_off7 t = ![t.val] := off2_eq t
theorem chk4 {h : ℕ} (hh : h < 2 ^ 30) : k0_chk4 (BitVec.ofNat 32 h) := chk1 hh
theorem chk6 {h i : ℕ} (hi : i < 2 ^ 10) : k0_chk6 (BitVec.ofNat 32 h) (BitVec.ofNat 32 i) := chk3 (h := h) hi
theorem off8_eq (t : Fin k0_t2_loop.trips) {i : ℕ} {v : BitVec 32} (hi : i < ncN (lenN v)) :
    k0_off8 t (BitVec.ofNat 32 i) v = slotRect t.val (rowsN (lenN v) i) := off3_eq t hi
theorem off9_eq {h i : ℕ} {v : BitVec 32} (hh : h < 20) (hi : i < ncN (lenN v)) :
    k0_off9 (BitVec.ofNat 32 h) (BitVec.ofNat 32 i) v = rowRect h i (rowsN (lenN v) i) := rowOff_eq hh hi
theorem sz3_eq {i : ℕ} {v : BitVec 32} (hi : i < ncN (lenN v)) : k0_sz3 (BitVec.ofNat 32 i) v = ![rowsN (lenN v) i, 128] := sz1_eq hi
theorem chk5 (t : Fin k0_t2_loop.trips) {h i : ℕ} {v : BitVec 32} (hh : h < 20) (hi : i < ncN (lenN v)) :
    k0_chk5 t (BitVec.ofNat 32 h) (BitVec.ofNat 32 i) v :=
  copy_ok (s := t.val) (h := h) (i := i) (v := v) (fun _ => t.isLt) (fun _ => hh) (fun _ => hi) (by decide) (fun _ => rowsW_toNat hi) (fun _ => off8_eq t hi)
    (fun _ => off9_eq hh hi) (fun _ => sz3_eq hi) (fun _ => sz3_eq hi)

theorem trip_t2 (k : Fin k0_t2_loop.trips) {h i : ℕ} (hp : pos (hl arg0 f0) k.val = (h, i)) :
    iprop((arg0.view.loc (c : Thread nD τ) ↦[arg0.view.set]{q} f0) ∗ RingV c arg0 arg6 arg12 arg17 f0 fV 0 k.val)
      ⊢ wp Idealize.ShloMosaic.frame (wpE (defs₀ (F := F)) Variants.none (c : Thread nD τ) none) Set.univ
        (Gen.k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 k (BitVec.ofNat 32 h, BitVec.ofNat 32 i))
        (fun r => iprop(⌜r = posW c arg0 f0 (k.val + 1)⌝ ∗ (arg0.view.loc (c : Thread nD τ) ↦[arg0.view.set]{q} f0) ∗ RingV c arg0 arg6 arg12 arg17 f0 fV 0 (k.val + 1))) := by
  have hk : k.val < 12 := k.isLt
  obtain ⟨hb, hi, hc⟩ := pos_bounds c arg0 f0 hp
  unfold Gen.k0_t2_body
  iintro ⟨H0, HR⟩
  have h3 := chk6 (h := h) (i := i) (by omega)
  have h1 := chk4 (h := h) (by omega)
  have hr5 := lw_read arg0 f0 (off10_eq (h := h) (by omega)) (by omega) (k0_off10_inb _ h1)
  ihave HR := (ring_issue (c : Thread nD τ) arg12 arg6 (semOf arg17) (hl arg0 f0) fV (Nat.zero_le k.val) (by omega)) $$ HR
  icases HR with ⟨HF, HR⟩
  rw [show k.val % 12 = k.val by omega]
  by_cases hh : h < 20
  · have hcond := (cond2_iff (h := h) (by omega)).mpr hh
    rw [show min h 19 = h by omega] at hi
    have h2 : ∀ v, v = lw arg0 f0 (h / 10) → k0_chk5 k (BitVec.ofNat 32 h) (BitVec.ofNat 32 i) v := by
      rintro v rfl; exact chk5 k hh hi
    have e1 : ∀ v, v = lw arg0 f0 (h / 10) → k0_off8 k (BitVec.ofNat 32 i) v = slotRect k.val (rowsN (hl arg0 f0 h) i) := by
      rintro v rfl; exact off8_eq k hi
    have e2 : ∀ v, v = lw arg0 f0 (h / 10) → k0_off9 (BitVec.ofNat 32 h) (BitVec.ofNat 32 i) v = rowRect h i (rowsN (hl arg0 f0 h) i) := by
      rintro v rfl; exact off9_eq hh hi
    have e3 : ∀ v, v = lw arg0 f0 (h / 10) → k0_sz3 (BitVec.ofNat 32 i) v = ![rowsN (hl arg0 f0 h) i, 128] := by
      rintro v rfl; exact sz3_eq hi
    have hr := lw_read arg0 f0 (off6_eq hh) (by omega) (k0_off6_inb _ h1 hcond)
    sl_exec
    iapply (wp_assume Variants.none (c : Thread nD τ) none Set.univ (h2 _ (hr _)))
    sl_exec
    iapply (wp_issue (c : Thread nD τ) arg12 arg6 (semOf arg17) (hl arg0 f0) fV Variants.none none (s := k.val) (h := h)
      (i := i) (n := rowsN (hl arg0 f0 h) i) rfl ?_ ?_ ?_ (semOf_slice arg17 (off7_eq k) hk _ _)) $$ HF
    · exact e1 _ (hr _)
    · exact e2 _ (hr _)
    · exact e3 _ (hr _)
    iintro HF
    sl_exec
    sl_step
    isplitr
    · ipureintro; exact posW_succ c arg0 f0 hp _ (hr5 _)
    isplitl [H0]; · iexact H0
    iapply HR
    rw [show Cell (c : Thread nD τ) arg12 arg6 (semOf arg17) (hl arg0 f0) fV k.val (k.val + 1) k.val = (Coming (c : Thread nD τ) arg12 arg6 (semOf arg17) (hl arg0 f0) fV k.val h i : sProp 𝕄) from by
      unfold Cell; rw [hp]; exact if_pos ⟨Nat.lt_succ_self _, hh⟩]
    iexact HF
  · have hcond := (cond2_iff (h := h) (by omega)).not.mpr hh
    sl_exec
    sl_step
    isplitr
    · ipureintro; exact posW_succ c arg0 f0 hp _ (hr5 _)
    isplitl [H0]; · iexact H0
    iapply HR
    rw [show Cell (c : Thread nD τ) arg12 arg6 (semOf arg17) (hl arg0 f0) fV k.val (k.val + 1) k.val = (Free (c : Thread nD τ) arg12 arg6 (semOf arg17) fV k.val : sProp 𝕄) from by
      unfold Cell; rw [hp]; exact if_neg fun hx => hh hx.2]
    iexact HF

@[instance_reducible, sl_loop] def loopInv_k0_t2 (init : BitVec 32 × BitVec 32) :
    Gen.LoopInvTy_k0_t2 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 init where
  inv := fun k acc => iprop(⌜acc = posW c arg0 f0 k⌝ ∗ (arg0.view.loc (c : Thread nD τ) ↦[arg0.view.set]{q} f0) ∗ RingV c arg0 arg6 arg12 arg17 f0 fV 0 k)
  step := fun k acc => by
    iintro ⟨%hacc, H0, HR⟩
    subst hacc
    iapply (trip_t2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 q f0 fV k (h := (pos (hl arg0 f0) k.val).1) (i := (pos (hl arg0 f0) k.val).2) rfl) $$ [H0 HR]
    isplitl [H0] <;> iassumption

end

end Cert.Proof.Kernel
-- ==== Proof.KSites.lean ====
/- The words, offsets and side conditions of a chunk of keys. -/
module

public import proofs.«01_k».proof.Proof.Prime
public import proofs.«01_k».proof.Proof.Tail
public import proofs.«01_k».proof.Proof.Gen.Kernel.Loops
public import Idealize.ShloMosaic.Lib.LoopRemainder

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {i h : ℕ} {v753 : BitVec 32}

theorem seq_off {t : Fin k0_t3_loop.trips} : ![(seqW (Scf.iv 0#32 1#32 t.val)).toNat] = ![t.val / 10] := by
  have ht : t.val < 20 := t.isLt
  rw [iv_eq _ (by omega), seqW_eq ⟨t.val, ht⟩, toNat_ofNat (by show t.val / 10 < _; omega)]

theorem off13_eq (t : Fin k0_t3_loop.trips) : k0_off13 t = ![t.val / 10] := seq_off
theorem off17_eq (t : Fin k0_t3_loop.trips) : k0_off17 t = ![t.val / 10] := seq_off
theorem off18_eq (t : Fin k0_t3_loop.trips) : k0_off18 t = ![t.val / 10] := seq_off
theorem off22_eq (t : Fin k0_t3_loop.trips) : k0_off22 t = ![t.val / 10] := seq_off
theorem off14_eq {s : ℕ} (hs : s < 12) : k0_off14 (BitVec.ofNat 32 s) = ![s] := by
  show ![(BitVec.ofNat 32 s).toNat] = _
  rw [toNat_ofNat (by omega)]
theorem off28_eq {s : ℕ} (hs : s < 12) : k0_off28 (BitVec.ofNat 32 s) = ![s] := off14_eq hs
theorem off27_eq {h : ℕ} (hh : h < 20) : k0_off27 (BitVec.ofNat 32 h) = ![h / 10] := off1_eq hh
theorem off31_eq {h : ℕ} (hh : h < 2 ^ 30) : k0_off31 (BitVec.ofNat 32 h) = ![min h 19 / 10] := off5_eq hh
theorem cond4_iff {h : ℕ} (hh : h < 2 ^ 30) : k0_cond4 (BitVec.ofNat 32 h) = 1#1 ↔ h < 20 := more_iff hh

theorem one_inb {o : Fin 1 → ℕ} {s : ℕ} (ho : o = ![s]) (hs : s < 12) : ∀ a, o a + S1.size a ≤ S12.size a := by
  subst ho
  refine Fin.forall_fin_succ.mpr ⟨?_, fun a => a.elim0⟩
  show s + 1 ≤ 12; omega

theorem chk15 {h i : ℕ} (hi : i < 2 ^ 10) : k0_chk15 (BitVec.ofNat 32 h) (BitVec.ofNat 32 i) := chk3 (h := h) hi
theorem chk13 {s h : ℕ} (hs : s < 12) (hh : h < 2 ^ 30) : k0_chk13 (BitVec.ofNat 32 s) (BitVec.ofNat 32 h) :=
  ⟨fun k => len_inb (off27_eq ((cond4_iff hh).mp k)) (by have := (cond4_iff hh).mp k; omega), fun _ => one_inb (off28_eq hs) hs, len_inb (off31_eq hh) (by omega)⟩
theorem chk9 {s : ℕ} (hs : s < 12) : k0_chk9 (BitVec.ofNat 32 s) := one_inb (off14_eq hs) hs

/-- The chunk loop's trips. -/
theorem nc_ub (v : BitVec 32) : IsInt (Scalar.addi 0#32 (Scalar.muli (Scalar.divsi (Scalar.subi (ncW v) 0#32) 1#32) 1#32)) (ncN (lenN v) : ℕ) := by
  have hb := ncN_le (lenN_le v)
  rw [ncW_eq]
  exact addi (ea := 0) (Affine.ofNat 0 (by omega)) (muli (ea := ncN (lenN v)) (eb := 1) (divsi_one (eb := 1) (subi (eb := 0) (isInt_ofNat (by omega)) (Affine.ofNat 0 (by omega)) ⟨rfl, by omega, by omega⟩)
    (Affine.ofNat 1 (by omega)) ⟨by omega, rfl⟩) (Affine.ofNat 1 (by omega)) ⟨rfl, by omega, by omega⟩) ⟨by omega, by omega, by omega⟩
theorem zero_isInt : IsInt 0#32 (0 : ℕ) := Affine.ofNat 0 (by omega)
theorem nc_trips (v : BitVec 32) : (k0_t4_loop v).trips = ncN (lenN v) := (trips_of zero_isInt (nc_ub v)).trans (by omega)
theorem nc_ok (v : BitVec 32) : (k0_t4_loop v).OK := ok_of zero_isInt (nc_ub v) (by omega) (by have := ncN_le (lenN_le v); omega)
theorem mult_iv {t : ℕ} (ht : t < 2 ^ 10) : 4096 ∣ (Scalar.muli (Scf.iv 0#32 1#32 t) 4096#32).toNat := by
  rw [iv_eq _ (by omega), muli_toNat ht]; exact Nat.dvd_mul_right _ _

/-- A remainder loop makes no trip. -/
theorem no_trip {a x : BitVec 32} {p : Fin (Scf.trips (Scalar.addi a (Scalar.muli (Scalar.divsi x 1#32) 1#32)) (Scalar.addi a x) 1#32) → Prop} : ∀ k, p k := fun k => (Scf.rem_no_trip a x k).elim

theorem chk7 (v : BitVec 32) : k0_chk7 v :=
  ⟨nc_ok v, fun t => mult_iv (by have := t.isLt; have := nc_trips v; have := ncN_le (lenN_le v); omega), Scf.rem_ok _ _, no_trip,
    nc_ok v, fun t => mult_iv (by have h : t.val < (k0_t4_loop v).trips := t.isLt; have := nc_trips v; have := ncN_le (lenN_le v); omega), Scf.rem_ok _ _, no_trip⟩

theorem block_toNat {k : ℕ} (hk : k < 2) : (Scalar.muli (Scf.iv 0#32 1#32 k) 2048#32).toNat = 2048 * k :=
  toNat_of (Affine.muli (eb := 2048) (iv_isInt zero_isInt (by omega)) (Affine.ofNat 2048 (by omega)) ⟨by omega, by omega, by omega⟩) (by omega)
theorem scores_inb {b : ℕ} (hb : b < 32) : ∀ a, (![b, 0, 0] : Fin 3 → ℕ) a + S1x8x2048.size a ≤ S32x8x2048.size a := by
  refine Fin.forall_fin_succ.mpr ⟨?_, Fin.forall_fin_succ.mpr ⟨?_, Fin.forall_fin_succ.mpr ⟨?_, fun a => a.elim0⟩⟩⟩
  · show b + 1 ≤ 32; omega
  · show 0 + 8 ≤ 8; omega
  · show 0 + 2048 ≤ 2048; omega

section
variable (t : Fin (k0_t4_loop v753).trips) {v : BitVec 32} (hi : t.val < ncN (lenN v))
include hi

theorem t_lt : t.val < 16 := lt_of_lt_of_le hi (ncN_le (lenN_le v))
theorem rows_word : rowsW (Scf.iv 0#32 1#32 t.val) v = BitVec.ofNat 32 (rowsN (lenN v) t.val) := by
  have := t_lt t hi
  rw [iv_eq _ (by omega), rowsW_eq _ v hi]
theorem rows_toNat : (rowsW (Scf.iv 0#32 1#32 t.val) v).toNat = rowsN (lenN v) t.val := by
  rw [rows_word t hi, toNat_ofNat (by have := rowsN_le (lenN v) t.val; omega)]

theorem sz5_eq : k0_sz5 v753 t v = ![rowsN (lenN v) t.val, 128] := by
  show ![(rowsW (Scf.iv 0#32 1#32 t.val) v).toNat, 128] = _
  rw [rows_toNat t hi]

theorem chk8 (t3 : Fin k0_t3_loop.trips) (s : BitVec 32) : k0_chk8 t3 v753 t s v := by
  refine ⟨?_, squeezes _, squeezes _⟩
  show 32 ∣ (rowsW (Scf.iv 0#32 1#32 t.val) v).toNat
  rw [rows_toNat t hi]; exact rowsN_dvd _ _

theorem chk10 : k0_chk10 v753 t v := by
  show 32 ∣ (rowsW (Scf.iv 0#32 1#32 t.val) v).toNat
  rw [rows_toNat t hi]; exact rowsN_dvd _ _

theorem cond3_iff : k0_cond3 v753 t v = 1#1 ↔ lenN v < 4096 * t.val + 4096 := by
  have := t_lt t hi
  show Scalar.cmpi .ne (Scalar.extui (Scalar.cmpi .slt (Scalar.subi (clipW v) (Scalar.muli (Scf.iv 0#32 1#32 t.val) 4096#32)) 4096#32)) 0#32 = 1#1 ↔ _
  rw [iv_eq _ (by omega)]
  exact short_iff this

theorem edge_toNat : (Scalar.subi (rowsW (Scf.iv 0#32 1#32 t.val) v) 32#32).toNat = rowsN (lenN v) t.val - 32 := by
  have h1 := rowsN_le (lenN v) t.val
  have h2 := rowsN_pos (lenN v) t.val
  rw [rows_word t hi]
  exact toNat_of (Affine.subi (eb := 32) (isInt_ofNat (by omega)) (Affine.ofNat 32 (by omega)) ⟨by omega, by omega, by omega⟩) (by omega)

theorem off19_eq {s : ℕ} (hs : s < 12) : k0_off19 v753 t (BitVec.ofNat 32 s) v = ![s, rowsN (lenN v) t.val - 32, 0] := by
  show ![(BitVec.ofNat 32 s).toNat, (Scalar.subi (rowsW (Scf.iv 0#32 1#32 t.val) v) 32#32).toNat, 0] = _
  rw [toNat_ofNat (by omega), edge_toNat t hi]

theorem t5_lb : IsInt (k0_t5_loop v753 t v).lb (rowsN (lenN v) t.val / 32 : ℕ) := by
  show IsInt (floor32 (rowsW (Scf.iv 0#32 1#32 t.val) v)) _
  rw [rows_word t hi]
  exact floor32_isInt (rowsN_le _ _) (rowsN_dvd _ _)
theorem t5_ub : IsInt (k0_t5_loop v753 t v).ub (64 * blocksN (rowsN (lenN v) t.val) : ℕ) := by
  show IsInt (tailUb (rowsW (Scf.iv 0#32 1#32 t.val) v)) _
  rw [rows_word t hi]
  exact tailUb_isInt (rowsN_le _ _) (rowsN_dvd _ _)
theorem t5_trips : (k0_t5_loop v753 t v).trips = 64 * blocksN (rowsN (lenN v) t.val) - rowsN (lenN v) t.val / 32 := trips_of (t5_lb t hi) (t5_ub t hi)
theorem t5_ok : (k0_t5_loop v753 t v).OK :=
  ok_of (t5_lb t hi) (t5_ub t hi) (by have := rowsN_le (lenN v) t.val; omega) (by have := rowsN_le (lenN v) t.val; unfold blocksN; omega)
theorem t5_le (k : Fin (k0_t5_loop v753 t v).trips) : 32 * (rowsN (lenN v) t.val / 32 + k.val) + 32 ≤ 4096 := by
  have h := lt_of_lt_of_eq k.isLt (t5_trips t hi)
  have := rowsN_le (lenN v) t.val
  unfold blocksN at *
  omega
theorem tile_toNat (k : Fin (k0_t5_loop v753 t v).trips) :
    (Scalar.muli (Scf.iv (floor32 (rowsW (Scf.iv 0#32 1#32 t.val) v)) 1#32 k.val) 32#32).toNat = 32 * (rowsN (lenN v) t.val / 32 + k.val) := by
  have hle := t5_le t hi k
  refine toNat_of (Affine.muli (eb := 32) (iv_isInt (t5_lb t hi) (by omega)) (Affine.ofNat 32 (by omega)) ⟨by omega, by omega, by omega⟩) (by omega)
theorem off20_eq {s : ℕ} (hs : s < 12) (k : Fin (k0_t5_loop v753 t v).trips) :
    k0_off20 v753 t (BitVec.ofNat 32 s) v k = ![s, 32 * (rowsN (lenN v) t.val / 32 + k.val), 0] := by
  show ![(BitVec.ofNat 32 s).toNat, (Scalar.muli (Scf.iv (floor32 (rowsW (Scf.iv 0#32 1#32 t.val) v)) 1#32 k.val) 32#32).toNat, 0] = _
  rw [toNat_ofNat (by omega), tile_toNat t hi]

theorem chk11 {s : ℕ} (hs : s < 12) (v920 : BitVec 32) : k0_chk11 v753 t (BitVec.ofNat 32 s) v v920 := by
  have h1 := rowsN_le (lenN v) t.val
  have h2 := rowsN_pos (lenN v) t.val
  have h3 := rowsN_dvd (lenN v) t.val
  refine ⟨fun _ => ?_, fun _ => (off19_eq t hi hs).symm ▸ slot_inb hs (by omega), fun _ => slot_packed (n := 32) (by decide) (by omega) (by omega) (off19_eq t hi hs), fun _ => t5_ok t hi,
    fun k _ => ?_, fun k _ => (off20_eq t hi hs k).symm ▸ slot_inb hs (t5_le t hi k), fun k _ => slot_packed (n := 32) (by decide) (Nat.dvd_mul_right _ _) (by omega) (off20_eq t hi hs k),
    fun _ => Scf.rem_ok _ _, no_trip, no_trip, no_trip⟩
  · show 32 ∣ (Scalar.subi (rowsW (Scf.iv 0#32 1#32 t.val) v) 32#32).toNat
    rw [edge_toNat t hi]; omega
  · show 32 ∣ (Scalar.muli (Scf.iv (floor32 (rowsW (Scf.iv 0#32 1#32 t.val) v)) 1#32 k.val) 32#32).toNat
    rw [tile_toNat t hi]; exact Nat.dvd_mul_right _ _

theorem t7_ub : IsInt (k0_t7_loop v753 t v).ub (blocksN (rowsN (lenN v) t.val) : ℕ) := by
  show IsInt (Scalar.addi 0#32 (Scalar.muli (Scalar.divsi (Scalar.subi (blocksW (rowsW (Scf.iv 0#32 1#32 t.val) v)) 0#32) 1#32) 1#32)) _
  rw [rows_word t hi]
  exact blocks_ub (rowsN_le _ _)
theorem t7_trips : (k0_t7_loop v753 t v).trips = blocksN (rowsN (lenN v) t.val) := (trips_of zero_isInt (t7_ub t hi)).trans (by omega)
theorem t7_lt (k : Fin (k0_t7_loop v753 t v).trips) : k.val < 2 := by
  have h := lt_of_lt_of_eq k.isLt (t7_trips t hi)
  have := rowsN_le (lenN v) t.val
  unfold blocksN at *
  omega
theorem off23_eq {s : ℕ} (hs : s < 12) (k : Fin (k0_t7_loop v753 t v).trips) : k0_off23 v753 t (BitVec.ofNat 32 s) v k = ![s, 2048 * k.val, 0] := by
  show ![(BitVec.ofNat 32 s).toNat, (Scalar.muli (Scf.iv 0#32 1#32 k.val) 2048#32).toNat, 0] = _
  rw [toNat_ofNat (by omega), block_toNat (t7_lt t hi k)]
theorem off24_eq (k : Fin (k0_t7_loop v753 t v).trips) : k0_off24 v753 t v k = ![2 * t.val + k.val, 0, 0] := by
  have h1 := t_lt t hi
  have h2 := t7_lt t hi k
  show ![(Scalar.addi (Scalar.muli (Scf.iv 0#32 1#32 t.val) 2#32) (Scf.iv 0#32 1#32 k.val)).toNat, 0, 0] = _
  rw [toNat_of (n := 2 * t.val + k.val) (Affine.addi (Affine.muli (eb := 2) (iv_isInt zero_isInt (by omega)) (Affine.ofNat 2 (by omega)) ⟨rfl, by omega, by omega⟩) (iv_isInt zero_isInt (by omega)) ⟨by omega, by omega, by omega⟩) (by omega)]
theorem chk12 {s : ℕ} (hs : s < 12) : k0_chk12 v753 t (BitVec.ofNat 32 s) v := by
  have h1 := rowsN_le (lenN v) t.val
  have h2 := t_lt t hi
  refine ⟨chk10 t hi, ok_of zero_isInt (t7_ub t hi) (by omega) (by unfold blocksN; omega), fun k => ?_, fun k => ?_, fun k => ?_, Scf.rem_ok _ _, no_trip, no_trip, no_trip⟩
  · show 2048 ∣ (Scalar.muli (Scf.iv 0#32 1#32 k.val) 2048#32).toNat
    rw [block_toNat (t7_lt t hi k)]; exact Nat.dvd_mul_right _ _
  · rw [off23_eq t hi hs k]; exact slot_inb hs (by have := t7_lt t hi k; omega)
  · rw [off24_eq t hi k]; exact scores_inb (by have := t7_lt t hi k; omega)

end

theorem off29_eq {s i : ℕ} {v : BitVec 32} (hs : s < 12) (hi : i < ncN (lenN v)) : k0_off29 (BitVec.ofNat 32 s) (BitVec.ofNat 32 i) v = slotRect s (rowsN (lenN v) i) := slotOff_eq hs hi
theorem off30_eq {h i : ℕ} {v : BitVec 32} (hh : h < 20) (hi : i < ncN (lenN v)) : k0_off30 (BitVec.ofNat 32 h) (BitVec.ofNat 32 i) v = rowRect h i (rowsN (lenN v) i) := rowOff_eq hh hi
theorem sz7_eq {i : ℕ} {v : BitVec 32} (hi : i < ncN (lenN v)) : k0_sz7 (BitVec.ofNat 32 i) v = ![rowsN (lenN v) i, 128] := sz1_eq hi
theorem chk14 {s h i : ℕ} {v : BitVec 32} (hs : s < 12) (hh : h < 20) (hi : i < ncN (lenN v)) : k0_chk14 (BitVec.ofNat 32 s) (BitVec.ofNat 32 h) (BitVec.ofNat 32 i) v :=
  copy_ok (s := s) (h := h) (i := i) (v := v) (fun _ => hs) (fun _ => hh) (fun _ => hi) (by decide) (fun _ => rowsW_toNat hi) (fun _ => off29_eq hs hi)
    (fun _ => off30_eq hh hi) (fun _ => sz7_eq hi) (fun _ => sz7_eq hi)

end Cert.Proof.Kernel
-- ==== Proof.VSites.lean ====
/- The words and side conditions of a chunk of values. -/
module

public import proofs.«01_k».proof.Proof.KSites
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! The chunk of values computes the same words as the chunk of keys; its
offsets and side conditions are read off those of the keys. -/

variable {v753 : BitVec 32}

theorem off52_eq (t : Fin k0_t3_loop.trips) : k0_off52 t = ![t.val / 10] := seq_off
theorem off56_eq (t : Fin k0_t3_loop.trips) : k0_off56 t = ![t.val / 10] := seq_off
theorem off57_eq (t : Fin k0_t3_loop.trips) : k0_off57 t = ![t.val / 10] := seq_off
theorem off60_eq (t : Fin k0_t3_loop.trips) : k0_off60 t = ![t.val / 10] := seq_off
theorem off53_eq {s : ℕ} (hs : s < 12) : k0_off53 (BitVec.ofNat 32 s) = ![s] := off14_eq hs
theorem off66_eq {s : ℕ} (hs : s < 12) : k0_off66 (BitVec.ofNat 32 s) = ![s] := off14_eq hs
theorem off65_eq {h : ℕ} (hh : h < 20) : k0_off65 (BitVec.ofNat 32 h) = ![h / 10] := off1_eq hh
theorem off69_eq {h : ℕ} (hh : h < 2 ^ 30) : k0_off69 (BitVec.ofNat 32 h) = ![min h 19 / 10] := off5_eq hh
theorem cond8_iff {h : ℕ} (hh : h < 2 ^ 30) : k0_cond8 (BitVec.ofNat 32 h) = 1#1 ↔ h < 20 := more_iff hh

theorem chk31 {h i : ℕ} (hi : i < 2 ^ 10) : k0_chk31 (BitVec.ofNat 32 h) (BitVec.ofNat 32 i) := chk15 (h := h) hi
theorem chk29 {s h : ℕ} (hs : s < 12) (hh : h < 2 ^ 30) : k0_chk29 (BitVec.ofNat 32 s) (BitVec.ofNat 32 h) := chk13 hs hh
theorem chk25 {s : ℕ} (hs : s < 12) : k0_chk25 (BitVec.ofNat 32 s) := chk9 hs
theorem nc_trips' (v : BitVec 32) : (k0_t14_loop v).trips = ncN (lenN v) := nc_trips v
theorem nc_ok' (v : BitVec 32) : (k0_t14_loop v).OK := nc_ok v

section
variable (t : Fin (k0_t14_loop v753).trips) {v : BitVec 32} (hi : t.val < ncN (lenN v))
include hi

theorem sz13_eq : k0_sz13 v753 t v = ![rowsN (lenN v) t.val, 128] := sz5_eq (v753 := v753) t hi
theorem chk24 (t3 : Fin k0_t3_loop.trips) (s : BitVec 32) : k0_chk24 t3 v753 t s v := chk8 (v753 := v753) t hi t3 s
theorem chk26 : k0_chk26 v753 t v := chk10 (v753 := v753) t hi
theorem cond7_iff : k0_cond7 v753 t v = 1#1 ↔ lenN v < 4096 * t.val + 4096 := cond3_iff (v753 := v753) t hi
theorem t15_ok : (k0_t15_loop v753 t v).OK := t5_ok (v753 := v753) t hi
theorem t15_le (k : Fin (k0_t15_loop v753 t v).trips) : 32 * (rowsN (lenN v) t.val / 32 + k.val) + 32 ≤ 4096 := t5_le (v753 := v753) t hi k
theorem off58_eq {s : ℕ} (hs : s < 12) (k : Fin (k0_t15_loop v753 t v).trips) :
    k0_off58 v753 t (BitVec.ofNat 32 s) v k = ![s, 32 * (rowsN (lenN v) t.val / 32 + k.val), 0] := off20_eq (v753 := v753) t hi hs k

theorem chk27 {s : ℕ} (hs : s < 12) (v920 : BitVec 32) : k0_chk27 v753 t (BitVec.ofNat 32 s) v v920 :=
  ⟨fun _ => t15_ok t hi, fun k h => (chk11 (v753 := v753) t hi hs v920).2.2.2.2.1 k h, fun k _ => (off58_eq t hi hs k).symm ▸ slot_inb hs (t15_le t hi k),
    fun k _ => slot_packed (n := 32) (by decide) (Nat.dvd_mul_right _ _) (by omega) (off58_eq t hi hs k), fun _ => Scf.rem_ok _ _, no_trip, no_trip, no_trip⟩

theorem t17_trips : (k0_t17_loop v753 t v).trips = blocksN (rowsN (lenN v) t.val) := t7_trips (v753 := v753) t hi
theorem t17_lt (k : Fin (k0_t17_loop v753 t v).trips) : k.val < 2 := t7_lt (v753 := v753) t hi k
theorem off62_eq {s : ℕ} (hs : s < 12) (k : Fin (k0_t17_loop v753 t v).trips) : k0_off62 v753 t (BitVec.ofNat 32 s) v k = ![s, 2048 * k.val, 0] := off23_eq (v753 := v753) t hi hs k
theorem off61_eq (k : Fin (k0_t17_loop v753 t v).trips) : k0_off61 v753 t v k = ![2 * t.val + k.val, 0, 0] := off24_eq (v753 := v753) t hi k
theorem t17_ok : (k0_t17_loop v753 t v).OK := (chk12 (v753 := v753) t hi (s := 0) (by omega)).2.1

theorem chk28 {s : ℕ} (hs : s < 12) : k0_chk28 v753 t (BitVec.ofNat 32 s) v := by
  have h2 := t_lt (v753 := v753) t hi
  refine ⟨chk10 (v753 := v753) t hi, t17_ok t hi, fun k => ?_, fun k => (chk12 (v753 := v753) t hi hs).2.2.1 k, fun k => ?_, Scf.rem_ok _ _, no_trip, no_trip, no_trip⟩
  · rw [off61_eq t hi k]; exact scores_inb (by have := t17_lt t hi k; omega)
  · rw [off62_eq t hi hs k]; exact slot_inb hs (by have := t17_lt t hi k; omega)

end

theorem off67_eq {s i : ℕ} {v : BitVec 32} (hs : s < 12) (hi : i < ncN (lenN v)) : k0_off67 (BitVec.ofNat 32 s) (BitVec.ofNat 32 i) v = slotRect s (rowsN (lenN v) i) := slotOff_eq hs hi
theorem off68_eq {h i : ℕ} {v : BitVec 32} (hh : h < 20) (hi : i < ncN (lenN v)) : k0_off68 (BitVec.ofNat 32 h) (BitVec.ofNat 32 i) v = rowRect h i (rowsN (lenN v) i) := rowOff_eq hh hi
theorem sz15_eq {i : ℕ} {v : BitVec 32} (hi : i < ncN (lenN v)) : k0_sz15 (BitVec.ofNat 32 i) v = ![rowsN (lenN v) i, 128] := sz1_eq hi
theorem chk30 {s h i : ℕ} {v : BitVec 32} (hs : s < 12) (hh : h < 20) (hi : i < ncN (lenN v)) : k0_chk30 (BitVec.ofNat 32 s) (BitVec.ofNat 32 h) (BitVec.ofNat 32 i) v :=
  copy_ok (s := s) (h := h) (i := i) (v := v) (fun _ => hs) (fun _ => hh) (fun _ => hi) (by decide) (fun _ => rowsW_toNat hi) (fun _ => off67_eq hs hi)
    (fun _ => off68_eq hh hi) (fun _ => sz15_eq hi) (fun _ => sz15_eq hi)

end Cert.Proof.Kernel
-- ==== Proof.KLoops.lean ====
/- The inner loops of a chunk of keys. -/
module

public import proofs.«01_k».proof.Proof.KSites
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A slot, which holds the first `m` rows of chunk `i` of head `h` if `P`. -/
def SlotAt {e : EltTy} (P : Prop) (c : Dev nD) (M : Memref sig .tc .vmem SB e) (X : Memref sig .tc .hbm SX e) (fX : Buf (Elt F) (X.view.loc (c : Thread nD τ))) (m s h i : ℕ) : sProp (MT nD τ sig Unit (Elt F) ℕ (Pipeline.UD sig nD τ) ℕ) :=
  iprop(∃ f, (M.view.loc (c : Thread nD τ) ↦[slotSet (c : Thread nD τ) M s]{fullShare} f) ∗ ⌜P → Holds (c : Thread nD τ) M X fX m s h i f⌝)

/-- The scores, whose first `n` blocks are `Sv` if `P`. -/
def ScoresAt (P : Prop) (c : Dev nD) (M : Memref sig .tc .vmem S32x8x2048 .f32) (Sv : ℕ → S8x2048.Idx → F .f32) (n : ℕ) : sProp (MT nD τ sig Unit (Elt F) ℕ (Pipeline.UD sig nD τ) ℕ) :=
  iprop(∃ f, (M.view.loc (c : Thread nD τ) ↦[M.view.set]{fullShare} f)
    ∗ ⌜P → ∀ (z : S32x8x2048.Idx) (y : S8x2048.Idx), (z 0).val < n → (z 1).val = (y 0).val → (z 2).val = (y 1).val → M.view.read (Elt F) f z = Sv (z 0).val y⌝)

/-- A block of scores is stored above the ones there are. -/
theorem scores_store (P : Prop) (c : Dev nD) (M : Memref sig .tc .vmem S32x8x2048 .f32) (Sv : ℕ → S8x2048.Idx → F .f32) {n : ℕ} {o : Fin 3 → ℕ} (ho : o = ![n, 0, 0])
    (hinb : ∀ x, o x + S1x8x2048.size x ≤ S32x8x2048.size x) {f : Buf (Elt F) (M.view.loc (c : Thread nD τ))} (w : (Rect.unit (s := S32x8x2048) o S1x8x2048.size hinb).shape.Idx → F .f32)
    (hf : P → ∀ (z : S32x8x2048.Idx) (y : S8x2048.Idx), (z 0).val < n → (z 1).val = (y 0).val → (z 2).val = (y 1).val → M.view.read (Elt F) f z = Sv (z 0).val y)
    (hw : P → ∀ (z : (Rect.unit (s := S32x8x2048) o S1x8x2048.size hinb).shape.Idx) (y : S8x2048.Idx), (z 1).val = (y 0).val → (z 2).val = (y 1).val → w z = Sv n y) :
    P → ∀ (z : S32x8x2048.Idx) (y : S8x2048.Idx), (z 0).val < n + 1 → (z 1).val = (y 0).val → (z 2).val = (y 1).val →
      M.view.read (Elt F) ((M.access (Rect.unit (s := S32x8x2048) o S1x8x2048.size hinb)).write (Elt F) f w Finset.univ) z = Sv (z 0).val y := by
  subst ho
  intro hP z y z0 z1 z2
  by_cases hz : z ∈ Finset.univ.map (Rect.unit (s := S32x8x2048) ![n, 0, 0] S1x8x2048.size hinb).emb
  · obtain ⟨x, -, rfl⟩ := Finset.mem_map.mp hz
    have hx0 : (x 0).val < 1 := (x 0).isLt
    have e0 : (((Rect.unit (s := S32x8x2048) ![n, 0, 0] S1x8x2048.size hinb).emb x) 0).val = n := by
      show n + 1 * (x 0).val = n
      omega
    rw [e0]
    refine (View.read_slice_write_emb (v := M.view) _ f w (Finset.mem_univ x)).trans (hw hP x y ?_ ?_)
    · change 0 + 1 * (x 1).val = _ at z1; omega
    · change 0 + 1 * (x 2).val = _ at z2; omega
  · refine (View.read_slice_write_of_not_mem (v := M.view) _ f w _ hz).trans (hf hP z y ?_ z1 z2)
    by_contra h
    refine hz ((Rect.map_emb_univ _).symm ▸ Rect.mem_set_unit.mpr (Fin.forall_fin_succ.mpr ⟨?_, Fin.forall_fin_succ.mpr ⟨?_, Fin.forall_fin_succ.mpr ⟨?_, fun x => x.elim0⟩⟩⟩))
    · show n ≤ (z 0).val ∧ (z 0).val < n + 1; omega
    · have : (z 1).val < 8 := (z 1).isLt
      show 0 ≤ (z 1).val ∧ (z 1).val < 0 + 8; omega
    · have : (z 2).val < 2048 := (z 2).isLt
      show 0 ≤ (z 2).val ∧ (z 2).val < 0 + 2048; omega

/-- What a block read from a slot is. -/
theorem block_read {e : EltTy} (c : Dev nD) (M : Memref sig .tc .vmem SB e) (X : Memref sig .tc .hbm SX e) {fX : Buf (Elt F) (X.view.loc (c : Thread nD τ))} {m s h i a n : ℕ} {f : Buf (Elt F) (M.view.loc (c : Thread nD τ))}
    (hf : Holds (c : Thread nD τ) M X fX m s h i f) {o : Fin 3 → ℕ} (ho : o = ![s, a, 0]) (hinb : ∀ x, o x + (⟨3, ![1, n, 128]⟩ : Shape).size x ≤ SB.size x)
    (z : (Rect.unit (s := SB) o (⟨3, ![1, n, 128]⟩ : Shape).size hinb).shape.Idx) (x : SX.Idx) (x0 : (x 0).val = h) (x1 : (x 1).val = 4096 * i + (a + (z 1).val)) (hz : a + (z 1).val < m) (x2 : (x 2).val = (z 2).val) :
    M.view.readAt (Elt F) (Rect.unit (s := SB) o (⟨3, ![1, n, 128]⟩ : Shape).size hinb).toLoadRect f z = X.view.read (Elt F) fX x := by
  subst ho
  have z0 : (z 0).val < 1 := (z 0).isLt
  refine hf ((Rect.unit (s := SB) ![s, a, 0] (⟨3, ![1, n, 128]⟩ : Shape).size hinb).emb z) x ?_ ?_ x0 ?_ ?_
  · show s + 1 * (z 0).val = s; omega
  · show a + 1 * (z 1).val < m; omega
  · show _ = 4096 * i + (a + 1 * (z 1).val); omega
  · show _ = 0 + 1 * (z 2).val; omega

theorem access_sub {sp : Space} {s : Shape} {e : EltTy} (c : Thread nD τ) (M : Memref sig c.2.kind sp s e) (r : Rect s) : (M.access r).setOn Finset.univ ⊆ M.view.set := by
  show (M.view.slice r).setOn Finset.univ ⊆ _
  intro x hx
  obtain ⟨z, -, rfl⟩ := Finset.mem_map.mp hx
  exact Finset.mem_map.mpr ⟨r.emb z, Finset.mem_univ _, rfl⟩

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))
variable (P : Prop)

theorem trip_t5 (t3 : Fin k0_t3_loop.trips) (arg18 : BitVec 32) (v753 : Elt F .i32) (k : Fin (k0_t4_loop v753).trips) {s h m : ℕ} (hs : s < 12) (arg25 : BitVec 32) (v891 : Elt F .i32) (v901 : BitVec 32) (c10 : BitVec 32) (v902 : BitVec 32) (v907 : BitVec 32) (v909 : BitVec 32) (c0 : BitVec 32) (v920 : Elt F .i32)
    (hw11 : k0_chk11 v753 k (BitVec.ofNat 32 s) v891 v920) (h3 : k0_cond3 v753 k v920 = 1#1) (hi : k.val < ncN (lenN v891)) (hm : m ≤ rowsN (lenN v891) k.val) (t : Fin (k0_t5_loop v753 k v891).trips) :
    SlotAt P c arg11 arg5 fK m s h k.val
      ⊢ wp Idealize.ShloMosaic.frame (wpE (defs₀ (F := F)) Variants.none (c : Thread nD τ) none) Set.univ
        (Gen.k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0 v920 hw11 h3 t ())
        (fun _ => SlotAt P c arg11 arg5 fK m s h k.val) := by
  have ho := off20_eq k hi hs t
  have hr := rowsN_dvd (lenN v891) k.val
  unfold Gen.k0_t5_body SlotAt
  iintro ⟨%f, H, %hf⟩
  iapply (wp_load Variants.none (c : Thread nD τ) none Set.univ (S := slotSet (c : Thread nD τ) arg11 s) ?_) $$ H
  · exact slot_sub (n := 32) (c : Thread nD τ) arg11 ho _
  iintro H
  iapply (wp_store Variants.none (c : Thread nD τ) none Set.univ (m := arg11) (r := Rect.unit (s := S12x4096x128) (k0_off20 v753 k (BitVec.ofNat 32 s) v891 t) S1x32x128.size (k0_off20_inb v753 k (BitVec.ofNat 32 s) v891 v920 hw11 t h3)) (S := slotSet (c : Thread nD τ) arg11 s) ?_) $$ H
  · exact slot_sub_store (n := 32) (c : Thread nD τ) arg11 ho _
  iintro H
  simp only [Prog.bind, Prog.pure_eq_ret]
  sl_step
  iexists _
  isplitl [H]; · iexact H
  ipureintro
  intro hP
  refine holds_store (n := 32) (c : Thread nD τ) arg11 arg5 fK ho _ (hf hP) _ fun z hz => ?_
  exfalso
  omega

theorem trip_t7 (v584 : IVec S8x2048 32) (v734 : BitVec 32) (v753 : Elt F .i32) (v761 : FVec F S8x128 .bf16) (k : Fin (k0_t4_loop v753).trips) (arg26 : FVec F S8x128 .f32) {s h : ℕ} (hs : s < 12) (arg28 : BitVec 32) (arg29 : BitVec 32) (hw13 : k0_chk13 (BitVec.ofNat 32 s) arg28) (arg25 : BitVec 32) (v946 : Elt F .i32) (hw12 : k0_chk12 v753 k (BitVec.ofNat 32 s) v946) (v948 : BitVec 32) (v949 : BitVec 32)
    (hi : k.val < ncN (lenN v946)) (t : Fin (k0_t7_loop v753 k v946).trips) (Sv : ℕ → S8x2048.Idx → F .f32) (Mv : ℕ → FVec F S8x128 .f32) (acc : FVec F S8x128 .f32)
    (hK : P → ∀ kb : Vec F S1x2048x128 .bf16, (∀ (z : S1x2048x128.Idx) (x : SX.Idx), (x 0).val = h → (x 1).val = 2048 * (2 * k.val + t.val) + (z 1).val → (x 1).val < lenN v946 → (x 2).val = (z 2).val → kb z = arg5.view.read (Elt F) fK x) →
      Gen.k0_pay5 v584 v734 v753 v761 k arg25 v946 0#32 1#32 t kb = Sv (2 * k.val + t.val)
        ∧ Gen.k0_pay13 (Gen.k0_pay5 v584 v734 v753 v761 k arg25 v946 0#32 1#32 t kb) (Gen.k0_pay7 v584 v734 v753 v761 k arg25 v946 0#32 1#32 t (Mv (2 * k.val + t.val)) kb) = Mv (2 * k.val + t.val + 1)) :
    iprop(⌜P → acc = Mv (2 * k.val + t.val)⌝ ∗ SlotAt P c arg11 arg5 fK (lenN v946 - 4096 * k.val) s h k.val ∗ ScoresAt P c arg13 Sv (2 * k.val + t.val))
      ⊢ wp Idealize.ShloMosaic.frame (wpE (defs₀ (F := F)) Variants.none (c : Thread nD τ) none) Set.univ
        (Gen.k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k arg26 (BitVec.ofNat 32 s) arg28 arg29 hw13 arg25 v946 hw12 v948 v949 t acc)
        (fun r => iprop(⌜P → r = Mv (2 * k.val + (t.val + 1))⌝ ∗ SlotAt P c arg11 arg5 fK (lenN v946 - 4096 * k.val) s h k.val ∗ ScoresAt P c arg13 Sv (2 * k.val + (t.val + 1)))) := by
  have ho := off23_eq k hi hs t
  have ho' := off24_eq k hi t
  have ht := t7_lt k hi t
  unfold Gen.k0_t7_body SlotAt ScoresAt
  iintro ⟨%hacc, ⟨%f, H, %hf⟩, ⟨%fS, HS, %hfS⟩⟩
  sl_unfold [k0_part2]
  iapply (wp_load Variants.none (c : Thread nD τ) none Set.univ (S := slotSet (c : Thread nD τ) arg11 s) ?_) $$ H
  · exact slot_sub (n := 2048) (c : Thread nD τ) arg11 ho _
  iintro H
  iapply (wp_load Variants.none (c : Thread nD τ) none Set.univ (View.setOn_subset_set _ _)) $$ HS
  iintro HS
  iapply (wp_store Variants.none (c : Thread nD τ) none Set.univ (m := arg13) (r := Rect.unit (s := S32x8x2048) (k0_off24 v753 k v946 t) S1x8x2048.size (k0_off24_inb v753 k (BitVec.ofNat 32 s) v946 hw12 t)) (access_sub (c : Thread nD τ) arg13 _)) $$ HS
  iintro HS
  simp only [Prog.bind, Prog.pure_eq_ret]
  have hkb : P → ∀ (z : S1x2048x128.Idx) (x : SX.Idx), (x 0).val = h → (x 1).val = 2048 * (2 * k.val + t.val) + (z 1).val → (x 1).val < lenN v946 → (x 2).val = (z 2).val →
      View.readAt (Elt F) arg11.view (Rect.unit (s := S12x4096x128) (k0_off23 v753 k (BitVec.ofNat 32 s) v946 t) S1x2048x128.size (k0_off23_inb v753 k (BitVec.ofNat 32 s) v946 hw12 t)).toLoadRect f z = arg5.view.read (Elt F) fK x :=
    fun hP z x x0 x1 x1' x2 => block_read (n := 2048) c arg11 arg5 (hf hP) ho _ z x x0 (by omega) (by omega) x2
  sl_step
  isplitr
  · ipureintro
    intro hP
    rw [hacc hP]
    exact (hK hP _ (hkb hP)).2
  isplitl [H]
  · iexists f
    isplitl [H]; · iexact H
    ipureintro; exact hf
  iexists _
  isplitl [HS]; · iexact HS
  ipureintro
  refine scores_store P c arg13 Sv ho' _ _ hfS fun hP z y z1 z2 => ?_
  rw [← (hK hP _ (hkb hP)).1]
  unfold Gen.k0_pay6
  refine shapeCast_apply _ _ z y ?_
  have z0 : (z 0).val < 1 := (z 0).isLt
  refine (Shape.rowMajor_val_two (d := ![8, 2048]) y).trans (.trans ?_ (Shape.rowMajor_val_three (d := ![1, 8, 2048]) z).symm)
  show (y 0).val * 2048 + (y 1).val = ((z 0).val * 8 + (z 1).val) * 2048 + (z 2).val
  rw [z1, z2, show (z 0).val = 0 by omega]
  omega

/-- The edge tile keeps the rows below `m` and stores zeros above them. -/
theorem edge_keep (hP : P → ∀ x : F .bf16, FloatOps.truncf (F := F) .bf16 Gen.bitsLt_bf16_f32 (FloatOps.extf (F := F) .f32 Gen.bitsLt_bf16_f32 x) = x) (hp : P)
    {v901 v924 : BitVec 32} {r l : ℕ} {m : ℤ} (h1 : IsInt v901 (r : ℕ)) (h2 : IsInt v924 m) (hr : 32 ≤ r ∧ r ≤ 4096) (hm : -65536 ≤ m ∧ m ≤ 65536)
    (b : Vec F S1x32x128 .bf16) (z : S1x32x128.Idx) (hz : (r : ℤ) - 32 + (z 1).val < m) :
    Gen.k0_pay4 v901 v924 b z = b z := by
  have z0 : (z 0).val < 1 := (z 0).isLt
  have z1 : (z 1).val < 32 := (z 1).isLt
  have z2 : (z 2).val < 128 := (z 2).isLt
  unfold Gen.k0_pay4
  refine (shapeCast_apply _ _ z (Fin.cons (z 1) (Fin.cons (z 2) fun x => x.elim0) : S32x128.Idx) ?_).trans ?_
  · refine (Shape.rowMajor_val_two (d := ![32, 128]) _).trans (.trans ?_ (Shape.rowMajor_val_three (d := ![1, 32, 128]) z).symm)
    show (z 1).val * 128 + (z 2).val = ((z 0).val * 32 + (z 1).val) * 128 + (z 2).val
    rw [show (z 0).val = 0 by omega]
    omega
  have h3 := Affine.addi (eb := 32) (Affine.subi h2 h1 (e := m - r) ⟨by omega, by omega, by omega⟩) (Affine.ofNat 32 (by omega)) (e := m - r + 32) ⟨by omega, by omega, by omega⟩
  have h4 : IntOp.cmpi .slt (BitVec.ofNat 32 (z 1).val) (Scalar.addi (Scalar.subi v924 v901) 32#32) = 1#1 := by
    have e1 : IsInt (BitVec.ofNat 32 (z 1).val) ((z 1).val : ℕ) := isInt_ofNat (by omega)
    unfold IsInt at e1
    unfold IsInt at h3
    have e2 : (Scalar.addi (Scalar.subi v924 v901) 32#32).toInt = m - r + 32 := h3
    unfold IntOp.cmpi
    simp only [BitVec.slt_iff_toInt_lt, BitVec.slt, e1, e2]
    rw [decide_eq_true (by omega)]
    rfl
  have h5 : (iota .tc S32x128 32 [0] Gen.iota_S32x128_d0_w32 : IVec S32x128 32) (Fin.cons (z 1) (Fin.cons (z 2) fun x => x.elim0)) = BitVec.ofNat 32 (z 1).val := by
    show BitVec.ofNat 32 (0 * 32 + (z 1).val) = _
    rw [Nat.zero_mul, Nat.zero_add]
  show FloatOps.truncf (F := F) .bf16 Gen.bitsLt_bf16_f32 (Scalar.select (IntOp.cmpi .slt ((iota .tc S32x128 32 [0] Gen.iota_S32x128_d0_w32 : IVec S32x128 32) (Fin.cons (z 1) (Fin.cons (z 2) fun x => x.elim0))) (Scalar.addi (Scalar.subi v924 v901) 32#32)) (FloatOps.extf (F := F) .f32 Gen.bitsLt_bf16_f32 (shapeCast S32x128 b Gen.shapeCasts_S1x32x128_S32x128 (Fin.cons (z 1) (Fin.cons (z 2) fun x => x.elim0)))) _) = _
  rw [h5, h4, show ∀ (a b : F .f32), Scalar.select 1#1 a b = a from fun _ _ => rfl, hP hp]
  refine shapeCast_apply _ _ _ z ?_
  refine (Shape.rowMajor_val_three (d := ![1, 32, 128]) z).trans (.trans ?_ (Shape.rowMajor_val_two (d := ![32, 128]) _).symm)
  show ((z 0).val * 32 + (z 1).val) * 128 + (z 2).val = (z 1).val * 128 + (z 2).val
  rw [show (z 0).val = 0 by omega]
  omega

end
end Cert.Proof.Kernel
-- ==== Proof.KParts.lean ====
/- A chunk of keys: the wait for its copy, its blocks of scores, the next copy. -/
module

public import proofs.«01_k».proof.Proof.KLoops
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Rows that have landed are the rows below the length. -/
theorem holds_len {e : EltTy} (c : Thread nD τ) (M : Memref sig c.2.kind .vmem SB e) (X : Memref sig c.2.kind .hbm SX e) {fX : Buf (Elt F) (X.view.loc c)} {L s h i : ℕ} {f : Buf (Elt F) (M.view.loc c)}
    (hf : Holds c M X fX (rowsN L i) s h i f) : Holds c M X fX (L - 4096 * i) s h i f := by
  intro y x y0 y1 x0 x1 x2
  refine hf y x y0 ?_ x0 x1 x2
  have : (y 1).val < 4096 := (y 1).isLt
  unfold rowsN
  omega

theorem cell_coming {e : EltTy} (c : Thread nD τ) (M : Memref sig c.2.kind .vmem SB e) (X : Memref sig c.2.kind .hbm SX e) (sem : ℕ → DmaSem sig) (len : ℕ → ℕ) (fX : Buf (Elt F) (X.view.loc c)) {w iss s h i : ℕ}
    (hpw : pos len w = (h, i)) (hw : w < iss) (hh : h < 20) : (Cell c M X sem len fX w iss s : sProp (MT nD τ sig Unit (Elt F) ℕ (Pipeline.UD sig nD τ) ℕ)) ⊢ Coming c M X sem len fX s h i := by
  unfold Cell
  rw [hpw, if_pos ⟨hw, hh⟩]

/-- What a slot that has landed is besides its rows. -/
def SlotRest {e : EltTy} (c : Dev nD) (X : Memref sig .tc .hbm SX e) (sem : ℕ → DmaSem sig) (fX : Buf (Elt F) (X.view.loc (c : Thread nD τ))) (s : ℕ) : sProp (MT nD τ sig Unit (Elt F) ℕ (Pipeline.UD sig nD τ) ℕ) :=
  iprop(semVal ((c : Thread nD τ), SemLoc.dma (sem s)) 0 ∗ (X.view.loc (c : Thread nD τ) ↦{slotTok s} fX))

theorem here_open {e : EltTy} (P : Prop) (c : Dev nD) (M : Memref sig .tc .vmem SB e) (X : Memref sig .tc .hbm SX e) (sem : ℕ → DmaSem sig) {fX : Buf (Elt F) (X.view.loc (c : Thread nD τ))} {m s h i : ℕ} {f : Buf (Elt F) (M.view.loc (c : Thread nD τ))}
    (hf : P → Holds (c : Thread nD τ) M X fX m s h i f) : (Here (c : Thread nD τ) M X sem fX s f : sProp (MT nD τ sig Unit (Elt F) ℕ (Pipeline.UD sig nD τ) ℕ)) ⊢ iprop(SlotAt P c M X fX m s h i ∗ SlotRest c X sem fX s) := by
  unfold Here SlotAt SlotRest
  iintro ⟨H1, H2, H3⟩
  isplitl [H2]
  · iexists f
    isplitl [H2]; · iexact H2
    ipureintro; exact hf
  · isplitl [H1] <;> iassumption

theorem here_close {e : EltTy} (P : Prop) (c : Dev nD) (M : Memref sig .tc .vmem SB e) (X : Memref sig .tc .hbm SX e) (sem : ℕ → DmaSem sig) {fX : Buf (Elt F) (X.view.loc (c : Thread nD τ))} {m s h i : ℕ} :
    (iprop(SlotAt P c M X fX m s h i ∗ SlotRest c X sem fX s) : sProp (MT nD τ sig Unit (Elt F) ℕ (Pipeline.UD sig nD τ) ℕ)) ⊢ Free (c : Thread nD τ) M X sem fX s := by
  unfold Free Here SlotAt SlotRest
  iintro ⟨⟨%f, H2, %hf⟩, ⟨H1, H3⟩⟩
  iexists f
  isplitl [H1]; · iexact H1
  isplitl [H2] <;> iassumption

theorem scores_cast (P : Prop) (c : Dev nD) (M : Memref sig .tc .vmem S32x8x2048 .f32) (Sv : ℕ → S8x2048.Idx → F .f32) {n n' : ℕ} (h : n = n') :
    (ScoresAt P c M Sv n : sProp (MT nD τ sig Unit (Elt F) ℕ (Pipeline.UD sig nD τ) ℕ)) ⊢ ScoresAt P c M Sv n' := by
  rw [h]

/-- The blocks of the first `i` chunks. -/
def blk (L : ℕ) : ℕ → ℕ
  | 0 => 0
  | i + 1 => 2 * i + blocksN (rowsN L i)
theorem blk_eq {L i : ℕ} (hi : i < ncN L) : blk L i = 2 * i := by
  cases i with
  | zero => rfl
  | succ i =>
    show 2 * i + blocksN (rowsN L i) = _
    unfold blocksN rowsN
    unfold ncN at hi
    omega

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))
variable (P : Prop)

variable (q : PosShare TreeShare) (f0 : Buf (Elt F) (arg0.view.loc (c : Thread nD τ)))
variable (hP : P → ∀ x : F .bf16, FloatOps.truncf (F := F) .bf16 Gen.bitsLt_bf16_f32 (FloatOps.extf (F := F) .f32 Gen.bitsLt_bf16_f32 x) = x)

include hP in
theorem run_part1 (v753 : Elt F .i32) (k : Fin (k0_t4_loop v753).trips) {s h m : ℕ} (hs : s < 12) (v891 : Elt F .i32) (v901 : BitVec 32) (v920 : Elt F .i32) (hw11 : k0_chk11 v753 k (BitVec.ofNat 32 s) v891 v920) (v924 : BitVec 32) (h3 : k0_cond3 v753 k v920 = 1#1)
    (hi : k.val < ncN (lenN v891)) (h1 : IsInt v901 (rowsN (lenN v891) k.val : ℕ)) {d : ℤ} (h2 : IsInt v924 d) (hd : -65536 ≤ d ∧ d ≤ 65536) (hm : (m : ℤ) ≤ d) :
    SlotAt P c arg11 arg5 fK m s h k.val
      ⊢ wp Idealize.ShloMosaic.frame (wpE (defs₀ (F := F)) Variants.none (c : Thread nD τ) none) Set.univ
        (k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 k (BitVec.ofNat 32 s) v891 v901 v920 hw11 v924 h3)
        (fun _ => SlotAt P c arg11 arg5 fK m s h k.val) := by
  have ho := off19_eq (v753 := v753) (v := v891) k hi hs
  have hr := rowsN_le (lenN v891) k.val
  have hr' := rowsN_pos (lenN v891) k.val
  unfold SlotAt
  iintro ⟨%f, H, %hf⟩
  sl_unfold [k0_part1]
  iapply (wp_load Variants.none (c : Thread nD τ) none Set.univ (S := slotSet (c : Thread nD τ) arg11 s) ?_) $$ H
  · exact slot_sub (n := 32) (c : Thread nD τ) arg11 ho _
  iintro H
  iapply (wp_load Variants.none (c : Thread nD τ) none Set.univ (S := slotSet (c : Thread nD τ) arg11 s) ?_) $$ H
  · exact slot_sub (n := 32) (c : Thread nD τ) arg11 ho _
  iintro H
  iapply (wp_store Variants.none (c : Thread nD τ) none Set.univ (m := arg11) (r := Rect.unit (s := S12x4096x128) (k0_off19 v753 k (BitVec.ofNat 32 s) v891) S1x32x128.size (k0_off19_inb v753 k (BitVec.ofNat 32 s) v891 v920 hw11 h3)) (S := slotSet (c : Thread nD τ) arg11 s) ?_) $$ H
  · exact slot_sub_store (n := 32) (c : Thread nD τ) arg11 ho _
  iintro H
  simp only [Prog.bind, Prog.pure_eq_ret]
  sl_step
  iexists _
  isplitl [H]; · iexact H
  ipureintro
  intro hp
  refine holds_store (n := 32) (c : Thread nD τ) arg11 arg5 fK ho _ (hf hp) _ fun z hz => ?_
  exact (edge_keep (l := 0) P hP hp h1 h2 ⟨by omega, by omega⟩ hd _ z (by have := (z 1).isLt; omega)).trans rfl

attribute [local irreducible] SlotAt SlotRest ScoresAt

set_option maxHeartbeats 400000 in
include hP in
theorem run_part6 (t3 : Fin k0_t3_loop.trips) (arg18 : BitVec 32) (v753 : Elt F .i32) (k : Fin (k0_t4_loop v753).trips) {s : ℕ} (hs : s < 12) (v891 : Elt F .i32) (v901 : BitVec 32) (c10 : BitVec 32) (v902 : BitVec 32) (v907 : BitVec 32) (v909 : BitVec 32) (c0 : BitVec 32)
    (arg25 : BitVec 32) (ha : arg25 = Scf.iv 0#32 1#32 k.val) (hv : v891 = lw arg0 f0 (t3.val / 10)) (hr : v901 = rowsW (Scf.iv 0#32 1#32 k.val) v891) (hi : k.val < ncN (hl arg0 f0 t3.val)) :
    iprop((arg0.view.loc (c : Thread nD τ) ↦[arg0.view.set]{q} f0) ∗ SlotAt P c arg11 arg5 fK (hl arg0 f0 t3.val - 4096 * k.val) s t3.val k.val)
      ⊢ wp Idealize.ShloMosaic.frame (wpE (defs₀ (F := F)) Variants.none (c : Thread nD τ) none) Set.univ
        (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0)
        (fun r => iprop(⌜r.1 = lw arg0 f0 (t3.val / 10)⌝ ∗ (arg0.view.loc (c : Thread nD τ) ↦[arg0.view.set]{q} f0) ∗ SlotAt P c arg11 arg5 fK (hl arg0 f0 t3.val - 4096 * k.val) s t3.val k.val)) := by
  subst ha
  have ht3 : t3.val < 20 := t3.isLt
  have hi' : k.val < ncN (lenN v891) := by rw [hv]; exact hi
  have h11 : ∀ v', k0_chk11 v753 k (BitVec.ofNat 32 s) v891 v' := chk11 k hi' hs
  have h12 : ∀ v, v = lw arg0 f0 (t3.val / 10) → k0_chk12 v753 k (BitVec.ofNat 32 s) v := by
    rintro v rfl
    exact chk12 k hi hs
  have hr11 := lw_read (b := t3.val / 10) arg0 f0 (off18_eq t3) (by omega) (Gen.k0_off18_inb t3)
  have hr12 := lw_read (b := t3.val / 10) arg0 f0 (off22_eq t3) (by omega) (Gen.k0_off22_inb t3)
  have h1 : IsInt v901 (rowsN (lenN v891) k.val : ℕ) := by
    rw [hr, rows_word k hi']
    exact isInt_ofNat (by have := rowsN_le (lenN v891) k.val; omega)
  have hL1 : hl arg0 f0 t3.val ≤ 65536 := hl_le arg0 f0 _
  have hL2 : k.val < 16 := t_lt k hi
  have hL3 : 4096 * k.val < hl arg0 f0 t3.val ∨ k.val = 0 := by unfold ncN at hi; omega
  have hL4 : hl arg0 f0 t3.val = lenN v891 := by rw [hv]; rfl
  by_cases hL : hl arg0 f0 t3.val < 4096 * k.val + 4096
  · have hm : hl arg0 f0 t3.val - 4096 * k.val ≤ rowsN (lenN v891) k.val := by rw [← hL4]; unfold rowsN; omega
    have h3 : ∀ v, v = lw arg0 f0 (t3.val / 10) → k0_cond3 v753 k v = 1#1 := by
      rintro v rfl
      exact (cond3_iff k hi).mpr hL
    iintro ⟨H0, HB⟩
    sl_exec
    have h3' : k0_cond3 v753 k (run_part6.sl.r c arg0 f0 t3) = 1#1 := h3 _ (hr11 _)
    have h2 : IsInt (run_part6.sl.v924 c arg0 f0 t3 v753 k) ((hl arg0 f0 t3.val : ℤ) - 4096 * k.val) := by
      show IsInt (Scalar.subi (clipW (run_part6.sl.r c arg0 f0 t3)) (Scalar.muli (Scf.iv 0#32 1#32 k.val) 4096#32)) _
      rw [show run_part6.sl.r c arg0 f0 t3 = lw arg0 f0 (t3.val / 10) from hr11 _, iv_eq _ (by omega)]
      exact leftW_isInt _ _ (by omega)
    have hcut := run_part1 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P hP v753 k hs v891 v901 (run_part6.sl.r c arg0 f0 t3) (h11 _) (run_part6.sl.v924 c arg0 f0 t3 v753 k) h3' hi' (h := t3.val)
      (m := hl arg0 f0 t3.val - 4096 * k.val) h1 h2 ⟨by omega, by omega⟩ (by omega)
    set_option sl_exec.maxSteps 2 in sl_exec
    iapply (Scf.wp_for_bind Idealize.ShloMosaic.frame (wpE (defs₀ (F := F)) Variants.none (c : Thread nD τ) none) Set.univ _ _ _ (k0_t5_ok v753 k (BitVec.ofNat 32 s) v891 (run_part6.sl.r c arg0 f0 t3) (h11 _) h3') ()
      (Gen.k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part6.sl.r c arg0 f0 t3) (h11 _) h3')
      (fun _ _ => SlotAt P c arg11 arg5 fK (hl arg0 f0 t3.val - 4096 * k.val) s t3.val k.val)
      (fun t _ => trip_t5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P t3 arg18 v753 k (h := t3.val) hs (Scf.iv 0#32 1#32 k.val) v891 v901 c10 v902 v907 v909 c0 (run_part6.sl.r c arg0 f0 t3) (h11 _) h3' hi' hm t)) $$ Hk0_part1_0
    iintro %_ HB
    iapply (Scf.wp_for_bind Idealize.ShloMosaic.frame (wpE (defs₀ (F := F)) Variants.none (c : Thread nD τ) none) Set.univ _ _ _ (k0_t6_ok v753 k (BitVec.ofNat 32 s) v891 (run_part6.sl.r c arg0 f0 t3) (h11 _) h3') ()
      (Gen.k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part6.sl.r c arg0 f0 t3) (h11 _) h3')
      (fun _ _ => SlotAt P c arg11 arg5 fK (hl arg0 f0 t3.val - 4096 * k.val) s t3.val k.val)
      (fun t _ => (Scf.rem_no_trip _ _ t).elim)) $$ HB
    iintro %_ HB
    sl_exec
    iapply (wp_assume Variants.none (c : Thread nD τ) none Set.univ (h12 _ (hr12 _)))
    sl_exec
    sl_step
    isplitr; · ipureintro; exact hr12 _
    isplitl [H0] <;> iassumption
  · have h3 : ∀ v, v = lw arg0 f0 (t3.val / 10) → ¬ k0_cond3 v753 k v = 1#1 := by
      rintro v rfl
      exact fun hx => hL ((cond3_iff k hi).mp hx)
    iintro ⟨H0, HB⟩
    sl_exec
    have h3' : ¬ k0_cond3 v753 k (run_part6.sl.r_1 c arg0 f0 t3) = 1#1 := h3 _ (hr11 _)
    sl_exec
    iapply (wp_assume Variants.none (c : Thread nD τ) none Set.univ (h12 _ (hr12 _)))
    sl_exec
    sl_step
    isplitr; · ipureintro; exact hr12 _
    isplitl [H0] <;> iassumption

set_option maxHeartbeats 400000 in
theorem run_part7 (v584 : IVec S8x2048 32) (v734 : BitVec 32) (v753 : Elt F .i32) (v761 : FVec F S8x128 .bf16) (k : Fin (k0_t4_loop v753).trips) (m : FVec F S8x128 .f32) {w h i j : ℕ} (hw13 : k0_chk13 (BitVec.ofNat 32 (w % 12)) (BitVec.ofNat 32 h)) (v946 : Elt F .i32) (hw12 : k0_chk12 v753 k (BitVec.ofNat 32 (w % 12)) v946) (v948 : BitVec 32) (v949 : BitVec 32)
    (arg25 : BitVec 32) (ha : arg25 = Scf.iv 0#32 1#32 k.val) (hv : v946 = lw arg0 f0 (j / 10)) (hi : k.val < ncN (hl arg0 f0 j)) (hp : pos (hl arg0 f0) (w + 12) = (h, i)) (hw : w < 2 ^ 20)
    (Sv : ℕ → S8x2048.Idx → F .f32) (Mv : ℕ → FVec F S8x128 .f32)
    (hK : P → ∀ (t : Fin (k0_t7_loop v753 k v946).trips) (kb : Vec F S1x2048x128 .bf16), (∀ (z : S1x2048x128.Idx) (x : SX.Idx), (x 0).val = j → (x 1).val = 2048 * (2 * k.val + t.val) + (z 1).val → (x 1).val < lenN v946 → (x 2).val = (z 2).val → kb z = arg5.view.read (Elt F) fK x) →
      Gen.k0_pay5 v584 v734 v753 v761 k (Scf.iv 0#32 1#32 k.val) v946 0#32 1#32 t kb = Sv (2 * k.val + t.val)
        ∧ Gen.k0_pay13 (Gen.k0_pay5 v584 v734 v753 v761 k (Scf.iv 0#32 1#32 k.val) v946 0#32 1#32 t kb) (Gen.k0_pay7 v584 v734 v753 v761 k (Scf.iv 0#32 1#32 k.val) v946 0#32 1#32 t (Mv (2 * k.val + t.val)) kb) = Mv (2 * k.val + t.val + 1)) :
    iprop(⌜P → m = Mv (2 * k.val)⌝ ∗ (arg0.view.loc (c : Thread nD τ) ↦[arg0.view.set]{q} f0) ∗ SlotAt P c arg11 arg5 fK (hl arg0 f0 j - 4096 * k.val) (w % 12) j k.val ∗ SlotRest c arg5 (semOf arg16) fK (w % 12)
        ∗ (Free (c : Thread nD τ) arg11 arg5 (semOf arg16) fK (w % 12) -∗ RingK c arg0 arg5 arg11 arg16 f0 fK (w + 1) (w + 12)) ∗ ScoresAt P c arg13 Sv (2 * k.val))
      ⊢ wp Idealize.ShloMosaic.frame (wpE (defs₀ (F := F)) Variants.none (c : Thread nD τ) none) Set.univ
        (k0_part7 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k m (BitVec.ofNat 32 (w % 12)) (BitVec.ofNat 32 h) (BitVec.ofNat 32 i) hw13 arg25 v946 hw12 v948 v949)
        (fun r => iprop(⌜(P → r.1 = Mv (blk (hl arg0 f0 j) (k.val + 1))) ∧ r.2.1 = Scalar.addi (BitVec.ofNat 32 i) 1#32⌝ ∗ (arg0.view.loc (c : Thread nD τ) ↦[arg0.view.set]{q} f0) ∗ RingK c arg0 arg5 arg11 arg16 f0 fK (w + 1) (w + 13) ∗ ScoresAt P c arg13 Sv (blk (hl arg0 f0 j) (k.val + 1)))) := by
  subst ha
  have hs : w % 12 < 12 := Nat.mod_lt _ (by omega)
  obtain ⟨hb, hi', hc⟩ := pos_bounds c arg0 f0 hp
  have hL : lenN v946 = hl arg0 f0 j := by rw [hv]; rfl
  have hi2 : k.val < ncN (lenN v946) := by rw [hL]; exact hi
  have hn : 2 * k.val + (k0_t7_loop v753 k v946).trips = blk (hl arg0 f0 j) (k.val + 1) := by
    rw [t7_trips k hi2, hL]; rfl
  by_cases hh : h < 20
  · have hcond : k0_cond4 (BitVec.ofNat 32 h) = 1#1 := (cond4_iff (h := h) (by omega)).mpr hh
    rw [show min h 19 = h by omega] at hi'
    have h2 : ∀ v, v = lw arg0 f0 (h / 10) → k0_chk14 (BitVec.ofNat 32 (w % 12)) (BitVec.ofNat 32 h) (BitVec.ofNat 32 i) v := by
      rintro v rfl; exact chk14 hs hh hi'
    have e1 : ∀ v, v = lw arg0 f0 (h / 10) → k0_off29 (BitVec.ofNat 32 (w % 12)) (BitVec.ofNat 32 i) v = slotRect (w % 12) (rowsN (hl arg0 f0 h) i) := by
      rintro v rfl; exact off29_eq hs hi'
    have e2 : ∀ v, v = lw arg0 f0 (h / 10) → k0_off30 (BitVec.ofNat 32 h) (BitVec.ofNat 32 i) v = rowRect h i (rowsN (hl arg0 f0 h) i) := by
      rintro v rfl; exact off30_eq hh hi'
    have e3 : ∀ v, v = lw arg0 f0 (h / 10) → k0_sz7 (BitVec.ofNat 32 i) v = ![rowsN (hl arg0 f0 h) i, 128] := by
      rintro v rfl; exact sz7_eq hi'
    have hr := lw_read (b := h / 10) arg0 f0 (off27_eq hh) (by omega) (k0_off27_inb _ _ hw13 hcond)
    iintro ⟨%hm, H0, HB, HX, HR, HS⟩
    sl_unfold [k0_part7]
    iapply (Scf.wp_for_bind Idealize.ShloMosaic.frame (wpE (defs₀ (F := F)) Variants.none (c : Thread nD τ) none) Set.univ _ _ _ (k0_t7_ok v753 k (BitVec.ofNat 32 (w % 12)) v946 hw12) m
      (Gen.k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k m (BitVec.ofNat 32 (w % 12)) (BitVec.ofNat 32 h) (BitVec.ofNat 32 i) hw13 (Scf.iv 0#32 1#32 k.val) v946 hw12 v948 v949)
      (fun t acc => iprop(⌜P → acc = Mv (2 * k.val + t)⌝ ∗ SlotAt P c arg11 arg5 fK (lenN v946 - 4096 * k.val) (w % 12) j k.val ∗ ScoresAt P c arg13 Sv (2 * k.val + t)))
      (fun t acc => trip_t7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P v584 v734 v753 v761 k m hs (BitVec.ofNat 32 h) (BitVec.ofNat 32 i) hw13 (Scf.iv 0#32 1#32 k.val) v946 hw12 v948 v949 hi2 t Sv Mv acc (fun hP => hK hP t))) $$ [HB HS]
    · isplitr; · ipureintro; exact hm
      rw [hL]
      isplitl [HB] <;> iassumption
    iintro %acc ⟨%hm', HB, HS⟩
    sl_exec
    ihave HF := (here_close P c arg11 arg5 (semOf arg16) (s := w % 12) (h := j) (i := k.val)) $$ [HB HX]
    · isplitl [HB] <;> iassumption
    ihave HR := HR $$ HF
    ihave HR := (ring_issue (c : Thread nD τ) arg11 arg5 (semOf arg16) (hl arg0 f0) fK (w := w + 1) (iss := w + 12) (by omega) (by omega)) $$ HR
    icases HR with ⟨HF, HR⟩
    ihave HF := (show (Free (c : Thread nD τ) arg11 arg5 (semOf arg16) fK ((w + 12) % 12) : sProp 𝕄) ⊢ Free (c : Thread nD τ) arg11 arg5 (semOf arg16) fK (w % 12) by rw [Nat.add_mod_right]) $$ HF
    iapply (wp_assume Variants.none (c : Thread nD τ) none Set.univ (h2 _ (hr _)))
    sl_exec
    iapply (wp_issue (c : Thread nD τ) arg11 arg5 (semOf arg16) (hl arg0 f0) fK Variants.none none (s := w % 12) (h := h)
      (i := i) (n := rowsN (hl arg0 f0 h) i) rfl ?_ ?_ ?_ (semOf_slice arg16 (off28_eq hs) hs _ _)) $$ HF
    · exact e1 _ (hr _)
    · exact e2 _ (hr _)
    · exact e3 _ (hr _)
    iintro HF
    sl_exec
    sl_step
    isplitr
    · ipureintro; exact ⟨fun hx => (hm' hx).trans (congrArg Mv hn), rfl⟩
    isplitl [H0]; · iexact H0
    isplitl [HR HF]
    · iapply HR
      ihave HF := (show (Coming (c : Thread nD τ) arg11 arg5 (semOf arg16) (hl arg0 f0) fK (w % 12) h i : sProp 𝕄) ⊢ Cell (c : Thread nD τ) arg11 arg5 (semOf arg16) (hl arg0 f0) fK (w + 12) (w + 12 + 1) ((w + 12) % 12) by
        unfold Cell; rw [hp, Nat.add_mod_right, if_pos ⟨Nat.lt_succ_self _, hh⟩]) $$ HF
      iexact HF
    ihave HS := (scores_cast P c arg13 Sv hn) $$ HS
    iexact HS
  · have hcond : ¬ k0_cond4 (BitVec.ofNat 32 h) = 1#1 := (cond4_iff (h := h) (by omega)).not.mpr hh
    iintro ⟨%hm, H0, HB, HX, HR, HS⟩
    sl_unfold [k0_part7]
    iapply (Scf.wp_for_bind Idealize.ShloMosaic.frame (wpE (defs₀ (F := F)) Variants.none (c : Thread nD τ) none) Set.univ _ _ _ (k0_t7_ok v753 k (BitVec.ofNat 32 (w % 12)) v946 hw12) m
      (Gen.k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 v734 v753 v761 k m (BitVec.ofNat 32 (w % 12)) (BitVec.ofNat 32 h) (BitVec.ofNat 32 i) hw13 (Scf.iv 0#32 1#32 k.val) v946 hw12 v948 v949)
      (fun t acc => iprop(⌜P → acc = Mv (2 * k.val + t)⌝ ∗ SlotAt P c arg11 arg5 fK (lenN v946 - 4096 * k.val) (w % 12) j k.val ∗ ScoresAt P c arg13 Sv (2 * k.val + t)))
      (fun t acc => trip_t7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P v584 v734 v753 v761 k m hs (BitVec.ofNat 32 h) (BitVec.ofNat 32 i) hw13 (Scf.iv 0#32 1#32 k.val) v946 hw12 v948 v949 hi2 t Sv Mv acc (fun hP => hK hP t))) $$ [HB HS]
    · isplitr; · ipureintro; exact hm
      rw [hL]
      isplitl [HB] <;> iassumption
    iintro %acc ⟨%hm', HB, HS⟩
    sl_exec
    sl_step
    ihave HF := (here_close P c arg11 arg5 (semOf arg16) (s := w % 12) (h := j) (i := k.val)) $$ [HB HX]
    · isplitl [HB] <;> iassumption
    ihave HR := HR $$ HF
    ihave HR := (ring_issue (c : Thread nD τ) arg11 arg5 (semOf arg16) (hl arg0 f0) fK (w := w + 1) (iss := w + 12) (by omega) (by omega)) $$ HR
    icases HR with ⟨HF, HR⟩
    ihave HF := (show (Free (c : Thread nD τ) arg11 arg5 (semOf arg16) fK ((w + 12) % 12) : sProp 𝕄) ⊢ Free (c : Thread nD τ) arg11 arg5 (semOf arg16) fK (w % 12) by rw [Nat.add_mod_right]) $$ HF
    isplitr
    · ipureintro; exact ⟨fun hx => (hm' hx).trans (congrArg Mv hn), rfl⟩
    isplitl [H0]; · iexact H0
    isplitl [HR HF]
    · iapply HR
      ihave HF := (show (Free (c : Thread nD τ) arg11 arg5 (semOf arg16) fK (w % 12) : sProp 𝕄) ⊢ Cell (c : Thread nD τ) arg11 arg5 (semOf arg16) (hl arg0 f0) fK (w + 12) (w + 12 + 1) ((w + 12) % 12) by
        unfold Cell; rw [hp, Nat.add_mod_right, if_neg fun hx => hh hx.2]) $$ HF
      iexact HF
    ihave HS := (scores_cast P c arg13 Sv hn) $$ HS
    iexact HS

end
end Cert.Proof.Kernel
-- ==== Proof.VParts.lean ====
/- A chunk of values: the wait for its copy, its blocks' weighted sums, the next copy. -/
module

public import proofs.«01_k».proof.Proof.VSites
public import proofs.«01_k».proof.Proof.KParts
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a block of values does to the two accumulators: from what they are
after `n` blocks to what they are after `n + 1`, whatever block of scores and
whatever block of value rows agree with the recorded scores and with the HBM
array below the length. -/
def BlockStep (P : Prop) (c : Dev nD) (X : Memref sig .tc .hbm SX .fp8e4m3) (fX : Buf (Elt F) (X.view.loc (c : Thread nD τ))) (v802 : FVec F S8x1 .f32) (Sv : ℕ → S8x2048.Idx → F .f32) (Wv : ℕ → FVec F S8x128 .f32 × FVec F S8x128 .f32) (h L n : ℕ) : Prop :=
  P → ∀ (sb : Vec F S1x8x2048 .f32) (vb : Vec F S1x2048x128 .fp8e4m3),
    (∀ (z : S1x8x2048.Idx) (y : S8x2048.Idx), (z 1).val = (y 0).val → (z 2).val = (y 1).val → sb z = Sv n y) →
    (∀ (z : S1x2048x128.Idx) (x : SX.Idx), (x 0).val = h → (x 1).val = 2048 * n + (z 1).val → (x 1).val < L → (x 2).val = (z 2).val → vb z = X.view.read (Elt F) fX x) →
    (Gen.k0_pay27 v802 (Wv n).1 sb, Gen.k0_pay40 (Wv n).2 (Gen.k0_pay28 v802 sb) (Gen.k0_pay29 vb) (Gen.k0_pay30 v802 sb) (Gen.k0_pay31 v802 sb)) = Wv (n + 1)

/-- A block of scores read back is what was stored. -/
theorem scores_read (c : Dev nD) (M : Memref sig .tc .vmem S32x8x2048 .f32) (Sv : ℕ → S8x2048.Idx → F .f32) {n N : ℕ} {o : Fin 3 → ℕ} (ho : o = ![n, 0, 0]) (hn : n < N)
    (hinb : ∀ x, o x + S1x8x2048.size x ≤ S32x8x2048.size x) {f : Buf (Elt F) (M.view.loc (c : Thread nD τ))}
    (hf : ∀ (z : S32x8x2048.Idx) (y : S8x2048.Idx), (z 0).val < N → (z 1).val = (y 0).val → (z 2).val = (y 1).val → M.view.read (Elt F) f z = Sv (z 0).val y)
    (z : (Rect.unit (s := S32x8x2048) o S1x8x2048.size hinb).shape.Idx) (y : S8x2048.Idx) (z1 : (z 1).val = (y 0).val) (z2 : (z 2).val = (y 1).val) :
    M.view.readAt (Elt F) (Rect.unit (s := S32x8x2048) o S1x8x2048.size hinb).toLoadRect f z = Sv n y := by
  subst ho
  have z0 : (z 0).val < 1 := (z 0).isLt
  have e0 : (((Rect.unit (s := S32x8x2048) ![n, 0, 0] S1x8x2048.size hinb).emb z) 0).val = n := by
    show n + 1 * (z 0).val = n
    omega
  refine (hf ((Rect.unit (s := S32x8x2048) ![n, 0, 0] S1x8x2048.size hinb).emb z) y (by omega) ?_ ?_).trans (by rw [e0])
  · show 0 + 1 * (z 1).val = _; omega
  · show 0 + 1 * (z 2).val = _; omega

theorem blk_lt {L i b : ℕ} (hi : i < ncN L) (hb : b < blocksN (rowsN L i)) : 2 * i + b < blk L (ncN L) := by
  obtain ⟨j, hj⟩ : ∃ j, ncN L = j + 1 := ⟨ncN L - 1, by omega⟩
  rw [hj]
  show _ < 2 * j + blocksN (rowsN L j)
  rcases Nat.lt_or_ge i j with h | h
  · have := rowsN_le L i
    have := rowsN_pos L j
    unfold blocksN at *
    omega
  · obtain rfl : i = j := by omega
    omega

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fV : Buf (Elt F) (arg6.view.loc (c : Thread nD τ)))
variable (P : Prop)

variable (q : PosShare TreeShare) (f0 : Buf (Elt F) (arg0.view.loc (c : Thread nD τ)))

theorem trip_t15 (t3 : Fin k0_t3_loop.trips) (arg18 : BitVec 32) (v753 : Elt F .i32) (k : Fin (k0_t14_loop v753).trips) {s h m : ℕ} (hs : s < 12) (arg25 : BitVec 32) (v891 : Elt F .i32) (v901 : BitVec 32) (c10 : BitVec 32) (v902 : BitVec 32) (v907 : BitVec 32) (v909 : BitVec 32) (c0 : BitVec 32) (v920 : Elt F .i32)
    (hw27 : k0_chk27 v753 k (BitVec.ofNat 32 s) v891 v920) (h7 : k0_cond7 v753 k v920 = 1#1) (hi : k.val < ncN (lenN v891)) (hm : m ≤ rowsN (lenN v891) k.val) (t : Fin (k0_t15_loop v753 k v891).trips) :
    SlotAt P c arg12 arg6 fV m s h k.val
      ⊢ wp Idealize.ShloMosaic.frame (wpE (defs₀ (F := F)) Variants.none (c : Thread nD τ) none) Set.univ
        (Gen.k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0 v920 hw27 h7 t ())
        (fun _ => SlotAt P c arg12 arg6 fV m s h k.val) := by
  have ho := off58_eq k hi hs t
  have hr := rowsN_dvd (lenN v891) k.val
  unfold Gen.k0_t15_body SlotAt
  iintro ⟨%f, H, %hf⟩
  iapply (wp_load Variants.none (c : Thread nD τ) none Set.univ (S := slotSet (c : Thread nD τ) arg12 s) ?_) $$ H
  · exact slot_sub (n := 32) (c : Thread nD τ) arg12 ho _
  iintro H
  iapply (wp_store Variants.none (c : Thread nD τ) none Set.univ (m := arg12) (r := Rect.unit (s := S12x4096x128) (k0_off58 v753 k (BitVec.ofNat 32 s) v891 t) S1x32x128.size (k0_off58_inb v753 k (BitVec.ofNat 32 s) v891 v920 hw27 t h7)) (S := slotSet (c : Thread nD τ) arg12 s) ?_) $$ H
  · exact slot_sub_store (n := 32) (c : Thread nD τ) arg12 ho _
  iintro H
  simp only [Prog.bind, Prog.pure_eq_ret]
  sl_step
  iexists _
  isplitl [H]; · iexact H
  ipureintro
  intro hP
  refine holds_store (n := 32) (c : Thread nD τ) arg12 arg6 fV ho _ (hf hP) _ fun z hz => ?_
  exfalso
  omega

theorem trip_t17 (v753 : Elt F .i32) (v802 : FVec F S8x1 .f32) (k : Fin (k0_t14_loop v753).trips) (arg26 arg27 : FVec F S8x128 .f32) {s h N : ℕ} (hs : s < 12) (arg29 : BitVec 32) (arg30 : BitVec 32) (hw29 : k0_chk29 (BitVec.ofNat 32 s) arg29) (arg25 : BitVec 32) (v946 : Elt F .i32) (hw28 : k0_chk28 v753 k (BitVec.ofNat 32 s) v946) (v948 : BitVec 32) (v949 : BitVec 32)
    (hi : k.val < ncN (lenN v946)) (t : Fin (k0_t17_loop v753 k v946).trips) (hN : 2 * k.val + t.val < N) (Sv : ℕ → S8x2048.Idx → F .f32) (Wv : ℕ → FVec F S8x128 .f32 × FVec F S8x128 .f32) (acc : FVec F S8x128 .f32 × FVec F S8x128 .f32)
    (hV : BlockStep P c arg6 fV v802 Sv Wv h (lenN v946) (2 * k.val + t.val)) :
    iprop(⌜P → acc = Wv (2 * k.val + t.val)⌝ ∗ SlotAt P c arg12 arg6 fV (lenN v946 - 4096 * k.val) s h k.val ∗ ScoresAt P c arg13 Sv N)
      ⊢ wp Idealize.ShloMosaic.frame (wpE (defs₀ (F := F)) Variants.none (c : Thread nD τ) none) Set.univ
        (Gen.k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k arg26 arg27 (BitVec.ofNat 32 s) arg29 arg30 hw29 arg25 v946 hw28 v948 v949 t acc)
        (fun r => iprop(⌜P → r = Wv (2 * k.val + (t.val + 1))⌝ ∗ SlotAt P c arg12 arg6 fV (lenN v946 - 4096 * k.val) s h k.val ∗ ScoresAt P c arg13 Sv N)) := by
  have ho := off62_eq k hi hs t
  have ho' := off61_eq k hi t
  obtain ⟨a1, a2⟩ := acc
  unfold Gen.k0_t17_body SlotAt ScoresAt
  iintro ⟨%hacc, ⟨%f, H, %hf⟩, ⟨%fS, HS, %hfS⟩⟩
  sl_unfold [k0_part15]
  iapply (wp_load Variants.none (c : Thread nD τ) none Set.univ (View.setOn_subset_set _ _)) $$ HS
  iintro HS
  iapply (wp_load Variants.none (c : Thread nD τ) none Set.univ (S := slotSet (c : Thread nD τ) arg12 s) ?_) $$ H
  · exact slot_sub (n := 2048) (c : Thread nD τ) arg12 ho _
  iintro H
  simp only [Prog.bind, Prog.pure_eq_ret]
  have hres := fun hP => hV hP (View.readAt (Elt F) arg13.view (Rect.unit (s := S32x8x2048) (k0_off61 v753 k v946 t) S1x8x2048.size (k0_off61_inb v753 k (BitVec.ofNat 32 s) v946 hw28 t)).toLoadRect fS)
    (View.readAt (Elt F) arg12.view (Rect.unit (s := S12x4096x128) (k0_off62 v753 k (BitVec.ofNat 32 s) v946 t) S1x2048x128.size (k0_off62_inb v753 k (BitVec.ofNat 32 s) v946 hw28 t)).toLoadRect f)
    (fun z y z1 z2 => scores_read c arg13 Sv ho' hN _ (hfS hP) z y z1 z2)
    (fun z x x0 x1 x1' x2 => block_read (n := 2048) c arg12 arg6 (hf hP) ho _ z x x0 (by omega) (by omega) x2)
  sl_step
  isplitr
  · ipureintro
    intro hP
    have hres := hres hP
    rw [← hacc hP] at hres
    exact hres
  isplitl [H]
  · iexists f
    isplitl [H]; · iexact H
    ipureintro; exact hf
  iexists _
  isplitl [HS]; · iexact HS
  ipureintro
  exact hfS

attribute [local irreducible] SlotAt SlotRest ScoresAt BlockStep

set_option maxHeartbeats 400000 in
theorem run_part19 (t3 : Fin k0_t3_loop.trips) (arg18 : BitVec 32) (v753 : Elt F .i32) (k : Fin (k0_t14_loop v753).trips) {s : ℕ} (hs : s < 12) (v891 : Elt F .i32) (v901 : BitVec 32) (c10 : BitVec 32) (v902 : BitVec 32) (v907 : BitVec 32) (v909 : BitVec 32) (c0 : BitVec 32)
    (arg25 : BitVec 32) (ha : arg25 = Scf.iv 0#32 1#32 k.val) (hv : v891 = lw arg0 f0 (t3.val / 10)) (hi : k.val < ncN (hl arg0 f0 t3.val)) :
    iprop((arg0.view.loc (c : Thread nD τ) ↦[arg0.view.set]{q} f0) ∗ SlotAt P c arg12 arg6 fV (hl arg0 f0 t3.val - 4096 * k.val) s t3.val k.val)
      ⊢ wp Idealize.ShloMosaic.frame (wpE (defs₀ (F := F)) Variants.none (c : Thread nD τ) none) Set.univ
        (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) arg25 v891 v901 c10 v902 v907 v909 c0)
        (fun r => iprop(⌜r.1 = lw arg0 f0 (t3.val / 10)⌝ ∗ (arg0.view.loc (c : Thread nD τ) ↦[arg0.view.set]{q} f0) ∗ SlotAt P c arg12 arg6 fV (hl arg0 f0 t3.val - 4096 * k.val) s t3.val k.val)) := by
  subst ha
  have ht3 : t3.val < 20 := t3.isLt
  have hi' : k.val < ncN (lenN v891) := by rw [hv]; exact hi
  have h11 : ∀ v', k0_chk27 v753 k (BitVec.ofNat 32 s) v891 v' := chk27 k hi' hs
  have h12 : ∀ v, v = lw arg0 f0 (t3.val / 10) → k0_chk28 v753 k (BitVec.ofNat 32 s) v := by
    rintro v rfl
    exact chk28 k hi hs
  have hr11 := lw_read (b := t3.val / 10) arg0 f0 (off57_eq t3) (by omega) (Gen.k0_off57_inb t3)
  have hr12 := lw_read (b := t3.val / 10) arg0 f0 (off60_eq t3) (by omega) (Gen.k0_off60_inb t3)
  have hL1 : hl arg0 f0 t3.val ≤ 65536 := hl_le arg0 f0 _
  have hL4 : hl arg0 f0 t3.val = lenN v891 := by rw [hv]; rfl
  by_cases hL : hl arg0 f0 t3.val < 4096 * k.val + 4096
  · have hm : hl arg0 f0 t3.val - 4096 * k.val ≤ rowsN (lenN v891) k.val := by rw [← hL4]; unfold rowsN; omega
    have h3 : ∀ v, v = lw arg0 f0 (t3.val / 10) → k0_cond7 v753 k v = 1#1 := by
      rintro v rfl
      exact (cond7_iff k hi).mpr hL
    iintro ⟨H0, HB⟩
    sl_exec
    have h3' : k0_cond7 v753 k (run_part19.sl.r c arg0 f0 t3) = 1#1 := h3 _ (hr11 _)
    set_option sl_exec.maxSteps 1 in sl_exec
    iapply (Scf.wp_for_bind Idealize.ShloMosaic.frame (wpE (defs₀ (F := F)) Variants.none (c : Thread nD τ) none) Set.univ _ _ _ (k0_t15_ok v753 k (BitVec.ofNat 32 s) v891 (run_part19.sl.r c arg0 f0 t3) (h11 _) h3') ()
      (Gen.k0_t15_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part19.sl.r c arg0 f0 t3) (h11 _) h3')
      (fun _ _ => SlotAt P c arg12 arg6 fV (hl arg0 f0 t3.val - 4096 * k.val) s t3.val k.val)
      (fun t _ => trip_t15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P t3 arg18 v753 k (h := t3.val) hs (Scf.iv 0#32 1#32 k.val) v891 v901 c10 v902 v907 v909 c0 (run_part19.sl.r c arg0 f0 t3) (h11 _) h3' hi' hm t)) $$ HB
    iintro %_ HB
    iapply (Scf.wp_for_bind Idealize.ShloMosaic.frame (wpE (defs₀ (F := F)) Variants.none (c : Thread nD τ) none) Set.univ _ _ _ (k0_t16_ok v753 k (BitVec.ofNat 32 s) v891 (run_part19.sl.r c arg0 f0 t3) (h11 _) h3') ()
      (Gen.k0_t16_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg18 v753 k (BitVec.ofNat 32 s) (Scf.iv 0#32 1#32 k.val) v891 v901 c10 v902 v907 v909 c0 (run_part19.sl.r c arg0 f0 t3) (h11 _) h3')
      (fun _ _ => SlotAt P c arg12 arg6 fV (hl arg0 f0 t3.val - 4096 * k.val) s t3.val k.val)
      (fun t _ => (Scf.rem_no_trip _ _ t).elim)) $$ HB
    iintro %_ HB
    sl_exec
    iapply (wp_assume Variants.none (c : Thread nD τ) none Set.univ (h12 _ (hr12 _)))
    sl_exec
    sl_step
    isplitr; · ipureintro; exact hr12 _
    isplitl [H0] <;> iassumption
  · have h3 : ∀ v, v = lw arg0 f0 (t3.val / 10) → ¬ k0_cond7 v753 k v = 1#1 := by
      rintro v rfl
      exact fun hx => hL ((cond7_iff k hi).mp hx)
    iintro ⟨H0, HB⟩
    sl_exec
    have h3' : ¬ k0_cond7 v753 k (run_part19.sl.r_1 c arg0 f0 t3) = 1#1 := h3 _ (hr11 _)
    sl_exec
    iapply (wp_assume Variants.none (c : Thread nD τ) none Set.univ (h12 _ (hr12 _)))
    sl_exec
    sl_step
    isplitr; · ipureintro; exact hr12 _
    isplitl [H0] <;> iassumption

set_option maxHeartbeats 400000 in
theorem run_part20 (v753 : Elt F .i32) (v802 : FVec F S8x1 .f32) (k : Fin (k0_t14_loop v753).trips) (a1 a2 : FVec F S8x128 .f32) {w h i j : ℕ} (hw29 : k0_chk29 (BitVec.ofNat 32 (w % 12)) (BitVec.ofNat 32 h)) (v946 : Elt F .i32) (hw28 : k0_chk28 v753 k (BitVec.ofNat 32 (w % 12)) v946) (v948 : BitVec 32) (v949 : BitVec 32)
    (arg25 : BitVec 32) (ha : arg25 = Scf.iv 0#32 1#32 k.val) (hv : v946 = lw arg0 f0 (j / 10)) (hi : k.val < ncN (hl arg0 f0 j)) (hp : pos (hl arg0 f0) (w + 12) = (h, i)) (hw : w < 2 ^ 20)
    (Sv : ℕ → S8x2048.Idx → F .f32) (Wv : ℕ → FVec F S8x128 .f32 × FVec F S8x128 .f32)
    (hV : ∀ n, BlockStep P c arg6 fV v802 Sv Wv j (hl arg0 f0 j) n) :
    iprop(⌜P → (a1, a2) = Wv (2 * k.val)⌝ ∗ (arg0.view.loc (c : Thread nD τ) ↦[arg0.view.set]{q} f0) ∗ SlotAt P c arg12 arg6 fV (hl arg0 f0 j - 4096 * k.val) (w % 12) j k.val ∗ SlotRest c arg6 (semOf arg17) fV (w % 12)
        ∗ (Free (c : Thread nD τ) arg12 arg6 (semOf arg17) fV (w % 12) -∗ RingV c arg0 arg6 arg12 arg17 f0 fV (w + 1) (w + 12)) ∗ ScoresAt P c arg13 Sv (blk (hl arg0 f0 j) (ncN (hl arg0 f0 j))))
      ⊢ wp Idealize.ShloMosaic.frame (wpE (defs₀ (F := F)) Variants.none (c : Thread nD τ) none) Set.univ
        (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k a1 a2 (BitVec.ofNat 32 (w % 12)) (BitVec.ofNat 32 h) (BitVec.ofNat 32 i) hw29 arg25 v946 hw28 v948 v949)
        (fun r => iprop(⌜(P → (r.1, r.2.1) = Wv (blk (hl arg0 f0 j) (k.val + 1))) ∧ r.2.2.1 = Scalar.addi (BitVec.ofNat 32 i) 1#32⌝ ∗ (arg0.view.loc (c : Thread nD τ) ↦[arg0.view.set]{q} f0) ∗ RingV c arg0 arg6 arg12 arg17 f0 fV (w + 1) (w + 13) ∗ ScoresAt P c arg13 Sv (blk (hl arg0 f0 j) (ncN (hl arg0 f0 j))))) := by
  subst ha
  have hs : w % 12 < 12 := Nat.mod_lt _ (by omega)
  obtain ⟨hb, hi', hc⟩ := pos_bounds c arg0 f0 hp
  have hL : lenN v946 = hl arg0 f0 j := by rw [hv]; rfl
  have hi2 : k.val < ncN (lenN v946) := by rw [hL]; exact hi
  have hn : 2 * k.val + (k0_t17_loop v753 k v946).trips = blk (hl arg0 f0 j) (k.val + 1) := by
    rw [t17_trips k hi2, hL]; rfl
  have hNt : ∀ t : Fin (k0_t17_loop v753 k v946).trips, 2 * k.val + t.val < blk (hl arg0 f0 j) (ncN (hl arg0 f0 j)) := fun t =>
    blk_lt hi (by have h := lt_of_lt_of_eq t.isLt (t17_trips k hi2); rw [hL] at h; exact h)
  rw [← hL] at hV
  by_cases hh : h < 20
  · have hcond : k0_cond8 (BitVec.ofNat 32 h) = 1#1 := (cond8_iff (h := h) (by omega)).mpr hh
    rw [show min h 19 = h by omega] at hi'
    have h2 : ∀ v, v = lw arg0 f0 (h / 10) → k0_chk30 (BitVec.ofNat 32 (w % 12)) (BitVec.ofNat 32 h) (BitVec.ofNat 32 i) v := by
      rintro v rfl; exact chk30 hs hh hi'
    have e1 : ∀ v, v = lw arg0 f0 (h / 10) → k0_off67 (BitVec.ofNat 32 (w % 12)) (BitVec.ofNat 32 i) v = slotRect (w % 12) (rowsN (hl arg0 f0 h) i) := by
      rintro v rfl; exact off67_eq hs hi'
    have e2 : ∀ v, v = lw arg0 f0 (h / 10) → k0_off68 (BitVec.ofNat 32 h) (BitVec.ofNat 32 i) v = rowRect h i (rowsN (hl arg0 f0 h) i) := by
      rintro v rfl; exact off68_eq hh hi'
    have e3 : ∀ v, v = lw arg0 f0 (h / 10) → k0_sz15 (BitVec.ofNat 32 i) v = ![rowsN (hl arg0 f0 h) i, 128] := by
      rintro v rfl; exact sz15_eq hi'
    have hr := lw_read (b := h / 10) arg0 f0 (off65_eq hh) (by omega) (k0_off65_inb _ _ hw29 hcond)
    iintro ⟨%hm, H0, HB, HX, HR, HS⟩
    sl_unfold [k0_part20]
    iapply (Scf.wp_for_bind Idealize.ShloMosaic.frame (wpE (defs₀ (F := F)) Variants.none (c : Thread nD τ) none) Set.univ _ _ _ (k0_t17_ok v753 k (BitVec.ofNat 32 (w % 12)) v946 hw28) (a1, a2)
      (Gen.k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k a1 a2 (BitVec.ofNat 32 (w % 12)) (BitVec.ofNat 32 h) (BitVec.ofNat 32 i) hw29 (Scf.iv 0#32 1#32 k.val) v946 hw28 v948 v949)
      (fun t acc => iprop(⌜P → acc = Wv (2 * k.val + t)⌝ ∗ SlotAt P c arg12 arg6 fV (lenN v946 - 4096 * k.val) (w % 12) j k.val ∗ ScoresAt P c arg13 Sv (blk (hl arg0 f0 j) (ncN (hl arg0 f0 j)))))
      (fun t acc => trip_t17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P v753 v802 k a1 a2 hs (BitVec.ofNat 32 h) (BitVec.ofNat 32 i) hw29 (Scf.iv 0#32 1#32 k.val) v946 hw28 v948 v949 hi2 t (hNt t) Sv Wv acc (hV _))) $$ [HB HS]
    · isplitr; · ipureintro; exact hm
      rw [hL]
      isplitl [HB] <;> iassumption
    iintro %acc ⟨%hm', HB, HS⟩
    obtain ⟨b1, b2⟩ := acc
    sl_exec
    ihave HF := (here_close P c arg12 arg6 (semOf arg17) (s := w % 12) (h := j) (i := k.val)) $$ [HB HX]
    · isplitl [HB] <;> iassumption
    ihave HR := HR $$ HF
    ihave HR := (ring_issue (c : Thread nD τ) arg12 arg6 (semOf arg17) (hl arg0 f0) fV (w := w + 1) (iss := w + 12) (by omega) (by omega)) $$ HR
    icases HR with ⟨HF, HR⟩
    ihave HF := (show (Free (c : Thread nD τ) arg12 arg6 (semOf arg17) fV ((w + 12) % 12) : sProp 𝕄) ⊢ Free (c : Thread nD τ) arg12 arg6 (semOf arg17) fV (w % 12) by rw [Nat.add_mod_right]) $$ HF
    iapply (wp_assume Variants.none (c : Thread nD τ) none Set.univ (h2 _ (hr _)))
    sl_exec
    iapply (wp_issue (c : Thread nD τ) arg12 arg6 (semOf arg17) (hl arg0 f0) fV Variants.none none (s := w % 12) (h := h)
      (i := i) (n := rowsN (hl arg0 f0 h) i) rfl ?_ ?_ ?_ (semOf_slice arg17 (off66_eq hs) hs _ _)) $$ HF
    · exact e1 _ (hr _)
    · exact e2 _ (hr _)
    · exact e3 _ (hr _)
    iintro HF
    sl_exec
    sl_step
    isplitr
    · ipureintro; exact ⟨fun hx => (hm' hx).trans (congrArg Wv hn), rfl⟩
    isplitl [H0]; · iexact H0
    isplitl [HR HF]
    · iapply HR
      ihave HF := (show (Coming (c : Thread nD τ) arg12 arg6 (semOf arg17) (hl arg0 f0) fV (w % 12) h i : sProp 𝕄) ⊢ Cell (c : Thread nD τ) arg12 arg6 (semOf arg17) (hl arg0 f0) fV (w + 12) (w + 12 + 1) ((w + 12) % 12) by
        unfold Cell; rw [hp, Nat.add_mod_right, if_pos ⟨Nat.lt_succ_self _, hh⟩]) $$ HF
      iexact HF
    iexact HS
  · have hcond : ¬ k0_cond8 (BitVec.ofNat 32 h) = 1#1 := (cond8_iff (h := h) (by omega)).not.mpr hh
    iintro ⟨%hm, H0, HB, HX, HR, HS⟩
    sl_unfold [k0_part20]
    iapply (Scf.wp_for_bind Idealize.ShloMosaic.frame (wpE (defs₀ (F := F)) Variants.none (c : Thread nD τ) none) Set.univ _ _ _ (k0_t17_ok v753 k (BitVec.ofNat 32 (w % 12)) v946 hw28) (a1, a2)
      (Gen.k0_t17_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v753 v802 k a1 a2 (BitVec.ofNat 32 (w % 12)) (BitVec.ofNat 32 h) (BitVec.ofNat 32 i) hw29 (Scf.iv 0#32 1#32 k.val) v946 hw28 v948 v949)
      (fun t acc => iprop(⌜P → acc = Wv (2 * k.val + t)⌝ ∗ SlotAt P c arg12 arg6 fV (lenN v946 - 4096 * k.val) (w % 12) j k.val ∗ ScoresAt P c arg13 Sv (blk (hl arg0 f0 j) (ncN (hl arg0 f0 j)))))
      (fun t acc => trip_t17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P v753 v802 k a1 a2 hs (BitVec.ofNat 32 h) (BitVec.ofNat 32 i) hw29 (Scf.iv 0#32 1#32 k.val) v946 hw28 v948 v949 hi2 t (hNt t) Sv Wv acc (hV _))) $$ [HB HS]
    · isplitr; · ipureintro; exact hm
      rw [hL]
      isplitl [HB] <;> iassumption
    iintro %acc ⟨%hm', HB, HS⟩
    obtain ⟨b1, b2⟩ := acc
    sl_exec
    sl_step
    ihave HF := (here_close P c arg12 arg6 (semOf arg17) (s := w % 12) (h := j) (i := k.val)) $$ [HB HX]
    · isplitl [HB] <;> iassumption
    ihave HR := HR $$ HF
    ihave HR := (ring_issue (c : Thread nD τ) arg12 arg6 (semOf arg17) (hl arg0 f0) fV (w := w + 1) (iss := w + 12) (by omega) (by omega)) $$ HR
    icases HR with ⟨HF, HR⟩
    ihave HF := (show (Free (c : Thread nD τ) arg12 arg6 (semOf arg17) fV ((w + 12) % 12) : sProp 𝕄) ⊢ Free (c : Thread nD τ) arg12 arg6 (semOf arg17) fV (w % 12) by rw [Nat.add_mod_right]) $$ HF
    isplitr
    · ipureintro; exact ⟨fun hx => (hm' hx).trans (congrArg Wv hn), rfl⟩
    isplitl [H0]; · iexact H0
    isplitl [HR HF]
    · iapply HR
      ihave HF := (show (Free (c : Thread nD τ) arg12 arg6 (semOf arg17) fV (w % 12) : sProp 𝕄) ⊢ Cell (c : Thread nD τ) arg12 arg6 (semOf arg17) (hl arg0 f0) fV (w + 12) (w + 12 + 1) ((w + 12) % 12) by
        unfold Cell; rw [hp, Nat.add_mod_right, if_neg fun hx => hh hx.2]) $$ HF
      iexact HF
    iexact HS

end
end Cert.Proof.Kernel
-- ==== Proof.VChunk.lean ====
/- The loop over a head's chunks of values. -/
module

public import proofs.«01_k».proof.Proof.VParts
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fV : Buf (Elt F) (arg6.view.loc (c : Thread nD τ)))
variable (P : Prop)

variable (q : PosShare TreeShare) (f0 : Buf (Elt F) (arg0.view.loc (c : Thread nD τ)))

attribute [local irreducible] SlotAt SlotRest ScoresAt Decode.Ring BlockStep

/-- The blocks of scores of a head. -/
abbrev blks (L : ℕ) : ℕ := blk L (ncN L)

set_option maxHeartbeats 400000 in
theorem trip_t14 (t3 : Fin k0_t3_loop.trips) (arg20 : BitVec 32) (arg23 : BitVec 32) (arg24 : BitVec 32) (arg18 : BitVec 32) (v711 : BitVec 32) (v713 : BitVec 32) (v753 : Elt F .i32) (hw7 : k0_chk7 v753) (v758 : BitVec 32) (v761 : FVec F S8x128 .bf16) (v769 : FVec F S8x128 .f32) (v773 : FVec F S2x128 .f32) (c0 : BitVec 32)
    (k : Fin (k0_t14_loop v753).trips) (hv : v753 = lw arg0 f0 (t3.val / 10)) {w h i : ℕ} (hpw : pos (hl arg0 f0) w = (t3.val, k.val)) (hp : pos (hl arg0 f0) (w + 12) = (h, i)) (hw : w < 2 ^ 20) (a1 a2 : FVec F S8x128 .f32)
    (Sv : ℕ → S8x2048.Idx → F .f32) (Wv : ℕ → FVec F S8x128 .f32 × FVec F S8x128 .f32)
    (hV : ∀ n, BlockStep P c arg6 fV (Gen.k0_pay64 v711 v761 v769 v773 c0) Sv Wv t3.val (hl arg0 f0 t3.val) n) :
    iprop(⌜P → (a1, a2) = Wv (2 * k.val)⌝ ∗ (arg0.view.loc (c : Thread nD τ) ↦[arg0.view.set]{q} f0) ∗ RingV c arg0 arg6 arg12 arg17 f0 fV w (w + 12) ∗ (∃ W, owes (c : Thread nD τ) 0 W) ∗ ScoresAt P c arg13 Sv (blks (hl arg0 f0 t3.val)))
      ⊢ wp Idealize.ShloMosaic.frame (wpE (defs₀ (F := F)) Variants.none (c : Thread nD τ) none) Set.univ
        (Gen.k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg20 arg23 arg24 arg18 v711 v713 v753 hw7 v758 v761 v769 v773 c0 k (a1, a2, BitVec.ofNat 32 (w % 12), BitVec.ofNat 32 h, BitVec.ofNat 32 i))
        (fun r => iprop(⌜(P → (r.1, r.2.1) = Wv (blk (hl arg0 f0 t3.val) (k.val + 1))) ∧ r.2.2 = (BitVec.ofNat 32 ((w + 1) % 12), posW c arg0 f0 (w + 13))⌝ ∗ (arg0.view.loc (c : Thread nD τ) ↦[arg0.view.set]{q} f0) ∗ RingV c arg0 arg6 arg12 arg17 f0 fV (w + 1) (w + 13) ∗ (∃ W, owes (c : Thread nD τ) 0 W) ∗ ScoresAt P c arg13 Sv (blks (hl arg0 f0 t3.val)))) := by
  have hs : w % 12 < 12 := Nat.mod_lt _ (by omega)
  have hi : k.val < ncN (hl arg0 f0 t3.val) := by
    have e : ncN (lenN v753) = ncN (hl arg0 f0 t3.val) := by rw [hv]; rfl
    exact lt_of_lt_of_eq k.isLt ((nc_trips' v753).trans e)
  have ht3 : t3.val < 20 := t3.isLt
  obtain ⟨hb, hi', hc⟩ := pos_bounds c arg0 f0 hp
  unfold Gen.k0_t14_body
  iintro ⟨%hm, H0, HR, ⟨%W, HO⟩, HS⟩
  have h15 := chk31 (h := h) (i := i) (by omega)
  have h13 := chk29 (s := w % 12) (h := h) hs (by omega)
  have h9 := chk25 hs
  have h8 : ∀ v, v = lw arg0 f0 (t3.val / 10) → k0_chk24 t3 v753 k (BitVec.ofNat 32 (w % 12)) v := by
    rintro v rfl
    exact chk24 k hi t3 _
  have h10 : ∀ v, v = lw arg0 f0 (t3.val / 10) → k0_chk26 v753 k v := by
    rintro v rfl
    exact chk26 k hi
  have e5 : ∀ v, v = lw arg0 f0 (t3.val / 10) → k0_sz13 v753 k v = ![rowsN (hl arg0 f0 t3.val) k.val, 128] := by
    rintro v rfl
    exact sz13_eq k hi
  have hr8 := lw_read (b := t3.val / 10) arg0 f0 (off52_eq t3) (by omega) (Gen.k0_off52_inb t3)
  have hr10 := lw_read (b := t3.val / 10) arg0 f0 (off56_eq t3) (by omega) (Gen.k0_off56_inb t3)
  sl_exec
  iapply (wp_assume Variants.none (c : Thread nD τ) none Set.univ (h8 _ (hr8 _)))
  sl_exec
  ihave HR := (ring_wait (c : Thread nD τ) arg12 arg6 (semOf arg17) (hl arg0 f0) fV (w := w) (iss := w + 12) (by omega)) $$ HR
  icases HR with ⟨HC, HR⟩
  ihave HC := (cell_coming (c : Thread nD τ) arg12 arg6 (semOf arg17) (hl arg0 f0) fV hpw (show w < w + 12 by omega) ht3) $$ HC
  iapply (wp_landed (c : Thread nD τ) arg12 arg6 (semOf arg17) (hl arg0 f0) fV Variants.none none (s := w % 12) (h := t3.val) (i := k.val) ?_ ?_) $$ [HC HO]
  · exact congrArg (fun z => (arg12.view.ref).dmaCredit (⟨2, z⟩ : Shape) .fp8e4m3) (e5 _ (hr8 _))
  · exact semOf_slice arg17 (off53_eq hs) hs _ _
  · isplitl [HC] <;> iassumption
  iintro ⟨⟨%f, HF, %hf⟩, ⟨%W', HO⟩⟩
  sl_exec
  iapply (wp_assume Variants.none (c : Thread nD τ) none Set.univ (h10 _ (hr10 _)))
  ihave HF := (here_open P c arg12 arg6 (semOf arg17) (fun _ => holds_len (c : Thread nD τ) arg12 arg6 hf)) $$ HF
  icases HF with ⟨HB, HX⟩
  set_option sl_exec.stopBefore "k0_part19" in sl_exec
  have q1 : trip_t14.sl.r_1 c arg0 f0 t3 = lw arg0 f0 (t3.val / 10) := hr10 _
  have hcut := run_part19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 t3 arg18 v753 k hs (trip_t14.sl.r_1 c arg0 f0 t3) (trip_t14.sl.v900 c arg0 f0 t3 v753 k) 10#32 (trip_t14.sl.v902 arg18) (trip_t14.sl.v907 arg18) 1#32 0#32
    (trip_t14.sl.arg25 v753 k) rfl q1 hi
  set_option sl_exec.stopBefore "k0_part20" in sl_exec
  have hv946 : v946 = lw arg0 f0 (t3.val / 10) := hk0_part19_0
  have hcut := run_part20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 v753 (Gen.k0_pay64 v711 v761 v769 v773 c0) k a1 a2 (j := t3.val) h13 v946 k0_hw28 v948 v949 (trip_t14.sl.arg25 v753 k) rfl hv946 hi hp hw Sv Wv hV
  have hr31 := lw_read (b := min h 19 / 10) arg0 f0 (off69_eq (h := h) (by omega)) (by omega) (k0_off69_inb _ _ h13)
  sl_exec
  sl_step
  obtain ⟨q7, q8⟩ := hk0_part20_0
  have q8 : v969 = Scalar.addi (BitVec.ofNat 32 i) 1#32 := q8
  subst q8
  isplitr
  · ipureintro
    exact ⟨q7, Prod.ext (slotNext_eq w) (posW_succ c arg0 f0 hp _ (hr31 _))⟩
  isplitl [Hk0_part20_1]; · iexact Hk0_part20_1
  isplitl [Hk0_part20_2]; · iexact Hk0_part20_2
  isplitl [HO]
  · iexists _; iexact HO
  iexact Hk0_part20_3

/-- Between the trips of a head's chunk loop over the values, the head's first chunk being copy `w`. -/
abbrev InvT14 (t3 w : ℕ) (Sv : ℕ → S8x2048.Idx → F .f32) (Wv : ℕ → FVec F S8x128 .f32 × FVec F S8x128 .f32) (k : ℕ) (r : FVec F S8x128 .f32 × FVec F S8x128 .f32 × BitVec 32 × BitVec 32 × BitVec 32) : sProp 𝕄 :=
  iprop(⌜(P → (r.1, r.2.1) = Wv (blk (hl arg0 f0 t3) k)) ∧ r.2.2 = (BitVec.ofNat 32 ((w + k) % 12), posW c arg0 f0 (w + k + 12))⌝ ∗ (arg0.view.loc (c : Thread nD τ) ↦[arg0.view.set]{q} f0) ∗ RingV c arg0 arg6 arg12 arg17 f0 fV (w + k) (w + k + 12)
    ∗ (∃ W, owes (c : Thread nD τ) 0 W) ∗ ScoresAt P c arg13 Sv (blks (hl arg0 f0 t3)))

theorem step_t14 (t3 : Fin k0_t3_loop.trips) (arg20 : BitVec 32) (arg23 : BitVec 32) (arg24 : BitVec 32) (arg18 : BitVec 32) (v711 : BitVec 32) (v713 : BitVec 32) (v753 : Elt F .i32) (hw7 : k0_chk7 v753) (v758 : BitVec 32) (v761 : FVec F S8x128 .bf16) (v769 : FVec F S8x128 .f32) (v773 : FVec F S2x128 .f32) (c0 : BitVec 32)
    (hv : v753 = lw arg0 f0 (t3.val / 10)) {w : ℕ} (hpw : pos (hl arg0 f0) w = (t3.val, 0)) (hw : w < 2 ^ 10)
    (Sv : ℕ → S8x2048.Idx → F .f32) (Wv : ℕ → FVec F S8x128 .f32 × FVec F S8x128 .f32)
    (hV : ∀ n, BlockStep P c arg6 fV (Gen.k0_pay64 v711 v761 v769 v773 c0) Sv Wv t3.val (hl arg0 f0 t3.val) n) (k : Fin (k0_t14_loop v753).trips)
    (acc : FVec F S8x128 .f32 × FVec F S8x128 .f32 × BitVec 32 × BitVec 32 × BitVec 32) :
    InvT14 c arg0 arg6 arg12 arg13 arg17 fV P q f0 t3.val w Sv Wv k.val acc
      ⊢ wp Idealize.ShloMosaic.frame (wpE (defs₀ (F := F)) Variants.none (c : Thread nD τ) none) Set.univ
        (Gen.k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 arg20 arg23 arg24 arg18 v711 v713 v753 hw7 v758 v761 v769 v773 c0 k acc)
        (InvT14 c arg0 arg6 arg12 arg13 arg17 fV P q f0 t3.val w Sv Wv (k.val + 1)) := by
  have ht3 : t3.val < 20 := t3.isLt
  have hi : k.val < ncN (hl arg0 f0 t3.val) := by
    have e : ncN (lenN v753) = ncN (hl arg0 f0 t3.val) := by rw [hv]; rfl
    exact lt_of_lt_of_eq k.isLt ((nc_trips' v753).trans e)
  have hk16 : k.val < 16 := lt_of_lt_of_le hi (ncN_le (hl_le arg0 f0 _))
  have hpk := pos_chunk (hl arg0 f0) ht3 hpw hi
  have hp12 : pos (hl arg0 f0) (w + k.val + 12) = ((pos (hl arg0 f0) (w + k.val + 12)).1, (pos (hl arg0 f0) (w + k.val + 12)).2) := rfl
  obtain ⟨a1, a2, a⟩ := acc
  unfold InvT14
  rw [show w + (k.val + 1) + 12 = w + k.val + 13 by omega, ← Nat.add_assoc w k.val 1]
  iintro ⟨%hacc, H0, HR, HO, HS⟩
  obtain ⟨h1, h2⟩ := hacc
  have h2 : a = (BitVec.ofNat 32 ((w + k.val) % 12), posW c arg0 f0 (w + k.val + 12)) := h2
  subst h2
  iapply (trip_t14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 t3 arg20 arg23 arg24 arg18 v711 v713 v753 hw7 v758 v761 v769 v773 c0 k hv hpk (w := w + k.val) (h := (pos (hl arg0 f0) (w + k.val + 12)).1) (i := (pos (hl arg0 f0) (w + k.val + 12)).2) hp12 (by omega) a1 a2 Sv Wv hV)
  isplitr
  · ipureintro
    exact fun hx => (h1 hx).trans (congrArg Wv (blk_eq hi))
  isplitl [H0]; · iexact H0
  isplitl [HR]; · iexact HR
  isplitl [HO]; · iexact HO
  iexact HS

end
end Cert.Proof.Kernel
-- ==== Proof.KChunk.lean ====
/- The loop over a head's chunks of keys. -/
module

public import proofs.«01_k».proof.Proof.KParts
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))
variable (P : Prop)

variable (q : PosShare TreeShare) (f0 : Buf (Elt F) (arg0.view.loc (c : Thread nD τ)))
variable (hP : P → ∀ x : F .bf16, FloatOps.truncf (F := F) .bf16 Gen.bitsLt_bf16_f32 (FloatOps.extf (F := F) .f32 Gen.bitsLt_bf16_f32 x) = x)

attribute [local irreducible] SlotAt SlotRest ScoresAt Decode.Ring

set_option maxHeartbeats 400000 in
include hP in
theorem trip_t4 (v584 : IVec S8x2048 32) (t3 : Fin k0_t3_loop.trips) (arg19 : BitVec 32) (arg21 : BitVec 32) (arg22 : BitVec 32) (arg18 : BitVec 32) (v713 : BitVec 32) (v734 : BitVec 32) (c10 : BitVec 32) (v735 : BitVec 32) (v753 : Elt F .i32) (hw7 : k0_chk7 v753) (v760 : Vec F S1x8x128 .bf16)
    (k : Fin (k0_t4_loop v753).trips) (hv : v753 = lw arg0 f0 (t3.val / 10)) {w h i : ℕ} (hpw : pos (hl arg0 f0) w = (t3.val, k.val)) (hp : pos (hl arg0 f0) (w + 12) = (h, i)) (hw : w < 2 ^ 20) (m : FVec F S8x128 .f32)
    (Sv : ℕ → S8x2048.Idx → F .f32) (Mv : ℕ → FVec F S8x128 .f32)
    (hK : P → ∀ (v : Elt F .i32) (t : Fin (k0_t7_loop v753 k v).trips) (kb : Vec F S1x2048x128 .bf16), (∀ (z : S1x2048x128.Idx) (x : SX.Idx), (x 0).val = t3.val → (x 1).val = 2048 * (2 * k.val + t.val) + (z 1).val → (x 1).val < hl arg0 f0 t3.val → (x 2).val = (z 2).val → kb z = arg5.view.read (Elt F) fK x) →
      Gen.k0_pay5 v584 v734 v753 (Gen.k0_pay58 v760) k (Scf.iv 0#32 1#32 k.val) v 0#32 1#32 t kb = Sv (2 * k.val + t.val)
        ∧ Gen.k0_pay13 (Gen.k0_pay5 v584 v734 v753 (Gen.k0_pay58 v760) k (Scf.iv 0#32 1#32 k.val) v 0#32 1#32 t kb) (Gen.k0_pay7 v584 v734 v753 (Gen.k0_pay58 v760) k (Scf.iv 0#32 1#32 k.val) v 0#32 1#32 t (Mv (2 * k.val + t.val)) kb) = Mv (2 * k.val + t.val + 1)) :
    iprop(⌜P → m = Mv (2 * k.val)⌝ ∗ (arg0.view.loc (c : Thread nD τ) ↦[arg0.view.set]{q} f0) ∗ RingK c arg0 arg5 arg11 arg16 f0 fK w (w + 12) ∗ (∃ W, owes (c : Thread nD τ) 0 W) ∗ ScoresAt P c arg13 Sv (2 * k.val))
      ⊢ wp Idealize.ShloMosaic.frame (wpE (defs₀ (F := F)) Variants.none (c : Thread nD τ) none) Set.univ
        (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 arg19 arg21 arg22 arg18 v713 v734 c10 v735 v753 hw7 v760 k (m, BitVec.ofNat 32 (w % 12), BitVec.ofNat 32 h, BitVec.ofNat 32 i))
        (fun r => iprop(⌜(P → r.1 = Mv (blk (hl arg0 f0 t3.val) (k.val + 1))) ∧ r.2 = (BitVec.ofNat 32 ((w + 1) % 12), posW c arg0 f0 (w + 13))⌝ ∗ (arg0.view.loc (c : Thread nD τ) ↦[arg0.view.set]{q} f0) ∗ RingK c arg0 arg5 arg11 arg16 f0 fK (w + 1) (w + 13) ∗ (∃ W, owes (c : Thread nD τ) 0 W) ∗ ScoresAt P c arg13 Sv (blk (hl arg0 f0 t3.val) (k.val + 1)))) := by
  have hs : w % 12 < 12 := Nat.mod_lt _ (by omega)
  have hi : k.val < ncN (hl arg0 f0 t3.val) := by
    have e : ncN (lenN v753) = ncN (hl arg0 f0 t3.val) := by rw [hv]; rfl
    exact lt_of_lt_of_eq k.isLt ((nc_trips v753).trans e)
  have ht3 : t3.val < 20 := t3.isLt
  obtain ⟨hb, hi', hc⟩ := pos_bounds c arg0 f0 hp
  unfold Gen.k0_t4_body
  iintro ⟨%hm, H0, HR, ⟨%W, HO⟩, HS⟩
  have h15 := chk15 (h := h) (i := i) (by omega)
  have h13 := chk13 (s := w % 12) (h := h) hs (by omega)
  have h9 := chk9 hs
  have h8 : ∀ v, v = lw arg0 f0 (t3.val / 10) → k0_chk8 t3 v753 k (BitVec.ofNat 32 (w % 12)) v := by
    rintro v rfl
    exact chk8 k hi t3 (w % 12)
  have h10 : ∀ v, v = lw arg0 f0 (t3.val / 10) → k0_chk10 v753 k v := by
    rintro v rfl
    exact chk10 k hi
  have e5 : ∀ v, v = lw arg0 f0 (t3.val / 10) → k0_sz5 v753 k v = ![rowsN (hl arg0 f0 t3.val) k.val, 128] := by
    rintro v rfl
    exact sz5_eq k hi
  have hr8 := lw_read (b := t3.val / 10) arg0 f0 (off13_eq t3) (by omega) (Gen.k0_off13_inb t3)
  have hr10 := lw_read (b := t3.val / 10) arg0 f0 (off17_eq t3) (by omega) (Gen.k0_off17_inb t3)
  sl_exec
  iapply (wp_assume Variants.none (c : Thread nD τ) none Set.univ (h8 _ (hr8 _)))
  sl_exec
  ihave HR := (ring_wait (c : Thread nD τ) arg11 arg5 (semOf arg16) (hl arg0 f0) fK (w := w) (iss := w + 12) (by omega)) $$ HR
  icases HR with ⟨HC, HR⟩
  ihave HC := (cell_coming (c : Thread nD τ) arg11 arg5 (semOf arg16) (hl arg0 f0) fK hpw (show w < w + 12 by omega) ht3) $$ HC
  iapply (wp_landed (c : Thread nD τ) arg11 arg5 (semOf arg16) (hl arg0 f0) fK Variants.none none (s := w % 12) (h := t3.val) (i := k.val) ?_ ?_) $$ [HC HO]
  · exact congrArg (fun z => (arg11.view.ref).dmaCredit (⟨2, z⟩ : Shape) .bf16) (e5 _ (hr8 _))
  · exact semOf_slice arg16 (off14_eq hs) hs _ _
  · isplitl [HC] <;> iassumption
  iintro ⟨⟨%f, HF, %hf⟩, ⟨%W', HO⟩⟩
  sl_exec
  iapply (wp_assume Variants.none (c : Thread nD τ) none Set.univ (h10 _ (hr10 _)))
  ihave HF := (here_open P c arg11 arg5 (semOf arg16) (fun _ => holds_len (c : Thread nD τ) arg11 arg5 hf)) $$ HF
  icases HF with ⟨HB, HX⟩
  set_option sl_exec.stopBefore "k0_part6" in sl_exec
  have q1 : trip_t4.sl.r_1 c arg0 f0 t3 = lw arg0 f0 (t3.val / 10) := hr10 _
  have hcut := run_part6 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP t3 arg18 v753 k hs (trip_t4.sl.r_1 c arg0 f0 t3) (trip_t4.sl.v900 c arg0 f0 t3 v753 k) 10#32 (trip_t4.sl.v902 arg18) (trip_t4.sl.v907 arg18) 1#32 0#32
    (trip_t4.sl.arg25 v753 k) rfl q1 rfl hi
  set_option sl_exec.stopBefore "k0_part7" in sl_exec
  have hv946 : v946 = lw arg0 f0 (t3.val / 10) := hk0_part6_0
  have hl946 : lenN v946 = hl arg0 f0 t3.val := by rw [hv946]; rfl
  have hcut := run_part7 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 v584 v734 v753 (Gen.k0_pay58 v760) k m (j := t3.val) h13 v946 k0_hw12 v948 v949 (trip_t4.sl.arg25 v753 k) rfl hv946 hi hp hw Sv Mv
    (fun hp' t kb hkb => hK hp' v946 t kb fun z x x0 x1 x1' x2 => hkb z x x0 x1 (lt_of_lt_of_eq x1' hl946.symm) x2)
  have hr31 := lw_read (b := min h 19 / 10) arg0 f0 (off31_eq (h := h) (by omega)) (by omega) (k0_off31_inb _ _ h13)
  sl_exec
  sl_step
  obtain ⟨q7, q8⟩ := hk0_part7_0
  have q8 : v969 = Scalar.addi (BitVec.ofNat 32 i) 1#32 := q8
  subst q8
  isplitr
  · ipureintro
    exact ⟨q7, Prod.ext (slotNext_eq w) (posW_succ c arg0 f0 hp _ (hr31 _))⟩
  isplitl [Hk0_part7_1]; · iexact Hk0_part7_1
  isplitl [Hk0_part7_2]; · iexact Hk0_part7_2
  isplitl [HO]
  · iexists _; iexact HO
  iexact Hk0_part7_3

/-- Between the trips of a head's chunk loop over the keys, the head's first chunk being copy `w`. -/
abbrev InvT4 (t3 w : ℕ) (Sv : ℕ → S8x2048.Idx → F .f32) (Mv : ℕ → FVec F S8x128 .f32) (k : ℕ) (r : FVec F S8x128 .f32 × BitVec 32 × BitVec 32 × BitVec 32) : sProp 𝕄 :=
  iprop(⌜(P → r.1 = Mv (blk (hl arg0 f0 t3) k)) ∧ r.2 = (BitVec.ofNat 32 ((w + k) % 12), posW c arg0 f0 (w + k + 12))⌝ ∗ (arg0.view.loc (c : Thread nD τ) ↦[arg0.view.set]{q} f0) ∗ RingK c arg0 arg5 arg11 arg16 f0 fK (w + k) (w + k + 12)
    ∗ (∃ W, owes (c : Thread nD τ) 0 W) ∗ ScoresAt P c arg13 Sv (blk (hl arg0 f0 t3) k))

include hP in
theorem step_t4 (v584 : IVec S8x2048 32) (t3 : Fin k0_t3_loop.trips) (arg19 : BitVec 32) (arg21 : BitVec 32) (arg22 : BitVec 32) (arg18 : BitVec 32) (v713 : BitVec 32) (v734 : BitVec 32) (c10 : BitVec 32) (v735 : BitVec 32) (v753 : Elt F .i32) (hw7 : k0_chk7 v753) (v760 : Vec F S1x8x128 .bf16)
    (hv : v753 = lw arg0 f0 (t3.val / 10)) {w : ℕ} (hpw : pos (hl arg0 f0) w = (t3.val, 0)) (hw : w < 2 ^ 10)
    (Sv : ℕ → S8x2048.Idx → F .f32) (Mv : ℕ → FVec F S8x128 .f32) (k : Fin (k0_t4_loop v753).trips)
    (hK : P → ∀ (v : Elt F .i32) (t : Fin (k0_t7_loop v753 k v).trips) (kb : Vec F S1x2048x128 .bf16), (∀ (z : S1x2048x128.Idx) (x : SX.Idx), (x 0).val = t3.val → (x 1).val = 2048 * (2 * k.val + t.val) + (z 1).val → (x 1).val < hl arg0 f0 t3.val → (x 2).val = (z 2).val → kb z = arg5.view.read (Elt F) fK x) →
      Gen.k0_pay5 v584 v734 v753 (Gen.k0_pay58 v760) k (Scf.iv 0#32 1#32 k.val) v 0#32 1#32 t kb = Sv (2 * k.val + t.val)
        ∧ Gen.k0_pay13 (Gen.k0_pay5 v584 v734 v753 (Gen.k0_pay58 v760) k (Scf.iv 0#32 1#32 k.val) v 0#32 1#32 t kb) (Gen.k0_pay7 v584 v734 v753 (Gen.k0_pay58 v760) k (Scf.iv 0#32 1#32 k.val) v 0#32 1#32 t (Mv (2 * k.val + t.val)) kb) = Mv (2 * k.val + t.val + 1))
    (acc : FVec F S8x128 .f32 × BitVec 32 × BitVec 32 × BitVec 32) :
    InvT4 c arg0 arg5 arg11 arg13 arg16 fK P q f0 t3.val w Sv Mv k.val acc
      ⊢ wp Idealize.ShloMosaic.frame (wpE (defs₀ (F := F)) Variants.none (c : Thread nD τ) none) Set.univ
        (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 arg19 arg21 arg22 arg18 v713 v734 c10 v735 v753 hw7 v760 k acc)
        (InvT4 c arg0 arg5 arg11 arg13 arg16 fK P q f0 t3.val w Sv Mv (k.val + 1)) := by
  have ht3 : t3.val < 20 := t3.isLt
  have hi : k.val < ncN (hl arg0 f0 t3.val) := by
    have e : ncN (lenN v753) = ncN (hl arg0 f0 t3.val) := by rw [hv]; rfl
    exact lt_of_lt_of_eq k.isLt ((nc_trips v753).trans e)
  have hk16 : k.val < 16 := lt_of_lt_of_le hi (ncN_le (hl_le arg0 f0 _))
  have hpk := pos_chunk (hl arg0 f0) ht3 hpw hi
  have hp12 : pos (hl arg0 f0) (w + k.val + 12) = ((pos (hl arg0 f0) (w + k.val + 12)).1, (pos (hl arg0 f0) (w + k.val + 12)).2) := rfl
  obtain ⟨m, a⟩ := acc
  unfold InvT4
  rw [show w + (k.val + 1) + 12 = w + k.val + 13 by omega, ← Nat.add_assoc w k.val 1]
  iintro ⟨%hacc, H0, HR, HO, HS⟩
  obtain ⟨h1, h2⟩ := hacc
  have h2 : a = (BitVec.ofNat 32 ((w + k.val) % 12), posW c arg0 f0 (w + k.val + 12)) := h2
  subst h2
  ihave HS := (scores_cast P c arg13 Sv (blk_eq hi)) $$ HS
  iapply (trip_t4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP v584 t3 arg19 arg21 arg22 arg18 v713 v734 c10 v735 v753 hw7 v760 k hv hpk (w := w + k.val) (h := (pos (hl arg0 f0) (w + k.val + 12)).1) (i := (pos (hl arg0 f0) (w + k.val + 12)).2) hp12 (by omega) m Sv Mv hK)
  isplitr
  · ipureintro
    exact fun hx => (h1 hx).trans (congrArg Mv (blk_eq hi))
  isplitl [H0]; · iexact H0
  isplitl [HR]; · iexact HR
  isplitl [HO]; · iexact HO
  iexact HS

end
end Cert.Proof.Kernel
-- ==== Proof.Head.lean ====
/- What one head's loops leave, and the state between the heads. -/
module

public import proofs.«01_k».proof.Proof.VChunk
public import proofs.«01_k».proof.Proof.KChunk
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The rows of heads below `n` of a (20, 8, 128) buffer are the recorded ones. -/
def RowsAt {e : EltTy} (P : Prop) (c : Dev nD) (M : Memref sig .tc .vmem S20x8x128 e) (Rv : ℕ → S1x8x128.Idx → Elt F e) (n : ℕ) : sProp (MT nD τ sig Unit (Elt F) ℕ (Pipeline.UD sig nD τ) ℕ) :=
  iprop(∃ f, (M.view.loc (c : Thread nD τ) ↦[M.view.set]{fullShare} f)
    ∗ ⌜P → ∀ (z : S20x8x128.Idx) (y : S1x8x128.Idx), (z 0).val < n → (z 1).val = (y 1).val → (z 2).val = (y 2).val → M.view.read (Elt F) f z = Rv (z 0).val y⌝)

/-- The row of head `n` is stored above the ones there are. -/
theorem rows_store {e : EltTy} (P : Prop) (c : Dev nD) (M : Memref sig .tc .vmem S20x8x128 e) (Rv : ℕ → S1x8x128.Idx → Elt F e) {n : ℕ} {o : Fin 3 → ℕ} (ho : o = ![n, 0, 0])
    (hinb : ∀ x, o x + S1x8x128.size x ≤ S20x8x128.size x) {f : Buf (Elt F) (M.view.loc (c : Thread nD τ))} (w : (Rect.unit (s := S20x8x128) o S1x8x128.size hinb).shape.Idx → Elt F e)
    (hf : P → ∀ (z : S20x8x128.Idx) (y : S1x8x128.Idx), (z 0).val < n → (z 1).val = (y 1).val → (z 2).val = (y 2).val → M.view.read (Elt F) f z = Rv (z 0).val y)
    (hw : P → w = Rv n) :
    P → ∀ (z : S20x8x128.Idx) (y : S1x8x128.Idx), (z 0).val < n + 1 → (z 1).val = (y 1).val → (z 2).val = (y 2).val →
      M.view.read (Elt F) ((M.access (Rect.unit (s := S20x8x128) o S1x8x128.size hinb)).write (Elt F) f w Finset.univ) z = Rv (z 0).val y := by
  subst ho
  intro hP z y z0 z1 z2
  by_cases hz : z ∈ Finset.univ.map (Rect.unit (s := S20x8x128) ![n, 0, 0] S1x8x128.size hinb).emb
  · obtain ⟨x, -, rfl⟩ := Finset.mem_map.mp hz
    have hx0 : (x 0).val < 1 := (x 0).isLt
    have hy0 : (y 0).val < 1 := (y 0).isLt
    have e0 : (((Rect.unit (s := S20x8x128) ![n, 0, 0] S1x8x128.size hinb).emb x) 0).val = n := by
      show n + 1 * (x 0).val = n
      omega
    rw [e0]
    refine (View.read_slice_write_emb (v := M.view) _ f w (Finset.mem_univ x)).trans ((congrFun (hw hP) x).trans (congrArg (Rv n) ?_))
    funext a
    refine Fin.ext ?_
    have q0 : (x 0).val = (y 0).val := by omega
    have q1 : (x 1).val = (y 1).val := by change 0 + 1 * (x 1).val = _ at z1; omega
    have q2 : (x 2).val = (y 2).val := by change 0 + 1 * (x 2).val = _ at z2; omega
    exact (Fin.forall_fin_succ.mpr ⟨q0, Fin.forall_fin_succ.mpr ⟨q1, Fin.forall_fin_succ.mpr ⟨q2, fun x => x.elim0⟩⟩⟩ : ∀ a : Fin 3, (x a).val = (y a).val) a
  · refine (View.read_slice_write_of_not_mem (v := M.view) _ f w _ hz).trans (hf hP z y ?_ z1 z2)
    by_contra h
    refine hz ((Rect.map_emb_univ _).symm ▸ Rect.mem_set_unit.mpr (Fin.forall_fin_succ.mpr ⟨?_, Fin.forall_fin_succ.mpr ⟨?_, Fin.forall_fin_succ.mpr ⟨?_, fun x => x.elim0⟩⟩⟩))
    · show n ≤ (z 0).val ∧ (z 0).val < n + 1; omega
    · have : (z 1).val < 8 := (z 1).isLt
      show 0 ≤ (z 1).val ∧ (z 1).val < 0 + 8; omega
    · have : (z 2).val < 128 := (z 2).isLt
      show 0 ≤ (z 2).val ∧ (z 2).val < 0 + 128; omega

theorem BlockStep.of {P : Prop} {c : Dev nD} {X : Memref sig .tc .hbm SX .fp8e4m3} {fX : Buf (Elt F) (X.view.loc (c : Thread nD τ))} {a b : FVec F S8x1 .f32} {Sv : ℕ → S8x2048.Idx → F .f32} {Wv : ℕ → FVec F S8x128 .f32 × FVec F S8x128 .f32} {h L n : ℕ}
    (e : P → a = b) (H : P → BlockStep P c X fX b Sv Wv h L n) : BlockStep P c X fX a Sv Wv h L n := by
  intro hP
  rw [e hP]
  exact H hP hP

/-- What a block of keys does: its scores, and the running maximum after it. -/
def KeyStep (P : Prop) (c : Dev nD) (X : Memref sig .tc .hbm SX .bf16) (fX : Buf (Elt F) (X.view.loc (c : Thread nD τ))) (v584 : IVec S8x2048 32) (v734 v753 : BitVec 32) (v760 : Vec F S1x8x128 .bf16) (Sv : ℕ → S8x2048.Idx → F .f32) (Mv : ℕ → FVec F S8x128 .f32) (h L : ℕ) : Prop :=
  ∀ (k : Fin (k0_t4_loop v753).trips), P → ∀ (v : Elt F .i32) (t : Fin (k0_t7_loop v753 k v).trips) (kb : Vec F S1x2048x128 .bf16),
    (∀ (z : S1x2048x128.Idx) (x : SX.Idx), (x 0).val = h → (x 1).val = 2048 * (2 * k.val + t.val) + (z 1).val → (x 1).val < L → (x 2).val = (z 2).val → kb z = X.view.read (Elt F) fX x) →
    Gen.k0_pay5 v584 v734 v753 (Gen.k0_pay58 v760) k (Scf.iv 0#32 1#32 k.val) v 0#32 1#32 t kb = Sv (2 * k.val + t.val)
      ∧ Gen.k0_pay13 (Gen.k0_pay5 v584 v734 v753 (Gen.k0_pay58 v760) k (Scf.iv 0#32 1#32 k.val) v 0#32 1#32 t kb) (Gen.k0_pay7 v584 v734 v753 (Gen.k0_pay58 v760) k (Scf.iv 0#32 1#32 k.val) v 0#32 1#32 t (Mv (2 * k.val + t.val)) kb) = Mv (2 * k.val + t.val + 1)

/-- One head's numbers: its scores and running maxima block by block, its two
accumulators block by block, and the two rows stored for it. `b` is the
sequence's word, `L` the length, `lwv` the length's word. -/
structure HeadSpec (P : Prop) (c : Dev nD) (X : Memref sig .tc .hbm SX .bf16) (fX : Buf (Elt F) (X.view.loc (c : Thread nD τ))) (Y : Memref sig .tc .hbm SX .fp8e4m3) (fY : Buf (Elt F) (Y.view.loc (c : Thread nD τ)))
    (v584 : IVec S8x2048 32) (b lwv : BitVec 32) (Q : Vec F S1x8x128 .bf16) (kn vn : Vec F S1x2x128 .bf16) (vs : Vec F S1x2x128 .f32) (h : ℕ)
    (Sv : ℕ → S8x2048.Idx → F .f32) (Mv : ℕ → FVec F S8x128 .f32) (Wv : ℕ → FVec F S8x128 .f32 × FVec F S8x128 .f32) (Cv Ov : Vec F S1x8x128 .f32) : Prop where
  m0 : P → Gen.k0_pay59 (F := F) = Mv 0
  key : KeyStep P c X fX v584 (clipW lwv) lwv Q Sv Mv h (lenN lwv)
  w0 : P → (Gen.k0_pay66 (F := F), Gen.k0_pay66 (F := F)) = Wv 0
  val : P → ∀ n, BlockStep P c Y fY (Gen.k0_pay64 b (Gen.k0_pay58 Q) (Mv (blks (lenN lwv))) (Gen.k0_pay60 kn) 0#32) Sv Wv h (lenN lwv) n
  cache : P → Gen.k0_pay142 (Gen.k0_pay62 b vs) (Gen.k0_pay67 b (Gen.k0_pay58 Q) (Mv (blks (lenN lwv))) (Gen.k0_pay60 kn) 0#32 (Wv (blks (lenN lwv))).1) (Gen.k0_pay68 (Wv (blks (lenN lwv))).2) = Cv
  out : P → Gen.k0_pay143 (Gen.k0_pay61 b vn) (Gen.k0_pay62 b vs) (Gen.k0_pay65 b (Gen.k0_pay58 Q) (Mv (blks (lenN lwv))) (Gen.k0_pay60 kn) 0#32) (Gen.k0_pay67 b (Gen.k0_pay58 Q) (Mv (blks (lenN lwv))) (Gen.k0_pay60 kn) 0#32 (Wv (blks (lenN lwv))).1) (Gen.k0_pay68 (Wv (blks (lenN lwv))).2) = Ov

theorem scores_zero (P : Prop) (c : Dev nD) (M : Memref sig .tc .vmem S32x8x2048 .f32) (Sv Sv' : ℕ → S8x2048.Idx → F .f32) {n : ℕ} :
    (ScoresAt P c M Sv n : sProp (MT nD τ sig Unit (Elt F) ℕ (Pipeline.UD sig nD τ) ℕ)) ⊢ ScoresAt P c M Sv' 0 := by
  unfold ScoresAt
  iintro ⟨%f, H, %_⟩
  iexists f
  isplitl [H]; · iexact H
  ipureintro
  exact fun _ z y h => absurd h (Nat.not_lt_zero _)

theorem inv_cast {M : Type} [URA M] (I : ℕ → sProp M) {n n' : ℕ} (h : n = n') : I n ⊢ I n' := by
  rw [h]

theorem off88_eq (t : Fin k0_t3_loop.trips) : k0_off88 t = ![t.val, 0, 0] := by
  have ht : t.val < 20 := t.isLt
  show ![(Scf.iv 0#32 1#32 t.val).toNat, 0, 0] = _
  rw [iv_eq _ (by omega), toNat_ofNat (by omega)]
theorem off11_eq (t : Fin k0_t3_loop.trips) : k0_off11 t = ![t.val / 10] := seq_off

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f2 : Buf (Elt F) (arg2.view.loc (c : Thread nD τ))) (f3 : Buf (Elt F) (arg3.view.loc (c : Thread nD τ))) (f4 : Buf (Elt F) (arg4.view.loc (c : Thread nD τ))) (f14 : Buf (Elt F) (arg14.view.loc (c : Thread nD τ)))

attribute [local irreducible] ScoresAt Decode.Ring BlockStep KeyStep RowsAt

/-- Between the heads. -/
abbrev InvT3 (Cv Ov : ℕ → S1x8x128.Idx → F .f32) (t : ℕ) (r : BitVec 32 × BitVec 32 × BitVec 32 × BitVec 32 × BitVec 32 × BitVec 32) : sProp 𝕄 :=
  iprop(⌜r = (BitVec.ofNat 32 (start (hl arg0 f0) t % 12), BitVec.ofNat 32 (start (hl arg0 f0) t % 12), (posW c arg0 f0 (start (hl arg0 f0) t + 12)).1, (posW c arg0 f0 (start (hl arg0 f0) t + 12)).2, (posW c arg0 f0 (start (hl arg0 f0) t + 12)).1, (posW c arg0 f0 (start (hl arg0 f0) t + 12)).2)⌝
    ∗ (arg0.view.loc (c : Thread nD τ) ↦[arg0.view.set]{q} f0) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg14.view.loc (c : Thread nD τ) ↦[arg14.view.set]{fullShare} f14) ∗ RingK c arg0 arg5 arg11 arg16 f0 fK (start (hl arg0 f0) t) (start (hl arg0 f0) t + 12) ∗ RingV c arg0 arg6 arg12 arg17 f0 fV (start (hl arg0 f0) t) (start (hl arg0 f0) t + 12)
    ∗ (∃ W, owes (c : Thread nD τ) 0 W) ∗ (∃ Sv, ScoresAt P c arg13 Sv 0) ∗ RowsAt P c arg8 Cv t ∗ RowsAt P c arg15 Ov t)

/-- The rows of a head in the staged operands and in the scratch of queries. -/
abbrev rowQ (t : Fin k0_t3_loop.trips) : Vec F S1x8x128 .bf16 := View.readAt (Elt F) arg14.view (Rect.unit (s := S20x8x128) (k0_off12 t) S1x8x128.size (Gen.k0_off12_inb t)).toLoadRect f14
abbrev rowKn (t : Fin k0_t3_loop.trips) : Vec F S1x2x128 .bf16 := View.readAt (Elt F) arg2.view (Rect.unit (s := S10x2x128) (k0_off51 t) S1x2x128.size (Gen.k0_off51_inb t)).toLoadRect f2
abbrev rowVn (t : Fin k0_t3_loop.trips) : Vec F S1x2x128 .bf16 := View.readAt (Elt F) arg3.view (Rect.unit (s := S10x2x128) (k0_off51 t) S1x2x128.size (Gen.k0_off51_inb t)).toLoadRect f3
abbrev rowVs (t : Fin k0_t3_loop.trips) : Vec F S1x2x128 .f32 := View.readAt (Elt F) arg4.view (Rect.unit (s := S10x2x128) (k0_off51 t) S1x2x128.size (Gen.k0_off51_inb t)).toLoadRect f4

set_option maxHeartbeats 400000 in
include hP in
theorem run_part28 (v584 : IVec S8x2048 32) (t3 : Fin k0_t3_loop.trips) (arg18 : BitVec 32) (v713 : BitVec 32) (v734 : BitVec 32) (c10 : BitVec 32) (v735 : BitVec 32)
    {w : ℕ} (hpw : pos (hl arg0 f0) w = (t3.val, 0)) (hw : w < 2 ^ 10) (hv : v734 = clipW (lw arg0 f0 (t3.val / 10))) (Sv : ℕ → S8x2048.Idx → F .f32) (Mv : ℕ → FVec F S8x128 .f32)
    (hm0 : P → Gen.k0_pay59 (F := F) = Mv 0) (hK : KeyStep P c arg5 fK v584 (clipW (lw arg0 f0 (t3.val / 10))) (lw arg0 f0 (t3.val / 10)) (rowQ c arg14 f14 t3) Sv Mv t3.val (hl arg0 f0 t3.val)) :
    iprop((arg0.view.loc (c : Thread nD τ) ↦[arg0.view.set]{q} f0) ∗ (arg2.view.loc (c : Thread nD τ) ↦[arg2.view.set]{q} f2) ∗ (arg14.view.loc (c : Thread nD τ) ↦[arg14.view.set]{fullShare} f14) ∗ RingK c arg0 arg5 arg11 arg16 f0 fK w (w + 12) ∗ (∃ W, owes (c : Thread nD τ) 0 W) ∗ ScoresAt P c arg13 Sv 0)
      ⊢ wp Idealize.ShloMosaic.frame (wpE (defs₀ (F := F)) Variants.none (c : Thread nD τ) none) Set.univ
        (k0_part28 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 (BitVec.ofNat 32 (w % 12)) (posW c arg0 f0 (w + 12)).1 (posW c arg0 f0 (w + 12)).2 arg18 v713 v734 c10 v735)
        (fun r => iprop(⌜r.1 = lw arg0 f0 (t3.val / 10) ∧ r.2.2.2.1 = Gen.k0_pay58 (rowQ c arg14 f14 t3) ∧ (P → r.2.2.2.2.1 = Mv (blks (hl arg0 f0 t3.val)))
            ∧ (r.2.2.2.2.2.1, r.2.2.2.2.2.2.1, r.2.2.2.2.2.2.2.1) = (BitVec.ofNat 32 ((w + ncN (hl arg0 f0 t3.val)) % 12), posW c arg0 f0 (w + ncN (hl arg0 f0 t3.val) + 12))
            ∧ r.2.2.2.2.2.2.2.2.1 = Gen.k0_pay60 (rowKn c arg2 f2 t3) ∧ r.2.2.2.2.2.2.2.2.2 = 0#32⌝
          ∗ (arg0.view.loc (c : Thread nD τ) ↦[arg0.view.set]{q} f0) ∗ (arg2.view.loc (c : Thread nD τ) ↦[arg2.view.set]{q} f2) ∗ (arg14.view.loc (c : Thread nD τ) ↦[arg14.view.set]{fullShare} f14) ∗ RingK c arg0 arg5 arg11 arg16 f0 fK (w + ncN (hl arg0 f0 t3.val)) (w + ncN (hl arg0 f0 t3.val) + 12) ∗ (∃ W, owes (c : Thread nD τ) 0 W) ∗ ScoresAt P c arg13 Sv (blks (hl arg0 f0 t3.val)))) := by
  subst hv
  have ht3 : t3.val < 20 := t3.isLt
  have h7 : ∀ v, k0_chk7 v := chk7
  have hr := lw_read (b := t3.val / 10) arg0 f0 (off11_eq t3) (by omega) (Gen.k0_off11_inb t3)
  have hN : ∀ v, v = lw arg0 f0 (t3.val / 10) → (k0_t4_loop v).trips = ncN (hl arg0 f0 t3.val) := by
    rintro v rfl
    exact nc_trips _
  have hK' : ∀ v, v = lw arg0 f0 (t3.val / 10) → KeyStep P c arg5 fK v584 (clipW (lw arg0 f0 (t3.val / 10))) v (rowQ c arg14 f14 t3) Sv Mv t3.val (hl arg0 f0 t3.val) := by
    rintro v rfl
    exact hK
  iintro ⟨H0, H2, H14, HR, HO, HS⟩
  sl_exec
  have hv : run_part28.sl.r c arg0 f0 t3 = lw arg0 f0 (t3.val / 10) := hr _
  have hn := hN _ hv
  have hK := hK' _ hv
  unfold KeyStep at hK
  have hstep := fun k acc => step_t4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP v584 t3 (BitVec.ofNat 32 (w % 12)) (posW c arg0 f0 (w + 12)).1 (posW c arg0 f0 (w + 12)).2 arg18 v713 (clipW (lw arg0 f0 (t3.val / 10))) c10 v735 (run_part28.sl.r c arg0 f0 t3) (h7 _) (rowQ c arg14 f14 t3) hv hpw hw Sv Mv k
      (hK k) acc
  have hloop := fun {β : Type} {kk : _ → Prog (TpuEff nD τ sig (Elt F) Λ₀ .tc) β} {Q : β → sProp 𝕄} => Scf.wp_for_bind Idealize.ShloMosaic.frame (wpE (defs₀ (F := F)) Variants.none (c : Thread nD τ) none) Set.univ _ _ _ (k0_t4_ok (run_part28.sl.r c arg0 f0 t3) (h7 _)) (Gen.k0_pay59 (F := F), BitVec.ofNat 32 (w % 12), (posW c arg0 f0 (w + 12)).1, (posW c arg0 f0 (w + 12)).2)
    (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v584 t3 (BitVec.ofNat 32 (w % 12)) (posW c arg0 f0 (w + 12)).1 (posW c arg0 f0 (w + 12)).2 arg18 v713 (clipW (lw arg0 f0 (t3.val / 10))) c10 v735 (run_part28.sl.r c arg0 f0 t3) (h7 _) (rowQ c arg14 f14 t3))
    (InvT4 c arg0 arg5 arg11 arg13 arg16 fK P q f0 t3.val w Sv Mv)
    hstep (β := β) (kk := kk) (Q := Q)
  have hmark := 0
  iapply hloop $$ [H0 HR HO HS]
  · isplitr
    · ipureintro
      refine ⟨hm0, ?_⟩
      rw [Nat.add_zero]
      exact rfl
    isplitl [H0]; · iexact H0
    isplitl [HR]; · iexact HR
    isplitl [HO]; · iexact HO
    iexact HS
  iintro %acc HI
  ihave HI := (inv_cast (fun k => InvT4 c arg0 arg5 arg11 arg13 arg16 fK P q f0 t3.val w Sv Mv k acc) hn) $$ HI
  icases HI with ⟨%hacc, H0, HR, HO, HS⟩
  obtain ⟨m, a1, a2, a3⟩ := acc
  obtain ⟨hm, ha⟩ := hacc
  sl_exec
  sl_step
  isplitr
  · ipureintro
    exact ⟨hv, rfl, hm, ha, rfl, rfl⟩
  isplitl [H0]; · iexact H0
  isplitl [H2]; · iexact H2
  isplitl [H14]; · iexact H14
  isplitl [HR]; · iexact HR
  isplitl [HO]; · iexact HO
  iexact HS

end
end Cert.Proof.Kernel
-- ==== Proof.HeadV.lean ====
/- One head's loop over its values. -/
module

public import proofs.«01_k».proof.Proof.Head
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (f2 : Buf (Elt F) (arg2.view.loc (c : Thread nD τ))) (f3 : Buf (Elt F) (arg3.view.loc (c : Thread nD τ))) (f4 : Buf (Elt F) (arg4.view.loc (c : Thread nD τ))) (f14 : Buf (Elt F) (arg14.view.loc (c : Thread nD τ)))

attribute [local irreducible] ScoresAt Decode.Ring BlockStep KeyStep RowsAt

set_option maxHeartbeats 400000 in
theorem run_part29 (t3 : Fin k0_t3_loop.trips) (arg18 : BitVec 32) (v711 : BitVec 32) (v713 : BitVec 32) (v753 : Elt F .i32) (hw7 : k0_chk7 v753) (v758 : BitVec 32) (v761 : FVec F S8x128 .bf16) (v769 : FVec F S8x128 .f32) (v773 : FVec F S2x128 .f32) (c0 : BitVec 32)
    {w : ℕ} (hpw : pos (hl arg0 f0) w = (t3.val, 0)) (hw : w < 2 ^ 10) (hv : v753 = lw arg0 f0 (t3.val / 10)) (Sv : ℕ → S8x2048.Idx → F .f32) (Wv : ℕ → FVec F S8x128 .f32 × FVec F S8x128 .f32)
    (hw0 : P → (Gen.k0_pay66 (F := F), Gen.k0_pay66 (F := F)) = Wv 0) (hV : ∀ n, BlockStep P c arg6 fV (Gen.k0_pay64 v711 v761 v769 v773 c0) Sv Wv t3.val (hl arg0 f0 t3.val) n) :
    iprop((arg0.view.loc (c : Thread nD τ) ↦[arg0.view.set]{q} f0) ∗ (arg3.view.loc (c : Thread nD τ) ↦[arg3.view.set]{q} f3) ∗ (arg4.view.loc (c : Thread nD τ) ↦[arg4.view.set]{q} f4) ∗ RingV c arg0 arg6 arg12 arg17 f0 fV w (w + 12) ∗ (∃ W, owes (c : Thread nD τ) 0 W) ∗ ScoresAt P c arg13 Sv (blks (hl arg0 f0 t3.val)))
      ⊢ wp Idealize.ShloMosaic.frame (wpE (defs₀ (F := F)) Variants.none (c : Thread nD τ) none) Set.univ
        (k0_part29 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 (BitVec.ofNat 32 (w % 12)) (posW c arg0 f0 (w + 12)).1 (posW c arg0 f0 (w + 12)).2 arg18 v711 v713 v753 hw7 v758 v761 v769 v773 c0)
        (fun r => iprop(⌜r.1 = Gen.k0_pay61 v711 (rowVn c arg3 f3 t3) ∧ r.2.1 = Gen.k0_pay62 v711 (rowVs c arg4 f4 t3) ∧ r.2.2.1 = Gen.k0_pay65 v711 v761 v769 v773 c0
            ∧ (r.2.2.2.1, r.2.2.2.2.1, r.2.2.2.2.2.1) = (BitVec.ofNat 32 ((w + ncN (hl arg0 f0 t3.val)) % 12), posW c arg0 f0 (w + ncN (hl arg0 f0 t3.val) + 12))
            ∧ (P → r.2.2.2.2.2.2.1 = Gen.k0_pay67 v711 v761 v769 v773 c0 (Wv (blks (hl arg0 f0 t3.val))).1) ∧ (P → r.2.2.2.2.2.2.2 = Gen.k0_pay68 (Wv (blks (hl arg0 f0 t3.val))).2)⌝
          ∗ (arg0.view.loc (c : Thread nD τ) ↦[arg0.view.set]{q} f0) ∗ (arg3.view.loc (c : Thread nD τ) ↦[arg3.view.set]{q} f3) ∗ (arg4.view.loc (c : Thread nD τ) ↦[arg4.view.set]{q} f4) ∗ RingV c arg0 arg6 arg12 arg17 f0 fV (w + ncN (hl arg0 f0 t3.val)) (w + ncN (hl arg0 f0 t3.val) + 12) ∗ (∃ W, owes (c : Thread nD τ) 0 W) ∗ ScoresAt P c arg13 Sv (blks (hl arg0 f0 t3.val)))) := by
  have ht3 : t3.val < 20 := t3.isLt
  have hn : (k0_t14_loop v753).trips = ncN (hl arg0 f0 t3.val) := by
    have e : ncN (lenN v753) = ncN (hl arg0 f0 t3.val) := by rw [hv]; rfl
    exact (nc_trips' v753).trans e
  have hstep := step_t14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 t3 (BitVec.ofNat 32 (w % 12)) (posW c arg0 f0 (w + 12)).1 (posW c arg0 f0 (w + 12)).2 arg18 v711 v713 v753 hw7 v758 v761 v769 v773 c0 hv hpw hw Sv Wv hV
  have hloop := fun {β : Type} {kk : _ → Prog (TpuEff nD τ sig (Elt F) Λ₀ .tc) β} {Q : β → sProp 𝕄} => Scf.wp_for_bind Idealize.ShloMosaic.frame (wpE (defs₀ (F := F)) Variants.none (c : Thread nD τ) none) Set.univ _ _ _ (k0_t14_ok v753 hw7) (Gen.k0_pay66 (F := F), Gen.k0_pay66 (F := F), BitVec.ofNat 32 (w % 12), (posW c arg0 f0 (w + 12)).1, (posW c arg0 f0 (w + 12)).2)
    (Gen.k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 t3 (BitVec.ofNat 32 (w % 12)) (posW c arg0 f0 (w + 12)).1 (posW c arg0 f0 (w + 12)).2 arg18 v711 v713 v753 hw7 v758 v761 v769 v773 c0)
    (InvT14 c arg0 arg6 arg12 arg13 arg17 fV P q f0 t3.val w Sv Wv)
    hstep (β := β) (kk := kk) (Q := Q)
  iintro ⟨H0, H3, H4, HR, HO, HS⟩
  sl_exec
  iapply hloop $$ [H0 HR HO HS]
  · isplitr
    · ipureintro
      refine ⟨hw0, ?_⟩
      rw [Nat.add_zero]
      exact rfl
    isplitl [H0]; · iexact H0
    isplitl [HR]; · iexact HR
    isplitl [HO]; · iexact HO
    iexact HS
  iintro %acc HI
  ihave HI := (inv_cast (fun k => InvT14 c arg0 arg6 arg12 arg13 arg17 fV P q f0 t3.val w Sv Wv k acc) hn) $$ HI
  icases HI with ⟨%hacc, H0, HR, HO, HS⟩
  obtain ⟨l, a, a1, a2, a3⟩ := acc
  obtain ⟨hm, ha⟩ := hacc
  sl_exec
  sl_step
  isplitr
  · ipureintro
    exact ⟨rfl, rfl, rfl, ha, fun hp => congrArg (fun x => Gen.k0_pay67 v711 v761 v769 v773 c0 x.1) (hm hp), fun hp => congrArg (fun x => Gen.k0_pay68 x.2) (hm hp)⟩
  isplitl [H0]; · iexact H0
  isplitl [H3]; · iexact H3
  isplitl [H4]; · iexact H4
  isplitl [HR]; · iexact HR
  isplitl [HO]; · iexact HO
  iexact HS

end
end Cert.Proof.Kernel
-- ==== Proof.HeadT.lean ====
/- One trip of the loop over the heads. -/
module

public import proofs.«01_k».proof.Proof.HeadV
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxRecDepth 8000 in
theorem seqW_div : ∀ h : Fin 20, Scalar.divsi (BitVec.ofNat 32 h) 10#32 = BitVec.ofNat 32 ((h : ℕ) / 10) := by decide

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f2 : Buf (Elt F) (arg2.view.loc (c : Thread nD τ))) (f3 : Buf (Elt F) (arg3.view.loc (c : Thread nD τ))) (f4 : Buf (Elt F) (arg4.view.loc (c : Thread nD τ))) (f14 : Buf (Elt F) (arg14.view.loc (c : Thread nD τ)))

attribute [local irreducible] ScoresAt Decode.Ring BlockStep KeyStep

set_option maxHeartbeats 400000 in
include hP in
theorem trip_t3 (v1_0 v1_1 v3_0 v3_1 : BitVec 32) (v557 v560 : FVec F S1x128 .f32) (v561 : Vec F S1x128 .bf16) (v584 : IVec S8x2048 32) (t3 : Fin k0_t3_loop.trips)
    (Sv : ℕ → S8x2048.Idx → F .f32) (Mv : ℕ → FVec F S8x128 .f32) (Wv : ℕ → FVec F S8x128 .f32 × FVec F S8x128 .f32) (Cv Ov : ℕ → S1x8x128.Idx → F .f32)
    (hH : HeadSpec P c arg5 fK arg6 fV v584 (seqW (Scf.iv 0#32 1#32 t3.val)) (lw arg0 f0 (t3.val / 10)) (rowQ c arg14 f14 t3) (rowKn c arg2 f2 t3) (rowVn c arg3 f3 t3) (rowVs c arg4 f4 t3) t3.val Sv Mv Wv (Cv t3.val) (Ov t3.val))
    (acc : BitVec 32 × BitVec 32 × BitVec 32 × BitVec 32 × BitVec 32 × BitVec 32) :
    InvT3 c arg0 arg2 arg3 arg4 arg5 arg6 arg8 arg11 arg12 arg13 arg14 arg15 arg16 arg17 fK fV P q f0 f2 f3 f4 f14 Cv Ov t3.val acc
      ⊢ wp Idealize.ShloMosaic.frame (wpE (defs₀ (F := F)) Variants.none (c : Thread nD τ) none) Set.univ
        (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v1_0 v1_1 v3_0 v3_1 v557 v560 v561 v584 t3 acc)
        (InvT3 c arg0 arg2 arg3 arg4 arg5 arg6 arg8 arg11 arg12 arg13 arg14 arg15 arg16 arg17 fK fV P q f0 f2 f3 f4 f14 Cv Ov (t3.val + 1)) := by
  have ht3 : t3.val < 20 := t3.isLt
  have hpw := pos_start (hl arg0 f0) (h := t3.val) (by omega)
  have hw : start (hl arg0 f0) t3.val < 2 ^ 10 := by
    have := start_le (hl arg0 f0) (hl_le arg0 f0) t3.val
    omega
  have ho := off88_eq t3
  unfold InvT3 Gen.k0_t3_body RowsAt
  iintro ⟨%hacc, H0, H2, H3, H4, H14, HRK, HRV, ⟨%W, HO⟩, ⟨%S0, HS⟩, ⟨%fC, HC, %hfC⟩, ⟨%fD, HD, %hfD⟩⟩
  subst hacc
  ihave HS := (scores_zero P c arg13 S0 Sv) $$ HS
  set_option sl_exec.stopBefore "k0_part28" in sl_exec
  have e734 : trip_t3.sl.v734 c arg0 f0 t3 = clipW (lw arg0 f0 (t3.val / 10)) := congrArg clipW (lw_read (b := t3.val / 10) arg0 f0 (off11_eq t3) (by omega) (Gen.k0_off11_inb t3) _)
  have e711 : trip_t3.sl.v711 t3 = seqW (Scf.iv 0#32 1#32 t3.val) := by
    show Scalar.divsi (Scf.iv 0#32 1#32 t3.val) 10#32 = _
    rw [iv_eq _ (by omega), seqW_eq ⟨t3.val, ht3⟩]
    exact seqW_div ⟨t3.val, ht3⟩
  have hcut := run_part28 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK P q f0 hP f2 f14 v584 t3 (trip_t3.sl.arg18 t3) (trip_t3.sl.v713 t3) (trip_t3.sl.v734 c arg0 f0 t3) 10#32 (trip_t3.sl.v695 t3) hpw hw e734 Sv Mv hH.m0 hH.key
  set_option sl_exec.stopBefore "k0_part29" in sl_exec
  obtain ⟨q1, q2, q3, q4, q5, q6⟩ := hk0_part28_0
  have q1 : v753 = lw arg0 f0 (t3.val / 10) := q1
  have q2 : v761 = Gen.k0_pay58 (rowQ c arg14 f14 t3) := q2
  have q3 : P → v769_0 = Mv (blks (hl arg0 f0 t3.val)) := q3
  have q5 : v773 = Gen.k0_pay60 (rowKn c arg2 f2 t3) := q5
  have q6 : c0_i32_378 = 0#32 := q6
  subst q2 q5 q6
  have hcut := run_part29 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fV P q f0 f3 f4 t3 (trip_t3.sl.arg18 t3) (trip_t3.sl.v711 t3) (trip_t3.sl.v713 t3) v753 k0_hw7 v758 (Gen.k0_pay58 (rowQ c arg14 f14 t3)) v769_0 (Gen.k0_pay60 (rowKn c arg2 f2 t3)) 0#32 hpw hw q1 Sv Wv hH.w0
    (fun n => BlockStep.of (fun hp => by rw [e711]; exact congrArg (fun m => Gen.k0_pay64 (seqW (Scf.iv 0#32 1#32 t3.val)) (Gen.k0_pay58 (rowQ c arg14 f14 t3)) m (Gen.k0_pay60 (rowKn c arg2 f2 t3)) 0#32) (q3 hp)) (fun hp => hH.val hp n))
  sl_exec
  have q7 : P → v769_0 = Mv (blks (hl arg0 f0 t3.val)) := q3
  obtain ⟨p1, p2, p3, p4, p5, p6⟩ := hk0_part29_0
  have p1 : v785 = Gen.k0_pay61 (seqW (Scf.iv 0#32 1#32 t3.val)) (rowVn c arg3 f3 t3) := e711 ▸ p1
  have p2 : v792 = Gen.k0_pay62 (seqW (Scf.iv 0#32 1#32 t3.val)) (rowVs c arg4 f4 t3) := e711 ▸ p2
  have p3 : v804 = Gen.k0_pay65 (seqW (Scf.iv 0#32 1#32 t3.val)) (Gen.k0_pay58 (rowQ c arg14 f14 t3)) v769_0 (Gen.k0_pay60 (rowKn c arg2 f2 t3)) 0#32 := e711 ▸ p3
  have p5 : P → v815 = Gen.k0_pay67 (seqW (Scf.iv 0#32 1#32 t3.val)) (Gen.k0_pay58 (rowQ c arg14 f14 t3)) v769_0 (Gen.k0_pay60 (rowKn c arg2 f2 t3)) 0#32 (Wv (blks (hl arg0 f0 t3.val))).1 := e711 ▸ p5
  have p6 : P → v817 = Gen.k0_pay68 (Wv (blks (hl arg0 f0 t3.val))).2 := p6
  have q4 : (v769_1, v769_2, v769_3) = (BitVec.ofNat 32 (start (hl arg0 f0) (t3.val + 1) % 12), posW c arg0 f0 (start (hl arg0 f0) (t3.val + 1) + 12)) := q4
  have p4 : (v812_2, v812_3, v812_4) = (BitVec.ofNat 32 (start (hl arg0 f0) (t3.val + 1) % 12), posW c arg0 f0 (start (hl arg0 f0) (t3.val + 1) + 12)) := p4
  sl_step
  isplitr
  · ipureintro
    have a1 := congrArg Prod.fst q4
    have a2 := congrArg (fun z => z.2.1) q4
    have a3 := congrArg (fun z => z.2.2) q4
    have b1 := congrArg Prod.fst p4
    have b2 := congrArg (fun z => z.2.1) p4
    have b3 := congrArg (fun z => z.2.2) p4
    dsimp only at a1 a2 a3 b1 b2 b3
    rw [a1, a2, a3, b1, b2, b3]
  isplitl [Hk0_part29_1]; · iexact Hk0_part29_1
  isplitl [Hk0_part28_2]; · iexact Hk0_part28_2
  isplitl [Hk0_part29_2]; · iexact Hk0_part29_2
  isplitl [Hk0_part29_3]; · iexact Hk0_part29_3
  isplitl [Hk0_part28_3]; · iexact Hk0_part28_3
  isplitl [Hk0_part28_4]; · iexact Hk0_part28_4
  isplitl [Hk0_part29_4]; · iexact Hk0_part29_4
  isplitl [Hk0_part29_5]; · iexists _; iexact Hk0_part29_5
  isplitl [Hk0_part29_6]
  · iexists Sv
    ihave HZ := (scores_zero P c arg13 Sv Sv) $$ Hk0_part29_6
    iexact HZ
  isplitl [HC]
  · iexists _
    isplitl [HC]; · iexact HC
    ipureintro
    exact rows_store P c arg8 Cv ho (Gen.k0_off88_inb t3) _ hfC (fun hp => by rw [p2, p5 hp, p6 hp, q7 hp]; exact hH.cache hp)
  · iexists _
    isplitl [HD]; · iexact HD
    ipureintro
    exact rows_store P c arg15 Ov ho (Gen.k0_off88_inb t3) _ hfD (fun hp => by rw [p1, p2, p3, p5 hp, p6 hp, q7 hp]; exact hH.out hp)

end
end Cert.Proof.Kernel
-- ==== Proof.Heads.lean ====
/- The loop over the twenty heads. -/
module

public import proofs.«01_k».proof.Proof.HeadT
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What holds for the queries `Q'` holds for the queries `Q`, when those are the same. -/
theorem HeadSpec.of {P : Prop} {c : Dev nD} {X : Memref sig .tc .hbm SX .bf16} {fX : Buf (Elt F) (X.view.loc (c : Thread nD τ))} {Y : Memref sig .tc .hbm SX .fp8e4m3} {fY : Buf (Elt F) (Y.view.loc (c : Thread nD τ))}
    {v584 : IVec S8x2048 32} {b lwv : BitVec 32} {Q Q' : Vec F S1x8x128 .bf16} {kn vn : Vec F S1x2x128 .bf16} {vs : Vec F S1x2x128 .f32} {h : ℕ}
    {Sv : ℕ → S8x2048.Idx → F .f32} {Mv : ℕ → FVec F S8x128 .f32} {Wv : ℕ → FVec F S8x128 .f32 × FVec F S8x128 .f32} {Cv Ov : Vec F S1x8x128 .f32}
    (e : P → Q = Q') (H : HeadSpec P c X fX Y fY v584 b lwv Q' kn vn vs h Sv Mv Wv Cv Ov) : HeadSpec P c X fX Y fY v584 b lwv Q kn vn vs h Sv Mv Wv Cv Ov := by
  by_cases hP : P
  · rw [e hP]; exact H
  · exact ⟨fun hp => absurd hp hP, fun _ hp => absurd hp hP, fun hp => absurd hp hP, fun hp => absurd hp hP, fun hp => absurd hp hP, fun hp => absurd hp hP⟩

theorem rows_none {e : EltTy} (P : Prop) (c : Dev nD) (M : Memref sig .tc .vmem S20x8x128 e) (Rv : ℕ → S1x8x128.Idx → Elt F e) (f : Buf (Elt F) (M.view.loc (c : Thread nD τ))) :
    ((M.view.loc (c : Thread nD τ) ↦[M.view.set]{fullShare} f) : sProp (MT nD τ sig Unit (Elt F) ℕ (Pipeline.UD sig nD τ) ℕ)) ⊢ RowsAt P c M Rv 0 := by
  unfold RowsAt
  iintro H
  iexists f
  isplitl [H]; · iexact H
  ipureintro
  exact fun _ z y h => absurd h (Nat.not_lt_zero _)

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))

attribute [local irreducible] ScoresAt Decode.Ring BlockStep KeyStep

/-- The eight queries of a head's words in row `a` of the argument. -/
abbrev xs (f1 : Buf (Elt F) (arg1.view.loc (c : Thread nD τ))) (o : Fin 2 → ℕ) (h : ∀ a, o a + S1x128.size a ≤ S2x10240.size a) : Vec F S1x128 .bf16 :=
  View.readAt (Elt F) arg1.view (Rect.unit (s := S2x10240) o S1x128.size h).toLoadRect f1

set_option maxHeartbeats 400000 in
include hP in
theorem run_part46 (v1_0 v1_1 v3_0 v3_1 : BitVec 32) (v557 v560 : FVec F S1x128 .f32) (v561 : Vec F S1x128 .bf16) (g : Buf (Elt F) (arg14.view.loc (c : Thread nD τ)))
    (h1 : (v1_0, v1_1) = posW c arg0 f0 12) (h3 : (v3_0, v3_1) = posW c arg0 f0 12)
    (Sv : ℕ → ℕ → S8x2048.Idx → F .f32) (Mv : ℕ → ℕ → FVec F S8x128 .f32) (Wv : ℕ → ℕ → FVec F S8x128 .f32 × FVec F S8x128 .f32) (Qv : ℕ → Vec F S1x8x128 .bf16) (Cv Ov : ℕ → S1x8x128.Idx → F .f32)
    (hQ : P → ∀ t3 : Fin k0_t3_loop.trips, rowQ c arg14 (arg14.view.writes (Elt F) g [⟨Rect.unit (s := S20x8x128) ![19, 0, 0] S1x8x128.size Gen.inb_S20x8x128_S1x8x128_19_0_0, Gen.k0_pay140 v557 v560 v561 (xs c arg1 f1 ![1, 9600] Gen.inb_S2x10240_S1x128_1_9600) (xs c arg1 f1 ![1, 9728] Gen.inb_S2x10240_S1x128_1_9728) (xs c arg1 f1 ![1, 9856] Gen.inb_S2x10240_S1x128_1_9856) (xs c arg1 f1 ![1, 9984] Gen.inb_S2x10240_S1x128_1_9984) (xs c arg1 f1 ![1, 10112] Gen.inb_S2x10240_S1x128_1_10112)⟩]) t3 = Qv t3.val)
    (hH : ∀ t3 : Fin k0_t3_loop.trips, HeadSpec P c arg5 fK arg6 fV (iota .tc S8x2048 32 [1] Gen.iota_S8x2048_d1_w32) (seqW (Scf.iv 0#32 1#32 t3.val)) (lw arg0 f0 (t3.val / 10)) (Qv t3.val) (rowKn c arg2 f2 t3) (rowVn c arg3 f3 t3) (rowVs c arg4 f4 t3) t3.val (Sv t3.val) (Mv t3.val) (Wv t3.val) (Cv t3.val) (Ov t3.val)) :
    iprop((arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (arg14.view.loc (c : Thread nD τ) ↦[arg14.view.set]{fullShare} g) ∗ RingK c arg0 arg5 arg11 arg16 f0 fK 0 12 ∗ RingV c arg0 arg6 arg12 arg17 f0 fV 0 12
        ∗ (∃ W, owes (c : Thread nD τ) 0 W) ∗ (∃ Sv, ScoresAt P c arg13 Sv 0) ∗ RowsAt P c arg8 Cv 0 ∗ RowsAt P c arg15 Ov 0)
      ⊢ wp Idealize.ShloMosaic.frame (wpE (defs₀ (F := F)) Variants.none (c : Thread nD τ) none) Set.univ
        (k0_part46 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 v1_0 v1_1 v3_0 v3_1 v557 v560 v561)
        (fun r => iprop(∃ f15 : Buf (Elt F) (arg15.view.loc (c : Thread nD τ)), ⌜r.1 = Gen.k0_pay144 (View.readAt (Elt F) arg15.view (Rect.unit (s := S20x8x128) ![0, 0, 0] S10x8x128.size Gen.inb_S20x8x128_S10x8x128_0_0_0).toLoadRect f15)
            ∧ (P → ∀ (z : S20x8x128.Idx) (y : S1x8x128.Idx), (z 0).val < 20 → (z 1).val = (y 1).val → (z 2).val = (y 2).val → arg15.view.read (Elt F) f15 z = Ov (z 0).val y)⌝
          ∗ (arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4) ∗ (∃ f14, (arg14.view.loc (c : Thread nD τ) ↦[arg14.view.set]{fullShare} f14)) ∗ RingK c arg0 arg5 arg11 arg16 f0 fK (start (hl arg0 f0) 20) (start (hl arg0 f0) 20 + 12) ∗ RingV c arg0 arg6 arg12 arg17 f0 fV (start (hl arg0 f0) 20) (start (hl arg0 f0) 20 + 12)
          ∗ (∃ W, owes (c : Thread nD τ) 0 W) ∗ (∃ Sv, ScoresAt P c arg13 Sv 0) ∗ RowsAt P c arg8 Cv 20 ∗ (arg15.view.loc (c : Thread nD τ) ↦[arg15.view.set]{fullShare} f15))) := by
  have e1 : v1_0 = (posW c arg0 f0 12).1 := congrArg Prod.fst h1
  have e2 : v1_1 = (posW c arg0 f0 12).2 := congrArg Prod.snd h1
  have e3 : v3_0 = (posW c arg0 f0 12).1 := congrArg Prod.fst h3
  have e4 : v3_1 = (posW c arg0 f0 12).2 := congrArg Prod.snd h3
  clear h1 h3
  subst e1 e2 e3 e4
  have hs0 : start (hl arg0 f0) 0 = 0 := rfl
  have hn : k0_t3_loop.trips = 20 := rfl
  generalize hf14 : arg14.view.writes (Elt F) g [⟨Rect.unit (s := S20x8x128) ![19, 0, 0] S1x8x128.size Gen.inb_S20x8x128_S1x8x128_19_0_0, Gen.k0_pay140 v557 v560 v561 (xs c arg1 f1 ![1, 9600] Gen.inb_S2x10240_S1x128_1_9600) (xs c arg1 f1 ![1, 9728] Gen.inb_S2x10240_S1x128_1_9728) (xs c arg1 f1 ![1, 9856] Gen.inb_S2x10240_S1x128_1_9856) (xs c arg1 f1 ![1, 9984] Gen.inb_S2x10240_S1x128_1_9984) (xs c arg1 f1 ![1, 10112] Gen.inb_S2x10240_S1x128_1_10112)⟩] = f14 at hQ
  have hstep : ∀ (k : Fin k0_t3_loop.trips) acc, _ := fun k acc => trip_t3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK fV P q f0 hP f2 f3 f4 f14 (posW c arg0 f0 12).1 (posW c arg0 f0 12).2 (posW c arg0 f0 12).1 (posW c arg0 f0 12).2 v557 v560 v561 (iota .tc S8x2048 32 [1] Gen.iota_S8x2048_d1_w32) k (Sv k.val) (Mv k.val) (Wv k.val) Cv Ov (HeadSpec.of (fun hp => hQ hp k) (hH k)) acc
  have hloop := fun {β : Type} {kk : _ → Prog (TpuEff nD τ sig (Elt F) Λ₀ .tc) β} {Q : β → sProp 𝕄} => Scf.wp_for_bind Idealize.ShloMosaic.frame (wpE (defs₀ (F := F)) Variants.none (c : Thread nD τ) none) Set.univ _ _ _ Gen.k0_t3_ok (0#32, 0#32, (posW c arg0 f0 12).1, (posW c arg0 f0 12).2, (posW c arg0 f0 12).1, (posW c arg0 f0 12).2)
    (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 (posW c arg0 f0 12).1 (posW c arg0 f0 12).2 (posW c arg0 f0 12).1 (posW c arg0 f0 12).2 v557 v560 v561 (iota .tc S8x2048 32 [1] Gen.iota_S8x2048_d1_w32))
    (InvT3 c arg0 arg2 arg3 arg4 arg5 arg6 arg8 arg11 arg12 arg13 arg14 arg15 arg16 arg17 fK fV P q f0 f2 f3 f4 f14 Cv Ov) hstep (β := β) (kk := kk) (Q := Q)
  iintro ⟨H0, H1, H2, H3, H4, H14, HRK, HRV, HO, HS, HC, HD⟩
  sl_exec
  rw [hf14]
  iapply hloop $$ [H0 H2 H3 H4 H14 HRK HRV HO HS HC HD]
  · isplitr
    · ipureintro
      rw [hs0, Nat.zero_add]
    isplitl [H0]; · iexact H0
    isplitl [H2]; · iexact H2
    isplitl [H3]; · iexact H3
    isplitl [H4]; · iexact H4
    isplitl [H14]; · iexact H14
    isplitl [HRK]; · iexact HRK
    isplitl [HRV]; · iexact HRV
    isplitl [HO]; · iexact HO
    isplitl [HS]; · iexact HS
    isplitl [HC]; · iexact HC
    iexact HD
  iintro %acc HI
  ihave HI := (inv_cast (fun k => InvT3 c arg0 arg2 arg3 arg4 arg5 arg6 arg8 arg11 arg12 arg13 arg14 arg15 arg16 arg17 fK fV P q f0 f2 f3 f4 f14 Cv Ov k acc) hn) $$ HI
  icases HI with ⟨-, H0, H2, H3, H4, H14, HRK, HRV, HO, HS, HC, HD⟩
  unfold RowsAt
  icases HD with ⟨%f15, HD, %hf15⟩
  obtain ⟨a1, a2, a3, a4, a5, a6⟩ := acc
  sl_exec
  sl_step
  iexists f15
  isplitr; · ipureintro; exact ⟨rfl, hf15⟩
  isplitl [H0]; · iexact H0
  isplitl [H1]; · iexact H1
  isplitl [H2]; · iexact H2
  isplitl [H3]; · iexact H3
  isplitl [H4]; · iexact H4
  isplitl [H14]; · iexists _; iexact H14
  isplitl [HRK]; · iexact HRK
  isplitl [HRV]; · iexact HRV
  isplitl [HO]; · iexact HO
  isplitl [HS]; · iexact HS
  isplitl [HC]; · iexact HC
  iexact HD

end
end Cert.Proof.Kernel
-- ==== Proof.QRows.lean ====
/- The queries' rows as the body stacks them: eight rows of 128 for each head. -/
module

public import proofs.«01_k».proof.Proof.Head
public import Idealize.ShloMosaic.Lib.Pointwise

@[expose] public section

set_option maxRecDepth 16384

noncomputable section

namespace Cert.Proof.Kernel

open Cert.Kernel Decode
open Idealize.ShloMosaic Idealize.ShloMosaic.TcCoe

variable {F : FTy → Type} [FloatOps F]

/-- Eight rows stacked. -/
def stack8 (x0 x1 x2 x3 x4 x5 x6 x7 : Vec F S1x128 .bf16) : FVec F S1x8x128 .bf16 :=
  shapeCast S1x8x128 (truncf .bf16 (concatenate S8x128 0
    [⟨S1x128, extf .f32 (shapeCast S1x128 x0 Gen.shapeCasts_S1x128_S1x128) Gen.bitsLt_bf16_f32⟩, ⟨S1x128, extf .f32 (shapeCast S1x128 x1 Gen.shapeCasts_S1x128_S1x128) Gen.bitsLt_bf16_f32⟩,
      ⟨S1x128, extf .f32 (shapeCast S1x128 x2 Gen.shapeCasts_S1x128_S1x128) Gen.bitsLt_bf16_f32⟩, ⟨S1x128, extf .f32 (shapeCast S1x128 x3 Gen.shapeCasts_S1x128_S1x128) Gen.bitsLt_bf16_f32⟩,
      ⟨S1x128, extf .f32 (shapeCast S1x128 x4 Gen.shapeCasts_S1x128_S1x128) Gen.bitsLt_bf16_f32⟩, ⟨S1x128, extf .f32 (shapeCast S1x128 x5 Gen.shapeCasts_S1x128_S1x128) Gen.bitsLt_bf16_f32⟩,
      ⟨S1x128, extf .f32 (shapeCast S1x128 x6 Gen.shapeCasts_S1x128_S1x128) Gen.bitsLt_bf16_f32⟩, ⟨S1x128, extf .f32 (shapeCast S1x128 x7 Gen.shapeCasts_S1x128_S1x128) Gen.bitsLt_bf16_f32⟩]
    Gen.concatenates_S1x128_S1x128_S1x128_S1x128_S1x128_S1x128_S1x128_S1x128_S8x128_d0) Gen.bitsLt_bf16_f32) Gen.shapeCasts_S8x128_S1x8x128

theorem stack8_at (h : ∀ x : F .bf16, FloatOps.truncf (F := F) .bf16 Gen.bitsLt_bf16_f32 (FloatOps.extf (F := F) .f32 Gen.bitsLt_bf16_f32 x) = x)
    (x0 x1 x2 x3 x4 x5 x6 x7 : Vec F S1x128 .bf16) (j : Fin 8) (d : Fin 128) : stack8 x0 x1 x2 x3 x4 x5 x6 x7 (ix3 0 j d) = (![x0, x1, x2, x3, x4, x5, x6, x7] j) (ix2 0 d) := by
  unfold stack8
  fin_cases j <;>
  · pointwise
    exact h _

section
variable (P : Prop) (hP : P → ∀ x : F .bf16, FloatOps.truncf (F := F) .bf16 Gen.bitsLt_bf16_f32 (FloatOps.extf (F := F) .f32 Gen.bitsLt_bf16_f32 x) = x)
variable (c : Dev nD) (arg1 : Memref sig .tc .vmem S2x10240 .bf16) (f1 : Buf (Elt F) (arg1.view.loc (c : Thread nD τ)))
variable (arg14 : Memref sig .tc .vmem S20x8x128 .bf16) (Qv : ℕ → Vec F S1x8x128 .bf16)

/-- Head `h`'s queries are its eight runs of 128 numbers in its sequence's row. -/
def QueryRows : Prop :=
  P → ∀ (h : ℕ) (z : S1x8x128.Idx) (x : S2x10240.Idx), h < 20 → (x 0).val = h / 10 → (x 1).val = 128 * (8 * (h % 10) + (z 1).val) + (z 2).val → Qv h z = arg1.view.read (Elt F) f1 x

/-- The run of 128 numbers at `o`. -/
abbrev run (o : Fin 2 → ℕ) (h : ∀ a, o a + S1x128.size a ≤ S2x10240.size a) : Vec F S1x128 .bf16 := View.readAt (Elt F) arg1.view (Rect.unit (s := S2x10240) o S1x128.size h).toLoadRect f1

theorem run_at (o : Fin 2 → ℕ) (h : ∀ a, o a + S1x128.size a ≤ S2x10240.size a) (d : Fin 128) (x : S2x10240.Idx) (x0 : (x 0).val = o 0) (x1 : (x 1).val = o 1 + d.val) :
    run c arg1 f1 o h (ix2 0 d) = arg1.view.read (Elt F) f1 x := by
  refine congrArg (arg1.view.read (Elt F) f1) (funext fun a => Fin.ext ?_)
  refine (Fin.forall_fin_succ.mpr ⟨?_, Fin.forall_fin_succ.mpr ⟨?_, fun x => x.elim0⟩⟩ : ∀ a : Fin 2, ((Rect.unit (s := S2x10240) o S1x128.size h).emb (ix2 0 d) a).val = (x a).val) a
  · show o 0 + 1 * 0 = (x 0).val; omega
  · show o 1 + 1 * d.val = (x 1).val; omega

include hP in
theorem stack_row (hQ : QueryRows P c arg1 f1 Qv) {n : ℕ} {o0 o1 o2 o3 o4 o5 o6 o7 : Fin 2 → ℕ} {h0 h1 h2 h3 h4 h5 h6 h7} (hn : n < 20)
    (e : ∀ i : Fin 8, (![o0, o1, o2, o3, o4, o5, o6, o7] i) 0 = n / 10 ∧ (![o0, o1, o2, o3, o4, o5, o6, o7] i) 1 = 128 * (8 * (n % 10) + i.val)) :
    P → stack8 (run c arg1 f1 o0 h0) (run c arg1 f1 o1 h1) (run c arg1 f1 o2 h2) (run c arg1 f1 o3 h3) (run c arg1 f1 o4 h4) (run c arg1 f1 o5 h5) (run c arg1 f1 o6 h6) (run c arg1 f1 o7 h7) = Qv n := by
  intro hp
  funext z
  obtain ⟨a, j, d, rfl⟩ : ∃ (a : Fin 1) (j : Fin 8) (d : Fin 128), z = ix3 a j d := ⟨_, _, _, eq_ix3 z⟩
  obtain rfl : a = 0 := Subsingleton.elim _ _
  rw [stack8_at (hP hp)]
  have hx := hQ hp n (ix3 0 j d) (ix2 ⟨n / 10, by omega⟩ ⟨128 * (8 * (n % 10) + j.val) + d.val, by omega⟩) hn rfl rfl
  rw [hx]
  have ej := e j
  fin_cases j <;> exact run_at c arg1 f1 _ _ _ _ ej.1.symm (congrArg (· + d.val) ej.2.symm)

/-- The row of head `n` written above the ones there are. -/
theorem row_write {n : ℕ} (hinb : ∀ x, (![n, 0, 0] : Fin 3 → ℕ) x + S1x8x128.size x ≤ S20x8x128.size x) (f : Buf (Elt F) (arg14.view.loc (c : Thread nD τ)))
    (L : List (View.Piece (Elt F) S20x8x128 .bf16)) (w : (Rect.unit (s := S20x8x128) ![n, 0, 0] S1x8x128.size hinb).shape.Idx → Elt F .bf16) (hw : P → w = Qv n)
    (hf : P → ∀ (z : S20x8x128.Idx) (y : S1x8x128.Idx), (z 0).val < n → (z 1).val = (y 1).val → (z 2).val = (y 2).val → arg14.view.read (Elt F) (arg14.view.writes (Elt F) f L) z = Qv (z 0).val y) :
    P → ∀ (z : S20x8x128.Idx) (y : S1x8x128.Idx), (z 0).val < n + 1 → (z 1).val = (y 1).val → (z 2).val = (y 2).val →
      arg14.view.read (Elt F) (arg14.view.writes (Elt F) f (⟨Rect.unit (s := S20x8x128) ![n, 0, 0] S1x8x128.size hinb, w⟩ :: L)) z = Qv (z 0).val y :=
  rows_store P c arg14 Qv rfl hinb w hf hw

/-- A head's row read back. -/
theorem row_read (f : Buf (Elt F) (arg14.view.loc (c : Thread nD τ)))
    (hf : P → ∀ (z : S20x8x128.Idx) (y : S1x8x128.Idx), (z 0).val < 20 → (z 1).val = (y 1).val → (z 2).val = (y 2).val → arg14.view.read (Elt F) f z = Qv (z 0).val y) :
    P → ∀ t3 : Fin k0_t3_loop.trips, rowQ c arg14 f t3 = Qv t3.val := by
  intro hp t3
  have ht : t3.val < 20 := t3.isLt
  funext y
  have hy : (y 0).val < 1 := (y 0).isLt
  have e : ∀ a, k0_off12 t3 a = (![t3.val, 0, 0] : Fin 3 → ℕ) a := fun a => congrFun (off88_eq t3) a
  have z0 : (((Rect.unit (s := S20x8x128) (k0_off12 t3) S1x8x128.size (Gen.k0_off12_inb t3)).emb y) 0).val = t3.val := by
    show k0_off12 t3 0 + 1 * (y 0).val = t3.val
    rw [e 0]; show t3.val + 1 * (y 0).val = t3.val; omega
  have h := hf hp ((Rect.unit (s := S20x8x128) (k0_off12 t3) S1x8x128.size (Gen.k0_off12_inb t3)).emb y) y (by omega)
    (by show k0_off12 t3 1 + 1 * (y 1).val = _; rw [e 1]; show 0 + 1 * (y 1).val = _; omega)
    (by show k0_off12 t3 2 + 1 * (y 2).val = _; rw [e 2]; show 0 + 1 * (y 2).val = _; omega)
  rw [z0] at h
  exact h

end

end Cert.Proof.Kernel
-- ==== Proof.Body.lean ====
/- The kernel's body: the first fetches, the loop over the heads, and the results written. -/
module

public import proofs.«01_k».proof.Proof.Heads
public import proofs.«01_k».proof.Proof.QRows
public import proofs.«01_k».proof.Proof.Gen.Kernel.Loops
public import Idealize.ShloMosaic.Lib.LoopRemainder
public import Idealize.ShloMosaic.Lib.Pipeline.Value

@[expose] public section

set_option maxRecDepth 16384

noncomputable section

namespace Cert.Proof.Kernel

open Cert.Kernel Decode
open Idealize.ShloMosaic Idealize.ShloMosaic.TcCoe Idealize.ShloMosaic.Tactic
open Idealize.ShloMosaic.Affine (IsInt addi muli subi divsi divsi_one)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .smem S2 .i32) (harg0 : arg0.IsWhole) (arg1 : Memref sig .tc .vmem S2x10240 .bf16) (harg1 : arg1.IsWhole) (arg2 : Memref sig .tc .vmem S10x2x128 .bf16) (harg2 : arg2.IsWhole) (arg3 : Memref sig .tc .vmem S10x2x128 .bf16) (harg3 : arg3.IsWhole) (arg4 : Memref sig .tc .vmem S10x2x128 .f32) (harg4 : arg4.IsWhole) (arg5 : Memref sig .tc .hbm S20x65536x128 .bf16) (harg5 : arg5.IsWhole) (arg6 : Memref sig .tc .hbm S20x65536x128 .fp8e4m3) (harg6 : arg6.IsWhole) (arg7 : Memref sig .tc .vmem S160x128 .bf16) (harg7 : arg7.IsWhole) (arg8 : Memref sig .tc .vmem S20x8x128 .f32) (harg8 : arg8.IsWhole) (arg9 : Memref sig .tc .vmem S160x128 .fp8e4m3) (harg9 : arg9.IsWhole) (arg10 : Memref sig .tc .vmem S2x128 .f32) (harg10 : arg10.IsWhole) (arg11 : Memref sig .tc .vmem S12x4096x128 .bf16) (harg11 : arg11.IsWhole) (arg12 : Memref sig .tc .vmem S12x4096x128 .fp8e4m3) (harg12 : arg12.IsWhole) (arg13 : Memref sig .tc .vmem S32x8x2048 .f32) (harg13 : arg13.IsWhole) (arg14 : Memref sig .tc .vmem S20x8x128 .bf16) (harg14 : arg14.IsWhole) (arg15 : Memref sig .tc .vmem S20x8x128 .f32) (harg15 : arg15.IsWhole) (arg16 : DmaSems sig S12) (arg17 : DmaSems sig S12)
variable (fK : Buf (Elt F) (arg5.view.loc (c : Thread nD τ)))

variable (fV : Buf (Elt F) (arg6.view.loc (c : Thread nD τ)))
variable (P : Prop)
variable (q : PosShare TreeShare) (f0 : Buf (Elt F) (arg0.view.loc (c : Thread nD τ)))

variable (hP : P → ∀ x : F .bf16, FloatOps.truncf (F := F) .bf16 Gen.bitsLt_bf16_f32 (FloatOps.extf (F := F) .f32 Gen.bitsLt_bf16_f32 x) = x)
variable (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ)))

/-- What the result's buffer holds once the accumulated rows are written to it. -/
def outWrites (c : Dev nD) (arg7 : Memref sig .tc .vmem S160x128 .bf16) (arg15 : Memref sig .tc .vmem S20x8x128 .f32)
    (f7 : Buf (Elt F) (arg7.view.loc (c : Thread nD τ))) (f15 : Buf (Elt F) (arg15.view.loc (c : Thread nD τ))) : Buf (Elt F) (arg7.view.loc (c : Thread nD τ)) :=
  arg7.view.writes (Elt F) f7
    [⟨Rect.unit (s := S160x128) ![80, 0] S80x128.size Gen.inb_S160x128_S80x128_80_0, Gen.k0_pay2 (Gen.k0_pay152 (arg15.view.readAt (Elt F) (Rect.unit (s := S20x8x128) ![10, 0, 0] S10x8x128.size Gen.inb_S20x8x128_S10x8x128_10_0_0).toLoadRect f15))⟩,
      ⟨Rect.unit (s := S160x128) ![0, 0] S80x128.size Gen.inb_S160x128_S80x128_0_0, Gen.k0_pay150 (Gen.k0_pay144 (arg15.view.readAt (Elt F) (Rect.unit (s := S20x8x128) ![0, 0, 0] S10x8x128.size Gen.inb_S20x8x128_S10x8x128_0_0_0).toLoadRect f15))⟩]

/-- A fact of a buffer's contents, the contents otherwise forgotten. -/
theorem known (Φ : Buf (Elt F) (arg14.view.loc (c : Thread nD τ)) → Prop) (g : Buf (Elt F) (arg14.view.loc (c : Thread nD τ))) (h : Φ g) :
    (arg14.view.loc (c : Thread nD τ) ↦[arg14.view.set]{fullShare} g : sProp 𝕄) ⊢ iprop(∃ g, ⌜Φ g⌝ ∗ (arg14.view.loc (c : Thread nD τ) ↦[arg14.view.set]{fullShare} g)) := by
  iintro H; iexists g
  isplitr; · ipureintro; exact h
  iexact H

attribute [local irreducible] ScoresAt Decode.Ring BlockStep KeyStep RowsAt

set_option maxHeartbeats 400000 in
include hP in
theorem run_body (Sv : ℕ → ℕ → S8x2048.Idx → F .f32) (Mv : ℕ → ℕ → FVec F S8x128 .f32) (Wv : ℕ → ℕ → FVec F S8x128 .f32 × FVec F S8x128 .f32) (Qv : ℕ → Vec F S1x8x128 .bf16) (Cv Ov : ℕ → S1x8x128.Idx → F .f32)
    (hQ : QueryRows P c arg1 f1 Qv)
    (hH : ∀ t3 : Fin k0_t3_loop.trips, HeadSpec P c arg5 fK arg6 fV (iota .tc S8x2048 32 [1] Gen.iota_S8x2048_d1_w32) (seqW (Scf.iv 0#32 1#32 t3.val)) (lw arg0 f0 (t3.val / 10)) (Qv t3.val) (rowKn c arg2 f2 t3) (rowVn c arg3 f3 t3) (rowVs c arg4 f4 t3) t3.val (Sv t3.val) (Mv t3.val) (Wv t3.val) (Cv t3.val) (Ov t3.val))
    (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (f14 : Buf (Elt F) (arg14.view.loc (c : Thread nD τ))) (f15 : Buf (Elt F) (arg15.view.loc (c : Thread nD τ))) :
    iprop((arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4)
        ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
        ∗ (∃ Sv, ScoresAt P c arg13 Sv 0) ∗ (arg14.view.loc (c : Thread nD τ) ↦[arg14.view.set]{fullShare} f14) ∗ (arg15.view.loc (c : Thread nD τ) ↦[arg15.view.set]{fullShare} f15)
        ∗ RingK c arg0 arg5 arg11 arg16 f0 fK 0 0 ∗ RingV c arg0 arg6 arg12 arg17 f0 fV 0 0 ∗ (∃ W, owes (c : Thread nD τ) 0 W))
      ⊢ wp Idealize.ShloMosaic.frame (wpE (defs₀ (F := F)) Variants.none (c : Thread nD τ) none) Set.univ
        (Gen.cc0_gqa_decode_skel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17)
        (fun _ => iprop(∃ (w : ℕ) (f15 : Buf (Elt F) (arg15.view.loc (c : Thread nD τ))),
          ⌜20 ≤ (pos (hl arg0 f0) w).1 ∧ (P → ∀ (z : S20x8x128.Idx) (y : S1x8x128.Idx), (z 0).val < 20 → (z 1).val = (y 1).val → (z 2).val = (y 2).val → arg15.view.read (Elt F) f15 z = Ov (z 0).val y)⌝
          ∗ (arg0.view.loc (c : Thread nD τ) ↦[arg0.view.set]{q} f0) ∗ (arg1.view.loc (c : Thread nD τ) ↦[arg1.view.set]{q} f1) ∗ (arg2.view.loc (c : Thread nD τ) ↦[arg2.view.set]{q} f2) ∗ (arg3.view.loc (c : Thread nD τ) ↦[arg3.view.set]{q} f3) ∗ (arg4.view.loc (c : Thread nD τ) ↦[arg4.view.set]{q} f4)
          ∗ (arg7.view.loc (c : Thread nD τ) ↦[arg7.view.set]{fullShare} outWrites c arg7 arg15 f7 f15)
          ∗ RowsAt P c arg8 Cv 20 ∗ (∃ f, arg9.view.loc (c : Thread nD τ) ↦[arg9.view.set]{fullShare} f) ∗ (∃ f, arg10.view.loc (c : Thread nD τ) ↦[arg10.view.set]{fullShare} f)
          ∗ (∃ Sv, ScoresAt P c arg13 Sv 0) ∗ (∃ f, arg14.view.loc (c : Thread nD τ) ↦[arg14.view.set]{fullShare} f) ∗ (arg15.view.loc (c : Thread nD τ) ↦[arg15.view.set]{fullShare} f15)
          ∗ RingK c arg0 arg5 arg11 arg16 f0 fK w (w + 12) ∗ RingV c arg0 arg6 arg12 arg17 f0 fV w (w + 12) ∗ (∃ W, owes (c : Thread nD τ) 0 W))) := by
  unfold Gen.cc0_gqa_decode_skel
  iintro ⟨H0, H1, H2, H3, H4, H7, H8, H9, H10, HS, H14, H15, HRK, HRV, ⟨%W, HO⟩⟩
  icases HS with ⟨%Sv0, HS⟩
  set_option sl_exec.stopBefore "k0_part46" in sl_exec
  have hn : Scf.trips k0_t1_loop.lb k0_t1_loop.ub k0_t1_loop.st = 12 := rfl
  have hn' : Scf.trips k0_t2_loop.lb k0_t2_loop.ub k0_t2_loop.st = 12 := rfl
  ihave H14 := (known c arg14 (fun g => P → ∀ t3 : Fin k0_t3_loop.trips, rowQ c arg14 (arg14.view.writes (Elt F) g [⟨Rect.unit (s := S20x8x128) ![19, 0, 0] S1x8x128.size Gen.inb_S20x8x128_S1x8x128_19_0_0, Gen.k0_pay140 (run_body.sl.r_53 c arg1 f1) (run_body.sl.r_54 c arg1 f1) (run_body.sl.r_55 c arg1 f1) (xs c arg1 f1 ![1, 9600] Gen.inb_S2x10240_S1x128_1_9600) (xs c arg1 f1 ![1, 9728] Gen.inb_S2x10240_S1x128_1_9728) (xs c arg1 f1 ![1, 9856] Gen.inb_S2x10240_S1x128_1_9856) (xs c arg1 f1 ![1, 9984] Gen.inb_S2x10240_S1x128_1_9984) (xs c arg1 f1 ![1, 10112] Gen.inb_S2x10240_S1x128_1_10112)⟩]) t3 = Qv t3.val) _ (by
      refine row_read P c arg14 Qv _ (row_write P c arg14 Qv (n := 19) _ _ [] _ (stack_row P hP c arg1 f1 Qv hQ (by decide) (by decide)) ?_)
      rw [View.writes_nil]
      iterate 19 refine row_write P c arg14 Qv _ _ _ _ (stack_row P hP c arg1 f1 Qv hQ (by decide) (by decide)) ?_
      exact fun _ z _ h => absurd h (Nat.not_lt_zero _))) $$ H14
  icases H14 with ⟨%g, %hg, H14⟩
  have hcut := run_part46 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg17 fK fV P q f0 hP f1 f2 f3 f4
    (BitVec.ofNat 32 (pos (hl arg0 f0) (Scf.trips k0_t1_loop.lb k0_t1_loop.ub k0_t1_loop.st)).1)
    (BitVec.ofNat 32 (pos (hl arg0 f0) (Scf.trips k0_t1_loop.lb k0_t1_loop.ub k0_t1_loop.st)).2)
    (BitVec.ofNat 32 (pos (hl arg0 f0) (Scf.trips k0_t2_loop.lb k0_t2_loop.ub k0_t2_loop.st)).1)
    (BitVec.ofNat 32 (pos (hl arg0 f0) (Scf.trips k0_t2_loop.lb k0_t2_loop.ub k0_t2_loop.st)).2)
    (run_body.sl.r_53 c arg1 f1) (run_body.sl.r_54 c arg1 f1) (run_body.sl.r_55 c arg1 f1) g rfl rfl Sv Mv Wv Qv Cv Ov hg hH
  ihave H8 := (rows_none P c arg8 Cv f8) $$ H8
  ihave H15 := (rows_none P c arg15 Ov f15) $$ H15
  ihave HRK := (inv_cast (fun n => RingK c arg0 arg5 arg11 arg16 f0 fK 0 n) hn) $$ HRK
  ihave HRV := (inv_cast (fun n => RingV c arg0 arg6 arg12 arg17 f0 fV 0 n) hn') $$ HRV
  sl_exec
  obtain ⟨e588, hO⟩ := hk0_part46_0
  have e588 : v588 = _ := e588
  subst e588
  sl_step
  iexists _, f15k0_part46_0
  isplitr
  · ipureintro
    exact ⟨by rw [pos_start (hl arg0 f0) (Nat.le_refl 20)], hO⟩
  isplitl [Hk0_part46_1]; · iexact Hk0_part46_1
  isplitl [Hk0_part46_2]; · iexact Hk0_part46_2
  isplitl [Hk0_part46_3]; · iexact Hk0_part46_3
  isplitl [Hk0_part46_4]; · iexact Hk0_part46_4
  isplitl [Hk0_part46_5]; · iexact Hk0_part46_5
  isplitl [H7]; · iexact H7
  isplitl [Hk0_part46_11]; · iexact Hk0_part46_11
  isplitl [H9]; · iexists _; iexact H9
  isplitl [H10]; · iexists _; iexact H10
  isplitl [Hk0_part46_10]; · iexists _; iexact Hk0_part46_10
  isplitl [Hk0_part46_6]; · iexists _; iexact Hk0_part46_6
  isplitl [Hk0_part46_12]; · iexact Hk0_part46_12
  isplitl [Hk0_part46_7]; · iexact Hk0_part46_7
  isplitl [Hk0_part46_8]; · iexact Hk0_part46_8
  iexists _; iexact Hk0_part46_9

end
end Cert.Proof.Kernel
-- ==== Proof.Launch.lean ====
/- The launch: the body on the staged operands, the scratch and the arrays in HBM. -/
module

public import proofs.«01_k».proof.Proof.Body
public import proofs.«01_k».proof.Proof.Slots
public import proofs.«01_k».proof.Proof.Gen.Kernel.Frame

@[expose] public section

set_option maxRecDepth 16384

noncomputable section

namespace Cert.Proof.Kernel

open Cert.Kernel Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The operands -/

abbrev st0 (t : Fin cfg0.N) : Memref sig .tc .smem S2 .i32 := win0_0.stage (cfg0.slots t 0)
abbrev st1 (t : Fin cfg0.N) : Memref sig .tc .vmem S2x10240 .bf16 := win0_1.stage (cfg0.slots t 1)
abbrev st2 (t : Fin cfg0.N) : Memref sig .tc .vmem S10x2x128 .bf16 := win0_2.stage (cfg0.slots t 2)
abbrev st3 (t : Fin cfg0.N) : Memref sig .tc .vmem S10x2x128 .bf16 := win0_3.stage (cfg0.slots t 3)
abbrev st4 (t : Fin cfg0.N) : Memref sig .tc .vmem S10x2x128 .f32 := win0_4.stage (cfg0.slots t 4)
abbrev st5 (t : Fin cfg0.N) : Memref sig .tc .vmem S160x128 .bf16 := win0_5.stage (cfg0.slots t 5)
abbrev st6 (t : Fin cfg0.N) : Memref sig .tc .vmem S20x8x128 .f32 := win0_6.stage (cfg0.slots t 6)
abbrev st7 (t : Fin cfg0.N) : Memref sig .tc .vmem S160x128 .fp8e4m3 := win0_7.stage (cfg0.slots t 7)
abbrev st8 (t : Fin cfg0.N) : Memref sig .tc .vmem S2x128 .f32 := win0_8.stage (cfg0.slots t 8)
abbrev mK : Memref sig .tc .hbm SX .bf16 := Memref.whole main_v1
abbrev mV : Memref sig .tc .hbm SX .fp8e4m3 := Memref.whole main_v3
abbrev kbuf : Memref sig .tc .vmem SB .bf16 := Memref.whole cc0_scratch0
abbrev vbuf : Memref sig .tc .vmem SB .fp8e4m3 := Memref.whole cc0_scratch1
abbrev sbuf : Memref sig .tc .vmem S32x8x2048 .f32 := Memref.whole cc0_scratch2
abbrev qbuf : Memref sig .tc .vmem S20x8x128 .bf16 := Memref.whole cc0_scratch3
abbrev obuf : Memref sig .tc .vmem S20x8x128 .f32 := Memref.whole cc0_scratch4

/-- The body's own cells: the keys' twelve and the values' twelve. -/
def osem0 : Fin 12 ⊕ Fin 12 → SemLoc sig
  | .inl s => SemLoc.dma (semOf cc0_scratch5 s)
  | .inr s => SemLoc.dma (semOf cc0_scratch6 s)
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep Finset.univ (fun s : Fin 12 => (semVal ((c : Thread nD τ), SemLoc.dma (semOf cc0_scratch5 s)) 0 : sProp 𝕄))
          ∗ bigSep Finset.univ (fun s : Fin 12 => (semVal ((c : Thread nD τ), SemLoc.dma (semOf cc0_scratch6 s)) 0 : sProp 𝕄))) := by
  unfold Pipeline.ownSems0
  rw [bigSep_univ_sum]; rfl

/-- The arrays the body copies from itself. -/
def H0 : Finset (Ref sig .tc) := {main_v1, main_v3}
theorem H0_sub : H0 ⊆ Pipeline.restRefs sig spec0 := by decide
theorem hbmPts0_eq (c : Dev nD) :
    (bigSep H0 (fun b => ((c : Thread nD τ).loc b) ↦{fullShare} Gen.V m c b) : sProp 𝕄)
      = iprop((mK.view.loc (c : Thread nD τ) ↦{fullShare} Gen.V m c main_v1) ∗ (mV.view.loc (c : Thread nD τ) ↦{fullShare} Gen.V m c main_v3)) := by
  rw [BI.bigSep_eq_bigSepL_of_eq [main_v1, main_v3] (by decide) (by decide)]; rfl

theorem whole_set {sp : Space} {s : Shape} {e : EltTy} {M : Memref sig .tc sp s e} (h : M.view.set = Finset.univ) (c : Dev nD) (f : Buf (Elt F) (M.view.loc (c : Thread nD τ))) :
    (M.view.loc (c : Thread nD τ) ↦{fullShare} f : sProp 𝕄) = (M.view.loc (c : Thread nD τ) ↦[M.view.set]{fullShare} f) := by
  rw [h]
theorem set_kbuf : kbuf.view.set = Finset.univ := View.set_whole _
theorem set_vbuf : vbuf.view.set = Finset.univ := View.set_whole _
theorem set_sbuf : sbuf.view.set = Finset.univ := View.set_whole _
theorem set_qbuf : qbuf.view.set = Finset.univ := View.set_whole _
theorem set_obuf : obuf.view.set = Finset.univ := View.set_whole _

theorem hmain : Pipeline.HMain (Ix := Unit) (Name := ℕ) (U := Pipeline.UD sig nD τ) (Lvl := ℕ) cfgs 0 defs₀ Variants.none m (main (F := F)) (Gen.V m) := by
  set_option maxHeartbeats 800000 in
  exact Pipeline.hmain_prefix cfgs 0 defs₀ Variants.none m main Gen.hostOps0 Gen.hostOps0_sub Gen.hostOps0_fresh Gen.main_chain

theorem scores_none (P : Prop) (c : Dev nD) (f : Buf (Elt F) (sbuf.view.loc (c : Thread nD τ))) :
    (sbuf.view.loc (c : Thread nD τ) ↦{fullShare} f : sProp 𝕄) ⊢ iprop(∃ Sv, ScoresAt P c sbuf Sv 0) := by
  rw [whole_set set_sbuf]
  unfold ScoresAt
  iintro H; iexists (fun _ _ => FloatOps.ofBits .f32 0#32), f
  isplitl [H]; · iexact H
  ipureintro; exact fun _ z y h => absurd h (Nat.not_lt_zero _)
theorem scores_some (P : Prop) (c : Dev nD) (M : Memref sig .tc .vmem S32x8x2048 .f32) (hM : M.view.set = Finset.univ) :
    iprop(∃ Sv, ScoresAt P c M Sv 0 : sProp 𝕄) ⊢ iprop(∃ f, M.view.loc (c : Thread nD τ) ↦{fullShare} f) := by
  unfold ScoresAt
  iintro ⟨%Sv, %f, H, %_⟩; iexists f
  iapply (Entails.of_eq (whole_set hM c f).symm) $$ H
theorem rows_some {e : EltTy} (P : Prop) (c : Dev nD) (M : Memref sig .tc .vmem S20x8x128 e) (Rv : ℕ → S1x8x128.Idx → Elt F e) (n : ℕ) :
    (RowsAt P c M Rv n : sProp 𝕄) ⊢ iprop(∃ f, (M.view.loc (c : Thread nD τ) ↦[M.view.set]{fullShare} f)
      ∗ ⌜P → ∀ (z : S20x8x128.Idx) (y : S1x8x128.Idx), (z 0).val < n → (z 1).val = (y 1).val → (z 2).val = (y 2).val → M.view.read (Elt F) f z = Rv (z 0).val y⌝) := by
  unfold RowsAt
  iintro H; iexact H

attribute [local irreducible] Decode.Ring RowsAt ScoresAt

section
variable (P : Prop) (hP : P → ∀ x : F .bf16, FloatOps.truncf (F := F) .bf16 Gen.bitsLt_bf16_f32 (FloatOps.extf (F := F) .f32 Gen.bitsLt_bf16_f32 x) = x)
variable (c : Dev nD) (t : Fin cfg0.N)
variable (Sv : ℕ → ℕ → S8x2048.Idx → F .f32) (Mv : ℕ → ℕ → FVec F S8x128 .f32) (Wv : ℕ → ℕ → FVec F S8x128 .f32 × FVec F S8x128 .f32) (Qv : ℕ → Vec F S1x8x128 .bf16) (Cv Ov : ℕ → S1x8x128.Idx → F .f32)
variable (hQ : ∀ f1 : Buf (Elt F) ((st1 t).view.loc (c : Thread nD τ)), (st1 t).view.read (Elt F) f1 = Gen.iblk m c 1 t → QueryRows P c (st1 t) f1 Qv)
variable (hH : ∀ (f0 : Buf (Elt F) ((st0 t).view.loc (c : Thread nD τ))) (f2 : Buf (Elt F) ((st2 t).view.loc (c : Thread nD τ))) (f3 : Buf (Elt F) ((st3 t).view.loc (c : Thread nD τ))) (f4 : Buf (Elt F) ((st4 t).view.loc (c : Thread nD τ))),
      (st0 t).view.read (Elt F) f0 = Gen.iblk m c 0 t → (st2 t).view.read (Elt F) f2 = Gen.iblk m c 2 t → (st3 t).view.read (Elt F) f3 = Gen.iblk m c 3 t → (st4 t).view.read (Elt F) f4 = Gen.iblk m c 4 t →
      ∀ t3 : Fin k0_t3_loop.trips, HeadSpec P c mK (Gen.V m c main_v1) mV (Gen.V m c main_v3) (iota .tc S8x2048 32 [1] Gen.iota_S8x2048_d1_w32) (seqW (Scf.iv 0#32 1#32 t3.val)) (lw (st0 t) f0 (t3.val / 10)) (Qv t3.val)
        (View.readAt (Elt F) (st2 t).view (Rect.unit (s := S10x2x128) (k0_off51 t3) S1x2x128.size (Gen.k0_off51_inb t3)).toLoadRect f2)
        (View.readAt (Elt F) (st3 t).view (Rect.unit (s := S10x2x128) (k0_off51 t3) S1x2x128.size (Gen.k0_off51_inb t3)).toLoadRect f3)
        (View.readAt (Elt F) (st4 t).view (Rect.unit (s := S10x2x128) (k0_off51 t3) S1x2x128.size (Gen.k0_off51_inb t3)).toLoadRect f4)
        t3.val (Sv t3.val) (Mv t3.val) (Wv t3.val) (Cv t3.val) (Ov t3.val))

include hP hQ hH in
theorem body_run :
    iprop(Pipeline.ΦD osem0 spec0 H0 (Gen.V m) c ∗ (∃ W, owes (c : Thread nD τ) 0 W)
        ∗ owns (c : Thread nD τ) (st0 t) fullShare (Gen.iblk m c 0 t) ∗ owns (c : Thread nD τ) (st1 t) fullShare (Gen.iblk m c 1 t) ∗ owns (c : Thread nD τ) (st2 t) fullShare (Gen.iblk m c 2 t)
        ∗ owns (c : Thread nD τ) (st3 t) fullShare (Gen.iblk m c 3 t) ∗ owns (c : Thread nD τ) (st4 t) fullShare (Gen.iblk m c 4 t)
        ∗ (∃ X, owns (c : Thread nD τ) (st5 t) fullShare X) ∗ (∃ X, owns (c : Thread nD τ) (st6 t) fullShare X) ∗ (∃ X, owns (c : Thread nD τ) (st7 t) fullShare X) ∗ (∃ X, owns (c : Thread nD τ) (st8 t) fullShare X))
      ⊢ wp Idealize.ShloMosaic.frame (wpE (defs₀ (F := F)) Variants.none (c : Thread nD τ) none) Set.univ (Gen.bodyAt0 t) (fun _ =>
        iprop(Pipeline.ΦD osem0 spec0 H0 (Gen.V m) c ∗ (∃ W, owes (c : Thread nD τ) 0 W)
        ∗ owns (c : Thread nD τ) (st0 t) fullShare (Gen.iblk m c 0 t) ∗ owns (c : Thread nD τ) (st1 t) fullShare (Gen.iblk m c 1 t) ∗ owns (c : Thread nD τ) (st2 t) fullShare (Gen.iblk m c 2 t)
        ∗ owns (c : Thread nD τ) (st3 t) fullShare (Gen.iblk m c 3 t) ∗ owns (c : Thread nD τ) (st4 t) fullShare (Gen.iblk m c 4 t)
        ∗ (∃ X, ⌜P → ∃ (f7 : Buf (Elt F) ((st5 t).view.loc (c : Thread nD τ))) (f15 : Buf (Elt F) (obuf.view.loc (c : Thread nD τ))),
            (∀ (z : S20x8x128.Idx) (y : S1x8x128.Idx), (z 0).val < 20 → (z 1).val = (y 1).val → (z 2).val = (y 2).val → obuf.view.read (Elt F) f15 z = Ov (z 0).val y)
              ∧ X = (st5 t).view.read (Elt F) (outWrites c (st5 t) obuf f7 f15)⌝ ∗ owns (c : Thread nD τ) (st5 t) fullShare X)
        ∗ (∃ X, ⌜P → ∀ (z : S20x8x128.Idx) (y : S1x8x128.Idx), (z 0).val < 20 → (z 1).val = (y 1).val → (z 2).val = (y 2).val → X z = Cv (z 0).val y⌝ ∗ owns (c : Thread nD τ) (st6 t) fullShare X)
        ∗ (∃ X, owns (c : Thread nD τ) (st7 t) fullShare X) ∗ (∃ X, owns (c : Thread nD τ) (st8 t) fullShare X))) := by
  unfold Gen.bodyAt0
  rw [Gen.cc0_gqa_decode_eq_skeleton]
  rw [Pipeline.ΦD_eq, Gen.scopedRest0_eq, ownSems00_eq, hbmPts0_eq]
  unfold owns
  iintro ⟨⟨⟨⟨%fk, HK⟩, ⟨%fv, HV⟩, ⟨%fs, HS⟩, ⟨%fq, HQ⟩, ⟨%fo, HO⟩⟩, Hg, ⟨HcK, HcV⟩, ⟨HXK, HXV⟩⟩, HW, ⟨%f0, %e0, H0⟩, ⟨%f1, %e1, H1⟩, ⟨%f2, %e2, H2⟩, ⟨%f3, %e3, H3⟩, ⟨%f4, %e4, H4⟩,
    ⟨%d5, %f5, -, H5⟩, ⟨%d6, %f6, -, H6⟩, ⟨%d7, %f7, -, H7⟩, ⟨%d8, %f8, -, H8⟩⟩
  ihave HRK := (ring_split (c : Thread nD τ) kbuf mK (semOf cc0_scratch5) (Gen.V m c main_v1) set_kbuf fk) $$ [HcK HK HXK]
  · isplitl [HcK]; · iexact HcK
    isplitl [HK]; · iexact HK
    iexact HXK
  icases HRK with ⟨HDK, HRK⟩
  ihave HRV := (ring_split (c : Thread nD τ) vbuf mV (semOf cc0_scratch6) (Gen.V m c main_v3) set_vbuf fv) $$ [HcV HV HXV]
  · isplitl [HcV]; · iexact HcV
    isplitl [HV]; · iexact HV
    iexact HXV
  icases HRV with ⟨HDV, HRV⟩
  ihave HRK := (Entails.of_eq (ring_start (c : Thread nD τ) kbuf mK (semOf cc0_scratch5) (hl (st0 t) f0) (Gen.V m c main_v1)).symm) $$ HRK
  ihave HRV := (Entails.of_eq (ring_start (c : Thread nD τ) vbuf mV (semOf cc0_scratch6) (hl (st0 t) f0) (Gen.V m c main_v3)).symm) $$ HRV
  ihave HS := (scores_none P c fs) $$ HS
  ihave HQ := (Entails.of_eq (whole_set set_qbuf c fq)) $$ HQ
  ihave HO := (Entails.of_eq (whole_set set_obuf c fo)) $$ HO
  have hrun := run_body c (st0 t) (Gen.hstage0_0 0) (st1 t) (Gen.hstage0_1 0) (st2 t) (Gen.hstage0_2 0) (st3 t) (Gen.hstage0_3 0) (st4 t) (Gen.hstage0_4 0) mK (Memref.isWhole_whole _) mV (Memref.isWhole_whole _)
    (st5 t) (Gen.hstage0_5 0) (st6 t) (Gen.hstage0_6 0) (st7 t) (Gen.hstage0_7 0) (st8 t) (Gen.hstage0_8 0) kbuf (Memref.isWhole_whole _) vbuf (Memref.isWhole_whole _) sbuf (Memref.isWhole_whole _) qbuf (Memref.isWhole_whole _) obuf (Memref.isWhole_whole _)
    cc0_scratch5 cc0_scratch6 (Gen.V m c main_v1) (Gen.V m c main_v3) P fullShare f0 hP f1 f2 f3 f4 Sv Mv Wv Qv Cv Ov (hQ f1 e1) (hH f0 f2 f3 f4 e0 e2 e3 e4) f5 f6 f7 f8 fq fo
  iapply (wp_wand_r Idealize.ShloMosaic.frame (wpE (defs₀ (F := F)) Variants.none (c : Thread nD τ) none) Set.univ)
  isplitl [HW H0 H1 H2 H3 H4 H5 H6 H7 H8 HS HQ HO HRK HRV]
  · iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HQ]; · iexact HQ
    isplitl [HO]; · iexact HO
    isplitl [HRK]; · iexact HRK
    isplitl [HRV]; · iexact HRV
    iexact HW
  iintro %_ ⟨%w, %f15, ⟨%hw, %hO⟩, H0, H1, H2, H3, H4, H7, H8, ⟨%g9, H9⟩, ⟨%g10, H10⟩, HS, ⟨%fq', HQ⟩, HO, HRK, HRV, HW⟩
  ihave HRK := (Entails.of_eq (ring_end (c : Thread nD τ) kbuf mK (semOf cc0_scratch5) (hl (st0 t) f0) (Gen.V m c main_v1) hw)) $$ HRK
  ihave HRV := (Entails.of_eq (ring_end (c : Thread nD τ) vbuf mV (semOf cc0_scratch6) (hl (st0 t) f0) (Gen.V m c main_v3) hw)) $$ HRV
  ihave HRK := (ring_join (c : Thread nD τ) kbuf mK (semOf cc0_scratch5) (Gen.V m c main_v1) set_kbuf fk) $$ [HDK HRK]
  · isplitl [HDK] <;> iassumption
  icases HRK with ⟨HcK, HK, HXK⟩
  ihave HRV := (ring_join (c : Thread nD τ) vbuf mV (semOf cc0_scratch6) (Gen.V m c main_v3) set_vbuf fv) $$ [HDV HRV]
  · isplitl [HDV] <;> iassumption
  icases HRV with ⟨HcV, HV, HXV⟩
  ihave HS := (scores_some P c sbuf set_sbuf) $$ HS
  ihave HQ := (Entails.of_eq (whole_set set_qbuf c fq').symm) $$ HQ
  ihave HO := (Entails.of_eq (whole_set set_obuf c f15).symm) $$ HO
  ihave H8 := (rows_some P c (st6 t) Cv 20) $$ H8
  icases H8 with ⟨%f8', H8, %hC⟩
  isplitl [HcK HK HXK HcV HV HXV HS HQ HO Hg]
  · isplitl [HK HV HS HQ HO]
    · isplitl [HK]; · iexact HK
      isplitl [HV]; · iexact HV
      isplitl [HS]; · iexact HS
      isplitl [HQ]; · iexists _; iexact HQ
      iexists _; iexact HO
    isplitl [Hg]; · iexact Hg
    isplitl [HcK HcV]
    · isplitl [HcK]; · iexact HcK
      iexact HcV
    isplitl [HXK]; · iexact HXK
    iexact HXV
  isplitl [HW]; · iexact HW
  isplitl [H0]; · iexists f0; isplitr; (ipureintro; exact e0); iexact H0
  isplitl [H1]; · iexists f1; isplitr; (ipureintro; exact e1); iexact H1
  isplitl [H2]; · iexists f2; isplitr; (ipureintro; exact e2); iexact H2
  isplitl [H3]; · iexists f3; isplitr; (ipureintro; exact e3); iexact H3
  isplitl [H4]; · iexists f4; isplitr; (ipureintro; exact e4); iexact H4
  isplitl [H7]
  · iexists _; isplitr; · (ipureintro; exact fun hp => ⟨f5, f15, hO hp, rfl⟩)
    iexists _; isplitr; · (ipureintro; rfl)
    iexact H7
  isplitl [H8]
  · iexists _; isplitr; · (ipureintro; exact hC)
    iexists _; isplitr; · (ipureintro; rfl)
    iexact H8
  isplitl [H9]
  · iexists (st7 t).view.read (Elt F) g9, g9; isplitr; (ipureintro; rfl); iexact H9
  iexists (st8 t).view.read (Elt F) g10, g10; isplitr; · (ipureintro; rfl)
  iexact H10

end

end Cert.Proof.Kernel
-- ==== Proof.Run.lean ====
/- The run of the whole program, the results the body leaves named or forgotten, and the frame. -/
module

public import proofs.«01_k».proof.Proof.Launch
public import proofs.«01_k».proof.Proof.Gen.Kernel.Frame

@[expose] public section

set_option maxRecDepth 16384

noncomputable section

namespace Cert.Proof.Kernel

open Cert.Kernel Decode
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (o5 : Dev nD → Vec F S160x128 .bf16) (o6 : Dev nD → Vec F S20x8x128 .f32)

/-- The proof data: the arrays as the region finds them, the inputs' buffers left in place, the first two results' at what they are said to hold. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => o5 c
    | ⟨6, _⟩ => o6 c
    | ⟨7, _⟩ => (st7 t).view.read (Elt F) (st7 t).view.junk
    | ⟨8, _⟩ => (st8 t).view.read (Elt F) (st8 t).view.junk
  Φ _ := Pipeline.ΦD osem0 spec0 H0 (Gen.V m) c
  q _ := fullShare
  owed _ := 0

theorem A_eq (c : Dev nD) (w : Fin cfg0.W) : (dats m o5 o6 0 c).A w = Gen.V m c (Pipeline.arrRef spec0 w) := by dsimp only [dats]
theorem after0 (c : Dev nD) (t : Fin cfg0.N) : (dats m o5 o6 0 c).after 0 t = Gen.iblk m c 0 t := by dsimp only [dats]
theorem after1 (c : Dev nD) (t : Fin cfg0.N) : (dats m o5 o6 0 c).after 1 t = Gen.iblk m c 1 t := by dsimp only [dats]
theorem after2 (c : Dev nD) (t : Fin cfg0.N) : (dats m o5 o6 0 c).after 2 t = Gen.iblk m c 2 t := by dsimp only [dats]
theorem after3 (c : Dev nD) (t : Fin cfg0.N) : (dats m o5 o6 0 c).after 3 t = Gen.iblk m c 3 t := by dsimp only [dats]
theorem after4 (c : Dev nD) (t : Fin cfg0.N) : (dats m o5 o6 0 c).after 4 t = Gen.iblk m c 4 t := by dsimp only [dats]
theorem after5 (c : Dev nD) (t : Fin cfg0.N) : (dats m o5 o6 0 c).after 5 t = o5 c := by dsimp only [dats]
theorem after6 (c : Dev nD) (t : Fin cfg0.N) : (dats m o5 o6 0 c).after 6 t = o6 c := by dsimp only [dats]
theorem before0 (c : Dev nD) (t : Fin cfg0.N) (d) : (dats m o5 o6 0 c).before 0 t d = Gen.iblk m c 0 t :=
  ((dats m o5 o6 0 c).before_in_eq_fetched 0 rfl (fun _ => rfl) (fun _ _ _ => rfl) (fun t => by rw [after0]; unfold Dat.blockOf Gen.iblk; rw [A_eq]; try rfl) t d).trans
    (by unfold Dat.fetched Dat.blockOf Gen.iblk; rw [A_eq]; try rfl)
theorem before1 (c : Dev nD) (t : Fin cfg0.N) (d) : (dats m o5 o6 0 c).before 1 t d = Gen.iblk m c 1 t :=
  ((dats m o5 o6 0 c).before_in_eq_fetched 1 rfl (fun _ => rfl) (fun _ _ _ => rfl) (fun t => by rw [after1]; unfold Dat.blockOf Gen.iblk; rw [A_eq]; try rfl) t d).trans
    (by unfold Dat.fetched Dat.blockOf Gen.iblk; rw [A_eq]; try rfl)
theorem before2 (c : Dev nD) (t : Fin cfg0.N) (d) : (dats m o5 o6 0 c).before 2 t d = Gen.iblk m c 2 t :=
  ((dats m o5 o6 0 c).before_in_eq_fetched 2 rfl (fun _ => rfl) (fun _ _ _ => rfl) (fun t => by rw [after2]; unfold Dat.blockOf Gen.iblk; rw [A_eq]; try rfl) t d).trans
    (by unfold Dat.fetched Dat.blockOf Gen.iblk; rw [A_eq]; try rfl)
theorem before3 (c : Dev nD) (t : Fin cfg0.N) (d) : (dats m o5 o6 0 c).before 3 t d = Gen.iblk m c 3 t :=
  ((dats m o5 o6 0 c).before_in_eq_fetched 3 rfl (fun _ => rfl) (fun _ _ _ => rfl) (fun t => by rw [after3]; unfold Dat.blockOf Gen.iblk; rw [A_eq]; try rfl) t d).trans
    (by unfold Dat.fetched Dat.blockOf Gen.iblk; rw [A_eq]; try rfl)
theorem before4 (c : Dev nD) (t : Fin cfg0.N) (d) : (dats m o5 o6 0 c).before 4 t d = Gen.iblk m c 4 t :=
  ((dats m o5 o6 0 c).before_in_eq_fetched 4 rfl (fun _ => rfl) (fun _ _ _ => rfl) (fun t => by rw [after4]; unfold Dat.blockOf Gen.iblk; rw [A_eq]; try rfl) t d).trans
    (by unfold Dat.fetched Dat.blockOf Gen.iblk; rw [A_eq]; try rfl)

theorem defs₀_row (t : Fin cfg0.N) : defs₀ (F := F) .tc cfg0.body (cfg0.bodyArgs t (cfg0.slots t)) = Gen.bodyAt0 t := by
  unfold defs₀; rw [Defs.onTc_tc]

/-- The four results' windows, which a frame forgets. -/
def fgtAll (w : Fin cfg0.W) : Bool := match w with
  | ⟨5, _⟩ => true | ⟨6, _⟩ => true | ⟨7, _⟩ => true | ⟨8, _⟩ => true | _ => false

/-- What a head leaves is nothing to be stated: nothing of a head's values is recorded. -/
theorem noSpec {c : Dev nD} {X : Memref sig .tc .hbm SX .bf16} {fX : Buf (Elt F) (X.view.loc (c : Thread nD τ))} {Y : Memref sig .tc .hbm SX .fp8e4m3} {fY : Buf (Elt F) (Y.view.loc (c : Thread nD τ))}
    {v584 : IVec S8x2048 32} {b lwv : BitVec 32} {Q : Vec F S1x8x128 .bf16} {kn vn : Vec F S1x2x128 .bf16} {vs : Vec F S1x2x128 .f32} {h : ℕ}
    {Sv : ℕ → S8x2048.Idx → F .f32} {Mv : ℕ → FVec F S8x128 .f32} {Wv : ℕ → FVec F S8x128 .f32 × FVec F S8x128 .f32} {Cv Ov : Vec F S1x8x128 .f32} :
    HeadSpec False c X fX Y fY v584 b lwv Q kn vn vs h Sv Mv Wv Cv Ov where
  m0 := False.elim
  key := fun _ hp => hp.elim
  w0 := False.elim
  val := False.elim
  cache := False.elim
  out := False.elim

theorem sound_frame (c : Dev nD) (t : Fin cfg0.N) :
    iprop((dats m o5 o6 0 c).Φ t.castSucc ∗ (dats m o5 o6 0 c).owesAt () t.castSucc
      ∗ (∃ d, owns (c : Thread nD τ) (st0 t) fullShare ((dats m o5 o6 0 c).before 0 t d)) ∗ (∃ d, owns (c : Thread nD τ) (st1 t) fullShare ((dats m o5 o6 0 c).before 1 t d))
      ∗ (∃ d, owns (c : Thread nD τ) (st2 t) fullShare ((dats m o5 o6 0 c).before 2 t d)) ∗ (∃ d, owns (c : Thread nD τ) (st3 t) fullShare ((dats m o5 o6 0 c).before 3 t d))
      ∗ (∃ d, owns (c : Thread nD τ) (st4 t) fullShare ((dats m o5 o6 0 c).before 4 t d))
      ∗ (∃ X, owns (c : Thread nD τ) (st5 t) fullShare X) ∗ (∃ X, owns (c : Thread nD τ) (st6 t) fullShare X) ∗ (∃ X, owns (c : Thread nD τ) (st7 t) fullShare X) ∗ (∃ X, owns (c : Thread nD τ) (st8 t) fullShare X))
      ⊢ wp Idealize.ShloMosaic.frame (wpE (defs₀ (F := F)) Variants.none (c : Thread nD τ) none) Set.univ (Gen.bodyAt0 t) (fun _ =>
        iprop((dats m o5 o6 0 c).Φ t.succ ∗ (dats m o5 o6 0 c).owesAt () t.succ
          ∗ owns (c : Thread nD τ) (st0 t) fullShare ((dats m o5 o6 0 c).after 0 t) ∗ owns (c : Thread nD τ) (st1 t) fullShare ((dats m o5 o6 0 c).after 1 t) ∗ owns (c : Thread nD τ) (st2 t) fullShare ((dats m o5 o6 0 c).after 2 t)
          ∗ owns (c : Thread nD τ) (st3 t) fullShare ((dats m o5 o6 0 c).after 3 t) ∗ owns (c : Thread nD τ) (st4 t) fullShare ((dats m o5 o6 0 c).after 4 t)
          ∗ (∃ X, owns (c : Thread nD τ) (st5 t) fullShare X) ∗ (∃ X, owns (c : Thread nD τ) (st6 t) fullShare X) ∗ (∃ X, owns (c : Thread nD τ) (st7 t) fullShare X) ∗ (∃ X, owns (c : Thread nD τ) (st8 t) fullShare X))) := by
  have hrun := body_run m False False.elim c t (fun _ _ _ => FloatOps.ofBits .f32 0#32) (fun _ _ _ => FloatOps.ofBits .f32 0#32) (fun _ _ => (fun _ => FloatOps.ofBits .f32 0#32, fun _ => FloatOps.ofBits .f32 0#32)) (fun _ _ => FloatOps.ofBits .bf16 0#16) (fun _ _ => FloatOps.ofBits .f32 0#32) (fun _ _ => FloatOps.ofBits .f32 0#32) (fun _ _ => False.elim)
    (fun _ _ _ _ _ _ _ _ _ => noSpec)
  rw [show (dats m o5 o6 0 c).Φ t.succ = Pipeline.ΦD osem0 spec0 H0 (Gen.V m) c from rfl, show (dats m o5 o6 0 c).Φ t.castSucc = Pipeline.ΦD osem0 spec0 H0 (Gen.V m) c from rfl, after0, after1, after2, after3, after4]
  unfold Dat.owesAt Pipeline.owesWithin
  rw [show (dats m o5 o6 0 c).owed t.castSucc = 0 from rfl, show (dats m o5 o6 0 c).owed t.succ = 0 from rfl]
  simp only [before0, before1, before2, before3, before4]
  iintro ⟨HΦ, ⟨%W, -, HW⟩, ⟨%d0, H0⟩, ⟨%d1, H1⟩, ⟨%d2, H2⟩, ⟨%d3, H3⟩, ⟨%d4, H4⟩, H5, H6, H7, H8⟩
  iapply (wp_wand_r Idealize.ShloMosaic.frame (wpE (defs₀ (F := F)) Variants.none (c : Thread nD τ) none) Set.univ)
  isplitl
  · iapply hrun
    isplitl [HΦ]; · iexact HΦ
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨HΦ, ⟨%W', HW⟩, H0, H1, H2, H3, H4, ⟨%X5, -, H5⟩, ⟨%X6, -, H6⟩, H7, H8⟩
  isplitl [HΦ]; · iexact HΦ
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexists X5; iexact H5
  isplitl [H6]; · iexists X6; iexact H6
  isplitl [H7]; · iexact H7
  iexact H8

theorem body_frame (c : Dev nD) : BodyObligationLoose (dats m o5 o6 0 c) (defs₀ (F := F)) Variants.none () Set.univ fgtAll := fun t => by
  rw [Gen.bigSep_W0, Gen.bigSep_W0, defs₀_row]
  exact triple_restated (sound_frame m o5 o6 c t) rfl .rfl fun _ => .rfl

set_option backward.isDefEq.respectTransparency.types false in
theorem run_frame : θ_run defs (onTc (τ := τ) (main (F := F))) (s₀ m ρ) (fun r => RDat.FramePost cfg0 (fun c => (dats m o5 o6 0 c).toRForget fgtAll) (Gen.V m) r ∧ r.2.sem = fun _ => 0) :=
  Pipeline.θ_run_frame_dma_forget (Q' := _) cfgs (dats m o5 o6) (0 : Fin 1) Gen.launch0 osem0 defs₀ Variants.none fgtAll ownSemFacts0 H0 H0_sub m ρ main
    (hbody := fun c => body_frame m o5 o6 c) (hshare := fun c => (dats m o5 o6 0 c).share_full fun _ => rfl)
    (howed := fun _ _ => rfl) (V := Gen.V m) (hmain := hmain m) (hA := A_eq m o5 o6)
    (hin := fun _ => .rfl) (hout := fun _ => .rfl)

theorem frame_of (fgt : Fin cfg0.W → Bool) (h0 : fgt 0 = false) (r) (h : RDat.FramePost cfg0 (fun c => (dats m o5 o6 0 c).toRForget fgt) (Gen.V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (Gen.V_main_arg0 m c),
    ((h c).2 main_arg1 (Pipeline.mem_restRefs_of main_arg1 (by decide) (by decide))).trans (Gen.V_main_arg1 m c),
    ((h c).2 main_arg2 (Pipeline.mem_restRefs_of main_arg2 (by decide) (by decide))).trans (Gen.V_main_arg2 m c),
    ((h c).2 main_arg3 (Pipeline.mem_restRefs_of main_arg3 (by decide) (by decide))).trans (Gen.V_main_arg3 m c),
    ((h c).2 main_arg4 (Pipeline.mem_restRefs_of main_arg4 (by decide) (by decide))).trans (Gen.V_main_arg4 m c),
    ((h c).2 main_arg5 (Pipeline.mem_restRefs_of main_arg5 (by decide) (by decide))).trans (Gen.V_main_arg5 m c),
    (((dats m o5 o6 0 c).toRForget_arrAt_iff h0 _ _).mp ((h c).1 0)).trans (((dats m o5 o6 0 c).arrAt_in 0 rfl _).trans ((A_eq m o5 o6 c 0).trans (Gen.V_main_arg6 m c)))⟩

/-- The program runs, its arguments end as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨frame_of m _ _ fgtAll rfl r h.1, h.2⟩)
    (run_frame m ρ (fun _ _ => FloatOps.ofBits .bf16 0#16) (fun _ _ => FloatOps.ofBits .f32 0#32))

end Cert.Proof.Kernel
-- ==== Proof.lean ====
/- The claims, put together: the two kernel programs' frames by the same run over the machine's
   floats and over the reals, the reference's frame by its generated run, and the agreement of the
   two programs' first two results over the reals. -/
module

public import proofs.«01_k».proof.Proof.Agree
public import proofs.«01_k».proof.Defs
public import proofs.«01_k».proof.Proof.Run
public import proofs.«01_k».proof.Proof.IRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame

@[expose] public section

theorem Cert.Proof.claim : Cert.Claim :=
  ⟨Cert.Kernel.Gen.facts, Cert.KernelIdeal.Gen.facts, Cert.ReferenceIdeal.Gen.facts,
    fun m ρ _ => Cert.Proof.Kernel.frame m ρ, fun m ρ _ => Cert.Proof.KernelIdeal.frame m ρ,
    fun m ρ _ => Cert.ReferenceIdeal.Gen.frame m ρ, trivial, Cert.Proof.agree⟩
